-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeReferenceIdeal (m : (ℓ : Loc Cert.DecodeReferenceIdeal.nD Cert.DecodeReferenceIdeal.τ Cert.DecodeReferenceIdeal.sig) → Buf (Elt Ideal) ℓ) : Prop :=
  True

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4)
      ∧ r.2.mem ((c.tc : Thread Cert.Decode.nD Cert.Decode.τ).loc Cert.Decode.main_arg5) = m ((c.tc : Thread Cert.Decode.nD Cert.Decode.τ).loc Cert.Decode.main_arg5)
      ∧ r.2.mem ((c.tc : Thread Cert.Decode.nD Cert.Decode.τ).loc Cert.Decode.main_arg6) = m ((c.tc : Thread Cert.Decode.nD Cert.Decode.τ).loc Cert.Decode.main_arg6)
      ∧ r.2.mem ((c.tc : Thread Cert.Decode.nD Cert.Decode.τ).loc Cert.Decode.main_arg7) = m ((c.tc : Thread Cert.Decode.nD Cert.Decode.τ).loc Cert.Decode.main_arg7))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
      ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3)
      ∧ r.2.mem ((c.tc : Thread Cert.DecodeReferenceIdeal.nD Cert.DecodeReferenceIdeal.τ).loc Cert.DecodeReferenceIdeal.main_arg4) = m ((c.tc : Thread Cert.DecodeReferenceIdeal.nD Cert.DecodeReferenceIdeal.τ).loc Cert.DecodeReferenceIdeal.main_arg4)
      ∧ r.2.mem ((c.tc : Thread Cert.DecodeReferenceIdeal.nD Cert.DecodeReferenceIdeal.τ).loc Cert.DecodeReferenceIdeal.main_arg5) = m ((c.tc : Thread Cert.DecodeReferenceIdeal.nD Cert.DecodeReferenceIdeal.τ).loc Cert.DecodeReferenceIdeal.main_arg5)
      ∧ r.2.mem ((c.tc : Thread Cert.DecodeReferenceIdeal.nD Cert.DecodeReferenceIdeal.τ).loc Cert.DecodeReferenceIdeal.main_arg6) = m ((c.tc : Thread Cert.DecodeReferenceIdeal.nD Cert.DecodeReferenceIdeal.τ).loc Cert.DecodeReferenceIdeal.main_arg6)
      ∧ r.2.mem ((c.tc : Thread Cert.DecodeReferenceIdeal.nD Cert.DecodeReferenceIdeal.τ).loc Cert.DecodeReferenceIdeal.main_arg7) = m ((c.tc : Thread Cert.DecodeReferenceIdeal.nD Cert.DecodeReferenceIdeal.τ).loc Cert.DecodeReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Decode_DecodeIdeal : Prop :=
  True

def algebraic_DecodeIdeal_DecodeReferenceIdeal [hDecodeIdeal : Cert.DecodeIdeal.Facts] [hDecodeReferenceIdeal : Cert.DecodeReferenceIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)
      ∧ m' ((c.tc : Thread Cert.DecodeReferenceIdeal.nD Cert.DecodeReferenceIdeal.τ).loc Cert.DecodeReferenceIdeal.main_arg1) = m ((c.tc : Thread Cert.DecodeIdeal.nD Cert.DecodeIdeal.τ).loc Cert.DecodeIdeal.main_arg1)
      ∧ m' ((c.tc : Thread Cert.DecodeReferenceIdeal.nD Cert.DecodeReferenceIdeal.τ).loc Cert.DecodeReferenceIdeal.main_arg2) = m ((c.tc : Thread Cert.DecodeIdeal.nD Cert.DecodeIdeal.τ).loc Cert.DecodeIdeal.main_arg2)
      ∧ m' ((c.tc : Thread Cert.DecodeReferenceIdeal.nD Cert.DecodeReferenceIdeal.τ).loc Cert.DecodeReferenceIdeal.main_arg3) = m ((c.tc : Thread Cert.DecodeIdeal.nD Cert.DecodeIdeal.τ).loc Cert.DecodeIdeal.main_arg3)
      ∧ m' ((c.tc : Thread Cert.DecodeReferenceIdeal.nD Cert.DecodeReferenceIdeal.τ).loc Cert.DecodeReferenceIdeal.main_arg4) = m ((c.tc : Thread Cert.DecodeIdeal.nD Cert.DecodeIdeal.τ).loc Cert.DecodeIdeal.main_arg4)
      ∧ m' ((c.tc : Thread Cert.DecodeReferenceIdeal.nD Cert.DecodeReferenceIdeal.τ).loc Cert.DecodeReferenceIdeal.main_arg5) = m ((c.tc : Thread Cert.DecodeIdeal.nD Cert.DecodeIdeal.τ).loc Cert.DecodeIdeal.main_arg5)
      ∧ m' ((c.tc : Thread Cert.DecodeReferenceIdeal.nD Cert.DecodeReferenceIdeal.τ).loc Cert.DecodeReferenceIdeal.main_arg6) = m ((c.tc : Thread Cert.DecodeIdeal.nD Cert.DecodeIdeal.τ).loc Cert.DecodeIdeal.main_arg6)
      ∧ m' ((c.tc : Thread Cert.DecodeReferenceIdeal.nD Cert.DecodeReferenceIdeal.τ).loc Cert.DecodeReferenceIdeal.main_arg7) = m ((c.tc : Thread Cert.DecodeIdeal.nD Cert.DecodeIdeal.τ).loc Cert.DecodeIdeal.main_arg7)) →
    ∃ (v0 : (c : Dev Cert.DecodeIdeal.nD) → Buf (Elt Ideal) ((c.tc : Thread Cert.DecodeIdeal.nD Cert.DecodeIdeal.τ).loc Cert.DecodeIdeal.main_v17_0)) (v1 : (c : Dev Cert.DecodeIdeal.nD) → Buf (Elt Ideal) ((c.tc : Thread Cert.DecodeIdeal.nD Cert.DecodeIdeal.τ).loc Cert.DecodeIdeal.main_v17_1)) (v2 : (c : Dev Cert.DecodeIdeal.nD) → Buf (Elt Ideal) ((c.tc : Thread Cert.DecodeIdeal.nD Cert.DecodeIdeal.τ).loc Cert.DecodeIdeal.main_v17_2)) (v3 : (c : Dev Cert.DecodeIdeal.nD) → Buf (Elt Ideal) ((c.tc : Thread Cert.DecodeIdeal.nD Cert.DecodeIdeal.τ).loc Cert.DecodeIdeal.main_v17_3)) (v4 : (c : Dev Cert.DecodeIdeal.nD) → Buf (Elt Ideal) ((c.tc : Thread Cert.DecodeIdeal.nD Cert.DecodeIdeal.τ).loc Cert.DecodeIdeal.main_v17_4)) (v5 : (c : Dev Cert.DecodeIdeal.nD) → Buf (Elt Ideal) ((c.tc : Thread Cert.DecodeIdeal.nD Cert.DecodeIdeal.τ).loc Cert.DecodeIdeal.main_v17_5)) (v6 : (c : Dev Cert.DecodeIdeal.nD) → Buf (Elt Ideal) ((c.tc : Thread Cert.DecodeIdeal.nD Cert.DecodeIdeal.τ).loc Cert.DecodeIdeal.main_v17_6)) (v7 : (c : Dev Cert.DecodeIdeal.nD) → Buf (Elt Ideal) ((c.tc : Thread Cert.DecodeIdeal.nD Cert.DecodeIdeal.τ).loc Cert.DecodeIdeal.main_v17_7)) (v8 : (c : Dev Cert.DecodeIdeal.nD) → Buf (Elt Ideal) ((c.tc : Thread Cert.DecodeIdeal.nD Cert.DecodeIdeal.τ).loc Cert.DecodeIdeal.main_v17_8)) (v9 : (c : Dev Cert.DecodeIdeal.nD) → Buf (Elt Ideal) ((c.tc : Thread Cert.DecodeIdeal.nD Cert.DecodeIdeal.τ).loc Cert.DecodeIdeal.main_v17_9)) (v10 : (c : Dev Cert.DecodeIdeal.nD) → Buf (Elt Ideal) ((c.tc : Thread Cert.DecodeIdeal.nD Cert.DecodeIdeal.τ).loc Cert.DecodeIdeal.main_v17_10)) (v11 : (c : Dev Cert.DecodeIdeal.nD) → Buf (Elt Ideal) ((c.tc : Thread Cert.DecodeIdeal.nD Cert.DecodeIdeal.τ).loc Cert.DecodeIdeal.main_v17_11)) (v12 : (c : Dev Cert.DecodeIdeal.nD) → Buf (Elt Ideal) ((c.tc : Thread Cert.DecodeIdeal.nD Cert.DecodeIdeal.τ).loc Cert.DecodeIdeal.main_v17_12)) (v13 : (c : Dev Cert.DecodeIdeal.nD) → Buf (Elt Ideal) ((c.tc : Thread Cert.DecodeIdeal.nD Cert.DecodeIdeal.τ).loc Cert.DecodeIdeal.main_v17_13)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v17_0) = v0 c
          ∧ r.2.mem ((c.tc : Thread Cert.DecodeIdeal.nD Cert.DecodeIdeal.τ).loc Cert.DecodeIdeal.main_v17_1) = v1 c
          ∧ r.2.mem ((c.tc : Thread Cert.DecodeIdeal.nD Cert.DecodeIdeal.τ).loc Cert.DecodeIdeal.main_v17_2) = v2 c
          ∧ r.2.mem ((c.tc : Thread Cert.DecodeIdeal.nD Cert.DecodeIdeal.τ).loc Cert.DecodeIdeal.main_v17_3) = v3 c
          ∧ r.2.mem ((c.tc : Thread Cert.DecodeIdeal.nD Cert.DecodeIdeal.τ).loc Cert.DecodeIdeal.main_v17_4) = v4 c
          ∧ r.2.mem ((c.tc : Thread Cert.DecodeIdeal.nD Cert.DecodeIdeal.τ).loc Cert.DecodeIdeal.main_v17_5) = v5 c
          ∧ r.2.mem ((c.tc : Thread Cert.DecodeIdeal.nD Cert.DecodeIdeal.τ).loc Cert.DecodeIdeal.main_v17_6) = v6 c
          ∧ r.2.mem ((c.tc : Thread Cert.DecodeIdeal.nD Cert.DecodeIdeal.τ).loc Cert.DecodeIdeal.main_v17_7) = v7 c
          ∧ r.2.mem ((c.tc : Thread Cert.DecodeIdeal.nD Cert.DecodeIdeal.τ).loc Cert.DecodeIdeal.main_v17_8) = v8 c
          ∧ r.2.mem ((c.tc : Thread Cert.DecodeIdeal.nD Cert.DecodeIdeal.τ).loc Cert.DecodeIdeal.main_v17_9) = v9 c
          ∧ r.2.mem ((c.tc : Thread Cert.DecodeIdeal.nD Cert.DecodeIdeal.τ).loc Cert.DecodeIdeal.main_v17_10) = v10 c
          ∧ r.2.mem ((c.tc : Thread Cert.DecodeIdeal.nD Cert.DecodeIdeal.τ).loc Cert.DecodeIdeal.main_v17_11) = v11 c
          ∧ r.2.mem ((c.tc : Thread Cert.DecodeIdeal.nD Cert.DecodeIdeal.τ).loc Cert.DecodeIdeal.main_v17_12) = v12 c
          ∧ r.2.mem ((c.tc : Thread Cert.DecodeIdeal.nD Cert.DecodeIdeal.τ).loc Cert.DecodeIdeal.main_v17_13) = v13 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
          ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
          ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
          ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
          ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v15) = v0 c
          ∧ r.2.mem ((c.tc : Thread Cert.DecodeReferenceIdeal.nD Cert.DecodeReferenceIdeal.τ).loc Cert.DecodeReferenceIdeal.main_v47) = v1 c
          ∧ r.2.mem ((c.tc : Thread Cert.DecodeReferenceIdeal.nD Cert.DecodeReferenceIdeal.τ).loc Cert.DecodeReferenceIdeal.main_v49) = v2 c
          ∧ r.2.mem ((c.tc : Thread Cert.DecodeReferenceIdeal.nD Cert.DecodeReferenceIdeal.τ).loc Cert.DecodeReferenceIdeal.main_v57) = v3 c
          ∧ r.2.mem ((c.tc : Thread Cert.DecodeReferenceIdeal.nD Cert.DecodeReferenceIdeal.τ).loc Cert.DecodeReferenceIdeal.main_v63) = v4 c
          ∧ r.2.mem ((c.tc : Thread Cert.DecodeReferenceIdeal.nD Cert.DecodeReferenceIdeal.τ).loc Cert.DecodeReferenceIdeal.main_v158) = v5 c
          ∧ r.2.mem ((c.tc : Thread Cert.DecodeReferenceIdeal.nD Cert.DecodeReferenceIdeal.τ).loc Cert.DecodeReferenceIdeal.main_v160) = v6 c
          ∧ r.2.mem ((c.tc : Thread Cert.DecodeReferenceIdeal.nD Cert.DecodeReferenceIdeal.τ).loc Cert.DecodeReferenceIdeal.main_v101) = v7 c
          ∧ r.2.mem ((c.tc : Thread Cert.DecodeReferenceIdeal.nD Cert.DecodeReferenceIdeal.τ).loc Cert.DecodeReferenceIdeal.main_v107) = v8 c
          ∧ r.2.mem ((c.tc : Thread Cert.DecodeReferenceIdeal.nD Cert.DecodeReferenceIdeal.τ).loc Cert.DecodeReferenceIdeal.main_v129) = v9 c
          ∧ r.2.mem ((c.tc : Thread Cert.DecodeReferenceIdeal.nD Cert.DecodeReferenceIdeal.τ).loc Cert.DecodeReferenceIdeal.main_v138) = v10 c
          ∧ r.2.mem ((c.tc : Thread Cert.DecodeReferenceIdeal.nD Cert.DecodeReferenceIdeal.τ).loc Cert.DecodeReferenceIdeal.main_v143) = v11 c
          ∧ r.2.mem ((c.tc : Thread Cert.DecodeReferenceIdeal.nD Cert.DecodeReferenceIdeal.τ).loc Cert.DecodeReferenceIdeal.main_v161) = v12 c
          ∧ r.2.mem ((c.tc : Thread Cert.DecodeReferenceIdeal.nD Cert.DecodeReferenceIdeal.τ).loc Cert.DecodeReferenceIdeal.main_v164) = v13 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0)
          ∧ r.2.mem ((c.tc : Thread Cert.DecodeReferenceIdeal.nD Cert.DecodeReferenceIdeal.τ).loc Cert.DecodeReferenceIdeal.main_arg1) = m' ((c.tc : Thread Cert.DecodeReferenceIdeal.nD Cert.DecodeReferenceIdeal.τ).loc Cert.DecodeReferenceIdeal.main_arg1)
          ∧ r.2.mem ((c.tc : Thread Cert.DecodeReferenceIdeal.nD Cert.DecodeReferenceIdeal.τ).loc Cert.DecodeReferenceIdeal.main_arg2) = m' ((c.tc : Thread Cert.DecodeReferenceIdeal.nD Cert.DecodeReferenceIdeal.τ).loc Cert.DecodeReferenceIdeal.main_arg2)
          ∧ r.2.mem ((c.tc : Thread Cert.DecodeReferenceIdeal.nD Cert.DecodeReferenceIdeal.τ).loc Cert.DecodeReferenceIdeal.main_arg3) = m' ((c.tc : Thread Cert.DecodeReferenceIdeal.nD Cert.DecodeReferenceIdeal.τ).loc Cert.DecodeReferenceIdeal.main_arg3)
          ∧ r.2.mem ((c.tc : Thread Cert.DecodeReferenceIdeal.nD Cert.DecodeReferenceIdeal.τ).loc Cert.DecodeReferenceIdeal.main_arg4) = m' ((c.tc : Thread Cert.DecodeReferenceIdeal.nD Cert.DecodeReferenceIdeal.τ).loc Cert.DecodeReferenceIdeal.main_arg4)
          ∧ r.2.mem ((c.tc : Thread Cert.DecodeReferenceIdeal.nD Cert.DecodeReferenceIdeal.τ).loc Cert.DecodeReferenceIdeal.main_arg5) = m' ((c.tc : Thread Cert.DecodeReferenceIdeal.nD Cert.DecodeReferenceIdeal.τ).loc Cert.DecodeReferenceIdeal.main_arg5)
          ∧ r.2.mem ((c.tc : Thread Cert.DecodeReferenceIdeal.nD Cert.DecodeReferenceIdeal.τ).loc Cert.DecodeReferenceIdeal.main_arg6) = m' ((c.tc : Thread Cert.DecodeReferenceIdeal.nD Cert.DecodeReferenceIdeal.τ).loc Cert.DecodeReferenceIdeal.main_arg6)
          ∧ r.2.mem ((c.tc : Thread Cert.DecodeReferenceIdeal.nD Cert.DecodeReferenceIdeal.τ).loc Cert.DecodeReferenceIdeal.main_arg7) = m' ((c.tc : Thread Cert.DecodeReferenceIdeal.nD Cert.DecodeReferenceIdeal.τ).loc Cert.DecodeReferenceIdeal.main_arg7))

def Claim : Prop :=
  ∃ (hKernel : Cert.Kernel.Facts) (hKernelIdeal : Cert.KernelIdeal.Facts) (hReferenceIdeal : Cert.ReferenceIdeal.Facts) (hDecode : Cert.Decode.Facts) (hDecodeIdeal : Cert.DecodeIdeal.Facts) (hDecodeReferenceIdeal : Cert.DecodeReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ quiescent_Decode (hDecode := hDecode)
    ∧ quiescent_DecodeIdeal (hDecodeIdeal := hDecodeIdeal)
    ∧ quiescent_DecodeReferenceIdeal (hDecodeReferenceIdeal := hDecodeReferenceIdeal)
    ∧ preserves_Kernel_KernelIdeal
    ∧ algebraic_KernelIdeal_ReferenceIdeal (hKernelIdeal := hKernelIdeal) (hReferenceIdeal := hReferenceIdeal) (hPre_indices_in_range := hPre_indices_in_range)
    ∧ preserves_Decode_DecodeIdeal
    ∧ algebraic_DecodeIdeal_DecodeReferenceIdeal (hDecodeIdeal := hDecodeIdeal) (hDecodeReferenceIdeal := hDecodeReferenceIdeal)
-- ==== Pre_indices_in_range.lean ====
abbrev S128x12288 : Shape := ⟨2, ![128, 12288]⟩
abbrev S128x224 : Shape := ⟨2, ![128, 224]⟩
abbrev S4x32 : Shape := ⟨2, ![4, 32]⟩
abbrev S128x1 : Shape := ⟨2, ![128, 1]⟩
abbrev S_ : Shape := ⟨0, ![]⟩

class Facts : Prop where
  bcast_S_S128x224 : S_.BroadcastsInDim S128x224 (![] : Fin 0 → Fin S128x224.rank)
  bcast_S_S128x1 : S_.BroadcastsInDim S128x1 (![] : Fin 0 → Fin S128x1.rank)
  bcast_S128x1_S128x224_0_1 : S128x1.BroadcastsInDim S128x224 (![0, 1] : Fin 2 → Fin S128x224.rank)

variable [Facts]

def fn_part2 {F : FTy → Type} [FloatOps F] (main_arg13 : IVec S128x1 32) (main_v34 : IVec S128x224 1) (main_v35 : IVec S128x1 32) : IVec S128x224 1 :=
  let main_v36 : IVec S128x1 1 := cmpi .sle main_arg13 main_v35
  let main_v37 : IVec S128x224 1 := broadcastInDim S128x224 ![0, 1] bcast_S128x1_S128x224_0_1 main_v36
  let main_v38 : IVec S128x224 1 := andi main_v34 main_v37
  main_v38

def fn_part1 {F : FTy → Type} [FloatOps F] (main_arg6 : IVec S128x224 32) (main_arg12 : IVec S128x1 32) (main_arg13 : IVec S128x1 32) (main_v16 : IVec S128x224 1) (main_c_5 : IVec S_ 32) : IVec S128x224 1 :=
  let main_v17 : IVec S128x224 32 := broadcastInDim S128x224 ![] bcast_S_S128x224 main_c_5
  let main_v18 : IVec S128x224 1 := cmpi .sge main_arg6 main_v17
  let main_v19 : IVec S128x224 1 := andi main_v16 main_v18
  let main_c_6 : IVec S_ 32 := constantI S_ 32 4032#32
  let main_v20 : IVec S128x224 32 := broadcastInDim S128x224 ![] bcast_S_S128x224 main_c_6
  let main_v21 : IVec S128x224 1 := cmpi .sle main_arg6 main_v20
  let main_v22 : IVec S128x224 1 := andi main_v19 main_v21
  let main_c_7 : IVec S_ 32 := constantI S_ 32 0#32
  let main_v23 : IVec S128x1 32 := broadcastInDim S128x1 ![] bcast_S_S128x1 main_c_7
  let main_v24 : IVec S128x1 1 := cmpi .sge main_arg12 main_v23
  let main_v25 : IVec S128x224 1 := broadcastInDim S128x224 ![0, 1] bcast_S128x1_S128x224_0_1 main_v24
  let main_v26 : IVec S128x224 1 := andi main_v22 main_v25
  let main_c_8 : IVec S_ 32 := constantI S_ 32 14#32
  let main_v27 : IVec S128x1 32 := broadcastInDim S128x1 ![] bcast_S_S128x1 main_c_8
  let main_v28 : IVec S128x1 1 := cmpi .sle main_arg12 main_v27
  let main_v29 : IVec S128x224 1 := broadcastInDim S128x224 ![0, 1] bcast_S128x1_S128x224_0_1 main_v28
  let main_v30 : IVec S128x224 1 := andi main_v26 main_v29
  let main_c_9 : IVec S_ 32 := constantI S_ 32 0#32
  let main_v31 : IVec S128x1 32 := broadcastInDim S128x1 ![] bcast_S_S128x1 main_c_9
  let main_v32 : IVec S128x1 1 := cmpi .sge main_arg13 main_v31
  let main_v33 : IVec S128x224 1 := broadcastInDim S128x224 ![0, 1] bcast_S128x1_S128x224_0_1 main_v32
  let main_v34 : IVec S128x224 1 := andi main_v30 main_v33
  let main_c_10 : IVec S_ 32 := constantI S_ 32 14#32
  let main_v35 : IVec S128x1 32 := broadcastInDim S128x1 ![] bcast_S_S128x1 main_c_10
  fn_part2 (F := F) main_arg13 main_v34 main_v35

def fn {F : FTy → Type} [FloatOps F] (main_arg0 : FVec F S128x12288 .f32) (main_arg1 : IVec S128x224 32) (main_arg2 : IVec S128x224 32) (main_arg3 : FVec F S128x224 .f32) (main_arg4 : FVec F S128x224 .f32) (main_arg5 : IVec S128x224 32) (main_arg6 : IVec S128x224 32) (main_arg7 : FVec F S128x224 .f32) (main_arg8 : FVec F S128x224 .f32) (main_arg9 : FVec F S4x32 .f32) (main_arg10 : IVec S128x1 32) (main_arg11 : IVec S128x1 32) (main_arg12 : IVec S128x1 32) (main_arg13 : IVec S128x1 32) : IVec S128x224 1 :=
  let main_c : IVec S_ 32 := constantI S_ 32 0#32
  let main_v0 : IVec S128x224 32 := broadcastInDim S128x224 ![] bcast_S_S128x224 main_c
  let main_v1 : IVec S128x224 1 := cmpi .sge main_arg1 main_v0
  let main_c_0 : IVec S_ 32 := constantI S_ 32 63#32
  let main_v2 : IVec S128x224 32 := broadcastInDim S128x224 ![] bcast_S_S128x224 main_c_0
  let main_v3 : IVec S128x224 1 := cmpi .sle main_arg1 main_v2
  let main_v4 : IVec S128x224 1 := andi main_v1 main_v3
  let main_c_1 : IVec S_ 32 := constantI S_ 32 0#32
  let main_v5 : IVec S128x224 32 := broadcastInDim S128x224 ![] bcast_S_S128x224 main_c_1
  let main_v6 : IVec S128x224 1 := cmpi .sge main_arg2 main_v5
  let main_v7 : IVec S128x224 1 := andi main_v4 main_v6
  let main_c_2 : IVec S_ 32 := constantI S_ 32 63#32
  let main_v8 : IVec S128x224 32 := broadcastInDim S128x224 ![] bcast_S_S128x224 main_c_2
  let main_v9 : IVec S128x224 1 := cmpi .sle main_arg2 main_v8
  let main_v10 : IVec S128x224 1 := andi main_v7 main_v9
  let main_c_3 : IVec S_ 32 := constantI S_ 32 0#32
  let main_v11 : IVec S128x224 32 := broadcastInDim S128x224 ![] bcast_S_S128x224 main_c_3
  let main_v12 : IVec S128x224 1 := cmpi .sge main_arg5 main_v11
  let main_v13 : IVec S128x224 1 := andi main_v10 main_v12
  let main_c_4 : IVec S_ 32 := constantI S_ 32 4032#32
  let main_v14 : IVec S128x224 32 := broadcastInDim S128x224 ![] bcast_S_S128x224 main_c_4
  let main_v15 : IVec S128x224 1 := cmpi .sle main_arg5 main_v14
  let main_v16 : IVec S128x224 1 := andi main_v13 main_v15
  let main_c_5 : IVec S_ 32 := constantI S_ 32 0#32
  fn_part1 (F := F) main_arg6 main_arg12 main_arg13 main_v16 main_c_5
-- ==== Kernel.lean ====
abbrev S128x12288 : Shape := ⟨2, ![128, 12288]⟩
abbrev S128x224 : Shape := ⟨2, ![128, 224]⟩
abbrev S4x32 : Shape := ⟨2, ![4, 32]⟩
abbrev S128x1 : Shape := ⟨2, ![128, 1]⟩
abbrev S_ : Shape := ⟨0, ![]⟩
abbrev S128x12 : Shape := ⟨2, ![128, 12]⟩
abbrev S128x16 : Shape := ⟨2, ![128, 16]⟩
abbrev S2048 : Shape := ⟨1, ![2048]⟩
abbrev S18816 : Shape := ⟨1, ![18816]⟩
abbrev S1572864 : Shape := ⟨1, ![1572864]⟩
abbrev S28672 : Shape := ⟨1, ![28672]⟩
abbrev S4x3x8x6272 : Shape := ⟨4, ![4, 3, 8, 6272]⟩
abbrev S7168 : Shape := ⟨1, ![7168]⟩
abbrev S512 : Shape := ⟨1, ![512]⟩
abbrev S24576 : Shape := ⟨1, ![24576]⟩
abbrev S12288 : Shape := ⟨1, ![12288]⟩
abbrev S16 : Shape := ⟨1, ![16]⟩
abbrev S1 : Shape := ⟨1, ![1]⟩
abbrev S6272 : Shape := ⟨1, ![6272]⟩
abbrev S1x1x1x6272 : Shape := ⟨4, ![1, 1, 1, 6272]⟩
abbrev S4x3x224x224 : Shape := ⟨4, ![4, 3, 224, 224]⟩

abbrev nBuf : Table → Nat
  | .hbm => 34
  | .local .scVector .vmem => 13
  | _ => 0

abbrev bufTy : (tb : Table) → Fin (nBuf tb) → BufTy
  | .hbm, ⟨0, _⟩ => ⟨S128x12288, .f32⟩
  | .hbm, ⟨1, _⟩ => ⟨S128x224, .i32⟩
  | .hbm, ⟨2, _⟩ => ⟨S128x224, .i32⟩
  | .hbm, ⟨3, _⟩ => ⟨S128x224, .f32⟩
  | .hbm, ⟨4, _⟩ => ⟨S128x224, .f32⟩
  | .hbm, ⟨5, _⟩ => ⟨S128x224, .i32⟩
  | .hbm, ⟨6, _⟩ => ⟨S128x224, .i32⟩
  | .hbm, ⟨7, _⟩ => ⟨S128x224, .f32⟩
  | .hbm, ⟨8, _⟩ => ⟨S128x224, .f32⟩
  | .hbm, ⟨9, _⟩ => ⟨S4x32, .f32⟩
  | .hbm, ⟨10, _⟩ => ⟨S128x1, .i32⟩
  | .hbm, ⟨11, _⟩ => ⟨S128x1, .i32⟩
  | .hbm, ⟨12, _⟩ => ⟨S128x1, .i32⟩
  | .hbm, ⟨13, _⟩ => ⟨S128x1, .i32⟩
  | .hbm, ⟨14, _⟩ => ⟨S_, .i32⟩
  | .hbm, ⟨15, _⟩ => ⟨S128x12, .i32⟩
  | .hbm, ⟨16, _⟩ => ⟨S128x16, .i32⟩
  | .hbm, ⟨17, _⟩ => ⟨S2048, .i32⟩
  | .hbm, ⟨18, _⟩ => ⟨S128x1, .f32⟩
  | .hbm, ⟨19, _⟩ => ⟨S128x16, .f32⟩
  | .hbm, ⟨20, _⟩ => ⟨S2048, .f32⟩
  | .hbm, ⟨21, _⟩ => ⟨S_, .f32⟩
  | .hbm, ⟨22, _⟩ => ⟨S18816, .f32⟩
  | .hbm, ⟨23, _⟩ => ⟨S1572864, .f32⟩
  | .hbm, ⟨24, _⟩ => ⟨S28672, .i32⟩
  | .hbm, ⟨25, _⟩ => ⟨S28672, .i32⟩
  | .hbm, ⟨26, _⟩ => ⟨S28672, .f32⟩
  | .hbm, ⟨27, _⟩ => ⟨S28672, .f32⟩
  | .hbm, ⟨28, _⟩ => ⟨S28672, .i32⟩
  | .hbm, ⟨29, _⟩ => ⟨S28672, .i32⟩
  | .hbm, ⟨30, _⟩ => ⟨S28672, .f32⟩
  | .hbm, ⟨31, _⟩ => ⟨S28672, .f32⟩
  | .hbm, ⟨32, _⟩ => ⟨S4x3x8x6272, .f32⟩
  | .hbm, ⟨33, _⟩ => ⟨S4x3x224x224, .f32⟩
  | .local .scVector .vmem, ⟨0, _⟩ => ⟨S7168, .i32⟩
  | .local .scVector .vmem, ⟨1, _⟩ => ⟨S7168, .i32⟩
  | .local .scVector .vmem, ⟨2, _⟩ => ⟨S7168, .f32⟩
  | .local .scVector .vmem, ⟨3, _⟩ => ⟨S7168, .f32⟩
  | .local .scVector .vmem, ⟨4, _⟩ => ⟨S7168, .i32⟩
  | .local .scVector .vmem, ⟨5, _⟩ => ⟨S7168, .i32⟩
  | .local .scVector .vmem, ⟨6, _⟩ => ⟨S7168, .f32⟩
  | .local .scVector .vmem, ⟨7, _⟩ => ⟨S7168, .f32⟩
  | .local .scVector .vmem, ⟨8, _⟩ => ⟨S512, .i32⟩
  | .local .scVector .vmem, ⟨9, _⟩ => ⟨S512, .f32⟩
  | .local .scVector .vmem, ⟨10, _⟩ => ⟨S24576, .f32⟩
  | .local .scVector .vmem, ⟨11, _⟩ => ⟨S18816, .f32⟩
  | .local .scVector .vmem, ⟨12, _⟩ => ⟨S18816, .f32⟩
  | _, _ => ⟨S128x12288, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v7_scv : Ref sig .scVector := ⟨.hbm, 23, rfl⟩
abbrev main_v8_scv : Ref sig .scVector := ⟨.hbm, 24, rfl⟩
abbrev main_v9_scv : Ref sig .scVector := ⟨.hbm, 25, rfl⟩
abbrev main_v10_scv : Ref sig .scVector := ⟨.hbm, 26, rfl⟩
abbrev main_v11_scv : Ref sig .scVector := ⟨.hbm, 27, rfl⟩
abbrev main_v12_scv : Ref sig .scVector := ⟨.hbm, 28, rfl⟩
abbrev main_v13_scv : Ref sig .scVector := ⟨.hbm, 29, rfl⟩
abbrev main_v14_scv : Ref sig .scVector := ⟨.hbm, 30, rfl⟩
abbrev main_v15_scv : Ref sig .scVector := ⟨.hbm, 31, rfl⟩
abbrev main_v2_scv : Ref sig .scVector := ⟨.hbm, 17, rfl⟩
abbrev main_v5_scv : Ref sig .scVector := ⟨.hbm, 20, rfl⟩
abbrev main_v6_scv : Ref sig .scVector := ⟨.hbm, 22, rfl⟩
abbrev main_v16_scv : Ref sig .scVector := ⟨.hbm, 32, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c32_i32 : BitVec 32 := 32#32
  let v30 : BitVec 32 := Scalar.muli v18 c32_i32
  let c224_i32 : BitVec 32 := 224#32
  let v31 : BitVec 32 := Scalar.muli v30 c224_i32
  ![v31.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c32_i32 : BitVec 32 := 32#32
  let v30 : BitVec 32 := Scalar.muli v18 c32_i32
  let c16_i32 : BitVec 32 := 16#32
  let v32 : BitVec 32 := Scalar.muli v30 c16_i32
  ![v32.toNat]
def k0_off3 (i : grid0.Coords) (c0_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c32_i32 : BitVec 32 := 32#32
  let v30 : BitVec 32 := Scalar.muli v18 c32_i32
  let v34 : BitVec 32 := Scalar.addi v30 c0_i32_11
  let c12288_i32 : BitVec 32 := 12288#32
  let v35 : BitVec 32 := Scalar.muli v34 c12288_i32
  ![v35.toNat]
@[reducible] def k0_t1_loop : Scf.Loop 32 :=
  let c0_i32_19 : BitVec 32 := 0#32
  let c15_i32 : BitVec 32 := 15#32
  let v46 : BitVec 32 := Scalar.addi c0_i32_19 c15_i32
  let c1_i32_20 : BitVec 32 := 1#32
  ⟨c0_i32_19, v46, c1_i32_20⟩
def k0_off4 (k0_t1 : Fin k0_t1_loop.trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c16_i32_49 : BitVec 32 := 16#32
  let v104 : BitVec 32 := Scalar.muli v99 c16_i32_49
  let v105 : Index := Scalar.indexCast v104
  ![v105.toNat]
@[reducible] def k0_t2_loop (i : grid0.Coords) (v108 : BitVec 32) (v111 : BitVec 32) : Scf.Loop 32 :=
  let c0_i32_78 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_50 : BitVec 32 := 28#32
  let v112 : BitVec 32 := Scalar.addi v29 c28_i32_50
  let v113 : BitVec 32 := Scalar.minsi v111 v112
  let v109 : BitVec 32 := Scalar.maxsi v108 v29
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_80 : BitVec 32 := 1#32
  ⟨c0_i32_78, v177, c1_i32_80⟩
def k0_cond1 (i : grid0.Coords) (v108 : BitVec 32) (v111 : BitVec 32) (v125 : BitVec 1) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c28_i32_50 : BitVec 32 := 28#32
  let v112 : BitVec 32 := Scalar.addi v29 c28_i32_50
  let v113 : BitVec 32 := Scalar.minsi v111 v112
  let v124 : BitVec 1 := Scalar.cmpi .slt v109 v113
  let true_54 : BitVec 1 := 1#1
  let v126 : BitVec 1 := Scalar.xori v125 true_54
  let v127 : BitVec 1 := Scalar.andi v124 v126
  let v128 : BitVec 32 := Scalar.extui v127
  let c0_i32_55 : BitVec 32 := 0#32
  let v129 : BitVec 1 := Scalar.cmpi .ne v128 c0_i32_55
  v129

def k0_chk2 (i : grid0.Coords) (v108 : BitVec 32) (v111 : BitVec 32) (v125 : BitVec 1) (v181 : IVec S16 32) : Prop :=
  (∀ (k0_h1 : k0_cond1 i v108 v111 v125 = 1#1), ∀ a x, ((![v181] : Fin 1 → IVec S16 32) a x).toNat < S7168.size a) ∧
  (∀ (k0_h1 : k0_cond1 i v108 v111 v125 = 1#1), ∀ a x, ((![v181] : Fin 1 → IVec S16 32) a x).toNat < S7168.size a) ∧
  (∀ (k0_h1 : k0_cond1 i v108 v111 v125 = 1#1), ∀ a x, ((![v181] : Fin 1 → IVec S16 32) a x).toNat < S7168.size a) ∧
  (∀ (k0_h1 : k0_cond1 i v108 v111 v125 = 1#1), ∀ a x, ((![v181] : Fin 1 → IVec S16 32) a x).toNat < S7168.size a)
theorem k0_idx1_inb : ∀ (i : grid0.Coords) (v108 : BitVec 32) (v111 : BitVec 32) (v125 : BitVec 1) (v181 : IVec S16 32) (k0_hw2 : k0_chk2 i v108 v111 v125 v181), ∀ (k0_h1 : k0_cond1 i v108 v111 v125 = 1#1), ∀ a x, ((![v181] : Fin 1 → IVec S16 32) a x).toNat < S7168.size a := fun i v108 v111 v125 v181 k0_hw2 k0_h1 => k0_hw2.1 k0_h1
theorem k0_idx2_inb : ∀ (i : grid0.Coords) (v108 : BitVec 32) (v111 : BitVec 32) (v125 : BitVec 1) (v181 : IVec S16 32) (k0_hw2 : k0_chk2 i v108 v111 v125 v181), ∀ (k0_h1 : k0_cond1 i v108 v111 v125 = 1#1), ∀ a x, ((![v181] : Fin 1 → IVec S16 32) a x).toNat < S7168.size a := fun i v108 v111 v125 v181 k0_hw2 k0_h1 => k0_hw2.2.1 k0_h1
theorem k0_idx3_inb : ∀ (i : grid0.Coords) (v108 : BitVec 32) (v111 : BitVec 32) (v125 : BitVec 1) (v181 : IVec S16 32) (k0_hw2 : k0_chk2 i v108 v111 v125 v181), ∀ (k0_h1 : k0_cond1 i v108 v111 v125 = 1#1), ∀ a x, ((![v181] : Fin 1 → IVec S16 32) a x).toNat < S7168.size a := fun i v108 v111 v125 v181 k0_hw2 k0_h1 => k0_hw2.2.2.1 k0_h1
theorem k0_idx4_inb : ∀ (i : grid0.Coords) (v108 : BitVec 32) (v111 : BitVec 32) (v125 : BitVec 1) (v181 : IVec S16 32) (k0_hw2 : k0_chk2 i v108 v111 v125 v181), ∀ (k0_h1 : k0_cond1 i v108 v111 v125 = 1#1), ∀ a x, ((![v181] : Fin 1 → IVec S16 32) a x).toNat < S7168.size a := fun i v108 v111 v125 v181 k0_hw2 k0_h1 => k0_hw2.2.2.2 k0_h1
@[reducible] def k0_t3_loop (v115 : BitVec 32) (v117 : BitVec 32) : Scf.Loop 32 :=
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_89 : BitVec 32 := 1#32
  ⟨c0_i32_87, v200, c1_i32_89⟩
def k0_off5 (k0_t1 : Fin k0_t1_loop.trips) (v115 : BitVec 32) (v117 : BitVec 32) (k0_t3 : Fin (k0_t3_loop v115 v117).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c224_i32_52 : BitVec 32 := 224#32
  let v123 : BitVec 32 := Scalar.muli v99 c224_i32_52
  let c0_i32_87 : BitVec 32 := 0#32
  let c1_i32_89 : BitVec 32 := 1#32
  let arg33 : BitVec 32 := Scf.iv c0_i32_87 c1_i32_89 k0_t3
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v204 : BitVec 32 := Scalar.addi v123 v203
  let v205 : Index := Scalar.indexCast v204
  ![v205.toNat]

def k0_chk3 (i : grid0.Coords) (v108 : BitVec 32) (v111 : BitVec 32) (v125 : BitVec 1) (v218 : IVec S16 32) : Prop :=
  (∀ (k0_h1 : k0_cond1 i v108 v111 v125 = 1#1), ∀ a x, ((![v218] : Fin 1 → IVec S16 32) a x).toNat < S24576.size a)
theorem k0_idx5_inb : ∀ (i : grid0.Coords) (v108 : BitVec 32) (v111 : BitVec 32) (v125 : BitVec 1) (v218 : IVec S16 32) (k0_hw3 : k0_chk3 i v108 v111 v125 v218), ∀ (k0_h1 : k0_cond1 i v108 v111 v125 = 1#1), ∀ a x, ((![v218] : Fin 1 → IVec S16 32) a x).toNat < S24576.size a := fun i v108 v111 v125 v218 k0_hw3 k0_h1 => k0_hw3 k0_h1

def k0_chk4 (i : grid0.Coords) (v108 : BitVec 32) (v111 : BitVec 32) (v125 : BitVec 1) (v222 : IVec S16 32) : Prop :=
  (∀ (k0_h1 : k0_cond1 i v108 v111 v125 = 1#1), ∀ a x, ((![v222] : Fin 1 → IVec S16 32) a x).toNat < S24576.size a)
theorem k0_idx6_inb : ∀ (i : grid0.Coords) (v108 : BitVec 32) (v111 : BitVec 32) (v125 : BitVec 1) (v222 : IVec S16 32) (k0_hw4 : k0_chk4 i v108 v111 v125 v222), ∀ (k0_h1 : k0_cond1 i v108 v111 v125 = 1#1), ∀ a x, ((![v222] : Fin 1 → IVec S16 32) a x).toNat < S24576.size a := fun i v108 v111 v125 v222 k0_hw4 k0_h1 => k0_hw4 k0_h1

def k0_chk5 (i : grid0.Coords) (v108 : BitVec 32) (v111 : BitVec 32) (v125 : BitVec 1) (v226 : IVec S16 32) : Prop :=
  (∀ (k0_h1 : k0_cond1 i v108 v111 v125 = 1#1), ∀ a x, ((![v226] : Fin 1 → IVec S16 32) a x).toNat < S24576.size a)
theorem k0_idx7_inb : ∀ (i : grid0.Coords) (v108 : BitVec 32) (v111 : BitVec 32) (v125 : BitVec 1) (v226 : IVec S16 32) (k0_hw5 : k0_chk5 i v108 v111 v125 v226), ∀ (k0_h1 : k0_cond1 i v108 v111 v125 = 1#1), ∀ a x, ((![v226] : Fin 1 → IVec S16 32) a x).toNat < S24576.size a := fun i v108 v111 v125 v226 k0_hw5 k0_h1 => k0_hw5 k0_h1

def k0_chk6 (i : grid0.Coords) (v108 : BitVec 32) (v111 : BitVec 32) (v125 : BitVec 1) (v230 : IVec S16 32) : Prop :=
  (∀ (k0_h1 : k0_cond1 i v108 v111 v125 = 1#1), ∀ a x, ((![v230] : Fin 1 → IVec S16 32) a x).toNat < S24576.size a)
theorem k0_idx8_inb : ∀ (i : grid0.Coords) (v108 : BitVec 32) (v111 : BitVec 32) (v125 : BitVec 1) (v230 : IVec S16 32) (k0_hw6 : k0_chk6 i v108 v111 v125 v230), ∀ (k0_h1 : k0_cond1 i v108 v111 v125 = 1#1), ∀ a x, ((![v230] : Fin 1 → IVec S16 32) a x).toNat < S24576.size a := fun i v108 v111 v125 v230 k0_hw6 k0_h1 => k0_hw6 k0_h1
def k0_off6 (i : grid0.Coords) (v108 : BitVec 32) (v111 : BitVec 32) (v115 : BitVec 32) (v117 : BitVec 32) (k0_t2 : Fin (k0_t2_loop i v108 v111).trips) (k0_t3 : Fin (k0_t3_loop v115 v117).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c1_i32_80 : BitVec 32 := 1#32
  let arg32 : BitVec 32 := Scf.iv c0_i32_78 c1_i32_80 k0_t2
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let c1_i32_89 : BitVec 32 := 1#32
  let arg33 : BitVec 32 := Scf.iv c0_i32_87 c1_i32_89 k0_t3
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk7 (i : grid0.Coords) (v108 : BitVec 32) (v111 : BitVec 32) (v125 : BitVec 1) (v250 : IVec S16 32) : Prop :=
  (∀ (k0_h1 : k0_cond1 i v108 v111 v125 = 1#1), ∀ a x, ((![v250] : Fin 1 → IVec S16 32) a x).toNat < S24576.size a)
theorem k0_idx9_inb : ∀ (i : grid0.Coords) (v108 : BitVec 32) (v111 : BitVec 32) (v125 : BitVec 1) (v250 : IVec S16 32) (k0_hw7 : k0_chk7 i v108 v111 v125 v250), ∀ (k0_h1 : k0_cond1 i v108 v111 v125 = 1#1), ∀ a x, ((![v250] : Fin 1 → IVec S16 32) a x).toNat < S24576.size a := fun i v108 v111 v125 v250 k0_hw7 k0_h1 => k0_hw7 k0_h1

def k0_chk8 (i : grid0.Coords) (v108 : BitVec 32) (v111 : BitVec 32) (v125 : BitVec 1) (v254 : IVec S16 32) : Prop :=
  (∀ (k0_h1 : k0_cond1 i v108 v111 v125 = 1#1), ∀ a x, ((![v254] : Fin 1 → IVec S16 32) a x).toNat < S24576.size a)
theorem k0_idx10_inb : ∀ (i : grid0.Coords) (v108 : BitVec 32) (v111 : BitVec 32) (v125 : BitVec 1) (v254 : IVec S16 32) (k0_hw8 : k0_chk8 i v108 v111 v125 v254), ∀ (k0_h1 : k0_cond1 i v108 v111 v125 = 1#1), ∀ a x, ((![v254] : Fin 1 → IVec S16 32) a x).toNat < S24576.size a := fun i v108 v111 v125 v254 k0_hw8 k0_h1 => k0_hw8 k0_h1

def k0_chk9 (i : grid0.Coords) (v108 : BitVec 32) (v111 : BitVec 32) (v125 : BitVec 1) (v258 : IVec S16 32) : Prop :=
  (∀ (k0_h1 : k0_cond1 i v108 v111 v125 = 1#1), ∀ a x, ((![v258] : Fin 1 → IVec S16 32) a x).toNat < S24576.size a)
theorem k0_idx11_inb : ∀ (i : grid0.Coords) (v108 : BitVec 32) (v111 : BitVec 32) (v125 : BitVec 1) (v258 : IVec S16 32) (k0_hw9 : k0_chk9 i v108 v111 v125 v258), ∀ (k0_h1 : k0_cond1 i v108 v111 v125 = 1#1), ∀ a x, ((![v258] : Fin 1 → IVec S16 32) a x).toNat < S24576.size a := fun i v108 v111 v125 v258 k0_hw9 k0_h1 => k0_hw9 k0_h1

def k0_chk10 (i : grid0.Coords) (v108 : BitVec 32) (v111 : BitVec 32) (v125 : BitVec 1) (v262 : IVec S16 32) : Prop :=
  (∀ (k0_h1 : k0_cond1 i v108 v111 v125 = 1#1), ∀ a x, ((![v262] : Fin 1 → IVec S16 32) a x).toNat < S24576.size a)
theorem k0_idx12_inb : ∀ (i : grid0.Coords) (v108 : BitVec 32) (v111 : BitVec 32) (v125 : BitVec 1) (v262 : IVec S16 32) (k0_hw10 : k0_chk10 i v108 v111 v125 v262), ∀ (k0_h1 : k0_cond1 i v108 v111 v125 = 1#1), ∀ a x, ((![v262] : Fin 1 → IVec S16 32) a x).toNat < S24576.size a := fun i v108 v111 v125 v262 k0_hw10 k0_h1 => k0_hw10 k0_h1
def k0_off7 (i : grid0.Coords) (v108 : BitVec 32) (v111 : BitVec 32) (v115 : BitVec 32) (v117 : BitVec 32) (k0_t2 : Fin (k0_t2_loop i v108 v111).trips) (k0_t3 : Fin (k0_t3_loop v115 v117).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c1_i32_80 : BitVec 32 := 1#32
  let arg32 : BitVec 32 := Scf.iv c0_i32_78 c1_i32_80 k0_t2
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let c1_i32_89 : BitVec 32 := 1#32
  let arg33 : BitVec 32 := Scf.iv c0_i32_87 c1_i32_89 k0_t3
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk11 (i : grid0.Coords) (v108 : BitVec 32) (v111 : BitVec 32) (v125 : BitVec 1) (v282 : IVec S16 32) : Prop :=
  (∀ (k0_h1 : k0_cond1 i v108 v111 v125 = 1#1), ∀ a x, ((![v282] : Fin 1 → IVec S16 32) a x).toNat < S24576.size a)
theorem k0_idx13_inb : ∀ (i : grid0.Coords) (v108 : BitVec 32) (v111 : BitVec 32) (v125 : BitVec 1) (v282 : IVec S16 32) (k0_hw11 : k0_chk11 i v108 v111 v125 v282), ∀ (k0_h1 : k0_cond1 i v108 v111 v125 = 1#1), ∀ a x, ((![v282] : Fin 1 → IVec S16 32) a x).toNat < S24576.size a := fun i v108 v111 v125 v282 k0_hw11 k0_h1 => k0_hw11 k0_h1

def k0_chk12 (i : grid0.Coords) (v108 : BitVec 32) (v111 : BitVec 32) (v125 : BitVec 1) (v286 : IVec S16 32) : Prop :=
  (∀ (k0_h1 : k0_cond1 i v108 v111 v125 = 1#1), ∀ a x, ((![v286] : Fin 1 → IVec S16 32) a x).toNat < S24576.size a)
theorem k0_idx14_inb : ∀ (i : grid0.Coords) (v108 : BitVec 32) (v111 : BitVec 32) (v125 : BitVec 1) (v286 : IVec S16 32) (k0_hw12 : k0_chk12 i v108 v111 v125 v286), ∀ (k0_h1 : k0_cond1 i v108 v111 v125 = 1#1), ∀ a x, ((![v286] : Fin 1 → IVec S16 32) a x).toNat < S24576.size a := fun i v108 v111 v125 v286 k0_hw12 k0_h1 => k0_hw12 k0_h1

def k0_chk13 (i : grid0.Coords) (v108 : BitVec 32) (v111 : BitVec 32) (v125 : BitVec 1) (v290 : IVec S16 32) : Prop :=
  (∀ (k0_h1 : k0_cond1 i v108 v111 v125 = 1#1), ∀ a x, ((![v290] : Fin 1 → IVec S16 32) a x).toNat < S24576.size a)
theorem k0_idx15_inb : ∀ (i : grid0.Coords) (v108 : BitVec 32) (v111 : BitVec 32) (v125 : BitVec 1) (v290 : IVec S16 32) (k0_hw13 : k0_chk13 i v108 v111 v125 v290), ∀ (k0_h1 : k0_cond1 i v108 v111 v125 = 1#1), ∀ a x, ((![v290] : Fin 1 → IVec S16 32) a x).toNat < S24576.size a := fun i v108 v111 v125 v290 k0_hw13 k0_h1 => k0_hw13 k0_h1

def k0_chk14 (i : grid0.Coords) (v108 : BitVec 32) (v111 : BitVec 32) (v125 : BitVec 1) (v294 : IVec S16 32) : Prop :=
  (∀ (k0_h1 : k0_cond1 i v108 v111 v125 = 1#1), ∀ a x, ((![v294] : Fin 1 → IVec S16 32) a x).toNat < S24576.size a)
theorem k0_idx16_inb : ∀ (i : grid0.Coords) (v108 : BitVec 32) (v111 : BitVec 32) (v125 : BitVec 1) (v294 : IVec S16 32) (k0_hw14 : k0_chk14 i v108 v111 v125 v294), ∀ (k0_h1 : k0_cond1 i v108 v111 v125 = 1#1), ∀ a x, ((![v294] : Fin 1 → IVec S16 32) a x).toNat < S24576.size a := fun i v108 v111 v125 v294 k0_hw14 k0_h1 => k0_hw14 k0_h1
def k0_off8 (i : grid0.Coords) (v108 : BitVec 32) (v111 : BitVec 32) (v115 : BitVec 32) (v117 : BitVec 32) (k0_t2 : Fin (k0_t2_loop i v108 v111).trips) (k0_t3 : Fin (k0_t3_loop v115 v117).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c1_i32_80 : BitVec 32 := 1#32
  let arg32 : BitVec 32 := Scf.iv c0_i32_78 c1_i32_80 k0_t2
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let c1_i32_89 : BitVec 32 := 1#32
  let arg33 : BitVec 32 := Scf.iv c0_i32_87 c1_i32_89 k0_t3
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v306 : BitVec 32 := Scalar.addi v305 v203
  let v307 : Index := Scalar.indexCast v306
  ![v307.toNat]
@[reducible] def k0_t4_loop (v115 : BitVec 32) (v117 : BitVec 32) : Scf.Loop 32 :=
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let v197 : BitVec 32 := Scalar.addi c0_i32_87 v196
  let c1_i32_90 : BitVec 32 := 1#32
  ⟨v200, v197, c1_i32_90⟩
def k0_off9 (k0_t1 : Fin k0_t1_loop.trips) (v115 : BitVec 32) (v117 : BitVec 32) (k0_t4 : Fin (k0_t4_loop v115 v117).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c224_i32_52 : BitVec 32 := 224#32
  let v123 : BitVec 32 := Scalar.muli v99 c224_i32_52
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t4
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v204 : BitVec 32 := Scalar.addi v123 v203
  let v205 : Index := Scalar.indexCast v204
  ![v205.toNat]

def k0_chk15 (i : grid0.Coords) (v108 : BitVec 32) (v111 : BitVec 32) (v125 : BitVec 1) (v218 : IVec S16 32) : Prop :=
  (∀ (k0_h1 : k0_cond1 i v108 v111 v125 = 1#1), ∀ a x, ((![v218] : Fin 1 → IVec S16 32) a x).toNat < S24576.size a)
theorem k0_idx17_inb : ∀ (i : grid0.Coords) (v108 : BitVec 32) (v111 : BitVec 32) (v125 : BitVec 1) (v218 : IVec S16 32) (k0_hw15 : k0_chk15 i v108 v111 v125 v218), ∀ (k0_h1 : k0_cond1 i v108 v111 v125 = 1#1), ∀ a x, ((![v218] : Fin 1 → IVec S16 32) a x).toNat < S24576.size a := fun i v108 v111 v125 v218 k0_hw15 k0_h1 => k0_hw15 k0_h1

def k0_chk16 (i : grid0.Coords) (v108 : BitVec 32) (v111 : BitVec 32) (v125 : BitVec 1) (v222 : IVec S16 32) : Prop :=
  (∀ (k0_h1 : k0_cond1 i v108 v111 v125 = 1#1), ∀ a x, ((![v222] : Fin 1 → IVec S16 32) a x).toNat < S24576.size a)
theorem k0_idx18_inb : ∀ (i : grid0.Coords) (v108 : BitVec 32) (v111 : BitVec 32) (v125 : BitVec 1) (v222 : IVec S16 32) (k0_hw16 : k0_chk16 i v108 v111 v125 v222), ∀ (k0_h1 : k0_cond1 i v108 v111 v125 = 1#1), ∀ a x, ((![v222] : Fin 1 → IVec S16 32) a x).toNat < S24576.size a := fun i v108 v111 v125 v222 k0_hw16 k0_h1 => k0_hw16 k0_h1

def k0_chk17 (i : grid0.Coords) (v108 : BitVec 32) (v111 : BitVec 32) (v125 : BitVec 1) (v226 : IVec S16 32) : Prop :=
  (∀ (k0_h1 : k0_cond1 i v108 v111 v125 = 1#1), ∀ a x, ((![v226] : Fin 1 → IVec S16 32) a x).toNat < S24576.size a)
theorem k0_idx19_inb : ∀ (i : grid0.Coords) (v108 : BitVec 32) (v111 : BitVec 32) (v125 : BitVec 1) (v226 : IVec S16 32) (k0_hw17 : k0_chk17 i v108 v111 v125 v226), ∀ (k0_h1 : k0_cond1 i v108 v111 v125 = 1#1), ∀ a x, ((![v226] : Fin 1 → IVec S16 32) a x).toNat < S24576.size a := fun i v108 v111 v125 v226 k0_hw17 k0_h1 => k0_hw17 k0_h1

def k0_chk18 (i : grid0.Coords) (v108 : BitVec 32) (v111 : BitVec 32) (v125 : BitVec 1) (v230 : IVec S16 32) : Prop :=
  (∀ (k0_h1 : k0_cond1 i v108 v111 v125 = 1#1), ∀ a x, ((![v230] : Fin 1 → IVec S16 32) a x).toNat < S24576.size a)
theorem k0_idx20_inb : ∀ (i : grid0.Coords) (v108 : BitVec 32) (v111 : BitVec 32) (v125 : BitVec 1) (v230 : IVec S16 32) (k0_hw18 : k0_chk18 i v108 v111 v125 v230), ∀ (k0_h1 : k0_cond1 i v108 v111 v125 = 1#1), ∀ a x, ((![v230] : Fin 1 → IVec S16 32) a x).toNat < S24576.size a := fun i v108 v111 v125 v230 k0_hw18 k0_h1 => k0_hw18 k0_h1
def k0_off10 (i : grid0.Coords) (v108 : BitVec 32) (v111 : BitVec 32) (v115 : BitVec 32) (v117 : BitVec 32) (k0_t2 : Fin (k0_t2_loop i v108 v111).trips) (k0_t4 : Fin (k0_t4_loop v115 v117).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c1_i32_80 : BitVec 32 := 1#32
  let arg32 : BitVec 32 := Scf.iv c0_i32_78 c1_i32_80 k0_t2
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t4
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk19 (i : grid0.Coords) (v108 : BitVec 32) (v111 : BitVec 32) (v125 : BitVec 1) (v250 : IVec S16 32) : Prop :=
  (∀ (k0_h1 : k0_cond1 i v108 v111 v125 = 1#1), ∀ a x, ((![v250] : Fin 1 → IVec S16 32) a x).toNat < S24576.size a)
theorem k0_idx21_inb : ∀ (i : grid0.Coords) (v108 : BitVec 32) (v111 : BitVec 32) (v125 : BitVec 1) (v250 : IVec S16 32) (k0_hw19 : k0_chk19 i v108 v111 v125 v250), ∀ (k0_h1 : k0_cond1 i v108 v111 v125 = 1#1), ∀ a x, ((![v250] : Fin 1 → IVec S16 32) a x).toNat < S24576.size a := fun i v108 v111 v125 v250 k0_hw19 k0_h1 => k0_hw19 k0_h1

def k0_chk20 (i : grid0.Coords) (v108 : BitVec 32) (v111 : BitVec 32) (v125 : BitVec 1) (v254 : IVec S16 32) : Prop :=
  (∀ (k0_h1 : k0_cond1 i v108 v111 v125 = 1#1), ∀ a x, ((![v254] : Fin 1 → IVec S16 32) a x).toNat < S24576.size a)
theorem k0_idx22_inb : ∀ (i : grid0.Coords) (v108 : BitVec 32) (v111 : BitVec 32) (v125 : BitVec 1) (v254 : IVec S16 32) (k0_hw20 : k0_chk20 i v108 v111 v125 v254), ∀ (k0_h1 : k0_cond1 i v108 v111 v125 = 1#1), ∀ a x, ((![v254] : Fin 1 → IVec S16 32) a x).toNat < S24576.size a := fun i v108 v111 v125 v254 k0_hw20 k0_h1 => k0_hw20 k0_h1

def k0_chk21 (i : grid0.Coords) (v108 : BitVec 32) (v111 : BitVec 32) (v125 : BitVec 1) (v258 : IVec S16 32) : Prop :=
  (∀ (k0_h1 : k0_cond1 i v108 v111 v125 = 1#1), ∀ a x, ((![v258] : Fin 1 → IVec S16 32) a x).toNat < S24576.size a)
theorem k0_idx23_inb : ∀ (i : grid0.Coords) (v108 : BitVec 32) (v111 : BitVec 32) (v125 : BitVec 1) (v258 : IVec S16 32) (k0_hw21 : k0_chk21 i v108 v111 v125 v258), ∀ (k0_h1 : k0_cond1 i v108 v111 v125 = 1#1), ∀ a x, ((![v258] : Fin 1 → IVec S16 32) a x).toNat < S24576.size a := fun i v108 v111 v125 v258 k0_hw21 k0_h1 => k0_hw21 k0_h1

def k0_chk22 (i : grid0.Coords) (v108 : BitVec 32) (v111 : BitVec 32) (v125 : BitVec 1) (v262 : IVec S16 32) : Prop :=
  (∀ (k0_h1 : k0_cond1 i v108 v111 v125 = 1#1), ∀ a x, ((![v262] : Fin 1 → IVec S16 32) a x).toNat < S24576.size a)
theorem k0_idx24_inb : ∀ (i : grid0.Coords) (v108 : BitVec 32) (v111 : BitVec 32) (v125 : BitVec 1) (v262 : IVec S16 32) (k0_hw22 : k0_chk22 i v108 v111 v125 v262), ∀ (k0_h1 : k0_cond1 i v108 v111 v125 = 1#1), ∀ a x, ((![v262] : Fin 1 → IVec S16 32) a x).toNat < S24576.size a := fun i v108 v111 v125 v262 k0_hw22 k0_h1 => k0_hw22 k0_h1
def k0_off11 (i : grid0.Coords) (v108 : BitVec 32) (v111 : BitVec 32) (v115 : BitVec 32) (v117 : BitVec 32) (k0_t2 : Fin (k0_t2_loop i v108 v111).trips) (k0_t4 : Fin (k0_t4_loop v115 v117).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c1_i32_80 : BitVec 32 := 1#32
  let arg32 : BitVec 32 := Scf.iv c0_i32_78 c1_i32_80 k0_t2
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t4
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk23 (i : grid0.Coords) (v108 : BitVec 32) (v111 : BitVec 32) (v125 : BitVec 1) (v282 : IVec S16 32) : Prop :=
  (∀ (k0_h1 : k0_cond1 i v108 v111 v125 = 1#1), ∀ a x, ((![v282] : Fin 1 → IVec S16 32) a x).toNat < S24576.size a)
theorem k0_idx25_inb : ∀ (i : grid0.Coords) (v108 : BitVec 32) (v111 : BitVec 32) (v125 : BitVec 1) (v282 : IVec S16 32) (k0_hw23 : k0_chk23 i v108 v111 v125 v282), ∀ (k0_h1 : k0_cond1 i v108 v111 v125 = 1#1), ∀ a x, ((![v282] : Fin 1 → IVec S16 32) a x).toNat < S24576.size a := fun i v108 v111 v125 v282 k0_hw23 k0_h1 => k0_hw23 k0_h1

def k0_chk24 (i : grid0.Coords) (v108 : BitVec 32) (v111 : BitVec 32) (v125 : BitVec 1) (v286 : IVec S16 32) : Prop :=
  (∀ (k0_h1 : k0_cond1 i v108 v111 v125 = 1#1), ∀ a x, ((![v286] : Fin 1 → IVec S16 32) a x).toNat < S24576.size a)
theorem k0_idx26_inb : ∀ (i : grid0.Coords) (v108 : BitVec 32) (v111 : BitVec 32) (v125 : BitVec 1) (v286 : IVec S16 32) (k0_hw24 : k0_chk24 i v108 v111 v125 v286), ∀ (k0_h1 : k0_cond1 i v108 v111 v125 = 1#1), ∀ a x, ((![v286] : Fin 1 → IVec S16 32) a x).toNat < S24576.size a := fun i v108 v111 v125 v286 k0_hw24 k0_h1 => k0_hw24 k0_h1

def k0_chk25 (i : grid0.Coords) (v108 : BitVec 32) (v111 : BitVec 32) (v125 : BitVec 1) (v290 : IVec S16 32) : Prop :=
  (∀ (k0_h1 : k0_cond1 i v108 v111 v125 = 1#1), ∀ a x, ((![v290] : Fin 1 → IVec S16 32) a x).toNat < S24576.size a)
theorem k0_idx27_inb : ∀ (i : grid0.Coords) (v108 : BitVec 32) (v111 : BitVec 32) (v125 : BitVec 1) (v290 : IVec S16 32) (k0_hw25 : k0_chk25 i v108 v111 v125 v290), ∀ (k0_h1 : k0_cond1 i v108 v111 v125 = 1#1), ∀ a x, ((![v290] : Fin 1 → IVec S16 32) a x).toNat < S24576.size a := fun i v108 v111 v125 v290 k0_hw25 k0_h1 => k0_hw25 k0_h1

def k0_chk26 (i : grid0.Coords) (v108 : BitVec 32) (v111 : BitVec 32) (v125 : BitVec 1) (v294 : IVec S16 32) : Prop :=
  (∀ (k0_h1 : k0_cond1 i v108 v111 v125 = 1#1), ∀ a x, ((![v294] : Fin 1 → IVec S16 32) a x).toNat < S24576.size a)
theorem k0_idx28_inb : ∀ (i : grid0.Coords) (v108 : BitVec 32) (v111 : BitVec 32) (v125 : BitVec 1) (v294 : IVec S16 32) (k0_hw26 : k0_chk26 i v108 v111 v125 v294), ∀ (k0_h1 : k0_cond1 i v108 v111 v125 = 1#1), ∀ a x, ((![v294] : Fin 1 → IVec S16 32) a x).toNat < S24576.size a := fun i v108 v111 v125 v294 k0_hw26 k0_h1 => k0_hw26 k0_h1
def k0_off12 (i : grid0.Coords) (v108 : BitVec 32) (v111 : BitVec 32) (v115 : BitVec 32) (v117 : BitVec 32) (k0_t2 : Fin (k0_t2_loop i v108 v111).trips) (k0_t4 : Fin (k0_t4_loop v115 v117).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c1_i32_80 : BitVec 32 := 1#32
  let arg32 : BitVec 32 := Scf.iv c0_i32_78 c1_i32_80 k0_t2
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t4
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v306 : BitVec 32 := Scalar.addi v305 v203
  let v307 : Index := Scalar.indexCast v306
  ![v307.toNat]
@[reducible] def k0_t5_loop (i : grid0.Coords) (v108 : BitVec 32) (v111 : BitVec 32) : Scf.Loop 32 :=
  let c0_i32_78 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_50 : BitVec 32 := 28#32
  let v112 : BitVec 32 := Scalar.addi v29 c28_i32_50
  let v113 : BitVec 32 := Scalar.minsi v111 v112
  let v109 : BitVec 32 := Scalar.maxsi v108 v29
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let v174 : BitVec 32 := Scalar.addi c0_i32_78 v173
  let c1_i32_81 : BitVec 32 := 1#32
  ⟨v177, v174, c1_i32_81⟩

def k0_chk27 (i : grid0.Coords) (v108 : BitVec 32) (v111 : BitVec 32) (v125 : BitVec 1) (v181 : IVec S16 32) : Prop :=
  (∀ (k0_h1 : k0_cond1 i v108 v111 v125 = 1#1), ∀ a x, ((![v181] : Fin 1 → IVec S16 32) a x).toNat < S7168.size a) ∧
  (∀ (k0_h1 : k0_cond1 i v108 v111 v125 = 1#1), ∀ a x, ((![v181] : Fin 1 → IVec S16 32) a x).toNat < S7168.size a) ∧
  (∀ (k0_h1 : k0_cond1 i v108 v111 v125 = 1#1), ∀ a x, ((![v181] : Fin 1 → IVec S16 32) a x).toNat < S7168.size a) ∧
  (∀ (k0_h1 : k0_cond1 i v108 v111 v125 = 1#1), ∀ a x, ((![v181] : Fin 1 → IVec S16 32) a x).toNat < S7168.size a)
theorem k0_idx29_inb : ∀ (i : grid0.Coords) (v108 : BitVec 32) (v111 : BitVec 32) (v125 : BitVec 1) (v181 : IVec S16 32) (k0_hw27 : k0_chk27 i v108 v111 v125 v181), ∀ (k0_h1 : k0_cond1 i v108 v111 v125 = 1#1), ∀ a x, ((![v181] : Fin 1 → IVec S16 32) a x).toNat < S7168.size a := fun i v108 v111 v125 v181 k0_hw27 k0_h1 => k0_hw27.1 k0_h1
theorem k0_idx30_inb : ∀ (i : grid0.Coords) (v108 : BitVec 32) (v111 : BitVec 32) (v125 : BitVec 1) (v181 : IVec S16 32) (k0_hw27 : k0_chk27 i v108 v111 v125 v181), ∀ (k0_h1 : k0_cond1 i v108 v111 v125 = 1#1), ∀ a x, ((![v181] : Fin 1 → IVec S16 32) a x).toNat < S7168.size a := fun i v108 v111 v125 v181 k0_hw27 k0_h1 => k0_hw27.2.1 k0_h1
theorem k0_idx31_inb : ∀ (i : grid0.Coords) (v108 : BitVec 32) (v111 : BitVec 32) (v125 : BitVec 1) (v181 : IVec S16 32) (k0_hw27 : k0_chk27 i v108 v111 v125 v181), ∀ (k0_h1 : k0_cond1 i v108 v111 v125 = 1#1), ∀ a x, ((![v181] : Fin 1 → IVec S16 32) a x).toNat < S7168.size a := fun i v108 v111 v125 v181 k0_hw27 k0_h1 => k0_hw27.2.2.1 k0_h1
theorem k0_idx32_inb : ∀ (i : grid0.Coords) (v108 : BitVec 32) (v111 : BitVec 32) (v125 : BitVec 1) (v181 : IVec S16 32) (k0_hw27 : k0_chk27 i v108 v111 v125 v181), ∀ (k0_h1 : k0_cond1 i v108 v111 v125 = 1#1), ∀ a x, ((![v181] : Fin 1 → IVec S16 32) a x).toNat < S7168.size a := fun i v108 v111 v125 v181 k0_hw27 k0_h1 => k0_hw27.2.2.2 k0_h1
@[reducible] def k0_t6_loop (v115 : BitVec 32) (v117 : BitVec 32) : Scf.Loop 32 :=
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_89 : BitVec 32 := 1#32
  ⟨c0_i32_87, v200, c1_i32_89⟩
def k0_off13 (k0_t1 : Fin k0_t1_loop.trips) (v115 : BitVec 32) (v117 : BitVec 32) (k0_t6 : Fin (k0_t6_loop v115 v117).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c224_i32_52 : BitVec 32 := 224#32
  let v123 : BitVec 32 := Scalar.muli v99 c224_i32_52
  let c0_i32_87 : BitVec 32 := 0#32
  let c1_i32_89 : BitVec 32 := 1#32
  let arg33 : BitVec 32 := Scf.iv c0_i32_87 c1_i32_89 k0_t6
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v204 : BitVec 32 := Scalar.addi v123 v203
  let v205 : Index := Scalar.indexCast v204
  ![v205.toNat]

def k0_chk28 (i : grid0.Coords) (v108 : BitVec 32) (v111 : BitVec 32) (v125 : BitVec 1) (v218 : IVec S16 32) : Prop :=
  (∀ (k0_h1 : k0_cond1 i v108 v111 v125 = 1#1), ∀ a x, ((![v218] : Fin 1 → IVec S16 32) a x).toNat < S24576.size a)
theorem k0_idx33_inb : ∀ (i : grid0.Coords) (v108 : BitVec 32) (v111 : BitVec 32) (v125 : BitVec 1) (v218 : IVec S16 32) (k0_hw28 : k0_chk28 i v108 v111 v125 v218), ∀ (k0_h1 : k0_cond1 i v108 v111 v125 = 1#1), ∀ a x, ((![v218] : Fin 1 → IVec S16 32) a x).toNat < S24576.size a := fun i v108 v111 v125 v218 k0_hw28 k0_h1 => k0_hw28 k0_h1

def k0_chk29 (i : grid0.Coords) (v108 : BitVec 32) (v111 : BitVec 32) (v125 : BitVec 1) (v222 : IVec S16 32) : Prop :=
  (∀ (k0_h1 : k0_cond1 i v108 v111 v125 = 1#1), ∀ a x, ((![v222] : Fin 1 → IVec S16 32) a x).toNat < S24576.size a)
theorem k0_idx34_inb : ∀ (i : grid0.Coords) (v108 : BitVec 32) (v111 : BitVec 32) (v125 : BitVec 1) (v222 : IVec S16 32) (k0_hw29 : k0_chk29 i v108 v111 v125 v222), ∀ (k0_h1 : k0_cond1 i v108 v111 v125 = 1#1), ∀ a x, ((![v222] : Fin 1 → IVec S16 32) a x).toNat < S24576.size a := fun i v108 v111 v125 v222 k0_hw29 k0_h1 => k0_hw29 k0_h1

def k0_chk30 (i : grid0.Coords) (v108 : BitVec 32) (v111 : BitVec 32) (v125 : BitVec 1) (v226 : IVec S16 32) : Prop :=
  (∀ (k0_h1 : k0_cond1 i v108 v111 v125 = 1#1), ∀ a x, ((![v226] : Fin 1 → IVec S16 32) a x).toNat < S24576.size a)
theorem k0_idx35_inb : ∀ (i : grid0.Coords) (v108 : BitVec 32) (v111 : BitVec 32) (v125 : BitVec 1) (v226 : IVec S16 32) (k0_hw30 : k0_chk30 i v108 v111 v125 v226), ∀ (k0_h1 : k0_cond1 i v108 v111 v125 = 1#1), ∀ a x, ((![v226] : Fin 1 → IVec S16 32) a x).toNat < S24576.size a := fun i v108 v111 v125 v226 k0_hw30 k0_h1 => k0_hw30 k0_h1

def k0_chk31 (i : grid0.Coords) (v108 : BitVec 32) (v111 : BitVec 32) (v125 : BitVec 1) (v230 : IVec S16 32) : Prop :=
  (∀ (k0_h1 : k0_cond1 i v108 v111 v125 = 1#1), ∀ a x, ((![v230] : Fin 1 → IVec S16 32) a x).toNat < S24576.size a)
theorem k0_idx36_inb : ∀ (i : grid0.Coords) (v108 : BitVec 32) (v111 : BitVec 32) (v125 : BitVec 1) (v230 : IVec S16 32) (k0_hw31 : k0_chk31 i v108 v111 v125 v230), ∀ (k0_h1 : k0_cond1 i v108 v111 v125 = 1#1), ∀ a x, ((![v230] : Fin 1 → IVec S16 32) a x).toNat < S24576.size a := fun i v108 v111 v125 v230 k0_hw31 k0_h1 => k0_hw31 k0_h1
def k0_off14 (i : grid0.Coords) (v108 : BitVec 32) (v111 : BitVec 32) (v115 : BitVec 32) (v117 : BitVec 32) (k0_t5 : Fin (k0_t5_loop i v108 v111).trips) (k0_t6 : Fin (k0_t6_loop v115 v117).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c28_i32_50 : BitVec 32 := 28#32
  let v112 : BitVec 32 := Scalar.addi v29 c28_i32_50
  let v113 : BitVec 32 := Scalar.minsi v111 v112
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t5
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let c1_i32_89 : BitVec 32 := 1#32
  let arg33 : BitVec 32 := Scf.iv c0_i32_87 c1_i32_89 k0_t6
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk32 (i : grid0.Coords) (v108 : BitVec 32) (v111 : BitVec 32) (v125 : BitVec 1) (v250 : IVec S16 32) : Prop :=
  (∀ (k0_h1 : k0_cond1 i v108 v111 v125 = 1#1), ∀ a x, ((![v250] : Fin 1 → IVec S16 32) a x).toNat < S24576.size a)
theorem k0_idx37_inb : ∀ (i : grid0.Coords) (v108 : BitVec 32) (v111 : BitVec 32) (v125 : BitVec 1) (v250 : IVec S16 32) (k0_hw32 : k0_chk32 i v108 v111 v125 v250), ∀ (k0_h1 : k0_cond1 i v108 v111 v125 = 1#1), ∀ a x, ((![v250] : Fin 1 → IVec S16 32) a x).toNat < S24576.size a := fun i v108 v111 v125 v250 k0_hw32 k0_h1 => k0_hw32 k0_h1

def k0_chk33 (i : grid0.Coords) (v108 : BitVec 32) (v111 : BitVec 32) (v125 : BitVec 1) (v254 : IVec S16 32) : Prop :=
  (∀ (k0_h1 : k0_cond1 i v108 v111 v125 = 1#1), ∀ a x, ((![v254] : Fin 1 → IVec S16 32) a x).toNat < S24576.size a)
theorem k0_idx38_inb : ∀ (i : grid0.Coords) (v108 : BitVec 32) (v111 : BitVec 32) (v125 : BitVec 1) (v254 : IVec S16 32) (k0_hw33 : k0_chk33 i v108 v111 v125 v254), ∀ (k0_h1 : k0_cond1 i v108 v111 v125 = 1#1), ∀ a x, ((![v254] : Fin 1 → IVec S16 32) a x).toNat < S24576.size a := fun i v108 v111 v125 v254 k0_hw33 k0_h1 => k0_hw33 k0_h1

def k0_chk34 (i : grid0.Coords) (v108 : BitVec 32) (v111 : BitVec 32) (v125 : BitVec 1) (v258 : IVec S16 32) : Prop :=
  (∀ (k0_h1 : k0_cond1 i v108 v111 v125 = 1#1), ∀ a x, ((![v258] : Fin 1 → IVec S16 32) a x).toNat < S24576.size a)
theorem k0_idx39_inb : ∀ (i : grid0.Coords) (v108 : BitVec 32) (v111 : BitVec 32) (v125 : BitVec 1) (v258 : IVec S16 32) (k0_hw34 : k0_chk34 i v108 v111 v125 v258), ∀ (k0_h1 : k0_cond1 i v108 v111 v125 = 1#1), ∀ a x, ((![v258] : Fin 1 → IVec S16 32) a x).toNat < S24576.size a := fun i v108 v111 v125 v258 k0_hw34 k0_h1 => k0_hw34 k0_h1

def k0_chk35 (i : grid0.Coords) (v108 : BitVec 32) (v111 : BitVec 32) (v125 : BitVec 1) (v262 : IVec S16 32) : Prop :=
  (∀ (k0_h1 : k0_cond1 i v108 v111 v125 = 1#1), ∀ a x, ((![v262] : Fin 1 → IVec S16 32) a x).toNat < S24576.size a)
theorem k0_idx40_inb : ∀ (i : grid0.Coords) (v108 : BitVec 32) (v111 : BitVec 32) (v125 : BitVec 1) (v262 : IVec S16 32) (k0_hw35 : k0_chk35 i v108 v111 v125 v262), ∀ (k0_h1 : k0_cond1 i v108 v111 v125 = 1#1), ∀ a x, ((![v262] : Fin 1 → IVec S16 32) a x).toNat < S24576.size a := fun i v108 v111 v125 v262 k0_hw35 k0_h1 => k0_hw35 k0_h1
def k0_off15 (i : grid0.Coords) (v108 : BitVec 32) (v111 : BitVec 32) (v115 : BitVec 32) (v117 : BitVec 32) (k0_t5 : Fin (k0_t5_loop i v108 v111).trips) (k0_t6 : Fin (k0_t6_loop v115 v117).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c28_i32_50 : BitVec 32 := 28#32
  let v112 : BitVec 32 := Scalar.addi v29 c28_i32_50
  let v113 : BitVec 32 := Scalar.minsi v111 v112
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t5
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let c1_i32_89 : BitVec 32 := 1#32
  let arg33 : BitVec 32 := Scf.iv c0_i32_87 c1_i32_89 k0_t6
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk36 (i : grid0.Coords) (v108 : BitVec 32) (v111 : BitVec 32) (v125 : BitVec 1) (v282 : IVec S16 32) : Prop :=
  (∀ (k0_h1 : k0_cond1 i v108 v111 v125 = 1#1), ∀ a x, ((![v282] : Fin 1 → IVec S16 32) a x).toNat < S24576.size a)
theorem k0_idx41_inb : ∀ (i : grid0.Coords) (v108 : BitVec 32) (v111 : BitVec 32) (v125 : BitVec 1) (v282 : IVec S16 32) (k0_hw36 : k0_chk36 i v108 v111 v125 v282), ∀ (k0_h1 : k0_cond1 i v108 v111 v125 = 1#1), ∀ a x, ((![v282] : Fin 1 → IVec S16 32) a x).toNat < S24576.size a := fun i v108 v111 v125 v282 k0_hw36 k0_h1 => k0_hw36 k0_h1

def k0_chk37 (i : grid0.Coords) (v108 : BitVec 32) (v111 : BitVec 32) (v125 : BitVec 1) (v286 : IVec S16 32) : Prop :=
  (∀ (k0_h1 : k0_cond1 i v108 v111 v125 = 1#1), ∀ a x, ((![v286] : Fin 1 → IVec S16 32) a x).toNat < S24576.size a)
theorem k0_idx42_inb : ∀ (i : grid0.Coords) (v108 : BitVec 32) (v111 : BitVec 32) (v125 : BitVec 1) (v286 : IVec S16 32) (k0_hw37 : k0_chk37 i v108 v111 v125 v286), ∀ (k0_h1 : k0_cond1 i v108 v111 v125 = 1#1), ∀ a x, ((![v286] : Fin 1 → IVec S16 32) a x).toNat < S24576.size a := fun i v108 v111 v125 v286 k0_hw37 k0_h1 => k0_hw37 k0_h1

def k0_chk38 (i : grid0.Coords) (v108 : BitVec 32) (v111 : BitVec 32) (v125 : BitVec 1) (v290 : IVec S16 32) : Prop :=
  (∀ (k0_h1 : k0_cond1 i v108 v111 v125 = 1#1), ∀ a x, ((![v290] : Fin 1 → IVec S16 32) a x).toNat < S24576.size a)
theorem k0_idx43_inb : ∀ (i : grid0.Coords) (v108 : BitVec 32) (v111 : BitVec 32) (v125 : BitVec 1) (v290 : IVec S16 32) (k0_hw38 : k0_chk38 i v108 v111 v125 v290), ∀ (k0_h1 : k0_cond1 i v108 v111 v125 = 1#1), ∀ a x, ((![v290] : Fin 1 → IVec S16 32) a x).toNat < S24576.size a := fun i v108 v111 v125 v290 k0_hw38 k0_h1 => k0_hw38 k0_h1

def k0_chk39 (i : grid0.Coords) (v108 : BitVec 32) (v111 : BitVec 32) (v125 : BitVec 1) (v294 : IVec S16 32) : Prop :=
  (∀ (k0_h1 : k0_cond1 i v108 v111 v125 = 1#1), ∀ a x, ((![v294] : Fin 1 → IVec S16 32) a x).toNat < S24576.size a)
theorem k0_idx44_inb : ∀ (i : grid0.Coords) (v108 : BitVec 32) (v111 : BitVec 32) (v125 : BitVec 1) (v294 : IVec S16 32) (k0_hw39 : k0_chk39 i v108 v111 v125 v294), ∀ (k0_h1 : k0_cond1 i v108 v111 v125 = 1#1), ∀ a x, ((![v294] : Fin 1 → IVec S16 32) a x).toNat < S24576.size a := fun i v108 v111 v125 v294 k0_hw39 k0_h1 => k0_hw39 k0_h1
def k0_off16 (i : grid0.Coords) (v108 : BitVec 32) (v111 : BitVec 32) (v115 : BitVec 32) (v117 : BitVec 32) (k0_t5 : Fin (k0_t5_loop i v108 v111).trips) (k0_t6 : Fin (k0_t6_loop v115 v117).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c28_i32_50 : BitVec 32 := 28#32
  let v112 : BitVec 32 := Scalar.addi v29 c28_i32_50
  let v113 : BitVec 32 := Scalar.minsi v111 v112
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t5
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let c1_i32_89 : BitVec 32 := 1#32
  let arg33 : BitVec 32 := Scf.iv c0_i32_87 c1_i32_89 k0_t6
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v306 : BitVec 32 := Scalar.addi v305 v203
  let v307 : Index := Scalar.indexCast v306
  ![v307.toNat]
@[reducible] def k0_t7_loop (v115 : BitVec 32) (v117 : BitVec 32) : Scf.Loop 32 :=
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let v197 : BitVec 32 := Scalar.addi c0_i32_87 v196
  let c1_i32_90 : BitVec 32 := 1#32
  ⟨v200, v197, c1_i32_90⟩
def k0_off17 (k0_t1 : Fin k0_t1_loop.trips) (v115 : BitVec 32) (v117 : BitVec 32) (k0_t7 : Fin (k0_t7_loop v115 v117).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c224_i32_52 : BitVec 32 := 224#32
  let v123 : BitVec 32 := Scalar.muli v99 c224_i32_52
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t7
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v204 : BitVec 32 := Scalar.addi v123 v203
  let v205 : Index := Scalar.indexCast v204
  ![v205.toNat]

def k0_chk40 (i : grid0.Coords) (v108 : BitVec 32) (v111 : BitVec 32) (v125 : BitVec 1) (v218 : IVec S16 32) : Prop :=
  (∀ (k0_h1 : k0_cond1 i v108 v111 v125 = 1#1), ∀ a x, ((![v218] : Fin 1 → IVec S16 32) a x).toNat < S24576.size a)
theorem k0_idx45_inb : ∀ (i : grid0.Coords) (v108 : BitVec 32) (v111 : BitVec 32) (v125 : BitVec 1) (v218 : IVec S16 32) (k0_hw40 : k0_chk40 i v108 v111 v125 v218), ∀ (k0_h1 : k0_cond1 i v108 v111 v125 = 1#1), ∀ a x, ((![v218] : Fin 1 → IVec S16 32) a x).toNat < S24576.size a := fun i v108 v111 v125 v218 k0_hw40 k0_h1 => k0_hw40 k0_h1

def k0_chk41 (i : grid0.Coords) (v108 : BitVec 32) (v111 : BitVec 32) (v125 : BitVec 1) (v222 : IVec S16 32) : Prop :=
  (∀ (k0_h1 : k0_cond1 i v108 v111 v125 = 1#1), ∀ a x, ((![v222] : Fin 1 → IVec S16 32) a x).toNat < S24576.size a)
theorem k0_idx46_inb : ∀ (i : grid0.Coords) (v108 : BitVec 32) (v111 : BitVec 32) (v125 : BitVec 1) (v222 : IVec S16 32) (k0_hw41 : k0_chk41 i v108 v111 v125 v222), ∀ (k0_h1 : k0_cond1 i v108 v111 v125 = 1#1), ∀ a x, ((![v222] : Fin 1 → IVec S16 32) a x).toNat < S24576.size a := fun i v108 v111 v125 v222 k0_hw41 k0_h1 => k0_hw41 k0_h1

def k0_chk42 (i : grid0.Coords) (v108 : BitVec 32) (v111 : BitVec 32) (v125 : BitVec 1) (v226 : IVec S16 32) : Prop :=
  (∀ (k0_h1 : k0_cond1 i v108 v111 v125 = 1#1), ∀ a x, ((![v226] : Fin 1 → IVec S16 32) a x).toNat < S24576.size a)
theorem k0_idx47_inb : ∀ (i : grid0.Coords) (v108 : BitVec 32) (v111 : BitVec 32) (v125 : BitVec 1) (v226 : IVec S16 32) (k0_hw42 : k0_chk42 i v108 v111 v125 v226), ∀ (k0_h1 : k0_cond1 i v108 v111 v125 = 1#1), ∀ a x, ((![v226] : Fin 1 → IVec S16 32) a x).toNat < S24576.size a := fun i v108 v111 v125 v226 k0_hw42 k0_h1 => k0_hw42 k0_h1

def k0_chk43 (i : grid0.Coords) (v108 : BitVec 32) (v111 : BitVec 32) (v125 : BitVec 1) (v230 : IVec S16 32) : Prop :=
  (∀ (k0_h1 : k0_cond1 i v108 v111 v125 = 1#1), ∀ a x, ((![v230] : Fin 1 → IVec S16 32) a x).toNat < S24576.size a)
theorem k0_idx48_inb : ∀ (i : grid0.Coords) (v108 : BitVec 32) (v111 : BitVec 32) (v125 : BitVec 1) (v230 : IVec S16 32) (k0_hw43 : k0_chk43 i v108 v111 v125 v230), ∀ (k0_h1 : k0_cond1 i v108 v111 v125 = 1#1), ∀ a x, ((![v230] : Fin 1 → IVec S16 32) a x).toNat < S24576.size a := fun i v108 v111 v125 v230 k0_hw43 k0_h1 => k0_hw43 k0_h1
def k0_off18 (i : grid0.Coords) (v108 : BitVec 32) (v111 : BitVec 32) (v115 : BitVec 32) (v117 : BitVec 32) (k0_t5 : Fin (k0_t5_loop i v108 v111).trips) (k0_t7 : Fin (k0_t7_loop v115 v117).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c28_i32_50 : BitVec 32 := 28#32
  let v112 : BitVec 32 := Scalar.addi v29 c28_i32_50
  let v113 : BitVec 32 := Scalar.minsi v111 v112
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t5
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t7
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk44 (i : grid0.Coords) (v108 : BitVec 32) (v111 : BitVec 32) (v125 : BitVec 1) (v250 : IVec S16 32) : Prop :=
  (∀ (k0_h1 : k0_cond1 i v108 v111 v125 = 1#1), ∀ a x, ((![v250] : Fin 1 → IVec S16 32) a x).toNat < S24576.size a)
theorem k0_idx49_inb : ∀ (i : grid0.Coords) (v108 : BitVec 32) (v111 : BitVec 32) (v125 : BitVec 1) (v250 : IVec S16 32) (k0_hw44 : k0_chk44 i v108 v111 v125 v250), ∀ (k0_h1 : k0_cond1 i v108 v111 v125 = 1#1), ∀ a x, ((![v250] : Fin 1 → IVec S16 32) a x).toNat < S24576.size a := fun i v108 v111 v125 v250 k0_hw44 k0_h1 => k0_hw44 k0_h1

def k0_chk45 (i : grid0.Coords) (v108 : BitVec 32) (v111 : BitVec 32) (v125 : BitVec 1) (v254 : IVec S16 32) : Prop :=
  (∀ (k0_h1 : k0_cond1 i v108 v111 v125 = 1#1), ∀ a x, ((![v254] : Fin 1 → IVec S16 32) a x).toNat < S24576.size a)
theorem k0_idx50_inb : ∀ (i : grid0.Coords) (v108 : BitVec 32) (v111 : BitVec 32) (v125 : BitVec 1) (v254 : IVec S16 32) (k0_hw45 : k0_chk45 i v108 v111 v125 v254), ∀ (k0_h1 : k0_cond1 i v108 v111 v125 = 1#1), ∀ a x, ((![v254] : Fin 1 → IVec S16 32) a x).toNat < S24576.size a := fun i v108 v111 v125 v254 k0_hw45 k0_h1 => k0_hw45 k0_h1

def k0_chk46 (i : grid0.Coords) (v108 : BitVec 32) (v111 : BitVec 32) (v125 : BitVec 1) (v258 : IVec S16 32) : Prop :=
  (∀ (k0_h1 : k0_cond1 i v108 v111 v125 = 1#1), ∀ a x, ((![v258] : Fin 1 → IVec S16 32) a x).toNat < S24576.size a)
theorem k0_idx51_inb : ∀ (i : grid0.Coords) (v108 : BitVec 32) (v111 : BitVec 32) (v125 : BitVec 1) (v258 : IVec S16 32) (k0_hw46 : k0_chk46 i v108 v111 v125 v258), ∀ (k0_h1 : k0_cond1 i v108 v111 v125 = 1#1), ∀ a x, ((![v258] : Fin 1 → IVec S16 32) a x).toNat < S24576.size a := fun i v108 v111 v125 v258 k0_hw46 k0_h1 => k0_hw46 k0_h1

def k0_chk47 (i : grid0.Coords) (v108 : BitVec 32) (v111 : BitVec 32) (v125 : BitVec 1) (v262 : IVec S16 32) : Prop :=
  (∀ (k0_h1 : k0_cond1 i v108 v111 v125 = 1#1), ∀ a x, ((![v262] : Fin 1 → IVec S16 32) a x).toNat < S24576.size a)
theorem k0_idx52_inb : ∀ (i : grid0.Coords) (v108 : BitVec 32) (v111 : BitVec 32) (v125 : BitVec 1) (v262 : IVec S16 32) (k0_hw47 : k0_chk47 i v108 v111 v125 v262), ∀ (k0_h1 : k0_cond1 i v108 v111 v125 = 1#1), ∀ a x, ((![v262] : Fin 1 → IVec S16 32) a x).toNat < S24576.size a := fun i v108 v111 v125 v262 k0_hw47 k0_h1 => k0_hw47 k0_h1
def k0_off19 (i : grid0.Coords) (v108 : BitVec 32) (v111 : BitVec 32) (v115 : BitVec 32) (v117 : BitVec 32) (k0_t5 : Fin (k0_t5_loop i v108 v111).trips) (k0_t7 : Fin (k0_t7_loop v115 v117).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c28_i32_50 : BitVec 32 := 28#32
  let v112 : BitVec 32 := Scalar.addi v29 c28_i32_50
  let v113 : BitVec 32 := Scalar.minsi v111 v112
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t5
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t7
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk48 (i : grid0.Coords) (v108 : BitVec 32) (v111 : BitVec 32) (v125 : BitVec 1) (v282 : IVec S16 32) : Prop :=
  (∀ (k0_h1 : k0_cond1 i v108 v111 v125 = 1#1), ∀ a x, ((![v282] : Fin 1 → IVec S16 32) a x).toNat < S24576.size a)
theorem k0_idx53_inb : ∀ (i : grid0.Coords) (v108 : BitVec 32) (v111 : BitVec 32) (v125 : BitVec 1) (v282 : IVec S16 32) (k0_hw48 : k0_chk48 i v108 v111 v125 v282), ∀ (k0_h1 : k0_cond1 i v108 v111 v125 = 1#1), ∀ a x, ((![v282] : Fin 1 → IVec S16 32) a x).toNat < S24576.size a := fun i v108 v111 v125 v282 k0_hw48 k0_h1 => k0_hw48 k0_h1

def k0_chk49 (i : grid0.Coords) (v108 : BitVec 32) (v111 : BitVec 32) (v125 : BitVec 1) (v286 : IVec S16 32) : Prop :=
  (∀ (k0_h1 : k0_cond1 i v108 v111 v125 = 1#1), ∀ a x, ((![v286] : Fin 1 → IVec S16 32) a x).toNat < S24576.size a)
theorem k0_idx54_inb : ∀ (i : grid0.Coords) (v108 : BitVec 32) (v111 : BitVec 32) (v125 : BitVec 1) (v286 : IVec S16 32) (k0_hw49 : k0_chk49 i v108 v111 v125 v286), ∀ (k0_h1 : k0_cond1 i v108 v111 v125 = 1#1), ∀ a x, ((![v286] : Fin 1 → IVec S16 32) a x).toNat < S24576.size a := fun i v108 v111 v125 v286 k0_hw49 k0_h1 => k0_hw49 k0_h1

def k0_chk50 (i : grid0.Coords) (v108 : BitVec 32) (v111 : BitVec 32) (v125 : BitVec 1) (v290 : IVec S16 32) : Prop :=
  (∀ (k0_h1 : k0_cond1 i v108 v111 v125 = 1#1), ∀ a x, ((![v290] : Fin 1 → IVec S16 32) a x).toNat < S24576.size a)
theorem k0_idx55_inb : ∀ (i : grid0.Coords) (v108 : BitVec 32) (v111 : BitVec 32) (v125 : BitVec 1) (v290 : IVec S16 32) (k0_hw50 : k0_chk50 i v108 v111 v125 v290), ∀ (k0_h1 : k0_cond1 i v108 v111 v125 = 1#1), ∀ a x, ((![v290] : Fin 1 → IVec S16 32) a x).toNat < S24576.size a := fun i v108 v111 v125 v290 k0_hw50 k0_h1 => k0_hw50 k0_h1

def k0_chk51 (i : grid0.Coords) (v108 : BitVec 32) (v111 : BitVec 32) (v125 : BitVec 1) (v294 : IVec S16 32) : Prop :=
  (∀ (k0_h1 : k0_cond1 i v108 v111 v125 = 1#1), ∀ a x, ((![v294] : Fin 1 → IVec S16 32) a x).toNat < S24576.size a)
theorem k0_idx56_inb : ∀ (i : grid0.Coords) (v108 : BitVec 32) (v111 : BitVec 32) (v125 : BitVec 1) (v294 : IVec S16 32) (k0_hw51 : k0_chk51 i v108 v111 v125 v294), ∀ (k0_h1 : k0_cond1 i v108 v111 v125 = 1#1), ∀ a x, ((![v294] : Fin 1 → IVec S16 32) a x).toNat < S24576.size a := fun i v108 v111 v125 v294 k0_hw51 k0_h1 => k0_hw51 k0_h1
def k0_off20 (i : grid0.Coords) (v108 : BitVec 32) (v111 : BitVec 32) (v115 : BitVec 32) (v117 : BitVec 32) (k0_t5 : Fin (k0_t5_loop i v108 v111).trips) (k0_t7 : Fin (k0_t7_loop v115 v117).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v109 : BitVec 32 := Scalar.maxsi v108 v29
  let c0_i32_78 : BitVec 32 := 0#32
  let c28_i32_50 : BitVec 32 := 28#32
  let v112 : BitVec 32 := Scalar.addi v29 c28_i32_50
  let v113 : BitVec 32 := Scalar.minsi v111 v112
  let v169 : BitVec 32 := Scalar.subi v113 v109
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t5
  let c1_i32_77 : BitVec 32 := 1#32
  let v178 : BitVec 32 := Scalar.muli arg32 c1_i32_77
  let v179 : BitVec 32 := Scalar.addi v109 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let v192 : BitVec 32 := Scalar.subi v117 v115
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t7
  let c1_i32_86 : BitVec 32 := 1#32
  let v201 : BitVec 32 := Scalar.muli arg33 c1_i32_86
  let v202 : BitVec 32 := Scalar.addi v115 v201
  let c16_i32_91 : BitVec 32 := 16#32
  let v203 : BitVec 32 := Scalar.muli v202 c16_i32_91
  let v306 : BitVec 32 := Scalar.addi v305 v203
  let v307 : Index := Scalar.indexCast v306
  ![v307.toNat]

def k0_chk1 (i : grid0.Coords) (k0_t1 : Fin k0_t1_loop.trips) (v108 : BitVec 32) (v111 : BitVec 32) (v115 : BitVec 32) (v117 : BitVec 32) (v125 : BitVec 1) : Prop :=
  (∀ (k0_h1 : k0_cond1 i v108 v111 v125 = 1#1), (k0_t2_loop i v108 v111).OK) ∧
  (∀ k0_t2 : Fin (k0_t2_loop i v108 v111).trips, ∀ (k0_h1 : k0_cond1 i v108 v111 v125 = 1#1), (k0_t3_loop v115 v117).OK) ∧
  (∀ (k0_t2 : Fin (k0_t2_loop i v108 v111).trips) (k0_t3 : Fin (k0_t3_loop v115 v117).trips), ∀ (k0_h1 : k0_cond1 i v108 v111 v125 = 1#1), ∀ a, (k0_off5 k0_t1 v115 v117 k0_t3) a + S16.size a ≤ S7168.size a) ∧
  (∀ (k0_t2 : Fin (k0_t2_loop i v108 v111).trips) (k0_t3 : Fin (k0_t3_loop v115 v117).trips), ∀ (k0_h1 : k0_cond1 i v108 v111 v125 = 1#1), ∀ a, (k0_off6 i v108 v111 v115 v117 k0_t2 k0_t3) a + S16.size a ≤ S18816.size a) ∧
  (∀ (k0_t2 : Fin (k0_t2_loop i v108 v111).trips) (k0_t3 : Fin (k0_t3_loop v115 v117).trips), ∀ (k0_h1 : k0_cond1 i v108 v111 v125 = 1#1), ∀ a, (k0_off7 i v108 v111 v115 v117 k0_t2 k0_t3) a + S16.size a ≤ S18816.size a) ∧
  (∀ (k0_t2 : Fin (k0_t2_loop i v108 v111).trips) (k0_t3 : Fin (k0_t3_loop v115 v117).trips), ∀ (k0_h1 : k0_cond1 i v108 v111 v125 = 1#1), ∀ a, (k0_off8 i v108 v111 v115 v117 k0_t2 k0_t3) a + S16.size a ≤ S18816.size a) ∧
  (∀ k0_t2 : Fin (k0_t2_loop i v108 v111).trips, ∀ (k0_h1 : k0_cond1 i v108 v111 v125 = 1#1), (k0_t4_loop v115 v117).OK) ∧
  (∀ (k0_t2 : Fin (k0_t2_loop i v108 v111).trips) (k0_t4 : Fin (k0_t4_loop v115 v117).trips), ∀ (k0_h1 : k0_cond1 i v108 v111 v125 = 1#1), ∀ a, (k0_off9 k0_t1 v115 v117 k0_t4) a + S16.size a ≤ S7168.size a) ∧
  (∀ (k0_t2 : Fin (k0_t2_loop i v108 v111).trips) (k0_t4 : Fin (k0_t4_loop v115 v117).trips), ∀ (k0_h1 : k0_cond1 i v108 v111 v125 = 1#1), ∀ a, (k0_off10 i v108 v111 v115 v117 k0_t2 k0_t4) a + S16.size a ≤ S18816.size a) ∧
  (∀ (k0_t2 : Fin (k0_t2_loop i v108 v111).trips) (k0_t4 : Fin (k0_t4_loop v115 v117).trips), ∀ (k0_h1 : k0_cond1 i v108 v111 v125 = 1#1), ∀ a, (k0_off11 i v108 v111 v115 v117 k0_t2 k0_t4) a + S16.size a ≤ S18816.size a) ∧
  (∀ (k0_t2 : Fin (k0_t2_loop i v108 v111).trips) (k0_t4 : Fin (k0_t4_loop v115 v117).trips), ∀ (k0_h1 : k0_cond1 i v108 v111 v125 = 1#1), ∀ a, (k0_off12 i v108 v111 v115 v117 k0_t2 k0_t4) a + S16.size a ≤ S18816.size a) ∧
  (∀ (k0_h1 : k0_cond1 i v108 v111 v125 = 1#1), (k0_t5_loop i v108 v111).OK) ∧
  (∀ k0_t5 : Fin (k0_t5_loop i v108 v111).trips, ∀ (k0_h1 : k0_cond1 i v108 v111 v125 = 1#1), (k0_t6_loop v115 v117).OK) ∧
  (∀ (k0_t5 : Fin (k0_t5_loop i v108 v111).trips) (k0_t6 : Fin (k0_t6_loop v115 v117).trips), ∀ (k0_h1 : k0_cond1 i v108 v111 v125 = 1#1), ∀ a, (k0_off13 k0_t1 v115 v117 k0_t6) a + S16.size a ≤ S7168.size a) ∧
  (∀ (k0_t5 : Fin (k0_t5_loop i v108 v111).trips) (k0_t6 : Fin (k0_t6_loop v115 v117).trips), ∀ (k0_h1 : k0_cond1 i v108 v111 v125 = 1#1), ∀ a, (k0_off14 i v108 v111 v115 v117 k0_t5 k0_t6) a + S16.size a ≤ S18816.size a) ∧
  (∀ (k0_t5 : Fin (k0_t5_loop i v108 v111).trips) (k0_t6 : Fin (k0_t6_loop v115 v117).trips), ∀ (k0_h1 : k0_cond1 i v108 v111 v125 = 1#1), ∀ a, (k0_off15 i v108 v111 v115 v117 k0_t5 k0_t6) a + S16.size a ≤ S18816.size a) ∧
  (∀ (k0_t5 : Fin (k0_t5_loop i v108 v111).trips) (k0_t6 : Fin (k0_t6_loop v115 v117).trips), ∀ (k0_h1 : k0_cond1 i v108 v111 v125 = 1#1), ∀ a, (k0_off16 i v108 v111 v115 v117 k0_t5 k0_t6) a + S16.size a ≤ S18816.size a) ∧
  (∀ k0_t5 : Fin (k0_t5_loop i v108 v111).trips, ∀ (k0_h1 : k0_cond1 i v108 v111 v125 = 1#1), (k0_t7_loop v115 v117).OK) ∧
  (∀ (k0_t5 : Fin (k0_t5_loop i v108 v111).trips) (k0_t7 : Fin (k0_t7_loop v115 v117).trips), ∀ (k0_h1 : k0_cond1 i v108 v111 v125 = 1#1), ∀ a, (k0_off17 k0_t1 v115 v117 k0_t7) a + S16.size a ≤ S7168.size a) ∧
  (∀ (k0_t5 : Fin (k0_t5_loop i v108 v111).trips) (k0_t7 : Fin (k0_t7_loop v115 v117).trips), ∀ (k0_h1 : k0_cond1 i v108 v111 v125 = 1#1), ∀ a, (k0_off18 i v108 v111 v115 v117 k0_t5 k0_t7) a + S16.size a ≤ S18816.size a) ∧
  (∀ (k0_t5 : Fin (k0_t5_loop i v108 v111).trips) (k0_t7 : Fin (k0_t7_loop v115 v117).trips), ∀ (k0_h1 : k0_cond1 i v108 v111 v125 = 1#1), ∀ a, (k0_off19 i v108 v111 v115 v117 k0_t5 k0_t7) a + S16.size a ≤ S18816.size a) ∧
  (∀ (k0_t5 : Fin (k0_t5_loop i v108 v111).trips) (k0_t7 : Fin (k0_t7_loop v115 v117).trips), ∀ (k0_h1 : k0_cond1 i v108 v111 v125 = 1#1), ∀ a, (k0_off20 i v108 v111 v115 v117 k0_t5 k0_t7) a + S16.size a ≤ S18816.size a)
theorem k0_t2_ok : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125), ∀ (k0_h1 : k0_cond1 i v108 v111 v125 = 1#1), (k0_t2_loop i v108 v111).OK := fun i k0_t1 v108 v111 v115 v117 v125 k0_hw1 k0_h1 => k0_hw1.1 k0_h1
theorem k0_t3_ok : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips), ∀ (k0_h1 : k0_cond1 i v108 v111 v125 = 1#1), (k0_t3_loop v115 v117).OK := fun i k0_t1 v108 v111 v115 v117 v125 k0_hw1 k0_t2 k0_h1 => k0_hw1.2.1 k0_t2 k0_h1
theorem k0_off5_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t3 : Fin (k0_t3_loop v115 v117).trips), ∀ (k0_h1 : k0_cond1 i v108 v111 v125 = 1#1), ∀ a, (k0_off5 k0_t1 v115 v117 k0_t3) a + S16.size a ≤ S7168.size a := fun i k0_t1 v108 v111 v115 v117 v125 k0_hw1 k0_t2 k0_t3 k0_h1 => k0_hw1.2.2.1 k0_t2 k0_t3 k0_h1
theorem k0_off6_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t3 : Fin (k0_t3_loop v115 v117).trips), ∀ (k0_h1 : k0_cond1 i v108 v111 v125 = 1#1), ∀ a, (k0_off6 i v108 v111 v115 v117 k0_t2 k0_t3) a + S16.size a ≤ S18816.size a := fun i k0_t1 v108 v111 v115 v117 v125 k0_hw1 k0_t2 k0_t3 k0_h1 => k0_hw1.2.2.2.1 k0_t2 k0_t3 k0_h1
theorem k0_off7_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t3 : Fin (k0_t3_loop v115 v117).trips), ∀ (k0_h1 : k0_cond1 i v108 v111 v125 = 1#1), ∀ a, (k0_off7 i v108 v111 v115 v117 k0_t2 k0_t3) a + S16.size a ≤ S18816.size a := fun i k0_t1 v108 v111 v115 v117 v125 k0_hw1 k0_t2 k0_t3 k0_h1 => k0_hw1.2.2.2.2.1 k0_t2 k0_t3 k0_h1
theorem k0_off8_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t3 : Fin (k0_t3_loop v115 v117).trips), ∀ (k0_h1 : k0_cond1 i v108 v111 v125 = 1#1), ∀ a, (k0_off8 i v108 v111 v115 v117 k0_t2 k0_t3) a + S16.size a ≤ S18816.size a := fun i k0_t1 v108 v111 v115 v117 v125 k0_hw1 k0_t2 k0_t3 k0_h1 => k0_hw1.2.2.2.2.2.1 k0_t2 k0_t3 k0_h1
theorem k0_t4_ok : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips), ∀ (k0_h1 : k0_cond1 i v108 v111 v125 = 1#1), (k0_t4_loop v115 v117).OK := fun i k0_t1 v108 v111 v115 v117 v125 k0_hw1 k0_t2 k0_h1 => k0_hw1.2.2.2.2.2.2.1 k0_t2 k0_h1
theorem k0_off9_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t4 : Fin (k0_t4_loop v115 v117).trips), ∀ (k0_h1 : k0_cond1 i v108 v111 v125 = 1#1), ∀ a, (k0_off9 k0_t1 v115 v117 k0_t4) a + S16.size a ≤ S7168.size a := fun i k0_t1 v108 v111 v115 v117 v125 k0_hw1 k0_t2 k0_t4 k0_h1 => k0_hw1.2.2.2.2.2.2.2.1 k0_t2 k0_t4 k0_h1
theorem k0_off10_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t4 : Fin (k0_t4_loop v115 v117).trips), ∀ (k0_h1 : k0_cond1 i v108 v111 v125 = 1#1), ∀ a, (k0_off10 i v108 v111 v115 v117 k0_t2 k0_t4) a + S16.size a ≤ S18816.size a := fun i k0_t1 v108 v111 v115 v117 v125 k0_hw1 k0_t2 k0_t4 k0_h1 => k0_hw1.2.2.2.2.2.2.2.2.1 k0_t2 k0_t4 k0_h1
theorem k0_off11_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t4 : Fin (k0_t4_loop v115 v117).trips), ∀ (k0_h1 : k0_cond1 i v108 v111 v125 = 1#1), ∀ a, (k0_off11 i v108 v111 v115 v117 k0_t2 k0_t4) a + S16.size a ≤ S18816.size a := fun i k0_t1 v108 v111 v115 v117 v125 k0_hw1 k0_t2 k0_t4 k0_h1 => k0_hw1.2.2.2.2.2.2.2.2.2.1 k0_t2 k0_t4 k0_h1
theorem k0_off12_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t2 : Fin (k0_t2_loop i v108 v111).trips) (k0_t4 : Fin (k0_t4_loop v115 v117).trips), ∀ (k0_h1 : k0_cond1 i v108 v111 v125 = 1#1), ∀ a, (k0_off12 i v108 v111 v115 v117 k0_t2 k0_t4) a + S16.size a ≤ S18816.size a := fun i k0_t1 v108 v111 v115 v117 v125 k0_hw1 k0_t2 k0_t4 k0_h1 => k0_hw1.2.2.2.2.2.2.2.2.2.2.1 k0_t2 k0_t4 k0_h1
theorem k0_t5_ok : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125), ∀ (k0_h1 : k0_cond1 i v108 v111 v125 = 1#1), (k0_t5_loop i v108 v111).OK := fun i k0_t1 v108 v111 v115 v117 v125 k0_hw1 k0_h1 => k0_hw1.2.2.2.2.2.2.2.2.2.2.2.1 k0_h1
theorem k0_t6_ok : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips), ∀ (k0_h1 : k0_cond1 i v108 v111 v125 = 1#1), (k0_t6_loop v115 v117).OK := fun i k0_t1 v108 v111 v115 v117 v125 k0_hw1 k0_t5 k0_h1 => k0_hw1.2.2.2.2.2.2.2.2.2.2.2.2.1 k0_t5 k0_h1
theorem k0_off13_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t6 : Fin (k0_t6_loop v115 v117).trips), ∀ (k0_h1 : k0_cond1 i v108 v111 v125 = 1#1), ∀ a, (k0_off13 k0_t1 v115 v117 k0_t6) a + S16.size a ≤ S7168.size a := fun i k0_t1 v108 v111 v115 v117 v125 k0_hw1 k0_t5 k0_t6 k0_h1 => k0_hw1.2.2.2.2.2.2.2.2.2.2.2.2.2.1 k0_t5 k0_t6 k0_h1
theorem k0_off14_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t6 : Fin (k0_t6_loop v115 v117).trips), ∀ (k0_h1 : k0_cond1 i v108 v111 v125 = 1#1), ∀ a, (k0_off14 i v108 v111 v115 v117 k0_t5 k0_t6) a + S16.size a ≤ S18816.size a := fun i k0_t1 v108 v111 v115 v117 v125 k0_hw1 k0_t5 k0_t6 k0_h1 => k0_hw1.2.2.2.2.2.2.2.2.2.2.2.2.2.2.1 k0_t5 k0_t6 k0_h1
theorem k0_off15_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t6 : Fin (k0_t6_loop v115 v117).trips), ∀ (k0_h1 : k0_cond1 i v108 v111 v125 = 1#1), ∀ a, (k0_off15 i v108 v111 v115 v117 k0_t5 k0_t6) a + S16.size a ≤ S18816.size a := fun i k0_t1 v108 v111 v115 v117 v125 k0_hw1 k0_t5 k0_t6 k0_h1 => k0_hw1.2.2.2.2.2.2.2.2.2.2.2.2.2.2.2.1 k0_t5 k0_t6 k0_h1
theorem k0_off16_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t6 : Fin (k0_t6_loop v115 v117).trips), ∀ (k0_h1 : k0_cond1 i v108 v111 v125 = 1#1), ∀ a, (k0_off16 i v108 v111 v115 v117 k0_t5 k0_t6) a + S16.size a ≤ S18816.size a := fun i k0_t1 v108 v111 v115 v117 v125 k0_hw1 k0_t5 k0_t6 k0_h1 => k0_hw1.2.2.2.2.2.2.2.2.2.2.2.2.2.2.2.2.1 k0_t5 k0_t6 k0_h1
theorem k0_t7_ok : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips), ∀ (k0_h1 : k0_cond1 i v108 v111 v125 = 1#1), (k0_t7_loop v115 v117).OK := fun i k0_t1 v108 v111 v115 v117 v125 k0_hw1 k0_t5 k0_h1 => k0_hw1.2.2.2.2.2.2.2.2.2.2.2.2.2.2.2.2.2.1 k0_t5 k0_h1
theorem k0_off17_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t7 : Fin (k0_t7_loop v115 v117).trips), ∀ (k0_h1 : k0_cond1 i v108 v111 v125 = 1#1), ∀ a, (k0_off17 k0_t1 v115 v117 k0_t7) a + S16.size a ≤ S7168.size a := fun i k0_t1 v108 v111 v115 v117 v125 k0_hw1 k0_t5 k0_t7 k0_h1 => k0_hw1.2.2.2.2.2.2.2.2.2.2.2.2.2.2.2.2.2.2.1 k0_t5 k0_t7 k0_h1
theorem k0_off18_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t7 : Fin (k0_t7_loop v115 v117).trips), ∀ (k0_h1 : k0_cond1 i v108 v111 v125 = 1#1), ∀ a, (k0_off18 i v108 v111 v115 v117 k0_t5 k0_t7) a + S16.size a ≤ S18816.size a := fun i k0_t1 v108 v111 v115 v117 v125 k0_hw1 k0_t5 k0_t7 k0_h1 => k0_hw1.2.2.2.2.2.2.2.2.2.2.2.2.2.2.2.2.2.2.2.1 k0_t5 k0_t7 k0_h1
theorem k0_off19_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t7 : Fin (k0_t7_loop v115 v117).trips), ∀ (k0_h1 : k0_cond1 i v108 v111 v125 = 1#1), ∀ a, (k0_off19 i v108 v111 v115 v117 k0_t5 k0_t7) a + S16.size a ≤ S18816.size a := fun i k0_t1 v108 v111 v115 v117 v125 k0_hw1 k0_t5 k0_t7 k0_h1 => k0_hw1.2.2.2.2.2.2.2.2.2.2.2.2.2.2.2.2.2.2.2.2.1 k0_t5 k0_t7 k0_h1
theorem k0_off20_inb : ∀ (i : grid0.Coords) (k0_t1 : Fin k0_t1_loop.trips) (v108 : BitVec 32) (v111 : BitVec 32) (v115 : BitVec 32) (v117 : BitVec 32) (v125 : BitVec 1) (k0_hw1 : k0_chk1 i k0_t1 v108 v111 v115 v117 v125) (k0_t5 : Fin (k0_t5_loop i v108 v111).trips) (k0_t7 : Fin (k0_t7_loop v115 v117).trips), ∀ (k0_h1 : k0_cond1 i v108 v111 v125 = 1#1), ∀ a, (k0_off20 i v108 v111 v115 v117 k0_t5 k0_t7) a + S16.size a ≤ S18816.size a := fun i k0_t1 v108 v111 v115 v117 v125 k0_hw1 k0_t5 k0_t7 k0_h1 => k0_hw1.2.2.2.2.2.2.2.2.2.2.2.2.2.2.2.2.2.2.2.2.2 k0_t5 k0_t7 k0_h1

def k0_cond2 (k0_t1 : Fin k0_t1_loop.trips) : BitVec 1 :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c2_i32_56 : BitVec 32 := 2#32
  let v130 : BitVec 32 := Scalar.addi v99 c2_i32_56
  let c32_i32_57 : BitVec 32 := 32#32
  let v131 : BitVec 1 := Scalar.cmpi .slt v130 c32_i32_57
  let v132 : BitVec 32 := Scalar.extui v131
  let c0_i32_58 : BitVec 32 := 0#32
  let v133 : BitVec 1 := Scalar.cmpi .ne v132 c0_i32_58
  v133

def k0_off21 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c32_i32 : BitVec 32 := 32#32
  let v30 : BitVec 32 := Scalar.muli v18 c32_i32
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c2_i32_74 : BitVec 32 := 2#32
  let v169 : BitVec 32 := Scalar.addi v99 c2_i32_74
  let v170 : BitVec 32 := Scalar.addi v30 v169
  let c12288_i32_75 : BitVec 32 := 12288#32
  let v171 : BitVec 32 := Scalar.muli v170 c12288_i32_75
  ![v171.toNat]
def k0_off22 (k0_t1 : Fin k0_t1_loop.trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c1_i32_63 : BitVec 32 := 1#32
  let v138 : BitVec 32 := Scalar.addi v99 c1_i32_63
  let c16_i32_64 : BitVec 32 := 16#32
  let v139 : BitVec 32 := Scalar.muli v138 c16_i32_64
  let v140 : Index := Scalar.indexCast v139
  ![v140.toNat]
@[reducible] def k0_t8_loop (i : grid0.Coords) (v143 : BitVec 32) (v146 : BitVec 32) : Scf.Loop 32 :=
  let c0_i32_78 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_65 : BitVec 32 := 28#32
  let v147 : BitVec 32 := Scalar.addi v29 c28_i32_65
  let v148 : BitVec 32 := Scalar.minsi v146 v147
  let v144 : BitVec 32 := Scalar.maxsi v143 v29
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_80 : BitVec 32 := 1#32
  ⟨c0_i32_78, v177, c1_i32_80⟩
def k0_cond3 (i : grid0.Coords) (v143 : BitVec 32) (v146 : BitVec 32) (v160 : BitVec 1) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c28_i32_65 : BitVec 32 := 28#32
  let v147 : BitVec 32 := Scalar.addi v29 c28_i32_65
  let v148 : BitVec 32 := Scalar.minsi v146 v147
  let v159 : BitVec 1 := Scalar.cmpi .slt v144 v148
  let true_69 : BitVec 1 := 1#1
  let v161 : BitVec 1 := Scalar.xori v160 true_69
  let v162 : BitVec 1 := Scalar.andi v159 v161
  let v163 : BitVec 32 := Scalar.extui v162
  let c0_i32_70 : BitVec 32 := 0#32
  let v164 : BitVec 1 := Scalar.cmpi .ne v163 c0_i32_70
  v164

def k0_chk53 (i : grid0.Coords) (v143 : BitVec 32) (v146 : BitVec 32) (v160 : BitVec 1) (v181 : IVec S16 32) : Prop :=
  (∀ (k0_h3 : k0_cond3 i v143 v146 v160 = 1#1), ∀ a x, ((![v181] : Fin 1 → IVec S16 32) a x).toNat < S7168.size a) ∧
  (∀ (k0_h3 : k0_cond3 i v143 v146 v160 = 1#1), ∀ a x, ((![v181] : Fin 1 → IVec S16 32) a x).toNat < S7168.size a) ∧
  (∀ (k0_h3 : k0_cond3 i v143 v146 v160 = 1#1), ∀ a x, ((![v181] : Fin 1 → IVec S16 32) a x).toNat < S7168.size a) ∧
  (∀ (k0_h3 : k0_cond3 i v143 v146 v160 = 1#1), ∀ a x, ((![v181] : Fin 1 → IVec S16 32) a x).toNat < S7168.size a)
theorem k0_idx57_inb : ∀ (i : grid0.Coords) (v143 : BitVec 32) (v146 : BitVec 32) (v160 : BitVec 1) (v181 : IVec S16 32) (k0_hw53 : k0_chk53 i v143 v146 v160 v181), ∀ (k0_h3 : k0_cond3 i v143 v146 v160 = 1#1), ∀ a x, ((![v181] : Fin 1 → IVec S16 32) a x).toNat < S7168.size a := fun i v143 v146 v160 v181 k0_hw53 k0_h3 => k0_hw53.1 k0_h3
theorem k0_idx58_inb : ∀ (i : grid0.Coords) (v143 : BitVec 32) (v146 : BitVec 32) (v160 : BitVec 1) (v181 : IVec S16 32) (k0_hw53 : k0_chk53 i v143 v146 v160 v181), ∀ (k0_h3 : k0_cond3 i v143 v146 v160 = 1#1), ∀ a x, ((![v181] : Fin 1 → IVec S16 32) a x).toNat < S7168.size a := fun i v143 v146 v160 v181 k0_hw53 k0_h3 => k0_hw53.2.1 k0_h3
theorem k0_idx59_inb : ∀ (i : grid0.Coords) (v143 : BitVec 32) (v146 : BitVec 32) (v160 : BitVec 1) (v181 : IVec S16 32) (k0_hw53 : k0_chk53 i v143 v146 v160 v181), ∀ (k0_h3 : k0_cond3 i v143 v146 v160 = 1#1), ∀ a x, ((![v181] : Fin 1 → IVec S16 32) a x).toNat < S7168.size a := fun i v143 v146 v160 v181 k0_hw53 k0_h3 => k0_hw53.2.2.1 k0_h3
theorem k0_idx60_inb : ∀ (i : grid0.Coords) (v143 : BitVec 32) (v146 : BitVec 32) (v160 : BitVec 1) (v181 : IVec S16 32) (k0_hw53 : k0_chk53 i v143 v146 v160 v181), ∀ (k0_h3 : k0_cond3 i v143 v146 v160 = 1#1), ∀ a x, ((![v181] : Fin 1 → IVec S16 32) a x).toNat < S7168.size a := fun i v143 v146 v160 v181 k0_hw53 k0_h3 => k0_hw53.2.2.2 k0_h3
@[reducible] def k0_t9_loop (v150 : BitVec 32) (v152 : BitVec 32) : Scf.Loop 32 :=
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_89 : BitVec 32 := 1#32
  ⟨c0_i32_87, v200, c1_i32_89⟩
def k0_off23 (k0_t1 : Fin k0_t1_loop.trips) (v150 : BitVec 32) (v152 : BitVec 32) (k0_t9 : Fin (k0_t9_loop v150 v152).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c1_i32_63 : BitVec 32 := 1#32
  let v138 : BitVec 32 := Scalar.addi v99 c1_i32_63
  let c224_i32_67 : BitVec 32 := 224#32
  let v158 : BitVec 32 := Scalar.muli v138 c224_i32_67
  let c0_i32_87 : BitVec 32 := 0#32
  let c1_i32_89 : BitVec 32 := 1#32
  let arg33 : BitVec 32 := Scf.iv c0_i32_87 c1_i32_89 k0_t9
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v204 : BitVec 32 := Scalar.addi v158 v203
  let v205 : Index := Scalar.indexCast v204
  ![v205.toNat]

def k0_chk54 (i : grid0.Coords) (v143 : BitVec 32) (v146 : BitVec 32) (v160 : BitVec 1) (v218 : IVec S16 32) : Prop :=
  (∀ (k0_h3 : k0_cond3 i v143 v146 v160 = 1#1), ∀ a x, ((![v218] : Fin 1 → IVec S16 32) a x).toNat < S24576.size a)
theorem k0_idx61_inb : ∀ (i : grid0.Coords) (v143 : BitVec 32) (v146 : BitVec 32) (v160 : BitVec 1) (v218 : IVec S16 32) (k0_hw54 : k0_chk54 i v143 v146 v160 v218), ∀ (k0_h3 : k0_cond3 i v143 v146 v160 = 1#1), ∀ a x, ((![v218] : Fin 1 → IVec S16 32) a x).toNat < S24576.size a := fun i v143 v146 v160 v218 k0_hw54 k0_h3 => k0_hw54 k0_h3

def k0_chk55 (i : grid0.Coords) (v143 : BitVec 32) (v146 : BitVec 32) (v160 : BitVec 1) (v222 : IVec S16 32) : Prop :=
  (∀ (k0_h3 : k0_cond3 i v143 v146 v160 = 1#1), ∀ a x, ((![v222] : Fin 1 → IVec S16 32) a x).toNat < S24576.size a)
theorem k0_idx62_inb : ∀ (i : grid0.Coords) (v143 : BitVec 32) (v146 : BitVec 32) (v160 : BitVec 1) (v222 : IVec S16 32) (k0_hw55 : k0_chk55 i v143 v146 v160 v222), ∀ (k0_h3 : k0_cond3 i v143 v146 v160 = 1#1), ∀ a x, ((![v222] : Fin 1 → IVec S16 32) a x).toNat < S24576.size a := fun i v143 v146 v160 v222 k0_hw55 k0_h3 => k0_hw55 k0_h3

def k0_chk56 (i : grid0.Coords) (v143 : BitVec 32) (v146 : BitVec 32) (v160 : BitVec 1) (v226 : IVec S16 32) : Prop :=
  (∀ (k0_h3 : k0_cond3 i v143 v146 v160 = 1#1), ∀ a x, ((![v226] : Fin 1 → IVec S16 32) a x).toNat < S24576.size a)
theorem k0_idx63_inb : ∀ (i : grid0.Coords) (v143 : BitVec 32) (v146 : BitVec 32) (v160 : BitVec 1) (v226 : IVec S16 32) (k0_hw56 : k0_chk56 i v143 v146 v160 v226), ∀ (k0_h3 : k0_cond3 i v143 v146 v160 = 1#1), ∀ a x, ((![v226] : Fin 1 → IVec S16 32) a x).toNat < S24576.size a := fun i v143 v146 v160 v226 k0_hw56 k0_h3 => k0_hw56 k0_h3

def k0_chk57 (i : grid0.Coords) (v143 : BitVec 32) (v146 : BitVec 32) (v160 : BitVec 1) (v230 : IVec S16 32) : Prop :=
  (∀ (k0_h3 : k0_cond3 i v143 v146 v160 = 1#1), ∀ a x, ((![v230] : Fin 1 → IVec S16 32) a x).toNat < S24576.size a)
theorem k0_idx64_inb : ∀ (i : grid0.Coords) (v143 : BitVec 32) (v146 : BitVec 32) (v160 : BitVec 1) (v230 : IVec S16 32) (k0_hw57 : k0_chk57 i v143 v146 v160 v230), ∀ (k0_h3 : k0_cond3 i v143 v146 v160 = 1#1), ∀ a x, ((![v230] : Fin 1 → IVec S16 32) a x).toNat < S24576.size a := fun i v143 v146 v160 v230 k0_hw57 k0_h3 => k0_hw57 k0_h3
def k0_off24 (i : grid0.Coords) (v143 : BitVec 32) (v146 : BitVec 32) (v150 : BitVec 32) (v152 : BitVec 32) (k0_t8 : Fin (k0_t8_loop i v143 v146).trips) (k0_t9 : Fin (k0_t9_loop v150 v152).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c1_i32_80 : BitVec 32 := 1#32
  let arg32 : BitVec 32 := Scf.iv c0_i32_78 c1_i32_80 k0_t8
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let c1_i32_89 : BitVec 32 := 1#32
  let arg33 : BitVec 32 := Scf.iv c0_i32_87 c1_i32_89 k0_t9
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk58 (i : grid0.Coords) (v143 : BitVec 32) (v146 : BitVec 32) (v160 : BitVec 1) (v250 : IVec S16 32) : Prop :=
  (∀ (k0_h3 : k0_cond3 i v143 v146 v160 = 1#1), ∀ a x, ((![v250] : Fin 1 → IVec S16 32) a x).toNat < S24576.size a)
theorem k0_idx65_inb : ∀ (i : grid0.Coords) (v143 : BitVec 32) (v146 : BitVec 32) (v160 : BitVec 1) (v250 : IVec S16 32) (k0_hw58 : k0_chk58 i v143 v146 v160 v250), ∀ (k0_h3 : k0_cond3 i v143 v146 v160 = 1#1), ∀ a x, ((![v250] : Fin 1 → IVec S16 32) a x).toNat < S24576.size a := fun i v143 v146 v160 v250 k0_hw58 k0_h3 => k0_hw58 k0_h3

def k0_chk59 (i : grid0.Coords) (v143 : BitVec 32) (v146 : BitVec 32) (v160 : BitVec 1) (v254 : IVec S16 32) : Prop :=
  (∀ (k0_h3 : k0_cond3 i v143 v146 v160 = 1#1), ∀ a x, ((![v254] : Fin 1 → IVec S16 32) a x).toNat < S24576.size a)
theorem k0_idx66_inb : ∀ (i : grid0.Coords) (v143 : BitVec 32) (v146 : BitVec 32) (v160 : BitVec 1) (v254 : IVec S16 32) (k0_hw59 : k0_chk59 i v143 v146 v160 v254), ∀ (k0_h3 : k0_cond3 i v143 v146 v160 = 1#1), ∀ a x, ((![v254] : Fin 1 → IVec S16 32) a x).toNat < S24576.size a := fun i v143 v146 v160 v254 k0_hw59 k0_h3 => k0_hw59 k0_h3

def k0_chk60 (i : grid0.Coords) (v143 : BitVec 32) (v146 : BitVec 32) (v160 : BitVec 1) (v258 : IVec S16 32) : Prop :=
  (∀ (k0_h3 : k0_cond3 i v143 v146 v160 = 1#1), ∀ a x, ((![v258] : Fin 1 → IVec S16 32) a x).toNat < S24576.size a)
theorem k0_idx67_inb : ∀ (i : grid0.Coords) (v143 : BitVec 32) (v146 : BitVec 32) (v160 : BitVec 1) (v258 : IVec S16 32) (k0_hw60 : k0_chk60 i v143 v146 v160 v258), ∀ (k0_h3 : k0_cond3 i v143 v146 v160 = 1#1), ∀ a x, ((![v258] : Fin 1 → IVec S16 32) a x).toNat < S24576.size a := fun i v143 v146 v160 v258 k0_hw60 k0_h3 => k0_hw60 k0_h3

def k0_chk61 (i : grid0.Coords) (v143 : BitVec 32) (v146 : BitVec 32) (v160 : BitVec 1) (v262 : IVec S16 32) : Prop :=
  (∀ (k0_h3 : k0_cond3 i v143 v146 v160 = 1#1), ∀ a x, ((![v262] : Fin 1 → IVec S16 32) a x).toNat < S24576.size a)
theorem k0_idx68_inb : ∀ (i : grid0.Coords) (v143 : BitVec 32) (v146 : BitVec 32) (v160 : BitVec 1) (v262 : IVec S16 32) (k0_hw61 : k0_chk61 i v143 v146 v160 v262), ∀ (k0_h3 : k0_cond3 i v143 v146 v160 = 1#1), ∀ a x, ((![v262] : Fin 1 → IVec S16 32) a x).toNat < S24576.size a := fun i v143 v146 v160 v262 k0_hw61 k0_h3 => k0_hw61 k0_h3
def k0_off25 (i : grid0.Coords) (v143 : BitVec 32) (v146 : BitVec 32) (v150 : BitVec 32) (v152 : BitVec 32) (k0_t8 : Fin (k0_t8_loop i v143 v146).trips) (k0_t9 : Fin (k0_t9_loop v150 v152).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c1_i32_80 : BitVec 32 := 1#32
  let arg32 : BitVec 32 := Scf.iv c0_i32_78 c1_i32_80 k0_t8
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let c1_i32_89 : BitVec 32 := 1#32
  let arg33 : BitVec 32 := Scf.iv c0_i32_87 c1_i32_89 k0_t9
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk62 (i : grid0.Coords) (v143 : BitVec 32) (v146 : BitVec 32) (v160 : BitVec 1) (v282 : IVec S16 32) : Prop :=
  (∀ (k0_h3 : k0_cond3 i v143 v146 v160 = 1#1), ∀ a x, ((![v282] : Fin 1 → IVec S16 32) a x).toNat < S24576.size a)
theorem k0_idx69_inb : ∀ (i : grid0.Coords) (v143 : BitVec 32) (v146 : BitVec 32) (v160 : BitVec 1) (v282 : IVec S16 32) (k0_hw62 : k0_chk62 i v143 v146 v160 v282), ∀ (k0_h3 : k0_cond3 i v143 v146 v160 = 1#1), ∀ a x, ((![v282] : Fin 1 → IVec S16 32) a x).toNat < S24576.size a := fun i v143 v146 v160 v282 k0_hw62 k0_h3 => k0_hw62 k0_h3

def k0_chk63 (i : grid0.Coords) (v143 : BitVec 32) (v146 : BitVec 32) (v160 : BitVec 1) (v286 : IVec S16 32) : Prop :=
  (∀ (k0_h3 : k0_cond3 i v143 v146 v160 = 1#1), ∀ a x, ((![v286] : Fin 1 → IVec S16 32) a x).toNat < S24576.size a)
theorem k0_idx70_inb : ∀ (i : grid0.Coords) (v143 : BitVec 32) (v146 : BitVec 32) (v160 : BitVec 1) (v286 : IVec S16 32) (k0_hw63 : k0_chk63 i v143 v146 v160 v286), ∀ (k0_h3 : k0_cond3 i v143 v146 v160 = 1#1), ∀ a x, ((![v286] : Fin 1 → IVec S16 32) a x).toNat < S24576.size a := fun i v143 v146 v160 v286 k0_hw63 k0_h3 => k0_hw63 k0_h3

def k0_chk64 (i : grid0.Coords) (v143 : BitVec 32) (v146 : BitVec 32) (v160 : BitVec 1) (v290 : IVec S16 32) : Prop :=
  (∀ (k0_h3 : k0_cond3 i v143 v146 v160 = 1#1), ∀ a x, ((![v290] : Fin 1 → IVec S16 32) a x).toNat < S24576.size a)
theorem k0_idx71_inb : ∀ (i : grid0.Coords) (v143 : BitVec 32) (v146 : BitVec 32) (v160 : BitVec 1) (v290 : IVec S16 32) (k0_hw64 : k0_chk64 i v143 v146 v160 v290), ∀ (k0_h3 : k0_cond3 i v143 v146 v160 = 1#1), ∀ a x, ((![v290] : Fin 1 → IVec S16 32) a x).toNat < S24576.size a := fun i v143 v146 v160 v290 k0_hw64 k0_h3 => k0_hw64 k0_h3

def k0_chk65 (i : grid0.Coords) (v143 : BitVec 32) (v146 : BitVec 32) (v160 : BitVec 1) (v294 : IVec S16 32) : Prop :=
  (∀ (k0_h3 : k0_cond3 i v143 v146 v160 = 1#1), ∀ a x, ((![v294] : Fin 1 → IVec S16 32) a x).toNat < S24576.size a)
theorem k0_idx72_inb : ∀ (i : grid0.Coords) (v143 : BitVec 32) (v146 : BitVec 32) (v160 : BitVec 1) (v294 : IVec S16 32) (k0_hw65 : k0_chk65 i v143 v146 v160 v294), ∀ (k0_h3 : k0_cond3 i v143 v146 v160 = 1#1), ∀ a x, ((![v294] : Fin 1 → IVec S16 32) a x).toNat < S24576.size a := fun i v143 v146 v160 v294 k0_hw65 k0_h3 => k0_hw65 k0_h3
def k0_off26 (i : grid0.Coords) (v143 : BitVec 32) (v146 : BitVec 32) (v150 : BitVec 32) (v152 : BitVec 32) (k0_t8 : Fin (k0_t8_loop i v143 v146).trips) (k0_t9 : Fin (k0_t9_loop v150 v152).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c1_i32_80 : BitVec 32 := 1#32
  let arg32 : BitVec 32 := Scf.iv c0_i32_78 c1_i32_80 k0_t8
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let c1_i32_89 : BitVec 32 := 1#32
  let arg33 : BitVec 32 := Scf.iv c0_i32_87 c1_i32_89 k0_t9
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v306 : BitVec 32 := Scalar.addi v305 v203
  let v307 : Index := Scalar.indexCast v306
  ![v307.toNat]
@[reducible] def k0_t10_loop (v150 : BitVec 32) (v152 : BitVec 32) : Scf.Loop 32 :=
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let v197 : BitVec 32 := Scalar.addi c0_i32_87 v196
  let c1_i32_90 : BitVec 32 := 1#32
  ⟨v200, v197, c1_i32_90⟩
def k0_off27 (k0_t1 : Fin k0_t1_loop.trips) (v150 : BitVec 32) (v152 : BitVec 32) (k0_t10 : Fin (k0_t10_loop v150 v152).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c1_i32_63 : BitVec 32 := 1#32
  let v138 : BitVec 32 := Scalar.addi v99 c1_i32_63
  let c224_i32_67 : BitVec 32 := 224#32
  let v158 : BitVec 32 := Scalar.muli v138 c224_i32_67
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t10
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v204 : BitVec 32 := Scalar.addi v158 v203
  let v205 : Index := Scalar.indexCast v204
  ![v205.toNat]

def k0_chk66 (i : grid0.Coords) (v143 : BitVec 32) (v146 : BitVec 32) (v160 : BitVec 1) (v218 : IVec S16 32) : Prop :=
  (∀ (k0_h3 : k0_cond3 i v143 v146 v160 = 1#1), ∀ a x, ((![v218] : Fin 1 → IVec S16 32) a x).toNat < S24576.size a)
theorem k0_idx73_inb : ∀ (i : grid0.Coords) (v143 : BitVec 32) (v146 : BitVec 32) (v160 : BitVec 1) (v218 : IVec S16 32) (k0_hw66 : k0_chk66 i v143 v146 v160 v218), ∀ (k0_h3 : k0_cond3 i v143 v146 v160 = 1#1), ∀ a x, ((![v218] : Fin 1 → IVec S16 32) a x).toNat < S24576.size a := fun i v143 v146 v160 v218 k0_hw66 k0_h3 => k0_hw66 k0_h3

def k0_chk67 (i : grid0.Coords) (v143 : BitVec 32) (v146 : BitVec 32) (v160 : BitVec 1) (v222 : IVec S16 32) : Prop :=
  (∀ (k0_h3 : k0_cond3 i v143 v146 v160 = 1#1), ∀ a x, ((![v222] : Fin 1 → IVec S16 32) a x).toNat < S24576.size a)
theorem k0_idx74_inb : ∀ (i : grid0.Coords) (v143 : BitVec 32) (v146 : BitVec 32) (v160 : BitVec 1) (v222 : IVec S16 32) (k0_hw67 : k0_chk67 i v143 v146 v160 v222), ∀ (k0_h3 : k0_cond3 i v143 v146 v160 = 1#1), ∀ a x, ((![v222] : Fin 1 → IVec S16 32) a x).toNat < S24576.size a := fun i v143 v146 v160 v222 k0_hw67 k0_h3 => k0_hw67 k0_h3

def k0_chk68 (i : grid0.Coords) (v143 : BitVec 32) (v146 : BitVec 32) (v160 : BitVec 1) (v226 : IVec S16 32) : Prop :=
  (∀ (k0_h3 : k0_cond3 i v143 v146 v160 = 1#1), ∀ a x, ((![v226] : Fin 1 → IVec S16 32) a x).toNat < S24576.size a)
theorem k0_idx75_inb : ∀ (i : grid0.Coords) (v143 : BitVec 32) (v146 : BitVec 32) (v160 : BitVec 1) (v226 : IVec S16 32) (k0_hw68 : k0_chk68 i v143 v146 v160 v226), ∀ (k0_h3 : k0_cond3 i v143 v146 v160 = 1#1), ∀ a x, ((![v226] : Fin 1 → IVec S16 32) a x).toNat < S24576.size a := fun i v143 v146 v160 v226 k0_hw68 k0_h3 => k0_hw68 k0_h3

def k0_chk69 (i : grid0.Coords) (v143 : BitVec 32) (v146 : BitVec 32) (v160 : BitVec 1) (v230 : IVec S16 32) : Prop :=
  (∀ (k0_h3 : k0_cond3 i v143 v146 v160 = 1#1), ∀ a x, ((![v230] : Fin 1 → IVec S16 32) a x).toNat < S24576.size a)
theorem k0_idx76_inb : ∀ (i : grid0.Coords) (v143 : BitVec 32) (v146 : BitVec 32) (v160 : BitVec 1) (v230 : IVec S16 32) (k0_hw69 : k0_chk69 i v143 v146 v160 v230), ∀ (k0_h3 : k0_cond3 i v143 v146 v160 = 1#1), ∀ a x, ((![v230] : Fin 1 → IVec S16 32) a x).toNat < S24576.size a := fun i v143 v146 v160 v230 k0_hw69 k0_h3 => k0_hw69 k0_h3
def k0_off28 (i : grid0.Coords) (v143 : BitVec 32) (v146 : BitVec 32) (v150 : BitVec 32) (v152 : BitVec 32) (k0_t8 : Fin (k0_t8_loop i v143 v146).trips) (k0_t10 : Fin (k0_t10_loop v150 v152).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c1_i32_80 : BitVec 32 := 1#32
  let arg32 : BitVec 32 := Scf.iv c0_i32_78 c1_i32_80 k0_t8
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t10
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk70 (i : grid0.Coords) (v143 : BitVec 32) (v146 : BitVec 32) (v160 : BitVec 1) (v250 : IVec S16 32) : Prop :=
  (∀ (k0_h3 : k0_cond3 i v143 v146 v160 = 1#1), ∀ a x, ((![v250] : Fin 1 → IVec S16 32) a x).toNat < S24576.size a)
theorem k0_idx77_inb : ∀ (i : grid0.Coords) (v143 : BitVec 32) (v146 : BitVec 32) (v160 : BitVec 1) (v250 : IVec S16 32) (k0_hw70 : k0_chk70 i v143 v146 v160 v250), ∀ (k0_h3 : k0_cond3 i v143 v146 v160 = 1#1), ∀ a x, ((![v250] : Fin 1 → IVec S16 32) a x).toNat < S24576.size a := fun i v143 v146 v160 v250 k0_hw70 k0_h3 => k0_hw70 k0_h3

def k0_chk71 (i : grid0.Coords) (v143 : BitVec 32) (v146 : BitVec 32) (v160 : BitVec 1) (v254 : IVec S16 32) : Prop :=
  (∀ (k0_h3 : k0_cond3 i v143 v146 v160 = 1#1), ∀ a x, ((![v254] : Fin 1 → IVec S16 32) a x).toNat < S24576.size a)
theorem k0_idx78_inb : ∀ (i : grid0.Coords) (v143 : BitVec 32) (v146 : BitVec 32) (v160 : BitVec 1) (v254 : IVec S16 32) (k0_hw71 : k0_chk71 i v143 v146 v160 v254), ∀ (k0_h3 : k0_cond3 i v143 v146 v160 = 1#1), ∀ a x, ((![v254] : Fin 1 → IVec S16 32) a x).toNat < S24576.size a := fun i v143 v146 v160 v254 k0_hw71 k0_h3 => k0_hw71 k0_h3

def k0_chk72 (i : grid0.Coords) (v143 : BitVec 32) (v146 : BitVec 32) (v160 : BitVec 1) (v258 : IVec S16 32) : Prop :=
  (∀ (k0_h3 : k0_cond3 i v143 v146 v160 = 1#1), ∀ a x, ((![v258] : Fin 1 → IVec S16 32) a x).toNat < S24576.size a)
theorem k0_idx79_inb : ∀ (i : grid0.Coords) (v143 : BitVec 32) (v146 : BitVec 32) (v160 : BitVec 1) (v258 : IVec S16 32) (k0_hw72 : k0_chk72 i v143 v146 v160 v258), ∀ (k0_h3 : k0_cond3 i v143 v146 v160 = 1#1), ∀ a x, ((![v258] : Fin 1 → IVec S16 32) a x).toNat < S24576.size a := fun i v143 v146 v160 v258 k0_hw72 k0_h3 => k0_hw72 k0_h3

def k0_chk73 (i : grid0.Coords) (v143 : BitVec 32) (v146 : BitVec 32) (v160 : BitVec 1) (v262 : IVec S16 32) : Prop :=
  (∀ (k0_h3 : k0_cond3 i v143 v146 v160 = 1#1), ∀ a x, ((![v262] : Fin 1 → IVec S16 32) a x).toNat < S24576.size a)
theorem k0_idx80_inb : ∀ (i : grid0.Coords) (v143 : BitVec 32) (v146 : BitVec 32) (v160 : BitVec 1) (v262 : IVec S16 32) (k0_hw73 : k0_chk73 i v143 v146 v160 v262), ∀ (k0_h3 : k0_cond3 i v143 v146 v160 = 1#1), ∀ a x, ((![v262] : Fin 1 → IVec S16 32) a x).toNat < S24576.size a := fun i v143 v146 v160 v262 k0_hw73 k0_h3 => k0_hw73 k0_h3
def k0_off29 (i : grid0.Coords) (v143 : BitVec 32) (v146 : BitVec 32) (v150 : BitVec 32) (v152 : BitVec 32) (k0_t8 : Fin (k0_t8_loop i v143 v146).trips) (k0_t10 : Fin (k0_t10_loop v150 v152).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c1_i32_80 : BitVec 32 := 1#32
  let arg32 : BitVec 32 := Scf.iv c0_i32_78 c1_i32_80 k0_t8
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t10
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk74 (i : grid0.Coords) (v143 : BitVec 32) (v146 : BitVec 32) (v160 : BitVec 1) (v282 : IVec S16 32) : Prop :=
  (∀ (k0_h3 : k0_cond3 i v143 v146 v160 = 1#1), ∀ a x, ((![v282] : Fin 1 → IVec S16 32) a x).toNat < S24576.size a)
theorem k0_idx81_inb : ∀ (i : grid0.Coords) (v143 : BitVec 32) (v146 : BitVec 32) (v160 : BitVec 1) (v282 : IVec S16 32) (k0_hw74 : k0_chk74 i v143 v146 v160 v282), ∀ (k0_h3 : k0_cond3 i v143 v146 v160 = 1#1), ∀ a x, ((![v282] : Fin 1 → IVec S16 32) a x).toNat < S24576.size a := fun i v143 v146 v160 v282 k0_hw74 k0_h3 => k0_hw74 k0_h3

def k0_chk75 (i : grid0.Coords) (v143 : BitVec 32) (v146 : BitVec 32) (v160 : BitVec 1) (v286 : IVec S16 32) : Prop :=
  (∀ (k0_h3 : k0_cond3 i v143 v146 v160 = 1#1), ∀ a x, ((![v286] : Fin 1 → IVec S16 32) a x).toNat < S24576.size a)
theorem k0_idx82_inb : ∀ (i : grid0.Coords) (v143 : BitVec 32) (v146 : BitVec 32) (v160 : BitVec 1) (v286 : IVec S16 32) (k0_hw75 : k0_chk75 i v143 v146 v160 v286), ∀ (k0_h3 : k0_cond3 i v143 v146 v160 = 1#1), ∀ a x, ((![v286] : Fin 1 → IVec S16 32) a x).toNat < S24576.size a := fun i v143 v146 v160 v286 k0_hw75 k0_h3 => k0_hw75 k0_h3

def k0_chk76 (i : grid0.Coords) (v143 : BitVec 32) (v146 : BitVec 32) (v160 : BitVec 1) (v290 : IVec S16 32) : Prop :=
  (∀ (k0_h3 : k0_cond3 i v143 v146 v160 = 1#1), ∀ a x, ((![v290] : Fin 1 → IVec S16 32) a x).toNat < S24576.size a)
theorem k0_idx83_inb : ∀ (i : grid0.Coords) (v143 : BitVec 32) (v146 : BitVec 32) (v160 : BitVec 1) (v290 : IVec S16 32) (k0_hw76 : k0_chk76 i v143 v146 v160 v290), ∀ (k0_h3 : k0_cond3 i v143 v146 v160 = 1#1), ∀ a x, ((![v290] : Fin 1 → IVec S16 32) a x).toNat < S24576.size a := fun i v143 v146 v160 v290 k0_hw76 k0_h3 => k0_hw76 k0_h3

def k0_chk77 (i : grid0.Coords) (v143 : BitVec 32) (v146 : BitVec 32) (v160 : BitVec 1) (v294 : IVec S16 32) : Prop :=
  (∀ (k0_h3 : k0_cond3 i v143 v146 v160 = 1#1), ∀ a x, ((![v294] : Fin 1 → IVec S16 32) a x).toNat < S24576.size a)
theorem k0_idx84_inb : ∀ (i : grid0.Coords) (v143 : BitVec 32) (v146 : BitVec 32) (v160 : BitVec 1) (v294 : IVec S16 32) (k0_hw77 : k0_chk77 i v143 v146 v160 v294), ∀ (k0_h3 : k0_cond3 i v143 v146 v160 = 1#1), ∀ a x, ((![v294] : Fin 1 → IVec S16 32) a x).toNat < S24576.size a := fun i v143 v146 v160 v294 k0_hw77 k0_h3 => k0_hw77 k0_h3
def k0_off30 (i : grid0.Coords) (v143 : BitVec 32) (v146 : BitVec 32) (v150 : BitVec 32) (v152 : BitVec 32) (k0_t8 : Fin (k0_t8_loop i v143 v146).trips) (k0_t10 : Fin (k0_t10_loop v150 v152).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c1_i32_80 : BitVec 32 := 1#32
  let arg32 : BitVec 32 := Scf.iv c0_i32_78 c1_i32_80 k0_t8
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t10
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v306 : BitVec 32 := Scalar.addi v305 v203
  let v307 : Index := Scalar.indexCast v306
  ![v307.toNat]
@[reducible] def k0_t11_loop (i : grid0.Coords) (v143 : BitVec 32) (v146 : BitVec 32) : Scf.Loop 32 :=
  let c0_i32_78 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_65 : BitVec 32 := 28#32
  let v147 : BitVec 32 := Scalar.addi v29 c28_i32_65
  let v148 : BitVec 32 := Scalar.minsi v146 v147
  let v144 : BitVec 32 := Scalar.maxsi v143 v29
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let v174 : BitVec 32 := Scalar.addi c0_i32_78 v173
  let c1_i32_81 : BitVec 32 := 1#32
  ⟨v177, v174, c1_i32_81⟩

def k0_chk78 (i : grid0.Coords) (v143 : BitVec 32) (v146 : BitVec 32) (v160 : BitVec 1) (v181 : IVec S16 32) : Prop :=
  (∀ (k0_h3 : k0_cond3 i v143 v146 v160 = 1#1), ∀ a x, ((![v181] : Fin 1 → IVec S16 32) a x).toNat < S7168.size a) ∧
  (∀ (k0_h3 : k0_cond3 i v143 v146 v160 = 1#1), ∀ a x, ((![v181] : Fin 1 → IVec S16 32) a x).toNat < S7168.size a) ∧
  (∀ (k0_h3 : k0_cond3 i v143 v146 v160 = 1#1), ∀ a x, ((![v181] : Fin 1 → IVec S16 32) a x).toNat < S7168.size a) ∧
  (∀ (k0_h3 : k0_cond3 i v143 v146 v160 = 1#1), ∀ a x, ((![v181] : Fin 1 → IVec S16 32) a x).toNat < S7168.size a)
theorem k0_idx85_inb : ∀ (i : grid0.Coords) (v143 : BitVec 32) (v146 : BitVec 32) (v160 : BitVec 1) (v181 : IVec S16 32) (k0_hw78 : k0_chk78 i v143 v146 v160 v181), ∀ (k0_h3 : k0_cond3 i v143 v146 v160 = 1#1), ∀ a x, ((![v181] : Fin 1 → IVec S16 32) a x).toNat < S7168.size a := fun i v143 v146 v160 v181 k0_hw78 k0_h3 => k0_hw78.1 k0_h3
theorem k0_idx86_inb : ∀ (i : grid0.Coords) (v143 : BitVec 32) (v146 : BitVec 32) (v160 : BitVec 1) (v181 : IVec S16 32) (k0_hw78 : k0_chk78 i v143 v146 v160 v181), ∀ (k0_h3 : k0_cond3 i v143 v146 v160 = 1#1), ∀ a x, ((![v181] : Fin 1 → IVec S16 32) a x).toNat < S7168.size a := fun i v143 v146 v160 v181 k0_hw78 k0_h3 => k0_hw78.2.1 k0_h3
theorem k0_idx87_inb : ∀ (i : grid0.Coords) (v143 : BitVec 32) (v146 : BitVec 32) (v160 : BitVec 1) (v181 : IVec S16 32) (k0_hw78 : k0_chk78 i v143 v146 v160 v181), ∀ (k0_h3 : k0_cond3 i v143 v146 v160 = 1#1), ∀ a x, ((![v181] : Fin 1 → IVec S16 32) a x).toNat < S7168.size a := fun i v143 v146 v160 v181 k0_hw78 k0_h3 => k0_hw78.2.2.1 k0_h3
theorem k0_idx88_inb : ∀ (i : grid0.Coords) (v143 : BitVec 32) (v146 : BitVec 32) (v160 : BitVec 1) (v181 : IVec S16 32) (k0_hw78 : k0_chk78 i v143 v146 v160 v181), ∀ (k0_h3 : k0_cond3 i v143 v146 v160 = 1#1), ∀ a x, ((![v181] : Fin 1 → IVec S16 32) a x).toNat < S7168.size a := fun i v143 v146 v160 v181 k0_hw78 k0_h3 => k0_hw78.2.2.2 k0_h3
@[reducible] def k0_t12_loop (v150 : BitVec 32) (v152 : BitVec 32) : Scf.Loop 32 :=
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_89 : BitVec 32 := 1#32
  ⟨c0_i32_87, v200, c1_i32_89⟩
def k0_off31 (k0_t1 : Fin k0_t1_loop.trips) (v150 : BitVec 32) (v152 : BitVec 32) (k0_t12 : Fin (k0_t12_loop v150 v152).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c1_i32_63 : BitVec 32 := 1#32
  let v138 : BitVec 32 := Scalar.addi v99 c1_i32_63
  let c224_i32_67 : BitVec 32 := 224#32
  let v158 : BitVec 32 := Scalar.muli v138 c224_i32_67
  let c0_i32_87 : BitVec 32 := 0#32
  let c1_i32_89 : BitVec 32 := 1#32
  let arg33 : BitVec 32 := Scf.iv c0_i32_87 c1_i32_89 k0_t12
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v204 : BitVec 32 := Scalar.addi v158 v203
  let v205 : Index := Scalar.indexCast v204
  ![v205.toNat]

def k0_chk79 (i : grid0.Coords) (v143 : BitVec 32) (v146 : BitVec 32) (v160 : BitVec 1) (v218 : IVec S16 32) : Prop :=
  (∀ (k0_h3 : k0_cond3 i v143 v146 v160 = 1#1), ∀ a x, ((![v218] : Fin 1 → IVec S16 32) a x).toNat < S24576.size a)
theorem k0_idx89_inb : ∀ (i : grid0.Coords) (v143 : BitVec 32) (v146 : BitVec 32) (v160 : BitVec 1) (v218 : IVec S16 32) (k0_hw79 : k0_chk79 i v143 v146 v160 v218), ∀ (k0_h3 : k0_cond3 i v143 v146 v160 = 1#1), ∀ a x, ((![v218] : Fin 1 → IVec S16 32) a x).toNat < S24576.size a := fun i v143 v146 v160 v218 k0_hw79 k0_h3 => k0_hw79 k0_h3

def k0_chk80 (i : grid0.Coords) (v143 : BitVec 32) (v146 : BitVec 32) (v160 : BitVec 1) (v222 : IVec S16 32) : Prop :=
  (∀ (k0_h3 : k0_cond3 i v143 v146 v160 = 1#1), ∀ a x, ((![v222] : Fin 1 → IVec S16 32) a x).toNat < S24576.size a)
theorem k0_idx90_inb : ∀ (i : grid0.Coords) (v143 : BitVec 32) (v146 : BitVec 32) (v160 : BitVec 1) (v222 : IVec S16 32) (k0_hw80 : k0_chk80 i v143 v146 v160 v222), ∀ (k0_h3 : k0_cond3 i v143 v146 v160 = 1#1), ∀ a x, ((![v222] : Fin 1 → IVec S16 32) a x).toNat < S24576.size a := fun i v143 v146 v160 v222 k0_hw80 k0_h3 => k0_hw80 k0_h3

def k0_chk81 (i : grid0.Coords) (v143 : BitVec 32) (v146 : BitVec 32) (v160 : BitVec 1) (v226 : IVec S16 32) : Prop :=
  (∀ (k0_h3 : k0_cond3 i v143 v146 v160 = 1#1), ∀ a x, ((![v226] : Fin 1 → IVec S16 32) a x).toNat < S24576.size a)
theorem k0_idx91_inb : ∀ (i : grid0.Coords) (v143 : BitVec 32) (v146 : BitVec 32) (v160 : BitVec 1) (v226 : IVec S16 32) (k0_hw81 : k0_chk81 i v143 v146 v160 v226), ∀ (k0_h3 : k0_cond3 i v143 v146 v160 = 1#1), ∀ a x, ((![v226] : Fin 1 → IVec S16 32) a x).toNat < S24576.size a := fun i v143 v146 v160 v226 k0_hw81 k0_h3 => k0_hw81 k0_h3

def k0_chk82 (i : grid0.Coords) (v143 : BitVec 32) (v146 : BitVec 32) (v160 : BitVec 1) (v230 : IVec S16 32) : Prop :=
  (∀ (k0_h3 : k0_cond3 i v143 v146 v160 = 1#1), ∀ a x, ((![v230] : Fin 1 → IVec S16 32) a x).toNat < S24576.size a)
theorem k0_idx92_inb : ∀ (i : grid0.Coords) (v143 : BitVec 32) (v146 : BitVec 32) (v160 : BitVec 1) (v230 : IVec S16 32) (k0_hw82 : k0_chk82 i v143 v146 v160 v230), ∀ (k0_h3 : k0_cond3 i v143 v146 v160 = 1#1), ∀ a x, ((![v230] : Fin 1 → IVec S16 32) a x).toNat < S24576.size a := fun i v143 v146 v160 v230 k0_hw82 k0_h3 => k0_hw82 k0_h3
def k0_off32 (i : grid0.Coords) (v143 : BitVec 32) (v146 : BitVec 32) (v150 : BitVec 32) (v152 : BitVec 32) (k0_t11 : Fin (k0_t11_loop i v143 v146).trips) (k0_t12 : Fin (k0_t12_loop v150 v152).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c28_i32_65 : BitVec 32 := 28#32
  let v147 : BitVec 32 := Scalar.addi v29 c28_i32_65
  let v148 : BitVec 32 := Scalar.minsi v146 v147
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t11
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let c1_i32_89 : BitVec 32 := 1#32
  let arg33 : BitVec 32 := Scf.iv c0_i32_87 c1_i32_89 k0_t12
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk83 (i : grid0.Coords) (v143 : BitVec 32) (v146 : BitVec 32) (v160 : BitVec 1) (v250 : IVec S16 32) : Prop :=
  (∀ (k0_h3 : k0_cond3 i v143 v146 v160 = 1#1), ∀ a x, ((![v250] : Fin 1 → IVec S16 32) a x).toNat < S24576.size a)
theorem k0_idx93_inb : ∀ (i : grid0.Coords) (v143 : BitVec 32) (v146 : BitVec 32) (v160 : BitVec 1) (v250 : IVec S16 32) (k0_hw83 : k0_chk83 i v143 v146 v160 v250), ∀ (k0_h3 : k0_cond3 i v143 v146 v160 = 1#1), ∀ a x, ((![v250] : Fin 1 → IVec S16 32) a x).toNat < S24576.size a := fun i v143 v146 v160 v250 k0_hw83 k0_h3 => k0_hw83 k0_h3

def k0_chk84 (i : grid0.Coords) (v143 : BitVec 32) (v146 : BitVec 32) (v160 : BitVec 1) (v254 : IVec S16 32) : Prop :=
  (∀ (k0_h3 : k0_cond3 i v143 v146 v160 = 1#1), ∀ a x, ((![v254] : Fin 1 → IVec S16 32) a x).toNat < S24576.size a)
theorem k0_idx94_inb : ∀ (i : grid0.Coords) (v143 : BitVec 32) (v146 : BitVec 32) (v160 : BitVec 1) (v254 : IVec S16 32) (k0_hw84 : k0_chk84 i v143 v146 v160 v254), ∀ (k0_h3 : k0_cond3 i v143 v146 v160 = 1#1), ∀ a x, ((![v254] : Fin 1 → IVec S16 32) a x).toNat < S24576.size a := fun i v143 v146 v160 v254 k0_hw84 k0_h3 => k0_hw84 k0_h3

def k0_chk85 (i : grid0.Coords) (v143 : BitVec 32) (v146 : BitVec 32) (v160 : BitVec 1) (v258 : IVec S16 32) : Prop :=
  (∀ (k0_h3 : k0_cond3 i v143 v146 v160 = 1#1), ∀ a x, ((![v258] : Fin 1 → IVec S16 32) a x).toNat < S24576.size a)
theorem k0_idx95_inb : ∀ (i : grid0.Coords) (v143 : BitVec 32) (v146 : BitVec 32) (v160 : BitVec 1) (v258 : IVec S16 32) (k0_hw85 : k0_chk85 i v143 v146 v160 v258), ∀ (k0_h3 : k0_cond3 i v143 v146 v160 = 1#1), ∀ a x, ((![v258] : Fin 1 → IVec S16 32) a x).toNat < S24576.size a := fun i v143 v146 v160 v258 k0_hw85 k0_h3 => k0_hw85 k0_h3

def k0_chk86 (i : grid0.Coords) (v143 : BitVec 32) (v146 : BitVec 32) (v160 : BitVec 1) (v262 : IVec S16 32) : Prop :=
  (∀ (k0_h3 : k0_cond3 i v143 v146 v160 = 1#1), ∀ a x, ((![v262] : Fin 1 → IVec S16 32) a x).toNat < S24576.size a)
theorem k0_idx96_inb : ∀ (i : grid0.Coords) (v143 : BitVec 32) (v146 : BitVec 32) (v160 : BitVec 1) (v262 : IVec S16 32) (k0_hw86 : k0_chk86 i v143 v146 v160 v262), ∀ (k0_h3 : k0_cond3 i v143 v146 v160 = 1#1), ∀ a x, ((![v262] : Fin 1 → IVec S16 32) a x).toNat < S24576.size a := fun i v143 v146 v160 v262 k0_hw86 k0_h3 => k0_hw86 k0_h3
def k0_off33 (i : grid0.Coords) (v143 : BitVec 32) (v146 : BitVec 32) (v150 : BitVec 32) (v152 : BitVec 32) (k0_t11 : Fin (k0_t11_loop i v143 v146).trips) (k0_t12 : Fin (k0_t12_loop v150 v152).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c28_i32_65 : BitVec 32 := 28#32
  let v147 : BitVec 32 := Scalar.addi v29 c28_i32_65
  let v148 : BitVec 32 := Scalar.minsi v146 v147
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t11
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let c1_i32_89 : BitVec 32 := 1#32
  let arg33 : BitVec 32 := Scf.iv c0_i32_87 c1_i32_89 k0_t12
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk87 (i : grid0.Coords) (v143 : BitVec 32) (v146 : BitVec 32) (v160 : BitVec 1) (v282 : IVec S16 32) : Prop :=
  (∀ (k0_h3 : k0_cond3 i v143 v146 v160 = 1#1), ∀ a x, ((![v282] : Fin 1 → IVec S16 32) a x).toNat < S24576.size a)
theorem k0_idx97_inb : ∀ (i : grid0.Coords) (v143 : BitVec 32) (v146 : BitVec 32) (v160 : BitVec 1) (v282 : IVec S16 32) (k0_hw87 : k0_chk87 i v143 v146 v160 v282), ∀ (k0_h3 : k0_cond3 i v143 v146 v160 = 1#1), ∀ a x, ((![v282] : Fin 1 → IVec S16 32) a x).toNat < S24576.size a := fun i v143 v146 v160 v282 k0_hw87 k0_h3 => k0_hw87 k0_h3

def k0_chk88 (i : grid0.Coords) (v143 : BitVec 32) (v146 : BitVec 32) (v160 : BitVec 1) (v286 : IVec S16 32) : Prop :=
  (∀ (k0_h3 : k0_cond3 i v143 v146 v160 = 1#1), ∀ a x, ((![v286] : Fin 1 → IVec S16 32) a x).toNat < S24576.size a)
theorem k0_idx98_inb : ∀ (i : grid0.Coords) (v143 : BitVec 32) (v146 : BitVec 32) (v160 : BitVec 1) (v286 : IVec S16 32) (k0_hw88 : k0_chk88 i v143 v146 v160 v286), ∀ (k0_h3 : k0_cond3 i v143 v146 v160 = 1#1), ∀ a x, ((![v286] : Fin 1 → IVec S16 32) a x).toNat < S24576.size a := fun i v143 v146 v160 v286 k0_hw88 k0_h3 => k0_hw88 k0_h3

def k0_chk89 (i : grid0.Coords) (v143 : BitVec 32) (v146 : BitVec 32) (v160 : BitVec 1) (v290 : IVec S16 32) : Prop :=
  (∀ (k0_h3 : k0_cond3 i v143 v146 v160 = 1#1), ∀ a x, ((![v290] : Fin 1 → IVec S16 32) a x).toNat < S24576.size a)
theorem k0_idx99_inb : ∀ (i : grid0.Coords) (v143 : BitVec 32) (v146 : BitVec 32) (v160 : BitVec 1) (v290 : IVec S16 32) (k0_hw89 : k0_chk89 i v143 v146 v160 v290), ∀ (k0_h3 : k0_cond3 i v143 v146 v160 = 1#1), ∀ a x, ((![v290] : Fin 1 → IVec S16 32) a x).toNat < S24576.size a := fun i v143 v146 v160 v290 k0_hw89 k0_h3 => k0_hw89 k0_h3

def k0_chk90 (i : grid0.Coords) (v143 : BitVec 32) (v146 : BitVec 32) (v160 : BitVec 1) (v294 : IVec S16 32) : Prop :=
  (∀ (k0_h3 : k0_cond3 i v143 v146 v160 = 1#1), ∀ a x, ((![v294] : Fin 1 → IVec S16 32) a x).toNat < S24576.size a)
theorem k0_idx100_inb : ∀ (i : grid0.Coords) (v143 : BitVec 32) (v146 : BitVec 32) (v160 : BitVec 1) (v294 : IVec S16 32) (k0_hw90 : k0_chk90 i v143 v146 v160 v294), ∀ (k0_h3 : k0_cond3 i v143 v146 v160 = 1#1), ∀ a x, ((![v294] : Fin 1 → IVec S16 32) a x).toNat < S24576.size a := fun i v143 v146 v160 v294 k0_hw90 k0_h3 => k0_hw90 k0_h3
def k0_off34 (i : grid0.Coords) (v143 : BitVec 32) (v146 : BitVec 32) (v150 : BitVec 32) (v152 : BitVec 32) (k0_t11 : Fin (k0_t11_loop i v143 v146).trips) (k0_t12 : Fin (k0_t12_loop v150 v152).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c28_i32_65 : BitVec 32 := 28#32
  let v147 : BitVec 32 := Scalar.addi v29 c28_i32_65
  let v148 : BitVec 32 := Scalar.minsi v146 v147
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t11
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let c1_i32_89 : BitVec 32 := 1#32
  let arg33 : BitVec 32 := Scf.iv c0_i32_87 c1_i32_89 k0_t12
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v306 : BitVec 32 := Scalar.addi v305 v203
  let v307 : Index := Scalar.indexCast v306
  ![v307.toNat]
@[reducible] def k0_t13_loop (v150 : BitVec 32) (v152 : BitVec 32) : Scf.Loop 32 :=
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let v197 : BitVec 32 := Scalar.addi c0_i32_87 v196
  let c1_i32_90 : BitVec 32 := 1#32
  ⟨v200, v197, c1_i32_90⟩
def k0_off35 (k0_t1 : Fin k0_t1_loop.trips) (v150 : BitVec 32) (v152 : BitVec 32) (k0_t13 : Fin (k0_t13_loop v150 v152).trips) : Fin 1 → Nat :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c1_i32_63 : BitVec 32 := 1#32
  let v138 : BitVec 32 := Scalar.addi v99 c1_i32_63
  let c224_i32_67 : BitVec 32 := 224#32
  let v158 : BitVec 32 := Scalar.muli v138 c224_i32_67
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t13
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v204 : BitVec 32 := Scalar.addi v158 v203
  let v205 : Index := Scalar.indexCast v204
  ![v205.toNat]

def k0_chk91 (i : grid0.Coords) (v143 : BitVec 32) (v146 : BitVec 32) (v160 : BitVec 1) (v218 : IVec S16 32) : Prop :=
  (∀ (k0_h3 : k0_cond3 i v143 v146 v160 = 1#1), ∀ a x, ((![v218] : Fin 1 → IVec S16 32) a x).toNat < S24576.size a)
theorem k0_idx101_inb : ∀ (i : grid0.Coords) (v143 : BitVec 32) (v146 : BitVec 32) (v160 : BitVec 1) (v218 : IVec S16 32) (k0_hw91 : k0_chk91 i v143 v146 v160 v218), ∀ (k0_h3 : k0_cond3 i v143 v146 v160 = 1#1), ∀ a x, ((![v218] : Fin 1 → IVec S16 32) a x).toNat < S24576.size a := fun i v143 v146 v160 v218 k0_hw91 k0_h3 => k0_hw91 k0_h3

def k0_chk92 (i : grid0.Coords) (v143 : BitVec 32) (v146 : BitVec 32) (v160 : BitVec 1) (v222 : IVec S16 32) : Prop :=
  (∀ (k0_h3 : k0_cond3 i v143 v146 v160 = 1#1), ∀ a x, ((![v222] : Fin 1 → IVec S16 32) a x).toNat < S24576.size a)
theorem k0_idx102_inb : ∀ (i : grid0.Coords) (v143 : BitVec 32) (v146 : BitVec 32) (v160 : BitVec 1) (v222 : IVec S16 32) (k0_hw92 : k0_chk92 i v143 v146 v160 v222), ∀ (k0_h3 : k0_cond3 i v143 v146 v160 = 1#1), ∀ a x, ((![v222] : Fin 1 → IVec S16 32) a x).toNat < S24576.size a := fun i v143 v146 v160 v222 k0_hw92 k0_h3 => k0_hw92 k0_h3

def k0_chk93 (i : grid0.Coords) (v143 : BitVec 32) (v146 : BitVec 32) (v160 : BitVec 1) (v226 : IVec S16 32) : Prop :=
  (∀ (k0_h3 : k0_cond3 i v143 v146 v160 = 1#1), ∀ a x, ((![v226] : Fin 1 → IVec S16 32) a x).toNat < S24576.size a)
theorem k0_idx103_inb : ∀ (i : grid0.Coords) (v143 : BitVec 32) (v146 : BitVec 32) (v160 : BitVec 1) (v226 : IVec S16 32) (k0_hw93 : k0_chk93 i v143 v146 v160 v226), ∀ (k0_h3 : k0_cond3 i v143 v146 v160 = 1#1), ∀ a x, ((![v226] : Fin 1 → IVec S16 32) a x).toNat < S24576.size a := fun i v143 v146 v160 v226 k0_hw93 k0_h3 => k0_hw93 k0_h3

def k0_chk94 (i : grid0.Coords) (v143 : BitVec 32) (v146 : BitVec 32) (v160 : BitVec 1) (v230 : IVec S16 32) : Prop :=
  (∀ (k0_h3 : k0_cond3 i v143 v146 v160 = 1#1), ∀ a x, ((![v230] : Fin 1 → IVec S16 32) a x).toNat < S24576.size a)
theorem k0_idx104_inb : ∀ (i : grid0.Coords) (v143 : BitVec 32) (v146 : BitVec 32) (v160 : BitVec 1) (v230 : IVec S16 32) (k0_hw94 : k0_chk94 i v143 v146 v160 v230), ∀ (k0_h3 : k0_cond3 i v143 v146 v160 = 1#1), ∀ a x, ((![v230] : Fin 1 → IVec S16 32) a x).toNat < S24576.size a := fun i v143 v146 v160 v230 k0_hw94 k0_h3 => k0_hw94 k0_h3
def k0_off36 (i : grid0.Coords) (v143 : BitVec 32) (v146 : BitVec 32) (v150 : BitVec 32) (v152 : BitVec 32) (k0_t11 : Fin (k0_t11_loop i v143 v146).trips) (k0_t13 : Fin (k0_t13_loop v150 v152).trips) : Fin 1 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c28_i32_65 : BitVec 32 := 28#32
  let v147 : BitVec 32 := Scalar.addi v29 c28_i32_65
  let v148 : BitVec 32 := Scalar.minsi v146 v147
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t11
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v241 : BitVec 32 := Scalar.addi c0_i32_96 v191
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t13
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v242 : BitVec 32 := Scalar.addi v241 v203
  let v243 : Index := Scalar.indexCast v242
  ![v243.toNat]

def k0_chk95 (i : grid0.Coords) (v143 : BitVec 32) (v146 : BitVec 32) (v160 : BitVec 1) (v250 : IVec S16 32) : Prop :=
  (∀ (k0_h3 : k0_cond3 i v143 v146 v160 = 1#1), ∀ a x, ((![v250] : Fin 1 → IVec S16 32) a x).toNat < S24576.size a)
theorem k0_idx105_inb : ∀ (i : grid0.Coords) (v143 : BitVec 32) (v146 : BitVec 32) (v160 : BitVec 1) (v250 : IVec S16 32) (k0_hw95 : k0_chk95 i v143 v146 v160 v250), ∀ (k0_h3 : k0_cond3 i v143 v146 v160 = 1#1), ∀ a x, ((![v250] : Fin 1 → IVec S16 32) a x).toNat < S24576.size a := fun i v143 v146 v160 v250 k0_hw95 k0_h3 => k0_hw95 k0_h3

def k0_chk96 (i : grid0.Coords) (v143 : BitVec 32) (v146 : BitVec 32) (v160 : BitVec 1) (v254 : IVec S16 32) : Prop :=
  (∀ (k0_h3 : k0_cond3 i v143 v146 v160 = 1#1), ∀ a x, ((![v254] : Fin 1 → IVec S16 32) a x).toNat < S24576.size a)
theorem k0_idx106_inb : ∀ (i : grid0.Coords) (v143 : BitVec 32) (v146 : BitVec 32) (v160 : BitVec 1) (v254 : IVec S16 32) (k0_hw96 : k0_chk96 i v143 v146 v160 v254), ∀ (k0_h3 : k0_cond3 i v143 v146 v160 = 1#1), ∀ a x, ((![v254] : Fin 1 → IVec S16 32) a x).toNat < S24576.size a := fun i v143 v146 v160 v254 k0_hw96 k0_h3 => k0_hw96 k0_h3

def k0_chk97 (i : grid0.Coords) (v143 : BitVec 32) (v146 : BitVec 32) (v160 : BitVec 1) (v258 : IVec S16 32) : Prop :=
  (∀ (k0_h3 : k0_cond3 i v143 v146 v160 = 1#1), ∀ a x, ((![v258] : Fin 1 → IVec S16 32) a x).toNat < S24576.size a)
theorem k0_idx107_inb : ∀ (i : grid0.Coords) (v143 : BitVec 32) (v146 : BitVec 32) (v160 : BitVec 1) (v258 : IVec S16 32) (k0_hw97 : k0_chk97 i v143 v146 v160 v258), ∀ (k0_h3 : k0_cond3 i v143 v146 v160 = 1#1), ∀ a x, ((![v258] : Fin 1 → IVec S16 32) a x).toNat < S24576.size a := fun i v143 v146 v160 v258 k0_hw97 k0_h3 => k0_hw97 k0_h3

def k0_chk98 (i : grid0.Coords) (v143 : BitVec 32) (v146 : BitVec 32) (v160 : BitVec 1) (v262 : IVec S16 32) : Prop :=
  (∀ (k0_h3 : k0_cond3 i v143 v146 v160 = 1#1), ∀ a x, ((![v262] : Fin 1 → IVec S16 32) a x).toNat < S24576.size a)
theorem k0_idx108_inb : ∀ (i : grid0.Coords) (v143 : BitVec 32) (v146 : BitVec 32) (v160 : BitVec 1) (v262 : IVec S16 32) (k0_hw98 : k0_chk98 i v143 v146 v160 v262), ∀ (k0_h3 : k0_cond3 i v143 v146 v160 = 1#1), ∀ a x, ((![v262] : Fin 1 → IVec S16 32) a x).toNat < S24576.size a := fun i v143 v146 v160 v262 k0_hw98 k0_h3 => k0_hw98 k0_h3
def k0_off37 (i : grid0.Coords) (v143 : BitVec 32) (v146 : BitVec 32) (v150 : BitVec 32) (v152 : BitVec 32) (k0_t11 : Fin (k0_t11_loop i v143 v146).trips) (k0_t13 : Fin (k0_t13_loop v150 v152).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c28_i32_65 : BitVec 32 := 28#32
  let v147 : BitVec 32 := Scalar.addi v29 c28_i32_65
  let v148 : BitVec 32 := Scalar.minsi v146 v147
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t11
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v273 : BitVec 32 := Scalar.addi c6272_i32 v191
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t13
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v274 : BitVec 32 := Scalar.addi v273 v203
  let v275 : Index := Scalar.indexCast v274
  ![v275.toNat]

def k0_chk99 (i : grid0.Coords) (v143 : BitVec 32) (v146 : BitVec 32) (v160 : BitVec 1) (v282 : IVec S16 32) : Prop :=
  (∀ (k0_h3 : k0_cond3 i v143 v146 v160 = 1#1), ∀ a x, ((![v282] : Fin 1 → IVec S16 32) a x).toNat < S24576.size a)
theorem k0_idx109_inb : ∀ (i : grid0.Coords) (v143 : BitVec 32) (v146 : BitVec 32) (v160 : BitVec 1) (v282 : IVec S16 32) (k0_hw99 : k0_chk99 i v143 v146 v160 v282), ∀ (k0_h3 : k0_cond3 i v143 v146 v160 = 1#1), ∀ a x, ((![v282] : Fin 1 → IVec S16 32) a x).toNat < S24576.size a := fun i v143 v146 v160 v282 k0_hw99 k0_h3 => k0_hw99 k0_h3

def k0_chk100 (i : grid0.Coords) (v143 : BitVec 32) (v146 : BitVec 32) (v160 : BitVec 1) (v286 : IVec S16 32) : Prop :=
  (∀ (k0_h3 : k0_cond3 i v143 v146 v160 = 1#1), ∀ a x, ((![v286] : Fin 1 → IVec S16 32) a x).toNat < S24576.size a)
theorem k0_idx110_inb : ∀ (i : grid0.Coords) (v143 : BitVec 32) (v146 : BitVec 32) (v160 : BitVec 1) (v286 : IVec S16 32) (k0_hw100 : k0_chk100 i v143 v146 v160 v286), ∀ (k0_h3 : k0_cond3 i v143 v146 v160 = 1#1), ∀ a x, ((![v286] : Fin 1 → IVec S16 32) a x).toNat < S24576.size a := fun i v143 v146 v160 v286 k0_hw100 k0_h3 => k0_hw100 k0_h3

def k0_chk101 (i : grid0.Coords) (v143 : BitVec 32) (v146 : BitVec 32) (v160 : BitVec 1) (v290 : IVec S16 32) : Prop :=
  (∀ (k0_h3 : k0_cond3 i v143 v146 v160 = 1#1), ∀ a x, ((![v290] : Fin 1 → IVec S16 32) a x).toNat < S24576.size a)
theorem k0_idx111_inb : ∀ (i : grid0.Coords) (v143 : BitVec 32) (v146 : BitVec 32) (v160 : BitVec 1) (v290 : IVec S16 32) (k0_hw101 : k0_chk101 i v143 v146 v160 v290), ∀ (k0_h3 : k0_cond3 i v143 v146 v160 = 1#1), ∀ a x, ((![v290] : Fin 1 → IVec S16 32) a x).toNat < S24576.size a := fun i v143 v146 v160 v290 k0_hw101 k0_h3 => k0_hw101 k0_h3

def k0_chk102 (i : grid0.Coords) (v143 : BitVec 32) (v146 : BitVec 32) (v160 : BitVec 1) (v294 : IVec S16 32) : Prop :=
  (∀ (k0_h3 : k0_cond3 i v143 v146 v160 = 1#1), ∀ a x, ((![v294] : Fin 1 → IVec S16 32) a x).toNat < S24576.size a)
theorem k0_idx112_inb : ∀ (i : grid0.Coords) (v143 : BitVec 32) (v146 : BitVec 32) (v160 : BitVec 1) (v294 : IVec S16 32) (k0_hw102 : k0_chk102 i v143 v146 v160 v294), ∀ (k0_h3 : k0_cond3 i v143 v146 v160 = 1#1), ∀ a x, ((![v294] : Fin 1 → IVec S16 32) a x).toNat < S24576.size a := fun i v143 v146 v160 v294 k0_hw102 k0_h3 => k0_hw102 k0_h3
def k0_off38 (i : grid0.Coords) (v143 : BitVec 32) (v146 : BitVec 32) (v150 : BitVec 32) (v152 : BitVec 32) (k0_t11 : Fin (k0_t11_loop i v143 v146).trips) (k0_t13 : Fin (k0_t13_loop v150 v152).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v144 : BitVec 32 := Scalar.maxsi v143 v29
  let c0_i32_78 : BitVec 32 := 0#32
  let c28_i32_65 : BitVec 32 := 28#32
  let v147 : BitVec 32 := Scalar.addi v29 c28_i32_65
  let v148 : BitVec 32 := Scalar.minsi v146 v147
  let v169 : BitVec 32 := Scalar.subi v148 v144
  let c1_i32_74 : BitVec 32 := 1#32
  let c1_i32_75 : BitVec 32 := 1#32
  let v170 : BitVec 32 := Scalar.subi c1_i32_74 c1_i32_75
  let v171 : BitVec 32 := Scalar.addi v169 v170
  let c1_i32_76 : BitVec 32 := 1#32
  let v172 : BitVec 32 := Scalar.divsi v171 c1_i32_76
  let v173 : BitVec 32 := Scalar.subi v172 c0_i32_78
  let c1_i32_79 : BitVec 32 := 1#32
  let v175 : BitVec 32 := Scalar.divsi v173 c1_i32_79
  let v176 : BitVec 32 := Scalar.muli v175 c1_i32_79
  let v177 : BitVec 32 := Scalar.addi c0_i32_78 v176
  let c1_i32_81 : BitVec 32 := 1#32
  let arg32 : BitVec 32 := Scf.iv v177 c1_i32_81 k0_t11
  let c1_i32_77 : BitVec 32 := 1#32
  let v178 : BitVec 32 := Scalar.muli arg32 c1_i32_77
  let v179 : BitVec 32 := Scalar.addi v144 v178
  let v190 : BitVec 32 := Scalar.subi v179 v29
  let c224_i32_82 : BitVec 32 := 224#32
  let v191 : BitVec 32 := Scalar.muli v190 c224_i32_82
  let v305 : BitVec 32 := Scalar.addi c12544_i32 v191
  let c0_i32_87 : BitVec 32 := 0#32
  let v192 : BitVec 32 := Scalar.subi v152 v150
  let c1_i32_83 : BitVec 32 := 1#32
  let c1_i32_84 : BitVec 32 := 1#32
  let v193 : BitVec 32 := Scalar.subi c1_i32_83 c1_i32_84
  let v194 : BitVec 32 := Scalar.addi v192 v193
  let c1_i32_85 : BitVec 32 := 1#32
  let v195 : BitVec 32 := Scalar.divsi v194 c1_i32_85
  let v196 : BitVec 32 := Scalar.subi v195 c0_i32_87
  let c1_i32_88 : BitVec 32 := 1#32
  let v198 : BitVec 32 := Scalar.divsi v196 c1_i32_88
  let v199 : BitVec 32 := Scalar.muli v198 c1_i32_88
  let v200 : BitVec 32 := Scalar.addi c0_i32_87 v199
  let c1_i32_90 : BitVec 32 := 1#32
  let arg33 : BitVec 32 := Scf.iv v200 c1_i32_90 k0_t13
  let c1_i32_86 : BitVec 32 := 1#32
  let v201 : BitVec 32 := Scalar.muli arg33 c1_i32_86
  let v202 : BitVec 32 := Scalar.addi v150 v201
  let c16_i32_91 : BitVec 32 := 16#32
  let v203 : BitVec 32 := Scalar.muli v202 c16_i32_91
  let v306 : BitVec 32 := Scalar.addi v305 v203
  let v307 : Index := Scalar.indexCast v306
  ![v307.toNat]

def k0_chk52 (i : grid0.Coords) (k0_t1 : Fin k0_t1_loop.trips) (v143 : BitVec 32) (v146 : BitVec 32) (v150 : BitVec 32) (v152 : BitVec 32) (v160 : BitVec 1) : Prop :=
  (∀ (k0_h3 : k0_cond3 i v143 v146 v160 = 1#1), (k0_t8_loop i v143 v146).OK) ∧
  (∀ k0_t8 : Fin (k0_t8_loop i v143 v146).trips, ∀ (k0_h3 : k0_cond3 i v143 v146 v160 = 1#1), (k0_t9_loop v150 v152).OK) ∧
  (∀ (k0_t8 : Fin (k0_t8_loop i v143 v146).trips) (k0_t9 : Fin (k0_t9_loop v150 v152).trips), ∀ (k0_h3 : k0_cond3 i v143 v146 v160 = 1#1), ∀ a, (k0_off23 k0_t1 v150 v152 k0_t9) a + S16.size a ≤ S7168.size a) ∧
  (∀ (k0_t8 : Fin (k0_t8_loop i v143 v146).trips) (k0_t9 : Fin (k0_t9_loop v150 v152).trips), ∀ (k0_h3 : k0_cond3 i v143 v146 v160 = 1#1), ∀ a, (k0_off24 i v143 v146 v150 v152 k0_t8 k0_t9) a + S16.size a ≤ S18816.size a) ∧
  (∀ (k0_t8 : Fin (k0_t8_loop i v143 v146).trips) (k0_t9 : Fin (k0_t9_loop v150 v152).trips), ∀ (k0_h3 : k0_cond3 i v143 v146 v160 = 1#1), ∀ a, (k0_off25 i v143 v146 v150 v152 k0_t8 k0_t9) a + S16.size a ≤ S18816.size a) ∧
  (∀ (k0_t8 : Fin (k0_t8_loop i v143 v146).trips) (k0_t9 : Fin (k0_t9_loop v150 v152).trips), ∀ (k0_h3 : k0_cond3 i v143 v146 v160 = 1#1), ∀ a, (k0_off26 i v143 v146 v150 v152 k0_t8 k0_t9) a + S16.size a ≤ S18816.size a) ∧
  (∀ k0_t8 : Fin (k0_t8_loop i v143 v146).trips, ∀ (k0_h3 : k0_cond3 i v143 v146 v160 = 1#1), (k0_t10_loop v150 v152).OK) ∧
  (∀ (k0_t8 : Fin (k0_t8_loop i v143 v146).trips) (k0_t10 : Fin (k0_t10_loop v150 v152).trips), ∀ (k0_h3 : k0_cond3 i v143 v146 v160 = 1#1), ∀ a, (k0_off27 k0_t1 v150 v152 k0_t10) a + S16.size a ≤ S7168.size a) ∧
  (∀ (k0_t8 : Fin (k0_t8_loop i v143 v146).trips) (k0_t10 : Fin (k0_t10_loop v150 v152).trips), ∀ (k0_h3 : k0_cond3 i v143 v146 v160 = 1#1), ∀ a, (k0_off28 i v143 v146 v150 v152 k0_t8 k0_t10) a + S16.size a ≤ S18816.size a) ∧
  (∀ (k0_t8 : Fin (k0_t8_loop i v143 v146).trips) (k0_t10 : Fin (k0_t10_loop v150 v152).trips), ∀ (k0_h3 : k0_cond3 i v143 v146 v160 = 1#1), ∀ a, (k0_off29 i v143 v146 v150 v152 k0_t8 k0_t10) a + S16.size a ≤ S18816.size a) ∧
  (∀ (k0_t8 : Fin (k0_t8_loop i v143 v146).trips) (k0_t10 : Fin (k0_t10_loop v150 v152).trips), ∀ (k0_h3 : k0_cond3 i v143 v146 v160 = 1#1), ∀ a, (k0_off30 i v143 v146 v150 v152 k0_t8 k0_t10) a + S16.size a ≤ S18816.size a) ∧
  (∀ (k0_h3 : k0_cond3 i v143 v146 v160 = 1#1), (k0_t11_loop i v143 v146).OK) ∧
  (∀ k0_t11 : Fin (k0_t11_loop i v143 v146).trips, ∀ (k0_h3 : k0_cond3 i v143 v146 v160 = 1#1), (k0_t12_loop v150 v152).OK) ∧
  (∀ (k0_t11 : Fin (k0_t11_loop i v143 v146).trips) (k0_t12 : Fin (k0_t12_loop v150 v152).trips), ∀ (k0_h3 : k0_cond3 i v143 v146 v160 = 1#1), ∀ a, (k0_off31 k0_t1 v150 v152 k0_t12) a + S16.size a ≤ S7168.size a) ∧
  (∀ (k0_t11 : Fin (k0_t11_loop i v143 v146).trips) (k0_t12 : Fin (k0_t12_loop v150 v152).trips), ∀ (k0_h3 : k0_cond3 i v143 v146 v160 = 1#1), ∀ a, (k0_off32 i v143 v146 v150 v152 k0_t11 k0_t12) a + S16.size a ≤ S18816.size a) ∧
  (∀ (k0_t11 : Fin (k0_t11_loop i v143 v146).trips) (k0_t12 : Fin (k0_t12_loop v150 v152).trips), ∀ (k0_h3 : k0_cond3 i v143 v146 v160 = 1#1), ∀ a, (k0_off33 i v143 v146 v150 v152 k0_t11 k0_t12) a + S16.size a ≤ S18816.size a) ∧
  (∀ (k0_t11 : Fin (k0_t11_loop i v143 v146).trips) (k0_t12 : Fin (k0_t12_loop v150 v152).trips), ∀ (k0_h3 : k0_cond3 i v143 v146 v160 = 1#1), ∀ a, (k0_off34 i v143 v146 v150 v152 k0_t11 k0_t12) a + S16.size a ≤ S18816.size a) ∧
  (∀ k0_t11 : Fin (k0_t11_loop i v143 v146).trips, ∀ (k0_h3 : k0_cond3 i v143 v146 v160 = 1#1), (k0_t13_loop v150 v152).OK) ∧
  (∀ (k0_t11 : Fin (k0_t11_loop i v143 v146).trips) (k0_t13 : Fin (k0_t13_loop v150 v152).trips), ∀ (k0_h3 : k0_cond3 i v143 v146 v160 = 1#1), ∀ a, (k0_off35 k0_t1 v150 v152 k0_t13) a + S16.size a ≤ S7168.size a) ∧
  (∀ (k0_t11 : Fin (k0_t11_loop i v143 v146).trips) (k0_t13 : Fin (k0_t13_loop v150 v152).trips), ∀ (k0_h3 : k0_cond3 i v143 v146 v160 = 1#1), ∀ a, (k0_off36 i v143 v146 v150 v152 k0_t11 k0_t13) a + S16.size a ≤ S18816.size a) ∧
  (∀ (k0_t11 : Fin (k0_t11_loop i v143 v146).trips) (k0_t13 : Fin (k0_t13_loop v150 v152).trips), ∀ (k0_h3 : k0_cond3 i v143 v146 v160 = 1#1), ∀ a, (k0_off37 i v143 v146 v150 v152 k0_t11 k0_t13) a + S16.size a ≤ S18816.size a) ∧
  (∀ (k0_t11 : Fin (k0_t11_loop i v143 v146).trips) (k0_t13 : Fin (k0_t13_loop v150 v152).trips), ∀ (k0_h3 : k0_cond3 i v143 v146 v160 = 1#1), ∀ a, (k0_off38 i v143 v146 v150 v152 k0_t11 k0_t13) a + S16.size a ≤ S18816.size a)
theorem k0_t8_ok : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160), ∀ (k0_h3 : k0_cond3 i v143 v146 v160 = 1#1), (k0_t8_loop i v143 v146).OK := fun i k0_t1 v143 v146 v150 v152 v160 k0_hw52 k0_h3 => k0_hw52.1 k0_h3
theorem k0_t9_ok : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips), ∀ (k0_h3 : k0_cond3 i v143 v146 v160 = 1#1), (k0_t9_loop v150 v152).OK := fun i k0_t1 v143 v146 v150 v152 v160 k0_hw52 k0_t8 k0_h3 => k0_hw52.2.1 k0_t8 k0_h3
theorem k0_off23_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t9 : Fin (k0_t9_loop v150 v152).trips), ∀ (k0_h3 : k0_cond3 i v143 v146 v160 = 1#1), ∀ a, (k0_off23 k0_t1 v150 v152 k0_t9) a + S16.size a ≤ S7168.size a := fun i k0_t1 v143 v146 v150 v152 v160 k0_hw52 k0_t8 k0_t9 k0_h3 => k0_hw52.2.2.1 k0_t8 k0_t9 k0_h3
theorem k0_off24_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t9 : Fin (k0_t9_loop v150 v152).trips), ∀ (k0_h3 : k0_cond3 i v143 v146 v160 = 1#1), ∀ a, (k0_off24 i v143 v146 v150 v152 k0_t8 k0_t9) a + S16.size a ≤ S18816.size a := fun i k0_t1 v143 v146 v150 v152 v160 k0_hw52 k0_t8 k0_t9 k0_h3 => k0_hw52.2.2.2.1 k0_t8 k0_t9 k0_h3
theorem k0_off25_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t9 : Fin (k0_t9_loop v150 v152).trips), ∀ (k0_h3 : k0_cond3 i v143 v146 v160 = 1#1), ∀ a, (k0_off25 i v143 v146 v150 v152 k0_t8 k0_t9) a + S16.size a ≤ S18816.size a := fun i k0_t1 v143 v146 v150 v152 v160 k0_hw52 k0_t8 k0_t9 k0_h3 => k0_hw52.2.2.2.2.1 k0_t8 k0_t9 k0_h3
theorem k0_off26_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t9 : Fin (k0_t9_loop v150 v152).trips), ∀ (k0_h3 : k0_cond3 i v143 v146 v160 = 1#1), ∀ a, (k0_off26 i v143 v146 v150 v152 k0_t8 k0_t9) a + S16.size a ≤ S18816.size a := fun i k0_t1 v143 v146 v150 v152 v160 k0_hw52 k0_t8 k0_t9 k0_h3 => k0_hw52.2.2.2.2.2.1 k0_t8 k0_t9 k0_h3
theorem k0_t10_ok : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips), ∀ (k0_h3 : k0_cond3 i v143 v146 v160 = 1#1), (k0_t10_loop v150 v152).OK := fun i k0_t1 v143 v146 v150 v152 v160 k0_hw52 k0_t8 k0_h3 => k0_hw52.2.2.2.2.2.2.1 k0_t8 k0_h3
theorem k0_off27_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t10 : Fin (k0_t10_loop v150 v152).trips), ∀ (k0_h3 : k0_cond3 i v143 v146 v160 = 1#1), ∀ a, (k0_off27 k0_t1 v150 v152 k0_t10) a + S16.size a ≤ S7168.size a := fun i k0_t1 v143 v146 v150 v152 v160 k0_hw52 k0_t8 k0_t10 k0_h3 => k0_hw52.2.2.2.2.2.2.2.1 k0_t8 k0_t10 k0_h3
theorem k0_off28_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t10 : Fin (k0_t10_loop v150 v152).trips), ∀ (k0_h3 : k0_cond3 i v143 v146 v160 = 1#1), ∀ a, (k0_off28 i v143 v146 v150 v152 k0_t8 k0_t10) a + S16.size a ≤ S18816.size a := fun i k0_t1 v143 v146 v150 v152 v160 k0_hw52 k0_t8 k0_t10 k0_h3 => k0_hw52.2.2.2.2.2.2.2.2.1 k0_t8 k0_t10 k0_h3
theorem k0_off29_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t10 : Fin (k0_t10_loop v150 v152).trips), ∀ (k0_h3 : k0_cond3 i v143 v146 v160 = 1#1), ∀ a, (k0_off29 i v143 v146 v150 v152 k0_t8 k0_t10) a + S16.size a ≤ S18816.size a := fun i k0_t1 v143 v146 v150 v152 v160 k0_hw52 k0_t8 k0_t10 k0_h3 => k0_hw52.2.2.2.2.2.2.2.2.2.1 k0_t8 k0_t10 k0_h3
theorem k0_off30_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t8 : Fin (k0_t8_loop i v143 v146).trips) (k0_t10 : Fin (k0_t10_loop v150 v152).trips), ∀ (k0_h3 : k0_cond3 i v143 v146 v160 = 1#1), ∀ a, (k0_off30 i v143 v146 v150 v152 k0_t8 k0_t10) a + S16.size a ≤ S18816.size a := fun i k0_t1 v143 v146 v150 v152 v160 k0_hw52 k0_t8 k0_t10 k0_h3 => k0_hw52.2.2.2.2.2.2.2.2.2.2.1 k0_t8 k0_t10 k0_h3
theorem k0_t11_ok : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160), ∀ (k0_h3 : k0_cond3 i v143 v146 v160 = 1#1), (k0_t11_loop i v143 v146).OK := fun i k0_t1 v143 v146 v150 v152 v160 k0_hw52 k0_h3 => k0_hw52.2.2.2.2.2.2.2.2.2.2.2.1 k0_h3
theorem k0_t12_ok : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips), ∀ (k0_h3 : k0_cond3 i v143 v146 v160 = 1#1), (k0_t12_loop v150 v152).OK := fun i k0_t1 v143 v146 v150 v152 v160 k0_hw52 k0_t11 k0_h3 => k0_hw52.2.2.2.2.2.2.2.2.2.2.2.2.1 k0_t11 k0_h3
theorem k0_off31_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t12 : Fin (k0_t12_loop v150 v152).trips), ∀ (k0_h3 : k0_cond3 i v143 v146 v160 = 1#1), ∀ a, (k0_off31 k0_t1 v150 v152 k0_t12) a + S16.size a ≤ S7168.size a := fun i k0_t1 v143 v146 v150 v152 v160 k0_hw52 k0_t11 k0_t12 k0_h3 => k0_hw52.2.2.2.2.2.2.2.2.2.2.2.2.2.1 k0_t11 k0_t12 k0_h3
theorem k0_off32_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t12 : Fin (k0_t12_loop v150 v152).trips), ∀ (k0_h3 : k0_cond3 i v143 v146 v160 = 1#1), ∀ a, (k0_off32 i v143 v146 v150 v152 k0_t11 k0_t12) a + S16.size a ≤ S18816.size a := fun i k0_t1 v143 v146 v150 v152 v160 k0_hw52 k0_t11 k0_t12 k0_h3 => k0_hw52.2.2.2.2.2.2.2.2.2.2.2.2.2.2.1 k0_t11 k0_t12 k0_h3
theorem k0_off33_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t12 : Fin (k0_t12_loop v150 v152).trips), ∀ (k0_h3 : k0_cond3 i v143 v146 v160 = 1#1), ∀ a, (k0_off33 i v143 v146 v150 v152 k0_t11 k0_t12) a + S16.size a ≤ S18816.size a := fun i k0_t1 v143 v146 v150 v152 v160 k0_hw52 k0_t11 k0_t12 k0_h3 => k0_hw52.2.2.2.2.2.2.2.2.2.2.2.2.2.2.2.1 k0_t11 k0_t12 k0_h3
theorem k0_off34_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t12 : Fin (k0_t12_loop v150 v152).trips), ∀ (k0_h3 : k0_cond3 i v143 v146 v160 = 1#1), ∀ a, (k0_off34 i v143 v146 v150 v152 k0_t11 k0_t12) a + S16.size a ≤ S18816.size a := fun i k0_t1 v143 v146 v150 v152 v160 k0_hw52 k0_t11 k0_t12 k0_h3 => k0_hw52.2.2.2.2.2.2.2.2.2.2.2.2.2.2.2.2.1 k0_t11 k0_t12 k0_h3
theorem k0_t13_ok : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips), ∀ (k0_h3 : k0_cond3 i v143 v146 v160 = 1#1), (k0_t13_loop v150 v152).OK := fun i k0_t1 v143 v146 v150 v152 v160 k0_hw52 k0_t11 k0_h3 => k0_hw52.2.2.2.2.2.2.2.2.2.2.2.2.2.2.2.2.2.1 k0_t11 k0_h3
theorem k0_off35_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t13 : Fin (k0_t13_loop v150 v152).trips), ∀ (k0_h3 : k0_cond3 i v143 v146 v160 = 1#1), ∀ a, (k0_off35 k0_t1 v150 v152 k0_t13) a + S16.size a ≤ S7168.size a := fun i k0_t1 v143 v146 v150 v152 v160 k0_hw52 k0_t11 k0_t13 k0_h3 => k0_hw52.2.2.2.2.2.2.2.2.2.2.2.2.2.2.2.2.2.2.1 k0_t11 k0_t13 k0_h3
theorem k0_off36_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t13 : Fin (k0_t13_loop v150 v152).trips), ∀ (k0_h3 : k0_cond3 i v143 v146 v160 = 1#1), ∀ a, (k0_off36 i v143 v146 v150 v152 k0_t11 k0_t13) a + S16.size a ≤ S18816.size a := fun i k0_t1 v143 v146 v150 v152 v160 k0_hw52 k0_t11 k0_t13 k0_h3 => k0_hw52.2.2.2.2.2.2.2.2.2.2.2.2.2.2.2.2.2.2.2.1 k0_t11 k0_t13 k0_h3
theorem k0_off37_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t13 : Fin (k0_t13_loop v150 v152).trips), ∀ (k0_h3 : k0_cond3 i v143 v146 v160 = 1#1), ∀ a, (k0_off37 i v143 v146 v150 v152 k0_t11 k0_t13) a + S16.size a ≤ S18816.size a := fun i k0_t1 v143 v146 v150 v152 v160 k0_hw52 k0_t11 k0_t13 k0_h3 => k0_hw52.2.2.2.2.2.2.2.2.2.2.2.2.2.2.2.2.2.2.2.2.1 k0_t11 k0_t13 k0_h3
theorem k0_off38_inb : ∀ (i : grid0.Coords) (k0_t1 : Fin k0_t1_loop.trips) (v143 : BitVec 32) (v146 : BitVec 32) (v150 : BitVec 32) (v152 : BitVec 32) (v160 : BitVec 1) (k0_hw52 : k0_chk52 i k0_t1 v143 v146 v150 v152 v160) (k0_t11 : Fin (k0_t11_loop i v143 v146).trips) (k0_t13 : Fin (k0_t13_loop v150 v152).trips), ∀ (k0_h3 : k0_cond3 i v143 v146 v160 = 1#1), ∀ a, (k0_off38 i v143 v146 v150 v152 k0_t11 k0_t13) a + S16.size a ≤ S18816.size a := fun i k0_t1 v143 v146 v150 v152 v160 k0_hw52 k0_t11 k0_t13 k0_h3 => k0_hw52.2.2.2.2.2.2.2.2.2.2.2.2.2.2.2.2.2.2.2.2.2 k0_t11 k0_t13 k0_h3

def k0_cond4 (k0_t1 : Fin k0_t1_loop.trips) : BitVec 1 :=
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c3_i32 : BitVec 32 := 3#32
  let v165 : BitVec 32 := Scalar.addi v99 c3_i32
  let c32_i32_71 : BitVec 32 := 32#32
  let v166 : BitVec 1 := Scalar.cmpi .slt v165 c32_i32_71
  let v167 : BitVec 32 := Scalar.extui v166
  let c0_i32_72 : BitVec 32 := 0#32
  let v168 : BitVec 1 := Scalar.cmpi .ne v167 c0_i32_72
  v168

def k0_off39 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c32_i32 : BitVec 32 := 32#32
  let v30 : BitVec 32 := Scalar.muli v18 c32_i32
  let c0_i32_19 : BitVec 32 := 0#32
  let c1_i32_20 : BitVec 32 := 1#32
  let arg30 : BitVec 32 := Scf.iv c0_i32_19 c1_i32_20 k0_t1
  let c2_i32_44 : BitVec 32 := 2#32
  let v99 : BitVec 32 := Scalar.muli arg30 c2_i32_44
  let c3_i32_74 : BitVec 32 := 3#32
  let v169 : BitVec 32 := Scalar.addi v99 c3_i32_74
  let v170 : BitVec 32 := Scalar.addi v30 v169
  let c12288_i32_75 : BitVec 32 := 12288#32
  let v171 : BitVec 32 := Scalar.muli v170 c12288_i32_75
  ![v171.toNat]
@[reducible] def k0_t14_loop (i : grid0.Coords) (v54 : BitVec 32) (v57 : BitVec 32) : Scf.Loop 32 :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_26 : BitVec 32 := 28#32
  let v58 : BitVec 32 := Scalar.addi v29 c28_i32_26
  let v59 : BitVec 32 := Scalar.minsi v57 v58
  let v55 : BitVec 32 := Scalar.maxsi v54 v29
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_50 : BitVec 32 := 1#32
  ⟨c0_i32_48, v107, c1_i32_50⟩
def k0_cond5 (i : grid0.Coords) (v54 : BitVec 32) (v57 : BitVec 32) (v68 : BitVec 1) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c28_i32_26 : BitVec 32 := 28#32
  let v58 : BitVec 32 := Scalar.addi v29 c28_i32_26
  let v59 : BitVec 32 := Scalar.minsi v57 v58
  let v67 : BitVec 1 := Scalar.cmpi .slt v55 v59
  let v_true : BitVec 1 := 1#1
  let v69 : BitVec 1 := Scalar.xori v68 v_true
  let v70 : BitVec 1 := Scalar.andi v67 v69
  let v71 : BitVec 32 := Scalar.extui v70
  let c0_i32_28 : BitVec 32 := 0#32
  let v72 : BitVec 1 := Scalar.cmpi .ne v71 c0_i32_28
  v72

def k0_chk104 (i : grid0.Coords) (v54 : BitVec 32) (v57 : BitVec 32) (v68 : BitVec 1) (v111 : IVec S16 32) : Prop :=
  (∀ (k0_h5 : k0_cond5 i v54 v57 v68 = 1#1), ∀ a x, ((![v111] : Fin 1 → IVec S16 32) a x).toNat < S7168.size a) ∧
  (∀ (k0_h5 : k0_cond5 i v54 v57 v68 = 1#1), ∀ a x, ((![v111] : Fin 1 → IVec S16 32) a x).toNat < S7168.size a) ∧
  (∀ (k0_h5 : k0_cond5 i v54 v57 v68 = 1#1), ∀ a x, ((![v111] : Fin 1 → IVec S16 32) a x).toNat < S7168.size a) ∧
  (∀ (k0_h5 : k0_cond5 i v54 v57 v68 = 1#1), ∀ a x, ((![v111] : Fin 1 → IVec S16 32) a x).toNat < S7168.size a)
theorem k0_idx113_inb : ∀ (i : grid0.Coords) (v54 : BitVec 32) (v57 : BitVec 32) (v68 : BitVec 1) (v111 : IVec S16 32) (k0_hw104 : k0_chk104 i v54 v57 v68 v111), ∀ (k0_h5 : k0_cond5 i v54 v57 v68 = 1#1), ∀ a x, ((![v111] : Fin 1 → IVec S16 32) a x).toNat < S7168.size a := fun i v54 v57 v68 v111 k0_hw104 k0_h5 => k0_hw104.1 k0_h5
theorem k0_idx114_inb : ∀ (i : grid0.Coords) (v54 : BitVec 32) (v57 : BitVec 32) (v68 : BitVec 1) (v111 : IVec S16 32) (k0_hw104 : k0_chk104 i v54 v57 v68 v111), ∀ (k0_h5 : k0_cond5 i v54 v57 v68 = 1#1), ∀ a x, ((![v111] : Fin 1 → IVec S16 32) a x).toNat < S7168.size a := fun i v54 v57 v68 v111 k0_hw104 k0_h5 => k0_hw104.2.1 k0_h5
theorem k0_idx115_inb : ∀ (i : grid0.Coords) (v54 : BitVec 32) (v57 : BitVec 32) (v68 : BitVec 1) (v111 : IVec S16 32) (k0_hw104 : k0_chk104 i v54 v57 v68 v111), ∀ (k0_h5 : k0_cond5 i v54 v57 v68 = 1#1), ∀ a x, ((![v111] : Fin 1 → IVec S16 32) a x).toNat < S7168.size a := fun i v54 v57 v68 v111 k0_hw104 k0_h5 => k0_hw104.2.2.1 k0_h5
theorem k0_idx116_inb : ∀ (i : grid0.Coords) (v54 : BitVec 32) (v57 : BitVec 32) (v68 : BitVec 1) (v111 : IVec S16 32) (k0_hw104 : k0_chk104 i v54 v57 v68 v111), ∀ (k0_h5 : k0_cond5 i v54 v57 v68 = 1#1), ∀ a x, ((![v111] : Fin 1 → IVec S16 32) a x).toNat < S7168.size a := fun i v54 v57 v68 v111 k0_hw104 k0_h5 => k0_hw104.2.2.2 k0_h5
@[reducible] def k0_t15_loop (v61 : BitVec 32) (v63 : BitVec 32) : Scf.Loop 32 :=
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_59 : BitVec 32 := 1#32
  ⟨c0_i32_57, v130, c1_i32_59⟩
def k0_off40 (v61 : BitVec 32) (v63 : BitVec 32) (k0_t15 : Fin (k0_t15_loop v61 v63).trips) : Fin 1 → Nat :=
  let c6720_i32_62 : BitVec 32 := 6720#32
  let c0_i32_57 : BitVec 32 := 0#32
  let c1_i32_59 : BitVec 32 := 1#32
  let arg31 : BitVec 32 := Scf.iv c0_i32_57 c1_i32_59 k0_t15
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v134 : BitVec 32 := Scalar.addi c6720_i32_62 v133
  let v135 : Index := Scalar.indexCast v134
  ![v135.toNat]

def k0_chk105 (i : grid0.Coords) (v54 : BitVec 32) (v57 : BitVec 32) (v68 : BitVec 1) (v148 : IVec S16 32) : Prop :=
  (∀ (k0_h5 : k0_cond5 i v54 v57 v68 = 1#1), ∀ a x, ((![v148] : Fin 1 → IVec S16 32) a x).toNat < S24576.size a)
theorem k0_idx117_inb : ∀ (i : grid0.Coords) (v54 : BitVec 32) (v57 : BitVec 32) (v68 : BitVec 1) (v148 : IVec S16 32) (k0_hw105 : k0_chk105 i v54 v57 v68 v148), ∀ (k0_h5 : k0_cond5 i v54 v57 v68 = 1#1), ∀ a x, ((![v148] : Fin 1 → IVec S16 32) a x).toNat < S24576.size a := fun i v54 v57 v68 v148 k0_hw105 k0_h5 => k0_hw105 k0_h5

def k0_chk106 (i : grid0.Coords) (v54 : BitVec 32) (v57 : BitVec 32) (v68 : BitVec 1) (v152 : IVec S16 32) : Prop :=
  (∀ (k0_h5 : k0_cond5 i v54 v57 v68 = 1#1), ∀ a x, ((![v152] : Fin 1 → IVec S16 32) a x).toNat < S24576.size a)
theorem k0_idx118_inb : ∀ (i : grid0.Coords) (v54 : BitVec 32) (v57 : BitVec 32) (v68 : BitVec 1) (v152 : IVec S16 32) (k0_hw106 : k0_chk106 i v54 v57 v68 v152), ∀ (k0_h5 : k0_cond5 i v54 v57 v68 = 1#1), ∀ a x, ((![v152] : Fin 1 → IVec S16 32) a x).toNat < S24576.size a := fun i v54 v57 v68 v152 k0_hw106 k0_h5 => k0_hw106 k0_h5

def k0_chk107 (i : grid0.Coords) (v54 : BitVec 32) (v57 : BitVec 32) (v68 : BitVec 1) (v156 : IVec S16 32) : Prop :=
  (∀ (k0_h5 : k0_cond5 i v54 v57 v68 = 1#1), ∀ a x, ((![v156] : Fin 1 → IVec S16 32) a x).toNat < S24576.size a)
theorem k0_idx119_inb : ∀ (i : grid0.Coords) (v54 : BitVec 32) (v57 : BitVec 32) (v68 : BitVec 1) (v156 : IVec S16 32) (k0_hw107 : k0_chk107 i v54 v57 v68 v156), ∀ (k0_h5 : k0_cond5 i v54 v57 v68 = 1#1), ∀ a x, ((![v156] : Fin 1 → IVec S16 32) a x).toNat < S24576.size a := fun i v54 v57 v68 v156 k0_hw107 k0_h5 => k0_hw107 k0_h5

def k0_chk108 (i : grid0.Coords) (v54 : BitVec 32) (v57 : BitVec 32) (v68 : BitVec 1) (v160 : IVec S16 32) : Prop :=
  (∀ (k0_h5 : k0_cond5 i v54 v57 v68 = 1#1), ∀ a x, ((![v160] : Fin 1 → IVec S16 32) a x).toNat < S24576.size a)
theorem k0_idx120_inb : ∀ (i : grid0.Coords) (v54 : BitVec 32) (v57 : BitVec 32) (v68 : BitVec 1) (v160 : IVec S16 32) (k0_hw108 : k0_chk108 i v54 v57 v68 v160), ∀ (k0_h5 : k0_cond5 i v54 v57 v68 = 1#1), ∀ a x, ((![v160] : Fin 1 → IVec S16 32) a x).toNat < S24576.size a := fun i v54 v57 v68 v160 k0_hw108 k0_h5 => k0_hw108 k0_h5
def k0_off41 (i : grid0.Coords) (v54 : BitVec 32) (v57 : BitVec 32) (v61 : BitVec 32) (v63 : BitVec 32) (k0_t14 : Fin (k0_t14_loop i v54 v57).trips) (k0_t15 : Fin (k0_t15_loop v61 v63).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c1_i32_50 : BitVec 32 := 1#32
  let arg30 : BitVec 32 := Scf.iv c0_i32_48 c1_i32_50 k0_t14
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let c1_i32_59 : BitVec 32 := 1#32
  let arg31 : BitVec 32 := Scf.iv c0_i32_57 c1_i32_59 k0_t15
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk109 (i : grid0.Coords) (v54 : BitVec 32) (v57 : BitVec 32) (v68 : BitVec 1) (v180 : IVec S16 32) : Prop :=
  (∀ (k0_h5 : k0_cond5 i v54 v57 v68 = 1#1), ∀ a x, ((![v180] : Fin 1 → IVec S16 32) a x).toNat < S24576.size a)
theorem k0_idx121_inb : ∀ (i : grid0.Coords) (v54 : BitVec 32) (v57 : BitVec 32) (v68 : BitVec 1) (v180 : IVec S16 32) (k0_hw109 : k0_chk109 i v54 v57 v68 v180), ∀ (k0_h5 : k0_cond5 i v54 v57 v68 = 1#1), ∀ a x, ((![v180] : Fin 1 → IVec S16 32) a x).toNat < S24576.size a := fun i v54 v57 v68 v180 k0_hw109 k0_h5 => k0_hw109 k0_h5

def k0_chk110 (i : grid0.Coords) (v54 : BitVec 32) (v57 : BitVec 32) (v68 : BitVec 1) (v184 : IVec S16 32) : Prop :=
  (∀ (k0_h5 : k0_cond5 i v54 v57 v68 = 1#1), ∀ a x, ((![v184] : Fin 1 → IVec S16 32) a x).toNat < S24576.size a)
theorem k0_idx122_inb : ∀ (i : grid0.Coords) (v54 : BitVec 32) (v57 : BitVec 32) (v68 : BitVec 1) (v184 : IVec S16 32) (k0_hw110 : k0_chk110 i v54 v57 v68 v184), ∀ (k0_h5 : k0_cond5 i v54 v57 v68 = 1#1), ∀ a x, ((![v184] : Fin 1 → IVec S16 32) a x).toNat < S24576.size a := fun i v54 v57 v68 v184 k0_hw110 k0_h5 => k0_hw110 k0_h5

def k0_chk111 (i : grid0.Coords) (v54 : BitVec 32) (v57 : BitVec 32) (v68 : BitVec 1) (v188 : IVec S16 32) : Prop :=
  (∀ (k0_h5 : k0_cond5 i v54 v57 v68 = 1#1), ∀ a x, ((![v188] : Fin 1 → IVec S16 32) a x).toNat < S24576.size a)
theorem k0_idx123_inb : ∀ (i : grid0.Coords) (v54 : BitVec 32) (v57 : BitVec 32) (v68 : BitVec 1) (v188 : IVec S16 32) (k0_hw111 : k0_chk111 i v54 v57 v68 v188), ∀ (k0_h5 : k0_cond5 i v54 v57 v68 = 1#1), ∀ a x, ((![v188] : Fin 1 → IVec S16 32) a x).toNat < S24576.size a := fun i v54 v57 v68 v188 k0_hw111 k0_h5 => k0_hw111 k0_h5

def k0_chk112 (i : grid0.Coords) (v54 : BitVec 32) (v57 : BitVec 32) (v68 : BitVec 1) (v192 : IVec S16 32) : Prop :=
  (∀ (k0_h5 : k0_cond5 i v54 v57 v68 = 1#1), ∀ a x, ((![v192] : Fin 1 → IVec S16 32) a x).toNat < S24576.size a)
theorem k0_idx124_inb : ∀ (i : grid0.Coords) (v54 : BitVec 32) (v57 : BitVec 32) (v68 : BitVec 1) (v192 : IVec S16 32) (k0_hw112 : k0_chk112 i v54 v57 v68 v192), ∀ (k0_h5 : k0_cond5 i v54 v57 v68 = 1#1), ∀ a x, ((![v192] : Fin 1 → IVec S16 32) a x).toNat < S24576.size a := fun i v54 v57 v68 v192 k0_hw112 k0_h5 => k0_hw112 k0_h5
def k0_off42 (i : grid0.Coords) (v54 : BitVec 32) (v57 : BitVec 32) (v61 : BitVec 32) (v63 : BitVec 32) (k0_t14 : Fin (k0_t14_loop i v54 v57).trips) (k0_t15 : Fin (k0_t15_loop v61 v63).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c1_i32_50 : BitVec 32 := 1#32
  let arg30 : BitVec 32 := Scf.iv c0_i32_48 c1_i32_50 k0_t14
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let c1_i32_59 : BitVec 32 := 1#32
  let arg31 : BitVec 32 := Scf.iv c0_i32_57 c1_i32_59 k0_t15
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk113 (i : grid0.Coords) (v54 : BitVec 32) (v57 : BitVec 32) (v68 : BitVec 1) (v212 : IVec S16 32) : Prop :=
  (∀ (k0_h5 : k0_cond5 i v54 v57 v68 = 1#1), ∀ a x, ((![v212] : Fin 1 → IVec S16 32) a x).toNat < S24576.size a)
theorem k0_idx125_inb : ∀ (i : grid0.Coords) (v54 : BitVec 32) (v57 : BitVec 32) (v68 : BitVec 1) (v212 : IVec S16 32) (k0_hw113 : k0_chk113 i v54 v57 v68 v212), ∀ (k0_h5 : k0_cond5 i v54 v57 v68 = 1#1), ∀ a x, ((![v212] : Fin 1 → IVec S16 32) a x).toNat < S24576.size a := fun i v54 v57 v68 v212 k0_hw113 k0_h5 => k0_hw113 k0_h5

def k0_chk114 (i : grid0.Coords) (v54 : BitVec 32) (v57 : BitVec 32) (v68 : BitVec 1) (v216 : IVec S16 32) : Prop :=
  (∀ (k0_h5 : k0_cond5 i v54 v57 v68 = 1#1), ∀ a x, ((![v216] : Fin 1 → IVec S16 32) a x).toNat < S24576.size a)
theorem k0_idx126_inb : ∀ (i : grid0.Coords) (v54 : BitVec 32) (v57 : BitVec 32) (v68 : BitVec 1) (v216 : IVec S16 32) (k0_hw114 : k0_chk114 i v54 v57 v68 v216), ∀ (k0_h5 : k0_cond5 i v54 v57 v68 = 1#1), ∀ a x, ((![v216] : Fin 1 → IVec S16 32) a x).toNat < S24576.size a := fun i v54 v57 v68 v216 k0_hw114 k0_h5 => k0_hw114 k0_h5

def k0_chk115 (i : grid0.Coords) (v54 : BitVec 32) (v57 : BitVec 32) (v68 : BitVec 1) (v220 : IVec S16 32) : Prop :=
  (∀ (k0_h5 : k0_cond5 i v54 v57 v68 = 1#1), ∀ a x, ((![v220] : Fin 1 → IVec S16 32) a x).toNat < S24576.size a)
theorem k0_idx127_inb : ∀ (i : grid0.Coords) (v54 : BitVec 32) (v57 : BitVec 32) (v68 : BitVec 1) (v220 : IVec S16 32) (k0_hw115 : k0_chk115 i v54 v57 v68 v220), ∀ (k0_h5 : k0_cond5 i v54 v57 v68 = 1#1), ∀ a x, ((![v220] : Fin 1 → IVec S16 32) a x).toNat < S24576.size a := fun i v54 v57 v68 v220 k0_hw115 k0_h5 => k0_hw115 k0_h5

def k0_chk116 (i : grid0.Coords) (v54 : BitVec 32) (v57 : BitVec 32) (v68 : BitVec 1) (v224 : IVec S16 32) : Prop :=
  (∀ (k0_h5 : k0_cond5 i v54 v57 v68 = 1#1), ∀ a x, ((![v224] : Fin 1 → IVec S16 32) a x).toNat < S24576.size a)
theorem k0_idx128_inb : ∀ (i : grid0.Coords) (v54 : BitVec 32) (v57 : BitVec 32) (v68 : BitVec 1) (v224 : IVec S16 32) (k0_hw116 : k0_chk116 i v54 v57 v68 v224), ∀ (k0_h5 : k0_cond5 i v54 v57 v68 = 1#1), ∀ a x, ((![v224] : Fin 1 → IVec S16 32) a x).toNat < S24576.size a := fun i v54 v57 v68 v224 k0_hw116 k0_h5 => k0_hw116 k0_h5
def k0_off43 (i : grid0.Coords) (v54 : BitVec 32) (v57 : BitVec 32) (v61 : BitVec 32) (v63 : BitVec 32) (k0_t14 : Fin (k0_t14_loop i v54 v57).trips) (k0_t15 : Fin (k0_t15_loop v61 v63).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c1_i32_50 : BitVec 32 := 1#32
  let arg30 : BitVec 32 := Scf.iv c0_i32_48 c1_i32_50 k0_t14
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let c1_i32_59 : BitVec 32 := 1#32
  let arg31 : BitVec 32 := Scf.iv c0_i32_57 c1_i32_59 k0_t15
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v236 : BitVec 32 := Scalar.addi v235 v133
  let v237 : Index := Scalar.indexCast v236
  ![v237.toNat]
@[reducible] def k0_t16_loop (v61 : BitVec 32) (v63 : BitVec 32) : Scf.Loop 32 :=
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let v127 : BitVec 32 := Scalar.addi c0_i32_57 v126
  let c1_i32_60 : BitVec 32 := 1#32
  ⟨v130, v127, c1_i32_60⟩
def k0_off44 (v61 : BitVec 32) (v63 : BitVec 32) (k0_t16 : Fin (k0_t16_loop v61 v63).trips) : Fin 1 → Nat :=
  let c6720_i32_62 : BitVec 32 := 6720#32
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t16
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v134 : BitVec 32 := Scalar.addi c6720_i32_62 v133
  let v135 : Index := Scalar.indexCast v134
  ![v135.toNat]

def k0_chk117 (i : grid0.Coords) (v54 : BitVec 32) (v57 : BitVec 32) (v68 : BitVec 1) (v148 : IVec S16 32) : Prop :=
  (∀ (k0_h5 : k0_cond5 i v54 v57 v68 = 1#1), ∀ a x, ((![v148] : Fin 1 → IVec S16 32) a x).toNat < S24576.size a)
theorem k0_idx129_inb : ∀ (i : grid0.Coords) (v54 : BitVec 32) (v57 : BitVec 32) (v68 : BitVec 1) (v148 : IVec S16 32) (k0_hw117 : k0_chk117 i v54 v57 v68 v148), ∀ (k0_h5 : k0_cond5 i v54 v57 v68 = 1#1), ∀ a x, ((![v148] : Fin 1 → IVec S16 32) a x).toNat < S24576.size a := fun i v54 v57 v68 v148 k0_hw117 k0_h5 => k0_hw117 k0_h5

def k0_chk118 (i : grid0.Coords) (v54 : BitVec 32) (v57 : BitVec 32) (v68 : BitVec 1) (v152 : IVec S16 32) : Prop :=
  (∀ (k0_h5 : k0_cond5 i v54 v57 v68 = 1#1), ∀ a x, ((![v152] : Fin 1 → IVec S16 32) a x).toNat < S24576.size a)
theorem k0_idx130_inb : ∀ (i : grid0.Coords) (v54 : BitVec 32) (v57 : BitVec 32) (v68 : BitVec 1) (v152 : IVec S16 32) (k0_hw118 : k0_chk118 i v54 v57 v68 v152), ∀ (k0_h5 : k0_cond5 i v54 v57 v68 = 1#1), ∀ a x, ((![v152] : Fin 1 → IVec S16 32) a x).toNat < S24576.size a := fun i v54 v57 v68 v152 k0_hw118 k0_h5 => k0_hw118 k0_h5

def k0_chk119 (i : grid0.Coords) (v54 : BitVec 32) (v57 : BitVec 32) (v68 : BitVec 1) (v156 : IVec S16 32) : Prop :=
  (∀ (k0_h5 : k0_cond5 i v54 v57 v68 = 1#1), ∀ a x, ((![v156] : Fin 1 → IVec S16 32) a x).toNat < S24576.size a)
theorem k0_idx131_inb : ∀ (i : grid0.Coords) (v54 : BitVec 32) (v57 : BitVec 32) (v68 : BitVec 1) (v156 : IVec S16 32) (k0_hw119 : k0_chk119 i v54 v57 v68 v156), ∀ (k0_h5 : k0_cond5 i v54 v57 v68 = 1#1), ∀ a x, ((![v156] : Fin 1 → IVec S16 32) a x).toNat < S24576.size a := fun i v54 v57 v68 v156 k0_hw119 k0_h5 => k0_hw119 k0_h5

def k0_chk120 (i : grid0.Coords) (v54 : BitVec 32) (v57 : BitVec 32) (v68 : BitVec 1) (v160 : IVec S16 32) : Prop :=
  (∀ (k0_h5 : k0_cond5 i v54 v57 v68 = 1#1), ∀ a x, ((![v160] : Fin 1 → IVec S16 32) a x).toNat < S24576.size a)
theorem k0_idx132_inb : ∀ (i : grid0.Coords) (v54 : BitVec 32) (v57 : BitVec 32) (v68 : BitVec 1) (v160 : IVec S16 32) (k0_hw120 : k0_chk120 i v54 v57 v68 v160), ∀ (k0_h5 : k0_cond5 i v54 v57 v68 = 1#1), ∀ a x, ((![v160] : Fin 1 → IVec S16 32) a x).toNat < S24576.size a := fun i v54 v57 v68 v160 k0_hw120 k0_h5 => k0_hw120 k0_h5
def k0_off45 (i : grid0.Coords) (v54 : BitVec 32) (v57 : BitVec 32) (v61 : BitVec 32) (v63 : BitVec 32) (k0_t14 : Fin (k0_t14_loop i v54 v57).trips) (k0_t16 : Fin (k0_t16_loop v61 v63).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c1_i32_50 : BitVec 32 := 1#32
  let arg30 : BitVec 32 := Scf.iv c0_i32_48 c1_i32_50 k0_t14
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t16
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk121 (i : grid0.Coords) (v54 : BitVec 32) (v57 : BitVec 32) (v68 : BitVec 1) (v180 : IVec S16 32) : Prop :=
  (∀ (k0_h5 : k0_cond5 i v54 v57 v68 = 1#1), ∀ a x, ((![v180] : Fin 1 → IVec S16 32) a x).toNat < S24576.size a)
theorem k0_idx133_inb : ∀ (i : grid0.Coords) (v54 : BitVec 32) (v57 : BitVec 32) (v68 : BitVec 1) (v180 : IVec S16 32) (k0_hw121 : k0_chk121 i v54 v57 v68 v180), ∀ (k0_h5 : k0_cond5 i v54 v57 v68 = 1#1), ∀ a x, ((![v180] : Fin 1 → IVec S16 32) a x).toNat < S24576.size a := fun i v54 v57 v68 v180 k0_hw121 k0_h5 => k0_hw121 k0_h5

def k0_chk122 (i : grid0.Coords) (v54 : BitVec 32) (v57 : BitVec 32) (v68 : BitVec 1) (v184 : IVec S16 32) : Prop :=
  (∀ (k0_h5 : k0_cond5 i v54 v57 v68 = 1#1), ∀ a x, ((![v184] : Fin 1 → IVec S16 32) a x).toNat < S24576.size a)
theorem k0_idx134_inb : ∀ (i : grid0.Coords) (v54 : BitVec 32) (v57 : BitVec 32) (v68 : BitVec 1) (v184 : IVec S16 32) (k0_hw122 : k0_chk122 i v54 v57 v68 v184), ∀ (k0_h5 : k0_cond5 i v54 v57 v68 = 1#1), ∀ a x, ((![v184] : Fin 1 → IVec S16 32) a x).toNat < S24576.size a := fun i v54 v57 v68 v184 k0_hw122 k0_h5 => k0_hw122 k0_h5

def k0_chk123 (i : grid0.Coords) (v54 : BitVec 32) (v57 : BitVec 32) (v68 : BitVec 1) (v188 : IVec S16 32) : Prop :=
  (∀ (k0_h5 : k0_cond5 i v54 v57 v68 = 1#1), ∀ a x, ((![v188] : Fin 1 → IVec S16 32) a x).toNat < S24576.size a)
theorem k0_idx135_inb : ∀ (i : grid0.Coords) (v54 : BitVec 32) (v57 : BitVec 32) (v68 : BitVec 1) (v188 : IVec S16 32) (k0_hw123 : k0_chk123 i v54 v57 v68 v188), ∀ (k0_h5 : k0_cond5 i v54 v57 v68 = 1#1), ∀ a x, ((![v188] : Fin 1 → IVec S16 32) a x).toNat < S24576.size a := fun i v54 v57 v68 v188 k0_hw123 k0_h5 => k0_hw123 k0_h5

def k0_chk124 (i : grid0.Coords) (v54 : BitVec 32) (v57 : BitVec 32) (v68 : BitVec 1) (v192 : IVec S16 32) : Prop :=
  (∀ (k0_h5 : k0_cond5 i v54 v57 v68 = 1#1), ∀ a x, ((![v192] : Fin 1 → IVec S16 32) a x).toNat < S24576.size a)
theorem k0_idx136_inb : ∀ (i : grid0.Coords) (v54 : BitVec 32) (v57 : BitVec 32) (v68 : BitVec 1) (v192 : IVec S16 32) (k0_hw124 : k0_chk124 i v54 v57 v68 v192), ∀ (k0_h5 : k0_cond5 i v54 v57 v68 = 1#1), ∀ a x, ((![v192] : Fin 1 → IVec S16 32) a x).toNat < S24576.size a := fun i v54 v57 v68 v192 k0_hw124 k0_h5 => k0_hw124 k0_h5
def k0_off46 (i : grid0.Coords) (v54 : BitVec 32) (v57 : BitVec 32) (v61 : BitVec 32) (v63 : BitVec 32) (k0_t14 : Fin (k0_t14_loop i v54 v57).trips) (k0_t16 : Fin (k0_t16_loop v61 v63).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c1_i32_50 : BitVec 32 := 1#32
  let arg30 : BitVec 32 := Scf.iv c0_i32_48 c1_i32_50 k0_t14
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t16
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk125 (i : grid0.Coords) (v54 : BitVec 32) (v57 : BitVec 32) (v68 : BitVec 1) (v212 : IVec S16 32) : Prop :=
  (∀ (k0_h5 : k0_cond5 i v54 v57 v68 = 1#1), ∀ a x, ((![v212] : Fin 1 → IVec S16 32) a x).toNat < S24576.size a)
theorem k0_idx137_inb : ∀ (i : grid0.Coords) (v54 : BitVec 32) (v57 : BitVec 32) (v68 : BitVec 1) (v212 : IVec S16 32) (k0_hw125 : k0_chk125 i v54 v57 v68 v212), ∀ (k0_h5 : k0_cond5 i v54 v57 v68 = 1#1), ∀ a x, ((![v212] : Fin 1 → IVec S16 32) a x).toNat < S24576.size a := fun i v54 v57 v68 v212 k0_hw125 k0_h5 => k0_hw125 k0_h5

def k0_chk126 (i : grid0.Coords) (v54 : BitVec 32) (v57 : BitVec 32) (v68 : BitVec 1) (v216 : IVec S16 32) : Prop :=
  (∀ (k0_h5 : k0_cond5 i v54 v57 v68 = 1#1), ∀ a x, ((![v216] : Fin 1 → IVec S16 32) a x).toNat < S24576.size a)
theorem k0_idx138_inb : ∀ (i : grid0.Coords) (v54 : BitVec 32) (v57 : BitVec 32) (v68 : BitVec 1) (v216 : IVec S16 32) (k0_hw126 : k0_chk126 i v54 v57 v68 v216), ∀ (k0_h5 : k0_cond5 i v54 v57 v68 = 1#1), ∀ a x, ((![v216] : Fin 1 → IVec S16 32) a x).toNat < S24576.size a := fun i v54 v57 v68 v216 k0_hw126 k0_h5 => k0_hw126 k0_h5

def k0_chk127 (i : grid0.Coords) (v54 : BitVec 32) (v57 : BitVec 32) (v68 : BitVec 1) (v220 : IVec S16 32) : Prop :=
  (∀ (k0_h5 : k0_cond5 i v54 v57 v68 = 1#1), ∀ a x, ((![v220] : Fin 1 → IVec S16 32) a x).toNat < S24576.size a)
theorem k0_idx139_inb : ∀ (i : grid0.Coords) (v54 : BitVec 32) (v57 : BitVec 32) (v68 : BitVec 1) (v220 : IVec S16 32) (k0_hw127 : k0_chk127 i v54 v57 v68 v220), ∀ (k0_h5 : k0_cond5 i v54 v57 v68 = 1#1), ∀ a x, ((![v220] : Fin 1 → IVec S16 32) a x).toNat < S24576.size a := fun i v54 v57 v68 v220 k0_hw127 k0_h5 => k0_hw127 k0_h5

def k0_chk128 (i : grid0.Coords) (v54 : BitVec 32) (v57 : BitVec 32) (v68 : BitVec 1) (v224 : IVec S16 32) : Prop :=
  (∀ (k0_h5 : k0_cond5 i v54 v57 v68 = 1#1), ∀ a x, ((![v224] : Fin 1 → IVec S16 32) a x).toNat < S24576.size a)
theorem k0_idx140_inb : ∀ (i : grid0.Coords) (v54 : BitVec 32) (v57 : BitVec 32) (v68 : BitVec 1) (v224 : IVec S16 32) (k0_hw128 : k0_chk128 i v54 v57 v68 v224), ∀ (k0_h5 : k0_cond5 i v54 v57 v68 = 1#1), ∀ a x, ((![v224] : Fin 1 → IVec S16 32) a x).toNat < S24576.size a := fun i v54 v57 v68 v224 k0_hw128 k0_h5 => k0_hw128 k0_h5
def k0_off47 (i : grid0.Coords) (v54 : BitVec 32) (v57 : BitVec 32) (v61 : BitVec 32) (v63 : BitVec 32) (k0_t14 : Fin (k0_t14_loop i v54 v57).trips) (k0_t16 : Fin (k0_t16_loop v61 v63).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c1_i32_50 : BitVec 32 := 1#32
  let arg30 : BitVec 32 := Scf.iv c0_i32_48 c1_i32_50 k0_t14
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t16
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v236 : BitVec 32 := Scalar.addi v235 v133
  let v237 : Index := Scalar.indexCast v236
  ![v237.toNat]
@[reducible] def k0_t17_loop (i : grid0.Coords) (v54 : BitVec 32) (v57 : BitVec 32) : Scf.Loop 32 :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_26 : BitVec 32 := 28#32
  let v58 : BitVec 32 := Scalar.addi v29 c28_i32_26
  let v59 : BitVec 32 := Scalar.minsi v57 v58
  let v55 : BitVec 32 := Scalar.maxsi v54 v29
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let v104 : BitVec 32 := Scalar.addi c0_i32_48 v103
  let c1_i32_51 : BitVec 32 := 1#32
  ⟨v107, v104, c1_i32_51⟩

def k0_chk129 (i : grid0.Coords) (v54 : BitVec 32) (v57 : BitVec 32) (v68 : BitVec 1) (v111 : IVec S16 32) : Prop :=
  (∀ (k0_h5 : k0_cond5 i v54 v57 v68 = 1#1), ∀ a x, ((![v111] : Fin 1 → IVec S16 32) a x).toNat < S7168.size a) ∧
  (∀ (k0_h5 : k0_cond5 i v54 v57 v68 = 1#1), ∀ a x, ((![v111] : Fin 1 → IVec S16 32) a x).toNat < S7168.size a) ∧
  (∀ (k0_h5 : k0_cond5 i v54 v57 v68 = 1#1), ∀ a x, ((![v111] : Fin 1 → IVec S16 32) a x).toNat < S7168.size a) ∧
  (∀ (k0_h5 : k0_cond5 i v54 v57 v68 = 1#1), ∀ a x, ((![v111] : Fin 1 → IVec S16 32) a x).toNat < S7168.size a)
theorem k0_idx141_inb : ∀ (i : grid0.Coords) (v54 : BitVec 32) (v57 : BitVec 32) (v68 : BitVec 1) (v111 : IVec S16 32) (k0_hw129 : k0_chk129 i v54 v57 v68 v111), ∀ (k0_h5 : k0_cond5 i v54 v57 v68 = 1#1), ∀ a x, ((![v111] : Fin 1 → IVec S16 32) a x).toNat < S7168.size a := fun i v54 v57 v68 v111 k0_hw129 k0_h5 => k0_hw129.1 k0_h5
theorem k0_idx142_inb : ∀ (i : grid0.Coords) (v54 : BitVec 32) (v57 : BitVec 32) (v68 : BitVec 1) (v111 : IVec S16 32) (k0_hw129 : k0_chk129 i v54 v57 v68 v111), ∀ (k0_h5 : k0_cond5 i v54 v57 v68 = 1#1), ∀ a x, ((![v111] : Fin 1 → IVec S16 32) a x).toNat < S7168.size a := fun i v54 v57 v68 v111 k0_hw129 k0_h5 => k0_hw129.2.1 k0_h5
theorem k0_idx143_inb : ∀ (i : grid0.Coords) (v54 : BitVec 32) (v57 : BitVec 32) (v68 : BitVec 1) (v111 : IVec S16 32) (k0_hw129 : k0_chk129 i v54 v57 v68 v111), ∀ (k0_h5 : k0_cond5 i v54 v57 v68 = 1#1), ∀ a x, ((![v111] : Fin 1 → IVec S16 32) a x).toNat < S7168.size a := fun i v54 v57 v68 v111 k0_hw129 k0_h5 => k0_hw129.2.2.1 k0_h5
theorem k0_idx144_inb : ∀ (i : grid0.Coords) (v54 : BitVec 32) (v57 : BitVec 32) (v68 : BitVec 1) (v111 : IVec S16 32) (k0_hw129 : k0_chk129 i v54 v57 v68 v111), ∀ (k0_h5 : k0_cond5 i v54 v57 v68 = 1#1), ∀ a x, ((![v111] : Fin 1 → IVec S16 32) a x).toNat < S7168.size a := fun i v54 v57 v68 v111 k0_hw129 k0_h5 => k0_hw129.2.2.2 k0_h5
@[reducible] def k0_t18_loop (v61 : BitVec 32) (v63 : BitVec 32) : Scf.Loop 32 :=
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_59 : BitVec 32 := 1#32
  ⟨c0_i32_57, v130, c1_i32_59⟩
def k0_off48 (v61 : BitVec 32) (v63 : BitVec 32) (k0_t18 : Fin (k0_t18_loop v61 v63).trips) : Fin 1 → Nat :=
  let c6720_i32_62 : BitVec 32 := 6720#32
  let c0_i32_57 : BitVec 32 := 0#32
  let c1_i32_59 : BitVec 32 := 1#32
  let arg31 : BitVec 32 := Scf.iv c0_i32_57 c1_i32_59 k0_t18
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v134 : BitVec 32 := Scalar.addi c6720_i32_62 v133
  let v135 : Index := Scalar.indexCast v134
  ![v135.toNat]

def k0_chk130 (i : grid0.Coords) (v54 : BitVec 32) (v57 : BitVec 32) (v68 : BitVec 1) (v148 : IVec S16 32) : Prop :=
  (∀ (k0_h5 : k0_cond5 i v54 v57 v68 = 1#1), ∀ a x, ((![v148] : Fin 1 → IVec S16 32) a x).toNat < S24576.size a)
theorem k0_idx145_inb : ∀ (i : grid0.Coords) (v54 : BitVec 32) (v57 : BitVec 32) (v68 : BitVec 1) (v148 : IVec S16 32) (k0_hw130 : k0_chk130 i v54 v57 v68 v148), ∀ (k0_h5 : k0_cond5 i v54 v57 v68 = 1#1), ∀ a x, ((![v148] : Fin 1 → IVec S16 32) a x).toNat < S24576.size a := fun i v54 v57 v68 v148 k0_hw130 k0_h5 => k0_hw130 k0_h5

def k0_chk131 (i : grid0.Coords) (v54 : BitVec 32) (v57 : BitVec 32) (v68 : BitVec 1) (v152 : IVec S16 32) : Prop :=
  (∀ (k0_h5 : k0_cond5 i v54 v57 v68 = 1#1), ∀ a x, ((![v152] : Fin 1 → IVec S16 32) a x).toNat < S24576.size a)
theorem k0_idx146_inb : ∀ (i : grid0.Coords) (v54 : BitVec 32) (v57 : BitVec 32) (v68 : BitVec 1) (v152 : IVec S16 32) (k0_hw131 : k0_chk131 i v54 v57 v68 v152), ∀ (k0_h5 : k0_cond5 i v54 v57 v68 = 1#1), ∀ a x, ((![v152] : Fin 1 → IVec S16 32) a x).toNat < S24576.size a := fun i v54 v57 v68 v152 k0_hw131 k0_h5 => k0_hw131 k0_h5

def k0_chk132 (i : grid0.Coords) (v54 : BitVec 32) (v57 : BitVec 32) (v68 : BitVec 1) (v156 : IVec S16 32) : Prop :=
  (∀ (k0_h5 : k0_cond5 i v54 v57 v68 = 1#1), ∀ a x, ((![v156] : Fin 1 → IVec S16 32) a x).toNat < S24576.size a)
theorem k0_idx147_inb : ∀ (i : grid0.Coords) (v54 : BitVec 32) (v57 : BitVec 32) (v68 : BitVec 1) (v156 : IVec S16 32) (k0_hw132 : k0_chk132 i v54 v57 v68 v156), ∀ (k0_h5 : k0_cond5 i v54 v57 v68 = 1#1), ∀ a x, ((![v156] : Fin 1 → IVec S16 32) a x).toNat < S24576.size a := fun i v54 v57 v68 v156 k0_hw132 k0_h5 => k0_hw132 k0_h5

def k0_chk133 (i : grid0.Coords) (v54 : BitVec 32) (v57 : BitVec 32) (v68 : BitVec 1) (v160 : IVec S16 32) : Prop :=
  (∀ (k0_h5 : k0_cond5 i v54 v57 v68 = 1#1), ∀ a x, ((![v160] : Fin 1 → IVec S16 32) a x).toNat < S24576.size a)
theorem k0_idx148_inb : ∀ (i : grid0.Coords) (v54 : BitVec 32) (v57 : BitVec 32) (v68 : BitVec 1) (v160 : IVec S16 32) (k0_hw133 : k0_chk133 i v54 v57 v68 v160), ∀ (k0_h5 : k0_cond5 i v54 v57 v68 = 1#1), ∀ a x, ((![v160] : Fin 1 → IVec S16 32) a x).toNat < S24576.size a := fun i v54 v57 v68 v160 k0_hw133 k0_h5 => k0_hw133 k0_h5
def k0_off49 (i : grid0.Coords) (v54 : BitVec 32) (v57 : BitVec 32) (v61 : BitVec 32) (v63 : BitVec 32) (k0_t17 : Fin (k0_t17_loop i v54 v57).trips) (k0_t18 : Fin (k0_t18_loop v61 v63).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c28_i32_26 : BitVec 32 := 28#32
  let v58 : BitVec 32 := Scalar.addi v29 c28_i32_26
  let v59 : BitVec 32 := Scalar.minsi v57 v58
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t17
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let c1_i32_59 : BitVec 32 := 1#32
  let arg31 : BitVec 32 := Scf.iv c0_i32_57 c1_i32_59 k0_t18
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk134 (i : grid0.Coords) (v54 : BitVec 32) (v57 : BitVec 32) (v68 : BitVec 1) (v180 : IVec S16 32) : Prop :=
  (∀ (k0_h5 : k0_cond5 i v54 v57 v68 = 1#1), ∀ a x, ((![v180] : Fin 1 → IVec S16 32) a x).toNat < S24576.size a)
theorem k0_idx149_inb : ∀ (i : grid0.Coords) (v54 : BitVec 32) (v57 : BitVec 32) (v68 : BitVec 1) (v180 : IVec S16 32) (k0_hw134 : k0_chk134 i v54 v57 v68 v180), ∀ (k0_h5 : k0_cond5 i v54 v57 v68 = 1#1), ∀ a x, ((![v180] : Fin 1 → IVec S16 32) a x).toNat < S24576.size a := fun i v54 v57 v68 v180 k0_hw134 k0_h5 => k0_hw134 k0_h5

def k0_chk135 (i : grid0.Coords) (v54 : BitVec 32) (v57 : BitVec 32) (v68 : BitVec 1) (v184 : IVec S16 32) : Prop :=
  (∀ (k0_h5 : k0_cond5 i v54 v57 v68 = 1#1), ∀ a x, ((![v184] : Fin 1 → IVec S16 32) a x).toNat < S24576.size a)
theorem k0_idx150_inb : ∀ (i : grid0.Coords) (v54 : BitVec 32) (v57 : BitVec 32) (v68 : BitVec 1) (v184 : IVec S16 32) (k0_hw135 : k0_chk135 i v54 v57 v68 v184), ∀ (k0_h5 : k0_cond5 i v54 v57 v68 = 1#1), ∀ a x, ((![v184] : Fin 1 → IVec S16 32) a x).toNat < S24576.size a := fun i v54 v57 v68 v184 k0_hw135 k0_h5 => k0_hw135 k0_h5

def k0_chk136 (i : grid0.Coords) (v54 : BitVec 32) (v57 : BitVec 32) (v68 : BitVec 1) (v188 : IVec S16 32) : Prop :=
  (∀ (k0_h5 : k0_cond5 i v54 v57 v68 = 1#1), ∀ a x, ((![v188] : Fin 1 → IVec S16 32) a x).toNat < S24576.size a)
theorem k0_idx151_inb : ∀ (i : grid0.Coords) (v54 : BitVec 32) (v57 : BitVec 32) (v68 : BitVec 1) (v188 : IVec S16 32) (k0_hw136 : k0_chk136 i v54 v57 v68 v188), ∀ (k0_h5 : k0_cond5 i v54 v57 v68 = 1#1), ∀ a x, ((![v188] : Fin 1 → IVec S16 32) a x).toNat < S24576.size a := fun i v54 v57 v68 v188 k0_hw136 k0_h5 => k0_hw136 k0_h5

def k0_chk137 (i : grid0.Coords) (v54 : BitVec 32) (v57 : BitVec 32) (v68 : BitVec 1) (v192 : IVec S16 32) : Prop :=
  (∀ (k0_h5 : k0_cond5 i v54 v57 v68 = 1#1), ∀ a x, ((![v192] : Fin 1 → IVec S16 32) a x).toNat < S24576.size a)
theorem k0_idx152_inb : ∀ (i : grid0.Coords) (v54 : BitVec 32) (v57 : BitVec 32) (v68 : BitVec 1) (v192 : IVec S16 32) (k0_hw137 : k0_chk137 i v54 v57 v68 v192), ∀ (k0_h5 : k0_cond5 i v54 v57 v68 = 1#1), ∀ a x, ((![v192] : Fin 1 → IVec S16 32) a x).toNat < S24576.size a := fun i v54 v57 v68 v192 k0_hw137 k0_h5 => k0_hw137 k0_h5
def k0_off50 (i : grid0.Coords) (v54 : BitVec 32) (v57 : BitVec 32) (v61 : BitVec 32) (v63 : BitVec 32) (k0_t17 : Fin (k0_t17_loop i v54 v57).trips) (k0_t18 : Fin (k0_t18_loop v61 v63).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c28_i32_26 : BitVec 32 := 28#32
  let v58 : BitVec 32 := Scalar.addi v29 c28_i32_26
  let v59 : BitVec 32 := Scalar.minsi v57 v58
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t17
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let c1_i32_59 : BitVec 32 := 1#32
  let arg31 : BitVec 32 := Scf.iv c0_i32_57 c1_i32_59 k0_t18
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk138 (i : grid0.Coords) (v54 : BitVec 32) (v57 : BitVec 32) (v68 : BitVec 1) (v212 : IVec S16 32) : Prop :=
  (∀ (k0_h5 : k0_cond5 i v54 v57 v68 = 1#1), ∀ a x, ((![v212] : Fin 1 → IVec S16 32) a x).toNat < S24576.size a)
theorem k0_idx153_inb : ∀ (i : grid0.Coords) (v54 : BitVec 32) (v57 : BitVec 32) (v68 : BitVec 1) (v212 : IVec S16 32) (k0_hw138 : k0_chk138 i v54 v57 v68 v212), ∀ (k0_h5 : k0_cond5 i v54 v57 v68 = 1#1), ∀ a x, ((![v212] : Fin 1 → IVec S16 32) a x).toNat < S24576.size a := fun i v54 v57 v68 v212 k0_hw138 k0_h5 => k0_hw138 k0_h5

def k0_chk139 (i : grid0.Coords) (v54 : BitVec 32) (v57 : BitVec 32) (v68 : BitVec 1) (v216 : IVec S16 32) : Prop :=
  (∀ (k0_h5 : k0_cond5 i v54 v57 v68 = 1#1), ∀ a x, ((![v216] : Fin 1 → IVec S16 32) a x).toNat < S24576.size a)
theorem k0_idx154_inb : ∀ (i : grid0.Coords) (v54 : BitVec 32) (v57 : BitVec 32) (v68 : BitVec 1) (v216 : IVec S16 32) (k0_hw139 : k0_chk139 i v54 v57 v68 v216), ∀ (k0_h5 : k0_cond5 i v54 v57 v68 = 1#1), ∀ a x, ((![v216] : Fin 1 → IVec S16 32) a x).toNat < S24576.size a := fun i v54 v57 v68 v216 k0_hw139 k0_h5 => k0_hw139 k0_h5

def k0_chk140 (i : grid0.Coords) (v54 : BitVec 32) (v57 : BitVec 32) (v68 : BitVec 1) (v220 : IVec S16 32) : Prop :=
  (∀ (k0_h5 : k0_cond5 i v54 v57 v68 = 1#1), ∀ a x, ((![v220] : Fin 1 → IVec S16 32) a x).toNat < S24576.size a)
theorem k0_idx155_inb : ∀ (i : grid0.Coords) (v54 : BitVec 32) (v57 : BitVec 32) (v68 : BitVec 1) (v220 : IVec S16 32) (k0_hw140 : k0_chk140 i v54 v57 v68 v220), ∀ (k0_h5 : k0_cond5 i v54 v57 v68 = 1#1), ∀ a x, ((![v220] : Fin 1 → IVec S16 32) a x).toNat < S24576.size a := fun i v54 v57 v68 v220 k0_hw140 k0_h5 => k0_hw140 k0_h5

def k0_chk141 (i : grid0.Coords) (v54 : BitVec 32) (v57 : BitVec 32) (v68 : BitVec 1) (v224 : IVec S16 32) : Prop :=
  (∀ (k0_h5 : k0_cond5 i v54 v57 v68 = 1#1), ∀ a x, ((![v224] : Fin 1 → IVec S16 32) a x).toNat < S24576.size a)
theorem k0_idx156_inb : ∀ (i : grid0.Coords) (v54 : BitVec 32) (v57 : BitVec 32) (v68 : BitVec 1) (v224 : IVec S16 32) (k0_hw141 : k0_chk141 i v54 v57 v68 v224), ∀ (k0_h5 : k0_cond5 i v54 v57 v68 = 1#1), ∀ a x, ((![v224] : Fin 1 → IVec S16 32) a x).toNat < S24576.size a := fun i v54 v57 v68 v224 k0_hw141 k0_h5 => k0_hw141 k0_h5
def k0_off51 (i : grid0.Coords) (v54 : BitVec 32) (v57 : BitVec 32) (v61 : BitVec 32) (v63 : BitVec 32) (k0_t17 : Fin (k0_t17_loop i v54 v57).trips) (k0_t18 : Fin (k0_t18_loop v61 v63).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c28_i32_26 : BitVec 32 := 28#32
  let v58 : BitVec 32 := Scalar.addi v29 c28_i32_26
  let v59 : BitVec 32 := Scalar.minsi v57 v58
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t17
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let c1_i32_59 : BitVec 32 := 1#32
  let arg31 : BitVec 32 := Scf.iv c0_i32_57 c1_i32_59 k0_t18
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v236 : BitVec 32 := Scalar.addi v235 v133
  let v237 : Index := Scalar.indexCast v236
  ![v237.toNat]
@[reducible] def k0_t19_loop (v61 : BitVec 32) (v63 : BitVec 32) : Scf.Loop 32 :=
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let v127 : BitVec 32 := Scalar.addi c0_i32_57 v126
  let c1_i32_60 : BitVec 32 := 1#32
  ⟨v130, v127, c1_i32_60⟩
def k0_off52 (v61 : BitVec 32) (v63 : BitVec 32) (k0_t19 : Fin (k0_t19_loop v61 v63).trips) : Fin 1 → Nat :=
  let c6720_i32_62 : BitVec 32 := 6720#32
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t19
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v134 : BitVec 32 := Scalar.addi c6720_i32_62 v133
  let v135 : Index := Scalar.indexCast v134
  ![v135.toNat]

def k0_chk142 (i : grid0.Coords) (v54 : BitVec 32) (v57 : BitVec 32) (v68 : BitVec 1) (v148 : IVec S16 32) : Prop :=
  (∀ (k0_h5 : k0_cond5 i v54 v57 v68 = 1#1), ∀ a x, ((![v148] : Fin 1 → IVec S16 32) a x).toNat < S24576.size a)
theorem k0_idx157_inb : ∀ (i : grid0.Coords) (v54 : BitVec 32) (v57 : BitVec 32) (v68 : BitVec 1) (v148 : IVec S16 32) (k0_hw142 : k0_chk142 i v54 v57 v68 v148), ∀ (k0_h5 : k0_cond5 i v54 v57 v68 = 1#1), ∀ a x, ((![v148] : Fin 1 → IVec S16 32) a x).toNat < S24576.size a := fun i v54 v57 v68 v148 k0_hw142 k0_h5 => k0_hw142 k0_h5

def k0_chk143 (i : grid0.Coords) (v54 : BitVec 32) (v57 : BitVec 32) (v68 : BitVec 1) (v152 : IVec S16 32) : Prop :=
  (∀ (k0_h5 : k0_cond5 i v54 v57 v68 = 1#1), ∀ a x, ((![v152] : Fin 1 → IVec S16 32) a x).toNat < S24576.size a)
theorem k0_idx158_inb : ∀ (i : grid0.Coords) (v54 : BitVec 32) (v57 : BitVec 32) (v68 : BitVec 1) (v152 : IVec S16 32) (k0_hw143 : k0_chk143 i v54 v57 v68 v152), ∀ (k0_h5 : k0_cond5 i v54 v57 v68 = 1#1), ∀ a x, ((![v152] : Fin 1 → IVec S16 32) a x).toNat < S24576.size a := fun i v54 v57 v68 v152 k0_hw143 k0_h5 => k0_hw143 k0_h5

def k0_chk144 (i : grid0.Coords) (v54 : BitVec 32) (v57 : BitVec 32) (v68 : BitVec 1) (v156 : IVec S16 32) : Prop :=
  (∀ (k0_h5 : k0_cond5 i v54 v57 v68 = 1#1), ∀ a x, ((![v156] : Fin 1 → IVec S16 32) a x).toNat < S24576.size a)
theorem k0_idx159_inb : ∀ (i : grid0.Coords) (v54 : BitVec 32) (v57 : BitVec 32) (v68 : BitVec 1) (v156 : IVec S16 32) (k0_hw144 : k0_chk144 i v54 v57 v68 v156), ∀ (k0_h5 : k0_cond5 i v54 v57 v68 = 1#1), ∀ a x, ((![v156] : Fin 1 → IVec S16 32) a x).toNat < S24576.size a := fun i v54 v57 v68 v156 k0_hw144 k0_h5 => k0_hw144 k0_h5

def k0_chk145 (i : grid0.Coords) (v54 : BitVec 32) (v57 : BitVec 32) (v68 : BitVec 1) (v160 : IVec S16 32) : Prop :=
  (∀ (k0_h5 : k0_cond5 i v54 v57 v68 = 1#1), ∀ a x, ((![v160] : Fin 1 → IVec S16 32) a x).toNat < S24576.size a)
theorem k0_idx160_inb : ∀ (i : grid0.Coords) (v54 : BitVec 32) (v57 : BitVec 32) (v68 : BitVec 1) (v160 : IVec S16 32) (k0_hw145 : k0_chk145 i v54 v57 v68 v160), ∀ (k0_h5 : k0_cond5 i v54 v57 v68 = 1#1), ∀ a x, ((![v160] : Fin 1 → IVec S16 32) a x).toNat < S24576.size a := fun i v54 v57 v68 v160 k0_hw145 k0_h5 => k0_hw145 k0_h5
def k0_off53 (i : grid0.Coords) (v54 : BitVec 32) (v57 : BitVec 32) (v61 : BitVec 32) (v63 : BitVec 32) (k0_t17 : Fin (k0_t17_loop i v54 v57).trips) (k0_t19 : Fin (k0_t19_loop v61 v63).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c28_i32_26 : BitVec 32 := 28#32
  let v58 : BitVec 32 := Scalar.addi v29 c28_i32_26
  let v59 : BitVec 32 := Scalar.minsi v57 v58
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t17
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t19
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk146 (i : grid0.Coords) (v54 : BitVec 32) (v57 : BitVec 32) (v68 : BitVec 1) (v180 : IVec S16 32) : Prop :=
  (∀ (k0_h5 : k0_cond5 i v54 v57 v68 = 1#1), ∀ a x, ((![v180] : Fin 1 → IVec S16 32) a x).toNat < S24576.size a)
theorem k0_idx161_inb : ∀ (i : grid0.Coords) (v54 : BitVec 32) (v57 : BitVec 32) (v68 : BitVec 1) (v180 : IVec S16 32) (k0_hw146 : k0_chk146 i v54 v57 v68 v180), ∀ (k0_h5 : k0_cond5 i v54 v57 v68 = 1#1), ∀ a x, ((![v180] : Fin 1 → IVec S16 32) a x).toNat < S24576.size a := fun i v54 v57 v68 v180 k0_hw146 k0_h5 => k0_hw146 k0_h5

def k0_chk147 (i : grid0.Coords) (v54 : BitVec 32) (v57 : BitVec 32) (v68 : BitVec 1) (v184 : IVec S16 32) : Prop :=
  (∀ (k0_h5 : k0_cond5 i v54 v57 v68 = 1#1), ∀ a x, ((![v184] : Fin 1 → IVec S16 32) a x).toNat < S24576.size a)
theorem k0_idx162_inb : ∀ (i : grid0.Coords) (v54 : BitVec 32) (v57 : BitVec 32) (v68 : BitVec 1) (v184 : IVec S16 32) (k0_hw147 : k0_chk147 i v54 v57 v68 v184), ∀ (k0_h5 : k0_cond5 i v54 v57 v68 = 1#1), ∀ a x, ((![v184] : Fin 1 → IVec S16 32) a x).toNat < S24576.size a := fun i v54 v57 v68 v184 k0_hw147 k0_h5 => k0_hw147 k0_h5

def k0_chk148 (i : grid0.Coords) (v54 : BitVec 32) (v57 : BitVec 32) (v68 : BitVec 1) (v188 : IVec S16 32) : Prop :=
  (∀ (k0_h5 : k0_cond5 i v54 v57 v68 = 1#1), ∀ a x, ((![v188] : Fin 1 → IVec S16 32) a x).toNat < S24576.size a)
theorem k0_idx163_inb : ∀ (i : grid0.Coords) (v54 : BitVec 32) (v57 : BitVec 32) (v68 : BitVec 1) (v188 : IVec S16 32) (k0_hw148 : k0_chk148 i v54 v57 v68 v188), ∀ (k0_h5 : k0_cond5 i v54 v57 v68 = 1#1), ∀ a x, ((![v188] : Fin 1 → IVec S16 32) a x).toNat < S24576.size a := fun i v54 v57 v68 v188 k0_hw148 k0_h5 => k0_hw148 k0_h5

def k0_chk149 (i : grid0.Coords) (v54 : BitVec 32) (v57 : BitVec 32) (v68 : BitVec 1) (v192 : IVec S16 32) : Prop :=
  (∀ (k0_h5 : k0_cond5 i v54 v57 v68 = 1#1), ∀ a x, ((![v192] : Fin 1 → IVec S16 32) a x).toNat < S24576.size a)
theorem k0_idx164_inb : ∀ (i : grid0.Coords) (v54 : BitVec 32) (v57 : BitVec 32) (v68 : BitVec 1) (v192 : IVec S16 32) (k0_hw149 : k0_chk149 i v54 v57 v68 v192), ∀ (k0_h5 : k0_cond5 i v54 v57 v68 = 1#1), ∀ a x, ((![v192] : Fin 1 → IVec S16 32) a x).toNat < S24576.size a := fun i v54 v57 v68 v192 k0_hw149 k0_h5 => k0_hw149 k0_h5
def k0_off54 (i : grid0.Coords) (v54 : BitVec 32) (v57 : BitVec 32) (v61 : BitVec 32) (v63 : BitVec 32) (k0_t17 : Fin (k0_t17_loop i v54 v57).trips) (k0_t19 : Fin (k0_t19_loop v61 v63).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c28_i32_26 : BitVec 32 := 28#32
  let v58 : BitVec 32 := Scalar.addi v29 c28_i32_26
  let v59 : BitVec 32 := Scalar.minsi v57 v58
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t17
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t19
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk150 (i : grid0.Coords) (v54 : BitVec 32) (v57 : BitVec 32) (v68 : BitVec 1) (v212 : IVec S16 32) : Prop :=
  (∀ (k0_h5 : k0_cond5 i v54 v57 v68 = 1#1), ∀ a x, ((![v212] : Fin 1 → IVec S16 32) a x).toNat < S24576.size a)
theorem k0_idx165_inb : ∀ (i : grid0.Coords) (v54 : BitVec 32) (v57 : BitVec 32) (v68 : BitVec 1) (v212 : IVec S16 32) (k0_hw150 : k0_chk150 i v54 v57 v68 v212), ∀ (k0_h5 : k0_cond5 i v54 v57 v68 = 1#1), ∀ a x, ((![v212] : Fin 1 → IVec S16 32) a x).toNat < S24576.size a := fun i v54 v57 v68 v212 k0_hw150 k0_h5 => k0_hw150 k0_h5

def k0_chk151 (i : grid0.Coords) (v54 : BitVec 32) (v57 : BitVec 32) (v68 : BitVec 1) (v216 : IVec S16 32) : Prop :=
  (∀ (k0_h5 : k0_cond5 i v54 v57 v68 = 1#1), ∀ a x, ((![v216] : Fin 1 → IVec S16 32) a x).toNat < S24576.size a)
theorem k0_idx166_inb : ∀ (i : grid0.Coords) (v54 : BitVec 32) (v57 : BitVec 32) (v68 : BitVec 1) (v216 : IVec S16 32) (k0_hw151 : k0_chk151 i v54 v57 v68 v216), ∀ (k0_h5 : k0_cond5 i v54 v57 v68 = 1#1), ∀ a x, ((![v216] : Fin 1 → IVec S16 32) a x).toNat < S24576.size a := fun i v54 v57 v68 v216 k0_hw151 k0_h5 => k0_hw151 k0_h5

def k0_chk152 (i : grid0.Coords) (v54 : BitVec 32) (v57 : BitVec 32) (v68 : BitVec 1) (v220 : IVec S16 32) : Prop :=
  (∀ (k0_h5 : k0_cond5 i v54 v57 v68 = 1#1), ∀ a x, ((![v220] : Fin 1 → IVec S16 32) a x).toNat < S24576.size a)
theorem k0_idx167_inb : ∀ (i : grid0.Coords) (v54 : BitVec 32) (v57 : BitVec 32) (v68 : BitVec 1) (v220 : IVec S16 32) (k0_hw152 : k0_chk152 i v54 v57 v68 v220), ∀ (k0_h5 : k0_cond5 i v54 v57 v68 = 1#1), ∀ a x, ((![v220] : Fin 1 → IVec S16 32) a x).toNat < S24576.size a := fun i v54 v57 v68 v220 k0_hw152 k0_h5 => k0_hw152 k0_h5

def k0_chk153 (i : grid0.Coords) (v54 : BitVec 32) (v57 : BitVec 32) (v68 : BitVec 1) (v224 : IVec S16 32) : Prop :=
  (∀ (k0_h5 : k0_cond5 i v54 v57 v68 = 1#1), ∀ a x, ((![v224] : Fin 1 → IVec S16 32) a x).toNat < S24576.size a)
theorem k0_idx168_inb : ∀ (i : grid0.Coords) (v54 : BitVec 32) (v57 : BitVec 32) (v68 : BitVec 1) (v224 : IVec S16 32) (k0_hw153 : k0_chk153 i v54 v57 v68 v224), ∀ (k0_h5 : k0_cond5 i v54 v57 v68 = 1#1), ∀ a x, ((![v224] : Fin 1 → IVec S16 32) a x).toNat < S24576.size a := fun i v54 v57 v68 v224 k0_hw153 k0_h5 => k0_hw153 k0_h5
def k0_off55 (i : grid0.Coords) (v54 : BitVec 32) (v57 : BitVec 32) (v61 : BitVec 32) (v63 : BitVec 32) (k0_t17 : Fin (k0_t17_loop i v54 v57).trips) (k0_t19 : Fin (k0_t19_loop v61 v63).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v55 : BitVec 32 := Scalar.maxsi v54 v29
  let c0_i32_48 : BitVec 32 := 0#32
  let c28_i32_26 : BitVec 32 := 28#32
  let v58 : BitVec 32 := Scalar.addi v29 c28_i32_26
  let v59 : BitVec 32 := Scalar.minsi v57 v58
  let v99 : BitVec 32 := Scalar.subi v59 v55
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t17
  let c1_i32_47 : BitVec 32 := 1#32
  let v108 : BitVec 32 := Scalar.muli arg30 c1_i32_47
  let v109 : BitVec 32 := Scalar.addi v55 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let v122 : BitVec 32 := Scalar.subi v63 v61
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t19
  let c1_i32_56 : BitVec 32 := 1#32
  let v131 : BitVec 32 := Scalar.muli arg31 c1_i32_56
  let v132 : BitVec 32 := Scalar.addi v61 v131
  let c16_i32_61 : BitVec 32 := 16#32
  let v133 : BitVec 32 := Scalar.muli v132 c16_i32_61
  let v236 : BitVec 32 := Scalar.addi v235 v133
  let v237 : Index := Scalar.indexCast v236
  ![v237.toNat]

def k0_chk103 (i : grid0.Coords) (v54 : BitVec 32) (v57 : BitVec 32) (v61 : BitVec 32) (v63 : BitVec 32) (v68 : BitVec 1) : Prop :=
  (∀ (k0_h5 : k0_cond5 i v54 v57 v68 = 1#1), (k0_t14_loop i v54 v57).OK) ∧
  (∀ k0_t14 : Fin (k0_t14_loop i v54 v57).trips, ∀ (k0_h5 : k0_cond5 i v54 v57 v68 = 1#1), (k0_t15_loop v61 v63).OK) ∧
  (∀ (k0_t14 : Fin (k0_t14_loop i v54 v57).trips) (k0_t15 : Fin (k0_t15_loop v61 v63).trips), ∀ (k0_h5 : k0_cond5 i v54 v57 v68 = 1#1), ∀ a, (k0_off40 v61 v63 k0_t15) a + S16.size a ≤ S7168.size a) ∧
  (∀ (k0_t14 : Fin (k0_t14_loop i v54 v57).trips) (k0_t15 : Fin (k0_t15_loop v61 v63).trips), ∀ (k0_h5 : k0_cond5 i v54 v57 v68 = 1#1), ∀ a, (k0_off41 i v54 v57 v61 v63 k0_t14 k0_t15) a + S16.size a ≤ S18816.size a) ∧
  (∀ (k0_t14 : Fin (k0_t14_loop i v54 v57).trips) (k0_t15 : Fin (k0_t15_loop v61 v63).trips), ∀ (k0_h5 : k0_cond5 i v54 v57 v68 = 1#1), ∀ a, (k0_off42 i v54 v57 v61 v63 k0_t14 k0_t15) a + S16.size a ≤ S18816.size a) ∧
  (∀ (k0_t14 : Fin (k0_t14_loop i v54 v57).trips) (k0_t15 : Fin (k0_t15_loop v61 v63).trips), ∀ (k0_h5 : k0_cond5 i v54 v57 v68 = 1#1), ∀ a, (k0_off43 i v54 v57 v61 v63 k0_t14 k0_t15) a + S16.size a ≤ S18816.size a) ∧
  (∀ k0_t14 : Fin (k0_t14_loop i v54 v57).trips, ∀ (k0_h5 : k0_cond5 i v54 v57 v68 = 1#1), (k0_t16_loop v61 v63).OK) ∧
  (∀ (k0_t14 : Fin (k0_t14_loop i v54 v57).trips) (k0_t16 : Fin (k0_t16_loop v61 v63).trips), ∀ (k0_h5 : k0_cond5 i v54 v57 v68 = 1#1), ∀ a, (k0_off44 v61 v63 k0_t16) a + S16.size a ≤ S7168.size a) ∧
  (∀ (k0_t14 : Fin (k0_t14_loop i v54 v57).trips) (k0_t16 : Fin (k0_t16_loop v61 v63).trips), ∀ (k0_h5 : k0_cond5 i v54 v57 v68 = 1#1), ∀ a, (k0_off45 i v54 v57 v61 v63 k0_t14 k0_t16) a + S16.size a ≤ S18816.size a) ∧
  (∀ (k0_t14 : Fin (k0_t14_loop i v54 v57).trips) (k0_t16 : Fin (k0_t16_loop v61 v63).trips), ∀ (k0_h5 : k0_cond5 i v54 v57 v68 = 1#1), ∀ a, (k0_off46 i v54 v57 v61 v63 k0_t14 k0_t16) a + S16.size a ≤ S18816.size a) ∧
  (∀ (k0_t14 : Fin (k0_t14_loop i v54 v57).trips) (k0_t16 : Fin (k0_t16_loop v61 v63).trips), ∀ (k0_h5 : k0_cond5 i v54 v57 v68 = 1#1), ∀ a, (k0_off47 i v54 v57 v61 v63 k0_t14 k0_t16) a + S16.size a ≤ S18816.size a) ∧
  (∀ (k0_h5 : k0_cond5 i v54 v57 v68 = 1#1), (k0_t17_loop i v54 v57).OK) ∧
  (∀ k0_t17 : Fin (k0_t17_loop i v54 v57).trips, ∀ (k0_h5 : k0_cond5 i v54 v57 v68 = 1#1), (k0_t18_loop v61 v63).OK) ∧
  (∀ (k0_t17 : Fin (k0_t17_loop i v54 v57).trips) (k0_t18 : Fin (k0_t18_loop v61 v63).trips), ∀ (k0_h5 : k0_cond5 i v54 v57 v68 = 1#1), ∀ a, (k0_off48 v61 v63 k0_t18) a + S16.size a ≤ S7168.size a) ∧
  (∀ (k0_t17 : Fin (k0_t17_loop i v54 v57).trips) (k0_t18 : Fin (k0_t18_loop v61 v63).trips), ∀ (k0_h5 : k0_cond5 i v54 v57 v68 = 1#1), ∀ a, (k0_off49 i v54 v57 v61 v63 k0_t17 k0_t18) a + S16.size a ≤ S18816.size a) ∧
  (∀ (k0_t17 : Fin (k0_t17_loop i v54 v57).trips) (k0_t18 : Fin (k0_t18_loop v61 v63).trips), ∀ (k0_h5 : k0_cond5 i v54 v57 v68 = 1#1), ∀ a, (k0_off50 i v54 v57 v61 v63 k0_t17 k0_t18) a + S16.size a ≤ S18816.size a) ∧
  (∀ (k0_t17 : Fin (k0_t17_loop i v54 v57).trips) (k0_t18 : Fin (k0_t18_loop v61 v63).trips), ∀ (k0_h5 : k0_cond5 i v54 v57 v68 = 1#1), ∀ a, (k0_off51 i v54 v57 v61 v63 k0_t17 k0_t18) a + S16.size a ≤ S18816.size a) ∧
  (∀ k0_t17 : Fin (k0_t17_loop i v54 v57).trips, ∀ (k0_h5 : k0_cond5 i v54 v57 v68 = 1#1), (k0_t19_loop v61 v63).OK) ∧
  (∀ (k0_t17 : Fin (k0_t17_loop i v54 v57).trips) (k0_t19 : Fin (k0_t19_loop v61 v63).trips), ∀ (k0_h5 : k0_cond5 i v54 v57 v68 = 1#1), ∀ a, (k0_off52 v61 v63 k0_t19) a + S16.size a ≤ S7168.size a) ∧
  (∀ (k0_t17 : Fin (k0_t17_loop i v54 v57).trips) (k0_t19 : Fin (k0_t19_loop v61 v63).trips), ∀ (k0_h5 : k0_cond5 i v54 v57 v68 = 1#1), ∀ a, (k0_off53 i v54 v57 v61 v63 k0_t17 k0_t19) a + S16.size a ≤ S18816.size a) ∧
  (∀ (k0_t17 : Fin (k0_t17_loop i v54 v57).trips) (k0_t19 : Fin (k0_t19_loop v61 v63).trips), ∀ (k0_h5 : k0_cond5 i v54 v57 v68 = 1#1), ∀ a, (k0_off54 i v54 v57 v61 v63 k0_t17 k0_t19) a + S16.size a ≤ S18816.size a) ∧
  (∀ (k0_t17 : Fin (k0_t17_loop i v54 v57).trips) (k0_t19 : Fin (k0_t19_loop v61 v63).trips), ∀ (k0_h5 : k0_cond5 i v54 v57 v68 = 1#1), ∀ a, (k0_off55 i v54 v57 v61 v63 k0_t17 k0_t19) a + S16.size a ≤ S18816.size a)
theorem k0_t14_ok : ∀ (i : grid0.Coords) (v54 : BitVec 32) (v57 : BitVec 32) (v61 : BitVec 32) (v63 : BitVec 32) (v68 : BitVec 1) (k0_hw103 : k0_chk103 i v54 v57 v61 v63 v68), ∀ (k0_h5 : k0_cond5 i v54 v57 v68 = 1#1), (k0_t14_loop i v54 v57).OK := fun i v54 v57 v61 v63 v68 k0_hw103 k0_h5 => k0_hw103.1 k0_h5
theorem k0_t15_ok : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips), ∀ (k0_h5 : k0_cond5 i v54 v57 v68 = 1#1), (k0_t15_loop v61 v63).OK := fun i v54 v57 v61 v63 v68 k0_hw103 k0_t14 k0_h5 => k0_hw103.2.1 k0_t14 k0_h5
theorem k0_off40_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t15 : Fin (k0_t15_loop v61 v63).trips), ∀ (k0_h5 : k0_cond5 i v54 v57 v68 = 1#1), ∀ a, (k0_off40 v61 v63 k0_t15) a + S16.size a ≤ S7168.size a := fun i v54 v57 v61 v63 v68 k0_hw103 k0_t14 k0_t15 k0_h5 => k0_hw103.2.2.1 k0_t14 k0_t15 k0_h5
theorem k0_off41_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t15 : Fin (k0_t15_loop v61 v63).trips), ∀ (k0_h5 : k0_cond5 i v54 v57 v68 = 1#1), ∀ a, (k0_off41 i v54 v57 v61 v63 k0_t14 k0_t15) a + S16.size a ≤ S18816.size a := fun i v54 v57 v61 v63 v68 k0_hw103 k0_t14 k0_t15 k0_h5 => k0_hw103.2.2.2.1 k0_t14 k0_t15 k0_h5
theorem k0_off42_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t15 : Fin (k0_t15_loop v61 v63).trips), ∀ (k0_h5 : k0_cond5 i v54 v57 v68 = 1#1), ∀ a, (k0_off42 i v54 v57 v61 v63 k0_t14 k0_t15) a + S16.size a ≤ S18816.size a := fun i v54 v57 v61 v63 v68 k0_hw103 k0_t14 k0_t15 k0_h5 => k0_hw103.2.2.2.2.1 k0_t14 k0_t15 k0_h5
theorem k0_off43_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t15 : Fin (k0_t15_loop v61 v63).trips), ∀ (k0_h5 : k0_cond5 i v54 v57 v68 = 1#1), ∀ a, (k0_off43 i v54 v57 v61 v63 k0_t14 k0_t15) a + S16.size a ≤ S18816.size a := fun i v54 v57 v61 v63 v68 k0_hw103 k0_t14 k0_t15 k0_h5 => k0_hw103.2.2.2.2.2.1 k0_t14 k0_t15 k0_h5
theorem k0_t16_ok : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips), ∀ (k0_h5 : k0_cond5 i v54 v57 v68 = 1#1), (k0_t16_loop v61 v63).OK := fun i v54 v57 v61 v63 v68 k0_hw103 k0_t14 k0_h5 => k0_hw103.2.2.2.2.2.2.1 k0_t14 k0_h5
theorem k0_off44_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t16 : Fin (k0_t16_loop v61 v63).trips), ∀ (k0_h5 : k0_cond5 i v54 v57 v68 = 1#1), ∀ a, (k0_off44 v61 v63 k0_t16) a + S16.size a ≤ S7168.size a := fun i v54 v57 v61 v63 v68 k0_hw103 k0_t14 k0_t16 k0_h5 => k0_hw103.2.2.2.2.2.2.2.1 k0_t14 k0_t16 k0_h5
theorem k0_off45_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t16 : Fin (k0_t16_loop v61 v63).trips), ∀ (k0_h5 : k0_cond5 i v54 v57 v68 = 1#1), ∀ a, (k0_off45 i v54 v57 v61 v63 k0_t14 k0_t16) a + S16.size a ≤ S18816.size a := fun i v54 v57 v61 v63 v68 k0_hw103 k0_t14 k0_t16 k0_h5 => k0_hw103.2.2.2.2.2.2.2.2.1 k0_t14 k0_t16 k0_h5
theorem k0_off46_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t16 : Fin (k0_t16_loop v61 v63).trips), ∀ (k0_h5 : k0_cond5 i v54 v57 v68 = 1#1), ∀ a, (k0_off46 i v54 v57 v61 v63 k0_t14 k0_t16) a + S16.size a ≤ S18816.size a := fun i v54 v57 v61 v63 v68 k0_hw103 k0_t14 k0_t16 k0_h5 => k0_hw103.2.2.2.2.2.2.2.2.2.1 k0_t14 k0_t16 k0_h5
theorem k0_off47_inb : ∀ (i : grid0.Coords) (v54 : BitVec 32) (v57 : BitVec 32) (v61 : BitVec 32) (v63 : BitVec 32) (v68 : BitVec 1) (k0_hw103 : k0_chk103 i v54 v57 v61 v63 v68) (k0_t14 : Fin (k0_t14_loop i v54 v57).trips) (k0_t16 : Fin (k0_t16_loop v61 v63).trips), ∀ (k0_h5 : k0_cond5 i v54 v57 v68 = 1#1), ∀ a, (k0_off47 i v54 v57 v61 v63 k0_t14 k0_t16) a + S16.size a ≤ S18816.size a := fun i v54 v57 v61 v63 v68 k0_hw103 k0_t14 k0_t16 k0_h5 => k0_hw103.2.2.2.2.2.2.2.2.2.2.1 k0_t14 k0_t16 k0_h5
theorem k0_t17_ok : ∀ (i : grid0.Coords) (v54 : BitVec 32) (v57 : BitVec 32) (v61 : BitVec 32) (v63 : BitVec 32) (v68 : BitVec 1) (k0_hw103 : k0_chk103 i v54 v57 v61 v63 v68), ∀ (k0_h5 : k0_cond5 i v54 v57 v68 = 1#1), (k0_t17_loop i v54 v57).OK := fun i v54 v57 v61 v63 v68 k0_hw103 k0_h5 => k0_hw103.2.2.2.2.2.2.2.2.2.2.2.1 k0_h5
theorem k0_t18_ok : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips), ∀ (k0_h5 : k0_cond5 i v54 v57 v68 = 1#1), (k0_t18_loop v61 v63).OK := fun i v54 v57 v61 v63 v68 k0_hw103 k0_t17 k0_h5 => k0_hw103.2.2.2.2.2.2.2.2.2.2.2.2.1 k0_t17 k0_h5
theorem k0_off48_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t18 : Fin (k0_t18_loop v61 v63).trips), ∀ (k0_h5 : k0_cond5 i v54 v57 v68 = 1#1), ∀ a, (k0_off48 v61 v63 k0_t18) a + S16.size a ≤ S7168.size a := fun i v54 v57 v61 v63 v68 k0_hw103 k0_t17 k0_t18 k0_h5 => k0_hw103.2.2.2.2.2.2.2.2.2.2.2.2.2.1 k0_t17 k0_t18 k0_h5
theorem k0_off49_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t18 : Fin (k0_t18_loop v61 v63).trips), ∀ (k0_h5 : k0_cond5 i v54 v57 v68 = 1#1), ∀ a, (k0_off49 i v54 v57 v61 v63 k0_t17 k0_t18) a + S16.size a ≤ S18816.size a := fun i v54 v57 v61 v63 v68 k0_hw103 k0_t17 k0_t18 k0_h5 => k0_hw103.2.2.2.2.2.2.2.2.2.2.2.2.2.2.1 k0_t17 k0_t18 k0_h5
theorem k0_off50_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t18 : Fin (k0_t18_loop v61 v63).trips), ∀ (k0_h5 : k0_cond5 i v54 v57 v68 = 1#1), ∀ a, (k0_off50 i v54 v57 v61 v63 k0_t17 k0_t18) a + S16.size a ≤ S18816.size a := fun i v54 v57 v61 v63 v68 k0_hw103 k0_t17 k0_t18 k0_h5 => k0_hw103.2.2.2.2.2.2.2.2.2.2.2.2.2.2.2.1 k0_t17 k0_t18 k0_h5
theorem k0_off51_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t18 : Fin (k0_t18_loop v61 v63).trips), ∀ (k0_h5 : k0_cond5 i v54 v57 v68 = 1#1), ∀ a, (k0_off51 i v54 v57 v61 v63 k0_t17 k0_t18) a + S16.size a ≤ S18816.size a := fun i v54 v57 v61 v63 v68 k0_hw103 k0_t17 k0_t18 k0_h5 => k0_hw103.2.2.2.2.2.2.2.2.2.2.2.2.2.2.2.2.1 k0_t17 k0_t18 k0_h5
theorem k0_t19_ok : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips), ∀ (k0_h5 : k0_cond5 i v54 v57 v68 = 1#1), (k0_t19_loop v61 v63).OK := fun i v54 v57 v61 v63 v68 k0_hw103 k0_t17 k0_h5 => k0_hw103.2.2.2.2.2.2.2.2.2.2.2.2.2.2.2.2.2.1 k0_t17 k0_h5
theorem k0_off52_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t19 : Fin (k0_t19_loop v61 v63).trips), ∀ (k0_h5 : k0_cond5 i v54 v57 v68 = 1#1), ∀ a, (k0_off52 v61 v63 k0_t19) a + S16.size a ≤ S7168.size a := fun i v54 v57 v61 v63 v68 k0_hw103 k0_t17 k0_t19 k0_h5 => k0_hw103.2.2.2.2.2.2.2.2.2.2.2.2.2.2.2.2.2.2.1 k0_t17 k0_t19 k0_h5
theorem k0_off53_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t19 : Fin (k0_t19_loop v61 v63).trips), ∀ (k0_h5 : k0_cond5 i v54 v57 v68 = 1#1), ∀ a, (k0_off53 i v54 v57 v61 v63 k0_t17 k0_t19) a + S16.size a ≤ S18816.size a := fun i v54 v57 v61 v63 v68 k0_hw103 k0_t17 k0_t19 k0_h5 => k0_hw103.2.2.2.2.2.2.2.2.2.2.2.2.2.2.2.2.2.2.2.1 k0_t17 k0_t19 k0_h5
theorem k0_off54_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t19 : Fin (k0_t19_loop v61 v63).trips), ∀ (k0_h5 : k0_cond5 i v54 v57 v68 = 1#1), ∀ a, (k0_off54 i v54 v57 v61 v63 k0_t17 k0_t19) a + S16.size a ≤ S18816.size a := fun i v54 v57 v61 v63 v68 k0_hw103 k0_t17 k0_t19 k0_h5 => k0_hw103.2.2.2.2.2.2.2.2.2.2.2.2.2.2.2.2.2.2.2.2.1 k0_t17 k0_t19 k0_h5
theorem k0_off55_inb : ∀ (i : grid0.Coords) (v54 : BitVec 32) (v57 : BitVec 32) (v61 : BitVec 32) (v63 : BitVec 32) (v68 : BitVec 1) (k0_hw103 : k0_chk103 i v54 v57 v61 v63 v68) (k0_t17 : Fin (k0_t17_loop i v54 v57).trips) (k0_t19 : Fin (k0_t19_loop v61 v63).trips), ∀ (k0_h5 : k0_cond5 i v54 v57 v68 = 1#1), ∀ a, (k0_off55 i v54 v57 v61 v63 k0_t17 k0_t19) a + S16.size a ≤ S18816.size a := fun i v54 v57 v61 v63 v68 k0_hw103 k0_t17 k0_t19 k0_h5 => k0_hw103.2.2.2.2.2.2.2.2.2.2.2.2.2.2.2.2.2.2.2.2.2 k0_t17 k0_t19 k0_h5

@[reducible] def k0_t20_loop (i : grid0.Coords) (v79 : BitVec 32) (v82 : BitVec 32) : Scf.Loop 32 :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_33 : BitVec 32 := 28#32
  let v83 : BitVec 32 := Scalar.addi v29 c28_i32_33
  let v84 : BitVec 32 := Scalar.minsi v82 v83
  let v80 : BitVec 32 := Scalar.maxsi v79 v29
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_50 : BitVec 32 := 1#32
  ⟨c0_i32_48, v107, c1_i32_50⟩
def k0_cond6 (i : grid0.Coords) (v79 : BitVec 32) (v82 : BitVec 32) (v93 : BitVec 1) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c28_i32_33 : BitVec 32 := 28#32
  let v83 : BitVec 32 := Scalar.addi v29 c28_i32_33
  let v84 : BitVec 32 := Scalar.minsi v82 v83
  let v92 : BitVec 1 := Scalar.cmpi .slt v80 v84
  let true_36 : BitVec 1 := 1#1
  let v94 : BitVec 1 := Scalar.xori v93 true_36
  let v95 : BitVec 1 := Scalar.andi v92 v94
  let v96 : BitVec 32 := Scalar.extui v95
  let c0_i32_37 : BitVec 32 := 0#32
  let v97 : BitVec 1 := Scalar.cmpi .ne v96 c0_i32_37
  v97

def k0_chk155 (i : grid0.Coords) (v79 : BitVec 32) (v82 : BitVec 32) (v93 : BitVec 1) (v111 : IVec S16 32) : Prop :=
  (∀ (k0_h6 : k0_cond6 i v79 v82 v93 = 1#1), ∀ a x, ((![v111] : Fin 1 → IVec S16 32) a x).toNat < S7168.size a) ∧
  (∀ (k0_h6 : k0_cond6 i v79 v82 v93 = 1#1), ∀ a x, ((![v111] : Fin 1 → IVec S16 32) a x).toNat < S7168.size a) ∧
  (∀ (k0_h6 : k0_cond6 i v79 v82 v93 = 1#1), ∀ a x, ((![v111] : Fin 1 → IVec S16 32) a x).toNat < S7168.size a) ∧
  (∀ (k0_h6 : k0_cond6 i v79 v82 v93 = 1#1), ∀ a x, ((![v111] : Fin 1 → IVec S16 32) a x).toNat < S7168.size a)
theorem k0_idx169_inb : ∀ (i : grid0.Coords) (v79 : BitVec 32) (v82 : BitVec 32) (v93 : BitVec 1) (v111 : IVec S16 32) (k0_hw155 : k0_chk155 i v79 v82 v93 v111), ∀ (k0_h6 : k0_cond6 i v79 v82 v93 = 1#1), ∀ a x, ((![v111] : Fin 1 → IVec S16 32) a x).toNat < S7168.size a := fun i v79 v82 v93 v111 k0_hw155 k0_h6 => k0_hw155.1 k0_h6
theorem k0_idx170_inb : ∀ (i : grid0.Coords) (v79 : BitVec 32) (v82 : BitVec 32) (v93 : BitVec 1) (v111 : IVec S16 32) (k0_hw155 : k0_chk155 i v79 v82 v93 v111), ∀ (k0_h6 : k0_cond6 i v79 v82 v93 = 1#1), ∀ a x, ((![v111] : Fin 1 → IVec S16 32) a x).toNat < S7168.size a := fun i v79 v82 v93 v111 k0_hw155 k0_h6 => k0_hw155.2.1 k0_h6
theorem k0_idx171_inb : ∀ (i : grid0.Coords) (v79 : BitVec 32) (v82 : BitVec 32) (v93 : BitVec 1) (v111 : IVec S16 32) (k0_hw155 : k0_chk155 i v79 v82 v93 v111), ∀ (k0_h6 : k0_cond6 i v79 v82 v93 = 1#1), ∀ a x, ((![v111] : Fin 1 → IVec S16 32) a x).toNat < S7168.size a := fun i v79 v82 v93 v111 k0_hw155 k0_h6 => k0_hw155.2.2.1 k0_h6
theorem k0_idx172_inb : ∀ (i : grid0.Coords) (v79 : BitVec 32) (v82 : BitVec 32) (v93 : BitVec 1) (v111 : IVec S16 32) (k0_hw155 : k0_chk155 i v79 v82 v93 v111), ∀ (k0_h6 : k0_cond6 i v79 v82 v93 = 1#1), ∀ a x, ((![v111] : Fin 1 → IVec S16 32) a x).toNat < S7168.size a := fun i v79 v82 v93 v111 k0_hw155 k0_h6 => k0_hw155.2.2.2 k0_h6
@[reducible] def k0_t21_loop (v86 : BitVec 32) (v88 : BitVec 32) : Scf.Loop 32 :=
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_59 : BitVec 32 := 1#32
  ⟨c0_i32_57, v130, c1_i32_59⟩
def k0_off56 (v86 : BitVec 32) (v88 : BitVec 32) (k0_t21 : Fin (k0_t21_loop v86 v88).trips) : Fin 1 → Nat :=
  let c6944_i32_62 : BitVec 32 := 6944#32
  let c0_i32_57 : BitVec 32 := 0#32
  let c1_i32_59 : BitVec 32 := 1#32
  let arg31 : BitVec 32 := Scf.iv c0_i32_57 c1_i32_59 k0_t21
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v134 : BitVec 32 := Scalar.addi c6944_i32_62 v133
  let v135 : Index := Scalar.indexCast v134
  ![v135.toNat]

def k0_chk156 (i : grid0.Coords) (v79 : BitVec 32) (v82 : BitVec 32) (v93 : BitVec 1) (v148 : IVec S16 32) : Prop :=
  (∀ (k0_h6 : k0_cond6 i v79 v82 v93 = 1#1), ∀ a x, ((![v148] : Fin 1 → IVec S16 32) a x).toNat < S24576.size a)
theorem k0_idx173_inb : ∀ (i : grid0.Coords) (v79 : BitVec 32) (v82 : BitVec 32) (v93 : BitVec 1) (v148 : IVec S16 32) (k0_hw156 : k0_chk156 i v79 v82 v93 v148), ∀ (k0_h6 : k0_cond6 i v79 v82 v93 = 1#1), ∀ a x, ((![v148] : Fin 1 → IVec S16 32) a x).toNat < S24576.size a := fun i v79 v82 v93 v148 k0_hw156 k0_h6 => k0_hw156 k0_h6

def k0_chk157 (i : grid0.Coords) (v79 : BitVec 32) (v82 : BitVec 32) (v93 : BitVec 1) (v152 : IVec S16 32) : Prop :=
  (∀ (k0_h6 : k0_cond6 i v79 v82 v93 = 1#1), ∀ a x, ((![v152] : Fin 1 → IVec S16 32) a x).toNat < S24576.size a)
theorem k0_idx174_inb : ∀ (i : grid0.Coords) (v79 : BitVec 32) (v82 : BitVec 32) (v93 : BitVec 1) (v152 : IVec S16 32) (k0_hw157 : k0_chk157 i v79 v82 v93 v152), ∀ (k0_h6 : k0_cond6 i v79 v82 v93 = 1#1), ∀ a x, ((![v152] : Fin 1 → IVec S16 32) a x).toNat < S24576.size a := fun i v79 v82 v93 v152 k0_hw157 k0_h6 => k0_hw157 k0_h6

def k0_chk158 (i : grid0.Coords) (v79 : BitVec 32) (v82 : BitVec 32) (v93 : BitVec 1) (v156 : IVec S16 32) : Prop :=
  (∀ (k0_h6 : k0_cond6 i v79 v82 v93 = 1#1), ∀ a x, ((![v156] : Fin 1 → IVec S16 32) a x).toNat < S24576.size a)
theorem k0_idx175_inb : ∀ (i : grid0.Coords) (v79 : BitVec 32) (v82 : BitVec 32) (v93 : BitVec 1) (v156 : IVec S16 32) (k0_hw158 : k0_chk158 i v79 v82 v93 v156), ∀ (k0_h6 : k0_cond6 i v79 v82 v93 = 1#1), ∀ a x, ((![v156] : Fin 1 → IVec S16 32) a x).toNat < S24576.size a := fun i v79 v82 v93 v156 k0_hw158 k0_h6 => k0_hw158 k0_h6

def k0_chk159 (i : grid0.Coords) (v79 : BitVec 32) (v82 : BitVec 32) (v93 : BitVec 1) (v160 : IVec S16 32) : Prop :=
  (∀ (k0_h6 : k0_cond6 i v79 v82 v93 = 1#1), ∀ a x, ((![v160] : Fin 1 → IVec S16 32) a x).toNat < S24576.size a)
theorem k0_idx176_inb : ∀ (i : grid0.Coords) (v79 : BitVec 32) (v82 : BitVec 32) (v93 : BitVec 1) (v160 : IVec S16 32) (k0_hw159 : k0_chk159 i v79 v82 v93 v160), ∀ (k0_h6 : k0_cond6 i v79 v82 v93 = 1#1), ∀ a x, ((![v160] : Fin 1 → IVec S16 32) a x).toNat < S24576.size a := fun i v79 v82 v93 v160 k0_hw159 k0_h6 => k0_hw159 k0_h6
def k0_off57 (i : grid0.Coords) (v79 : BitVec 32) (v82 : BitVec 32) (v86 : BitVec 32) (v88 : BitVec 32) (k0_t20 : Fin (k0_t20_loop i v79 v82).trips) (k0_t21 : Fin (k0_t21_loop v86 v88).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c1_i32_50 : BitVec 32 := 1#32
  let arg30 : BitVec 32 := Scf.iv c0_i32_48 c1_i32_50 k0_t20
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let c1_i32_59 : BitVec 32 := 1#32
  let arg31 : BitVec 32 := Scf.iv c0_i32_57 c1_i32_59 k0_t21
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk160 (i : grid0.Coords) (v79 : BitVec 32) (v82 : BitVec 32) (v93 : BitVec 1) (v180 : IVec S16 32) : Prop :=
  (∀ (k0_h6 : k0_cond6 i v79 v82 v93 = 1#1), ∀ a x, ((![v180] : Fin 1 → IVec S16 32) a x).toNat < S24576.size a)
theorem k0_idx177_inb : ∀ (i : grid0.Coords) (v79 : BitVec 32) (v82 : BitVec 32) (v93 : BitVec 1) (v180 : IVec S16 32) (k0_hw160 : k0_chk160 i v79 v82 v93 v180), ∀ (k0_h6 : k0_cond6 i v79 v82 v93 = 1#1), ∀ a x, ((![v180] : Fin 1 → IVec S16 32) a x).toNat < S24576.size a := fun i v79 v82 v93 v180 k0_hw160 k0_h6 => k0_hw160 k0_h6

def k0_chk161 (i : grid0.Coords) (v79 : BitVec 32) (v82 : BitVec 32) (v93 : BitVec 1) (v184 : IVec S16 32) : Prop :=
  (∀ (k0_h6 : k0_cond6 i v79 v82 v93 = 1#1), ∀ a x, ((![v184] : Fin 1 → IVec S16 32) a x).toNat < S24576.size a)
theorem k0_idx178_inb : ∀ (i : grid0.Coords) (v79 : BitVec 32) (v82 : BitVec 32) (v93 : BitVec 1) (v184 : IVec S16 32) (k0_hw161 : k0_chk161 i v79 v82 v93 v184), ∀ (k0_h6 : k0_cond6 i v79 v82 v93 = 1#1), ∀ a x, ((![v184] : Fin 1 → IVec S16 32) a x).toNat < S24576.size a := fun i v79 v82 v93 v184 k0_hw161 k0_h6 => k0_hw161 k0_h6

def k0_chk162 (i : grid0.Coords) (v79 : BitVec 32) (v82 : BitVec 32) (v93 : BitVec 1) (v188 : IVec S16 32) : Prop :=
  (∀ (k0_h6 : k0_cond6 i v79 v82 v93 = 1#1), ∀ a x, ((![v188] : Fin 1 → IVec S16 32) a x).toNat < S24576.size a)
theorem k0_idx179_inb : ∀ (i : grid0.Coords) (v79 : BitVec 32) (v82 : BitVec 32) (v93 : BitVec 1) (v188 : IVec S16 32) (k0_hw162 : k0_chk162 i v79 v82 v93 v188), ∀ (k0_h6 : k0_cond6 i v79 v82 v93 = 1#1), ∀ a x, ((![v188] : Fin 1 → IVec S16 32) a x).toNat < S24576.size a := fun i v79 v82 v93 v188 k0_hw162 k0_h6 => k0_hw162 k0_h6

def k0_chk163 (i : grid0.Coords) (v79 : BitVec 32) (v82 : BitVec 32) (v93 : BitVec 1) (v192 : IVec S16 32) : Prop :=
  (∀ (k0_h6 : k0_cond6 i v79 v82 v93 = 1#1), ∀ a x, ((![v192] : Fin 1 → IVec S16 32) a x).toNat < S24576.size a)
theorem k0_idx180_inb : ∀ (i : grid0.Coords) (v79 : BitVec 32) (v82 : BitVec 32) (v93 : BitVec 1) (v192 : IVec S16 32) (k0_hw163 : k0_chk163 i v79 v82 v93 v192), ∀ (k0_h6 : k0_cond6 i v79 v82 v93 = 1#1), ∀ a x, ((![v192] : Fin 1 → IVec S16 32) a x).toNat < S24576.size a := fun i v79 v82 v93 v192 k0_hw163 k0_h6 => k0_hw163 k0_h6
def k0_off58 (i : grid0.Coords) (v79 : BitVec 32) (v82 : BitVec 32) (v86 : BitVec 32) (v88 : BitVec 32) (k0_t20 : Fin (k0_t20_loop i v79 v82).trips) (k0_t21 : Fin (k0_t21_loop v86 v88).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c1_i32_50 : BitVec 32 := 1#32
  let arg30 : BitVec 32 := Scf.iv c0_i32_48 c1_i32_50 k0_t20
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let c1_i32_59 : BitVec 32 := 1#32
  let arg31 : BitVec 32 := Scf.iv c0_i32_57 c1_i32_59 k0_t21
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk164 (i : grid0.Coords) (v79 : BitVec 32) (v82 : BitVec 32) (v93 : BitVec 1) (v212 : IVec S16 32) : Prop :=
  (∀ (k0_h6 : k0_cond6 i v79 v82 v93 = 1#1), ∀ a x, ((![v212] : Fin 1 → IVec S16 32) a x).toNat < S24576.size a)
theorem k0_idx181_inb : ∀ (i : grid0.Coords) (v79 : BitVec 32) (v82 : BitVec 32) (v93 : BitVec 1) (v212 : IVec S16 32) (k0_hw164 : k0_chk164 i v79 v82 v93 v212), ∀ (k0_h6 : k0_cond6 i v79 v82 v93 = 1#1), ∀ a x, ((![v212] : Fin 1 → IVec S16 32) a x).toNat < S24576.size a := fun i v79 v82 v93 v212 k0_hw164 k0_h6 => k0_hw164 k0_h6

def k0_chk165 (i : grid0.Coords) (v79 : BitVec 32) (v82 : BitVec 32) (v93 : BitVec 1) (v216 : IVec S16 32) : Prop :=
  (∀ (k0_h6 : k0_cond6 i v79 v82 v93 = 1#1), ∀ a x, ((![v216] : Fin 1 → IVec S16 32) a x).toNat < S24576.size a)
theorem k0_idx182_inb : ∀ (i : grid0.Coords) (v79 : BitVec 32) (v82 : BitVec 32) (v93 : BitVec 1) (v216 : IVec S16 32) (k0_hw165 : k0_chk165 i v79 v82 v93 v216), ∀ (k0_h6 : k0_cond6 i v79 v82 v93 = 1#1), ∀ a x, ((![v216] : Fin 1 → IVec S16 32) a x).toNat < S24576.size a := fun i v79 v82 v93 v216 k0_hw165 k0_h6 => k0_hw165 k0_h6

def k0_chk166 (i : grid0.Coords) (v79 : BitVec 32) (v82 : BitVec 32) (v93 : BitVec 1) (v220 : IVec S16 32) : Prop :=
  (∀ (k0_h6 : k0_cond6 i v79 v82 v93 = 1#1), ∀ a x, ((![v220] : Fin 1 → IVec S16 32) a x).toNat < S24576.size a)
theorem k0_idx183_inb : ∀ (i : grid0.Coords) (v79 : BitVec 32) (v82 : BitVec 32) (v93 : BitVec 1) (v220 : IVec S16 32) (k0_hw166 : k0_chk166 i v79 v82 v93 v220), ∀ (k0_h6 : k0_cond6 i v79 v82 v93 = 1#1), ∀ a x, ((![v220] : Fin 1 → IVec S16 32) a x).toNat < S24576.size a := fun i v79 v82 v93 v220 k0_hw166 k0_h6 => k0_hw166 k0_h6

def k0_chk167 (i : grid0.Coords) (v79 : BitVec 32) (v82 : BitVec 32) (v93 : BitVec 1) (v224 : IVec S16 32) : Prop :=
  (∀ (k0_h6 : k0_cond6 i v79 v82 v93 = 1#1), ∀ a x, ((![v224] : Fin 1 → IVec S16 32) a x).toNat < S24576.size a)
theorem k0_idx184_inb : ∀ (i : grid0.Coords) (v79 : BitVec 32) (v82 : BitVec 32) (v93 : BitVec 1) (v224 : IVec S16 32) (k0_hw167 : k0_chk167 i v79 v82 v93 v224), ∀ (k0_h6 : k0_cond6 i v79 v82 v93 = 1#1), ∀ a x, ((![v224] : Fin 1 → IVec S16 32) a x).toNat < S24576.size a := fun i v79 v82 v93 v224 k0_hw167 k0_h6 => k0_hw167 k0_h6
def k0_off59 (i : grid0.Coords) (v79 : BitVec 32) (v82 : BitVec 32) (v86 : BitVec 32) (v88 : BitVec 32) (k0_t20 : Fin (k0_t20_loop i v79 v82).trips) (k0_t21 : Fin (k0_t21_loop v86 v88).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c1_i32_50 : BitVec 32 := 1#32
  let arg30 : BitVec 32 := Scf.iv c0_i32_48 c1_i32_50 k0_t20
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let c1_i32_59 : BitVec 32 := 1#32
  let arg31 : BitVec 32 := Scf.iv c0_i32_57 c1_i32_59 k0_t21
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v236 : BitVec 32 := Scalar.addi v235 v133
  let v237 : Index := Scalar.indexCast v236
  ![v237.toNat]
@[reducible] def k0_t22_loop (v86 : BitVec 32) (v88 : BitVec 32) : Scf.Loop 32 :=
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let v127 : BitVec 32 := Scalar.addi c0_i32_57 v126
  let c1_i32_60 : BitVec 32 := 1#32
  ⟨v130, v127, c1_i32_60⟩
def k0_off60 (v86 : BitVec 32) (v88 : BitVec 32) (k0_t22 : Fin (k0_t22_loop v86 v88).trips) : Fin 1 → Nat :=
  let c6944_i32_62 : BitVec 32 := 6944#32
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t22
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v134 : BitVec 32 := Scalar.addi c6944_i32_62 v133
  let v135 : Index := Scalar.indexCast v134
  ![v135.toNat]

def k0_chk168 (i : grid0.Coords) (v79 : BitVec 32) (v82 : BitVec 32) (v93 : BitVec 1) (v148 : IVec S16 32) : Prop :=
  (∀ (k0_h6 : k0_cond6 i v79 v82 v93 = 1#1), ∀ a x, ((![v148] : Fin 1 → IVec S16 32) a x).toNat < S24576.size a)
theorem k0_idx185_inb : ∀ (i : grid0.Coords) (v79 : BitVec 32) (v82 : BitVec 32) (v93 : BitVec 1) (v148 : IVec S16 32) (k0_hw168 : k0_chk168 i v79 v82 v93 v148), ∀ (k0_h6 : k0_cond6 i v79 v82 v93 = 1#1), ∀ a x, ((![v148] : Fin 1 → IVec S16 32) a x).toNat < S24576.size a := fun i v79 v82 v93 v148 k0_hw168 k0_h6 => k0_hw168 k0_h6

def k0_chk169 (i : grid0.Coords) (v79 : BitVec 32) (v82 : BitVec 32) (v93 : BitVec 1) (v152 : IVec S16 32) : Prop :=
  (∀ (k0_h6 : k0_cond6 i v79 v82 v93 = 1#1), ∀ a x, ((![v152] : Fin 1 → IVec S16 32) a x).toNat < S24576.size a)
theorem k0_idx186_inb : ∀ (i : grid0.Coords) (v79 : BitVec 32) (v82 : BitVec 32) (v93 : BitVec 1) (v152 : IVec S16 32) (k0_hw169 : k0_chk169 i v79 v82 v93 v152), ∀ (k0_h6 : k0_cond6 i v79 v82 v93 = 1#1), ∀ a x, ((![v152] : Fin 1 → IVec S16 32) a x).toNat < S24576.size a := fun i v79 v82 v93 v152 k0_hw169 k0_h6 => k0_hw169 k0_h6

def k0_chk170 (i : grid0.Coords) (v79 : BitVec 32) (v82 : BitVec 32) (v93 : BitVec 1) (v156 : IVec S16 32) : Prop :=
  (∀ (k0_h6 : k0_cond6 i v79 v82 v93 = 1#1), ∀ a x, ((![v156] : Fin 1 → IVec S16 32) a x).toNat < S24576.size a)
theorem k0_idx187_inb : ∀ (i : grid0.Coords) (v79 : BitVec 32) (v82 : BitVec 32) (v93 : BitVec 1) (v156 : IVec S16 32) (k0_hw170 : k0_chk170 i v79 v82 v93 v156), ∀ (k0_h6 : k0_cond6 i v79 v82 v93 = 1#1), ∀ a x, ((![v156] : Fin 1 → IVec S16 32) a x).toNat < S24576.size a := fun i v79 v82 v93 v156 k0_hw170 k0_h6 => k0_hw170 k0_h6

def k0_chk171 (i : grid0.Coords) (v79 : BitVec 32) (v82 : BitVec 32) (v93 : BitVec 1) (v160 : IVec S16 32) : Prop :=
  (∀ (k0_h6 : k0_cond6 i v79 v82 v93 = 1#1), ∀ a x, ((![v160] : Fin 1 → IVec S16 32) a x).toNat < S24576.size a)
theorem k0_idx188_inb : ∀ (i : grid0.Coords) (v79 : BitVec 32) (v82 : BitVec 32) (v93 : BitVec 1) (v160 : IVec S16 32) (k0_hw171 : k0_chk171 i v79 v82 v93 v160), ∀ (k0_h6 : k0_cond6 i v79 v82 v93 = 1#1), ∀ a x, ((![v160] : Fin 1 → IVec S16 32) a x).toNat < S24576.size a := fun i v79 v82 v93 v160 k0_hw171 k0_h6 => k0_hw171 k0_h6
def k0_off61 (i : grid0.Coords) (v79 : BitVec 32) (v82 : BitVec 32) (v86 : BitVec 32) (v88 : BitVec 32) (k0_t20 : Fin (k0_t20_loop i v79 v82).trips) (k0_t22 : Fin (k0_t22_loop v86 v88).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c1_i32_50 : BitVec 32 := 1#32
  let arg30 : BitVec 32 := Scf.iv c0_i32_48 c1_i32_50 k0_t20
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t22
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk172 (i : grid0.Coords) (v79 : BitVec 32) (v82 : BitVec 32) (v93 : BitVec 1) (v180 : IVec S16 32) : Prop :=
  (∀ (k0_h6 : k0_cond6 i v79 v82 v93 = 1#1), ∀ a x, ((![v180] : Fin 1 → IVec S16 32) a x).toNat < S24576.size a)
theorem k0_idx189_inb : ∀ (i : grid0.Coords) (v79 : BitVec 32) (v82 : BitVec 32) (v93 : BitVec 1) (v180 : IVec S16 32) (k0_hw172 : k0_chk172 i v79 v82 v93 v180), ∀ (k0_h6 : k0_cond6 i v79 v82 v93 = 1#1), ∀ a x, ((![v180] : Fin 1 → IVec S16 32) a x).toNat < S24576.size a := fun i v79 v82 v93 v180 k0_hw172 k0_h6 => k0_hw172 k0_h6

def k0_chk173 (i : grid0.Coords) (v79 : BitVec 32) (v82 : BitVec 32) (v93 : BitVec 1) (v184 : IVec S16 32) : Prop :=
  (∀ (k0_h6 : k0_cond6 i v79 v82 v93 = 1#1), ∀ a x, ((![v184] : Fin 1 → IVec S16 32) a x).toNat < S24576.size a)
theorem k0_idx190_inb : ∀ (i : grid0.Coords) (v79 : BitVec 32) (v82 : BitVec 32) (v93 : BitVec 1) (v184 : IVec S16 32) (k0_hw173 : k0_chk173 i v79 v82 v93 v184), ∀ (k0_h6 : k0_cond6 i v79 v82 v93 = 1#1), ∀ a x, ((![v184] : Fin 1 → IVec S16 32) a x).toNat < S24576.size a := fun i v79 v82 v93 v184 k0_hw173 k0_h6 => k0_hw173 k0_h6

def k0_chk174 (i : grid0.Coords) (v79 : BitVec 32) (v82 : BitVec 32) (v93 : BitVec 1) (v188 : IVec S16 32) : Prop :=
  (∀ (k0_h6 : k0_cond6 i v79 v82 v93 = 1#1), ∀ a x, ((![v188] : Fin 1 → IVec S16 32) a x).toNat < S24576.size a)
theorem k0_idx191_inb : ∀ (i : grid0.Coords) (v79 : BitVec 32) (v82 : BitVec 32) (v93 : BitVec 1) (v188 : IVec S16 32) (k0_hw174 : k0_chk174 i v79 v82 v93 v188), ∀ (k0_h6 : k0_cond6 i v79 v82 v93 = 1#1), ∀ a x, ((![v188] : Fin 1 → IVec S16 32) a x).toNat < S24576.size a := fun i v79 v82 v93 v188 k0_hw174 k0_h6 => k0_hw174 k0_h6

def k0_chk175 (i : grid0.Coords) (v79 : BitVec 32) (v82 : BitVec 32) (v93 : BitVec 1) (v192 : IVec S16 32) : Prop :=
  (∀ (k0_h6 : k0_cond6 i v79 v82 v93 = 1#1), ∀ a x, ((![v192] : Fin 1 → IVec S16 32) a x).toNat < S24576.size a)
theorem k0_idx192_inb : ∀ (i : grid0.Coords) (v79 : BitVec 32) (v82 : BitVec 32) (v93 : BitVec 1) (v192 : IVec S16 32) (k0_hw175 : k0_chk175 i v79 v82 v93 v192), ∀ (k0_h6 : k0_cond6 i v79 v82 v93 = 1#1), ∀ a x, ((![v192] : Fin 1 → IVec S16 32) a x).toNat < S24576.size a := fun i v79 v82 v93 v192 k0_hw175 k0_h6 => k0_hw175 k0_h6
def k0_off62 (i : grid0.Coords) (v79 : BitVec 32) (v82 : BitVec 32) (v86 : BitVec 32) (v88 : BitVec 32) (k0_t20 : Fin (k0_t20_loop i v79 v82).trips) (k0_t22 : Fin (k0_t22_loop v86 v88).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c1_i32_50 : BitVec 32 := 1#32
  let arg30 : BitVec 32 := Scf.iv c0_i32_48 c1_i32_50 k0_t20
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t22
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk176 (i : grid0.Coords) (v79 : BitVec 32) (v82 : BitVec 32) (v93 : BitVec 1) (v212 : IVec S16 32) : Prop :=
  (∀ (k0_h6 : k0_cond6 i v79 v82 v93 = 1#1), ∀ a x, ((![v212] : Fin 1 → IVec S16 32) a x).toNat < S24576.size a)
theorem k0_idx193_inb : ∀ (i : grid0.Coords) (v79 : BitVec 32) (v82 : BitVec 32) (v93 : BitVec 1) (v212 : IVec S16 32) (k0_hw176 : k0_chk176 i v79 v82 v93 v212), ∀ (k0_h6 : k0_cond6 i v79 v82 v93 = 1#1), ∀ a x, ((![v212] : Fin 1 → IVec S16 32) a x).toNat < S24576.size a := fun i v79 v82 v93 v212 k0_hw176 k0_h6 => k0_hw176 k0_h6

def k0_chk177 (i : grid0.Coords) (v79 : BitVec 32) (v82 : BitVec 32) (v93 : BitVec 1) (v216 : IVec S16 32) : Prop :=
  (∀ (k0_h6 : k0_cond6 i v79 v82 v93 = 1#1), ∀ a x, ((![v216] : Fin 1 → IVec S16 32) a x).toNat < S24576.size a)
theorem k0_idx194_inb : ∀ (i : grid0.Coords) (v79 : BitVec 32) (v82 : BitVec 32) (v93 : BitVec 1) (v216 : IVec S16 32) (k0_hw177 : k0_chk177 i v79 v82 v93 v216), ∀ (k0_h6 : k0_cond6 i v79 v82 v93 = 1#1), ∀ a x, ((![v216] : Fin 1 → IVec S16 32) a x).toNat < S24576.size a := fun i v79 v82 v93 v216 k0_hw177 k0_h6 => k0_hw177 k0_h6

def k0_chk178 (i : grid0.Coords) (v79 : BitVec 32) (v82 : BitVec 32) (v93 : BitVec 1) (v220 : IVec S16 32) : Prop :=
  (∀ (k0_h6 : k0_cond6 i v79 v82 v93 = 1#1), ∀ a x, ((![v220] : Fin 1 → IVec S16 32) a x).toNat < S24576.size a)
theorem k0_idx195_inb : ∀ (i : grid0.Coords) (v79 : BitVec 32) (v82 : BitVec 32) (v93 : BitVec 1) (v220 : IVec S16 32) (k0_hw178 : k0_chk178 i v79 v82 v93 v220), ∀ (k0_h6 : k0_cond6 i v79 v82 v93 = 1#1), ∀ a x, ((![v220] : Fin 1 → IVec S16 32) a x).toNat < S24576.size a := fun i v79 v82 v93 v220 k0_hw178 k0_h6 => k0_hw178 k0_h6

def k0_chk179 (i : grid0.Coords) (v79 : BitVec 32) (v82 : BitVec 32) (v93 : BitVec 1) (v224 : IVec S16 32) : Prop :=
  (∀ (k0_h6 : k0_cond6 i v79 v82 v93 = 1#1), ∀ a x, ((![v224] : Fin 1 → IVec S16 32) a x).toNat < S24576.size a)
theorem k0_idx196_inb : ∀ (i : grid0.Coords) (v79 : BitVec 32) (v82 : BitVec 32) (v93 : BitVec 1) (v224 : IVec S16 32) (k0_hw179 : k0_chk179 i v79 v82 v93 v224), ∀ (k0_h6 : k0_cond6 i v79 v82 v93 = 1#1), ∀ a x, ((![v224] : Fin 1 → IVec S16 32) a x).toNat < S24576.size a := fun i v79 v82 v93 v224 k0_hw179 k0_h6 => k0_hw179 k0_h6
def k0_off63 (i : grid0.Coords) (v79 : BitVec 32) (v82 : BitVec 32) (v86 : BitVec 32) (v88 : BitVec 32) (k0_t20 : Fin (k0_t20_loop i v79 v82).trips) (k0_t22 : Fin (k0_t22_loop v86 v88).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c1_i32_50 : BitVec 32 := 1#32
  let arg30 : BitVec 32 := Scf.iv c0_i32_48 c1_i32_50 k0_t20
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t22
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v236 : BitVec 32 := Scalar.addi v235 v133
  let v237 : Index := Scalar.indexCast v236
  ![v237.toNat]
@[reducible] def k0_t23_loop (i : grid0.Coords) (v79 : BitVec 32) (v82 : BitVec 32) : Scf.Loop 32 :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c28_i32_33 : BitVec 32 := 28#32
  let v83 : BitVec 32 := Scalar.addi v29 c28_i32_33
  let v84 : BitVec 32 := Scalar.minsi v82 v83
  let v80 : BitVec 32 := Scalar.maxsi v79 v29
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let v104 : BitVec 32 := Scalar.addi c0_i32_48 v103
  let c1_i32_51 : BitVec 32 := 1#32
  ⟨v107, v104, c1_i32_51⟩

def k0_chk180 (i : grid0.Coords) (v79 : BitVec 32) (v82 : BitVec 32) (v93 : BitVec 1) (v111 : IVec S16 32) : Prop :=
  (∀ (k0_h6 : k0_cond6 i v79 v82 v93 = 1#1), ∀ a x, ((![v111] : Fin 1 → IVec S16 32) a x).toNat < S7168.size a) ∧
  (∀ (k0_h6 : k0_cond6 i v79 v82 v93 = 1#1), ∀ a x, ((![v111] : Fin 1 → IVec S16 32) a x).toNat < S7168.size a) ∧
  (∀ (k0_h6 : k0_cond6 i v79 v82 v93 = 1#1), ∀ a x, ((![v111] : Fin 1 → IVec S16 32) a x).toNat < S7168.size a) ∧
  (∀ (k0_h6 : k0_cond6 i v79 v82 v93 = 1#1), ∀ a x, ((![v111] : Fin 1 → IVec S16 32) a x).toNat < S7168.size a)
theorem k0_idx197_inb : ∀ (i : grid0.Coords) (v79 : BitVec 32) (v82 : BitVec 32) (v93 : BitVec 1) (v111 : IVec S16 32) (k0_hw180 : k0_chk180 i v79 v82 v93 v111), ∀ (k0_h6 : k0_cond6 i v79 v82 v93 = 1#1), ∀ a x, ((![v111] : Fin 1 → IVec S16 32) a x).toNat < S7168.size a := fun i v79 v82 v93 v111 k0_hw180 k0_h6 => k0_hw180.1 k0_h6
theorem k0_idx198_inb : ∀ (i : grid0.Coords) (v79 : BitVec 32) (v82 : BitVec 32) (v93 : BitVec 1) (v111 : IVec S16 32) (k0_hw180 : k0_chk180 i v79 v82 v93 v111), ∀ (k0_h6 : k0_cond6 i v79 v82 v93 = 1#1), ∀ a x, ((![v111] : Fin 1 → IVec S16 32) a x).toNat < S7168.size a := fun i v79 v82 v93 v111 k0_hw180 k0_h6 => k0_hw180.2.1 k0_h6
theorem k0_idx199_inb : ∀ (i : grid0.Coords) (v79 : BitVec 32) (v82 : BitVec 32) (v93 : BitVec 1) (v111 : IVec S16 32) (k0_hw180 : k0_chk180 i v79 v82 v93 v111), ∀ (k0_h6 : k0_cond6 i v79 v82 v93 = 1#1), ∀ a x, ((![v111] : Fin 1 → IVec S16 32) a x).toNat < S7168.size a := fun i v79 v82 v93 v111 k0_hw180 k0_h6 => k0_hw180.2.2.1 k0_h6
theorem k0_idx200_inb : ∀ (i : grid0.Coords) (v79 : BitVec 32) (v82 : BitVec 32) (v93 : BitVec 1) (v111 : IVec S16 32) (k0_hw180 : k0_chk180 i v79 v82 v93 v111), ∀ (k0_h6 : k0_cond6 i v79 v82 v93 = 1#1), ∀ a x, ((![v111] : Fin 1 → IVec S16 32) a x).toNat < S7168.size a := fun i v79 v82 v93 v111 k0_hw180 k0_h6 => k0_hw180.2.2.2 k0_h6
@[reducible] def k0_t24_loop (v86 : BitVec 32) (v88 : BitVec 32) : Scf.Loop 32 :=
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_59 : BitVec 32 := 1#32
  ⟨c0_i32_57, v130, c1_i32_59⟩
def k0_off64 (v86 : BitVec 32) (v88 : BitVec 32) (k0_t24 : Fin (k0_t24_loop v86 v88).trips) : Fin 1 → Nat :=
  let c6944_i32_62 : BitVec 32 := 6944#32
  let c0_i32_57 : BitVec 32 := 0#32
  let c1_i32_59 : BitVec 32 := 1#32
  let arg31 : BitVec 32 := Scf.iv c0_i32_57 c1_i32_59 k0_t24
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v134 : BitVec 32 := Scalar.addi c6944_i32_62 v133
  let v135 : Index := Scalar.indexCast v134
  ![v135.toNat]

def k0_chk181 (i : grid0.Coords) (v79 : BitVec 32) (v82 : BitVec 32) (v93 : BitVec 1) (v148 : IVec S16 32) : Prop :=
  (∀ (k0_h6 : k0_cond6 i v79 v82 v93 = 1#1), ∀ a x, ((![v148] : Fin 1 → IVec S16 32) a x).toNat < S24576.size a)
theorem k0_idx201_inb : ∀ (i : grid0.Coords) (v79 : BitVec 32) (v82 : BitVec 32) (v93 : BitVec 1) (v148 : IVec S16 32) (k0_hw181 : k0_chk181 i v79 v82 v93 v148), ∀ (k0_h6 : k0_cond6 i v79 v82 v93 = 1#1), ∀ a x, ((![v148] : Fin 1 → IVec S16 32) a x).toNat < S24576.size a := fun i v79 v82 v93 v148 k0_hw181 k0_h6 => k0_hw181 k0_h6

def k0_chk182 (i : grid0.Coords) (v79 : BitVec 32) (v82 : BitVec 32) (v93 : BitVec 1) (v152 : IVec S16 32) : Prop :=
  (∀ (k0_h6 : k0_cond6 i v79 v82 v93 = 1#1), ∀ a x, ((![v152] : Fin 1 → IVec S16 32) a x).toNat < S24576.size a)
theorem k0_idx202_inb : ∀ (i : grid0.Coords) (v79 : BitVec 32) (v82 : BitVec 32) (v93 : BitVec 1) (v152 : IVec S16 32) (k0_hw182 : k0_chk182 i v79 v82 v93 v152), ∀ (k0_h6 : k0_cond6 i v79 v82 v93 = 1#1), ∀ a x, ((![v152] : Fin 1 → IVec S16 32) a x).toNat < S24576.size a := fun i v79 v82 v93 v152 k0_hw182 k0_h6 => k0_hw182 k0_h6

def k0_chk183 (i : grid0.Coords) (v79 : BitVec 32) (v82 : BitVec 32) (v93 : BitVec 1) (v156 : IVec S16 32) : Prop :=
  (∀ (k0_h6 : k0_cond6 i v79 v82 v93 = 1#1), ∀ a x, ((![v156] : Fin 1 → IVec S16 32) a x).toNat < S24576.size a)
theorem k0_idx203_inb : ∀ (i : grid0.Coords) (v79 : BitVec 32) (v82 : BitVec 32) (v93 : BitVec 1) (v156 : IVec S16 32) (k0_hw183 : k0_chk183 i v79 v82 v93 v156), ∀ (k0_h6 : k0_cond6 i v79 v82 v93 = 1#1), ∀ a x, ((![v156] : Fin 1 → IVec S16 32) a x).toNat < S24576.size a := fun i v79 v82 v93 v156 k0_hw183 k0_h6 => k0_hw183 k0_h6

def k0_chk184 (i : grid0.Coords) (v79 : BitVec 32) (v82 : BitVec 32) (v93 : BitVec 1) (v160 : IVec S16 32) : Prop :=
  (∀ (k0_h6 : k0_cond6 i v79 v82 v93 = 1#1), ∀ a x, ((![v160] : Fin 1 → IVec S16 32) a x).toNat < S24576.size a)
theorem k0_idx204_inb : ∀ (i : grid0.Coords) (v79 : BitVec 32) (v82 : BitVec 32) (v93 : BitVec 1) (v160 : IVec S16 32) (k0_hw184 : k0_chk184 i v79 v82 v93 v160), ∀ (k0_h6 : k0_cond6 i v79 v82 v93 = 1#1), ∀ a x, ((![v160] : Fin 1 → IVec S16 32) a x).toNat < S24576.size a := fun i v79 v82 v93 v160 k0_hw184 k0_h6 => k0_hw184 k0_h6
def k0_off65 (i : grid0.Coords) (v79 : BitVec 32) (v82 : BitVec 32) (v86 : BitVec 32) (v88 : BitVec 32) (k0_t23 : Fin (k0_t23_loop i v79 v82).trips) (k0_t24 : Fin (k0_t24_loop v86 v88).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c28_i32_33 : BitVec 32 := 28#32
  let v83 : BitVec 32 := Scalar.addi v29 c28_i32_33
  let v84 : BitVec 32 := Scalar.minsi v82 v83
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t23
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let c1_i32_59 : BitVec 32 := 1#32
  let arg31 : BitVec 32 := Scf.iv c0_i32_57 c1_i32_59 k0_t24
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk185 (i : grid0.Coords) (v79 : BitVec 32) (v82 : BitVec 32) (v93 : BitVec 1) (v180 : IVec S16 32) : Prop :=
  (∀ (k0_h6 : k0_cond6 i v79 v82 v93 = 1#1), ∀ a x, ((![v180] : Fin 1 → IVec S16 32) a x).toNat < S24576.size a)
theorem k0_idx205_inb : ∀ (i : grid0.Coords) (v79 : BitVec 32) (v82 : BitVec 32) (v93 : BitVec 1) (v180 : IVec S16 32) (k0_hw185 : k0_chk185 i v79 v82 v93 v180), ∀ (k0_h6 : k0_cond6 i v79 v82 v93 = 1#1), ∀ a x, ((![v180] : Fin 1 → IVec S16 32) a x).toNat < S24576.size a := fun i v79 v82 v93 v180 k0_hw185 k0_h6 => k0_hw185 k0_h6

def k0_chk186 (i : grid0.Coords) (v79 : BitVec 32) (v82 : BitVec 32) (v93 : BitVec 1) (v184 : IVec S16 32) : Prop :=
  (∀ (k0_h6 : k0_cond6 i v79 v82 v93 = 1#1), ∀ a x, ((![v184] : Fin 1 → IVec S16 32) a x).toNat < S24576.size a)
theorem k0_idx206_inb : ∀ (i : grid0.Coords) (v79 : BitVec 32) (v82 : BitVec 32) (v93 : BitVec 1) (v184 : IVec S16 32) (k0_hw186 : k0_chk186 i v79 v82 v93 v184), ∀ (k0_h6 : k0_cond6 i v79 v82 v93 = 1#1), ∀ a x, ((![v184] : Fin 1 → IVec S16 32) a x).toNat < S24576.size a := fun i v79 v82 v93 v184 k0_hw186 k0_h6 => k0_hw186 k0_h6

def k0_chk187 (i : grid0.Coords) (v79 : BitVec 32) (v82 : BitVec 32) (v93 : BitVec 1) (v188 : IVec S16 32) : Prop :=
  (∀ (k0_h6 : k0_cond6 i v79 v82 v93 = 1#1), ∀ a x, ((![v188] : Fin 1 → IVec S16 32) a x).toNat < S24576.size a)
theorem k0_idx207_inb : ∀ (i : grid0.Coords) (v79 : BitVec 32) (v82 : BitVec 32) (v93 : BitVec 1) (v188 : IVec S16 32) (k0_hw187 : k0_chk187 i v79 v82 v93 v188), ∀ (k0_h6 : k0_cond6 i v79 v82 v93 = 1#1), ∀ a x, ((![v188] : Fin 1 → IVec S16 32) a x).toNat < S24576.size a := fun i v79 v82 v93 v188 k0_hw187 k0_h6 => k0_hw187 k0_h6

def k0_chk188 (i : grid0.Coords) (v79 : BitVec 32) (v82 : BitVec 32) (v93 : BitVec 1) (v192 : IVec S16 32) : Prop :=
  (∀ (k0_h6 : k0_cond6 i v79 v82 v93 = 1#1), ∀ a x, ((![v192] : Fin 1 → IVec S16 32) a x).toNat < S24576.size a)
theorem k0_idx208_inb : ∀ (i : grid0.Coords) (v79 : BitVec 32) (v82 : BitVec 32) (v93 : BitVec 1) (v192 : IVec S16 32) (k0_hw188 : k0_chk188 i v79 v82 v93 v192), ∀ (k0_h6 : k0_cond6 i v79 v82 v93 = 1#1), ∀ a x, ((![v192] : Fin 1 → IVec S16 32) a x).toNat < S24576.size a := fun i v79 v82 v93 v192 k0_hw188 k0_h6 => k0_hw188 k0_h6
def k0_off66 (i : grid0.Coords) (v79 : BitVec 32) (v82 : BitVec 32) (v86 : BitVec 32) (v88 : BitVec 32) (k0_t23 : Fin (k0_t23_loop i v79 v82).trips) (k0_t24 : Fin (k0_t24_loop v86 v88).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c28_i32_33 : BitVec 32 := 28#32
  let v83 : BitVec 32 := Scalar.addi v29 c28_i32_33
  let v84 : BitVec 32 := Scalar.minsi v82 v83
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t23
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let c1_i32_59 : BitVec 32 := 1#32
  let arg31 : BitVec 32 := Scf.iv c0_i32_57 c1_i32_59 k0_t24
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk189 (i : grid0.Coords) (v79 : BitVec 32) (v82 : BitVec 32) (v93 : BitVec 1) (v212 : IVec S16 32) : Prop :=
  (∀ (k0_h6 : k0_cond6 i v79 v82 v93 = 1#1), ∀ a x, ((![v212] : Fin 1 → IVec S16 32) a x).toNat < S24576.size a)
theorem k0_idx209_inb : ∀ (i : grid0.Coords) (v79 : BitVec 32) (v82 : BitVec 32) (v93 : BitVec 1) (v212 : IVec S16 32) (k0_hw189 : k0_chk189 i v79 v82 v93 v212), ∀ (k0_h6 : k0_cond6 i v79 v82 v93 = 1#1), ∀ a x, ((![v212] : Fin 1 → IVec S16 32) a x).toNat < S24576.size a := fun i v79 v82 v93 v212 k0_hw189 k0_h6 => k0_hw189 k0_h6

def k0_chk190 (i : grid0.Coords) (v79 : BitVec 32) (v82 : BitVec 32) (v93 : BitVec 1) (v216 : IVec S16 32) : Prop :=
  (∀ (k0_h6 : k0_cond6 i v79 v82 v93 = 1#1), ∀ a x, ((![v216] : Fin 1 → IVec S16 32) a x).toNat < S24576.size a)
theorem k0_idx210_inb : ∀ (i : grid0.Coords) (v79 : BitVec 32) (v82 : BitVec 32) (v93 : BitVec 1) (v216 : IVec S16 32) (k0_hw190 : k0_chk190 i v79 v82 v93 v216), ∀ (k0_h6 : k0_cond6 i v79 v82 v93 = 1#1), ∀ a x, ((![v216] : Fin 1 → IVec S16 32) a x).toNat < S24576.size a := fun i v79 v82 v93 v216 k0_hw190 k0_h6 => k0_hw190 k0_h6

def k0_chk191 (i : grid0.Coords) (v79 : BitVec 32) (v82 : BitVec 32) (v93 : BitVec 1) (v220 : IVec S16 32) : Prop :=
  (∀ (k0_h6 : k0_cond6 i v79 v82 v93 = 1#1), ∀ a x, ((![v220] : Fin 1 → IVec S16 32) a x).toNat < S24576.size a)
theorem k0_idx211_inb : ∀ (i : grid0.Coords) (v79 : BitVec 32) (v82 : BitVec 32) (v93 : BitVec 1) (v220 : IVec S16 32) (k0_hw191 : k0_chk191 i v79 v82 v93 v220), ∀ (k0_h6 : k0_cond6 i v79 v82 v93 = 1#1), ∀ a x, ((![v220] : Fin 1 → IVec S16 32) a x).toNat < S24576.size a := fun i v79 v82 v93 v220 k0_hw191 k0_h6 => k0_hw191 k0_h6

def k0_chk192 (i : grid0.Coords) (v79 : BitVec 32) (v82 : BitVec 32) (v93 : BitVec 1) (v224 : IVec S16 32) : Prop :=
  (∀ (k0_h6 : k0_cond6 i v79 v82 v93 = 1#1), ∀ a x, ((![v224] : Fin 1 → IVec S16 32) a x).toNat < S24576.size a)
theorem k0_idx212_inb : ∀ (i : grid0.Coords) (v79 : BitVec 32) (v82 : BitVec 32) (v93 : BitVec 1) (v224 : IVec S16 32) (k0_hw192 : k0_chk192 i v79 v82 v93 v224), ∀ (k0_h6 : k0_cond6 i v79 v82 v93 = 1#1), ∀ a x, ((![v224] : Fin 1 → IVec S16 32) a x).toNat < S24576.size a := fun i v79 v82 v93 v224 k0_hw192 k0_h6 => k0_hw192 k0_h6
def k0_off67 (i : grid0.Coords) (v79 : BitVec 32) (v82 : BitVec 32) (v86 : BitVec 32) (v88 : BitVec 32) (k0_t23 : Fin (k0_t23_loop i v79 v82).trips) (k0_t24 : Fin (k0_t24_loop v86 v88).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c28_i32_33 : BitVec 32 := 28#32
  let v83 : BitVec 32 := Scalar.addi v29 c28_i32_33
  let v84 : BitVec 32 := Scalar.minsi v82 v83
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t23
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let c1_i32_59 : BitVec 32 := 1#32
  let arg31 : BitVec 32 := Scf.iv c0_i32_57 c1_i32_59 k0_t24
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v236 : BitVec 32 := Scalar.addi v235 v133
  let v237 : Index := Scalar.indexCast v236
  ![v237.toNat]
@[reducible] def k0_t25_loop (v86 : BitVec 32) (v88 : BitVec 32) : Scf.Loop 32 :=
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let v127 : BitVec 32 := Scalar.addi c0_i32_57 v126
  let c1_i32_60 : BitVec 32 := 1#32
  ⟨v130, v127, c1_i32_60⟩
def k0_off68 (v86 : BitVec 32) (v88 : BitVec 32) (k0_t25 : Fin (k0_t25_loop v86 v88).trips) : Fin 1 → Nat :=
  let c6944_i32_62 : BitVec 32 := 6944#32
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t25
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v134 : BitVec 32 := Scalar.addi c6944_i32_62 v133
  let v135 : Index := Scalar.indexCast v134
  ![v135.toNat]

def k0_chk193 (i : grid0.Coords) (v79 : BitVec 32) (v82 : BitVec 32) (v93 : BitVec 1) (v148 : IVec S16 32) : Prop :=
  (∀ (k0_h6 : k0_cond6 i v79 v82 v93 = 1#1), ∀ a x, ((![v148] : Fin 1 → IVec S16 32) a x).toNat < S24576.size a)
theorem k0_idx213_inb : ∀ (i : grid0.Coords) (v79 : BitVec 32) (v82 : BitVec 32) (v93 : BitVec 1) (v148 : IVec S16 32) (k0_hw193 : k0_chk193 i v79 v82 v93 v148), ∀ (k0_h6 : k0_cond6 i v79 v82 v93 = 1#1), ∀ a x, ((![v148] : Fin 1 → IVec S16 32) a x).toNat < S24576.size a := fun i v79 v82 v93 v148 k0_hw193 k0_h6 => k0_hw193 k0_h6

def k0_chk194 (i : grid0.Coords) (v79 : BitVec 32) (v82 : BitVec 32) (v93 : BitVec 1) (v152 : IVec S16 32) : Prop :=
  (∀ (k0_h6 : k0_cond6 i v79 v82 v93 = 1#1), ∀ a x, ((![v152] : Fin 1 → IVec S16 32) a x).toNat < S24576.size a)
theorem k0_idx214_inb : ∀ (i : grid0.Coords) (v79 : BitVec 32) (v82 : BitVec 32) (v93 : BitVec 1) (v152 : IVec S16 32) (k0_hw194 : k0_chk194 i v79 v82 v93 v152), ∀ (k0_h6 : k0_cond6 i v79 v82 v93 = 1#1), ∀ a x, ((![v152] : Fin 1 → IVec S16 32) a x).toNat < S24576.size a := fun i v79 v82 v93 v152 k0_hw194 k0_h6 => k0_hw194 k0_h6

def k0_chk195 (i : grid0.Coords) (v79 : BitVec 32) (v82 : BitVec 32) (v93 : BitVec 1) (v156 : IVec S16 32) : Prop :=
  (∀ (k0_h6 : k0_cond6 i v79 v82 v93 = 1#1), ∀ a x, ((![v156] : Fin 1 → IVec S16 32) a x).toNat < S24576.size a)
theorem k0_idx215_inb : ∀ (i : grid0.Coords) (v79 : BitVec 32) (v82 : BitVec 32) (v93 : BitVec 1) (v156 : IVec S16 32) (k0_hw195 : k0_chk195 i v79 v82 v93 v156), ∀ (k0_h6 : k0_cond6 i v79 v82 v93 = 1#1), ∀ a x, ((![v156] : Fin 1 → IVec S16 32) a x).toNat < S24576.size a := fun i v79 v82 v93 v156 k0_hw195 k0_h6 => k0_hw195 k0_h6

def k0_chk196 (i : grid0.Coords) (v79 : BitVec 32) (v82 : BitVec 32) (v93 : BitVec 1) (v160 : IVec S16 32) : Prop :=
  (∀ (k0_h6 : k0_cond6 i v79 v82 v93 = 1#1), ∀ a x, ((![v160] : Fin 1 → IVec S16 32) a x).toNat < S24576.size a)
theorem k0_idx216_inb : ∀ (i : grid0.Coords) (v79 : BitVec 32) (v82 : BitVec 32) (v93 : BitVec 1) (v160 : IVec S16 32) (k0_hw196 : k0_chk196 i v79 v82 v93 v160), ∀ (k0_h6 : k0_cond6 i v79 v82 v93 = 1#1), ∀ a x, ((![v160] : Fin 1 → IVec S16 32) a x).toNat < S24576.size a := fun i v79 v82 v93 v160 k0_hw196 k0_h6 => k0_hw196 k0_h6
def k0_off69 (i : grid0.Coords) (v79 : BitVec 32) (v82 : BitVec 32) (v86 : BitVec 32) (v88 : BitVec 32) (k0_t23 : Fin (k0_t23_loop i v79 v82).trips) (k0_t25 : Fin (k0_t25_loop v86 v88).trips) : Fin 1 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c28_i32_33 : BitVec 32 := 28#32
  let v83 : BitVec 32 := Scalar.addi v29 c28_i32_33
  let v84 : BitVec 32 := Scalar.minsi v82 v83
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t23
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v171 : BitVec 32 := Scalar.addi c0_i32_70 v121
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t25
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v172 : BitVec 32 := Scalar.addi v171 v133
  let v173 : Index := Scalar.indexCast v172
  ![v173.toNat]

def k0_chk197 (i : grid0.Coords) (v79 : BitVec 32) (v82 : BitVec 32) (v93 : BitVec 1) (v180 : IVec S16 32) : Prop :=
  (∀ (k0_h6 : k0_cond6 i v79 v82 v93 = 1#1), ∀ a x, ((![v180] : Fin 1 → IVec S16 32) a x).toNat < S24576.size a)
theorem k0_idx217_inb : ∀ (i : grid0.Coords) (v79 : BitVec 32) (v82 : BitVec 32) (v93 : BitVec 1) (v180 : IVec S16 32) (k0_hw197 : k0_chk197 i v79 v82 v93 v180), ∀ (k0_h6 : k0_cond6 i v79 v82 v93 = 1#1), ∀ a x, ((![v180] : Fin 1 → IVec S16 32) a x).toNat < S24576.size a := fun i v79 v82 v93 v180 k0_hw197 k0_h6 => k0_hw197 k0_h6

def k0_chk198 (i : grid0.Coords) (v79 : BitVec 32) (v82 : BitVec 32) (v93 : BitVec 1) (v184 : IVec S16 32) : Prop :=
  (∀ (k0_h6 : k0_cond6 i v79 v82 v93 = 1#1), ∀ a x, ((![v184] : Fin 1 → IVec S16 32) a x).toNat < S24576.size a)
theorem k0_idx218_inb : ∀ (i : grid0.Coords) (v79 : BitVec 32) (v82 : BitVec 32) (v93 : BitVec 1) (v184 : IVec S16 32) (k0_hw198 : k0_chk198 i v79 v82 v93 v184), ∀ (k0_h6 : k0_cond6 i v79 v82 v93 = 1#1), ∀ a x, ((![v184] : Fin 1 → IVec S16 32) a x).toNat < S24576.size a := fun i v79 v82 v93 v184 k0_hw198 k0_h6 => k0_hw198 k0_h6

def k0_chk199 (i : grid0.Coords) (v79 : BitVec 32) (v82 : BitVec 32) (v93 : BitVec 1) (v188 : IVec S16 32) : Prop :=
  (∀ (k0_h6 : k0_cond6 i v79 v82 v93 = 1#1), ∀ a x, ((![v188] : Fin 1 → IVec S16 32) a x).toNat < S24576.size a)
theorem k0_idx219_inb : ∀ (i : grid0.Coords) (v79 : BitVec 32) (v82 : BitVec 32) (v93 : BitVec 1) (v188 : IVec S16 32) (k0_hw199 : k0_chk199 i v79 v82 v93 v188), ∀ (k0_h6 : k0_cond6 i v79 v82 v93 = 1#1), ∀ a x, ((![v188] : Fin 1 → IVec S16 32) a x).toNat < S24576.size a := fun i v79 v82 v93 v188 k0_hw199 k0_h6 => k0_hw199 k0_h6

def k0_chk200 (i : grid0.Coords) (v79 : BitVec 32) (v82 : BitVec 32) (v93 : BitVec 1) (v192 : IVec S16 32) : Prop :=
  (∀ (k0_h6 : k0_cond6 i v79 v82 v93 = 1#1), ∀ a x, ((![v192] : Fin 1 → IVec S16 32) a x).toNat < S24576.size a)
theorem k0_idx220_inb : ∀ (i : grid0.Coords) (v79 : BitVec 32) (v82 : BitVec 32) (v93 : BitVec 1) (v192 : IVec S16 32) (k0_hw200 : k0_chk200 i v79 v82 v93 v192), ∀ (k0_h6 : k0_cond6 i v79 v82 v93 = 1#1), ∀ a x, ((![v192] : Fin 1 → IVec S16 32) a x).toNat < S24576.size a := fun i v79 v82 v93 v192 k0_hw200 k0_h6 => k0_hw200 k0_h6
def k0_off70 (i : grid0.Coords) (v79 : BitVec 32) (v82 : BitVec 32) (v86 : BitVec 32) (v88 : BitVec 32) (k0_t23 : Fin (k0_t23_loop i v79 v82).trips) (k0_t25 : Fin (k0_t25_loop v86 v88).trips) : Fin 1 → Nat :=
  let c6272_i32 : BitVec 32 := 6272#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c28_i32_33 : BitVec 32 := 28#32
  let v83 : BitVec 32 := Scalar.addi v29 c28_i32_33
  let v84 : BitVec 32 := Scalar.minsi v82 v83
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t23
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v203 : BitVec 32 := Scalar.addi c6272_i32 v121
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t25
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v204 : BitVec 32 := Scalar.addi v203 v133
  let v205 : Index := Scalar.indexCast v204
  ![v205.toNat]

def k0_chk201 (i : grid0.Coords) (v79 : BitVec 32) (v82 : BitVec 32) (v93 : BitVec 1) (v212 : IVec S16 32) : Prop :=
  (∀ (k0_h6 : k0_cond6 i v79 v82 v93 = 1#1), ∀ a x, ((![v212] : Fin 1 → IVec S16 32) a x).toNat < S24576.size a)
theorem k0_idx221_inb : ∀ (i : grid0.Coords) (v79 : BitVec 32) (v82 : BitVec 32) (v93 : BitVec 1) (v212 : IVec S16 32) (k0_hw201 : k0_chk201 i v79 v82 v93 v212), ∀ (k0_h6 : k0_cond6 i v79 v82 v93 = 1#1), ∀ a x, ((![v212] : Fin 1 → IVec S16 32) a x).toNat < S24576.size a := fun i v79 v82 v93 v212 k0_hw201 k0_h6 => k0_hw201 k0_h6

def k0_chk202 (i : grid0.Coords) (v79 : BitVec 32) (v82 : BitVec 32) (v93 : BitVec 1) (v216 : IVec S16 32) : Prop :=
  (∀ (k0_h6 : k0_cond6 i v79 v82 v93 = 1#1), ∀ a x, ((![v216] : Fin 1 → IVec S16 32) a x).toNat < S24576.size a)
theorem k0_idx222_inb : ∀ (i : grid0.Coords) (v79 : BitVec 32) (v82 : BitVec 32) (v93 : BitVec 1) (v216 : IVec S16 32) (k0_hw202 : k0_chk202 i v79 v82 v93 v216), ∀ (k0_h6 : k0_cond6 i v79 v82 v93 = 1#1), ∀ a x, ((![v216] : Fin 1 → IVec S16 32) a x).toNat < S24576.size a := fun i v79 v82 v93 v216 k0_hw202 k0_h6 => k0_hw202 k0_h6

def k0_chk203 (i : grid0.Coords) (v79 : BitVec 32) (v82 : BitVec 32) (v93 : BitVec 1) (v220 : IVec S16 32) : Prop :=
  (∀ (k0_h6 : k0_cond6 i v79 v82 v93 = 1#1), ∀ a x, ((![v220] : Fin 1 → IVec S16 32) a x).toNat < S24576.size a)
theorem k0_idx223_inb : ∀ (i : grid0.Coords) (v79 : BitVec 32) (v82 : BitVec 32) (v93 : BitVec 1) (v220 : IVec S16 32) (k0_hw203 : k0_chk203 i v79 v82 v93 v220), ∀ (k0_h6 : k0_cond6 i v79 v82 v93 = 1#1), ∀ a x, ((![v220] : Fin 1 → IVec S16 32) a x).toNat < S24576.size a := fun i v79 v82 v93 v220 k0_hw203 k0_h6 => k0_hw203 k0_h6

def k0_chk204 (i : grid0.Coords) (v79 : BitVec 32) (v82 : BitVec 32) (v93 : BitVec 1) (v224 : IVec S16 32) : Prop :=
  (∀ (k0_h6 : k0_cond6 i v79 v82 v93 = 1#1), ∀ a x, ((![v224] : Fin 1 → IVec S16 32) a x).toNat < S24576.size a)
theorem k0_idx224_inb : ∀ (i : grid0.Coords) (v79 : BitVec 32) (v82 : BitVec 32) (v93 : BitVec 1) (v224 : IVec S16 32) (k0_hw204 : k0_chk204 i v79 v82 v93 v224), ∀ (k0_h6 : k0_cond6 i v79 v82 v93 = 1#1), ∀ a x, ((![v224] : Fin 1 → IVec S16 32) a x).toNat < S24576.size a := fun i v79 v82 v93 v224 k0_hw204 k0_h6 => k0_hw204 k0_h6
def k0_off71 (i : grid0.Coords) (v79 : BitVec 32) (v82 : BitVec 32) (v86 : BitVec 32) (v88 : BitVec 32) (k0_t23 : Fin (k0_t23_loop i v79 v82).trips) (k0_t25 : Fin (k0_t25_loop v86 v88).trips) : Fin 1 → Nat :=
  let c12544_i32 : BitVec 32 := 12544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v80 : BitVec 32 := Scalar.maxsi v79 v29
  let c0_i32_48 : BitVec 32 := 0#32
  let c28_i32_33 : BitVec 32 := 28#32
  let v83 : BitVec 32 := Scalar.addi v29 c28_i32_33
  let v84 : BitVec 32 := Scalar.minsi v82 v83
  let v99 : BitVec 32 := Scalar.subi v84 v80
  let c1_i32_44 : BitVec 32 := 1#32
  let c1_i32_45 : BitVec 32 := 1#32
  let v100 : BitVec 32 := Scalar.subi c1_i32_44 c1_i32_45
  let v101 : BitVec 32 := Scalar.addi v99 v100
  let c1_i32_46 : BitVec 32 := 1#32
  let v102 : BitVec 32 := Scalar.divsi v101 c1_i32_46
  let v103 : BitVec 32 := Scalar.subi v102 c0_i32_48
  let c1_i32_49 : BitVec 32 := 1#32
  let v105 : BitVec 32 := Scalar.divsi v103 c1_i32_49
  let v106 : BitVec 32 := Scalar.muli v105 c1_i32_49
  let v107 : BitVec 32 := Scalar.addi c0_i32_48 v106
  let c1_i32_51 : BitVec 32 := 1#32
  let arg30 : BitVec 32 := Scf.iv v107 c1_i32_51 k0_t23
  let c1_i32_47 : BitVec 32 := 1#32
  let v108 : BitVec 32 := Scalar.muli arg30 c1_i32_47
  let v109 : BitVec 32 := Scalar.addi v80 v108
  let v120 : BitVec 32 := Scalar.subi v109 v29
  let c224_i32_52 : BitVec 32 := 224#32
  let v121 : BitVec 32 := Scalar.muli v120 c224_i32_52
  let v235 : BitVec 32 := Scalar.addi c12544_i32 v121
  let c0_i32_57 : BitVec 32 := 0#32
  let v122 : BitVec 32 := Scalar.subi v88 v86
  let c1_i32_53 : BitVec 32 := 1#32
  let c1_i32_54 : BitVec 32 := 1#32
  let v123 : BitVec 32 := Scalar.subi c1_i32_53 c1_i32_54
  let v124 : BitVec 32 := Scalar.addi v122 v123
  let c1_i32_55 : BitVec 32 := 1#32
  let v125 : BitVec 32 := Scalar.divsi v124 c1_i32_55
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg31 : BitVec 32 := Scf.iv v130 c1_i32_60 k0_t25
  let c1_i32_56 : BitVec 32 := 1#32
  let v131 : BitVec 32 := Scalar.muli arg31 c1_i32_56
  let v132 : BitVec 32 := Scalar.addi v86 v131
  let c16_i32_61 : BitVec 32 := 16#32
  let v133 : BitVec 32 := Scalar.muli v132 c16_i32_61
  let v236 : BitVec 32 := Scalar.addi v235 v133
  let v237 : Index := Scalar.indexCast v236
  ![v237.toNat]

def k0_chk154 (i : grid0.Coords) (v79 : BitVec 32) (v82 : BitVec 32) (v86 : BitVec 32) (v88 : BitVec 32) (v93 : BitVec 1) : Prop :=
  (∀ (k0_h6 : k0_cond6 i v79 v82 v93 = 1#1), (k0_t20_loop i v79 v82).OK) ∧
  (∀ k0_t20 : Fin (k0_t20_loop i v79 v82).trips, ∀ (k0_h6 : k0_cond6 i v79 v82 v93 = 1#1), (k0_t21_loop v86 v88).OK) ∧
  (∀ (k0_t20 : Fin (k0_t20_loop i v79 v82).trips) (k0_t21 : Fin (k0_t21_loop v86 v88).trips), ∀ (k0_h6 : k0_cond6 i v79 v82 v93 = 1#1), ∀ a, (k0_off56 v86 v88 k0_t21) a + S16.size a ≤ S7168.size a) ∧
  (∀ (k0_t20 : Fin (k0_t20_loop i v79 v82).trips) (k0_t21 : Fin (k0_t21_loop v86 v88).trips), ∀ (k0_h6 : k0_cond6 i v79 v82 v93 = 1#1), ∀ a, (k0_off57 i v79 v82 v86 v88 k0_t20 k0_t21) a + S16.size a ≤ S18816.size a) ∧
  (∀ (k0_t20 : Fin (k0_t20_loop i v79 v82).trips) (k0_t21 : Fin (k0_t21_loop v86 v88).trips), ∀ (k0_h6 : k0_cond6 i v79 v82 v93 = 1#1), ∀ a, (k0_off58 i v79 v82 v86 v88 k0_t20 k0_t21) a + S16.size a ≤ S18816.size a) ∧
  (∀ (k0_t20 : Fin (k0_t20_loop i v79 v82).trips) (k0_t21 : Fin (k0_t21_loop v86 v88).trips), ∀ (k0_h6 : k0_cond6 i v79 v82 v93 = 1#1), ∀ a, (k0_off59 i v79 v82 v86 v88 k0_t20 k0_t21) a + S16.size a ≤ S18816.size a) ∧
  (∀ k0_t20 : Fin (k0_t20_loop i v79 v82).trips, ∀ (k0_h6 : k0_cond6 i v79 v82 v93 = 1#1), (k0_t22_loop v86 v88).OK) ∧
  (∀ (k0_t20 : Fin (k0_t20_loop i v79 v82).trips) (k0_t22 : Fin (k0_t22_loop v86 v88).trips), ∀ (k0_h6 : k0_cond6 i v79 v82 v93 = 1#1), ∀ a, (k0_off60 v86 v88 k0_t22) a + S16.size a ≤ S7168.size a) ∧
  (∀ (k0_t20 : Fin (k0_t20_loop i v79 v82).trips) (k0_t22 : Fin (k0_t22_loop v86 v88).trips), ∀ (k0_h6 : k0_cond6 i v79 v82 v93 = 1#1), ∀ a, (k0_off61 i v79 v82 v86 v88 k0_t20 k0_t22) a + S16.size a ≤ S18816.size a) ∧
  (∀ (k0_t20 : Fin (k0_t20_loop i v79 v82).trips) (k0_t22 : Fin (k0_t22_loop v86 v88).trips), ∀ (k0_h6 : k0_cond6 i v79 v82 v93 = 1#1), ∀ a, (k0_off62 i v79 v82 v86 v88 k0_t20 k0_t22) a + S16.size a ≤ S18816.size a) ∧
  (∀ (k0_t20 : Fin (k0_t20_loop i v79 v82).trips) (k0_t22 : Fin (k0_t22_loop v86 v88).trips), ∀ (k0_h6 : k0_cond6 i v79 v82 v93 = 1#1), ∀ a, (k0_off63 i v79 v82 v86 v88 k0_t20 k0_t22) a + S16.size a ≤ S18816.size a) ∧
  (∀ (k0_h6 : k0_cond6 i v79 v82 v93 = 1#1), (k0_t23_loop i v79 v82).OK) ∧
  (∀ k0_t23 : Fin (k0_t23_loop i v79 v82).trips, ∀ (k0_h6 : k0_cond6 i v79 v82 v93 = 1#1), (k0_t24_loop v86 v88).OK) ∧
  (∀ (k0_t23 : Fin (k0_t23_loop i v79 v82).trips) (k0_t24 : Fin (k0_t24_loop v86 v88).trips), ∀ (k0_h6 : k0_cond6 i v79 v82 v93 = 1#1), ∀ a, (k0_off64 v86 v88 k0_t24) a + S16.size a ≤ S7168.size a) ∧
  (∀ (k0_t23 : Fin (k0_t23_loop i v79 v82).trips) (k0_t24 : Fin (k0_t24_loop v86 v88).trips), ∀ (k0_h6 : k0_cond6 i v79 v82 v93 = 1#1), ∀ a, (k0_off65 i v79 v82 v86 v88 k0_t23 k0_t24) a + S16.size a ≤ S18816.size a) ∧
  (∀ (k0_t23 : Fin (k0_t23_loop i v79 v82).trips) (k0_t24 : Fin (k0_t24_loop v86 v88).trips), ∀ (k0_h6 : k0_cond6 i v79 v82 v93 = 1#1), ∀ a, (k0_off66 i v79 v82 v86 v88 k0_t23 k0_t24) a + S16.size a ≤ S18816.size a) ∧
  (∀ (k0_t23 : Fin (k0_t23_loop i v79 v82).trips) (k0_t24 : Fin (k0_t24_loop v86 v88).trips), ∀ (k0_h6 : k0_cond6 i v79 v82 v93 = 1#1), ∀ a, (k0_off67 i v79 v82 v86 v88 k0_t23 k0_t24) a + S16.size a ≤ S18816.size a) ∧
  (∀ k0_t23 : Fin (k0_t23_loop i v79 v82).trips, ∀ (k0_h6 : k0_cond6 i v79 v82 v93 = 1#1), (k0_t25_loop v86 v88).OK) ∧
  (∀ (k0_t23 : Fin (k0_t23_loop i v79 v82).trips) (k0_t25 : Fin (k0_t25_loop v86 v88).trips), ∀ (k0_h6 : k0_cond6 i v79 v82 v93 = 1#1), ∀ a, (k0_off68 v86 v88 k0_t25) a + S16.size a ≤ S7168.size a) ∧
  (∀ (k0_t23 : Fin (k0_t23_loop i v79 v82).trips) (k0_t25 : Fin (k0_t25_loop v86 v88).trips), ∀ (k0_h6 : k0_cond6 i v79 v82 v93 = 1#1), ∀ a, (k0_off69 i v79 v82 v86 v88 k0_t23 k0_t25) a + S16.size a ≤ S18816.size a) ∧
  (∀ (k0_t23 : Fin (k0_t23_loop i v79 v82).trips) (k0_t25 : Fin (k0_t25_loop v86 v88).trips), ∀ (k0_h6 : k0_cond6 i v79 v82 v93 = 1#1), ∀ a, (k0_off70 i v79 v82 v86 v88 k0_t23 k0_t25) a + S16.size a ≤ S18816.size a) ∧
  (∀ (k0_t23 : Fin (k0_t23_loop i v79 v82).trips) (k0_t25 : Fin (k0_t25_loop v86 v88).trips), ∀ (k0_h6 : k0_cond6 i v79 v82 v93 = 1#1), ∀ a, (k0_off71 i v79 v82 v86 v88 k0_t23 k0_t25) a + S16.size a ≤ S18816.size a)
theorem k0_t20_ok : ∀ (i : grid0.Coords) (v79 : BitVec 32) (v82 : BitVec 32) (v86 : BitVec 32) (v88 : BitVec 32) (v93 : BitVec 1) (k0_hw154 : k0_chk154 i v79 v82 v86 v88 v93), ∀ (k0_h6 : k0_cond6 i v79 v82 v93 = 1#1), (k0_t20_loop i v79 v82).OK := fun i v79 v82 v86 v88 v93 k0_hw154 k0_h6 => k0_hw154.1 k0_h6
theorem k0_t21_ok : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips), ∀ (k0_h6 : k0_cond6 i v79 v82 v93 = 1#1), (k0_t21_loop v86 v88).OK := fun i v79 v82 v86 v88 v93 k0_hw154 k0_t20 k0_h6 => k0_hw154.2.1 k0_t20 k0_h6
theorem k0_off56_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t21 : Fin (k0_t21_loop v86 v88).trips), ∀ (k0_h6 : k0_cond6 i v79 v82 v93 = 1#1), ∀ a, (k0_off56 v86 v88 k0_t21) a + S16.size a ≤ S7168.size a := fun i v79 v82 v86 v88 v93 k0_hw154 k0_t20 k0_t21 k0_h6 => k0_hw154.2.2.1 k0_t20 k0_t21 k0_h6
theorem k0_off57_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t21 : Fin (k0_t21_loop v86 v88).trips), ∀ (k0_h6 : k0_cond6 i v79 v82 v93 = 1#1), ∀ a, (k0_off57 i v79 v82 v86 v88 k0_t20 k0_t21) a + S16.size a ≤ S18816.size a := fun i v79 v82 v86 v88 v93 k0_hw154 k0_t20 k0_t21 k0_h6 => k0_hw154.2.2.2.1 k0_t20 k0_t21 k0_h6
theorem k0_off58_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t21 : Fin (k0_t21_loop v86 v88).trips), ∀ (k0_h6 : k0_cond6 i v79 v82 v93 = 1#1), ∀ a, (k0_off58 i v79 v82 v86 v88 k0_t20 k0_t21) a + S16.size a ≤ S18816.size a := fun i v79 v82 v86 v88 v93 k0_hw154 k0_t20 k0_t21 k0_h6 => k0_hw154.2.2.2.2.1 k0_t20 k0_t21 k0_h6
theorem k0_off59_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t21 : Fin (k0_t21_loop v86 v88).trips), ∀ (k0_h6 : k0_cond6 i v79 v82 v93 = 1#1), ∀ a, (k0_off59 i v79 v82 v86 v88 k0_t20 k0_t21) a + S16.size a ≤ S18816.size a := fun i v79 v82 v86 v88 v93 k0_hw154 k0_t20 k0_t21 k0_h6 => k0_hw154.2.2.2.2.2.1 k0_t20 k0_t21 k0_h6
theorem k0_t22_ok : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips), ∀ (k0_h6 : k0_cond6 i v79 v82 v93 = 1#1), (k0_t22_loop v86 v88).OK := fun i v79 v82 v86 v88 v93 k0_hw154 k0_t20 k0_h6 => k0_hw154.2.2.2.2.2.2.1 k0_t20 k0_h6
theorem k0_off60_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t22 : Fin (k0_t22_loop v86 v88).trips), ∀ (k0_h6 : k0_cond6 i v79 v82 v93 = 1#1), ∀ a, (k0_off60 v86 v88 k0_t22) a + S16.size a ≤ S7168.size a := fun i v79 v82 v86 v88 v93 k0_hw154 k0_t20 k0_t22 k0_h6 => k0_hw154.2.2.2.2.2.2.2.1 k0_t20 k0_t22 k0_h6
theorem k0_off61_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t22 : Fin (k0_t22_loop v86 v88).trips), ∀ (k0_h6 : k0_cond6 i v79 v82 v93 = 1#1), ∀ a, (k0_off61 i v79 v82 v86 v88 k0_t20 k0_t22) a + S16.size a ≤ S18816.size a := fun i v79 v82 v86 v88 v93 k0_hw154 k0_t20 k0_t22 k0_h6 => k0_hw154.2.2.2.2.2.2.2.2.1 k0_t20 k0_t22 k0_h6
theorem k0_off62_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t22 : Fin (k0_t22_loop v86 v88).trips), ∀ (k0_h6 : k0_cond6 i v79 v82 v93 = 1#1), ∀ a, (k0_off62 i v79 v82 v86 v88 k0_t20 k0_t22) a + S16.size a ≤ S18816.size a := fun i v79 v82 v86 v88 v93 k0_hw154 k0_t20 k0_t22 k0_h6 => k0_hw154.2.2.2.2.2.2.2.2.2.1 k0_t20 k0_t22 k0_h6
theorem k0_off63_inb : ∀ (i : grid0.Coords) (v79 : BitVec 32) (v82 : BitVec 32) (v86 : BitVec 32) (v88 : BitVec 32) (v93 : BitVec 1) (k0_hw154 : k0_chk154 i v79 v82 v86 v88 v93) (k0_t20 : Fin (k0_t20_loop i v79 v82).trips) (k0_t22 : Fin (k0_t22_loop v86 v88).trips), ∀ (k0_h6 : k0_cond6 i v79 v82 v93 = 1#1), ∀ a, (k0_off63 i v79 v82 v86 v88 k0_t20 k0_t22) a + S16.size a ≤ S18816.size a := fun i v79 v82 v86 v88 v93 k0_hw154 k0_t20 k0_t22 k0_h6 => k0_hw154.2.2.2.2.2.2.2.2.2.2.1 k0_t20 k0_t22 k0_h6
theorem k0_t23_ok : ∀ (i : grid0.Coords) (v79 : BitVec 32) (v82 : BitVec 32) (v86 : BitVec 32) (v88 : BitVec 32) (v93 : BitVec 1) (k0_hw154 : k0_chk154 i v79 v82 v86 v88 v93), ∀ (k0_h6 : k0_cond6 i v79 v82 v93 = 1#1), (k0_t23_loop i v79 v82).OK := fun i v79 v82 v86 v88 v93 k0_hw154 k0_h6 => k0_hw154.2.2.2.2.2.2.2.2.2.2.2.1 k0_h6
theorem k0_t24_ok : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips), ∀ (k0_h6 : k0_cond6 i v79 v82 v93 = 1#1), (k0_t24_loop v86 v88).OK := fun i v79 v82 v86 v88 v93 k0_hw154 k0_t23 k0_h6 => k0_hw154.2.2.2.2.2.2.2.2.2.2.2.2.1 k0_t23 k0_h6
theorem k0_off64_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t24 : Fin (k0_t24_loop v86 v88).trips), ∀ (k0_h6 : k0_cond6 i v79 v82 v93 = 1#1), ∀ a, (k0_off64 v86 v88 k0_t24) a + S16.size a ≤ S7168.size a := fun i v79 v82 v86 v88 v93 k0_hw154 k0_t23 k0_t24 k0_h6 => k0_hw154.2.2.2.2.2.2.2.2.2.2.2.2.2.1 k0_t23 k0_t24 k0_h6
theorem k0_off65_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t24 : Fin (k0_t24_loop v86 v88).trips), ∀ (k0_h6 : k0_cond6 i v79 v82 v93 = 1#1), ∀ a, (k0_off65 i v79 v82 v86 v88 k0_t23 k0_t24) a + S16.size a ≤ S18816.size a := fun i v79 v82 v86 v88 v93 k0_hw154 k0_t23 k0_t24 k0_h6 => k0_hw154.2.2.2.2.2.2.2.2.2.2.2.2.2.2.1 k0_t23 k0_t24 k0_h6
theorem k0_off66_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t24 : Fin (k0_t24_loop v86 v88).trips), ∀ (k0_h6 : k0_cond6 i v79 v82 v93 = 1#1), ∀ a, (k0_off66 i v79 v82 v86 v88 k0_t23 k0_t24) a + S16.size a ≤ S18816.size a := fun i v79 v82 v86 v88 v93 k0_hw154 k0_t23 k0_t24 k0_h6 => k0_hw154.2.2.2.2.2.2.2.2.2.2.2.2.2.2.2.1 k0_t23 k0_t24 k0_h6
theorem k0_off67_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t24 : Fin (k0_t24_loop v86 v88).trips), ∀ (k0_h6 : k0_cond6 i v79 v82 v93 = 1#1), ∀ a, (k0_off67 i v79 v82 v86 v88 k0_t23 k0_t24) a + S16.size a ≤ S18816.size a := fun i v79 v82 v86 v88 v93 k0_hw154 k0_t23 k0_t24 k0_h6 => k0_hw154.2.2.2.2.2.2.2.2.2.2.2.2.2.2.2.2.1 k0_t23 k0_t24 k0_h6
theorem k0_t25_ok : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips), ∀ (k0_h6 : k0_cond6 i v79 v82 v93 = 1#1), (k0_t25_loop v86 v88).OK := fun i v79 v82 v86 v88 v93 k0_hw154 k0_t23 k0_h6 => k0_hw154.2.2.2.2.2.2.2.2.2.2.2.2.2.2.2.2.2.1 k0_t23 k0_h6
theorem k0_off68_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t25 : Fin (k0_t25_loop v86 v88).trips), ∀ (k0_h6 : k0_cond6 i v79 v82 v93 = 1#1), ∀ a, (k0_off68 v86 v88 k0_t25) a + S16.size a ≤ S7168.size a := fun i v79 v82 v86 v88 v93 k0_hw154 k0_t23 k0_t25 k0_h6 => k0_hw154.2.2.2.2.2.2.2.2.2.2.2.2.2.2.2.2.2.2.1 k0_t23 k0_t25 k0_h6
theorem k0_off69_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t25 : Fin (k0_t25_loop v86 v88).trips), ∀ (k0_h6 : k0_cond6 i v79 v82 v93 = 1#1), ∀ a, (k0_off69 i v79 v82 v86 v88 k0_t23 k0_t25) a + S16.size a ≤ S18816.size a := fun i v79 v82 v86 v88 v93 k0_hw154 k0_t23 k0_t25 k0_h6 => k0_hw154.2.2.2.2.2.2.2.2.2.2.2.2.2.2.2.2.2.2.2.1 k0_t23 k0_t25 k0_h6
theorem k0_off70_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t25 : Fin (k0_t25_loop v86 v88).trips), ∀ (k0_h6 : k0_cond6 i v79 v82 v93 = 1#1), ∀ a, (k0_off70 i v79 v82 v86 v88 k0_t23 k0_t25) a + S16.size a ≤ S18816.size a := fun i v79 v82 v86 v88 v93 k0_hw154 k0_t23 k0_t25 k0_h6 => k0_hw154.2.2.2.2.2.2.2.2.2.2.2.2.2.2.2.2.2.2.2.2.1 k0_t23 k0_t25 k0_h6
theorem k0_off71_inb : ∀ (i : grid0.Coords) (v79 : BitVec 32) (v82 : BitVec 32) (v86 : BitVec 32) (v88 : BitVec 32) (v93 : BitVec 1) (k0_hw154 : k0_chk154 i v79 v82 v86 v88 v93) (k0_t23 : Fin (k0_t23_loop i v79 v82).trips) (k0_t25 : Fin (k0_t25_loop v86 v88).trips), ∀ (k0_h6 : k0_cond6 i v79 v82 v93 = 1#1), ∀ a, (k0_off71 i v79 v82 v86 v88 k0_t23 k0_t25) a + S16.size a ≤ S18816.size a := fun i v79 v82 v86 v88 v93 k0_hw154 k0_t23 k0_t25 k0_h6 => k0_hw154.2.2.2.2.2.2.2.2.2.2.2.2.2.2.2.2.2.2.2.2.2 k0_t23 k0_t25 k0_h6

@[reducible] def k0_t26_loop : Scf.Loop 32 :=
  let c0_i32_38 : BitVec 32 := 0#32
  let c1176_i32 : BitVec 32 := 1176#32
  let v98 : BitVec 32 := Scalar.addi c0_i32_38 c1176_i32
  let c1_i32_39 : BitVec 32 := 1#32
  ⟨c0_i32_38, v98, c1_i32_39⟩
def k0_off72 (k0_t26 : Fin k0_t26_loop.trips) : Fin 1 → Nat :=
  let c0_i32_45 : BitVec 32 := 0#32
  let c0_i32_38 : BitVec 32 := 0#32
  let c1_i32_39 : BitVec 32 := 1#32
  let arg30 : BitVec 32 := Scf.iv c0_i32_38 c1_i32_39 k0_t26
  let c1_i32_44 : BitVec 32 := 1#32
  let v99 : BitVec 32 := Scalar.muli arg30 c1_i32_44
  let v100 : BitVec 32 := Scalar.addi c0_i32_45 v99
  let c16_i32_46 : BitVec 32 := 16#32
  let v101 : BitVec 32 := Scalar.muli v100 c16_i32_46
  let v102 : Index := Scalar.indexCast v101
  ![v102.toNat]
def k0_off73 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_41 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_45_r12 : BitVec 32 := 0#32
  ![v18.toNat, 0, v28.toNat, 0]
def k0_off74 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_42 : BitVec 32 := 1#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_44_r13 : BitVec 32 := 0#32
  ![v18.toNat, 1, v28.toNat, 0]
def k0_off75 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_43 : BitVec 32 := 2#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_44_r14 : BitVec 32 := 0#32
  ![v18.toNat, 2, v28.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x12288 : Shape := ⟨2, ![128, 12288]⟩
abbrev S128x224 : Shape := ⟨2, ![128, 224]⟩
abbrev S4x32 : Shape := ⟨2, ![4, 32]⟩
abbrev S128x1 : Shape := ⟨2, ![128, 1]⟩
abbrev S128x3x4096 : Shape := ⟨3, ![128, 3, 4096]⟩
abbrev S128x1x1x1 : Shape := ⟨4, ![128, 1, 1, 1]⟩
abbrev S128x1x224x1 : Shape := ⟨4, ![128, 1, 224, 1]⟩
abbrev S128x1x1x224 : Shape := ⟨4, ![128, 1, 1, 224]⟩
abbrev S128x224x1 : Shape := ⟨3, ![128, 224, 1]⟩
abbrev S128x1x224 : Shape := ⟨3, ![128, 1, 224]⟩
abbrev S128x224x224 : Shape := ⟨3, ![128, 224, 224]⟩
abbrev S128x1x50176 : Shape := ⟨3, ![128, 1, 50176]⟩
abbrev S128x3x50176 : Shape := ⟨3, ![128, 3, 50176]⟩
abbrev S_ : Shape := ⟨0, ![]⟩
abbrev S128x3x50176x1 : Shape := ⟨4, ![128, 3, 50176, 1]⟩
abbrev S128x3x224x224 : Shape := ⟨4, ![128, 3, 224, 224]⟩
abbrev S128x1x224x224 : Shape := ⟨4, ![128, 1, 224, 224]⟩
abbrev S4x32x3x224x224 : Shape := ⟨5, ![4, 32, 3, 224, 224]⟩
abbrev S4x31x3x224x224 : Shape := ⟨5, ![4, 31, 3, 224, 224]⟩
abbrev S4x3x224x224 : Shape := ⟨4, ![4, 3, 224, 224]⟩
abbrev S4x1x3x224x224 : Shape := ⟨5, ![4, 1, 3, 224, 224]⟩

abbrev nBuf : Space → Nat
  | .hbm => 153
  | .vmem => 0
  | .smem => 0
  | _ => 0

abbrev hbmTy0_0 (i : Nat) : BufTy := match i % 128 with
  | 0 => ⟨S128x12288, .f32⟩
  | 1 => ⟨S128x224, .i32⟩
  | 2 => ⟨S128x224, .i32⟩
  | 3 => ⟨S128x224, .f32⟩
  | 4 => ⟨S128x224, .f32⟩
  | 5 => ⟨S128x224, .i32⟩
  | 6 => ⟨S128x224, .i32⟩
  | 7 => ⟨S128x224, .f32⟩
  | 8 => ⟨S128x224, .f32⟩
  | 9 => ⟨S4x32, .f32⟩
  | 10 => ⟨S128x1, .i32⟩
  | 11 => ⟨S128x1, .i32⟩
  | 12 => ⟨S128x1, .i32⟩
  | 13 => ⟨S128x1, .i32⟩
  | 14 => ⟨S128x3x4096, .f32⟩
  | 15 => ⟨S128x1x1x1, .f32⟩
  | 16 => ⟨S128x1x224x1, .f32⟩
  | 17 => ⟨S128x1x224x1, .f32⟩
  | 18 => ⟨S128x1x224x1, .f32⟩
  | 19 => ⟨S128x1x1x224, .f32⟩
  | 20 => ⟨S128x224x1, .i32⟩
  | 21 => ⟨S128x1x224, .i32⟩
  | 22 => ⟨S128x224x224, .i32⟩
  | 23 => ⟨S128x224x224, .i32⟩
  | 24 => ⟨S128x224x224, .i32⟩
  | 25 => ⟨S128x1x50176, .i32⟩
  | 26 => ⟨S128x3x50176, .i32⟩
  | 27 => ⟨S_, .i32⟩
  | 28 => ⟨S128x3x50176, .i32⟩
  | 29 => ⟨S128x3x50176, .i1⟩
  | 30 => ⟨S_, .i32⟩
  | 31 => ⟨S128x3x50176, .i32⟩
  | 32 => ⟨S128x3x50176, .i32⟩
  | 33 => ⟨S128x3x50176, .i32⟩
  | 34 => ⟨S128x3x50176x1, .i32⟩
  | 35 => ⟨S128x3x50176, .f32⟩
  | 36 => ⟨S128x3x224x224, .f32⟩
  | 37 => ⟨S128x3x224x224, .f32⟩
  | 38 => ⟨S128x3x224x224, .f32⟩
  | 39 => ⟨S128x1x1x224, .f32⟩
  | 40 => ⟨S128x224x1, .i32⟩
  | 41 => ⟨S128x1x224, .i32⟩
  | 42 => ⟨S128x224x224, .i32⟩
  | 43 => ⟨S128x224x224, .i32⟩
  | 44 => ⟨S128x224x224, .i32⟩
  | 45 => ⟨S128x1x50176, .i32⟩
  | 46 => ⟨S128x3x50176, .i32⟩
  | 47 => ⟨S_, .i32⟩
  | 48 => ⟨S128x3x50176, .i32⟩
  | 49 => ⟨S128x3x50176, .i1⟩
  | 50 => ⟨S_, .i32⟩
  | 51 => ⟨S128x3x50176, .i32⟩
  | 52 => ⟨S128x3x50176, .i32⟩
  | 53 => ⟨S128x3x50176, .i32⟩
  | 54 => ⟨S128x3x50176x1, .i32⟩
  | 55 => ⟨S128x3x50176, .f32⟩
  | 56 => ⟨S128x3x224x224, .f32⟩
  | 57 => ⟨S128x3x224x224, .f32⟩
  | 58 => ⟨S128x3x224x224, .f32⟩
  | 59 => ⟨S128x3x224x224, .f32⟩
  | 60 => ⟨S128x3x224x224, .f32⟩
  | 61 => ⟨S128x3x224x224, .f32⟩
  | 62 => ⟨S128x1x224x1, .f32⟩
  | 63 => ⟨S128x1x224x1, .f32⟩
  | 64 => ⟨S128x1x224x1, .f32⟩
  | 65 => ⟨S128x1x1x224, .f32⟩
  | 66 => ⟨S128x224x1, .i32⟩
  | 67 => ⟨S128x1x224, .i32⟩
  | 68 => ⟨S128x224x224, .i32⟩
  | 69 => ⟨S128x224x224, .i32⟩
  | 70 => ⟨S128x224x224, .i32⟩
  | 71 => ⟨S128x1x50176, .i32⟩
  | 72 => ⟨S128x3x50176, .i32⟩
  | 73 => ⟨S_, .i32⟩
  | 74 => ⟨S128x3x50176, .i32⟩
  | 75 => ⟨S128x3x50176, .i1⟩
  | 76 => ⟨S_, .i32⟩
  | 77 => ⟨S128x3x50176, .i32⟩
  | 78 => ⟨S128x3x50176, .i32⟩
  | 79 => ⟨S128x3x50176, .i32⟩
  | 80 => ⟨S128x3x50176x1, .i32⟩
  | 81 => ⟨S128x3x50176, .f32⟩
  | 82 => ⟨S128x3x224x224, .f32⟩
  | 83 => ⟨S128x3x224x224, .f32⟩
  | 84 => ⟨S128x3x224x224, .f32⟩
  | 85 => ⟨S128x1x1x224, .f32⟩
  | 86 => ⟨S128x224x1, .i32⟩
  | 87 => ⟨S128x1x224, .i32⟩
  | 88 => ⟨S128x224x224, .i32⟩
  | 89 => ⟨S128x224x224, .i32⟩
  | 90 => ⟨S128x224x224, .i32⟩
  | 91 => ⟨S128x1x50176, .i32⟩
  | 92 => ⟨S128x3x50176, .i32⟩
  | 93 => ⟨S_, .i32⟩
  | 94 => ⟨S128x3x50176, .i32⟩
  | 95 => ⟨S128x3x50176, .i1⟩
  | 96 => ⟨S_, .i32⟩
  | 97 => ⟨S128x3x50176, .i32⟩
  | 98 => ⟨S128x3x50176, .i32⟩
  | 99 => ⟨S128x3x50176, .i32⟩
  | 100 => ⟨S128x3x50176x1, .i32⟩
  | 101 => ⟨S128x3x50176, .f32⟩
  | 102 => ⟨S128x3x224x224, .f32⟩
  | 103 => ⟨S128x3x224x224, .f32⟩
  | 104 => ⟨S128x3x224x224, .f32⟩
  | 105 => ⟨S128x3x224x224, .f32⟩
  | 106 => ⟨S128x3x224x224, .f32⟩
  | 107 => ⟨S128x3x224x224, .f32⟩
  | 108 => ⟨S128x3x224x224, .f32⟩
  | 109 => ⟨S128x224, .i32⟩
  | 110 => ⟨S128x224, .i32⟩
  | 111 => ⟨S128x224, .i1⟩
  | 112 => ⟨S128x224, .i32⟩
  | 113 => ⟨S128x224, .i1⟩
  | 114 => ⟨S128x224, .i1⟩
  | 115 => ⟨S128x1x224x1, .i1⟩
  | 116 => ⟨S_, .i32⟩
  | 117 => ⟨S128x1, .i32⟩
  | 118 => ⟨S128x1, .i32⟩
  | 119 => ⟨S128x224, .i32⟩
  | 120 => ⟨S128x224, .i1⟩
  | 121 => ⟨S_, .i32⟩
  | 122 => ⟨S128x1, .i32⟩
  | 123 => ⟨S128x1, .i32⟩
  | 124 => ⟨S128x224, .i32⟩
  | 125 => ⟨S128x224, .i1⟩
  | 126 => ⟨S128x224, .i1⟩
  | 127 => ⟨S128x1x1x224, .i1⟩
  | _ => ⟨S128x12288, .f32⟩

abbrev hbmTy0_1 (i : Nat) : BufTy := match i % 128 with
  | 0 => ⟨S128x1x224x224, .i1⟩
  | 1 => ⟨S128x1x224x224, .i1⟩
  | 2 => ⟨S128x1x224x224, .i1⟩
  | 3 => ⟨S_, .f32⟩
  | 4 => ⟨S_, .f32⟩
  | 5 => ⟨S128x3x224x224, .i1⟩
  | 6 => ⟨S128x3x224x224, .f32⟩
  | 7 => ⟨S128x3x224x224, .f32⟩
  | 8 => ⟨S4x32x3x224x224, .f32⟩
  | 9 => ⟨S4x31x3x224x224, .f32⟩
  | 10 => ⟨S_, .f32⟩
  | 11 => ⟨S4x3x224x224, .f32⟩
  | 12 => ⟨S_, .f32⟩
  | 13 => ⟨S4x3x224x224, .f32⟩
  | 14 => ⟨S4x3x224x224, .i1⟩
  | 15 => ⟨S_, .f32⟩
  | 16 => ⟨S_, .f32⟩
  | 17 => ⟨S4x3x224x224, .f32⟩
  | 18 => ⟨S4x3x224x224, .f32⟩
  | 19 => ⟨S4x3x224x224, .f32⟩
  | 20 => ⟨S4x1x3x224x224, .f32⟩
  | 21 => ⟨S4x3x224x224, .f32⟩
  | 22 => ⟨S4x3x224x224, .f32⟩
  | 23 => ⟨S4x3x224x224, .f32⟩
  | 24 => ⟨S4x3x224x224, .f32⟩
  | _ => ⟨S128x12288, .f32⟩

abbrev hbmTy (i : Nat) : BufTy := match i / 128 with
  | 0 => hbmTy0_0 i
  | 1 => hbmTy0_1 i
  | _ => ⟨S128x12288, .f32⟩

abbrev bufTy : (tb : Table) → Fin (tcTables nBuf tb) → BufTy
  | .hbm, ⟨i, _⟩ => hbmTy i
  | _, _ => ⟨S128x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_0 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_1 : Ref sig .tc := ⟨.hbm, 138, rfl⟩
abbrev main_v86 : Ref sig .tc := ⟨.hbm, 139, rfl⟩
abbrev main_cst_2 : Ref sig .tc := ⟨.hbm, 140, rfl⟩
abbrev main_v87 : Ref sig .tc := ⟨.hbm, 141, rfl⟩
abbrev main_v88 : Ref sig .tc := ⟨.hbm, 142, rfl⟩
abbrev main_cst_3 : Ref sig .tc := ⟨.hbm, 143, rfl⟩
abbrev main_cst_4 : Ref sig .tc := ⟨.hbm, 144, rfl⟩
abbrev main_call5_v0 : Ref sig .tc := ⟨.hbm, 145, rfl⟩
abbrev main_call5_v1 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩

abbrev nD : Nat := 1
abbrev τ : Topo := Topo.v7x

variable {F : FTy → Type} [FloatOps F]
-- ==== Decode.lean ====
abbrev S4x32x64 : Shape := ⟨3, ![4, 32, 64]⟩
abbrev S4x31x4 : Shape := ⟨3, ![4, 31, 4]⟩
abbrev S4x31x1 : Shape := ⟨3, ![4, 31, 1]⟩
abbrev S64x1024 : Shape := ⟨2, ![64, 1024]⟩
abbrev S1024 : Shape := ⟨1, ![1024]⟩
abbrev S1024x12288 : Shape := ⟨2, ![1024, 12288]⟩
abbrev S12288 : Shape := ⟨1, ![12288]⟩
abbrev S4 : Shape := ⟨1, ![4]⟩
abbrev S128x64 : Shape := ⟨2, ![128, 64]⟩
abbrev S4x1x4 : Shape := ⟨3, ![4, 1, 4]⟩
abbrev S4x32x4 : Shape := ⟨3, ![4, 32, 4]⟩
abbrev S128x4 : Shape := ⟨2, ![128, 4]⟩
abbrev S_ : Shape := ⟨0, ![]⟩
abbrev S4x1 : Shape := ⟨2, ![4, 1]⟩
abbrev S4x31 : Shape := ⟨2, ![4, 31]⟩
abbrev S4x32 : Shape := ⟨2, ![4, 32]⟩
abbrev S223 : Shape := ⟨1, ![223]⟩
abbrev S1 : Shape := ⟨1, ![1]⟩
abbrev S224 : Shape := ⟨1, ![224]⟩
abbrev S1x224 : Shape := ⟨2, ![1, 224]⟩
abbrev S1x1024 : Shape := ⟨2, ![1, 1024]⟩
abbrev S1x12288 : Shape := ⟨2, ![1, 12288]⟩
abbrev S128x12288 : Shape := ⟨2, ![128, 12288]⟩
abbrev S128x224 : Shape := ⟨2, ![128, 224]⟩
abbrev S128x1 : Shape := ⟨2, ![128, 1]⟩
abbrev S1024x1536 : Shape := ⟨2, ![1024, 1536]⟩
abbrev S1x1536 : Shape := ⟨2, ![1, 1536]⟩
abbrev S128x1536 : Shape := ⟨2, ![128, 1536]⟩
abbrev S128x1024 : Shape := ⟨2, ![128, 1024]⟩
abbrev S128 : Shape := ⟨1, ![128]⟩

abbrev nBuf : Space → Nat
  | .hbm => 68
  | .vmem => 26
  | .smem => 0
  | _ => 0

abbrev bufTy : (tb : Table) → Fin (tcTables nBuf tb) → BufTy
  | .hbm, ⟨0, _⟩ => ⟨S4x32x64, .f32⟩
  | .hbm, ⟨1, _⟩ => ⟨S4x31x4, .f32⟩
  | .hbm, ⟨2, _⟩ => ⟨S4x31x1, .f32⟩
  | .hbm, ⟨3, _⟩ => ⟨S4x31x1, .f32⟩
  | .hbm, ⟨4, _⟩ => ⟨S64x1024, .f32⟩
  | .hbm, ⟨5, _⟩ => ⟨S1024, .f32⟩
  | .hbm, ⟨6, _⟩ => ⟨S1024x12288, .f32⟩
  | .hbm, ⟨7, _⟩ => ⟨S12288, .f32⟩
  | .hbm, ⟨8, _⟩ => ⟨S4, .f32⟩
  | .hbm, ⟨9, _⟩ => ⟨S128x64, .f32⟩
  | .hbm, ⟨10, _⟩ => ⟨S4x1x4, .f32⟩
  | .hbm, ⟨11, _⟩ => ⟨S4x32x4, .f32⟩
  | .hbm, ⟨12, _⟩ => ⟨S128x4, .f32⟩
  | .hbm, ⟨13, _⟩ => ⟨S_, .f32⟩
  | .hbm, ⟨14, _⟩ => ⟨S4x1, .f32⟩
  | .hbm, ⟨15, _⟩ => ⟨S4x31, .f32⟩
  | .hbm, ⟨16, _⟩ => ⟨S4x32, .f32⟩
  | .hbm, ⟨17, _⟩ => ⟨S4x31, .f32⟩
  | .hbm, ⟨18, _⟩ => ⟨S_, .f32⟩
  | .hbm, ⟨19, _⟩ => ⟨S4x1, .f32⟩
  | .hbm, ⟨20, _⟩ => ⟨S4x32, .f32⟩
  | .hbm, ⟨21, _⟩ => ⟨S_, .f32⟩
  | .hbm, ⟨22, _⟩ => ⟨S4x32, .f32⟩
  | .hbm, ⟨23, _⟩ => ⟨S4x32, .i1⟩
  | .hbm, ⟨24, _⟩ => ⟨S_, .f32⟩
  | .hbm, ⟨25, _⟩ => ⟨S_, .f32⟩
  | .hbm, ⟨26, _⟩ => ⟨S4x32, .f32⟩
  | .hbm, ⟨27, _⟩ => ⟨S4x32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S223, .f32⟩
  | .hbm, ⟨36, _⟩ => ⟨S_, .f32⟩
  | .hbm, ⟨37, _⟩ => ⟨S223, .f32⟩
  | .hbm, ⟨38, _⟩ => ⟨S223, .f32⟩
  | .hbm, ⟨39, _⟩ => ⟨S1, .f32⟩
  | .hbm, ⟨40, _⟩ => ⟨S_, .f32⟩
  | .hbm, ⟨41, _⟩ => ⟨S223, .f32⟩
  | .hbm, ⟨42, _⟩ => ⟨S223, .f32⟩
  | .hbm, ⟨43, _⟩ => ⟨S223, .f32⟩
  | .hbm, ⟨44, _⟩ => ⟨S223, .f32⟩
  | .hbm, ⟨45, _⟩ => ⟨S1, .f32⟩
  | .hbm, ⟨46, _⟩ => ⟨S223, .f32⟩
  | .hbm, ⟨47, _⟩ => ⟨S223, .f32⟩
  | .hbm, ⟨48, _⟩ => ⟨S223, .f32⟩
  | .hbm, ⟨49, _⟩ => ⟨S1, .f32⟩
  | .hbm, ⟨50, _⟩ => ⟨S224, .f32⟩
  | .hbm, ⟨51, _⟩ => ⟨S1x224, .f32⟩
  | .hbm, ⟨52, _⟩ => ⟨S1x1024, .f32⟩
  | .hbm, ⟨53, _⟩ => ⟨S1x12288, .f32⟩
  | .hbm, ⟨54, _⟩ => ⟨S128x12288, .f32⟩
  | .hbm, ⟨55, _⟩ => ⟨S128x224, .i32⟩
  | .hbm, ⟨56, _⟩ => ⟨S128x224, .i32⟩
  | .hbm, ⟨57, _⟩ => ⟨S128x224, .f32⟩
  | .hbm, ⟨58, _⟩ => ⟨S128x224, .f32⟩
  | .hbm, ⟨59, _⟩ => ⟨S128x224, .i32⟩
  | .hbm, ⟨60, _⟩ => ⟨S128x224, .i32⟩
  | .hbm, ⟨61, _⟩ => ⟨S128x224, .f32⟩
  | .hbm, ⟨62, _⟩ => ⟨S128x224, .f32⟩
  | .hbm, ⟨63, _⟩ => ⟨S4x32, .f32⟩
  | .hbm, ⟨64, _⟩ => ⟨S128x1, .i32⟩
  | .hbm, ⟨65, _⟩ => ⟨S128x1, .i32⟩
  | .hbm, ⟨66, _⟩ => ⟨S128x1, .i32⟩
  | .hbm, ⟨67, _⟩ => ⟨S128x1, .i32⟩
  | .local _ .vmem, ⟨0, _⟩ => ⟨S128x64, .f32⟩
  | .local _ .vmem, ⟨1, _⟩ => ⟨S64x1024, .f32⟩
  | .local _ .vmem, ⟨2, _⟩ => ⟨S1x1024, .f32⟩
  | .local _ .vmem, ⟨3, _⟩ => ⟨S1024x1536, .f32⟩
  | .local _ .vmem, ⟨4, _⟩ => ⟨S1024x1536, .f32⟩
  | .local _ .vmem, ⟨5, _⟩ => ⟨S1x1536, .f32⟩
  | .local _ .vmem, ⟨6, _⟩ => ⟨S1x1536, .f32⟩
  | .local _ .vmem, ⟨7, _⟩ => ⟨S1x224, .f32⟩
  | .local _ .vmem, ⟨8, _⟩ => ⟨S128x4, .f32⟩
  | .local _ .vmem, ⟨9, _⟩ => ⟨S4x32, .f32⟩
  | .local _ .vmem, ⟨10, _⟩ => ⟨S128x1536, .f32⟩
  | .local _ .vmem, ⟨11, _⟩ => ⟨S128x1536, .f32⟩
  | .local _ .vmem, ⟨12, _⟩ => ⟨S128x224, .i32⟩
  | .local _ .vmem, ⟨13, _⟩ => ⟨S128x224, .i32⟩
  | .local _ .vmem, ⟨14, _⟩ => ⟨S128x224, .f32⟩
  | .local _ .vmem, ⟨15, _⟩ => ⟨S128x224, .f32⟩
  | .local _ .vmem, ⟨16, _⟩ => ⟨S128x224, .i32⟩
  | .local _ .vmem, ⟨17, _⟩ => ⟨S128x224, .i32⟩
  | .local _ .vmem, ⟨18, _⟩ => ⟨S128x224, .f32⟩
  | .local _ .vmem, ⟨19, _⟩ => ⟨S128x224, .f32⟩
  | .local _ .vmem, ⟨20, _⟩ => ⟨S4x32, .f32⟩
  | .local _ .vmem, ⟨21, _⟩ => ⟨S128x1, .i32⟩
  | .local _ .vmem, ⟨22, _⟩ => ⟨S128x1, .i32⟩
  | .local _ .vmem, ⟨23, _⟩ => ⟨S128x1, .i32⟩
  | .local _ .vmem, ⟨24, _⟩ => ⟨S128x1, .i32⟩
  | .local _ .vmem, ⟨25, _⟩ => ⟨S128x1024, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_cst : Ref sig .tc := ⟨.hbm, 33, rfl⟩
abbrev main_call1_v3 : Ref sig .tc := ⟨.hbm, 34, rfl⟩
abbrev main_call1_v4 : Ref sig .tc := ⟨.hbm, 35, rfl⟩
abbrev main_call1_cst_0 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_cst_1 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_v15 : Ref sig .tc := ⟨.hbm, 48, rfl⟩
abbrev main_call1_v16 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17_0 : Ref sig .tc := ⟨.hbm, 54, rfl⟩
abbrev main_v17_1 : Ref sig .tc := ⟨.hbm, 55, rfl⟩
abbrev main_v17_2 : Ref sig .tc := ⟨.hbm, 56, rfl⟩
abbrev main_v17_3 : Ref sig .tc := ⟨.hbm, 57, rfl⟩
abbrev main_v17_4 : Ref sig .tc := ⟨.hbm, 58, rfl⟩
abbrev main_v17_5 : Ref sig .tc := ⟨.hbm, 59, rfl⟩
abbrev main_v17_6 : Ref sig .tc := ⟨.hbm, 60, rfl⟩
abbrev main_v17_7 : Ref sig .tc := ⟨.hbm, 61, rfl⟩
abbrev main_v17_8 : Ref sig .tc := ⟨.hbm, 62, rfl⟩
abbrev main_v17_9 : Ref sig .tc := ⟨.hbm, 63, rfl⟩
abbrev main_v17_10 : Ref sig .tc := ⟨.hbm, 64, rfl⟩
abbrev main_v17_11 : Ref sig .tc := ⟨.hbm, 65, rfl⟩
abbrev main_v17_12 : Ref sig .tc := ⟨.hbm, 66, rfl⟩
abbrev main_v17_13 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x224 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x224 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x224 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x224 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x224 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x224 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x224 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x224 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== DecodeReferenceIdeal.lean ====
abbrev S4x32x64 : Shape := ⟨3, ![4, 32, 64]⟩
abbrev S4x31x4 : Shape := ⟨3, ![4, 31, 4]⟩
abbrev S4x31x1 : Shape := ⟨3, ![4, 31, 1]⟩
abbrev S64x1024 : Shape := ⟨2, ![64, 1024]⟩
abbrev S1024 : Shape := ⟨1, ![1024]⟩
abbrev S1024x12288 : Shape := ⟨2, ![1024, 12288]⟩
abbrev S12288 : Shape := ⟨1, ![12288]⟩
abbrev S4 : Shape := ⟨1, ![4]⟩
abbrev S128x64 : Shape := ⟨2, ![128, 64]⟩
abbrev S128x1024 : Shape := ⟨2, ![128, 1024]⟩
abbrev S1x1024 : Shape := ⟨2, ![1, 1024]⟩
abbrev S_ : Shape := ⟨0, ![]⟩
abbrev S128x12288 : Shape := ⟨2, ![128, 12288]⟩
abbrev S1x12288 : Shape := ⟨2, ![1, 12288]⟩
abbrev S4x1x4 : Shape := ⟨3, ![4, 1, 4]⟩
abbrev S4x32x4 : Shape := ⟨3, ![4, 32, 4]⟩
abbrev S128x4 : Shape := ⟨2, ![128, 4]⟩
abbrev S223 : Shape := ⟨1, ![223]⟩
abbrev S1 : Shape := ⟨1, ![1]⟩
abbrev S224 : Shape := ⟨1, ![224]⟩
abbrev S128x1 : Shape := ⟨2, ![128, 1]⟩
abbrev S128 : Shape := ⟨1, ![128]⟩
abbrev S1x224 : Shape := ⟨2, ![1, 224]⟩
abbrev S128x224 : Shape := ⟨2, ![128, 224]⟩
abbrev S4x31 : Shape := ⟨2, ![4, 31]⟩
abbrev S4x1 : Shape := ⟨2, ![4, 1]⟩
abbrev S4x32 : Shape := ⟨2, ![4, 32]⟩
abbrev S32 : Shape := ⟨1, ![32]⟩

abbrev nBuf : Space → Nat
  | .hbm => 338
  | .vmem => 0
  | .smem => 0
  | _ => 0

abbrev hbmTy0_0 (i : Nat) : BufTy := match i % 128 with
  | 0 => ⟨S4x32x64, .f32⟩
  | 1 => ⟨S4x31x4, .f32⟩
  | 2 => ⟨S4x31x1, .f32⟩
  | 3 => ⟨S4x31x1, .f32⟩
  | 4 => ⟨S64x1024, .f32⟩
  | 5 => ⟨S1024, .f32⟩
  | 6 => ⟨S1024x12288, .f32⟩
  | 7 => ⟨S12288, .f32⟩
  | 8 => ⟨S4, .f32⟩
  | 9 => ⟨S128x64, .f32⟩
  | 10 => ⟨S128x1024, .f32⟩
  | 11 => ⟨S1x1024, .f32⟩
  | 12 => ⟨S128x1024, .f32⟩
  | 13 => ⟨S128x1024, .f32⟩
  | 14 => ⟨S_, .f32⟩
  | 15 => ⟨S128x1024, .f32⟩
  | 16 => ⟨S128x1024, .f32⟩
  | 17 => ⟨S128x12288, .f32⟩
  | 18 => ⟨S1x12288, .f32⟩
  | 19 => ⟨S128x12288, .f32⟩
  | 20 => ⟨S128x12288, .f32⟩
  | 21 => ⟨S128x12288, .f32⟩
  | 22 => ⟨S128x12288, .f32⟩
  | 23 => ⟨S_, .f32⟩
  | 24 => ⟨S128x12288, .f32⟩
  | 25 => ⟨S128x12288, .f32⟩
  | 26 => ⟨S_, .f32⟩
  | 27 => ⟨S128x12288, .f32⟩
  | 28 => ⟨S128x12288, .f32⟩
  | 29 => ⟨S4x1x4, .f32⟩
  | 30 => ⟨S4x32x4, .f32⟩
  | 31 => ⟨S128x4, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S223, .f32⟩
  | 40 => ⟨S_, .f32⟩
  | 41 => ⟨S223, .f32⟩
  | 42 => ⟨S223, .f32⟩
  | 43 => ⟨S1, .f32⟩
  | 44 => ⟨S_, .f32⟩
  | 45 => ⟨S223, .f32⟩
  | 46 => ⟨S223, .f32⟩
  | 47 => ⟨S223, .f32⟩
  | 48 => ⟨S223, .f32⟩
  | 49 => ⟨S1, .f32⟩
  | 50 => ⟨S223, .f32⟩
  | 51 => ⟨S223, .f32⟩
  | 52 => ⟨S223, .f32⟩
  | 53 => ⟨S1, .f32⟩
  | 54 => ⟨S224, .f32⟩
  | 55 => ⟨S128x1, .f32⟩
  | 56 => ⟨S128, .f32⟩
  | 57 => ⟨S128x1, .f32⟩
  | 58 => ⟨S128, .f32⟩
  | 59 => ⟨S1x224, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S128x1, .f32⟩
  | 67 => ⟨S128x224, .f32⟩
  | 68 => ⟨S128x224, .f32⟩
  | 69 => ⟨S128x224, .f32⟩
  | 70 => ⟨S_, .f32⟩
  | 71 => ⟨S128, .f32⟩
  | 72 => ⟨S128, .f32⟩
  | 73 => ⟨S128x1, .f32⟩
  | 74 => ⟨S128x224, .f32⟩
  | 75 => ⟨S128x224, .f32⟩
  | 76 => ⟨S_, .f32⟩
  | 77 => ⟨S128x224, .f32⟩
  | 78 => ⟨S128x224, .f32⟩
  | 79 => ⟨S_, .f32⟩
  | 80 => ⟨S128x224, .f32⟩
  | 81 => ⟨S128x224, .f32⟩
  | 82 => ⟨S128x224, .f32⟩
  | 83 => ⟨S_, .f32⟩
  | 84 => ⟨S128x224, .f32⟩
  | 85 => ⟨S128x224, .f32⟩
  | 86 => ⟨S128x224, .f32⟩
  | 87 => ⟨S_, .i32⟩
  | 88 => ⟨S_, .i32⟩
  | 89 => ⟨S_, .f32⟩
  | 90 => ⟨S128x224, .f32⟩
  | 91 => ⟨S128x224, .f32⟩
  | 92 => ⟨S_, .f32⟩
  | 93 => ⟨S128x224, .f32⟩
  | 94 => ⟨S128x224, .f32⟩
  | 95 => ⟨S128x224, .i32⟩
  | 96 => ⟨S_, .i32⟩
  | 97 => ⟨S_, .i32⟩
  | 98 => ⟨S_, .f32⟩
  | 99 => ⟨S128x224, .f32⟩
  | 100 => ⟨S128x224, .f32⟩
  | 101 => ⟨S_, .f32⟩
  | 102 => ⟨S128x224, .f32⟩
  | 103 => ⟨S128x224, .f32⟩
  | 104 => ⟨S128x224, .i32⟩
  | 105 => ⟨S_, .f32⟩
  | 106 => ⟨S128x224, .f32⟩
  | 107 => ⟨S128x224, .i1⟩
  | 108 => ⟨S_, .f32⟩
  | 109 => ⟨S128x224, .f32⟩
  | 110 => ⟨S128x224, .i1⟩
  | 111 => ⟨S128x224, .i1⟩
  | 112 => ⟨S_, .f32⟩
  | 113 => ⟨S128x224, .f32⟩
  | 114 => ⟨S128x224, .f32⟩
  | 115 => ⟨S_, .f32⟩
  | 116 => ⟨S_, .f32⟩
  | 117 => ⟨S128x224, .f32⟩
  | 118 => ⟨S128x224, .f32⟩
  | 119 => ⟨S_, .f32⟩
  | 120 => ⟨S128x224, .f32⟩
  | 121 => ⟨S128x224, .i1⟩
  | 122 => ⟨S_, .f32⟩
  | 123 => ⟨S128x224, .f32⟩
  | 124 => ⟨S128x224, .i1⟩
  | 125 => ⟨S128x224, .i1⟩
  | 126 => ⟨S_, .f32⟩
  | 127 => ⟨S_, .f32⟩
  | _ => ⟨S4x32x64, .f32⟩

abbrev hbmTy0_1 (i : Nat) : BufTy := match i % 128 with
  | 0 => ⟨S128x224, .f32⟩
  | 1 => ⟨S128x224, .f32⟩
  | 2 => ⟨S128x1, .f32⟩
  | 3 => ⟨S128, .f32⟩
  | 4 => ⟨S128x1, .f32⟩
  | 5 => ⟨S128, .f32⟩
  | 6 => ⟨S1x224, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S128x1, .f32⟩
  | 14 => ⟨S128x224, .f32⟩
  | 15 => ⟨S128x224, .f32⟩
  | 16 => ⟨S128x224, .f32⟩
  | 17 => ⟨S_, .f32⟩
  | 18 => ⟨S128, .f32⟩
  | 19 => ⟨S128, .f32⟩
  | 20 => ⟨S128x1, .f32⟩
  | 21 => ⟨S128x224, .f32⟩
  | 22 => ⟨S128x224, .f32⟩
  | 23 => ⟨S_, .f32⟩
  | 24 => ⟨S128x224, .f32⟩
  | 25 => ⟨S128x224, .f32⟩
  | 26 => ⟨S_, .f32⟩
  | 27 => ⟨S128x224, .f32⟩
  | 28 => ⟨S128x224, .f32⟩
  | 29 => ⟨S128x224, .f32⟩
  | 30 => ⟨S_, .f32⟩
  | 31 => ⟨S128x224, .f32⟩
  | 32 => ⟨S128x224, .f32⟩
  | 33 => ⟨S128x224, .f32⟩
  | 34 => ⟨S_, .i32⟩
  | 35 => ⟨S_, .i32⟩
  | 36 => ⟨S_, .f32⟩
  | 37 => ⟨S128x224, .f32⟩
  | 38 => ⟨S128x224, .f32⟩
  | 39 => ⟨S_, .f32⟩
  | 40 => ⟨S128x224, .f32⟩
  | 41 => ⟨S128x224, .f32⟩
  | 42 => ⟨S128x224, .i32⟩
  | 43 => ⟨S_, .i32⟩
  | 44 => ⟨S_, .i32⟩
  | 45 => ⟨S_, .f32⟩
  | 46 => ⟨S128x224, .f32⟩
  | 47 => ⟨S128x224, .f32⟩
  | 48 => ⟨S_, .f32⟩
  | 49 => ⟨S128x224, .f32⟩
  | 50 => ⟨S128x224, .f32⟩
  | 51 => ⟨S128x224, .i32⟩
  | 52 => ⟨S_, .f32⟩
  | 53 => ⟨S128x224, .f32⟩
  | 54 => ⟨S128x224, .i1⟩
  | 55 => ⟨S_, .f32⟩
  | 56 => ⟨S128x224, .f32⟩
  | 57 => ⟨S128x224, .i1⟩
  | 58 => ⟨S128x224, .i1⟩
  | 59 => ⟨S_, .f32⟩
  | 60 => ⟨S128x224, .f32⟩
  | 61 => ⟨S128x224, .f32⟩
  | 62 => ⟨S_, .f32⟩
  | 63 => ⟨S_, .f32⟩
  | 64 => ⟨S128x224, .f32⟩
  | 65 => ⟨S128x224, .f32⟩
  | 66 => ⟨S_, .f32⟩
  | 67 => ⟨S128x224, .f32⟩
  | 68 => ⟨S128x224, .i1⟩
  | 69 => ⟨S_, .f32⟩
  | 70 => ⟨S128x224, .f32⟩
  | 71 => ⟨S128x224, .i1⟩
  | 72 => ⟨S128x224, .i1⟩
  | 73 => ⟨S_, .f32⟩
  | 74 => ⟨S_, .f32⟩
  | 75 => ⟨S128x224, .f32⟩
  | 76 => ⟨S128x224, .f32⟩
  | 77 => ⟨S4x31, .f32⟩
  | 78 => ⟨S_, .f32⟩
  | 79 => ⟨S4x1, .f32⟩
  | 80 => ⟨S4x32, .f32⟩
  | 81 => ⟨S4x31, .f32⟩
  | 82 => ⟨S_, .f32⟩
  | 83 => ⟨S4x1, .f32⟩
  | 84 => ⟨S4x32, .f32⟩
  | 85 => ⟨S_, .f32⟩
  | 86 => ⟨S4x32, .f32⟩
  | 87 => ⟨S4x32, .i1⟩
  | 88 => ⟨S_, .f32⟩
  | 89 => ⟨S_, .f32⟩
  | 90 => ⟨S4x32, .f32⟩
  | 91 => ⟨S4x32, .f32⟩
  | 92 => ⟨S_, .f32⟩
  | 93 => ⟨S4, .f32⟩
  | 94 => ⟨S4x1, .f32⟩
  | 95 => ⟨S4x32, .f32⟩
  | 96 => ⟨S4x32, .f32⟩
  | 97 => ⟨S4x32, .f32⟩
  | 98 => ⟨S32, .i32⟩
  | 99 => ⟨S_, .i32⟩
  | 100 => ⟨S32, .i32⟩
  | 101 => ⟨S32, .i1⟩
  | 102 => ⟨S_, .f32⟩
  | 103 => ⟨S4, .f32⟩
  | 104 => ⟨S4x1, .f32⟩
  | 105 => ⟨S4x32, .f32⟩
  | 106 => ⟨S4x32, .f32⟩
  | 107 => ⟨S_, .f32⟩
  | 108 => ⟨S_, .f32⟩
  | 109 => ⟨S4x32, .i1⟩
  | 110 => ⟨S4x32, .f32⟩
  | 111 => ⟨S4x32, .f32⟩
  | 112 => ⟨S224, .i32⟩
  | 113 => ⟨S_, .f32⟩
  | 114 => ⟨S128x224, .f32⟩
  | 115 => ⟨S128x224, .i1⟩
  | 116 => ⟨S_, .f32⟩
  | 117 => ⟨S128x224, .f32⟩
  | 118 => ⟨S128x224, .i1⟩
  | 119 => ⟨S128x224, .i1⟩
  | 120 => ⟨S_, .i32⟩
  | 121 => ⟨S_, .i32⟩
  | 122 => ⟨S128x224, .i32⟩
  | 123 => ⟨S128x224, .i32⟩
  | 124 => ⟨S128x224, .i32⟩
  | 125 => ⟨S_, .i32⟩
  | 126 => ⟨S128, .i32⟩
  | 127 => ⟨S128x1, .i32⟩
  | _ => ⟨S4x32x64, .f32⟩

abbrev hbmTy0_2 (i : Nat) : BufTy := match i % 128 with
  | 0 => ⟨S_, .i32⟩
  | 1 => ⟨S224, .i32⟩
  | 2 => ⟨S224, .i32⟩
  | 3 => ⟨S_, .i32⟩
  | 4 => ⟨S_, .i32⟩
  | 5 => ⟨S128x224, .i32⟩
  | 6 => ⟨S128x224, .i32⟩
  | 7 => ⟨S128x224, .i32⟩
  | 8 => ⟨S_, .i32⟩
  | 9 => ⟨S128, .i32⟩
  | 10 => ⟨S128x1, .i32⟩
  | 11 => ⟨S_, .f32⟩
  | 12 => ⟨S128x224, .f32⟩
  | 13 => ⟨S128x224, .i1⟩
  | 14 => ⟨S_, .f32⟩
  | 15 => ⟨S128x224, .f32⟩
  | 16 => ⟨S128x224, .i1⟩
  | 17 => ⟨S128x224, .i1⟩
  | 18 => ⟨S_, .i32⟩
  | 19 => ⟨S_, .i32⟩
  | 20 => ⟨S128x224, .i32⟩
  | 21 => ⟨S128x224, .i32⟩
  | 22 => ⟨S128x224, .i32⟩
  | 23 => ⟨S_, .i32⟩
  | 24 => ⟨S128, .i32⟩
  | 25 => ⟨S128x1, .i32⟩
  | 26 => ⟨S_, .i32⟩
  | 27 => ⟨S224, .i32⟩
  | 28 => ⟨S224, .i32⟩
  | 29 => ⟨S_, .i32⟩
  | 30 => ⟨S_, .i32⟩
  | 31 => ⟨S128x224, .i32⟩
  | 32 => ⟨S128x224, .i32⟩
  | 33 => ⟨S128x224, .i32⟩
  | 34 => ⟨S_, .i32⟩
  | 35 => ⟨S128, .i32⟩
  | 36 => ⟨S128x1, .i32⟩
  | 37 => ⟨S_, .i32⟩
  | 38 => ⟨S128x224, .i32⟩
  | 39 => ⟨S128x224, .i32⟩
  | 40 => ⟨S_, .i32⟩
  | 41 => ⟨S128x224, .i32⟩
  | 42 => ⟨S128x224, .i32⟩
  | 43 => ⟨S_, .i32⟩
  | 44 => ⟨S_, .i32⟩
  | 45 => ⟨S128x1, .i32⟩
  | 46 => ⟨S128x1, .i32⟩
  | 47 => ⟨S128x1, .i32⟩
  | 48 => ⟨S_, .i32⟩
  | 49 => ⟨S128x1, .i32⟩
  | 50 => ⟨S128x1, .i1⟩
  | 51 => ⟨S128x1, .i32⟩
  | 52 => ⟨S128x1, .i32⟩
  | 53 => ⟨S_, .i32⟩
  | 54 => ⟨S128x1, .i32⟩
  | 55 => ⟨S128x1, .i1⟩
  | 56 => ⟨S128x1, .i1⟩
  | 57 => ⟨S_, .i32⟩
  | 58 => ⟨S128x1, .i32⟩
  | 59 => ⟨S128x1, .i32⟩
  | 60 => ⟨S128x1, .i32⟩
  | 61 => ⟨S_, .i32⟩
  | 62 => ⟨S128x1, .i32⟩
  | 63 => ⟨S128x1, .i32⟩
  | 64 => ⟨S_, .i32⟩
  | 65 => ⟨S_, .i32⟩
  | 66 => ⟨S128x1, .i32⟩
  | 67 => ⟨S128x1, .i32⟩
  | 68 => ⟨S128x1, .i32⟩
  | 69 => ⟨S_, .i32⟩
  | 70 => ⟨S128x1, .i32⟩
  | 71 => ⟨S128x1, .i1⟩
  | 72 => ⟨S128x1, .i32⟩
  | 73 => ⟨S128x1, .i32⟩
  | 74 => ⟨S_, .i32⟩
  | 75 => ⟨S128x1, .i32⟩
  | 76 => ⟨S128x1, .i1⟩
  | 77 => ⟨S128x1, .i1⟩
  | 78 => ⟨S_, .i32⟩
  | 79 => ⟨S128x1, .i32⟩
  | 80 => ⟨S128x1, .i32⟩
  | 81 => ⟨S128x1, .i32⟩
  | _ => ⟨S4x32x64, .f32⟩

abbrev hbmTy (i : Nat) : BufTy := match i / 128 with
  | 0 => hbmTy0_0 i
  | 1 => hbmTy0_1 i
  | 2 => hbmTy0_2 i
  | _ => ⟨S4x32x64, .f32⟩

abbrev bufTy : (tb : Table) → Fin (tcTables nBuf tb) → BufTy
  | .hbm, ⟨i, _⟩ => hbmTy i
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_cst : Ref sig .tc := ⟨.hbm, 37, rfl⟩
abbrev main_call1_v3 : Ref sig .tc := ⟨.hbm, 38, rfl⟩
abbrev main_call1_v4 : Ref sig .tc := ⟨.hbm, 39, rfl⟩
abbrev main_call1_cst_0 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_v15 : Ref sig .tc := ⟨.hbm, 52, rfl⟩
abbrev main_call1_v16 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_4 : Ref sig .tc := ⟨.hbm, 60, rfl⟩
abbrev main_v25 : Ref sig .tc := ⟨.hbm, 61, rfl⟩
abbrev main_v26 : Ref sig .tc := ⟨.hbm, 62, rfl⟩
abbrev main_cst_5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_7 : Ref sig .tc := ⟨.hbm, 76, rfl⟩
abbrev main_v38 : Ref sig .tc := ⟨.hbm, 77, rfl⟩
abbrev main_v39 : Ref sig .tc := ⟨.hbm, 78, rfl⟩
abbrev main_cst_8 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c : Ref sig .tc := ⟨.hbm, 87, rfl⟩
abbrev main_c_10 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v46 : Ref sig .tc := ⟨.hbm, 94, rfl⟩
abbrev main_v47 : Ref sig .tc := ⟨.hbm, 95, rfl⟩
abbrev main_c_11 : Ref sig .tc := ⟨.hbm, 96, rfl⟩
abbrev main_c_12 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v48 : Ref sig .tc := ⟨.hbm, 103, rfl⟩
abbrev main_v49 : Ref sig .tc := ⟨.hbm, 104, rfl⟩
abbrev main_cst_13 : Ref sig .tc := ⟨.hbm, 105, rfl⟩
abbrev main_v50 : Ref sig .tc := ⟨.hbm, 106, rfl⟩
abbrev main_v51 : Ref sig .tc := ⟨.hbm, 107, rfl⟩
abbrev main_cst_14 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_15 : Ref sig .tc := ⟨.hbm, 112, rfl⟩
abbrev main_v55 : Ref sig .tc := ⟨.hbm, 113, rfl⟩
abbrev main_v56 : Ref sig .tc := ⟨.hbm, 114, rfl⟩
abbrev main_cst_16 : Ref sig .tc := ⟨.hbm, 115, rfl⟩
abbrev main_call4_v0 : Ref sig .tc := ⟨.hbm, 116, rfl⟩
abbrev main_call4_v1 : Ref sig .tc := ⟨.hbm, 117, rfl⟩
abbrev main_v57 : Ref sig .tc := ⟨.hbm, 118, rfl⟩
abbrev main_cst_17 : Ref sig .tc := ⟨.hbm, 119, rfl⟩
abbrev main_v58 : Ref sig .tc := ⟨.hbm, 120, rfl⟩
abbrev main_v59 : Ref sig .tc := ⟨.hbm, 121, rfl⟩
abbrev main_cst_18 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_19 : Ref sig .tc := ⟨.hbm, 126, rfl⟩
abbrev main_call5_v0 : Ref sig .tc := ⟨.hbm, 127, rfl⟩
abbrev main_call5_v1 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_cst_20 : Ref sig .tc := ⟨.hbm, 135, rfl⟩
abbrev main_v69 : Ref sig .tc := ⟨.hbm, 136, rfl⟩
abbrev main_v70 : Ref sig .tc := ⟨.hbm, 137, rfl⟩
abbrev main_cst_21 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_cst_22 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_23 : Ref sig .tc := ⟨.hbm, 151, rfl⟩
abbrev main_v82 : Ref sig .tc := ⟨.hbm, 152, rfl⟩
abbrev main_v83 : Ref sig .tc := ⟨.hbm, 153, rfl⟩
abbrev main_cst_24 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_cst_25 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_c_26 : Ref sig .tc := ⟨.hbm, 162, rfl⟩
abbrev main_c_27 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_v90 : Ref sig .tc := ⟨.hbm, 169, rfl⟩
abbrev main_v91 : Ref sig .tc := ⟨.hbm, 170, rfl⟩
abbrev main_c_28 : Ref sig .tc := ⟨.hbm, 171, rfl⟩
abbrev main_c_29 : Ref sig .tc := ⟨.hbm, 172, rfl⟩
abbrev main_call7_v0 : Ref sig .tc := ⟨.hbm, 173, rfl⟩
abbrev main_call7_v1 : Ref sig .tc := ⟨.hbm, 174, rfl⟩
abbrev main_call7_v2 : Ref sig .tc := ⟨.hbm, 175, rfl⟩
abbrev main_call7_v3 : Ref sig .tc := ⟨.hbm, 176, rfl⟩
abbrev main_call7_v4 : Ref sig .tc := ⟨.hbm, 177, rfl⟩
abbrev main_v92 : Ref sig .tc := ⟨.hbm, 178, rfl⟩
abbrev main_v93 : Ref sig .tc := ⟨.hbm, 179, rfl⟩
abbrev main_cst_30 : Ref sig .tc := ⟨.hbm, 180, rfl⟩
abbrev main_v94 : Ref sig .tc := ⟨.hbm, 181, rfl⟩
abbrev main_v95 : Ref sig .tc := ⟨.hbm, 182, rfl⟩
abbrev main_cst_31 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_cst_32 : Ref sig .tc := ⟨.hbm, 187, rfl⟩
abbrev main_v99 : Ref sig .tc := ⟨.hbm, 188, rfl⟩
abbrev main_v100 : Ref sig .tc := ⟨.hbm, 189, rfl⟩
abbrev main_cst_33 : Ref sig .tc := ⟨.hbm, 190, rfl⟩
abbrev main_call8_v0 : Ref sig .tc := ⟨.hbm, 191, rfl⟩
abbrev main_call8_v1 : Ref sig .tc := ⟨.hbm, 192, rfl⟩
abbrev main_v101 : Ref sig .tc := ⟨.hbm, 193, rfl⟩
abbrev main_cst_34 : Ref sig .tc := ⟨.hbm, 194, rfl⟩
abbrev main_v102 : Ref sig .tc := ⟨.hbm, 195, rfl⟩
abbrev main_v103 : Ref sig .tc := ⟨.hbm, 196, rfl⟩
abbrev main_cst_35 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_cst_36 : Ref sig .tc := ⟨.hbm, 201, rfl⟩
abbrev main_call9_v0 : Ref sig .tc := ⟨.hbm, 202, rfl⟩
abbrev main_call9_v1 : Ref sig .tc := ⟨.hbm, 203, rfl⟩
abbrev main_v107 : Ref sig .tc := ⟨.hbm, 204, rfl⟩
abbrev main_v108 : Ref sig .tc := ⟨.hbm, 205, rfl⟩
abbrev main_cst_37 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_38 : Ref sig .tc := ⟨.hbm, 210, rfl⟩
abbrev main_v112 : Ref sig .tc := ⟨.hbm, 211, rfl⟩
abbrev main_v113 : Ref sig .tc := ⟨.hbm, 212, rfl⟩
abbrev main_cst_39 : Ref sig .tc := ⟨.hbm, 213, rfl⟩
abbrev main_v114 : Ref sig .tc := ⟨.hbm, 214, rfl⟩
abbrev main_v115 : Ref sig .tc := ⟨.hbm, 215, rfl⟩
abbrev main_cst_40 : Ref sig .tc := ⟨.hbm, 216, rfl⟩
abbrev main_call10_v0 : Ref sig .tc := ⟨.hbm, 217, rfl⟩
abbrev main_call10_v1 : Ref sig .tc := ⟨.hbm, 218, rfl⟩
abbrev main_v116 : Ref sig .tc := ⟨.hbm, 219, rfl⟩
abbrev main_cst_41 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_c_42 : Ref sig .tc := ⟨.hbm, 227, rfl⟩
abbrev main_v123 : Ref sig .tc := ⟨.hbm, 228, rfl⟩
abbrev main_v124 : Ref sig .tc := ⟨.hbm, 229, rfl⟩
abbrev main_cst_43 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_cst_44 : Ref sig .tc := ⟨.hbm, 235, rfl⟩
abbrev main_call11_v0 : Ref sig .tc := ⟨.hbm, 236, rfl⟩
abbrev main_call11_v1 : Ref sig .tc := ⟨.hbm, 237, rfl⟩
abbrev main_call11_v2 : Ref sig .tc := ⟨.hbm, 238, rfl⟩
abbrev main_v129 : Ref sig .tc := ⟨.hbm, 239, rfl⟩
abbrev main_v130 : Ref sig .tc := ⟨.hbm, 240, rfl⟩
abbrev main_cst_45 : Ref sig .tc := ⟨.hbm, 241, rfl⟩
abbrev main_v131 : Ref sig .tc := ⟨.hbm, 242, rfl⟩
abbrev main_v132 : Ref sig .tc := ⟨.hbm, 243, rfl⟩
abbrev main_cst_46 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_c_47 : Ref sig .tc := ⟨.hbm, 248, rfl⟩
abbrev main_call12_v0 : Ref sig .tc := ⟨.hbm, 249, rfl⟩
abbrev main_call12_v1 : Ref sig .tc := ⟨.hbm, 250, rfl⟩
abbrev main_call12_v2 : Ref sig .tc := ⟨.hbm, 251, rfl⟩
abbrev main_v136 : Ref sig .tc := ⟨.hbm, 252, rfl⟩
abbrev main_c_48 : Ref sig .tc := ⟨.hbm, 253, rfl⟩
abbrev main_v137 : Ref sig .tc := ⟨.hbm, 254, rfl⟩
abbrev main_v138 : Ref sig .tc := ⟨.hbm, 255, rfl⟩
abbrev main_c_49 : Ref sig .tc := ⟨.hbm, 256, rfl⟩
abbrev main_v139 : Ref sig .tc := ⟨.hbm, 257, rfl⟩
abbrev main_v140 : Ref sig .tc := ⟨.hbm, 258, rfl⟩
abbrev main_c_50 : Ref sig .tc := ⟨.hbm, 259, rfl⟩
abbrev main_call13_v0 : Ref sig .tc := ⟨.hbm, 260, rfl⟩
abbrev main_call13_v1 : Ref sig .tc := ⟨.hbm, 261, rfl⟩
abbrev main_call13_v2 : Ref sig .tc := ⟨.hbm, 262, rfl⟩
abbrev main_v141 : Ref sig .tc := ⟨.hbm, 263, rfl⟩
abbrev main_c_51 : Ref sig .tc := ⟨.hbm, 264, rfl⟩
abbrev main_v142 : Ref sig .tc := ⟨.hbm, 265, rfl⟩
abbrev main_v143 : Ref sig .tc := ⟨.hbm, 266, rfl⟩
abbrev main_cst_52 : Ref sig .tc := ⟨.hbm, 267, rfl⟩
abbrev main_v144 : Ref sig .tc := ⟨.hbm, 268, rfl⟩
abbrev main_v145 : Ref sig .tc := ⟨.hbm, 269, rfl⟩
abbrev main_cst_53 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_c_54 : Ref sig .tc := ⟨.hbm, 274, rfl⟩
abbrev main_call14_v0 : Ref sig .tc := ⟨.hbm, 275, rfl⟩
abbrev main_call14_v1 : Ref sig .tc := ⟨.hbm, 276, rfl⟩
abbrev main_call14_v2 : Ref sig .tc := ⟨.hbm, 277, rfl⟩
abbrev main_v149 : Ref sig .tc := ⟨.hbm, 278, rfl⟩
abbrev main_c_55 : Ref sig .tc := ⟨.hbm, 279, rfl⟩
abbrev main_v150 : Ref sig .tc := ⟨.hbm, 280, rfl⟩
abbrev main_v151 : Ref sig .tc := ⟨.hbm, 281, rfl⟩
abbrev main_c_56 : Ref sig .tc := ⟨.hbm, 282, rfl⟩
abbrev main_v152 : Ref sig .tc := ⟨.hbm, 283, rfl⟩
abbrev main_v153 : Ref sig .tc := ⟨.hbm, 284, rfl⟩
abbrev main_c_57 : Ref sig .tc := ⟨.hbm, 285, rfl⟩
abbrev main_call15_v0 : Ref sig .tc := ⟨.hbm, 286, rfl⟩
abbrev main_call15_v1 : Ref sig .tc := ⟨.hbm, 287, rfl⟩
abbrev main_call15_v2 : Ref sig .tc := ⟨.hbm, 288, rfl⟩
abbrev main_v154 : Ref sig .tc := ⟨.hbm, 289, rfl⟩
abbrev main_c_58 : Ref sig .tc := ⟨.hbm, 290, rfl⟩
abbrev main_v155 : Ref sig .tc := ⟨.hbm, 291, rfl⟩
abbrev main_v156 : Ref sig .tc := ⟨.hbm, 292, rfl⟩
abbrev main_c_59 : Ref sig .tc := ⟨.hbm, 293, rfl⟩
abbrev main_v157 : Ref sig .tc := ⟨.hbm, 294, rfl⟩
abbrev main_v158 : Ref sig .tc := ⟨.hbm, 295, rfl⟩
abbrev main_c_60 : Ref sig .tc := ⟨.hbm, 296, rfl⟩
abbrev main_v159 : Ref sig .tc := ⟨.hbm, 297, rfl⟩
abbrev main_v160 : Ref sig .tc := ⟨.hbm, 298, rfl⟩
abbrev main_c_61 : Ref sig .tc := ⟨.hbm, 299, rfl⟩
abbrev main_call16_v0 : Ref sig .tc := ⟨.hbm, 300, rfl⟩
abbrev main_call16_v1 : Ref sig .tc := ⟨.hbm, 301, rfl⟩
abbrev main_call16_v2 : Ref sig .tc := ⟨.hbm, 302, rfl⟩
abbrev main_call16_v3 : Ref sig .tc := ⟨.hbm, 303, rfl⟩
abbrev main_call16_v4 : Ref sig .tc := ⟨.hbm, 304, rfl⟩
abbrev main_call16_v5 : Ref sig .tc := ⟨.hbm, 305, rfl⟩
abbrev main_call16_v6 : Ref sig .tc := ⟨.hbm, 306, rfl⟩
abbrev main_call16_v7 : Ref sig .tc := ⟨.hbm, 307, rfl⟩
abbrev main_call16_v8 : Ref sig .tc := ⟨.hbm, 308, rfl⟩
abbrev main_call16_c : Ref sig .tc := ⟨.hbm, 309, rfl⟩
abbrev main_call16_v9 : Ref sig .tc := ⟨.hbm, 310, rfl⟩
abbrev main_call16_v10 : Ref sig .tc := ⟨.hbm, 311, rfl⟩
abbrev main_call16_v11 : Ref sig .tc := ⟨.hbm, 312, rfl⟩
abbrev main_call16_c_0 : Ref sig .tc := ⟨.hbm, 313, rfl⟩
abbrev main_call16_v12 : Ref sig .tc := ⟨.hbm, 314, rfl⟩
abbrev main_call16_v13 : Ref sig .tc := ⟨.hbm, 315, rfl⟩
abbrev main_v161 : Ref sig .tc := ⟨.hbm, 316, rfl⟩
abbrev main_c_62 : Ref sig .tc := ⟨.hbm, 317, rfl⟩
abbrev main_v162 : Ref sig .tc := ⟨.hbm, 318, rfl⟩
abbrev main_v163 : Ref sig .tc := ⟨.hbm, 319, rfl⟩
abbrev main_c_63 : Ref sig .tc := ⟨.hbm, 320, rfl⟩
abbrev main_call17_v0 : Ref sig .tc := ⟨.hbm, 321, rfl⟩
abbrev main_call17_v1 : Ref sig .tc := ⟨.hbm, 322, rfl⟩
abbrev main_call17_v2 : Ref sig .tc := ⟨.hbm, 323, rfl⟩
abbrev main_call17_v3 : Ref sig .tc := ⟨.hbm, 324, rfl⟩
abbrev main_call17_v4 : Ref sig .tc := ⟨.hbm, 325, rfl⟩
abbrev main_call17_v5 : Ref sig .tc := ⟨.hbm, 326, rfl⟩
abbrev main_call17_v6 : Ref sig .tc := ⟨.hbm, 327, rfl⟩
abbrev main_call17_v7 : Ref sig .tc := ⟨.hbm, 328, rfl⟩
abbrev main_call17_v8 : Ref sig .tc := ⟨.hbm, 329, rfl⟩
abbrev main_call17_c : Ref sig .tc := ⟨.hbm, 330, rfl⟩
abbrev main_call17_v9 : Ref sig .tc := ⟨.hbm, 331, rfl⟩
abbrev main_call17_v10 : Ref sig .tc := ⟨.hbm, 332, rfl⟩
abbrev main_call17_v11 : Ref sig .tc := ⟨.hbm, 333, rfl⟩
abbrev main_call17_c_0 : Ref sig .tc := ⟨.hbm, 334, rfl⟩
abbrev main_call17_v12 : Ref sig .tc := ⟨.hbm, 335, rfl⟩
abbrev main_call17_v13 : Ref sig .tc := ⟨.hbm, 336, rfl⟩
abbrev main_v164 : Ref sig .tc := ⟨.hbm, 337, rfl⟩

abbrev nD : Nat := 1
abbrev τ : Topo := Topo.v7x

variable {F : FTy → Type} [FloatOps F]
-- ==== Proof.Own.lean ====
/-
  A vector-memory buffer held by one tile, spelled by what its memref reads: `own c m a` is the whole of the memref's
  elements, at full share, reading `a`. The steps of a tile's body (a load of sixteen consecutive words, a gather of sixteen
  indices, a store of sixteen consecutive words) are stated over it, the contents of a one-axis buffer given as a
  function of the position (`arr`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The memref's elements, outright, reading `a`. -/
def own (c : Thread nD τ) {sp : Space} {s : Shape} {e : EltTy} (m : Memref sig c.2.kind sp s e) (a : s.Idx → Elt F e) : sProp 𝕄 :=
  iprop(∃ f : Buf (Elt F) (m.view.loc c), ⌜m.view.read (Elt F) f = a⌝ ∗ (m.view.loc c ↦[m.view.set]{fullShare} f))

/-- A one-axis buffer's contents as a function of the position. -/
def arr {α : Type} {d : Fin 1 → ℕ} (g : ℕ → α) : (⟨1, d⟩ : Shape).Idx → α := fun y => g (y 0).val

theorem arr_emb {β : Type} (g : ℕ → β) {off : Fin 1 → ℕ} {d : Fin 1 → ℕ} (inb : ∀ a, off a + S16.size a ≤ (⟨1, d⟩ : Shape).size a) (x : S16.Idx) :
    arr g ((Rect.unit (s := ⟨1, d⟩) off S16.size inb).emb x) = g (off 0 + (x 0).val) := by
  unfold arr; congr 1
  show off 0 + 1 * (x 0).val = _
  omega

variable {Λ : Labels} {defs : Defs nD τ sig (Elt F) Λ} (𝒱 : Variants) (c : Thread nD τ) (bd : Option 𝒱.V) (E : Set ℕ)
variable {α : Type} {d : Fin 1 → ℕ} {e : EltTy}

theorem own_load {cs : CoreSpace} {m : Memref sig c.2.kind cs ⟨1, d⟩ e} {off : Fin 1 → ℕ}
    (inb : ∀ a, off a + S16.size a ≤ (⟨1, d⟩ : Shape).size a) {hl : m.view.LoadsAt (Rect.unit (s := ⟨1, d⟩) off S16.size inb).toLoadRect}
    {k : (S16.Idx → Elt F e) → Prog (TpuEff nD τ sig (Elt F) Λ c.2) α} {Q : α → sProp 𝕄} (g : ℕ → Elt F e) :
    own c m (arr g)
      ⊢ iprop((own c m (arr g) -∗ wp frame (wpE defs 𝒱 c bd) E (k (fun x => g (off 0 + (x 0).val))) Q)
        -∗ wp frame (wpE defs 𝒱 c bd) E (.op (.load m (Rect.unit (s := ⟨1, d⟩) off S16.size inb).toLoadRect hl) k) Q) := by
  unfold own
  iintro ⟨%f, %hf, H⟩ Hk
  ihave Hw := (wp_load 𝒱 c bd E (hl := hl) (k := k) (Q := Q) (q := fullShare) (f := f) (m.view.setOn_subset_set _)) $$ H
  iapply Hw
  iintro H
  have e1 : m.view.readAt (Elt F) (Rect.unit (s := ⟨1, d⟩) off S16.size inb).toLoadRect f = fun x => g (off 0 + (x 0).val) := by
    funext x
    exact (congrFun hf _).trans (arr_emb g inb x)
  rw [e1]
  iapply Hk
  iexists f
  isplitl []
  · ipureintro; exact hf
  · iexact H

theorem own_gather {m : Memref sig c.2.kind .vmem ⟨1, d⟩ e} {v : IVec S16 32}
    {h : ∀ a x, ((![v] : Fin 1 → IVec S16 32) a x).toNat < (⟨1, d⟩ : Shape).size a} {hl : m.view.Loads}
    {k : (S16.Idx → Elt F e) → Prog (TpuEff nD τ sig (Elt F) Λ c.2) α} {Q : α → sProp 𝕄} (g : ℕ → Elt F e) :
    own c m (arr g)
      ⊢ iprop((own c m (arr g) -∗ wp frame (wpE defs 𝒱 c bd) E (k (fun x => g (v x).toNat)) Q)
        -∗ wp frame (wpE defs 𝒱 c bd) E (SparseCore.vectorLoadIdx m ![v] h hl >>= k) Q) := by
  unfold own
  iintro ⟨%f, %hf, H⟩ Hk
  ihave Hw := (SparseCore.wp_vectorLoadIdx 𝒱 c bd E (h := h) (hl := hl) (k := k) (Q := Q) (q := fullShare) (f := f) (S := m.view.set) (by
    rw [View.set_slice]; exact m.view.setOn_subset_set _)) $$ H
  iapply Hw
  iintro H
  have e1 : loadIdx ((m.access (.whole ⟨1, d⟩)).read (Elt F) f) ![v] h = fun x => g (v x).toNat := by
    funext x
    show m.view.read (Elt F) f ((Rect.whole (⟨1, d⟩ : Shape)).emb _) = _
    rw [hf, Rect.emb_whole_apply]; rfl
  rw [e1]
  iapply Hk
  iexists f
  isplitl []
  · ipureintro; exact hf
  · iexact H

/-- A store of sixteen consecutive words at `off`: the buffer reads `g'`, which is `w` there and `g` elsewhere. -/
theorem own_store {cs : CoreSpace} {m : Memref sig c.2.kind cs ⟨1, d⟩ e} {off : Fin 1 → ℕ}
    (inb : ∀ a, off a + S16.size a ≤ (⟨1, d⟩ : Shape).size a) {w : S16.Idx → Elt F e}
    {hx : (m.access (Rect.unit (s := ⟨1, d⟩) off S16.size inb)).Stores Finset.univ}
    {hm : (Finset.univ : Finset S16.Idx) = Finset.univ ∨ ∀ a, (Rect.unit (s := ⟨1, d⟩) off S16.size inb).stride a = 1}
    {k : PUnit → Prog (TpuEff nD τ sig (Elt F) Λ c.2) α} {Q : α → sProp 𝕄} (g g' : ℕ → Elt F e)
    (hin : ∀ x : S16.Idx, g' (off 0 + (x 0).val) = w x)
    (hout : ∀ p, (p < off 0 ∨ off 0 + 16 ≤ p) → p < d 0 → g' p = g p) :
    own c m (arr g)
      ⊢ iprop((own c m (arr g') -∗ wp frame (wpE defs 𝒱 c bd) E (k ⟨⟩) Q)
        -∗ wp frame (wpE defs 𝒱 c bd) E (.op (.store m (Rect.unit (s := ⟨1, d⟩) off S16.size inb) w Finset.univ hx hm) k) Q) := by
  unfold own
  iintro ⟨%f, %hf, H⟩ Hk
  ihave Hw := (wp_store 𝒱 c bd E (hx := hx) (hm := hm) (k := k) (Q := Q) (w := w) (S := m.view.set) (f := f) (by
    rw [View.setOn_univ, View.set_slice]; exact m.view.setOn_subset_set _)) $$ H
  iapply Hw
  iintro H
  iapply Hk
  iexists ((m.access (Rect.unit (s := ⟨1, d⟩) off S16.size inb)).write (Elt F) f w Finset.univ)
  isplitl []
  · ipureintro
    funext y
    by_cases hy : ∃ x : S16.Idx, (Rect.unit (s := ⟨1, d⟩) off S16.size inb).emb x = y
    · obtain ⟨x, rfl⟩ := hy
      refine (View.read_slice_write_emb _ _ _ (Finset.mem_univ x)).trans ?_
      rw [arr_emb g' inb x]; exact (hin x).symm
    · refine (View.read_slice_write_of_not_mem _ _ _ _ ?_).trans ?_
      · rw [Finset.mem_map]; rintro ⟨x, -, hx⟩; exact hy ⟨x, hx⟩
      · rw [hf]
        refine (hout _ ?_ (y 0).isLt).symm
        by_contra hc
        push Not at hc
        refine hy ⟨fun (_ : Fin 1) => ⟨(y 0).val - off 0, (by obtain rfl : ‹Fin 1› = 0 := Subsingleton.elim _ _; have := hc.2; show (y 0).val - off 0 < 16; omega)⟩, ?_⟩
        · funext a
          obtain rfl : a = 0 := Subsingleton.elim _ _
          apply Fin.ext
          show off 0 + 1 * ((y 0).val - off 0) = _
          omega
  · iexact H

end Cert.Proof.Tile
-- ==== Proof.Obj.lean ====
/-
  The sampled object, once: the body's repeated pieces (a checked gather, a channel of a block, a block, a row, an object's
  box) as programs over whatever buffers, bounds, positions and checks a printed copy has, and what running each leaves.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Own

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The values -/

/-- The tables a tile samples by: the two horizontal and the two vertical source positions of a pixel (the vertical ones
    already times the patch's width), and the weight of each. -/
structure Tabs (F : FTy → Type) where
  X0 : ℕ → BitVec 32
  X1 : ℕ → BitVec 32
  A0 : ℕ → F .f32
  A1 : ℕ → F .f32
  Y0 : ℕ → BitVec 32
  Y1 : ℕ → BitVec 32
  B0 : ℕ → F .f32
  B1 : ℕ → F .f32

/-- The four source positions are inside a 64 by 64 patch. -/
structure Tabs.Ok (T : Tabs F) : Prop where
  x0 : ∀ k < 7168, (T.X0 k).toNat ≤ 63
  x1 : ∀ k < 7168, (T.X1 k).toNat ≤ 63
  y0 : ∀ k < 7168, (T.Y0 k).toNat ≤ 4032
  y1 : ∀ k < 7168, (T.Y1 k).toNat ≤ 4032

/-- One pixel's sample of the patch channel at `co`, by the tables at the row `yi` and the column `xi`. -/
def samp (T : Tabs F) (P : ℕ → F .f32) (ws : F .f32) (co : BitVec 32) (yi xi : ℕ) : F .f32 :=
  FloatOps.addf
    (FloatOps.mulf (FloatOps.mulf (T.B0 yi) ws)
      (FloatOps.addf (FloatOps.mulf (T.A0 xi) (P (T.Y0 yi + T.X0 xi + co).toNat)) (FloatOps.mulf (T.A1 xi) (P (T.Y0 yi + T.X1 xi + co).toNat))))
    (FloatOps.mulf (FloatOps.mulf (T.B1 yi) ws)
      (FloatOps.addf (FloatOps.mulf (T.A0 xi) (P (T.Y1 yi + T.X0 xi + co).toNat)) (FloatOps.mulf (T.A1 xi) (P (T.Y1 yi + T.X1 xi + co).toNat))))

open Classical in
/-- `g` with `r` added at the positions of `U`. -/
def upd (U : ℕ → Prop) (g r : ℕ → F .f32) : ℕ → F .f32 := fun p => if U p then FloatOps.addf (g p) (r p) else g p

/-! ## The body's repeated pieces -/

/-- The check of a gather's indices against a buffer of `n` words, as the program states it. -/
structure Chk (n : ℕ) where
  P : IVec S16 32 → Prop
  D : ∀ v, Decidable (P v)
  inb : ∀ v, P v → ∀ x, (v x).toNat < n
  ok : ∀ v, (∀ x, (v x).toNat < n) → P v

section Pieces

variable {Λ : Labels} {pr : Proc τ}

/-- A checked gather of the patch. -/
def gat (pm : Memref sig pr.kind .vmem S24576 .f32) (K : Chk 24576) (v : IVec S16 32) : Prog (TpuEff nD τ sig (Elt F) Λ pr) (Vec F S16 .f32) := do
  have h : K.P v := (← Prog.lift (TpuEff.assume (K.P v) (K.D v))).down
  SparseCore.vectorLoadIdx pm ![v] (fun a x => by rw [Fin.fin_one_eq_zero a]; exact K.inb v h x) (View.loads_vmem h_S24576)

/-- The four gathers of one channel, their weighted sum, added to sixteen words of the accumulator. -/
def chan (pm : Memref sig pr.kind .vmem S24576 .f32) (tm : Memref sig pr.kind .vmem S18816 .f32) (K0 K1 K2 K3 : Chk 24576) (co : BitVec 32)
    (y0 y1 x0 x1 : IVec S16 32) (a0 a1 b0 b1 : FVec F S16 .f32) (o : Fin 1 → ℕ) (ho : ∀ a, o a + S16.size a ≤ S18816.size a) :
    Prog (TpuEff nD τ sig (Elt F) Λ pr) PUnit := do
  let g00 ← gat pm K0 (addi (addi y0 x0) (broadcast S16 co))
  let g01 ← gat pm K1 (addi (addi y0 x1) (broadcast S16 co))
  let g10 ← gat pm K2 (addi (addi y1 x0) (broadcast S16 co))
  let g11 ← gat pm K3 (addi (addi y1 x1) (broadcast S16 co))
  let t ← Prog.lift (.load tm (Rect.unit (s := S18816) o S16.size ho).toLoadRect (View.loadsAt_vmem h_S16))
  let _ ← Prog.lift (.load tm (Rect.unit (s := S18816) o S16.size ho).toLoadRect (View.loadsAt_vmem h_S16))
  Prog.lift (.store tm (Rect.unit (s := S18816) o S16.size ho)
    (addf t (addf (mulf b0 (addf (mulf a0 g00) (mulf a1 g01))) (mulf b1 (addf (mulf a0 g10) (mulf a1 g11))))) Finset.univ
    (View.stores_vmem_bits_univ h_S16 rfl) (.inl rfl))

/-- The tile's buffers a sampled object is read from and added into. -/
structure Bufs (pr : Proc τ) where
  x0 : Memref sig pr.kind .vmem S7168 .i32
  x1 : Memref sig pr.kind .vmem S7168 .i32
  a0 : Memref sig pr.kind .vmem S7168 .f32
  a1 : Memref sig pr.kind .vmem S7168 .f32
  y0 : Memref sig pr.kind .vmem S7168 .i32
  y1 : Memref sig pr.kind .vmem S7168 .i32
  b0 : Memref sig pr.kind .vmem S7168 .f32
  b1 : Memref sig pr.kind .vmem S7168 .f32
  pm : Memref sig pr.kind .vmem S24576 .f32

/-- One sixteen-pixel block of one row, all three channels. -/
def colBody (M : Bufs pr) (tm : Memref sig pr.kind .vmem S18816 .f32) (K : Fin 12 → Chk 24576) (co : Fin 3 → BitVec 32)
    (y0 y1 : IVec S16 32) (b0 b1 : FVec F S16 .f32) (o5 : Fin 1 → ℕ) (h5 : ∀ a, o5 a + S16.size a ≤ S7168.size a)
    (o6 o7 o8 : Fin 1 → ℕ) (h6 : ∀ a, o6 a + S16.size a ≤ S18816.size a) (h7 : ∀ a, o7 a + S16.size a ≤ S18816.size a)
    (h8 : ∀ a, o8 a + S16.size a ≤ S18816.size a) : Prog (TpuEff nD τ sig (Elt F) Λ pr) PUnit := do
  let x0 ← Prog.lift (.load M.x0 (Rect.unit (s := S7168) o5 S16.size h5).toLoadRect (View.loadsAt_vmem h_S16))
  let x1 ← Prog.lift (.load M.x1 (Rect.unit (s := S7168) o5 S16.size h5).toLoadRect (View.loadsAt_vmem h_S16))
  let a0 ← Prog.lift (.load M.a0 (Rect.unit (s := S7168) o5 S16.size h5).toLoadRect (View.loadsAt_vmem h_S16))
  let a1 ← Prog.lift (.load M.a1 (Rect.unit (s := S7168) o5 S16.size h5).toLoadRect (View.loadsAt_vmem h_S16))
  chan M.pm tm (K 0) (K 1) (K 2) (K 3) (co 0) y0 y1 x0 x1 a0 a1 b0 b1 o6 h6
  chan M.pm tm (K 4) (K 5) (K 6) (K 7) (co 1) y0 y1 x0 x1 a0 a1 b0 b1 o7 h7
  chan M.pm tm (K 8) (K 9) (K 10) (K 11) (co 2) y0 y1 x0 x1 a0 a1 b0 b1 o8 h8
  pure ⟨⟩

/-- The loop bounds, positions and their evidence of one row of an object's box. -/
structure RowArgs (F : FTy → Type) (Λ : Labels) (pr : Proc τ) where
  KR : Chk 7168
  K : Fin 12 → Chk 24576
  lp : Scf.Loop 32
  hlp : lp.OK
  lr : Scf.Loop 32
  hlr : lr.OK
  o5 : Fin lp.trips → Fin 1 → ℕ
  h5 : ∀ l a, o5 l a + S16.size a ≤ S7168.size a
  o6 : Fin lp.trips → Fin 1 → ℕ
  h6 : ∀ l a, o6 l a + S16.size a ≤ S18816.size a
  o7 : Fin lp.trips → Fin 1 → ℕ
  h7 : ∀ l a, o7 l a + S16.size a ≤ S18816.size a
  o8 : Fin lp.trips → Fin 1 → ℕ
  h8 : ∀ l a, o8 l a + S16.size a ≤ S18816.size a
  rem : IVec S16 32 → IVec S16 32 → FVec F S16 .f32 → FVec F S16 .f32 → Fin lr.trips → PUnit.{1} → Prog (TpuEff nD τ sig (Elt F) Λ pr) PUnit

/-- One row of an object's box. -/
def rowBody (M : Bufs pr) (tm : Memref sig pr.kind .vmem S18816 .f32) (co : Fin 3 → BitVec 32) (ws : F .f32) (sy : BitVec 32)
    (R : RowArgs F Λ pr) : Prog (TpuEff nD τ sig (Elt F) Λ pr) PUnit := do
  have h : R.KR.P (broadcast S16 sy) := (← Prog.lift (TpuEff.assume (R.KR.P (broadcast S16 sy)) (R.KR.D (broadcast S16 sy)))).down
  let y0 ← SparseCore.vectorLoadIdx M.y0 ![broadcast S16 sy] (fun a x => by rw [Fin.fin_one_eq_zero a]; exact R.KR.inb _ h x) (View.loads_vmem h_S7168)
  let y1 ← SparseCore.vectorLoadIdx M.y1 ![broadcast S16 sy] (fun a x => by rw [Fin.fin_one_eq_zero a]; exact R.KR.inb _ h x) (View.loads_vmem h_S7168)
  let b0 ← SparseCore.vectorLoadIdx M.b0 ![broadcast S16 sy] (fun a x => by rw [Fin.fin_one_eq_zero a]; exact R.KR.inb _ h x) (View.loads_vmem h_S7168)
  let b1 ← SparseCore.vectorLoadIdx M.b1 ![broadcast S16 sy] (fun a x => by rw [Fin.fin_one_eq_zero a]; exact R.KR.inb _ h x) (View.loads_vmem h_S7168)
  let _ ← Scf.Loop.for R.lp R.hlp PUnit.unit fun l _ =>
    colBody M tm R.K co y0 y1 (mulf b0 (broadcast S16 ws)) (mulf b1 (broadcast S16 ws)) (R.o5 l) (R.h5 l) (R.o6 l) (R.o7 l) (R.o8 l) (R.h6 l) (R.h7 l) (R.h8 l)
  let _ ← Scf.Loop.for R.lr R.hlr PUnit.unit (R.rem y0 y1 b0 b1)
  pure ⟨⟩

/-- An object's box, row by row. -/
def objBody (M : Bufs pr) (tm : Memref sig pr.kind .vmem S18816 .f32) (co : Fin 3 → BitVec 32) (ws : F .f32)
    (lp : Scf.Loop 32) (hlp : lp.OK) (lr : Scf.Loop 32) (hlr : lr.OK) (sy : Fin lp.trips → BitVec 32) (R : Fin lp.trips → RowArgs F Λ pr)
    (rem : Fin lr.trips → PUnit.{1} → Prog (TpuEff nD τ sig (Elt F) Λ pr) PUnit) : Prog (TpuEff nD τ sig (Elt F) Λ pr) PUnit := do
  let _ ← Scf.Loop.for lp hlp PUnit.unit fun k _ => rowBody M tm co ws (sy k) (R k)
  Scf.Loop.for lr hlr PUnit.unit rem

end Pieces

end Cert.Proof.Tile
-- ==== Proof.ObjRun.lean ====
/-
  What running a sampled object's pieces leaves in the accumulator: each is a step from the buffers it holds to the same
  buffers, the accumulator's words under the piece's positions having the samples added.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Obj

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section

variable {Λ : Labels} {defs : Defs nD τ sig (Elt F) Λ} (𝒱 : Variants) (c : Thread nD τ) (bd : Option 𝒱.V) (E : Set ℕ)
variable {α : Type}

/-- What `Z` is for: while it is held, a gather from the patch buffer at positions of the half that starts at `boff` reads `P`. -/
def PmRule (defs : Defs nD τ sig (Elt F) Λ) (pm : Memref sig c.2.kind .vmem S24576 .f32) (Z : sProp 𝕄) (P : ℕ → F .f32) (boff : ℕ) : Prop :=
  ∀ (v : IVec S16 32) (h : ∀ a x, ((![v] : Fin 1 → IVec S16 32) a x).toNat < S24576.size a) (α : Type)
    (k : Vec F S16 .f32 → Prog (TpuEff nD τ sig (Elt F) Λ c.2) α) (Φ : α → sProp 𝕄),
    (∀ x, boff ≤ (v x).toNat ∧ (v x).toNat < boff + 12288) →
    (Z ⊢ iprop((Z -∗ wp frame (wpE defs 𝒱 c bd) E (k (fun x => P (v x).toNat)) Φ)
      -∗ wp frame (wpE defs 𝒱 c bd) E (SparseCore.vectorLoadIdx pm ![v] h (View.loads_vmem h_S24576) >>= k) Φ))

variable {pm : Memref sig c.2.kind .vmem S24576 .f32} {boff : ℕ}

theorem wp_gat (K : Chk 24576) (v : IVec S16 32) (P : ℕ → F .f32) {Z : sProp 𝕄} (hZ : PmRule 𝒱 c bd E defs pm Z P boff) (hb : boff ≤ 12288)
    (hv : ∀ x, boff ≤ (v x).toNat ∧ (v x).toNat < boff + 12288) {k : Vec F S16 .f32 → Prog (TpuEff nD τ sig (Elt F) Λ c.2) α} {Φ : α → sProp 𝕄} :
    Z
      ⊢ iprop((Z -∗ wp frame (wpE defs 𝒱 c bd) E (k (fun x => P (v x).toNat)) Φ)
        -∗ wp frame (wpE defs 𝒱 c bd) E (gat pm K v >>= k) Φ) := by
  rw [show (gat pm K v >>= k) = Prog.op (TpuEff.assume (K.P v) (K.D v)) (fun h => SparseCore.vectorLoadIdx pm ![v]
    (fun a x => by rw [Fin.fin_one_eq_zero a]; exact K.inb v h.down x) (View.loads_vmem h_S24576) >>= k) from rfl,
    wp_assume_of _ _ _ _ (K.ok v fun x => by have := hv x; omega)]
  exact hZ v _ α k Φ hv

theorem upd_in {U : ℕ → Prop} {g r : ℕ → F .f32} {p : ℕ} (h : U p) : upd U g r p = FloatOps.addf (g p) (r p) := if_pos h
theorem upd_out {U : ℕ → Prop} {g r : ℕ → F .f32} {p : ℕ} (h : ¬U p) : upd U g r p = g p := if_neg h

theorem upd_eq {U U' : ℕ → Prop} {g r : ℕ → F .f32} {p : ℕ} (h : U' p ↔ U p) : upd U' g r p = upd U g r p := by
  by_cases hu : U p
  · rw [upd_in hu, upd_in (h.2 hu)]
  · rw [upd_out hu, upd_out (fun h' => hu (h.1 h'))]

/-- The sum a channel's block adds at one lane. -/
def lane (P : ℕ → F .f32) (co y0 y1 x0 x1 : BitVec 32) (a0 a1 b0 b1 : F .f32) : F .f32 :=
  FloatOps.addf (FloatOps.mulf b0 (FloatOps.addf (FloatOps.mulf a0 (P (y0 + x0 + co).toNat)) (FloatOps.mulf a1 (P (y0 + x1 + co).toNat))))
    (FloatOps.mulf b1 (FloatOps.addf (FloatOps.mulf a0 (P (y1 + x0 + co).toNat)) (FloatOps.mulf a1 (P (y1 + x1 + co).toNat))))

theorem wp_chan (tm : Memref sig c.2.kind .vmem S18816 .f32) (K0 K1 K2 K3 : Chk 24576)
    (co : BitVec 32) (y0 y1 x0 x1 : IVec S16 32) (a0 a1 b0 b1 : FVec F S16 .f32) (o : Fin 1 → ℕ) (ho : ∀ a, o a + S16.size a ≤ S18816.size a)
    (P g r : ℕ → F .f32) (U U' : ℕ → Prop) {Z : sProp 𝕄} (hZ : PmRule 𝒱 c bd E defs pm Z P boff) (hb : boff ≤ 12288)
    (h0 : ∀ x, boff ≤ (y0 x + x0 x + co).toNat ∧ (y0 x + x0 x + co).toNat < boff + 12288) (h1 : ∀ x, boff ≤ (y0 x + x1 x + co).toNat ∧ (y0 x + x1 x + co).toNat < boff + 12288)
    (h2 : ∀ x, boff ≤ (y1 x + x0 x + co).toNat ∧ (y1 x + x0 x + co).toNat < boff + 12288) (h3 : ∀ x, boff ≤ (y1 x + x1 x + co).toNat ∧ (y1 x + x1 x + co).toNat < boff + 12288)
    (hU : ∀ p, p < 18816 → (U' p ↔ U p ∨ (o 0 ≤ p ∧ p < o 0 + 16))) (hd : ∀ p, o 0 ≤ p → p < o 0 + 16 → ¬U p)
    (hr : ∀ x : S16.Idx, r (o 0 + (x 0).val) = lane P co (y0 x) (y1 x) (x0 x) (x1 x) (a0 x) (a1 x) (b0 x) (b1 x))
    {k : PUnit → Prog (TpuEff nD τ sig (Elt F) Λ c.2) α} {Φ : α → sProp 𝕄} :
    iprop(Z ∗ own c tm (arr (upd U g r)))
      ⊢ iprop((Z -∗ own c tm (arr (upd U' g r)) -∗ wp frame (wpE defs 𝒱 c bd) E (k ⟨⟩) Φ)
        -∗ wp frame (wpE defs 𝒱 c bd) E (chan pm tm K0 K1 K2 K3 co y0 y1 x0 x1 a0 a1 b0 b1 o ho >>= k) Φ) := by
  have ho' : o 0 + 16 ≤ 18816 := ho 0
  unfold chan
  simp only [bind_assoc]
  iintro ⟨HP, HT⟩ Hk
  iapply (wp_gat 𝒱 c bd E K0 _ P hZ hb (fun x => h0 x)) $$ HP
  iintro HP
  iapply (wp_gat 𝒱 c bd E K1 _ P hZ hb (fun x => h1 x)) $$ HP
  iintro HP
  iapply (wp_gat 𝒱 c bd E K2 _ P hZ hb (fun x => h2 x)) $$ HP
  iintro HP
  iapply (wp_gat 𝒱 c bd E K3 _ P hZ hb (fun x => h3 x)) $$ HP
  iintro HP
  iapply (own_load (F := F) (e := .f32) 𝒱 c bd E ho (upd U g r)) $$ HT
  iintro HT
  iapply (own_load (F := F) (e := .f32) 𝒱 c bd E ho (upd U g r)) $$ HT
  iintro HT
  iapply (own_store (F := F) (e := .f32) 𝒱 c bd E ho (upd U g r) (upd U' g r) (fun x => by
    have hx : (x 0).val < 16 := (x 0).isLt
    have hp : o 0 + (x 0).val < 18816 := by omega
    rw [upd_in ((hU _ hp).2 (Or.inr ⟨by omega, by omega⟩)), hr x]
    show _ = FloatOps.addf (upd U g r (o 0 + (x 0).val)) (lane P co (y0 x) (y1 x) (x0 x) (x1 x) (a0 x) (a1 x) (b0 x) (b1 x))
    rw [upd_out (hd _ (by omega) (by omega))]) (fun p hp hlt => upd_eq (by
      rw [hU p hlt]; constructor
      · rintro (h | ⟨h, h'⟩)
        · exact h
        · omega
      · exact Or.inl))) $$ HT
  iintro HT
  iapply Hk $$ HP HT

/-- The tables and the patch, held. -/
def tabsOwn (M : Bufs c.2) (T : Tabs F) (Z : sProp 𝕄) : sProp 𝕄 :=
  iprop(own (e := .i32) c M.x0 (arr T.X0) ∗ own (e := .i32) c M.x1 (arr T.X1) ∗ own (e := .f32) c M.a0 (arr T.A0) ∗ own (e := .f32) c M.a1 (arr T.A1)
    ∗ own (e := .i32) c M.y0 (arr T.Y0) ∗ own (e := .i32) c M.y1 (arr T.Y1) ∗ own (e := .f32) c M.b0 (arr T.B0) ∗ own (e := .f32) c M.b1 (arr T.B1)
    ∗ Z)

/-- What an object adds at a position of the accumulator: `toff` is where its tables start, `blo` the tile's first row,
    `boff` where its patch starts. -/
def objR (T : Tabs F) (P : ℕ → F .f32) (ws : F .f32) (toff blo boff : ℕ) : ℕ → F .f32 := fun p =>
  samp T P ws (BitVec.ofNat 32 (boff + 4096 * (p / 6272))) (toff + blo + p / 224 % 28) (toff + p % 224)

theorem idx_lt {y x : BitVec 32} {n boff : ℕ} (hy : y.toNat ≤ 4032) (hx : x.toNat ≤ 63) (hb : boff ≤ 12288) (h0 : boff ≤ n) (hn : n ≤ boff + 8192) :
    boff ≤ (y + x + BitVec.ofNat 32 n).toNat ∧ (y + x + BitVec.ofNat 32 n).toNat < boff + 12288 := by
  rw [BitVec.toNat_add, BitVec.toNat_add, BitVec.toNat_ofNat]; omega

theorem wp_colBody (M : Bufs c.2) (tm : Memref sig c.2.kind .vmem S18816 .f32) (K : Fin 12 → Chk 24576) (co : Fin 3 → BitVec 32)
    (T : Tabs F) (hT : T.Ok) (P g : ℕ → F .f32) {Z : sProp 𝕄} (hZ : PmRule 𝒱 c bd E defs M.pm Z P boff) (ws : F .f32) (toff blo yy xb : ℕ) (U U' : ℕ → Prop)
    (hoff : toff ≤ 6944) (hblo : blo ≤ 196) (hboff : boff ≤ 12288) (hyy : yy < 28) (hxb : xb < 14)
    (hco : ∀ n : Fin 3, co n = BitVec.ofNat 32 (boff + 4096 * n.val))
    (o5 : Fin 1 → ℕ) (h5 : ∀ a, o5 a + S16.size a ≤ S7168.size a)
    (o6 o7 o8 : Fin 1 → ℕ) (h6 : ∀ a, o6 a + S16.size a ≤ S18816.size a) (h7 : ∀ a, o7 a + S16.size a ≤ S18816.size a)
    (h8 : ∀ a, o8 a + S16.size a ≤ S18816.size a)
    (e5 : o5 0 = toff + xb * 16) (e6 : o6 0 = yy * 224 + xb * 16) (e7 : o7 0 = 6272 + yy * 224 + xb * 16) (e8 : o8 0 = 12544 + yy * 224 + xb * 16)
    (hU : ∀ p, p < 18816 → (U' p ↔ U p ∨ (p / 224 % 28 = yy ∧ p % 224 / 16 = xb)))
    (hd : ∀ p, p < 18816 → p / 224 % 28 = yy → p % 224 / 16 = xb → ¬U p) :
    iprop(tabsOwn c M T Z ∗ own (e := .f32) c tm (arr (upd U g (objR T P ws toff blo boff))))
      ⊢ wp frame (wpE defs 𝒱 c bd) E (colBody M tm K co (fun _ => T.Y0 (toff + blo + yy)) (fun _ => T.Y1 (toff + blo + yy))
          (fun _ => FloatOps.mulf (T.B0 (toff + blo + yy)) ws) (fun _ => FloatOps.mulf (T.B1 (toff + blo + yy)) ws) o5 h5 o6 o7 o8 h6 h7 h8)
        (fun _ => iprop(tabsOwn c M T Z ∗ own (e := .f32) c tm (arr (upd U' g (objR T P ws toff blo boff))))) := by
  have hY0 := hT.y0 (toff + blo + yy) (by omega)
  have hY1 := hT.y1 (toff + blo + yy) (by omega)
  have hX0 : ∀ x : S16.Idx, (T.X0 (o5 0 + (x 0).val)).toNat ≤ 63 := fun x => hT.x0 _ (by have : (x 0).val < 16 := (x 0).isLt; omega)
  have hX1 : ∀ x : S16.Idx, (T.X1 (o5 0 + (x 0).val)).toNat ≤ 63 := fun x => hT.x1 _ (by have : (x 0).val < 16 := (x 0).isLt; omega)
  have hb : ∀ n : Fin 3, boff + 4096 * n.val ≤ boff + 8192 := fun n => by have := n.isLt; omega
  have hl : ∀ (n : Fin 3) (x : S16.Idx), objR T P ws toff blo boff (n.val * 6272 + yy * 224 + xb * 16 + (x 0).val)
      = lane P (co n) (T.Y0 (toff + blo + yy)) (T.Y1 (toff + blo + yy)) (T.X0 (o5 0 + (x 0).val)) (T.X1 (o5 0 + (x 0).val))
          (T.A0 (o5 0 + (x 0).val)) (T.A1 (o5 0 + (x 0).val)) (FloatOps.mulf (T.B0 (toff + blo + yy)) ws) (FloatOps.mulf (T.B1 (toff + blo + yy)) ws) := by
    intro n x
    have hx : (x 0).val < 16 := (x 0).isLt
    unfold objR
    rw [show (n.val * 6272 + yy * 224 + xb * 16 + (x 0).val) / 6272 = n.val by omega,
      show (n.val * 6272 + yy * 224 + xb * 16 + (x 0).val) / 224 % 28 = yy by omega,
      show toff + (n.val * 6272 + yy * 224 + xb * 16 + (x 0).val) % 224 = o5 0 + (x 0).val by rw [e5]; omega, hco n]
    rfl
  have hbk : ∀ (n : Fin 3) (p : ℕ), n.val * 6272 + yy * 224 + xb * 16 ≤ p → p < n.val * 6272 + yy * 224 + xb * 16 + 16 →
      p < 18816 ∧ p / 6272 = n.val ∧ p / 224 % 28 = yy ∧ p % 224 / 16 = xb := by
    intro n p h h'
    have := n.isLt
    refine ⟨by omega, by omega, by omega, by omega⟩
  have hbk' : ∀ p : ℕ, p < 18816 → p / 224 % 28 = yy → p % 224 / 16 = xb →
      p / 6272 * 6272 + yy * 224 + xb * 16 ≤ p ∧ p < p / 6272 * 6272 + yy * 224 + xb * 16 + 16 := by
    intro p h h1 h2
    constructor <;> omega
  unfold tabsOwn colBody
  iintro ⟨⟨Hx0, Hx1, Ha0, Ha1, Hy0, Hy1, Hb0, Hb1, HP⟩, HT⟩
  iapply (own_load (F := F) (e := .i32) 𝒱 c bd E h5 T.X0) $$ Hx0
  iintro Hx0
  iapply (own_load (F := F) (e := .i32) 𝒱 c bd E h5 T.X1) $$ Hx1
  iintro Hx1
  iapply (own_load (F := F) (e := .f32) 𝒱 c bd E h5 T.A0) $$ Ha0
  iintro Ha0
  iapply (own_load (F := F) (e := .f32) 𝒱 c bd E h5 T.A1) $$ Ha1
  iintro Ha1
  ihave H2 := (wp_chan 𝒱 c bd E tm (K 0) (K 1) (K 2) (K 3) (co 0) _ _ _ _ _ _ _ _ o6 h6 P g (objR T P ws toff blo boff) U
    (fun p => U p ∨ (p < 6272 ∧ p / 224 % 28 = yy ∧ p % 224 / 16 = xb)) hZ hboff
    (fun x => by rw [hco]; exact idx_lt hY0 (hX0 x) hboff (Nat.le_add_right _ _) (hb 0)) (fun x => by rw [hco]; exact idx_lt hY0 (hX1 x) hboff (Nat.le_add_right _ _) (hb 0))
    (fun x => by rw [hco]; exact idx_lt hY1 (hX0 x) hboff (Nat.le_add_right _ _) (hb 0)) (fun x => by rw [hco]; exact idx_lt hY1 (hX1 x) hboff (Nat.le_add_right _ _) (hb 0))
    (fun p hp => or_congr_right (by
      rw [e6]; constructor
      · rintro ⟨h, h1, h2⟩; have := hbk' p hp h1 h2; omega
      · rintro ⟨h, h'⟩; have := hbk 0 p (by simpa using h) (by simpa using h'); omega))
    (fun p h h' => by have := hbk 0 p (by rw [e6] at h; simpa using h) (by rw [e6] at h'; simpa using h'); exact hd p this.1 this.2.2.1 this.2.2.2)
    (fun x => by have := hl 0 x; rw [← this, e6]; simp)) $$ [HP HT]
  · isplitl [HP] <;> iassumption
  iapply H2
  iintro HP HT
  ihave H2 := (wp_chan 𝒱 c bd E tm (K 4) (K 5) (K 6) (K 7) (co 1) _ _ _ _ _ _ _ _ o7 h7 P g (objR T P ws toff blo boff)
    (fun p => U p ∨ (p < 6272 ∧ p / 224 % 28 = yy ∧ p % 224 / 16 = xb))
    (fun p => U p ∨ (p < 12544 ∧ p / 224 % 28 = yy ∧ p % 224 / 16 = xb)) hZ hboff
    (fun x => by rw [hco]; exact idx_lt hY0 (hX0 x) hboff (Nat.le_add_right _ _) (hb 1)) (fun x => by rw [hco]; exact idx_lt hY0 (hX1 x) hboff (Nat.le_add_right _ _) (hb 1))
    (fun x => by rw [hco]; exact idx_lt hY1 (hX0 x) hboff (Nat.le_add_right _ _) (hb 1)) (fun x => by rw [hco]; exact idx_lt hY1 (hX1 x) hboff (Nat.le_add_right _ _) (hb 1))
    (fun p hp => by
      rw [e7, or_assoc]; refine or_congr_right ?_; constructor
      · rintro ⟨h, h1, h2⟩
        by_cases hlt : p < 6272
        · exact Or.inl ⟨hlt, h1, h2⟩
        · have := hbk' p hp h1 h2; right; omega
      · rintro (h | ⟨h, h'⟩)
        · exact ⟨by omega, h.2⟩
        · have := hbk 1 p (by show 1 * 6272 + _ + _ ≤ _; omega) (by show p < 1 * 6272 + _ + _ + _; omega)
          exact ⟨by omega, this.2.2⟩)
    (fun p h h' => by
      have := hbk 1 p (by rw [e7] at h; show 1 * 6272 + _ + _ ≤ _; omega) (by rw [e7] at h'; show p < 1 * 6272 + _ + _ + _; omega)
      rintro (hu | hu)
      · exact hd p this.1 this.2.2.1 this.2.2.2 hu
      · have := this.2.1; have h1 : p / 6272 = 1 := this; omega)
    (fun x => by have := hl 1 x; rw [← this, e7]; simp)) $$ [HP HT]
  · isplitl [HP] <;> iassumption
  iapply H2
  iintro HP HT
  ihave H2 := (wp_chan 𝒱 c bd E tm (K 8) (K 9) (K 10) (K 11) (co 2) _ _ _ _ _ _ _ _ o8 h8 P g (objR T P ws toff blo boff)
    (fun p => U p ∨ (p < 12544 ∧ p / 224 % 28 = yy ∧ p % 224 / 16 = xb)) U' hZ hboff
    (fun x => by rw [hco]; exact idx_lt hY0 (hX0 x) hboff (Nat.le_add_right _ _) (hb 2)) (fun x => by rw [hco]; exact idx_lt hY0 (hX1 x) hboff (Nat.le_add_right _ _) (hb 2))
    (fun x => by rw [hco]; exact idx_lt hY1 (hX0 x) hboff (Nat.le_add_right _ _) (hb 2)) (fun x => by rw [hco]; exact idx_lt hY1 (hX1 x) hboff (Nat.le_add_right _ _) (hb 2))
    (fun p hp => by
      rw [hU p hp, e8, or_assoc]; refine or_congr_right ?_; constructor
      · rintro ⟨h1, h2⟩
        by_cases hlt : p < 12544
        · exact Or.inl ⟨hlt, h1, h2⟩
        · have := hbk' p hp h1 h2; right; omega
      · rintro (h | ⟨h, h'⟩)
        · exact h.2
        · have := hbk 2 p (by show 2 * 6272 + _ + _ ≤ _; omega) (by show p < 2 * 6272 + _ + _ + _; omega)
          exact this.2.2)
    (fun p h h' => by
      have := hbk 2 p (by rw [e8] at h; show 2 * 6272 + _ + _ ≤ _; omega) (by rw [e8] at h'; show p < 2 * 6272 + _ + _ + _; omega)
      rintro (hu | hu)
      · exact hd p this.1 this.2.2.1 this.2.2.2 hu
      · have := this.2.1; have h1 : p / 6272 = 2 := this; omega)
    (fun x => by have := hl 2 x; rw [← this, e8]; simp)) $$ [HP HT]
  · isplitl [HP] <;> iassumption
  iapply H2
  iintro HP HT
  rw [wp_pure]
  imodintro
  isplitr [HT]
  · isplitl [Hx0]; · iexact Hx0
    isplitl [Hx1]; · iexact Hx1
    isplitl [Ha0]; · iexact Ha0
    isplitl [Ha1]; · iexact Ha1
    isplitl [Hy0]; · iexact Hy0
    isplitl [Hy1]; · iexact Hy1
    isplitl [Hb0]; · iexact Hb0
    isplitl [Hb1]; · iexact Hb1
    iexact HP
  · iexact HT

/-- The arguments of a row's copy say what its positions and bounds are: `nb` blocks from the block `xl`, no remainder. -/
structure RowArgs.Is {pr : Proc τ} (R : RowArgs F Λ pr) (toff yy xl nb : ℕ) : Prop where
  trips : R.lp.trips = nb
  rem0 : R.lr.trips = 0
  e5 : ∀ l, R.o5 l 0 = toff + (xl + l.val) * 16
  e6 : ∀ l, R.o6 l 0 = yy * 224 + (xl + l.val) * 16
  e7 : ∀ l, R.o7 l 0 = 6272 + yy * 224 + (xl + l.val) * 16
  e8 : ∀ l, R.o8 l 0 = 12544 + yy * 224 + (xl + l.val) * 16

theorem wp_rowBody (M : Bufs c.2) (tm : Memref sig c.2.kind .vmem S18816 .f32) (co : Fin 3 → BitVec 32)
    (T : Tabs F) (hT : T.Ok) (P g : ℕ → F .f32) {Z : sProp 𝕄} (hZ : PmRule 𝒱 c bd E defs M.pm Z P boff) (ws : F .f32) (toff blo yy xl nb : ℕ) (U U' : ℕ → Prop)
    (hoff : toff ≤ 6944) (hblo : blo ≤ 196) (hboff : boff ≤ 12288) (hyy : yy < 28) (hxb : xl + nb ≤ 14)
    (hco : ∀ n : Fin 3, co n = BitVec.ofNat 32 (boff + 4096 * n.val)) (sy : BitVec 32) (hsy : sy.toNat = toff + blo + yy)
    (R : RowArgs F Λ c.2) (hR : R.Is toff yy xl nb)
    (hU : ∀ p, p < 18816 → (U' p ↔ U p ∨ (p / 224 % 28 = yy ∧ xl ≤ p % 224 / 16 ∧ p % 224 / 16 < xl + nb)))
    (hd : ∀ p, p < 18816 → p / 224 % 28 = yy → ¬U p) :
    iprop(tabsOwn c M T Z ∗ own (e := .f32) c tm (arr (upd U g (objR T P ws toff blo boff))))
      ⊢ wp frame (wpE defs 𝒱 c bd) E (rowBody M tm co ws sy R)
        (fun _ => iprop(tabsOwn c M T Z ∗ own (e := .f32) c tm (arr (upd U' g (objR T P ws toff blo boff))))) := by
  have hs : ∀ x, ((broadcast S16 sy : IVec S16 32) x).toNat < 7168 := fun x => by show sy.toNat < 7168; omega
  rw [show rowBody M tm co ws sy R = Prog.op (TpuEff.assume (R.KR.P (broadcast S16 sy)) (R.KR.D (broadcast S16 sy))) (fun h => do
    let y0 ← SparseCore.vectorLoadIdx M.y0 ![broadcast S16 sy] (fun a x => by rw [Fin.fin_one_eq_zero a]; exact R.KR.inb _ h.down x) (View.loads_vmem h_S7168)
    let y1 ← SparseCore.vectorLoadIdx M.y1 ![broadcast S16 sy] (fun a x => by rw [Fin.fin_one_eq_zero a]; exact R.KR.inb _ h.down x) (View.loads_vmem h_S7168)
    let b0 ← SparseCore.vectorLoadIdx M.b0 ![broadcast S16 sy] (fun a x => by rw [Fin.fin_one_eq_zero a]; exact R.KR.inb _ h.down x) (View.loads_vmem h_S7168)
    let b1 ← SparseCore.vectorLoadIdx M.b1 ![broadcast S16 sy] (fun a x => by rw [Fin.fin_one_eq_zero a]; exact R.KR.inb _ h.down x) (View.loads_vmem h_S7168)
    let _ ← Scf.Loop.for R.lp R.hlp PUnit.unit fun l _ =>
      colBody M tm R.K co y0 y1 (mulf b0 (broadcast S16 ws)) (mulf b1 (broadcast S16 ws)) (R.o5 l) (R.h5 l) (R.o6 l) (R.o7 l) (R.o8 l) (R.h6 l) (R.h7 l) (R.h8 l)
    let _ ← Scf.Loop.for R.lr R.hlr PUnit.unit (R.rem y0 y1 b0 b1)
    pure ⟨⟩) from rfl, wp_assume_of _ _ _ _ (R.KR.ok _ hs)]
  have key : ∀ (n : ℕ), n < nb → ∀ l : Fin R.lp.trips, l.val = n →
      iprop(tabsOwn c M T Z ∗ own (e := .f32) c tm (arr (upd (fun p => U p ∨ (p / 224 % 28 = yy ∧ xl ≤ p % 224 / 16 ∧ p % 224 / 16 < xl + n)) g (objR T P ws toff blo boff))))
        ⊢ wp frame (wpE defs 𝒱 c bd) E (colBody M tm R.K co (fun _ => T.Y0 (toff + blo + yy)) (fun _ => T.Y1 (toff + blo + yy))
          (fun _ => FloatOps.mulf (T.B0 (toff + blo + yy)) ws) (fun _ => FloatOps.mulf (T.B1 (toff + blo + yy)) ws) (R.o5 l) (R.h5 l) (R.o6 l) (R.o7 l) (R.o8 l) (R.h6 l) (R.h7 l) (R.h8 l))
          (fun _ => iprop(tabsOwn c M T Z ∗ own (e := .f32) c tm (arr (upd (fun p => U p ∨ (p / 224 % 28 = yy ∧ xl ≤ p % 224 / 16 ∧ p % 224 / 16 < xl + (n + 1))) g (objR T P ws toff blo boff))))) := by
    intro n hn l hl
    exact wp_colBody 𝒱 c bd E M tm R.K co T hT P g hZ ws toff blo yy (xl + n) _ _ hoff hblo hboff hyy (by omega) hco _ _ _ _ _ _ _ _
      (by rw [hR.e5, hl]) (by rw [hR.e6, hl]) (by rw [hR.e7, hl]) (by rw [hR.e8, hl])
      (fun p _ => by
        rw [or_assoc]; refine or_congr_right ?_; constructor
        · rintro ⟨h, h1, h2⟩
          by_cases hq : p % 224 / 16 = xl + n
          · exact Or.inr ⟨h, hq⟩
          · exact Or.inl ⟨h, h1, by omega⟩
        · rintro (⟨h, h1, h2⟩ | ⟨h, h1⟩)
          · exact ⟨h, h1, by omega⟩
          · exact ⟨h, by omega, by omega⟩)
      (fun p hp h1 h2 => by
        rintro (h | h)
        · exact hd p hp h1 h
        · omega)
  unfold tabsOwn at key ⊢
  iintro ⟨⟨Hx0, Hx1, Ha0, Ha1, Hy0, Hy1, Hb0, Hb1, HP⟩, HT⟩
  iapply (own_gather (F := F) (e := .i32) 𝒱 c bd E T.Y0) $$ Hy0
  iintro Hy0
  iapply (own_gather (F := F) (e := .i32) 𝒱 c bd E T.Y1) $$ Hy1
  iintro Hy1
  iapply (own_gather (F := F) (e := .f32) 𝒱 c bd E T.B0) $$ Hb0
  iintro Hb0
  iapply (own_gather (F := F) (e := .f32) 𝒱 c bd E T.B1) $$ Hb1
  iintro Hb1
  have hy : ∀ {β : Type} (f : ℕ → β), (fun x : S16.Idx => f ((broadcast S16 sy : IVec S16 32) x).toNat) = fun _ => f (toff + blo + yy) := by
    intro β f; funext x; show f sy.toNat = _; rw [hsy]
  rw [hy T.Y0, hy T.Y1, hy T.B0, hy T.B1]
  ihave H2 := (Scf.wp_for_bind frame (wpE defs 𝒱 c bd) E R.lp.lb R.lp.ub R.lp.st R.hlp PUnit.unit _
    (fun n _ => iprop((own (e := .i32) c M.x0 (arr T.X0) ∗ own (e := .i32) c M.x1 (arr T.X1) ∗ own (e := .f32) c M.a0 (arr T.A0) ∗ own (e := .f32) c M.a1 (arr T.A1)
    ∗ own (e := .i32) c M.y0 (arr T.Y0) ∗ own (e := .i32) c M.y1 (arr T.Y1) ∗ own (e := .f32) c M.b0 (arr T.B0) ∗ own (e := .f32) c M.b1 (arr T.B1)
    ∗ Z) ∗ own (e := .f32) c tm (arr (upd (fun p => U p ∨ (p / 224 % 28 = yy ∧ xl ≤ p % 224 / 16 ∧ p % 224 / 16 < xl + n)) g (objR T P ws toff blo boff)))))
    (fun l _ => key l.val (by have := l.isLt; have h2 := hR.trips; unfold Scf.Loop.trips at h2; omega) l rfl)) $$ [Hx0 Hx1 Ha0 Ha1 Hy0 Hy1 Hb0 Hb1 HP HT]
  · isplitr [HT]
    · isplitl [Hx0]; · iexact Hx0
      isplitl [Hx1]; · iexact Hx1
      isplitl [Ha0]; · iexact Ha0
      isplitl [Ha1]; · iexact Ha1
      isplitl [Hy0]; · iexact Hy0
      isplitl [Hy1]; · iexact Hy1
      isplitl [Hb0]; · iexact Hb0
      isplitl [Hb1]; · iexact Hb1
      iexact HP
    · rw [show upd (fun p => U p ∨ (p / 224 % 28 = yy ∧ xl ≤ p % 224 / 16 ∧ p % 224 / 16 < xl + 0)) g (objR T P ws toff blo boff) = upd U g (objR T P ws toff blo boff) from
        funext fun p => upd_eq ⟨fun h => h.elim id fun h => by omega, Or.inl⟩]
      iexact HT
  iapply H2
  iintro %acc H
  rw [show Scf.trips R.lp.lb R.lp.ub R.lp.st = nb from hR.trips]
  ihave H3 := (Scf.wp_for_bind frame (wpE defs 𝒱 c bd) E R.lr.lb R.lr.ub R.lr.st R.hlr PUnit.unit _
    (fun _ _ => _) (fun l _ => absurd l.isLt (by have h2 := hR.rem0; unfold Scf.Loop.trips at h2; omega))) $$ H
  iapply H3
  iintro %acc2 H
  rw [wp_pure]
  imodintro
  icases H with ⟨H, HT⟩
  isplitl [H]
  · iexact H
  · have e : own (F := F) (e := .f32) c tm (arr (upd U' g (objR T P ws toff blo boff))) = own (F := F) (e := .f32) c tm (arr (upd (fun p => U p ∨ (p / 224 % 28 = yy ∧ xl ≤ p % 224 / 16 ∧ p % 224 / 16 < xl + nb)) g (objR T P ws toff blo boff))) := by
      congr 1; funext y
      exact upd_eq (hU _ (y 0).isLt)
    rw [e]
    iexact HT

/-- An object's whole box: `nr` rows from the tile's row `yl`, `nb` blocks from the block `xl`. -/
theorem wp_objBody (M : Bufs c.2) (tm : Memref sig c.2.kind .vmem S18816 .f32) (co : Fin 3 → BitVec 32)
    (T : Tabs F) (hT : T.Ok) (P g : ℕ → F .f32) {Z : sProp 𝕄} (hZ : PmRule 𝒱 c bd E defs M.pm Z P boff) (ws : F .f32) (toff blo yl nr xl nb : ℕ)
    (hoff : toff ≤ 6944) (hblo : blo ≤ 196) (hboff : boff ≤ 12288) (hyl : yl + nr ≤ 28) (hxb : xl + nb ≤ 14)
    (hco : ∀ n : Fin 3, co n = BitVec.ofNat 32 (boff + 4096 * n.val))
    (lp : Scf.Loop 32) (hlp : lp.OK) (lr : Scf.Loop 32) (hlr : lr.OK) (sy : Fin lp.trips → BitVec 32) (R : Fin lp.trips → RowArgs F Λ c.2)
    (rem : Fin lr.trips → PUnit.{1} → Prog (TpuEff nD τ sig (Elt F) Λ c.2) PUnit.{1})
    (ht : lp.trips = nr) (hr0 : lr.trips = 0) (hsy : ∀ k, (sy k).toNat = toff + blo + (yl + k.val)) (hR : ∀ k, (R k).Is toff (yl + k.val) xl nb)
    {k : PUnit → Prog (TpuEff nD τ sig (Elt F) Λ c.2) α} {Φ : α → sProp 𝕄} :
    iprop(tabsOwn c M T Z ∗ own (e := .f32) c tm (arr g))
      ⊢ iprop((tabsOwn c M T Z -∗ own (e := .f32) c tm (arr (upd (fun p => (yl ≤ p / 224 % 28 ∧ p / 224 % 28 < yl + nr) ∧ xl ≤ p % 224 / 16 ∧ p % 224 / 16 < xl + nb) g (objR T P ws toff blo boff))) -∗ wp frame (wpE defs 𝒱 c bd) E (k ⟨⟩) Φ)
        -∗ wp frame (wpE defs 𝒱 c bd) E (objBody M tm co ws lp hlp lr hlr sy R rem >>= k) Φ) := by
  unfold objBody
  simp only [bind_assoc]
  iintro ⟨HB, HT⟩ Hk
  ihave H2 := (Scf.wp_for_bind frame (wpE defs 𝒱 c bd) E lp.lb lp.ub lp.st hlp PUnit.unit _
    (fun n _ => iprop(tabsOwn c M T Z ∗ own (e := .f32) c tm (arr (upd (fun p => (yl ≤ p / 224 % 28 ∧ p / 224 % 28 < yl + n) ∧ xl ≤ p % 224 / 16 ∧ p % 224 / 16 < xl + nb) g (objR T P ws toff blo boff)))))
    (fun l _ => wp_rowBody 𝒱 c bd E M tm co T hT P g hZ ws toff blo (yl + l.val) xl nb _ _ hoff hblo hboff
      (by have := l.isLt; unfold Scf.Loop.trips at ht; omega) hxb hco (sy l) (hsy l) (R l) (hR l)
      (fun p _ => by
        constructor
        · rintro ⟨⟨h1, h2⟩, h3⟩
          by_cases hq : p / 224 % 28 = yl + l.val
          · exact Or.inr ⟨hq, h3⟩
          · exact Or.inl ⟨⟨h1, by omega⟩, h3⟩
        · rintro (⟨⟨h1, h2⟩, h3⟩ | ⟨h1, h3⟩)
          · exact ⟨⟨h1, by omega⟩, h3⟩
          · exact ⟨⟨by omega, by omega⟩, h3⟩)
      (fun p _ h => by rintro ⟨⟨h1, h2⟩, h3⟩; omega))) $$ [HB HT]
  · isplitl [HB]
    · iexact HB
    · rw [show upd (fun p => (yl ≤ p / 224 % 28 ∧ p / 224 % 28 < yl + 0) ∧ xl ≤ p % 224 / 16 ∧ p % 224 / 16 < xl + nb) g (objR T P ws toff blo boff) = g from
        funext fun p => upd_out (by omega)]
      iexact HT
  iapply H2
  iintro %acc H
  rw [show Scf.trips lp.lb lp.ub lp.st = nr from ht]
  ihave H3 := (Scf.wp_for_bind frame (wpE defs 𝒱 c bd) E lr.lb lr.ub lr.st hlr PUnit.unit _
    (fun _ _ => _) (fun l _ => absurd l.isLt (by unfold Scf.Loop.trips at hr0; omega))) $$ H
  iapply H3
  iintro %acc2 H
  icases H with ⟨H, HT⟩
  iapply Hk $$ H HT

end

end Cert.Proof.Tile
-- ==== Proof.Words.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Obj

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! The words the tile computes its bounds and positions from, as numbers. -/

/-- The first row of a tile's band, as the program computes it. -/
def bloW (i : grid0.Coords) : BitVec 32 :=
  let v1 := Scalar.addi (Scalar.muli (BitVec.ofNat 32 (i 1).val) 2#32) (BitVec.ofNat 32 (i 0).val)
  let v20 := Scalar.select (Scalar.cmpi .eq (8#32 : BitVec 32) 0#32) (1#32 : BitVec 32) 8#32
  let v21 := Scalar.remsi v1 v20
  Scalar.muli (Scalar.select (Scalar.andi (Scalar.xori (Scalar.cmpi .slt v21 0#32) (Scalar.cmpi .slt v20 0#32)) (Scalar.cmpi .ne v21 0#32))
    (Scalar.addi v21 v20) v21) 28#32

def bloN (i : grid0.Coords) : ℕ := 28 * ((2 * (i 1).val + (i 0).val) % 8)

theorem bloN_le (i : grid0.Coords) : bloN i ≤ 196 := by unfold bloN; omega

theorem bloW_eq (i : grid0.Coords) : bloW i = BitVec.ofNat 32 (bloN i) := by
  have h0 : (i 0).val < 2 := (i 0).isLt
  have h1 : (i 1).val < 16 := (i 1).isLt
  unfold bloW bloN
  generalize (i 0).val = a at *
  generalize (i 1).val = b at *
  interval_cases a <;> interval_cases b <;> rfl

theorem divsi_one (x : BitVec 32) : Scalar.divsi x 1#32 = x := by
  show IntOp.divsi _ x 1#32 = x
  unfold IntOp.divsi
  rw [if_neg (by unfold IntOp.SDivCorner; rintro (h | ⟨_, h⟩) <;> revert h <;> decide)]
  exact BitVec.sdiv_one

/-- The bound of a counted loop that starts at nought, and of the loop of what is left after it. -/
def mainW (n : BitVec 32) : BitVec 32 :=
  Scalar.addi 0#32 (Scalar.muli (Scalar.divsi (Scalar.subi (Scalar.divsi (Scalar.addi n (Scalar.subi 1#32 1#32)) 1#32) 0#32) 1#32) 1#32)
def leftW (n : BitVec 32) : BitVec 32 :=
  Scalar.addi 0#32 (Scalar.subi (Scalar.divsi (Scalar.addi n (Scalar.subi 1#32 1#32)) 1#32) 0#32)

theorem mainW_eq (n : BitVec 32) : mainW n = n := by
  unfold mainW; rw [divsi_one, divsi_one]
  show 0#32 + ((n + (1#32 - 1#32)) - 0#32) * 1#32 = n
  simp
theorem leftW_eq (n : BitVec 32) : leftW n = n := by
  unfold leftW; rw [divsi_one]
  show 0#32 + ((n + (1#32 - 1#32)) - 0#32) = n
  simp

@[reducible] def mainL (n : BitVec 32) : Scf.Loop 32 := ⟨0#32, mainW n, 1#32⟩
@[reducible] def leftL (n : BitVec 32) : Scf.Loop 32 := ⟨mainW n, leftW n, 1#32⟩

theorem mainL_trips (n : BitVec 32) : (mainL n).trips = n.toInt.toNat := by
  show Scf.trips 0#32 (mainW n) 1#32 = _
  rw [mainW_eq]; unfold Scf.trips
  have h1 : (1#32 : BitVec 32).toInt = 1 := by decide
  have h0 : (0#32 : BitVec 32).toInt = 0 := by decide
  rw [h1, h0]; simp

theorem leftL_trips (n : BitVec 32) : (leftL n).trips = 0 := by
  show Scf.trips (mainW n) (leftW n) 1#32 = _
  rw [mainW_eq, leftW_eq]; unfold Scf.trips
  have h1 : (1#32 : BitVec 32).toInt = 1 := by decide
  rw [h1]; simp

theorem mainL_ok (n : BitVec 32) : (mainL n).OK := by
  have ht := mainL_trips n
  have := BitVec.toInt_lt (x := n)
  refine ⟨show 0 < (1#32 : BitVec 32).toInt by decide, ?_⟩
  show (0#32 : BitVec 32).toInt + ((Scf.trips 0#32 (mainW n) 1#32 : ℕ) : ℤ) * (1#32 : BitVec 32).toInt < 2 ^ (32 - 1)
  unfold Scf.Loop.trips at ht
  rw [show Scf.trips 0#32 (mainW n) 1#32 = n.toInt.toNat from ht, show (0#32 : BitVec 32).toInt = 0 by decide, show (1#32 : BitVec 32).toInt = 1 by decide]
  omega

theorem leftL_ok (n : BitVec 32) : (leftL n).OK := by
  have ht := leftL_trips n
  have := BitVec.toInt_lt (x := n)
  refine ⟨show 0 < (1#32 : BitVec 32).toInt by decide, ?_⟩
  show (mainW n).toInt + ((Scf.trips (mainW n) (leftW n) 1#32 : ℕ) : ℤ) * (1#32 : BitVec 32).toInt < 2 ^ (32 - 1)
  unfold Scf.Loop.trips at ht
  rw [show Scf.trips (mainW n) (leftW n) 1#32 = 0 from ht, mainW_eq]
  omega

/-- The first row of the box inside the band, and the row after its last. -/
def loW (bw v0 : BitVec 32) : BitVec 32 := Scalar.maxsi v0 bw
def hiW (bw v1 : BitVec 32) : BitVec 32 := Scalar.minsi v1 (Scalar.addi bw 28#32)

/-- Whether the box has a row in the band and its weight is not nought. -/
def condW (bw v0 v1 : BitVec 32) (e : BitVec 1) : BitVec 1 :=
  Scalar.cmpi .ne (Scalar.extui (Scalar.andi (Scalar.cmpi .slt (loW bw v0) (hiW bw v1)) (Scalar.xori e 1#1))) 0#32

/-- The row a trip is at. -/
def rowW (bw v0 : BitVec 32) (k : ℕ) : BitVec 32 := Scalar.addi (loW bw v0) (Scalar.muli (Scf.iv 0#32 1#32 k) 1#32)
/-- The first column of a trip's block. -/
def colW (v2 : BitVec 32) (l : ℕ) : BitVec 32 := Scalar.muli (Scalar.addi v2 (Scalar.muli (Scf.iv 0#32 1#32 l) 1#32)) 16#32
/-- Where the table is read. -/
def offT (tw v2 : BitVec 32) (l : ℕ) : Fin 1 → ℕ := ![(Scalar.addi tw (colW v2 l)).toNat]
/-- Where the sum is kept. -/
def offA (cw bw v0 v2 : BitVec 32) (k l : ℕ) : Fin 1 → ℕ :=
  ![(Scalar.addi (Scalar.addi cw (Scalar.muli (Scalar.subi (rowW bw v0 k) bw) 224#32)) (colW v2 l)).toNat]

/-- What the box of a taken branch is in numbers. -/
structure InBand (bw v0 v1 v2 v3 : BitVec 32) (blo yl nr xl nb : ℕ) : Prop where
  fbw : bw.toNat = blo
  fhb : blo ≤ 196
  flo : (loW bw v0).toNat = blo + yl
  fhy : yl + nr ≤ 28
  fnr : (Scalar.subi (hiW bw v1) (loW bw v0)).toInt.toNat = nr
  fx : v2.toNat = xl
  fhx : xl + nb ≤ 14
  fnb : (Scalar.subi v3 v2).toInt.toNat = nb
  frows : ∀ y, y < 28 → ((yl ≤ y ∧ y < yl + nr) ↔ v0.toInt ≤ blo + y ∧ (blo + y : ℤ) < v1.toInt)
  fcols : ∀ z, (xl ≤ z ∧ z < xl + nb) ↔ v2.toNat ≤ z ∧ z < v3.toNat

theorem condW_iff (bw v0 v1 : BitVec 32) (e : BitVec 1) :
    condW bw v0 v1 e = 1#1 ↔ (loW bw v0).toInt < (hiW bw v1).toInt ∧ e ≠ 1#1 := by
  unfold condW Scalar.cmpi Scalar.extui Scalar.andi Scalar.xori
  simp only [IntOp.cmpi, IntOp.andi, IntOp.xori]
  rw [← BitVec.slt_iff_toInt_lt]
  generalize (loW bw v0).slt (hiW bw v1) = b
  revert e b; decide

theorem max_toInt (x y : BitVec 32) : (Scalar.maxsi x y).toInt = max x.toInt y.toInt := by
  show (if y.slt x then x else y).toInt = _
  split
  · next h => rw [BitVec.slt_iff_toInt_lt] at h; omega
  · next h => rw [BitVec.slt_iff_toInt_lt] at h; omega
theorem min_toInt (x y : BitVec 32) : (Scalar.minsi x y).toInt = min x.toInt y.toInt := by
  show (if x.slt y then x else y).toInt = _
  split
  · next h => rw [BitVec.slt_iff_toInt_lt] at h; omega
  · next h => rw [BitVec.slt_iff_toInt_lt] at h; omega

theorem toNat_of_toInt {x : BitVec 32} {n : ℕ} (h : x.toInt = n) : x.toNat = n := by
  have := BitVec.toInt_eq_toNat_cond x
  have := x.isLt
  split at * <;> omega
theorem toInt_of_toNat {x : BitVec 32} {n : ℕ} (h : x.toNat = n) (hn : n < 2 ^ 31) : x.toInt = n := by
  rw [BitVec.toInt_eq_toNat_of_lt (by omega), h]

theorem subi_toInt {x y : BitVec 32} {a b : ℕ} (hx : x.toInt = a) (hy : y.toInt = b) (ha : a < 2 ^ 30) (hb : b < 2 ^ 30) :
    (Scalar.subi x y).toInt = (a : ℤ) - b := by
  show (x - y).toInt = _
  rw [BitVec.toInt_sub, hx, hy, Int.bmod_eq_of_le (by omega) (by omega)]

theorem inBand (bw v0 v1 v2 v3 : BitVec 32) (e : BitVec 1) (blo : ℕ) (hblo : blo ≤ 196) (hbw : bw = BitVec.ofNat 32 blo)
    (h2 : v2.toNat ≤ 14) (h3 : v3.toNat ≤ 14) (hc : condW bw v0 v1 e = 1#1) :
    ∃ yl nr xl nb, InBand bw v0 v1 v2 v3 blo yl nr xl nb := by
  have hbn : bw.toNat = blo := by rw [hbw, BitVec.toNat_ofNat]; omega
  have hbi : bw.toInt = blo := toInt_of_toNat hbn (by omega)
  have hb28 : (Scalar.addi bw 28#32).toInt = (blo + 28 : ℕ) := by
    refine toInt_of_toNat ?_ (by omega)
    show (bw + 28#32).toNat = _
    rw [BitVec.toNat_add, hbn]
    show (blo + 28) % 2 ^ 32 = _
    omega
  have hc' := ((condW_iff _ _ _ _).1 hc).1
  have hlo : (loW bw v0).toInt = max v0.toInt blo := by unfold loW; rw [max_toInt, hbi]
  have hhi : (hiW bw v1).toInt = min v1.toInt (blo + 28 : ℕ) := by unfold hiW; rw [min_toInt, hb28]
  rw [hlo, hhi] at hc'
  have hlo' : (loW bw v0).toInt = ((max v0.toInt blo).toNat : ℕ) := by rw [hlo]; omega
  have hhi' : (hiW bw v1).toInt = ((min v1.toInt (blo + 28 : ℕ)).toNat : ℕ) := by rw [hhi]; omega
  have hn := subi_toInt hhi' hlo' (by omega) (by omega)
  have h2' : v2.toInt = v2.toNat := toInt_of_toNat rfl (by omega)
  have h3' : v3.toInt = v3.toNat := toInt_of_toNat rfl (by omega)
  have hx := subi_toInt h3' h2' (by omega) (by omega)
  refine ⟨(max v0.toInt blo).toNat - blo, (min v1.toInt (blo + 28 : ℕ)).toNat - (max v0.toInt blo).toNat, v2.toNat, v3.toNat - v2.toNat, hbn, hblo, ?_, by omega, ?_, rfl, by omega, ?_, ?_, ?_⟩
  · rw [toNat_of_toInt hlo']; omega
  · rw [hn]; omega
  · rw [hx]; omega
  · intro y hy; omega
  · intro z; omega

theorem iv_toNat (k : ℕ) (hk : k < 2 ^ 31) : (Scf.iv 0#32 1#32 k : BitVec 32).toNat = k := by
  unfold Scf.iv
  simp [BitVec.toNat_ofNat]; omega

theorem step_toNat {x : BitVec 32} {a k : ℕ} (hx : x.toNat = a) (ha : a < 2 ^ 30) (hk : k < 2 ^ 30) :
    (Scalar.addi x (Scalar.muli (Scf.iv 0#32 1#32 k) 1#32)).toNat = a + k := by
  show (x + Scf.iv 0#32 1#32 k * 1#32).toNat = _
  rw [BitVec.mul_one, BitVec.toNat_add, hx, iv_toNat k (by omega)]; omega

theorem colW_toNat {v2 : BitVec 32} {xl l : ℕ} (h : v2.toNat = xl) (hx : xl + l < 14) : (colW v2 l).toNat = (xl + l) * 16 := by
  show (Scalar.addi v2 (Scalar.muli (Scf.iv 0#32 1#32 l) 1#32) * 16#32).toNat = _
  rw [BitVec.toNat_mul, step_toNat h (by omega) (by omega)]
  show (xl + l) * 16 % 2 ^ 32 = _
  omega

section
variable {bw v0 v1 v2 v3 : BitVec 32} {blo yl nr xl nb : ℕ} (h : InBand bw v0 v1 v2 v3 blo yl nr xl nb)
include h

theorem InBand.row {k : ℕ} (hk : k < nr) : (rowW bw v0 k).toNat = blo + yl + k := by
  have := h.fhy; have := h.fhb
  exact step_toNat h.flo (by omega) (by omega)

theorem InBand.sy {tw : BitVec 32} {toff k : ℕ} (ht : tw.toNat = toff) (htl : toff ≤ 6944) (hk : k < nr) :
    (Scalar.addi tw (rowW bw v0 k)).toNat = toff + blo + (yl + k) := by
  have := h.fhy; have := h.fhb
  show (tw + rowW bw v0 k).toNat = _
  rw [BitVec.toNat_add, ht, h.row hk]; omega

theorem InBand.offT {tw : BitVec 32} {toff l : ℕ} (ht : tw.toNat = toff) (htl : toff ≤ 6944) (hl : l < nb) :
    offT tw v2 l 0 = toff + (xl + l) * 16 := by
  have := h.fhx
  show (tw + colW v2 l).toNat = _
  rw [BitVec.toNat_add, ht, colW_toNat h.fx (by omega)]; omega

theorem InBand.offA {cw : BitVec 32} {co k l : ℕ} (hcw : cw.toNat = co) (hco : co ≤ 12544) (hk : k < nr) (hl : l < nb) :
    offA cw bw v0 v2 k l 0 = co + (yl + k) * 224 + (xl + l) * 16 := by
  have := h.fhx; have := h.fhy; have := h.fhb
  show (cw + (rowW bw v0 k - bw) * 224#32 + colW v2 l).toNat = _
  have e : (rowW bw v0 k - bw).toNat = yl + k := by
    rw [BitVec.toNat_sub, h.row hk, h.fbw]; omega
  rw [BitVec.toNat_add, BitVec.toNat_add, BitVec.toNat_mul, e, hcw, colW_toNat h.fx (by omega)]
  show ((co + (yl + k) * 224 % 2 ^ 32) % 2 ^ 32 + (xl + l) * 16) % 2 ^ 32 = _
  omega

theorem InBand.trips : (mainL (Scalar.subi (hiW bw v1) (loW bw v0))).trips = nr := by rw [mainL_trips, h.fnr]
theorem InBand.tripsX : (mainL (Scalar.subi v3 v2)).trips = nb := by rw [mainL_trips, h.fnb]

end

end Cert.Proof.Tile
-- ==== Proof.Patch.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.ObjRun

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! The patch buffer: two halves, one being filled by a copy while the other is read. A gather reads the whole buffer, so one
    half of the share of all of it stands in an invariant, at whatever it holds; the other half of the share goes with the
    half-buffer's owner, which is the copy while it runs and the tile when it is done. -/

section

variable {Λ : Labels} {defs : Defs nD τ sig (Elt F) Λ} (𝒱 : Variants) (c : Thread nD τ) (bd : Option 𝒱.V)
variable (pm : Memref sig c.2.kind .vmem S24576 .f32)

/-- The copies' tokens. -/
abbrev EC : UEmb Counters (MT nD τ sig (HIx 1) (Elt F) ℕ UU ℕ) := countersEmb

/-- The half of the buffer that starts at `o`. -/
abbrev slotM (o : ℕ) (h : ∀ a, (![o] : Fin 1 → ℕ) a + S12288.size a ≤ S24576.size a) : Memref sig c.2.kind .vmem S12288 .f32 :=
  pm.slice (Rect.unit (s := S24576) ![o] S12288.size h) (fun _ => rfl)

/-- What the invariant keeps: half of the share of the buffer, until all three tokens are put in its place. -/
def cellBody (γ δ₀ δ₁ : ℕ) : sProp 𝕄 :=
  iprop((∃ f : Buf (Elt F) (pm.view.loc c), pm.view.loc c ↦[pm.view.set]{fullShare.left} f)
    ∨ (Transfers.tok EC γ ∗ Transfers.tok EC δ₀ ∗ Transfers.tok EC δ₁))

instance cellBody_storable (γ δ₀ δ₁ : ℕ) : Storable (upEmb : UEmb _ 𝕄) (cellBody (F := F) c pm γ δ₀ δ₁) := by
  unfold cellBody Transfers.tok count; infer_instance

variable {o : ℕ} (h : ∀ a, (![o] : Fin 1 → ℕ) a + S12288.size a ≤ S24576.size a)

/-- The other half of the share of a half of the buffer. -/
def halfAt (f : Buf (Elt F) (pm.view.loc c)) : sProp 𝕄 :=
  iprop(pm.view.loc c ↦[(slotM c pm o h).view.set]{fullShare.right} f)

theorem slot_sub : (slotM c pm o h).view.set ⊆ pm.view.set := pm.view.set_slice_subset _

/-- Opening: the half-buffer outright, with the wand that puts half of its share back. -/
theorem cell_open (γ δ₀ δ₁ : ℕ) (ι : ℕ) (f : Buf (Elt F) (pm.view.loc c)) (X : sProp 𝕄)
    (hX : ⊢ iprop(X -∗ (Transfers.tok EC γ ∗ Transfers.tok EC δ₀ ∗ Transfers.tok EC δ₁) -∗ (False : sProp 𝕄))) :
    iprop(cellBody c pm γ δ₀ δ₁ ∗ X ∗ halfAt c pm h f)
      ⊢ iprop(X ∗ (pm.view.loc c ↦[(slotM c pm o h).view.set]{fullShare} f)
        ∗ ∀ g : Buf (Elt F) (pm.view.loc c), (pm.view.loc c ↦[(slotM c pm o h).view.set]{fullShare} g) -∗ (cellBody c pm γ δ₀ δ₁ ∗ halfAt c pm h g)) := by
  unfold cellBody halfAt
  iintro ⟨(⟨%f', Hf⟩ | Ht), HX, Hr⟩
  · ihave Hs := ((pointsTo_split_subset (slot_sub c pm h)).1) $$ Hf
    icases Hs with ⟨Hs, Hrest⟩
    ihave %hag := pointsTo_agree $$ [Hs Hr]
    · isplitl [Hs] <;> iassumption
    ihave Hs := (Entails.of_eq (show (pm.view.loc c ↦[(slotM c pm o h).view.set]{fullShare.left} f' : sProp 𝕄)
      = (pm.view.loc c ↦[(slotM c pm o h).view.set]{fullShare.left} f) from
      pointsTo_congr fun i hi => (hag i (Finset.mem_inter.2 ⟨hi, hi⟩)).1)) $$ Hs
    isplitl [HX]; · iexact HX
    isplitl [Hs Hr]
    · iapply ((pointsTo_share (PosShare.mem_left_op_right fullShare)).2)
      isplitl [Hs] <;> iassumption
    iintro %g Hg
    ihave Hg := ((pointsTo_share (PosShare.mem_left_op_right fullShare)).1) $$ Hg
    icases Hg with ⟨Hl, Hr⟩
    isplitr [Hr]
    · ileft
      iexists ((slotM c pm o h).view.set).piecewise g f'
      iapply (pointsTo_join_subset (slot_sub c pm h))
      isplitl [Hl] <;> iassumption
    · iexact Hr
  · iexfalso
    iapply hX $$ HX Ht

/-- One chunk of a copy into a half-buffer. -/
theorem cell_writeSteps (γ δ₀ δ₁ : ℕ) (ι : ℕ) (fd : Buf (Elt F) (pm.view.loc c)) (w : S12288.Idx → Elt F .f32) (X : sProp 𝕄)
    (hX : ⊢ iprop(X -∗ (Transfers.tok EC γ ∗ Transfers.tok EC δ₀ ∗ Transfers.tok EC δ₁) -∗ (False : sProp 𝕄))) :
    (inv ι (cellBody (F := F) c pm γ δ₀ δ₁) : sProp 𝕄)
      ⊢ writeSteps c (slotM c pm o h).view w (fun M => iprop(X ∗ halfAt c pm h ((slotM c pm o h).view.write (Elt F) fd w M))) := by
  rw [writeSteps_def]
  iintro #Hinv
  imodintro
  iintro %M %M' ⟨HX, Hr⟩
  rw [← View.write_write_union]
  imod (inv_acc (Set.mem_univ ι)) $$ Hinv with ⟨Hb, Hclose⟩
  ihave Ho := (cell_open c pm h γ δ₀ δ₁ ι _ X hX) $$ [Hb HX Hr]
  · isplitl [Hb]; · iexact Hb
    isplitl [HX] <;> iassumption
  icases Ho with ⟨HX, Hs, Hback⟩
  imodintro
  rw [storeSpec_apply]
  iexists (slotM c pm o h).view.set, ((slotM c pm o h).view.write (Elt F) fd w M)
  isplitl [Hs]; · iexact Hs
  isplitr; · ipureintro; exact fun i hi => (slotM c pm o h).view.setOn_subset_set _ hi
  iintro Hs
  ihave Hb := Hback $$ %_ Hs
  icases Hb with ⟨Hb, Hr⟩
  ihave Hc := Hclose $$ Hb
  imod Hc
  imodintro
  isplitl [HX] <;> iassumption

instance halfAt_storable (f : Buf (Elt F) (pm.view.loc c)) : Storable (upEmb : UEmb _ 𝕄) (halfAt (F := F) c pm h f) := by
  unfold halfAt; infer_instance

/-- Issuing a copy into a half-buffer the tile holds: its flight delivers the half-buffer at what was copied. -/
theorem wp_slotCopy (γ δ₀ δ₁ : ℕ) (κ : ℕ) (X : sProp 𝕄) [Storable (upEmb : UEmb _ 𝕄) X]
    (hX : ⊢ iprop(X -∗ (Transfers.tok EC γ ∗ Transfers.tok EC δ₀ ∗ Transfers.tok EC δ₁) -∗ (False : sProp 𝕄)))
    {α : Type} {Φ : α → sProp 𝕄} {sp : Space} {s₀ : Shape} {e₀ : EltTy} {src : Memref sig c.2.kind sp s₀ e₀} {via : ReadAs (Elt F) s₀ e₀ S12288 .f32}
    {sm : SemLoc sig} {hsrc : src.view.WordExact} {hdst : (slotM c pm o h).view.WordExact}
    {hsem : DmaTarget.Typed (nD := nD) sp sm (.here (slotM c pm o h))}
    {k : PUnit → Prog (TpuEff nD τ sig (Elt F) Λ c.2) α} {q : PosShare TreeShare} {fs : Buf (Elt F) (src.view.loc c)}
    (fd : Buf (Elt F) (pm.view.loc c)) (N : ℕ) (hN : (slotM c pm o h).view.amount sm = N) (hN0 : 0 < N) :
    iprop(inv κ (cellBody (F := F) c pm γ δ₀ δ₁) ∗ X ∗ halfAt c pm h fd ∗ (src.view.loc c ↦[src.view.set]{q} fs) ∗ semVal (c, sm) 0)
      ⊢ iprop((Transfers.Flight EC c sm (default : HIx 1) N iprop((X ∗ halfAt c pm h ((slotM c pm o h).view.write (Elt F) fd (via.apply (src.view.read (Elt F) fs)) Finset.univ))
                                    ∗ (src.view.loc c ↦[src.view.set]{q} fs))
              -∗ wp frame (wpE defs 𝒱 c bd) Set.univ (k ⟨⟩) Φ)
          -∗ wp frame (wpE defs 𝒱 c bd) Set.univ (.op (.enqueueDmaAs src (.here (slotM c pm o h)) via sm hsrc hdst hsem) k) Φ) := by
  iintro ⟨#Hcell, HX, Hd, Hs, Hv⟩ Hk
  imod (Transfers.flight_alloc EC hN0 iprop((X ∗ halfAt c pm h ((slotM c pm o h).view.write (Elt F) fd (via.apply (src.view.read (Elt F) fs)) Finset.univ))
      ∗ (src.view.loc c ↦[src.view.set]{q} fs)) (g := (c, sm))) $$ Hv with ⟨%γ', %δ', %κ', #Hinv, Hγ, Hδ⟩
  iapply (wp_enqueueDmaAs 𝒱 c bd Set.univ (default : HIx 1) N hN) $$ [Hs HX Hd] [Hγ]
  · isplitl [Hs]; · iexact Hs
    rw [writeUpdate, writeUpdateFrom_def]
    iexists (fun M => iprop(X ∗ halfAt c pm h ((slotM c pm o h).view.write (Elt F) fd (via.apply (src.view.read (Elt F) fs)) M)))
    simp only [View.write_empty]
    isplitl [HX Hd]
    · isplitl [HX] <;> iassumption
    isplitr
    · iapply (cell_writeSteps c pm h γ δ₀ δ₁ κ fd _ X hX)
      iexact Hcell
    · iintro H; iexact H
  · iapply (Transfers.flight_creditUpdate EC (δ := δ'))
    isplitr; · iexact Hinv
    iexact Hγ
  iintro Hcred
  iapply Hk
  iapply (Transfers.flight_intro EC c (κ := κ'))
  isplitr; · iexact Hinv
  isplitl [Hδ] <;> iassumption

/-- The tile's evidence while it samples from a half-buffer. -/
def pmHold (γ δ₀ δ₁ κ : ℕ) (f : Buf (Elt F) (pm.view.loc c)) : sProp 𝕄 :=
  iprop(inv κ (cellBody (F := F) c pm γ δ₀ δ₁) ∗ Transfers.tok EC γ ∗ halfAt c pm h f)

theorem tok_γ (γ δ₀ δ₁ : ℕ) : ⊢ iprop(Transfers.tok EC γ -∗ (Transfers.tok EC γ ∗ Transfers.tok EC δ₀ ∗ Transfers.tok EC δ₁) -∗ (False : sProp 𝕄)) := by
  iintro H ⟨H', -, -⟩
  iapply (Transfers.tok_tok_false EC γ); isplitl [H] <;> iassumption
theorem tok_δ₀ (γ δ₀ δ₁ : ℕ) : ⊢ iprop(Transfers.tok EC δ₀ -∗ (Transfers.tok EC γ ∗ Transfers.tok EC δ₀ ∗ Transfers.tok EC δ₁) -∗ (False : sProp 𝕄)) := by
  iintro H ⟨-, H', -⟩
  iapply (Transfers.tok_tok_false EC δ₀); isplitl [H] <;> iassumption
theorem tok_δ₁ (γ δ₀ δ₁ : ℕ) : ⊢ iprop(Transfers.tok EC δ₁ -∗ (Transfers.tok EC γ ∗ Transfers.tok EC δ₀ ∗ Transfers.tok EC δ₁) -∗ (False : sProp 𝕄)) := by
  iintro H ⟨-, -, H'⟩
  iapply (Transfers.tok_tok_false EC δ₁); isplitl [H] <;> iassumption

theorem slot_mem {x : S24576.Idx} (hx : o ≤ (x 0).val ∧ (x 0).val < o + 12288) : pm.view.emb x ∈ (slotM c pm o h).view.set := by
  rw [show (slotM c pm o h).view.set = _ from View.set_slice _ _]
  refine Finset.mem_map_of_mem _ ?_
  rw [Rect.mem_set_unit]
  intro a
  rw [Fin.fin_one_eq_zero a]
  exact hx

theorem mem_slot {i : Idx (pm.view.loc c)} (hi : i ∈ (slotM c pm o h).view.set) : ∃ x : S24576.Idx, pm.view.emb x = i ∧ o ≤ (x 0).val ∧ (x 0).val < o + 12288 := by
  rw [show (slotM c pm o h).view.set = _ from View.set_slice _ _] at hi
  obtain ⟨x, hx, rfl⟩ := Finset.mem_map.1 hi
  rw [Rect.mem_set_unit] at hx
  exact ⟨x, rfl, hx 0⟩

theorem slot_compl (h₀ : ∀ a, (![0] : Fin 1 → ℕ) a + S12288.size a ≤ S24576.size a)
    (h₁ : ∀ a, (![12288] : Fin 1 → ℕ) a + S12288.size a ≤ S24576.size a) :
    pm.view.set \ (slotM c pm 0 h₀).view.set = (slotM c pm 12288 h₁).view.set := by
  ext i
  rw [Finset.mem_sdiff]
  constructor
  · rintro ⟨hi, hn⟩
    obtain ⟨x, -, rfl⟩ := Finset.mem_map.1 hi
    refine slot_mem c pm h₁ ⟨?_, (x 0).isLt⟩
    by_contra hlt
    exact hn (slot_mem c pm h₀ ⟨Nat.zero_le _, by omega⟩)
  · intro hi
    refine ⟨slot_sub c pm h₁ hi, fun hn => ?_⟩
    obtain ⟨x, hx, hlo, -⟩ := mem_slot c pm h₁ hi
    obtain ⟨y, hy, -, hhi⟩ := mem_slot c pm h₀ hn
    have := pm.view.emb.injective (hx.trans hy.symm)
    subst this
    omega

/-- The element `n` of a half-buffer. -/
def idx1 (n : ℕ) (hn : n < 12288) : S12288.Idx := fun a => ⟨n, by rw [Fin.fin_one_eq_zero a]; exact hn⟩

theorem pmRule (γ δ₀ δ₁ κ : ℕ) (f : Buf (Elt F) (pm.view.loc c)) (P : ℕ → F .f32)
    (hP : ∀ y : S12288.Idx, (slotM c pm o h).view.read (Elt F) f y = P (o + (y 0).val)) :
    PmRule 𝒱 c bd Set.univ defs pm (pmHold c pm h γ δ₀ δ₁ κ f) P o := by
  intro v hv α k Φ hb
  unfold pmHold
  rw [SparseCore.vectorLoadIdx_bind]
  iintro ⟨#Hinv, Hγ, Hr⟩ Hk
  imod (inv_acc (Set.mem_univ κ)) $$ Hinv with ⟨Hb, Hclose⟩
  unfold cellBody
  icases Hb with (⟨%f', Hf⟩ | Ht)
  · unfold halfAt
    ihave %hag := pointsTo_agree $$ [Hf Hr]
    · isplitl [Hf] <;> iassumption
    imodintro
    iapply (fp_load c (S := pm.view.set) (m := pm) (r := (Rect.whole S24576).toLoadRect) (q := fullShare.left) (f := f') (pm.view.setOn_subset_set _)) $$ Hf
    iintro Hf
    ihave Hc := Hclose $$ [Hf]
    · ileft; iexists f'; iexact Hf
    imod Hc
    imodintro
    rw [show loadIdx (pm.view.readAt (Elt F) (Rect.whole S24576).toLoadRect f') ![v] hv = fun x => P (v x).toNat from by
      funext x
      have hx := hb x
      have hm := slot_mem c pm h (x := fun a => ⟨((![v] : Fin 1 → IVec S16 32) a x).toNat, hv a x⟩) hx
      have he := (hag _ (Finset.mem_inter.2 ⟨slot_sub c pm h hm, hm⟩)).1
      have hlt : (v x).toNat - o < 12288 := by have := hx.1; have := hx.2; omega
      have hr := hP (idx1 _ hlt)
      have ho : o + ((v x).toNat - o) = (v x).toNat := by have := hx.1; omega
      rw [show o + ((idx1 _ hlt) 0).val = (v x).toNat from ho] at hr
      rw [← hr]
      have hemb : (Rect.unit (s := S24576) ![o] S12288.size h).emb (idx1 _ hlt)
          = (fun a => ⟨((![v] : Fin 1 → IVec S16 32) a x).toNat, hv a x⟩ : S24576.Idx) := by
        funext a
        rw [Fin.fin_one_eq_zero a]
        apply Fin.ext
        show o + 1 * ((v x).toNat - o) = (v x).toNat
        omega
      show pm.view.read (Elt F) f' ((Rect.whole S24576).emb _) = pm.view.read (Elt F) f _
      rw [Rect.emb_whole_apply, hemb]
      unfold View.read
      exact congrArg _ he]
    iapply Hk
    isplitr; · iexact Hinv
    isplitl [Hγ] <;> iassumption
  · iexfalso
    iapply (tok_γ (F := F) γ δ₀ δ₁) $$ Hγ Ht

/-- The buffer, held whole, becomes the invariant with its tokens and its two halves. -/
theorem patch_open (h₀ : ∀ a, (![0] : Fin 1 → ℕ) a + S12288.size a ≤ S24576.size a)
    (h₁ : ∀ a, (![12288] : Fin 1 → ℕ) a + S12288.size a ≤ S24576.size a) (f : Buf (Elt F) (pm.view.loc c)) (E : Set ℕ) :
    (pm.view.loc c ↦[pm.view.set]{fullShare} f : sProp 𝕄)
      ⊢ iprop(|={E}=> ∃ γ δ₀ δ₁ κ, inv κ (cellBody (F := F) c pm γ δ₀ δ₁) ∗ Transfers.tok EC γ ∗ Transfers.tok EC δ₀ ∗ Transfers.tok EC δ₁
          ∗ halfAt c pm h₀ f ∗ halfAt c pm h₁ f) := by
  iintro Hf
  imod (count_alloc EC ∅) $$ [] with ⟨%γ, -, -, Hγ⟩; · iempintro
  imod (count_alloc EC ∅) $$ [] with ⟨%δ₀, -, -, Hδ₀⟩; · iempintro
  imod (count_alloc EC ∅) $$ [] with ⟨%δ₁, -, -, Hδ₁⟩; · iempintro
  ihave Hf := (pointsTo_share (PosShare.mem_left_op_right fullShare)).1 $$ Hf
  icases Hf with ⟨Hl, Hr⟩
  imod (inv_alloc (P := cellBody (F := F) c pm γ δ₀ δ₁) (E := E)) $$ [Hl] with ⟨%κ, #Hinv⟩
  · unfold cellBody; ileft; iexists f; iexact Hl
  ihave Hr := (pointsTo_split_subset (slot_sub c pm h₀)).1 $$ Hr
  icases Hr with ⟨H0, H1⟩
  imodintro
  iexists γ; iexists δ₀; iexists δ₁; iexists κ
  isplitr; · iexact Hinv
  isplitl [Hγ]; · iexact Hγ
  isplitl [Hδ₀]; · iexact Hδ₀
  isplitl [Hδ₁]; · iexact Hδ₁
  unfold halfAt
  isplitl [H0]; · iexact H0
  rw [← slot_compl c pm h₀ h₁]
  iexact H1

/-- And back, once the tokens are home. -/
theorem patch_close (h₀ : ∀ a, (![0] : Fin 1 → ℕ) a + S12288.size a ≤ S24576.size a)
    (h₁ : ∀ a, (![12288] : Fin 1 → ℕ) a + S12288.size a ≤ S24576.size a) (f g : Buf (Elt F) (pm.view.loc c)) (γ δ₀ δ₁ κ : ℕ) :
    iprop(inv κ (cellBody (F := F) c pm γ δ₀ δ₁) ∗ Transfers.tok EC γ ∗ Transfers.tok EC δ₀ ∗ Transfers.tok EC δ₁
          ∗ halfAt c pm h₀ f ∗ halfAt c pm h₁ g)
      ⊢ (iprop(|={Set.univ}=> ∃ f, (pm.view.loc c ↦[pm.view.set]{fullShare} f)) : sProp 𝕄) := by
  iintro ⟨#Hinv, Hγ, Hδ₀, Hδ₁, H0, H1⟩
  imod (inv_acc (Set.mem_univ κ)) $$ Hinv with ⟨Hb, Hclose⟩
  unfold cellBody
  icases Hb with (⟨%f', Hf⟩ | Ht)
  · ihave Hc := Hclose $$ [Hγ Hδ₀ Hδ₁]
    · iright
      isplitl [Hγ]; · iexact Hγ
      isplitl [Hδ₀] <;> iassumption
    imod Hc
    imodintro
    unfold halfAt
    rw [← slot_compl c pm h₀ h₁]
    have hjoin := pointsTo_join_subset (Ix := HIx 1) (Val := Elt F) (Name := ℕ) (U := UU) (Lvl := ℕ) (ℓ := pm.view.loc c) (q := fullShare.right) (g := f) (f := g)
      (slot_sub c pm h₀)
    ihave Hr := hjoin $$ [H0 H1]
    · isplitl [H0] <;> iassumption
    ihave %hag := pointsTo_agree $$ [Hf Hr]
    · isplitl [Hf] <;> iassumption
    iexists f'
    iapply (pointsTo_share (PosShare.mem_left_op_right fullShare)).2
    isplitl [Hf]; · iexact Hf
    ihave Hs := (Entails.of_eq (pointsTo_congr (fun i hi => ((hag i (Finset.mem_inter.2 ⟨hi, hi⟩)).1).symm))) $$ Hr
    iexact Hs
  · iexfalso
    iapply (tok_γ (F := F) γ δ₀ δ₁) $$ Hγ Ht

end

end Cert.Proof.Tile
-- ==== Proof.Box.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.ObjRun
public import proofs.«01_k».proof.Proof.Words
public import proofs.«01_k».proof.Proof.Patch

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! The block of the program that adds one object, as printed: a branch on whether the object's box meets the tile's band, then
    the rows, each with a row loop's remainder that never runs. -/

/-- The boxed pixels of the tile's band: what the branch and its loops cover. -/
def boxU (e : BitVec 1) (v0 v1 v2 v3 : BitVec 32) (blo : ℕ) : ℕ → Prop := fun p =>
  e ≠ 1#1 ∧ v0.toInt ≤ blo + p / 224 % 28 ∧ (blo + p / 224 % 28 : ℤ) < v1.toInt ∧ v2.toNat ≤ p % 224 / 16 ∧ p % 224 / 16 < v3.toNat

/-- The rows' loop and the blocks' loop. -/
abbrev rowsW (bw v0 v1 : BitVec 32) : BitVec 32 := Scalar.subi (hiW bw v1) (loW bw v0)
abbrev colsW (v2 v3 : BitVec 32) : BitVec 32 := Scalar.subi v3 v2

/-- Where a taken branch reads and adds is inside the buffers. -/
structure BoxIn (bw v0 v1 v2 v3 tw : BitVec 32) : Prop where
  hT : ∀ l : Fin (mainL (colsW v2 v3)).trips, ∀ a, offT tw v2 l a + S16.size a ≤ S7168.size a
  hA : ∀ (k : Fin (mainL (rowsW bw v0 v1)).trips) (l : Fin (mainL (colsW v2 v3)).trips) a, offA 0#32 bw v0 v2 k l a + S16.size a ≤ S18816.size a
  hB : ∀ (k : Fin (mainL (rowsW bw v0 v1)).trips) (l : Fin (mainL (colsW v2 v3)).trips) a, offA 6272#32 bw v0 v2 k l a + S16.size a ≤ S18816.size a
  hC : ∀ (k : Fin (mainL (rowsW bw v0 v1)).trips) (l : Fin (mainL (colsW v2 v3)).trips) a, offA 12544#32 bw v0 v2 k l a + S16.size a ≤ S18816.size a

theorem boxIn {bw v0 v1 v2 v3 tw : BitVec 32} {blo yl nr xl nb toff : ℕ} (h : InBand bw v0 v1 v2 v3 blo yl nr xl nb)
    (ht : tw.toNat = toff) (htl : toff ≤ 6944) : BoxIn bw v0 v1 v2 v3 tw := by
  have hx := h.fhx
  have hy := h.fhy
  have key : ∀ (cw : BitVec 32) (co : ℕ), cw.toNat = co → co ≤ 12544 → ∀ (k : Fin (mainL (rowsW bw v0 v1)).trips) (l : Fin (mainL (colsW v2 v3)).trips) a,
      offA cw bw v0 v2 k l a + S16.size a ≤ S18816.size a := by
    intro cw co hcw hco k l a
    have hk : k.val < nr := h.trips ▸ k.isLt
    have hl : l.val < nb := h.tripsX ▸ l.isLt
    rw [Fin.fin_one_eq_zero a, h.offA hcw hco hk hl]
    show co + (yl + k) * 224 + (xl + l) * 16 + 16 ≤ 18816
    omega
  refine ⟨?_, key _ 0 rfl (by omega), key _ 6272 rfl (by omega), key _ 12544 rfl (by omega)⟩
  intro l a
  have hl : l.val < nb := h.tripsX ▸ l.isLt
  rw [Fin.fin_one_eq_zero a, h.offT ht htl hl]
  show toff + (xl + l) * 16 + 16 ≤ 7168
  omega

/-- The conditions the program assumes before the branch: the loops count, and what they touch is inside. The remainder
    loops' are of loops that run no trip. -/
def AllChk (C : Prop) (bw v0 v1 v2 v3 tw : BitVec 32)
    (p1 : Fin (leftL (colsW v2 v3)).trips → Fin 1 → ℕ) (q1 q2 q3 : Fin (mainL (rowsW bw v0 v1)).trips → Fin (leftL (colsW v2 v3)).trips → Fin 1 → ℕ)
    (p2 : Fin (mainL (colsW v2 v3)).trips → Fin 1 → ℕ) (q4 q5 q6 : Fin (leftL (rowsW bw v0 v1)).trips → Fin (mainL (colsW v2 v3)).trips → Fin 1 → ℕ)
    (p3 : Fin (leftL (colsW v2 v3)).trips → Fin 1 → ℕ) (q7 q8 q9 : Fin (leftL (rowsW bw v0 v1)).trips → Fin (leftL (colsW v2 v3)).trips → Fin 1 → ℕ) : Prop :=
  (C → (mainL (rowsW bw v0 v1)).OK) ∧
  (∀ _k : Fin (mainL (rowsW bw v0 v1)).trips, C → (mainL (colsW v2 v3)).OK) ∧
  (∀ (_k : Fin (mainL (rowsW bw v0 v1)).trips) (l : Fin (mainL (colsW v2 v3)).trips), C → ∀ a, offT tw v2 l a + S16.size a ≤ S7168.size a) ∧
  (∀ (k : Fin (mainL (rowsW bw v0 v1)).trips) (l : Fin (mainL (colsW v2 v3)).trips), C → ∀ a, offA 0#32 bw v0 v2 k l a + S16.size a ≤ S18816.size a) ∧
  (∀ (k : Fin (mainL (rowsW bw v0 v1)).trips) (l : Fin (mainL (colsW v2 v3)).trips), C → ∀ a, offA 6272#32 bw v0 v2 k l a + S16.size a ≤ S18816.size a) ∧
  (∀ (k : Fin (mainL (rowsW bw v0 v1)).trips) (l : Fin (mainL (colsW v2 v3)).trips), C → ∀ a, offA 12544#32 bw v0 v2 k l a + S16.size a ≤ S18816.size a) ∧
  (∀ _k : Fin (mainL (rowsW bw v0 v1)).trips, C → (leftL (colsW v2 v3)).OK) ∧
  (∀ (_k : Fin (mainL (rowsW bw v0 v1)).trips) (l : Fin (leftL (colsW v2 v3)).trips), C → ∀ a, p1 l a + S16.size a ≤ S7168.size a) ∧
  (∀ (k : Fin (mainL (rowsW bw v0 v1)).trips) (l : Fin (leftL (colsW v2 v3)).trips), C → ∀ a, q1 k l a + S16.size a ≤ S18816.size a) ∧
  (∀ (k : Fin (mainL (rowsW bw v0 v1)).trips) (l : Fin (leftL (colsW v2 v3)).trips), C → ∀ a, q2 k l a + S16.size a ≤ S18816.size a) ∧
  (∀ (k : Fin (mainL (rowsW bw v0 v1)).trips) (l : Fin (leftL (colsW v2 v3)).trips), C → ∀ a, q3 k l a + S16.size a ≤ S18816.size a) ∧
  (C → (leftL (rowsW bw v0 v1)).OK) ∧
  (∀ _k : Fin (leftL (rowsW bw v0 v1)).trips, C → (mainL (colsW v2 v3)).OK) ∧
  (∀ (_k : Fin (leftL (rowsW bw v0 v1)).trips) (l : Fin (mainL (colsW v2 v3)).trips), C → ∀ a, p2 l a + S16.size a ≤ S7168.size a) ∧
  (∀ (k : Fin (leftL (rowsW bw v0 v1)).trips) (l : Fin (mainL (colsW v2 v3)).trips), C → ∀ a, q4 k l a + S16.size a ≤ S18816.size a) ∧
  (∀ (k : Fin (leftL (rowsW bw v0 v1)).trips) (l : Fin (mainL (colsW v2 v3)).trips), C → ∀ a, q5 k l a + S16.size a ≤ S18816.size a) ∧
  (∀ (k : Fin (leftL (rowsW bw v0 v1)).trips) (l : Fin (mainL (colsW v2 v3)).trips), C → ∀ a, q6 k l a + S16.size a ≤ S18816.size a) ∧
  (∀ _k : Fin (leftL (rowsW bw v0 v1)).trips, C → (leftL (colsW v2 v3)).OK) ∧
  (∀ (_k : Fin (leftL (rowsW bw v0 v1)).trips) (l : Fin (leftL (colsW v2 v3)).trips), C → ∀ a, p3 l a + S16.size a ≤ S7168.size a) ∧
  (∀ (k : Fin (leftL (rowsW bw v0 v1)).trips) (l : Fin (leftL (colsW v2 v3)).trips), C → ∀ a, q7 k l a + S16.size a ≤ S18816.size a) ∧
  (∀ (k : Fin (leftL (rowsW bw v0 v1)).trips) (l : Fin (leftL (colsW v2 v3)).trips), C → ∀ a, q8 k l a + S16.size a ≤ S18816.size a) ∧
  (∀ (k : Fin (leftL (rowsW bw v0 v1)).trips) (l : Fin (leftL (colsW v2 v3)).trips), C → ∀ a, q9 k l a + S16.size a ≤ S18816.size a)

theorem allChk {C : Prop} {bw v0 v1 v2 v3 tw : BitVec 32} (hI : C → BoxIn bw v0 v1 v2 v3 tw)
    {p1 q1 q2 q3 p2 q4 q5 q6 p3 q7 q8 q9} : AllChk C bw v0 v1 v2 v3 tw p1 q1 q2 q3 p2 q4 q5 q6 p3 q7 q8 q9 := by
  have hz : ∀ {n : BitVec 32}, Fin (leftL n).trips → False := fun {n} k => by have h1 := k.isLt; have h2 := leftL_trips n; omega
  exact ⟨fun _ => mainL_ok _, fun _ _ => mainL_ok _, fun _ l h => (hI h).hT l, fun k l h => (hI h).hA k l, fun k l h => (hI h).hB k l, fun k l h => (hI h).hC k l,
    fun _ _ => leftL_ok _, fun _ l => (hz l).elim, fun _ l => (hz l).elim, fun _ l => (hz l).elim, fun _ l => (hz l).elim,
    fun _ => leftL_ok _, fun k => (hz k).elim, fun k => (hz k).elim, fun k => (hz k).elim, fun k => (hz k).elim, fun k => (hz k).elim,
    fun k => (hz k).elim, fun k => (hz k).elim, fun k => (hz k).elim, fun k => (hz k).elim, fun k => (hz k).elim⟩

section

variable {Λ : Labels} {defs : Defs nD τ sig (Elt F) Λ} (𝒱 : Variants) (c : Thread nD τ) (bd : Option 𝒱.V) (E : Set ℕ)
variable {α : Type} {boff : ℕ}

/-- A row of the printed block. -/
def mkR {pr : Proc τ} {bw v0 v1 v2 v3 tw : BitVec 32} (hI : BoxIn bw v0 v1 v2 v3 tw) (KR : Chk 7168) (K : Fin 12 → Chk 24576)
    (k : Fin (mainL (rowsW bw v0 v1)).trips)
    (rem : IVec S16 32 → IVec S16 32 → FVec F S16 .f32 → FVec F S16 .f32 → Fin (leftL (colsW v2 v3)).trips → PUnit.{1} → Prog (TpuEff nD τ sig (Elt F) Λ pr) PUnit) :
    RowArgs F Λ pr where
  KR := KR
  K := K
  lp := mainL (colsW v2 v3)
  hlp := mainL_ok _
  lr := leftL (colsW v2 v3)
  hlr := leftL_ok _
  o5 l := offT tw v2 l
  h5 := hI.hT
  o6 l := offA 0#32 bw v0 v2 k l
  h6 := hI.hA k
  o7 l := offA 6272#32 bw v0 v2 k l
  h7 := hI.hB k
  o8 l := offA 12544#32 bw v0 v2 k l
  h8 := hI.hC k
  rem := rem

theorem wp_box (M : Bufs c.2) (tm : Memref sig c.2.kind .vmem S18816 .f32) (co : Fin 3 → BitVec 32)
    (T : Tabs F) (hT : T.Ok) (P g : ℕ → F .f32) {Z : sProp 𝕄} (hZ : PmRule 𝒱 c bd E defs M.pm Z P boff) (ws : F .f32) (toff blo : ℕ)
    {bw v0 v1 v2 v3 tw : BitVec 32} {e : BitVec 1} (hbw : bw = BitVec.ofNat 32 blo) (h2 : v2.toNat ≤ 14) (h3 : v3.toNat ≤ 14) (htw : tw.toNat = toff)
    (hoff : toff ≤ 6944) (hblo : blo ≤ 196) (hboff : boff ≤ 12288) (hco : ∀ n : Fin 3, co n = BitVec.ofNat 32 (boff + 4096 * n.val))
    (KR : condW bw v0 v1 e = 1#1 → Chk 7168) (K : condW bw v0 v1 e = 1#1 → Fin 12 → Chk 24576)
    (hI : condW bw v0 v1 e = 1#1 → BoxIn bw v0 v1 v2 v3 tw)
    {kk : Prog (TpuEff nD τ sig (Elt F) Λ c.2) α}
    {t : condW bw v0 v1 e = 1#1 → Prog (TpuEff nD τ sig (Elt F) Λ c.2) α} {el : ¬ condW bw v0 v1 e = 1#1 → Prog (TpuEff nD τ sig (Elt F) Λ c.2) α}
    (hel : ∀ h, el h = kk)
    (ht : ∀ h, ∃ (rem : Fin (mainL (rowsW bw v0 v1)).trips → IVec S16 32 → IVec S16 32 → FVec F S16 .f32 → FVec F S16 .f32 → Fin (leftL (colsW v2 v3)).trips → PUnit.{1} → Prog (TpuEff nD τ sig (Elt F) Λ c.2) PUnit.{1})
      (rems : Fin (leftL (rowsW bw v0 v1)).trips → PUnit.{1} → Prog (TpuEff nD τ sig (Elt F) Λ c.2) PUnit.{1}), t h = (Scf.Loop.for (mainL (rowsW bw v0 v1)) (mainL_ok _) PUnit.unit (fun k _ =>
        rowBody M tm co ws (Scalar.addi tw (rowW bw v0 k)) (mkR (hI h) (KR h) (K h) k (rem k))) >>= fun _ =>
      Scf.Loop.for (leftL (rowsW bw v0 v1)) (leftL_ok _) PUnit.unit rems >>= fun _ => kk))
    {Φ : α → sProp 𝕄} :
    iprop(tabsOwn c M T Z ∗ own (e := .f32) c tm (arr g))
      ⊢ iprop((tabsOwn c M T Z -∗ own (e := .f32) c tm (arr (upd (boxU e v0 v1 v2 v3 blo) g (objR T P ws toff blo boff))) -∗ wp frame (wpE defs 𝒱 c bd) E kk Φ)
        -∗ wp frame (wpE defs 𝒱 c bd) E (dite (condW bw v0 v1 e = 1#1) t el) Φ) := by
  by_cases hc : condW bw v0 v1 e = 1#1
  · rw [dif_pos hc]
    obtain ⟨rem, rems, he⟩ := ht hc
    rw [he]
    obtain ⟨yl, nr, xl, nb, hb⟩ := inBand bw v0 v1 v2 v3 e blo hblo hbw h2 h3 hc
    have hmain := wp_objBody (defs := defs) (boff := boff) 𝒱 c bd E M tm co T hT P g hZ ws toff blo yl nr xl nb hoff hblo hboff hb.fhy hb.fhx hco
      (mainL (rowsW bw v0 v1)) (mainL_ok _) (leftL (rowsW bw v0 v1)) (leftL_ok _) (fun k => Scalar.addi tw (rowW bw v0 k))
      (fun k => mkR (hI hc) (KR hc) (K hc) k (rem k)) rems hb.trips (leftL_trips _)
      (fun k => hb.sy htw hoff (hb.trips ▸ k.isLt))
      (fun k => by
        have hk : k.val < nr := hb.trips ▸ k.isLt
        refine ⟨hb.tripsX, leftL_trips _, fun l => ?_, fun l => ?_, fun l => ?_, fun l => ?_⟩
        · exact hb.offT htw hoff (hb.tripsX ▸ l.isLt)
        · exact (hb.offA (co := 0) rfl (by omega) hk (hb.tripsX ▸ l.isLt)).trans (by omega)
        · exact hb.offA (co := 6272) rfl (by omega) hk (hb.tripsX ▸ l.isLt)
        · exact hb.offA (co := 12544) rfl (by omega) hk (hb.tripsX ▸ l.isLt))
      (k := fun _ => kk) (Φ := Φ)
    unfold objBody at hmain
    simp only [bind_assoc] at hmain
    have hs : upd (fun p => (yl ≤ p / 224 % 28 ∧ p / 224 % 28 < yl + nr) ∧ xl ≤ p % 224 / 16 ∧ p % 224 / 16 < xl + nb) g (objR T P ws toff blo boff)
        = upd (boxU e v0 v1 v2 v3 blo) g (objR T P ws toff blo boff) := by
      funext p
      refine upd_eq ?_
      have h1 := hb.frows (p / 224 % 28) (Nat.mod_lt _ (by omega))
      have h2 := hb.fcols (p % 224 / 16)
      have h3 := ((condW_iff _ _ _ _).1 hc).2
      unfold boxU
      rw [h1, h2]
      constructor
      · rintro ⟨⟨a, b⟩, d, f⟩; exact ⟨h3, a, by exact_mod_cast b, d, f⟩
      · rintro ⟨-, a, b, d, f⟩; exact ⟨⟨a, by exact_mod_cast b⟩, d, f⟩
    rw [hs] at hmain
    exact hmain
  · rw [dif_neg hc, hel]
    have hs : upd (boxU e v0 v1 v2 v3 blo) g (objR T P ws toff blo boff) = g := by
      funext p
      refine upd_out ?_
      rintro ⟨h1, h2, h3, -⟩
      apply hc
      rw [condW_iff]
      refine ⟨?_, h1⟩
      have hbi : bw.toInt = blo := by rw [hbw]; exact toInt_of_toNat (by rw [BitVec.toNat_ofNat]; omega) (by omega)
      have hm : p / 224 % 28 < 28 := Nat.mod_lt _ (by omega)
      unfold loW hiW
      rw [max_toInt, min_toInt, hbi]
      have : (Scalar.addi bw 28#32).toInt = ((blo + 28 : ℕ) : ℤ) := by
        refine toInt_of_toNat ?_ (by omega)
        show (bw + 28#32).toNat = _
        rw [hbw, BitVec.toNat_add, BitVec.toNat_ofNat]
        show (blo % 2 ^ 32 + 28) % 2 ^ 32 = _
        omega
      rw [this]
      omega
    rw [hs]
    iintro ⟨HB, HT⟩ Hk
    iapply Hk $$ HB HT

end

end Cert.Proof.Tile
-- ==== Proof.Moves.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Patch

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! The copies of a tile: issued, in flight, landed, over what the two ends hold. -/

section

variable {Λ : Labels} {defs : Defs nD τ sig (Elt F) Λ} (𝒱 : Variants) (c : Thread nD τ) (bd : Option 𝒱.V)
variable {α : Type}

/-- A share of the memref's elements, reading `a`. -/
def ownq {sp : Space} {s : Shape} {e : EltTy} (m : Memref sig c.2.kind sp s e) (q : PosShare TreeShare) (a : s.Idx → Elt F e) : sProp 𝕄 :=
  iprop(∃ f : Buf (Elt F) (m.view.loc c), ⌜m.view.read (Elt F) f = a⌝ ∗ (m.view.loc c ↦[m.view.set]{q} f))

/-- A copy in flight on the cell, that will hand over `D`. -/
def Fly (sem : DmaSem sig) (N : ℕ) (D : sProp 𝕄) : sProp 𝕄 :=
  iprop(∃ D₀ : sProp 𝕄, Transfers.Flight EC c (.dma sem) (default : HIx 1) N D₀ ∗ (D₀ -∗ D))

/-- What the tile owes, with what it has waited for since. -/
def OW (O : CellTallies nD τ sig (HIx 1)) (W : Waits sig (HIx 1)) : sProp 𝕄 :=
  iprop(∃ W', ⌜∀ p ∈ W', p ∈ W ∨ p.2 = none⌝ ∗ owes c O W')

theorem wp_land {O : CellTallies nD τ sig (HIx 1)} {W : Waits sig (HIx 1)} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {kk : PUnit → Prog (TpuEff nD τ sig (Elt F) Λ c.2) α} {Φ : α → sProp 𝕄} {N : ℕ} (hN : dstw.view.dmaCredit = N) {D : sProp 𝕄} :
    iprop(Fly c sem N D ∗ OW c O W ∗ Transfers.MayWaits c (default : HIx 1) O)
      ⊢ iprop((iprop(D ∗ semVal (c, .dma sem) 0 ∗ OW c O W) -∗ wp frame (wpE defs 𝒱 c bd) Set.univ (kk ⟨⟩) Φ)
          -∗ wp frame (wpE defs 𝒱 c bd) Set.univ (Prog.lift (.waitDma2 sem srcw dstw hsrc hdst) >>= kk) Φ) := by
  unfold Fly OW
  iintro ⟨⟨%D₀, Hfl, HD⟩, ⟨%W', %hW, HO⟩, #Hmw⟩ Hk
  iapply (Transfers.wp_waitLocalO EC 𝒱 c bd (default : HIx 1) hN) $$ [Hfl HO]
  · isplitl [Hfl]; · iexact Hfl
    isplitl [HO]; · iexact HO
    iapply (Transfers.MayWaits.elim (SemLoc.dma sem)) $$ Hmw
  iintro ⟨HD₀, Hsem, HO⟩
  iapply Hk
  isplitl [HD HD₀]; · iapply HD $$ HD₀
  isplitl [Hsem]; · iexact Hsem
  iexists (insert (SemLoc.dma sem, (default : HIx 1)) W')
  isplitr
  · ipureintro
    intro p hp
    rcases Finset.mem_insert.1 hp with rfl | hp
    · exact Or.inr rfl
    · exact hW p hp
  iexact HO

/-- A copy out of a whole memref. -/
theorem wp_issue {sp sp' : Space} {s : Shape} {e : EltTy} {src : Memref sig c.2.kind sp s e} {dst : Memref sig c.2.kind sp' s e}
    {sem : DmaSem sig} {hsrc : src.view.WordExact} {hdst : dst.view.WordExact} {hsem : DmaTarget.Typed (nD := nD) sp (.dma sem) (.here dst)}
    {kk : PUnit → Prog (TpuEff nD τ sig (Elt F) Λ c.2) α} {Φ : α → sProp 𝕄} {q : PosShare TreeShare} {a a₀ : s.Idx → Elt F e} (N : ℕ)
    (hN : dst.view.amount (.dma sem) = N) (hN0 : 0 < N) :
    iprop(ownq c src q a ∗ own c dst a₀ ∗ semVal (c, .dma sem) 0)
      ⊢ iprop((Fly c sem N iprop(own c dst a ∗ ownq c src q a) -∗ wp frame (wpE defs 𝒱 c bd) Set.univ (kk ⟨⟩) Φ)
          -∗ wp frame (wpE defs 𝒱 c bd) Set.univ (Prog.lift (.enqueueDma src (.here dst) (.dma sem) hsrc hdst hsem) >>= kk) Φ) := by
  unfold Fly ownq own
  iintro ⟨⟨%fs, %hs, Hs⟩, ⟨%fd, -, Hd⟩, Hv⟩ Hk
  iapply (Transfers.wp_dmaLocal EC 𝒱 c bd (default : HIx 1) N hN hN0 (subset_refl dst.view.set)) $$ [Hs Hd Hv]
  · isplitl [Hs]; · iexact Hs
    isplitl [Hd] <;> iassumption
  iintro Hfl
  iapply Hk
  iexists _
  isplitl [Hfl]; · iexact Hfl
  iintro ⟨Hd, Hs⟩
  isplitl [Hd]
  · iexists (View.write (Elt F) dst.view fd (ReadAs.same.apply (Val := Elt F) (src.view.read (Elt F) fs)) Finset.univ)
    isplitr
    · ipureintro
      rw [View.read_write_univ]
      exact hs
    iexact Hd
  · iexists fs
    isplitr; · ipureintro; exact hs
    iexact Hs

/-- A copy out of a stretch of a one-axis memref. -/
theorem wp_issueS {sp sp' : Space} {d : Fin 1 → ℕ} {d' : Fin 1 → ℕ} {e : EltTy} {base : Memref sig c.2.kind sp ⟨1, d⟩ e} {off : Fin 1 → ℕ}
    {inb : ∀ a, off a + d' a ≤ d a} {hst} {dst : Memref sig c.2.kind sp' ⟨1, d'⟩ e}
    {sem : DmaSem sig} {hsrc : (base.slice (Rect.unit (s := ⟨1, d⟩) off d' inb) hst).view.WordExact} {hdst : dst.view.WordExact}
    {hsem : DmaTarget.Typed (nD := nD) sp (.dma sem) (.here dst)}
    {kk : PUnit → Prog (TpuEff nD τ sig (Elt F) Λ c.2) α} {Φ : α → sProp 𝕄} {q : PosShare TreeShare} {A : ℕ → Elt F e} {a₀ : (⟨1, d'⟩ : Shape).Idx → Elt F e} (N : ℕ)
    (hN : dst.view.amount (.dma sem) = N) (hN0 : 0 < N) :
    iprop(ownq c base q (arr A) ∗ own c dst a₀ ∗ semVal (c, .dma sem) 0)
      ⊢ iprop((Fly c sem N iprop(own c dst (arr fun k => A (off 0 + k)) ∗ ownq c base q (arr A)) -∗ wp frame (wpE defs 𝒱 c bd) Set.univ (kk ⟨⟩) Φ)
          -∗ wp frame (wpE defs 𝒱 c bd) Set.univ
            (Prog.lift (.enqueueDma (base.slice (Rect.unit (s := ⟨1, d⟩) off d' inb) hst) (.here dst) (.dma sem) hsrc hdst hsem) >>= kk) Φ) := by
  unfold Fly ownq own
  iintro ⟨⟨%fs, %hs, Hs⟩, ⟨%fd, -, Hd⟩, Hv⟩ Hk
  have hsub : (base.slice (Rect.unit (s := ⟨1, d⟩) off d' inb) hst).view.set ⊆ base.view.set := View.set_slice_subset _ _
  ihave Hs := (pointsTo_split_subset (ℓ := base.view.loc c) (q := q) (f := fs) hsub).1 $$ Hs
  icases Hs with ⟨Hs, Hr⟩
  iapply (Transfers.wp_dmaLocal EC 𝒱 c bd (default : HIx 1) N hN hN0 (subset_refl dst.view.set)) $$ [Hs Hd Hv]
  · isplitl [Hs]; · iexact Hs
    isplitl [Hd] <;> iassumption
  iintro Hfl
  iapply Hk
  iexists _
  isplitl [Hfl]; · iexact Hfl
  iintro ⟨Hd, Hs⟩
  isplitl [Hd]
  · iexists (View.write (Elt F) dst.view fd (ReadAs.same.apply (Val := Elt F) ((base.slice (Rect.unit (s := ⟨1, d⟩) off d' inb) hst).view.read (Elt F) fs)) Finset.univ)
    isplitr
    · ipureintro
      funext y
      rw [View.read_write_univ]
      show base.view.read (Elt F) fs ((Rect.unit (s := ⟨1, d⟩) off d' inb).emb y) = _
      rw [hs]
      unfold arr
      congr 1
      show off 0 + 1 * (y 0).val = _
      omega
    iexact Hd
  · iexists fs
    isplitr; · ipureintro; exact hs
    iapply (pointsTo_split_subset (ℓ := base.view.loc c) (q := q) (f := fs) hsub).2
    isplitl [Hs] <;> iassumption

variable (pm : Memref sig c.2.kind .vmem S24576 .f32) {o : ℕ} (h : ∀ a, (![o] : Fin 1 → ℕ) a + S12288.size a ≤ S24576.size a)

/-- A half-buffer the tile holds, reading what the patches hold from `b` on. -/
def slotAt (D3 : ℕ → F .f32) (b : ℕ) : sProp 𝕄 :=
  iprop(∃ f, ⌜∀ y : S12288.Idx, (slotM c pm o h).view.read (Elt F) f y = D3 (b + (y 0).val)⌝ ∗ halfAt c pm h f)

/-- A patch's copy into a half-buffer. -/
theorem wp_fetch (γ δ₀ δ₁ : ℕ) (κ : ℕ) (X : sProp 𝕄) [Storable (upEmb : UEmb _ 𝕄) X]
    (hX : ⊢ iprop(X -∗ (Transfers.tok EC γ ∗ Transfers.tok EC δ₀ ∗ Transfers.tok EC δ₁) -∗ (False : sProp 𝕄)))
    {base : Memref sig c.2.kind .hbm S1572864 .f32} {off : Fin 1 → ℕ} {inb : ∀ a, off a + S12288.size a ≤ S1572864.size a} {hst}
    {sem : DmaSem sig} {hsrc : (base.slice (Rect.unit (s := S1572864) off S12288.size inb) hst).view.WordExact} {hdst : (slotM c pm o h).view.WordExact}
    {hsem : DmaTarget.Typed (nD := nD) .hbm (.dma sem) (.here (slotM c pm o h))}
    {kk : PUnit → Prog (TpuEff nD τ sig (Elt F) Λ c.2) α} {Φ : α → sProp 𝕄} {q : PosShare TreeShare} {D3 : ℕ → F .f32} (b : ℕ) (hb : off 0 = b) (N : ℕ)
    (hN : (slotM c pm o h).view.amount (.dma sem) = N) (hN0 : 0 < N) :
    iprop(inv κ (cellBody (F := F) c pm γ δ₀ δ₁) ∗ X ∗ (∃ fd, halfAt c pm h fd) ∗ ownq (e := .f32) c base q (arr D3) ∗ semVal (c, .dma sem) 0)
      ⊢ iprop((Fly c sem N iprop(X ∗ slotAt c pm h D3 b ∗ ownq (e := .f32) c base q (arr D3)) -∗ wp frame (wpE defs 𝒱 c bd) Set.univ (kk ⟨⟩) Φ)
          -∗ wp frame (wpE defs 𝒱 c bd) Set.univ
            (Prog.lift (.enqueueDma (base.slice (Rect.unit (s := S1572864) off S12288.size inb) hst) (.here (slotM c pm o h)) (.dma sem) hsrc hdst hsem) >>= kk) Φ) := by
  unfold Fly ownq slotAt
  iintro ⟨#Hinv, HX, ⟨%fd, Hd⟩, ⟨%fs, %hs, Hs⟩, Hv⟩ Hk
  have hsub : (base.slice (Rect.unit (s := S1572864) off S12288.size inb) hst).view.set ⊆ base.view.set := View.set_slice_subset _ _
  ihave Hs := (pointsTo_split_subset (ℓ := base.view.loc c) (q := q) (f := fs) hsub).1 $$ Hs
  icases Hs with ⟨Hs, Hr⟩
  iapply (wp_slotCopy 𝒱 c bd pm h γ δ₀ δ₁ κ X hX fd N hN hN0) $$ [HX Hs Hd Hv]
  · isplitr; · iexact Hinv
    isplitl [HX]; · iexact HX
    isplitl [Hd]; · iexact Hd
    isplitl [Hs] <;> iassumption
  iintro Hfl
  iapply Hk
  iexists _
  isplitl [Hfl]; · iexact Hfl
  iintro ⟨⟨HX, Hd⟩, Hs⟩
  isplitl [HX]; · iexact HX
  isplitl [Hd]
  · iexists (View.write (Elt F) (slotM c pm o h).view fd (ReadAs.same.apply (Val := Elt F) ((base.slice (Rect.unit (s := S1572864) off S12288.size inb) hst).view.read (Elt F) fs)) Finset.univ)
    isplitr
    · ipureintro
      intro y
      rw [View.read_write_univ]
      show base.view.read (Elt F) fs ((Rect.unit (s := S1572864) off S12288.size inb).emb y) = _
      rw [hs]
      unfold arr
      congr 1
      show off 0 + 1 * (y 0).val = _
      omega
    iexact Hd
  · iexists fs
    isplitr; · ipureintro; exact hs
    iapply (pointsTo_split_subset (ℓ := base.view.loc c) (q := q) (f := fs) hsub).2
    isplitl [Hs] <;> iassumption

theorem wp_loadB {E : Set ℕ} {cs : CoreSpace} {d : Fin 1 → ℕ} {e : EltTy} {m : Memref sig c.2.kind cs ⟨1, d⟩ e} {off : Fin 1 → ℕ}
    {inb : ∀ a, off a + S16.size a ≤ (⟨1, d⟩ : Shape).size a} {hl : m.view.LoadsAt (Rect.unit (s := ⟨1, d⟩) off S16.size inb).toLoadRect}
    {k : (S16.Idx → Elt F e) → Prog (TpuEff nD τ sig (Elt F) Λ c.2) α} {Q : α → sProp 𝕄} (g : ℕ → Elt F e) :
    own c m (arr g)
      ⊢ iprop((own c m (arr g) -∗ wp frame (wpE defs 𝒱 c bd) E (k (fun x => g (off 0 + (x 0).val))) Q)
        -∗ wp frame (wpE defs 𝒱 c bd) E (Prog.lift (.load m (Rect.unit (s := ⟨1, d⟩) off S16.size inb).toLoadRect hl) >>= k) Q) :=
  own_load 𝒱 c bd E inb g

theorem wp_assumeB {E : Set ℕ} {P : Prop} {dP : Decidable P} (hP : P) {k : PLift P → Prog (TpuEff nD τ sig (Elt F) Λ c.2) α} {Q : α → sProp 𝕄} :
    wp frame (wpE defs 𝒱 c bd) E (k ⟨hP⟩) Q ⊢ wp (M := 𝕄) frame (wpE defs 𝒱 c bd) E (Prog.lift (.assume P dP) >>= k) Q :=
  wp_assume 𝒱 c bd E hP

end

end Cert.Proof.Tile
-- ==== Proof.Step.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.ObjRun
public import proofs.«01_k».proof.Proof.Words
public import proofs.«01_k».proof.Proof.Patch
public import proofs.«01_k».proof.Proof.Box
public import proofs.«01_k».proof.Proof.Moves

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! One object of a tile's loop: its patch lands, its box is added, the next patch is sent for. -/

/-- A tile, as a thread. -/
abbrev cT (d : Dev nD) (i : grid0.Coords) : Thread nD τ := V d ((i 0).castLE hcore0) ((i 1).castLE hsub0)

/-- The batch a tile works on. -/
def bN (i : grid0.Coords) : ℕ := (2 * (i 1).val + (i 0).val) / 8

theorem bN_lt (i : grid0.Coords) : bN i < 4 := by
  have h0 : (i 0).val < 2 := (i 0).isLt
  have h1 : (i 1).val < 16 := (i 1).isLt
  unfold bN; omega

section

variable (i : grid0.Coords)

/-- The tile's tables and patch buffers. -/
abbrev bufs : Bufs (.scVector ((i 0).castLE hcore0) ((i 1).castLE hsub0)) :=
  ⟨Memref.whole cc0_scratch0, Memref.whole cc0_scratch1, Memref.whole cc0_scratch2, Memref.whole cc0_scratch3, Memref.whole cc0_scratch4,
   Memref.whole cc0_scratch5, Memref.whole cc0_scratch6, Memref.whole cc0_scratch7, Memref.whole cc0_scratch10⟩

end

def K24 (C : Prop) (P : IVec S16 32 → Prop) (D : ∀ v, Decidable (P v)) (e : ∀ v, P v ↔ (C → ∀ a x, ((![v] : Fin 1 → IVec S16 32) a x).toNat < S24576.size a)) (h : C) : Chk 24576 where
  P := P
  D := D
  inb v hv x := (e v).1 hv h 0 x
  ok v hv := (e v).2 fun _ a x => by rw [Fin.fin_one_eq_zero a]; exact hv x

def K7 (C : Prop) (P : IVec S16 32 → Prop) (D : ∀ v, Decidable (P v)) (e : ∀ v, P v ↔ ((C → ∀ a x, ((![v] : Fin 1 → IVec S16 32) a x).toNat < S7168.size a) ∧ (C → ∀ a x, ((![v] : Fin 1 → IVec S16 32) a x).toNat < S7168.size a) ∧ (C → ∀ a x, ((![v] : Fin 1 → IVec S16 32) a x).toNat < S7168.size a) ∧ (C → ∀ a x, ((![v] : Fin 1 → IVec S16 32) a x).toNat < S7168.size a))) (h : C) : Chk 7168 where
  P := P
  D := D
  inb v hv x := ((e v).1 hv).1 h 0 x
  ok v hv := by
    have : C → ∀ a x, ((![v] : Fin 1 → IVec S16 32) a x).toNat < S7168.size a := fun _ a x => by rw [Fin.fin_one_eq_zero a]; exact hv x
    exact (e v).2 ⟨this, this, this, this⟩

/-- Whether a weight is nought, as the program asks it. -/
def eqz (w : F .f32) : BitVec 1 := Scalar.cmpf .oeq w (Scalar.ofBits .f32 0x00000000#32)

/-- Where the patches of the tile's objects start. -/
def pbN (i : grid0.Coords) (n : ℕ) : ℕ := (bN i * 32 + n) * 12288

/-- An object's patch in its half of the buffer. -/
def patchP (D3 : ℕ → F .f32) (i : grid0.Coords) (n : ℕ) : ℕ → F .f32 := fun x => D3 (pbN i n + (x - n % 2 * 12288))

/-- The accumulator with an object added. -/
def objStep (T : Tabs F) (D3 : ℕ → F .f32) (Mt : ℕ → BitVec 32) (Wt : ℕ → F .f32) (i : grid0.Coords) (n : ℕ) (g : ℕ → F .f32) : ℕ → F .f32 :=
  upd (boxU (eqz (Wt (16 * n))) (Mt (16 * n)) (Mt (16 * n + 1)) (Mt (16 * n + 2)) (Mt (16 * n + 3)) (bloN i)) g
    (objR T (patchP D3 i n) (Wt (16 * n)) (224 * n) (bloN i) (n % 2 * 12288))

/-- A word of a vector, as the program takes it out. -/
theorem ext0 {e : EltTy} {g : ℕ → Elt F e} {off : Fin 1 → ℕ} {n : ℕ} (hoff : off 0 = n) {h h'} :
    extractAt ![0] (extractStridedSlice S1 ![0] (fun x : S16.Idx => g (off 0 + (x 0).val)) h) h' = g n := by rw [hoff]; rfl
theorem ext1 {e : EltTy} {g : ℕ → Elt F e} {off : Fin 1 → ℕ} {n : ℕ} (hoff : off 0 = n) {h h'} :
    extractAt ![0] (extractStridedSlice S1 ![1] (fun x : S16.Idx => g (off 0 + (x 0).val)) h) h' = g (n + 1) := by rw [hoff]; rfl
theorem ext2 {e : EltTy} {g : ℕ → Elt F e} {off : Fin 1 → ℕ} {n : ℕ} (hoff : off 0 = n) {h h'} :
    extractAt ![0] (extractStridedSlice S1 ![2] (fun x : S16.Idx => g (off 0 + (x 0).val)) h) h' = g (n + 2) := by rw [hoff]; rfl
theorem ext3 {e : EltTy} {g : ℕ → Elt F e} {off : Fin 1 → ℕ} {n : ℕ} (hoff : off 0 = n) {h h'} :
    extractAt ![0] (extractStridedSlice S1 ![3] (fun x : S16.Idx => g (off 0 + (x 0).val)) h) h' = g (n + 3) := by rw [hoff]; rfl

theorem step_eq (T : Tabs F) (D3 : ℕ → F .f32) (Mt : ℕ → BitVec 32) (Wt : ℕ → F .f32) (i : grid0.Coords) (n : ℕ) (g : ℕ → F .f32)
    {boff toff : ℕ} {w : F .f32} {v0 v1 v2 v3 : BitVec 32} (hw : w = Wt (16 * n)) (h0 : v0 = Mt (16 * n)) (h1 : v1 = Mt (16 * n + 1))
    (h2 : v2 = Mt (16 * n + 2)) (h3 : v3 = Mt (16 * n + 3)) (hb : boff = n % 2 * 12288) (ht : toff = 224 * n) :
    upd (boxU (eqz w) v0 v1 v2 v3 (bloN i)) g (objR T (patchP D3 i n) w toff (bloN i) boff) = objStep T D3 Mt Wt i n g := by
  subst hw h0 h1 h2 h3 hb ht; rfl

section

variable {Λ : Labels} {defs : Defs nD τ sig (Elt F) Λ} (𝒱 : Variants) (c : Thread nD τ) (bd : Option 𝒱.V)
variable {α : Type}

theorem tabs_open (M : Bufs c.2) (T : Tabs F) (Z : sProp 𝕄) : tabsOwn c M T Z ⊢ iprop(tabsOwn c M T iprop(emp) ∗ Z) := by
  unfold tabsOwn
  iintro ⟨H0, H1, H2, H3, H4, H5, H6, H7, HZ⟩
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  · iexact HZ

theorem tabs_close (M : Bufs c.2) (T : Tabs F) (Z : sProp 𝕄) : iprop(tabsOwn c M T iprop(emp) ∗ Z) ⊢ tabsOwn c M T Z := by
  unfold tabsOwn
  iintro ⟨⟨H0, H1, H2, H3, H4, H5, H6, H7, -⟩, HZ⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HZ

end

end Cert.Proof.Tile
-- ==== Proof.Object.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.ObjRun
public import proofs.«01_k».proof.Proof.Words
public import proofs.«01_k».proof.Proof.Step

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000

/-! One object: its patch lands, its box and weight are read, its box is added. -/

/-- A word of a vector, as the program takes it out. -/
abbrev wd {e : EltTy} (j : Fin 1 → ℕ) (h : S16.Slices j S1) (v : S16.Idx → Elt F e) : Elt F e := extractAt ![0] (extractStridedSlice S1 j v h) inpos_S1_p0

/-- What a tile holds while it works: its tables, the boxes, the weights, what it owes. -/
def Held (d : Dev nD) (i : grid0.Coords) (T : Tabs F) (Mt : ℕ → BitVec 32) (Wt : ℕ → F .f32) (O : CellTallies nD τ sig (HIx 1)) (W : Waits sig (HIx 1)) : sProp 𝕄 :=
  iprop(tabsOwn (cT d i) (bufs i) T iprop(emp) ∗ own (cT d i) (e := .i32) (Memref.whole cc0_scratch8) (arr Mt)
    ∗ own (cT d i) (e := .f32) (Memref.whole cc0_scratch9) (arr Wt) ∗ OW (cT d i) O W ∗ Transfers.MayWaits (cT d i) (default : HIx 1) O)

variable (𝒱 : Variants) {bd : Option 𝒱.V} (d : Dev nD) (i : grid0.Coords)

theorem wp_obj (T : Tabs F) (hT : T.Ok) (D3 : ℕ → F .f32) (Mt : ℕ → BitVec 32) (Wt : ℕ → F .f32)
    (γ δ₀ δ₁ κ : ℕ) {O : CellTallies nD τ sig (HIx 1)} {W : Waits sig (HIx 1)} (g : ℕ → F .f32)
    (tm : Memref sig (cT d i).2.kind .vmem S18816 .f32) (n : ℕ) (hn : n < 32) (hM : (Mt (16 * n + 2)).toNat ≤ 14 ∧ (Mt (16 * n + 3)).toNat ≤ 14)
    {o : ℕ} (ho : o = n % 2 * 12288) (h : ∀ a, (![o] : Fin 1 → ℕ) a + S12288.size a ≤ S24576.size a) (co : Fin 3 → BitVec 32)
    (hco : ∀ n : Fin 3, co n = BitVec.ofNat 32 (o + 4096 * n.val)) {tw : BitVec 32} (htw : tw.toNat = 224 * n)
    {off : Fin 1 → ℕ} (hoff : off 0 = 16 * n) {X : sProp 𝕄} {sem : DmaSem sig}
    {s' : Shape} {e' : EltTy} {sp' : Space} {srcw : Memref sig (cT d i).2.kind sp' s' e'} {hsrc : srcw.view.WordExact}
    {hdst : (slotM (cT d i) (Memref.whole cc0_scratch10) o h).view.WordExact} {inb1 inb2 hl1 hl2}
    {α : Type} {Φ : α → sProp 𝕄}
    {C : (S16.Idx → BitVec 32) → (S16.Idx → F .f32) → Prop} {dC : ∀ v u, Decidable (C v u)}
    {t : ∀ (v : S16.Idx → BitVec 32) (u : S16.Idx → F .f32) (_ : PLift (C v u)),
      condW (bloW i) (wd (F := F) (e := .i32) ![0] slices_S16_o0_S1 v) (wd (F := F) (e := .i32) ![1] slices_S16_o1_S1 v) (eqz (wd (F := F) (e := .f32) ![0] slices_S16_o0_S1 u)) = 1#1 →
        Prog (TpuEff nD τ sig (Elt F) Λ₀ (cT d i).2) α}
    {el : ∀ (v : S16.Idx → BitVec 32) (u : S16.Idx → F .f32) (_ : PLift (C v u)),
      ¬ condW (bloW i) (wd (F := F) (e := .i32) ![0] slices_S16_o0_S1 v) (wd (F := F) (e := .i32) ![1] slices_S16_o1_S1 v) (eqz (wd (F := F) (e := .f32) ![0] slices_S16_o0_S1 u)) = 1#1 →
        Prog (TpuEff nD τ sig (Elt F) Λ₀ (cT d i).2) α}
    {kk : (S16.Idx → BitVec 32) → (S16.Idx → F .f32) → Prog (TpuEff nD τ sig (Elt F) Λ₀ (cT d i).2) α}
    (hC : ∀ (v : S16.Idx → BitVec 32) u, (condW (bloW i) (wd (F := F) (e := .i32) ![0] slices_S16_o0_S1 v) (wd (F := F) (e := .i32) ![1] slices_S16_o1_S1 v) (eqz (wd (F := F) (e := .f32) ![0] slices_S16_o0_S1 u)) = 1#1 →
      BoxIn (bloW i) (wd (F := F) (e := .i32) ![0] slices_S16_o0_S1 v) (wd (F := F) (e := .i32) ![1] slices_S16_o1_S1 v)
        (wd (F := F) (e := .i32) ![2] slices_S16_o2_S1 v) (wd (F := F) (e := .i32) ![3] slices_S16_o3_S1 v) tw) → C v u)
    (KR : ∀ (v : S16.Idx → BitVec 32) (u : S16.Idx → F .f32), condW (bloW i) (wd (F := F) (e := .i32) ![0] slices_S16_o0_S1 v) (wd (F := F) (e := .i32) ![1] slices_S16_o1_S1 v) (eqz (wd (F := F) (e := .f32) ![0] slices_S16_o0_S1 u)) = 1#1 → Chk 7168)
    (K : ∀ (v : S16.Idx → BitVec 32) (u : S16.Idx → F .f32), condW (bloW i) (wd (F := F) (e := .i32) ![0] slices_S16_o0_S1 v) (wd (F := F) (e := .i32) ![1] slices_S16_o1_S1 v) (eqz (wd (F := F) (e := .f32) ![0] slices_S16_o0_S1 u)) = 1#1 → Fin 12 → Chk 24576)
    (hel : ∀ v u hc h, el v u hc h = kk v u)
    (ht : ∀ v u hc h hI, ∃ (rem : Fin (mainL (rowsW (bloW i) (wd (F := F) (e := .i32) ![0] slices_S16_o0_S1 v) (wd (F := F) (e := .i32) ![1] slices_S16_o1_S1 v))).trips → IVec S16 32 → IVec S16 32 → FVec F S16 .f32 → FVec F S16 .f32
        → Fin (leftL (colsW (wd (F := F) (e := .i32) ![2] slices_S16_o2_S1 v) (wd (F := F) (e := .i32) ![3] slices_S16_o3_S1 v))).trips → PUnit.{1} → Prog (TpuEff nD τ sig (Elt F) Λ₀ (cT d i).2) PUnit.{1})
      (rems : Fin (leftL (rowsW (bloW i) (wd (F := F) (e := .i32) ![0] slices_S16_o0_S1 v) (wd (F := F) (e := .i32) ![1] slices_S16_o1_S1 v))).trips → PUnit.{1} → Prog (TpuEff nD τ sig (Elt F) Λ₀ (cT d i).2) PUnit.{1}),
      t v u hc h = (Scf.Loop.for (mainL (rowsW (bloW i) (wd (F := F) (e := .i32) ![0] slices_S16_o0_S1 v) (wd (F := F) (e := .i32) ![1] slices_S16_o1_S1 v))) (mainL_ok _) PUnit.unit (fun k _ =>
        rowBody (bufs i) tm co (wd (F := F) (e := .f32) ![0] slices_S16_o0_S1 u) (Scalar.addi tw (rowW (bloW i) (wd (F := F) (e := .i32) ![0] slices_S16_o0_S1 v) k))
          (mkR (v1 := wd (F := F) (e := .i32) ![1] slices_S16_o1_S1 v) (v2 := wd (F := F) (e := .i32) ![2] slices_S16_o2_S1 v) (v3 := wd (F := F) (e := .i32) ![3] slices_S16_o3_S1 v) (tw := tw) hI (KR v u h) (K v u h) k (rem k))) >>= fun _ =>
      Scf.Loop.for (leftL (rowsW (bloW i) (wd (F := F) (e := .i32) ![0] slices_S16_o0_S1 v) (wd (F := F) (e := .i32) ![1] slices_S16_o1_S1 v))) (leftL_ok _) PUnit.unit rems >>= fun _ => kk v u)) {Y : sProp 𝕄} :
    iprop(Held d i T Mt Wt O W ∗ own (cT d i) (e := .f32) tm (arr g)
        ∗ inv κ (cellBody (F := F) (cT d i) (Memref.whole cc0_scratch10) γ δ₀ δ₁) ∗ Transfers.tok EC γ
        ∗ Fly (cT d i) sem (slotM (cT d i) (Memref.whole cc0_scratch10) o h).view.dmaCredit
            iprop(X ∗ slotAt (cT d i) (Memref.whole cc0_scratch10) h D3 (pbN i n) ∗ Y))
      ⊢ iprop((∀ v u, (Held d i T Mt Wt O W ∗ own (cT d i) (e := .f32) tm (arr (objStep T D3 Mt Wt i n g)) ∗ Transfers.tok EC γ
          ∗ X ∗ (∃ f, halfAt (cT d i) (Memref.whole cc0_scratch10) h f) ∗ Y ∗ semVal (cT d i, .dma sem) 0)
          -∗ wp frame (wpE (defs₀ (F := F)) 𝒱 (cT d i) bd) Set.univ (kk v u) Φ)
        -∗ wp frame (wpE (defs₀ (F := F)) 𝒱 (cT d i) bd) Set.univ
          (Prog.lift (.waitDma2 sem srcw (slotM (cT d i) (Memref.whole cc0_scratch10) o h) hsrc hdst) >>= fun _ =>
            Prog.lift (.load (Memref.whole cc0_scratch8) (Rect.unit (s := S512) off S16.size inb1).toLoadRect hl1) >>= fun (v : S16.Idx → BitVec 32) =>
            Prog.lift (.load (Memref.whole cc0_scratch9) (Rect.unit (s := S512) off S16.size inb2).toLoadRect hl2) >>= fun (u : S16.Idx → F .f32) =>
            Prog.lift (TpuEff.assume (C v u) (dC v u)) >>= fun hc =>
            dite (condW (bloW i) (wd (F := F) (e := .i32) ![0] slices_S16_o0_S1 v) (wd (F := F) (e := .i32) ![1] slices_S16_o1_S1 v) (eqz (wd (F := F) (e := .f32) ![0] slices_S16_o0_S1 u)) = 1#1) (t v u hc) (el v u hc)) Φ) := by
  unfold Held
  iintro ⟨⟨Htabs, Hm, Hw, HO, #Hmw⟩, Hacc, #Hinv, Hγ, Hfl⟩ Hk
  iapply (wp_land 𝒱 (cT d i) bd rfl) $$ [Hfl HO]
  · isplitl [Hfl]; · iexact Hfl
    isplitl [HO]; · iexact HO
    iexact Hmw
  iintro ⟨⟨Hδ, Hslot, Hsrc⟩, Hsem, HO⟩
  iapply (wp_loadB (e := .i32) 𝒱 (cT d i) bd Mt) $$ Hm
  iintro Hm
  iapply (wp_loadB (e := .f32) 𝒱 (cT d i) bd Wt) $$ Hw
  iintro Hw
  have e0 : wd (F := F) (e := .i32) ![0] slices_S16_o0_S1 (fun x : S16.Idx => Mt (off 0 + (x 0).val)) = Mt (16 * n) := ext0 (F := F) (e := .i32) (g := Mt) hoff
  have e1 : wd (F := F) (e := .i32) ![1] slices_S16_o1_S1 (fun x : S16.Idx => Mt (off 0 + (x 0).val)) = Mt (16 * n + 1) := ext1 (F := F) (e := .i32) (g := Mt) hoff
  have e2 : wd (F := F) (e := .i32) ![2] slices_S16_o2_S1 (fun x : S16.Idx => Mt (off 0 + (x 0).val)) = Mt (16 * n + 2) := ext2 (F := F) (e := .i32) (g := Mt) hoff
  have e3 : wd (F := F) (e := .i32) ![3] slices_S16_o3_S1 (fun x : S16.Idx => Mt (off 0 + (x 0).val)) = Mt (16 * n + 3) := ext3 (F := F) (e := .i32) (g := Mt) hoff
  have ew : wd (F := F) (e := .f32) ![0] slices_S16_o0_S1 (fun x : S16.Idx => Wt (off 0 + (x 0).val)) = Wt (16 * n) := ext0 (F := F) (e := .f32) (g := Wt) hoff
  generalize (fun x : S16.Idx => Mt (off 0 + (x 0).val)) = v at *
  generalize (fun x : S16.Idx => Wt (off 0 + (x 0).val)) = u at *
  have hm2 := hM.1
  have hm3 := hM.2
  rw [← e2] at hm2
  rw [← e3] at hm3
  have hI : condW (bloW i) (wd (F := F) (e := .i32) ![0] slices_S16_o0_S1 v) (wd (F := F) (e := .i32) ![1] slices_S16_o1_S1 v) (eqz (wd (F := F) (e := .f32) ![0] slices_S16_o0_S1 u)) = 1#1 →
      BoxIn (bloW i) (wd (F := F) (e := .i32) ![0] slices_S16_o0_S1 v) (wd (F := F) (e := .i32) ![1] slices_S16_o1_S1 v)
        (wd (F := F) (e := .i32) ![2] slices_S16_o2_S1 v) (wd (F := F) (e := .i32) ![3] slices_S16_o3_S1 v) tw := by
    intro hc
    obtain ⟨yl, nr, xl, nb, hb⟩ := inBand (bloW i) _ _ _ _ _ (bloN i) (bloN_le i) (bloW_eq i) hm2 hm3 hc
    exact boxIn hb htw (by omega)
  iapply (wp_assumeB 𝒱 (cT d i) bd (hC v u hI))
  unfold slotAt
  icases Hslot with ⟨%f, %hf, Hslot⟩
  ihave Htabs := (tabs_close (cT d i) (bufs i) T (pmHold (cT d i) (Memref.whole cc0_scratch10) h γ δ₀ δ₁ κ f)) $$ [Htabs Hγ Hslot]
  · isplitl [Htabs]; · iexact Htabs
    unfold pmHold
    isplitr; · iexact Hinv
    isplitl [Hγ] <;> iassumption
  iapply (wp_box 𝒱 (cT d i) bd Set.univ (bufs i) tm co T hT (patchP D3 i n) g
    (pmRule 𝒱 (cT d i) bd (Memref.whole cc0_scratch10) h γ δ₀ δ₁ κ f (patchP D3 i n) (by
      intro y; rw [hf]; unfold patchP; congr 1; omega))
    (wd (F := F) (e := .f32) ![0] slices_S16_o0_S1 u) (224 * n) (bloN i)
    (bloW_eq i) hm2 hm3 htw (by omega) (bloN_le i) (by omega) hco
    (KR v u) (K v u) hI (hel v u _) (fun h => ht v u _ h (hI h))) $$ [Htabs Hacc]
  · isplitl [Htabs] <;> iassumption
  iintro Htabs Hacc
  rw [step_eq T D3 Mt Wt i n g ew e0 e1 e2 e3 ho rfl]
  ihave Htabs := (tabs_open (cT d i) (bufs i) T (pmHold (cT d i) (Memref.whole cc0_scratch10) h γ δ₀ δ₁ κ f)) $$ Htabs
  icases Htabs with ⟨Htabs, Hpm⟩
  unfold pmHold
  icases Hpm with ⟨-, Hγ, Hslot⟩
  iapply Hk
  isplitl [Htabs Hm Hw HO]
  · isplitl [Htabs]; · iexact Htabs
    isplitl [Hm]; · iexact Hm
    isplitl [Hw]; · iexact Hw
    isplitl [HO]; · iexact HO
    iexact Hmw
  isplitl [Hacc]; · iexact Hacc
  isplitl [Hγ]; · iexact Hγ
  isplitl [Hδ]; · iexact Hδ
  isplitl [Hslot]; · iexists f; iexact Hslot
  isplitl [Hsrc] <;> iassumption

end Cert.Proof.Tile
-- ==== Proof.Pairs.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.ObjRun
public import proofs.«01_k».proof.Proof.Words
public import proofs.«01_k».proof.Proof.Object

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 4000000
set_option maxRecDepth 4000

/-! The two objects of a pair. -/

section

variable (i : grid0.Coords) (v0 v1 : BitVec 32) (e : BitVec 1)

def chksA (h : k0_cond1 i v0 v1 e = 1#1) : Fin 12 → Chk 24576 :=
  ![K24 _ (k0_chk3 i v0 v1 e) (k0_chk3.dec i v0 v1 e) (fun _ => Iff.rfl) h,
    K24 _ (k0_chk4 i v0 v1 e) (k0_chk4.dec i v0 v1 e) (fun _ => Iff.rfl) h,
    K24 _ (k0_chk5 i v0 v1 e) (k0_chk5.dec i v0 v1 e) (fun _ => Iff.rfl) h,
    K24 _ (k0_chk6 i v0 v1 e) (k0_chk6.dec i v0 v1 e) (fun _ => Iff.rfl) h,
    K24 _ (k0_chk7 i v0 v1 e) (k0_chk7.dec i v0 v1 e) (fun _ => Iff.rfl) h,
    K24 _ (k0_chk8 i v0 v1 e) (k0_chk8.dec i v0 v1 e) (fun _ => Iff.rfl) h,
    K24 _ (k0_chk9 i v0 v1 e) (k0_chk9.dec i v0 v1 e) (fun _ => Iff.rfl) h,
    K24 _ (k0_chk10 i v0 v1 e) (k0_chk10.dec i v0 v1 e) (fun _ => Iff.rfl) h,
    K24 _ (k0_chk11 i v0 v1 e) (k0_chk11.dec i v0 v1 e) (fun _ => Iff.rfl) h,
    K24 _ (k0_chk12 i v0 v1 e) (k0_chk12.dec i v0 v1 e) (fun _ => Iff.rfl) h,
    K24 _ (k0_chk13 i v0 v1 e) (k0_chk13.dec i v0 v1 e) (fun _ => Iff.rfl) h,
    K24 _ (k0_chk14 i v0 v1 e) (k0_chk14.dec i v0 v1 e) (fun _ => Iff.rfl) h]
abbrev rowA (h : k0_cond1 i v0 v1 e = 1#1) : Chk 7168 := K7 _ (k0_chk2 i v0 v1 e) (k0_chk2.dec i v0 v1 e) (fun _ => Iff.rfl) h

def chksB (h : k0_cond3 i v0 v1 e = 1#1) : Fin 12 → Chk 24576 :=
  ![K24 _ (k0_chk54 i v0 v1 e) (k0_chk54.dec i v0 v1 e) (fun _ => Iff.rfl) h,
    K24 _ (k0_chk55 i v0 v1 e) (k0_chk55.dec i v0 v1 e) (fun _ => Iff.rfl) h,
    K24 _ (k0_chk56 i v0 v1 e) (k0_chk56.dec i v0 v1 e) (fun _ => Iff.rfl) h,
    K24 _ (k0_chk57 i v0 v1 e) (k0_chk57.dec i v0 v1 e) (fun _ => Iff.rfl) h,
    K24 _ (k0_chk58 i v0 v1 e) (k0_chk58.dec i v0 v1 e) (fun _ => Iff.rfl) h,
    K24 _ (k0_chk59 i v0 v1 e) (k0_chk59.dec i v0 v1 e) (fun _ => Iff.rfl) h,
    K24 _ (k0_chk60 i v0 v1 e) (k0_chk60.dec i v0 v1 e) (fun _ => Iff.rfl) h,
    K24 _ (k0_chk61 i v0 v1 e) (k0_chk61.dec i v0 v1 e) (fun _ => Iff.rfl) h,
    K24 _ (k0_chk62 i v0 v1 e) (k0_chk62.dec i v0 v1 e) (fun _ => Iff.rfl) h,
    K24 _ (k0_chk63 i v0 v1 e) (k0_chk63.dec i v0 v1 e) (fun _ => Iff.rfl) h,
    K24 _ (k0_chk64 i v0 v1 e) (k0_chk64.dec i v0 v1 e) (fun _ => Iff.rfl) h,
    K24 _ (k0_chk65 i v0 v1 e) (k0_chk65.dec i v0 v1 e) (fun _ => Iff.rfl) h]
abbrev rowB (h : k0_cond3 i v0 v1 e = 1#1) : Chk 7168 := K7 _ (k0_chk53 i v0 v1 e) (k0_chk53.dec i v0 v1 e) (fun _ => Iff.rfl) h

end

theorem off4_eq (t : Fin k0_t1_loop.trips) : k0_off4 t 0 = 16 * (2 * t.val) := by
  have : t.val < 15 := t.isLt
  unfold k0_off4
  generalize t.val = a at *
  interval_cases a <;> rfl

theorem off22_eq (t : Fin k0_t1_loop.trips) : k0_off22 t 0 = 16 * (2 * t.val + 1) := by
  have : t.val < 15 := t.isLt
  unfold k0_off22
  generalize t.val = a at *
  interval_cases a <;> rfl

theorem cond2_eq (t : Fin k0_t1_loop.trips) : k0_cond2 t = 1#1 := by
  have : t.val < 15 := t.isLt
  unfold k0_cond2
  generalize t.val = a at *
  interval_cases a <;> rfl

theorem cond4_eq (t : Fin k0_t1_loop.trips) : k0_cond4 t = 1#1 := by
  have : t.val < 15 := t.isLt
  unfold k0_cond4
  generalize t.val = a at *
  interval_cases a <;> rfl

theorem twA_eq (t : Fin k0_t1_loop.trips) : (Scalar.muli (Scalar.muli (Scf.iv 0#32 1#32 t) 2#32) 224#32 : BitVec 32).toNat = 224 * (2 * t.val) := by
  have : t.val < 15 := t.isLt
  generalize t.val = a at *
  interval_cases a <;> rfl

theorem twB_eq (t : Fin k0_t1_loop.trips) :
    (Scalar.muli (Scalar.addi (Scalar.muli (Scf.iv 0#32 1#32 t) 2#32) 1#32) 224#32 : BitVec 32).toNat = 224 * (2 * t.val + 1) := by
  have : t.val < 15 := t.isLt
  generalize t.val = a at *
  interval_cases a <;> rfl

theorem off21_eq (i : grid0.Coords) (t : Fin k0_t1_loop.trips) : k0_off21 i t 0 = pbN i (2 * t.val + 2) := by
  have h : t.val < 15 := t.isLt
  have h0 : (i 0).val < 2 := (i 0).isLt
  have h1 : (i 1).val < 16 := (i 1).isLt
  unfold k0_off21 pbN bN
  generalize t.val = u at *
  generalize (i 0).val = a at *
  generalize (i 1).val = b at *
  interval_cases a <;> interval_cases b <;> interval_cases u <;> rfl

theorem off39_eq (i : grid0.Coords) (t : Fin k0_t1_loop.trips) : k0_off39 i t 0 = pbN i (2 * t.val + 3) := by
  have h : t.val < 15 := t.isLt
  have h0 : (i 0).val < 2 := (i 0).isLt
  have h1 : (i 1).val < 16 := (i 1).isLt
  unfold k0_off39 pbN bN
  generalize t.val = u at *
  generalize (i 0).val = a at *
  generalize (i 1).val = b at *
  interval_cases a <;> interval_cases b <;> interval_cases u <;> rfl

variable (𝒱 : Variants) {bd : Option 𝒱.V} (d : Dev nD) (i : grid0.Coords)

/-- A patch on its way into the first half, and into the second. -/
abbrev Fly0 (D3 : ℕ → F .f32) (δ₀ : ℕ) (q : PosShare TreeShare) (n : ℕ) : sProp 𝕄 :=
  Fly (cT d i) cc0_scratch13.sem (slotM (cT d i) (Memref.whole cc0_scratch10) 0 inb_S24576_S12288_0).view.dmaCredit
    iprop(Transfers.tok EC δ₀ ∗ slotAt (cT d i) (Memref.whole cc0_scratch10) inb_S24576_S12288_0 D3 (pbN i n)
      ∗ ownq (e := .f32) (cT d i) (Memref.whole main_v7_scv) q (arr D3))
abbrev Fly1 (D3 : ℕ → F .f32) (δ₁ : ℕ) (q : PosShare TreeShare) (n : ℕ) : sProp 𝕄 :=
  Fly (cT d i) cc0_scratch14.sem (slotM (cT d i) (Memref.whole cc0_scratch10) 12288 inb_S24576_S12288_12288).view.dmaCredit
    iprop(Transfers.tok EC δ₁ ∗ slotAt (cT d i) (Memref.whole cc0_scratch10) inb_S24576_S12288_12288 D3 (pbN i n)
      ∗ ownq (e := .f32) (cT d i) (Memref.whole main_v7_scv) q (arr D3))

theorem wp_partA (T : Tabs F) (hT : T.Ok) (D3 : ℕ → F .f32) (Mt : ℕ → BitVec 32) (Wt : ℕ → F .f32)
    (hM : ∀ n, n < 32 → (Mt (16 * n + 2)).toNat ≤ 14 ∧ (Mt (16 * n + 3)).toNat ≤ 14)
    (γ δ₀ δ₁ κ : ℕ) (q : PosShare TreeShare) {O : CellTallies nD τ sig (HIx 1)} {W : Waits sig (HIx 1)} (g : ℕ → F .f32)
    (t : Fin k0_t1_loop.trips) (v30 : BitVec 32)
    {kk : BitVec 32 → Prog (TpuEff nD τ sig (Elt F) Λ₀ (cT d i).2) (BitVec 32)} {Φ : BitVec 32 → sProp 𝕄} :
    iprop(Held d i T Mt Wt O W ∗ own (cT d i) (e := .f32) (Memref.whole cc0_scratch11) (arr g)
        ∗ inv κ (cellBody (F := F) (cT d i) (Memref.whole cc0_scratch10) γ δ₀ δ₁) ∗ Transfers.tok EC γ
        ∗ Fly0 d i D3 δ₀ q (2 * t.val))
      ⊢ iprop(((Held d i T Mt Wt O W
        ∗ own (cT d i) (e := .f32) (Memref.whole cc0_scratch11) (arr (objStep T D3 Mt Wt i (2 * t.val) g))
        ∗ Transfers.tok EC γ ∗ Fly0 d i D3 δ₀ q (2 * t.val + 2))
          -∗ wp frame (wpE (defs₀ (F := F)) 𝒱 (cT d i) bd) Set.univ (kk (Scalar.muli (Scf.iv 0#32 1#32 t) 2#32)) Φ)
        -∗ wp frame (wpE (defs₀ (F := F)) 𝒱 (cT d i) bd) Set.univ
          (k0_part17 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (bloW i) v30 0#32 1#32 t >>= kk) Φ) := by
  have ht : t.val < 15 := t.isLt
  iintro ⟨Hheld, Hacc, #Hinv, Hγ, Hfl⟩ Hk
  rw [wp_bind]
  unfold k0_part17
  iapply (wp_obj 𝒱 d i T hT D3 Mt Wt γ δ₀ δ₁ κ g (Memref.whole cc0_scratch11) (2 * t.val) (by omega) (hM _ (by omega)) (by omega) inb_S24576_S12288_0
    ![0#32, 4096#32, 8192#32] (by decide) (twA_eq t) (off4_eq t) (fun v u hI => allChk hI) (fun v u h => rowA i _ _ _ h) (fun v u h => chksA i _ _ _ h)
    (fun _ _ _ _ => rfl) (fun v u hc h hI => ⟨_, _, rfl⟩)) $$ [Hheld Hacc Hγ Hfl]
  · isplitl [Hheld]; · iexact Hheld
    isplitl [Hacc]; · iexact Hacc
    isplitr; · iexact Hinv
    isplitl [Hγ] <;> iassumption
  iintro %v %u ⟨Hheld, Hacc, Hγ, Hδ, ⟨%f, Hslot⟩, Hsrc, Hsem⟩
  rw [dif_pos (cond2_eq t)]
  iapply (wp_fetch 𝒱 (cT d i) bd (Memref.whole cc0_scratch10) inb_S24576_S12288_0 γ δ₀ δ₁ κ (Transfers.tok EC δ₀) (tok_δ₀ γ δ₀ δ₁)
    (pbN i (2 * t.val + 2)) (off21_eq i t) _ rfl (View.dmaCredit_pos _ (by decide))) $$ [Hδ Hslot Hsrc Hsem]
  · isplitr; · iexact Hinv
    isplitl [Hδ]; · iexact Hδ
    isplitl [Hslot]; · iexists f; iexact Hslot
    isplitl [Hsrc] <;> iassumption
  iintro Hfl
  rw [wp_pure]
  imodintro
  iapply Hk
  isplitl [Hheld]; · iexact Hheld
  isplitl [Hacc]; · iexact Hacc
  isplitl [Hγ] <;> iassumption

end Cert.Proof.Tile
-- ==== Proof.Band.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.ObjRun
public import proofs.«01_k».proof.Proof.Words
public import proofs.«01_k».proof.Proof.Pairs

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 4000000
set_option maxRecDepth 4000

/-! A tile's work from the first patch sent for to the finished band. -/

section

variable (i : grid0.Coords) (v0 v1 : BitVec 32) (e : BitVec 1)

end

theorem off72_eq (t : Fin k0_t26_loop.trips) : k0_off72 t 0 = 16 * t.val := by
  have h : t.val < 1176 := t.isLt
  show (BitVec.toNat (Scalar.muli (Scalar.addi 0#32 (Scalar.muli (Scf.iv 0#32 1#32 t.val) 1#32)) 16#32)) = _
  show ((0#32 + Scf.iv 0#32 1#32 t.val * 1#32) * 16#32).toNat = _
  rw [BitVec.mul_one, BitVec.zero_add, BitVec.toNat_mul, iv_toNat _ (by omega)]
  show t.val * 16 % 2 ^ 32 = _
  omega

theorem off3_eq0 (i : grid0.Coords) : k0_off3 i 0#32 0 = pbN i 0 := by
  have h0 : (i 0).val < 2 := (i 0).isLt
  have h1 : (i 1).val < 16 := (i 1).isLt
  unfold k0_off3 pbN bN
  generalize (i 0).val = a at *
  generalize (i 1).val = b at *
  interval_cases a <;> interval_cases b <;> rfl

theorem off3_eq1 (i : grid0.Coords) : k0_off3 i 1#32 0 = pbN i 1 := by
  have h0 : (i 0).val < 2 := (i 0).isLt
  have h1 : (i 1).val < 16 := (i 1).isLt
  unfold k0_off3 pbN bN
  generalize (i 0).val = a at *
  generalize (i 1).val = b at *
  interval_cases a <;> interval_cases b <;> rfl

/-- The accumulator after the first objects. -/
def accN (T : Tabs F) (D3 : ℕ → F .f32) (Mt : ℕ → BitVec 32) (Wt : ℕ → F .f32) (i : grid0.Coords) (g0 : ℕ → F .f32) : ℕ → ℕ → F .f32
  | 0 => g0
  | n + 1 => objStep T D3 Mt Wt i n (accN T D3 Mt Wt i g0 n)

/-- The background where the objects left nothing. -/
def mergeF (a g : F .f32) : F .f32 :=
  FloatOps.addf a (FloatOps.mulf g (if FloatOps.cmpf .olt a (Scalar.ofBits .f32 0x3A83126F#32) = 1#1 then Scalar.ofBits .f32 0x3F800000#32 else Scalar.ofBits .f32 0x00000000#32))

/-- What a tile ends with. -/
def finN (T : Tabs F) (D3 : ℕ → F .f32) (Mt : ℕ → BitVec 32) (Wt : ℕ → F .f32) (i : grid0.Coords) (g0 : ℕ → F .f32) : ℕ → F .f32 := fun p =>
  mergeF (accN T D3 Mt Wt i g0 31 p) (objStep T D3 Mt Wt i 31 g0 p)

variable (𝒱 : Variants) {bd : Option 𝒱.V} (d : Dev nD) (i : grid0.Coords)

/-- The last loop: sixteen lanes at a time, the background under the objects. -/
theorem wp_crow (a g : ℕ → F .f32)
    {α : Type} {kk : PUnit.{1} → Prog (TpuEff nD τ sig (Elt F) Λ₀ (cT d i).2) α} {Φ : α → sProp 𝕄}
    {body : Fin k0_t26_loop.trips → PUnit.{1} → Prog (TpuEff nD τ sig (Elt F) Λ₀ (cT d i).2) PUnit.{1}}
    (hb : ∀ t u, body t u = (do
      let v103 : Vec F S16 .f32 ← Prog.lift (.load (Memref.whole cc0_scratch11) (Rect.unit (s := S18816) (k0_off72 t) S16.size (k0_off72_inb t)).toLoadRect (View.loadsAt_vmem h_S16))
      let v105 : Vec F S16 .f32 ← Prog.lift (.load (Memref.whole cc0_scratch12) (Rect.unit (s := S18816) (k0_off72 t) S16.size (k0_off72_inb t)).toLoadRect (View.loadsAt_vmem h_S16))
      let _ : Vec F S16 .f32 ← Prog.lift (.load (Memref.whole cc0_scratch11) (Rect.unit (s := S18816) (k0_off72 t) S16.size (k0_off72_inb t)).toLoadRect (View.loadsAt_vmem h_S16))
      Prog.lift (.store (Memref.whole cc0_scratch11) (Rect.unit (s := S18816) (k0_off72 t) S16.size (k0_off72_inb t))
        (addf v103 (mulf v105 (select (cmpf .olt v103 (broadcast S16 (Scalar.ofBits .f32 0x3A83126F#32))) (broadcast S16 (Scalar.ofBits .f32 0x3F800000#32)) (broadcast S16 (Scalar.ofBits .f32 0x00000000#32)))))
        Finset.univ (View.stores_vmem_bits_univ h_S16 rfl) (.inl rfl))
      pure ⟨⟩)) :
    iprop(own (cT d i) (e := .f32) (Memref.whole cc0_scratch11) (arr a) ∗ own (cT d i) (e := .f32) (Memref.whole cc0_scratch12) (arr g))
      ⊢ iprop(((own (cT d i) (e := .f32) (Memref.whole cc0_scratch11) (arr fun p => mergeF (a p) (g p)) ∗ own (cT d i) (e := .f32) (Memref.whole cc0_scratch12) (arr g))
          -∗ wp frame (wpE (defs₀ (F := F)) 𝒱 (cT d i) bd) Set.univ (kk ⟨⟩) Φ)
        -∗ wp frame (wpE (defs₀ (F := F)) 𝒱 (cT d i) bd) Set.univ (Scf.Loop.for k0_t26_loop k0_t26_ok PUnit.unit body >>= kk) Φ) := by
  iintro ⟨Ha, Hg⟩ Hk
  iapply (Scf.wp_for_bind (M := 𝕄) frame (wpE (defs₀ (F := F)) 𝒱 (cT d i) bd) Set.univ _ _ _ k0_t26_ok PUnit.unit body
    (fun k _ => iprop(own (cT d i) (e := .f32) (Memref.whole cc0_scratch11) (arr fun p => if p < 16 * k then mergeF (a p) (g p) else a p)
      ∗ own (cT d i) (e := .f32) (Memref.whole cc0_scratch12) (arr g))) ?_) $$ [Ha Hg]
  · intro t u
    have ht : t.val < 1176 := t.isLt
    have ho := off72_eq t
    rw [hb]
    iintro ⟨Ha, Hg⟩
    iapply (wp_loadB 𝒱 (cT d i) bd (m := Memref.whole cc0_scratch11) _) $$ Ha
    iintro Ha
    iapply (wp_loadB 𝒱 (cT d i) bd (m := Memref.whole cc0_scratch12) _) $$ Hg
    iintro Hg
    iapply (wp_loadB 𝒱 (cT d i) bd (m := Memref.whole cc0_scratch11) _) $$ Ha
    iintro Ha
    iapply (own_store 𝒱 (cT d i) bd Set.univ (m := Memref.whole cc0_scratch11) (k0_off72_inb t) _ (fun p => if p < 16 * (t.val + 1) then mergeF (a p) (g p) else a p) ?_ ?_) $$ Ha
    · intro x
      have hx : (x 0).val < 16 := (x 0).isLt
      show (if k0_off72 t 0 + (x 0).val < 16 * (t.val + 1) then _ else _) = _
      rw [if_pos (by omega)]
      show _ = mergeF (if k0_off72 t 0 + (x 0).val < 16 * t.val then _ else _) _
      rw [if_neg (by omega)]
    · intro p hp _
      show (if p < 16 * (t.val + 1) then _ else _) = (if p < 16 * t.val then _ else _)
      rcases hp with hp | hp
      · rw [if_pos (by omega), if_pos (by omega)]
      · rw [if_neg (by omega), if_neg (by omega)]
    iintro Ha
    simp only [Prog.bind]
    rw [wp_pure]
    imodintro
    isplitl [Ha] <;> iassumption
  · isplitl [Ha]
    · simp only [Nat.mul_zero, Nat.not_lt_zero, if_false]; iexact Ha
    · iexact Hg
  iintro %u ⟨Ha, Hg⟩
  iapply Hk
  isplitl [Ha]
  · have e : (arr (d := S18816.size) fun p => if p < 16 * Scf.trips k0_t26_loop.lb k0_t26_loop.ub k0_t26_loop.st then mergeF (a p) (g p) else a p) = arr fun p => mergeF (a p) (g p) := by
      funext x
      have hx : (x 0).val < 18816 := (x 0).isLt
      show (if (x 0).val < 16 * 1176 then _ else _) = _
      rw [if_pos (by omega)]; rfl
    iapply (Entails.of_eq (congrArg (own (cT d i) (e := .f32) (Memref.whole cc0_scratch11)) e)) $$ Ha
  · iexact Hg

/-- The fifteen pairs: whatever holds of what follows them holds of the whole. -/
theorem wp_pairs (T : Tabs F) (hT : T.Ok) (D3 : ℕ → F .f32) (Mt : ℕ → BitVec 32) (Wt : ℕ → F .f32)
    (hM : ∀ n, n < 32 → (Mt (16 * n + 2)).toNat ≤ 14 ∧ (Mt (16 * n + 3)).toNat ≤ 14)
    (γ δ₀ δ₁ κ : ℕ) (q₀ q₁ : PosShare TreeShare) {O : CellTallies nD τ sig (HIx 1)} {W : Waits sig (HIx 1)} (g0 : ℕ → F .f32)
    (v30 c0 : BitVec 32)
    {Φ : (Σ' (v54 : BitVec 32) (_ : BitVec 32) (v57 : BitVec 32) (_ : BitVec 32) (v61 : BitVec 32) (v63 : BitVec 32) (_ : F .f32) (_ : BitVec 1) (v68 : BitVec 1) (_ : k0_chk103 i v54 v57 v61 v63 v68), BitVec 1) → sProp 𝕄} :
    iprop(Held d i T Mt Wt O W ∗ own (cT d i) (e := .f32) (Memref.whole cc0_scratch11) (arr g0) ∗ own (cT d i) (e := .f32) (Memref.whole cc0_scratch12) (arr g0)
        ∗ inv κ (cellBody (F := F) (cT d i) (Memref.whole cc0_scratch10) γ δ₀ δ₁) ∗ Transfers.tok EC γ
        ∗ (Transfers.tok EC δ₀ ∗ (∃ f, halfAt (cT d i) (Memref.whole cc0_scratch10) inb_S24576_S12288_0 f) ∗ ownq (e := .f32) (cT d i) (Memref.whole main_v7_scv) q₀ (arr D3)
          ∗ semVal (cT d i, .dma cc0_scratch13.sem) 0)
        ∗ (Transfers.tok EC δ₁ ∗ (∃ f, halfAt (cT d i) (Memref.whole cc0_scratch10) inb_S24576_S12288_12288 f) ∗ ownq (e := .f32) (cT d i) (Memref.whole main_v7_scv) q₁ (arr D3)
          ∗ semVal (cT d i, .dma cc0_scratch14.sem) 0))
      ⊢ iprop(((Held d i T Mt Wt O W ∗ own (cT d i) (e := .f32) (Memref.whole cc0_scratch11) (arr (accN T D3 Mt Wt i g0 30))
        ∗ own (cT d i) (e := .f32) (Memref.whole cc0_scratch12) (arr g0) ∗ Transfers.tok EC γ ∗ Fly0 d i D3 δ₀ q₀ 30 ∗ Fly1 d i D3 δ₁ q₁ 31)
          -∗ wp frame (wpE (defs₀ (F := F)) 𝒱 (cT d i) bd) Set.univ
          (Prog.lift (.waitDma2 cc0_scratch13.sem ((Memref.whole main_v7_scv).slice (Rect.unit (s := S1572864) ![0] S12288.size inb_S1572864_S12288_0) (fun _ => rfl))
            ((Memref.whole cc0_scratch10).slice (Rect.unit (s := S24576) ![0] S12288.size inb_S24576_S12288_0) (fun _ => rfl)) (View.wordExact_bits rfl) (View.wordExact_bits rfl)) >>= fun _ =>
          Prog.lift (.load (Memref.whole cc0_scratch8) (Rect.unit (s := S512) ![480] S16.size inb_S512_S16_480).toLoadRect (View.loadsAt_vmem h_S16)) >>= fun (v : S16.Idx → BitVec 32) =>
          Prog.lift (.load (Memref.whole cc0_scratch9) (Rect.unit (s := S512) ![480] S16.size inb_S512_S16_480).toLoadRect (View.loadsAt_vmem h_S16)) >>= fun (u : S16.Idx → F .f32) =>
          Prog.lift (TpuEff.assume (k0_chk103 i (wd (F := F) (e := .i32) ![0] slices_S16_o0_S1 v) (wd (F := F) (e := .i32) ![1] slices_S16_o1_S1 v)
              (wd (F := F) (e := .i32) ![2] slices_S16_o2_S1 v) (wd (F := F) (e := .i32) ![3] slices_S16_o3_S1 v) (eqz (wd (F := F) (e := .f32) ![0] slices_S16_o0_S1 u)))
            (k0_chk103.dec i _ _ _ _ _)) >>= fun hc =>
          pure ⟨wd (F := F) (e := .i32) ![0] slices_S16_o0_S1 v, Scalar.maxsi (wd (F := F) (e := .i32) ![0] slices_S16_o0_S1 v) (bloW i),
            wd (F := F) (e := .i32) ![1] slices_S16_o1_S1 v, Scalar.minsi (wd (F := F) (e := .i32) ![1] slices_S16_o1_S1 v) (Scalar.addi (bloW i) 28#32),
            wd (F := F) (e := .i32) ![2] slices_S16_o2_S1 v, wd (F := F) (e := .i32) ![3] slices_S16_o3_S1 v, wd (F := F) (e := .f32) ![0] slices_S16_o0_S1 u,
            Scalar.cmpi .slt (Scalar.maxsi (wd (F := F) (e := .i32) ![0] slices_S16_o0_S1 v) (bloW i)) (Scalar.minsi (wd (F := F) (e := .i32) ![1] slices_S16_o1_S1 v) (Scalar.addi (bloW i) 28#32)),
            eqz (wd (F := F) (e := .f32) ![0] slices_S16_o0_S1 u), hc.down, 1#1⟩) Φ)
        -∗ wp frame (wpE (defs₀ (F := F)) 𝒱 (cT d i) bd) Set.univ (k0_part36 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (bloW i) v30 c0) Φ) := by
  iintro ⟨Hheld, Hacc, Hbg, #Hinv, Hγ, ⟨Hδ0, Hh0, Hq0, Hs0⟩, ⟨Hδ1, Hh1, Hq1, Hs1⟩⟩ Hk
  unfold k0_part36
  iapply (wp_fetch 𝒱 (cT d i) bd (Memref.whole cc0_scratch10) inb_S24576_S12288_0 γ δ₀ δ₁ κ (Transfers.tok EC δ₀) (tok_δ₀ γ δ₀ δ₁)
    (pbN i 0) (off3_eq0 i) _ rfl (View.dmaCredit_pos _ (by decide))) $$ [Hδ0 Hh0 Hq0 Hs0]
  · isplitr; · iexact Hinv
    isplitl [Hδ0]; · iexact Hδ0
    isplitl [Hh0]; · iexact Hh0
    isplitl [Hq0] <;> iassumption
  iintro Hf0
  iapply (wp_fetch 𝒱 (cT d i) bd (Memref.whole cc0_scratch10) inb_S24576_S12288_12288 γ δ₀ δ₁ κ (Transfers.tok EC δ₁) (tok_δ₁ γ δ₀ δ₁)
    (pbN i 1) (off3_eq1 i) _ rfl (View.dmaCredit_pos _ (by decide))) $$ [Hδ1 Hh1 Hq1 Hs1]
  · isplitr; · iexact Hinv
    isplitl [Hδ1]; · iexact Hδ1
    isplitl [Hh1]; · iexact Hh1
    isplitl [Hq1] <;> iassumption
  iintro Hf1
  iapply (Scf.wp_for_bind (M := 𝕄) frame (wpE (defs₀ (F := F)) 𝒱 (cT d i) bd) Set.univ _ _ _ k0_t1_ok _ _
    (fun k _ => iprop(Held d i T Mt Wt O W ∗ own (cT d i) (e := .f32) (Memref.whole cc0_scratch11) (arr (accN T D3 Mt Wt i g0 (2 * k)))
      ∗ inv κ (cellBody (F := F) (cT d i) (Memref.whole cc0_scratch10) γ δ₀ δ₁) ∗ Transfers.tok EC γ
      ∗ Fly0 d i D3 δ₀ q₀ (2 * k) ∗ Fly1 d i D3 δ₁ q₁ (2 * k + 1))) ?_) $$ [Hheld Hacc Hγ Hf0 Hf1]
  · intro t c
    have ht : t.val < 15 := t.isLt
    iintro ⟨Hheld, Hacc, #Hinv, Hγ, Hf0, Hf1⟩
    iapply (wp_partA 𝒱 d i T hT D3 Mt Wt hM γ δ₀ δ₁ κ q₀ _ t v30) $$ [Hheld Hacc Hγ Hf0]
    · isplitl [Hheld]; · iexact Hheld
      isplitl [Hacc]; · iexact Hacc
      isplitr; · iexact Hinv
      isplitl [Hγ] <;> iassumption
    iintro ⟨Hheld, Hacc, Hγ, Hf0⟩
    iapply (wp_obj 𝒱 d i T hT D3 Mt Wt γ δ₀ δ₁ κ _ (Memref.whole cc0_scratch11) (2 * t.val + 1) (by omega) (hM _ (by omega)) (by omega) inb_S24576_S12288_12288
      ![12288#32, 16384#32, 20480#32] (by decide) (twB_eq t) (off22_eq t) (fun v u hI => allChk hI) (fun v u h => rowB i _ _ _ h) (fun v u h => chksB i _ _ _ h)
      (fun _ _ _ _ => rfl) (fun v u hc h hI => ⟨_, _, rfl⟩)) $$ [Hheld Hacc Hγ Hf1]
    · isplitl [Hheld]; · iexact Hheld
      isplitl [Hacc]; · iexact Hacc
      isplitr; · iexact Hinv
      isplitl [Hγ] <;> iassumption
    iintro %v %u ⟨Hheld, Hacc, Hγ, Hδ, ⟨%f, Hslot⟩, Hsrc, Hsem⟩
    rw [dif_pos (cond4_eq t)]
    iapply (wp_fetch 𝒱 (cT d i) bd (Memref.whole cc0_scratch10) inb_S24576_S12288_12288 γ δ₀ δ₁ κ (Transfers.tok EC δ₁) (tok_δ₁ γ δ₀ δ₁)
      (pbN i (2 * t.val + 3)) (off39_eq i t) _ rfl (View.dmaCredit_pos _ (by decide))) $$ [Hδ Hslot Hsrc Hsem]
    · isplitr; · iexact Hinv
      isplitl [Hδ]; · iexact Hδ
      isplitl [Hslot]; · iexists f; iexact Hslot
      isplitl [Hsrc] <;> iassumption
    iintro Hf1
    rw [wp_pure]
    imodintro
    isplitl [Hheld]; · iexact Hheld
    isplitl [Hacc]; · iexact Hacc
    isplitr; · iexact Hinv
    isplitl [Hγ]; · iexact Hγ
    isplitl [Hf0] <;> iassumption
  · isplitl [Hheld]; · iexact Hheld
    isplitl [Hacc]; · iexact Hacc
    isplitr; · iexact Hinv
    isplitl [Hγ]; · iexact Hγ
    isplitl [Hf0] <;> iassumption
  iintro %c ⟨Hheld, Hacc, -, Hγ, Hf0, Hf1⟩
  iapply Hk
  isplitl [Hheld]; · iexact Hheld
  isplitl [Hacc]; · iexact Hacc
  isplitl [Hbg]; · iexact Hbg
  isplitl [Hγ]; · iexact Hγ
  isplitl [Hf0]
  · iapply (Entails.of_eq (congrArg (Fly0 (F := F) d i D3 δ₀ q₀) (show 2 * Scf.trips k0_t1_loop.lb k0_t1_loop.ub k0_t1_loop.st = 30 from rfl))) $$ Hf0
  · iapply (Entails.of_eq (congrArg (Fly1 (F := F) d i D3 δ₁ q₁) (show 2 * Scf.trips k0_t1_loop.lb k0_t1_loop.ub k0_t1_loop.st + 1 = 31 from rfl))) $$ Hf1

end Cert.Proof.Tile
-- ==== Proof.Finish.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.ObjRun
public import proofs.«01_k».proof.Proof.Words
public import proofs.«01_k».proof.Proof.Band

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 4000000
set_option maxRecDepth 4000

/-! The last object, the background and the merge. -/

section

variable (i : grid0.Coords) (v0 v1 : BitVec 32) (e : BitVec 1)

def chksC (h : k0_cond5 i v0 v1 e = 1#1) : Fin 12 → Chk 24576 :=
  ![K24 _ (k0_chk105 i v0 v1 e) (k0_chk105.dec i v0 v1 e) (fun _ => Iff.rfl) h,
    K24 _ (k0_chk106 i v0 v1 e) (k0_chk106.dec i v0 v1 e) (fun _ => Iff.rfl) h,
    K24 _ (k0_chk107 i v0 v1 e) (k0_chk107.dec i v0 v1 e) (fun _ => Iff.rfl) h,
    K24 _ (k0_chk108 i v0 v1 e) (k0_chk108.dec i v0 v1 e) (fun _ => Iff.rfl) h,
    K24 _ (k0_chk109 i v0 v1 e) (k0_chk109.dec i v0 v1 e) (fun _ => Iff.rfl) h,
    K24 _ (k0_chk110 i v0 v1 e) (k0_chk110.dec i v0 v1 e) (fun _ => Iff.rfl) h,
    K24 _ (k0_chk111 i v0 v1 e) (k0_chk111.dec i v0 v1 e) (fun _ => Iff.rfl) h,
    K24 _ (k0_chk112 i v0 v1 e) (k0_chk112.dec i v0 v1 e) (fun _ => Iff.rfl) h,
    K24 _ (k0_chk113 i v0 v1 e) (k0_chk113.dec i v0 v1 e) (fun _ => Iff.rfl) h,
    K24 _ (k0_chk114 i v0 v1 e) (k0_chk114.dec i v0 v1 e) (fun _ => Iff.rfl) h,
    K24 _ (k0_chk115 i v0 v1 e) (k0_chk115.dec i v0 v1 e) (fun _ => Iff.rfl) h,
    K24 _ (k0_chk116 i v0 v1 e) (k0_chk116.dec i v0 v1 e) (fun _ => Iff.rfl) h]
abbrev rowC (h : k0_cond5 i v0 v1 e = 1#1) : Chk 7168 := K7 _ (k0_chk104 i v0 v1 e) (k0_chk104.dec i v0 v1 e) (fun _ => Iff.rfl) h

def chksD (h : k0_cond6 i v0 v1 e = 1#1) : Fin 12 → Chk 24576 :=
  ![K24 _ (k0_chk156 i v0 v1 e) (k0_chk156.dec i v0 v1 e) (fun _ => Iff.rfl) h,
    K24 _ (k0_chk157 i v0 v1 e) (k0_chk157.dec i v0 v1 e) (fun _ => Iff.rfl) h,
    K24 _ (k0_chk158 i v0 v1 e) (k0_chk158.dec i v0 v1 e) (fun _ => Iff.rfl) h,
    K24 _ (k0_chk159 i v0 v1 e) (k0_chk159.dec i v0 v1 e) (fun _ => Iff.rfl) h,
    K24 _ (k0_chk160 i v0 v1 e) (k0_chk160.dec i v0 v1 e) (fun _ => Iff.rfl) h,
    K24 _ (k0_chk161 i v0 v1 e) (k0_chk161.dec i v0 v1 e) (fun _ => Iff.rfl) h,
    K24 _ (k0_chk162 i v0 v1 e) (k0_chk162.dec i v0 v1 e) (fun _ => Iff.rfl) h,
    K24 _ (k0_chk163 i v0 v1 e) (k0_chk163.dec i v0 v1 e) (fun _ => Iff.rfl) h,
    K24 _ (k0_chk164 i v0 v1 e) (k0_chk164.dec i v0 v1 e) (fun _ => Iff.rfl) h,
    K24 _ (k0_chk165 i v0 v1 e) (k0_chk165.dec i v0 v1 e) (fun _ => Iff.rfl) h,
    K24 _ (k0_chk166 i v0 v1 e) (k0_chk166.dec i v0 v1 e) (fun _ => Iff.rfl) h,
    K24 _ (k0_chk167 i v0 v1 e) (k0_chk167.dec i v0 v1 e) (fun _ => Iff.rfl) h]
abbrev rowD (h : k0_cond6 i v0 v1 e = 1#1) : Chk 7168 := K7 _ (k0_chk155 i v0 v1 e) (k0_chk155.dec i v0 v1 e) (fun _ => Iff.rfl) h

end

variable (𝒱 : Variants) {bd : Option 𝒱.V} (d : Dev nD) (i : grid0.Coords)

theorem wp_band (T : Tabs F) (hT : T.Ok) (D3 : ℕ → F .f32) (Mt : ℕ → BitVec 32) (Wt : ℕ → F .f32)
    (hM : ∀ n, n < 32 → (Mt (16 * n + 2)).toNat ≤ 14 ∧ (Mt (16 * n + 3)).toNat ≤ 14)
    (γ δ₀ δ₁ κ : ℕ) (q₀ q₁ : PosShare TreeShare) {O : CellTallies nD τ sig (HIx 1)} {W : Waits sig (HIx 1)} (g0 : ℕ → F .f32)
    (v30 c0 : BitVec 32) {Φ : PUnit → sProp 𝕄} :
    iprop(Held d i T Mt Wt O W ∗ own (cT d i) (e := .f32) (Memref.whole cc0_scratch11) (arr g0) ∗ own (cT d i) (e := .f32) (Memref.whole cc0_scratch12) (arr g0)
        ∗ inv κ (cellBody (F := F) (cT d i) (Memref.whole cc0_scratch10) γ δ₀ δ₁) ∗ Transfers.tok EC γ
        ∗ (Transfers.tok EC δ₀ ∗ (∃ f, halfAt (cT d i) (Memref.whole cc0_scratch10) inb_S24576_S12288_0 f) ∗ ownq (e := .f32) (cT d i) (Memref.whole main_v7_scv) q₀ (arr D3)
          ∗ semVal (cT d i, .dma cc0_scratch13.sem) 0)
        ∗ (Transfers.tok EC δ₁ ∗ (∃ f, halfAt (cT d i) (Memref.whole cc0_scratch10) inb_S24576_S12288_12288 f) ∗ ownq (e := .f32) (cT d i) (Memref.whole main_v7_scv) q₁ (arr D3)
          ∗ semVal (cT d i, .dma cc0_scratch14.sem) 0))
      ⊢ iprop(((Held d i T Mt Wt O W ∗ own (cT d i) (e := .f32) (Memref.whole cc0_scratch11) (arr (finN T D3 Mt Wt i g0))
        ∗ own (cT d i) (e := .f32) (Memref.whole cc0_scratch12) (arr (objStep T D3 Mt Wt i 31 g0)) ∗ Transfers.tok EC γ
        ∗ (Transfers.tok EC δ₀ ∗ (∃ f, halfAt (cT d i) (Memref.whole cc0_scratch10) inb_S24576_S12288_0 f) ∗ ownq (e := .f32) (cT d i) (Memref.whole main_v7_scv) q₀ (arr D3)
          ∗ semVal (cT d i, .dma cc0_scratch13.sem) 0)
        ∗ (Transfers.tok EC δ₁ ∗ (∃ f, halfAt (cT d i) (Memref.whole cc0_scratch10) inb_S24576_S12288_12288 f) ∗ ownq (e := .f32) (cT d i) (Memref.whole main_v7_scv) q₁ (arr D3)
          ∗ semVal (cT d i, .dma cc0_scratch14.sem) 0)) -∗ Φ ⟨⟩)
        -∗ wp frame (wpE (defs₀ (F := F)) 𝒱 (cT d i) bd) Set.univ
          (k0_part36 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (bloW i) v30 c0) (fun ⟨v54, v55, v57, v59, v61, v63, v66, v67, v68, hw, vt⟩ =>
            wp frame (wpE (defs₀ (F := F)) 𝒱 (cT d i) bd) Set.univ (k0_part37 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (bloW i) v54 v55 v57 v59 v61 v63 v66 v67 v68 hw vt) Φ)) := by
  iintro ⟨Hheld, Hacc, Hbg, #Hinv, Hγ, H0, H1⟩ Hk
  iapply (wp_pairs 𝒱 d i T hT D3 Mt Wt hM γ δ₀ δ₁ κ q₀ q₁ g0 v30 c0) $$ [Hheld Hacc Hbg Hγ H0 H1]
  · isplitl [Hheld]; · iexact Hheld
    isplitl [Hacc]; · iexact Hacc
    isplitl [Hbg]; · iexact Hbg
    isplitr; · iexact Hinv
    isplitl [Hγ]; · iexact Hγ
    isplitl [H0] <;> iassumption
  iintro ⟨Hheld, Hacc, Hbg, Hγ, Hf0, Hf1⟩
  rw [← wp_bind]
  simp only [bind_assoc, pure_bind]
  unfold k0_part37
  iapply (wp_obj 𝒱 d i T hT D3 Mt Wt γ δ₀ δ₁ κ _ (Memref.whole cc0_scratch11) 30 (by omega) (hM _ (by omega)) (by omega) inb_S24576_S12288_0
    ![0#32, 4096#32, 8192#32] (by decide) (tw := 6720#32) rfl rfl (fun v u hI => allChk hI) (fun v u h => rowC i _ _ _ h) (fun v u h => chksC i _ _ _ h)
    (fun _ _ _ _ => rfl) (fun v u hc h hI => ⟨_, _, rfl⟩)) $$ [Hheld Hacc Hγ Hf0]
  · isplitl [Hheld]; · iexact Hheld
    isplitl [Hacc]; · iexact Hacc
    isplitr; · iexact Hinv
    isplitl [Hγ] <;> iassumption
  iintro %v %u ⟨Hheld, Hacc, Hγ, Hδ0, Hh0, Hq0, Hs0⟩
  iapply (wp_obj 𝒱 d i T hT D3 Mt Wt γ δ₀ δ₁ κ _ (Memref.whole cc0_scratch12) 31 (by omega) (hM _ (by omega)) (by omega) inb_S24576_S12288_12288
    ![12288#32, 16384#32, 20480#32] (by decide) (tw := 6944#32) rfl rfl (fun v u hI => allChk hI) (fun v u h => rowD i _ _ _ h) (fun v u h => chksD i _ _ _ h)
    (fun _ _ _ _ => rfl) (fun v u hc h hI => ⟨_, _, rfl⟩)) $$ [Hheld Hbg Hγ Hf1]
  · isplitl [Hheld]; · iexact Hheld
    isplitl [Hbg]; · iexact Hbg
    isplitr; · iexact Hinv
    isplitl [Hγ] <;> iassumption
  iintro %v' %u' ⟨Hheld, Hbg, Hγ, Hδ1, Hh1, Hq1, Hs1⟩
  iapply (wp_crow 𝒱 d i _ _ (fun _ _ => rfl)) $$ [Hacc Hbg]
  · isplitl [Hacc] <;> iassumption
  iintro ⟨Hacc, Hbg⟩
  rw [wp_pure]
  imodintro
  iapply Hk
  isplitl [Hheld]; · iexact Hheld
  isplitl [Hacc]; · iexact Hacc
  isplitl [Hbg]; · iexact Hbg
  isplitl [Hγ]; · iexact Hγ
  isplitl [Hδ0 Hh0 Hq0 Hs0]
  · isplitl [Hδ0]; · iexact Hδ0
    isplitl [Hh0]; · iexact Hh0
    isplitl [Hq0] <;> iassumption
  · isplitl [Hδ1]; · iexact Hδ1
    isplitl [Hh1]; · iexact Hh1
    isplitl [Hq1] <;> iassumption

end Cert.Proof.Tile
-- ==== Proof.Fetch.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Finish

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000

/-! A tile's run: its tables fetched, its band made, the band sent out. -/

section

variable {Λ : Labels} {defs : Defs nD τ sig (Elt F) Λ} (𝒱 : Variants) (c : Thread nD τ) (bd : Option 𝒱.V)
variable {α : Type}

/-- What a copy needs: a share of the source, the destination, the semaphore. -/
def Cp {sp sp' : Space} {d : Fin 1 → ℕ} {s : Shape} {e : EltTy} (base : Memref sig c.2.kind sp ⟨1, d⟩ e) (q : PosShare TreeShare) (A : ℕ → Elt F e)
    (dst : Memref sig c.2.kind sp' s e) (sem : DmaSem sig) : sProp 𝕄 :=
  iprop(ownq c base q (arr A) ∗ (∃ a, own c dst a) ∗ semVal (c, .dma sem) 0)

/-- The same after the copy, from `o` on. -/
def CpD {sp sp' : Space} {d d' : Fin 1 → ℕ} {e : EltTy} (base : Memref sig c.2.kind sp ⟨1, d⟩ e) (q : PosShare TreeShare) (A : ℕ → Elt F e)
    (dst : Memref sig c.2.kind sp' ⟨1, d'⟩ e) (sem : DmaSem sig) (o : ℕ) : sProp 𝕄 :=
  iprop(ownq c base q (arr A) ∗ own c dst (arr fun k => A (o + k)) ∗ semVal (c, .dma sem) 0)

theorem wp_sync {O : CellTallies nD τ sig (HIx 1)} {W : Waits sig (HIx 1)} {sp sp' : Space} {d : Fin 1 → ℕ} {d' : Fin 1 → ℕ} {e : EltTy} {base : Memref sig c.2.kind sp ⟨1, d⟩ e} {off : Fin 1 → ℕ}
    {inb : ∀ a, off a + d' a ≤ d a} {hst} {dst : Memref sig c.2.kind sp' ⟨1, d'⟩ e}
    {sem : DmaSem sig} {hsrc : (base.slice (Rect.unit (s := ⟨1, d⟩) off d' inb) hst).view.WordExact} {hdst : dst.view.WordExact}
    {hsem : DmaTarget.Typed (nD := nD) sp (.dma sem) (.here dst)}
    {sp₂ : Space} {s₂ : Shape} {e₂ : EltTy} {srcw : Memref sig c.2.kind sp₂ s₂ e₂} {hsrcw : srcw.view.WordExact} {hdstw : dst.view.WordExact}
    {kk : PUnit → Prog (TpuEff nD τ sig (Elt F) Λ c.2) α} {Φ : α → sProp 𝕄} {q : PosShare TreeShare} {A : ℕ → Elt F e} {o : ℕ} (ho : off 0 = o)
    (hN0 : 0 < dst.view.dmaCredit) :
    iprop(Cp c base q A dst sem ∗ OW c O W ∗ Transfers.MayWaits c (default : HIx 1) O)
      ⊢ iprop((iprop(CpD c base q A dst sem o ∗ OW c O W) -∗ wp frame (wpE defs 𝒱 c bd) Set.univ (kk ⟨⟩) Φ)
          -∗ wp frame (wpE defs 𝒱 c bd) Set.univ
            (Prog.lift (.enqueueDma (base.slice (Rect.unit (s := ⟨1, d⟩) off d' inb) hst) (.here dst) (.dma sem) hsrc hdst hsem) >>= fun _ =>
              Prog.lift (.waitDma2 sem srcw dst hsrcw hdstw) >>= kk) Φ) := by
  subst ho
  unfold Cp CpD
  iintro ⟨⟨Hs, ⟨%a, Hd⟩, Hv⟩, HO, #Hmw⟩ Hk
  iapply (wp_issueS 𝒱 c bd (dst.view.dmaCredit) rfl hN0) $$ [Hs Hd Hv]
  · isplitl [Hs]; · iexact Hs
    isplitl [Hd] <;> iassumption
  iintro Hfl
  iapply (wp_land 𝒱 c bd rfl) $$ [Hfl HO]
  · isplitl [Hfl]; · iexact Hfl
    isplitl [HO]; · iexact HO
    iexact Hmw
  iintro ⟨⟨Hd, Hs⟩, Hv, HO⟩
  iapply Hk
  isplitr [HO]
  · isplitl [Hs]; · iexact Hs
    isplitl [Hd] <;> iassumption
  iexact HO

theorem wp_syncW {O : CellTallies nD τ sig (HIx 1)} {W : Waits sig (HIx 1)} {sp sp' : Space} {s : Shape} {e : EltTy} {src : Memref sig c.2.kind sp s e}
    {dst : Memref sig c.2.kind sp' s e}
    {sem : DmaSem sig} {hsrc : src.view.WordExact} {hdst : dst.view.WordExact}
    {hsem : DmaTarget.Typed (nD := nD) sp (.dma sem) (.here dst)}
    {sp₂ : Space} {s₂ : Shape} {e₂ : EltTy} {srcw : Memref sig c.2.kind sp₂ s₂ e₂} {hsrcw : srcw.view.WordExact} {hdstw : dst.view.WordExact}
    {kk : PUnit → Prog (TpuEff nD τ sig (Elt F) Λ c.2) α} {Φ : α → sProp 𝕄} {q : PosShare TreeShare} {a : s.Idx → Elt F e}
    (hN0 : 0 < dst.view.dmaCredit) :
    iprop((ownq c src q a ∗ (∃ a₀, own c dst a₀) ∗ semVal (c, .dma sem) 0) ∗ OW c O W ∗ Transfers.MayWaits c (default : HIx 1) O)
      ⊢ iprop((iprop((ownq c src q a ∗ own c dst a ∗ semVal (c, .dma sem) 0) ∗ OW c O W) -∗ wp frame (wpE defs 𝒱 c bd) Set.univ (kk ⟨⟩) Φ)
          -∗ wp frame (wpE defs 𝒱 c bd) Set.univ
            (Prog.lift (.enqueueDma src (.here dst) (.dma sem) hsrc hdst hsem) >>= fun _ =>
              Prog.lift (.waitDma2 sem srcw dst hsrcw hdstw) >>= kk) Φ) := by
  iintro ⟨⟨Hs, ⟨%a₀, Hd⟩, Hv⟩, HO, #Hmw⟩ Hk
  iapply (wp_issue 𝒱 c bd (dst.view.dmaCredit) rfl hN0) $$ [Hs Hd Hv]
  · isplitl [Hs]; · iexact Hs
    isplitl [Hd] <;> iassumption
  iintro Hfl
  iapply (wp_land 𝒱 c bd rfl) $$ [Hfl HO]
  · isplitl [Hfl]; · iexact Hfl
    isplitl [HO]; · iexact HO
    iexact Hmw
  iintro ⟨⟨Hd, Hs⟩, Hv, HO⟩
  iapply Hk
  isplitr [HO]
  · isplitl [Hs]; · iexact Hs
    isplitl [Hd] <;> iassumption
  iexact HO

end

/-- What the call reads, by position. -/
structure Ins (F : FTy → Type) where
  D3 : ℕ → F .f32
  X0 : ℕ → BitVec 32
  X1 : ℕ → BitVec 32
  A0 : ℕ → F .f32
  A1 : ℕ → F .f32
  Y0 : ℕ → BitVec 32
  Y1 : ℕ → BitVec 32
  B0 : ℕ → F .f32
  B1 : ℕ → F .f32
  Mt : ℕ → BitVec 32
  Wt : ℕ → F .f32
  Z : ℕ → F .f32

/-- The tables of a tile's batch. -/
def Ins.tabs (I : Ins F) (i : grid0.Coords) : Tabs F where
  X0 := fun k => I.X0 (bN i * 7168 + k)
  X1 := fun k => I.X1 (bN i * 7168 + k)
  A0 := fun k => I.A0 (bN i * 7168 + k)
  A1 := fun k => I.A1 (bN i * 7168 + k)
  Y0 := fun k => I.Y0 (bN i * 7168 + k)
  Y1 := fun k => I.Y1 (bN i * 7168 + k)
  B0 := fun k => I.B0 (bN i * 7168 + k)
  B1 := fun k => I.B1 (bN i * 7168 + k)

def Ins.mt (I : Ins F) (i : grid0.Coords) : ℕ → BitVec 32 := fun k => I.Mt (bN i * 512 + k)
def Ins.wt (I : Ins F) (i : grid0.Coords) : ℕ → F .f32 := fun k => I.Wt (bN i * 512 + k)

/-- The band a tile sends out. -/
def Ins.fin (I : Ins F) (i : grid0.Coords) : ℕ → F .f32 := finN (I.tabs i) I.D3 (I.mt i) (I.wt i) i I.Z

theorem off1_eq (i : grid0.Coords) : k0_off1 i 0 = bN i * 7168 := by
  have h0 : (i 0).val < 2 := (i 0).isLt
  have h1 : (i 1).val < 16 := (i 1).isLt
  unfold k0_off1 bN
  generalize (i 0).val = a at *
  generalize (i 1).val = b at *
  interval_cases a <;> interval_cases b <;> rfl

theorem off2_eq (i : grid0.Coords) : k0_off2 i 0 = bN i * 512 := by
  have h0 : (i 0).val < 2 := (i 0).isLt
  have h1 : (i 1).val < 16 := (i 1).isLt
  unfold k0_off2 bN
  generalize (i 0).val = a at *
  generalize (i 1).val = b at *
  interval_cases a <;> interval_cases b <;> rfl

section

variable (𝒱 : Variants) {bd : Option 𝒱.V} (d : Dev nD) (i : grid0.Coords) (I : Ins F) (q : PosShare TreeShare)
  {O : CellTallies nD τ sig (HIx 1)} {W : Waits sig (HIx 1)}

/-- The second table's copy, on its way. -/
def FlyX1 : sProp 𝕄 :=
  Fly (cT d i) cc0_scoped1.sem (Memref.whole cc0_scratch1 : Memref sig (cT d i).2.kind _ _ _).view.dmaCredit
    iprop(own (e := .i32) (cT d i) (Memref.whole cc0_scratch1) (arr fun k => I.X1 (k0_off1 i 0 + k)) ∗ ownq (e := .i32) (cT d i) (Memref.whole main_v9_scv) q (arr I.X1))

theorem wp_tabs0 {Φ : (Σ' (_ : BitVec 32), BitVec 32) → sProp 𝕄} :
    iprop(Cp (e := .i32) (cT d i) (Memref.whole main_v8_scv) q I.X0 (Memref.whole cc0_scratch0) cc0_scoped0.sem ∗ Cp (e := .i32) (cT d i) (Memref.whole main_v9_scv) q I.X1 (Memref.whole cc0_scratch1) cc0_scoped1.sem ∗ OW (cT d i) O W ∗ Transfers.MayWaits (cT d i) (default : HIx 1) O)
      ⊢ iprop((∀ v : (Σ' (_ : BitVec 32), BitVec 32), ⌜v.1 = bloW i⌝ -∗ (CpD (e := .i32) (cT d i) (Memref.whole main_v8_scv) q I.X0 (Memref.whole cc0_scratch0) cc0_scoped0.sem (bN i * 7168) ∗ FlyX1 d i I q ∗ OW (cT d i) O W) -∗ Φ v)
        -∗ wp frame (wpE (defs₀ (F := F)) 𝒱 (cT d i) bd) Set.univ (k0_part34 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) Φ) := by
  iintro ⟨C0, C1, HO, #Hmw⟩ Hk
  unfold k0_part34
  iapply (wp_sync 𝒱 (cT d i) bd (off1_eq i) (View.dmaCredit_pos _ (by decide))) $$ [C0 HO]
  · isplitl [C0]; · iexact C0
    isplitl [HO]; · iexact HO
    iexact Hmw
  iintro ⟨C0, HO⟩
  unfold Cp
  icases C1 with ⟨Hs, ⟨%a, Hd⟩, Hv⟩
  iapply (wp_issueS 𝒱 (cT d i) bd _ rfl (View.dmaCredit_pos _ (by decide))) $$ [Hs Hd Hv]
  · isplitl [Hs]; · iexact Hs
    isplitl [Hd] <;> iassumption
  iintro Hfl
  rw [wp_pure]
  imodintro
  unfold FlyX1
  iapply Hk $$ %_ [] [C0 Hfl HO]
  · ipureintro; rfl
  isplitl [C0]; · iexact C0
  isplitl [Hfl]; · iexact Hfl
  iexact HO

theorem wp_tabs1 (v30 : BitVec 32) {Φ : BitVec 32 → sProp 𝕄} :
    iprop(FlyX1 d i I q ∗ Cp (e := .f32) (cT d i) (Memref.whole main_v10_scv) q I.A0 (Memref.whole cc0_scratch2) cc0_scoped2.sem ∗ Cp (e := .f32) (cT d i) (Memref.whole main_v11_scv) q I.A1 (Memref.whole cc0_scratch3) cc0_scoped3.sem ∗ Cp (e := .i32) (cT d i) (Memref.whole main_v12_scv) q I.Y0 (Memref.whole cc0_scratch4) cc0_scoped4.sem ∗ Cp (e := .i32) (cT d i) (Memref.whole main_v13_scv) q I.Y1 (Memref.whole cc0_scratch5) cc0_scoped5.sem ∗ Cp (e := .f32) (cT d i) (Memref.whole main_v14_scv) q I.B0 (Memref.whole cc0_scratch6) cc0_scoped6.sem ∗ Cp (e := .f32) (cT d i) (Memref.whole main_v15_scv) q I.B1 (Memref.whole cc0_scratch7) cc0_scoped7.sem ∗ Cp (e := .i32) (cT d i) (Memref.whole main_v2_scv) q I.Mt (Memref.whole cc0_scratch8) cc0_scoped8.sem ∗ Cp (e := .f32) (cT d i) (Memref.whole main_v5_scv) q I.Wt (Memref.whole cc0_scratch9) cc0_scoped9.sem
        ∗ (ownq (e := .f32) (cT d i) (Memref.whole main_v6_scv) q (arr I.Z) ∗ (∃ a, own (e := .f32) (cT d i) (Memref.whole cc0_scratch11) a) ∗ semVal (cT d i, .dma cc0_scoped10.sem) 0)
        ∗ ((∃ a, own (e := .f32) (cT d i) (Memref.whole cc0_scratch12) a) ∗ semVal (cT d i, .dma cc0_scoped11.sem) 0)
        ∗ OW (cT d i) O W ∗ Transfers.MayWaits (cT d i) (default : HIx 1) O)
      ⊢ iprop((∀ v : BitVec 32, (CpD (e := .i32) (cT d i) (Memref.whole main_v9_scv) q I.X1 (Memref.whole cc0_scratch1) cc0_scoped1.sem (bN i * 7168) ∗ CpD (e := .f32) (cT d i) (Memref.whole main_v10_scv) q I.A0 (Memref.whole cc0_scratch2) cc0_scoped2.sem (bN i * 7168) ∗ CpD (e := .f32) (cT d i) (Memref.whole main_v11_scv) q I.A1 (Memref.whole cc0_scratch3) cc0_scoped3.sem (bN i * 7168) ∗ CpD (e := .i32) (cT d i) (Memref.whole main_v12_scv) q I.Y0 (Memref.whole cc0_scratch4) cc0_scoped4.sem (bN i * 7168) ∗ CpD (e := .i32) (cT d i) (Memref.whole main_v13_scv) q I.Y1 (Memref.whole cc0_scratch5) cc0_scoped5.sem (bN i * 7168) ∗ CpD (e := .f32) (cT d i) (Memref.whole main_v14_scv) q I.B0 (Memref.whole cc0_scratch6) cc0_scoped6.sem (bN i * 7168) ∗ CpD (e := .f32) (cT d i) (Memref.whole main_v15_scv) q I.B1 (Memref.whole cc0_scratch7) cc0_scoped7.sem (bN i * 7168) ∗ CpD (e := .i32) (cT d i) (Memref.whole main_v2_scv) q I.Mt (Memref.whole cc0_scratch8) cc0_scoped8.sem (bN i * 512) ∗ CpD (e := .f32) (cT d i) (Memref.whole main_v5_scv) q I.Wt (Memref.whole cc0_scratch9) cc0_scoped9.sem (bN i * 512)
          ∗ (ownq (e := .f32) (cT d i) (Memref.whole main_v6_scv) q (arr I.Z) ∗ own (e := .f32) (cT d i) (Memref.whole cc0_scratch11) (arr I.Z) ∗ semVal (cT d i, .dma cc0_scoped10.sem) 0)
          ∗ (own (e := .f32) (cT d i) (Memref.whole cc0_scratch12) (arr I.Z) ∗ semVal (cT d i, .dma cc0_scoped11.sem) 0)
          ∗ OW (cT d i) O W) -∗ Φ v)
        -∗ wp frame (wpE (defs₀ (F := F)) 𝒱 (cT d i) bd) Set.univ (k0_part35 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 v30) Φ) := by
  iintro ⟨Hfl, C2, C3, C4, C5, C6, C7, C8, C9, ⟨Hz, Ha, Hva⟩, ⟨Hb, Hvb⟩, HO, #Hmw⟩ Hk
  unfold k0_part35 FlyX1
  iapply (wp_land 𝒱 (cT d i) bd rfl) $$ [Hfl HO]
  · isplitl [Hfl]; · iexact Hfl
    isplitl [HO]; · iexact HO
    iexact Hmw
  iintro ⟨⟨Hd1, Hs1⟩, Hv1, HO⟩
  iapply (wp_sync 𝒱 (cT d i) bd (off1_eq i) (View.dmaCredit_pos _ (by decide))) $$ [C2 HO]
  · isplitl [C2]; · iexact C2
    isplitl [HO]; · iexact HO
    iexact Hmw
  iintro ⟨C2, HO⟩
  iapply (wp_sync 𝒱 (cT d i) bd (off1_eq i) (View.dmaCredit_pos _ (by decide))) $$ [C3 HO]
  · isplitl [C3]; · iexact C3
    isplitl [HO]; · iexact HO
    iexact Hmw
  iintro ⟨C3, HO⟩
  iapply (wp_sync 𝒱 (cT d i) bd (off1_eq i) (View.dmaCredit_pos _ (by decide))) $$ [C4 HO]
  · isplitl [C4]; · iexact C4
    isplitl [HO]; · iexact HO
    iexact Hmw
  iintro ⟨C4, HO⟩
  iapply (wp_sync 𝒱 (cT d i) bd (off1_eq i) (View.dmaCredit_pos _ (by decide))) $$ [C5 HO]
  · isplitl [C5]; · iexact C5
    isplitl [HO]; · iexact HO
    iexact Hmw
  iintro ⟨C5, HO⟩
  iapply (wp_sync 𝒱 (cT d i) bd (off1_eq i) (View.dmaCredit_pos _ (by decide))) $$ [C6 HO]
  · isplitl [C6]; · iexact C6
    isplitl [HO]; · iexact HO
    iexact Hmw
  iintro ⟨C6, HO⟩
  iapply (wp_sync 𝒱 (cT d i) bd (off1_eq i) (View.dmaCredit_pos _ (by decide))) $$ [C7 HO]
  · isplitl [C7]; · iexact C7
    isplitl [HO]; · iexact HO
    iexact Hmw
  iintro ⟨C7, HO⟩
  iapply (wp_sync 𝒱 (cT d i) bd (off2_eq i) (View.dmaCredit_pos _ (by decide))) $$ [C8 HO]
  · isplitl [C8]; · iexact C8
    isplitl [HO]; · iexact HO
    iexact Hmw
  iintro ⟨C8, HO⟩
  iapply (wp_sync 𝒱 (cT d i) bd (off2_eq i) (View.dmaCredit_pos _ (by decide))) $$ [C9 HO]
  · isplitl [C9]; · iexact C9
    isplitl [HO]; · iexact HO
    iexact Hmw
  iintro ⟨C9, HO⟩
  iapply (wp_syncW 𝒱 (cT d i) bd (a := arr I.Z) (View.dmaCredit_pos _ (by decide))) $$ [Hz Ha Hva HO]
  · isplitl [Hz Ha Hva]
    · isplitl [Hz]; · iexact Hz
      isplitl [Ha] <;> iassumption
    isplitl [HO]; · iexact HO
    iexact Hmw
  iintro ⟨⟨Hz, Ha, Hva⟩, HO⟩
  iapply (wp_syncW 𝒱 (cT d i) bd (a := arr I.Z) (View.dmaCredit_pos _ (by decide))) $$ [Hz Hb Hvb HO]
  · isplitl [Hz Hb Hvb]
    · isplitl [Hz]; · iexact Hz
      isplitl [Hb] <;> iassumption
    isplitl [HO]; · iexact HO
    iexact Hmw
  iintro ⟨⟨Hz, Hb, Hvb⟩, HO⟩
  rw [wp_pure]
  imodintro
  iapply Hk $$ %_
  isplitl [Hd1 Hs1 Hv1]
  · unfold CpD
    rw [← off1_eq i]
    isplitl [Hs1]; · iexact Hs1
    isplitl [Hd1] <;> iassumption
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [Hz Ha Hva]
  · isplitl [Hz]; · iexact Hz
    isplitl [Ha] <;> iassumption
  isplitl [Hb Hvb]
  · isplitl [Hb] <;> iassumption
  iexact HO

end

end Cert.Proof.Tile
-- ==== Proof.Tile.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Fetch

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000

/-! A tile's whole run. -/

section

variable (c : Thread nD τ)

theorem ownq_halve {sp : Space} {s : Shape} {e : EltTy} (m : Memref sig c.2.kind sp s e) (q : PosShare TreeShare) (a : s.Idx → Elt F e) :
    ownq c m q a ⊢ iprop(ownq c m q.left a ∗ ownq c m q.right a) := by
  unfold ownq
  iintro ⟨%f, %hf, H⟩
  ihave H := (pointsTo_share (PosShare.mem_left_op_right q)).1 $$ H
  icases H with ⟨H1, H2⟩
  isplitl [H1]
  · iexists f
    isplitr; · ipureintro; exact hf
    iexact H1
  · iexists f
    isplitr; · ipureintro; exact hf
    iexact H2

theorem ownq_join {sp : Space} {s : Shape} {e : EltTy} (m : Memref sig c.2.kind sp s e) (q : PosShare TreeShare) (a : s.Idx → Elt F e) :
    iprop(ownq c m q.left a ∗ ownq c m q.right a) ⊢ ownq c m q a := by
  unfold ownq
  iintro ⟨⟨%f, %hf, H1⟩, ⟨%g, -, H2⟩⟩
  ihave %hag := pointsTo_agree $$ [H1 H2]
  · isplitl [H1] <;> iassumption
  ihave H2 := (Entails.of_eq (pointsTo_congr (f := g) (g := f) (fun x hx => (hag x (by simpa using hx)).1.symm))) $$ H2
  iexists f
  isplitr; · ipureintro; exact hf
  iapply (pointsTo_share (PosShare.mem_left_op_right q)).2
  isplitl [H1] <;> iassumption

end

section

variable (𝒱 : Variants) {bd : Option 𝒱.V} (d : Dev nD) (i : grid0.Coords)

/-- The band made, in the program's text. -/
theorem wp_band2 (T : Tabs F) (hT : T.Ok) (D3 : ℕ → F .f32) (Mt : ℕ → BitVec 32) (Wt : ℕ → F .f32)
    (hM : ∀ n, n < 32 → (Mt (16 * n + 2)).toNat ≤ 14 ∧ (Mt (16 * n + 3)).toNat ≤ 14)
    (γ δ₀ δ₁ κ : ℕ) (q₀ q₁ : PosShare TreeShare) {O : CellTallies nD τ sig (HIx 1)} {W : Waits sig (HIx 1)} (g0 : ℕ → F .f32)
    (v30 c0 : BitVec 32) {α : Type} {kk : PUnit → Prog (TpuEff nD τ sig (Elt F) Λ₀ (cT d i).2) α} {Φ : α → sProp 𝕄} :
    iprop(Held d i T Mt Wt O W ∗ own (cT d i) (e := .f32) (Memref.whole cc0_scratch11) (arr g0) ∗ own (cT d i) (e := .f32) (Memref.whole cc0_scratch12) (arr g0)
        ∗ inv κ (cellBody (F := F) (cT d i) (Memref.whole cc0_scratch10) γ δ₀ δ₁) ∗ Transfers.tok EC γ
        ∗ (Transfers.tok EC δ₀ ∗ (∃ f, halfAt (cT d i) (Memref.whole cc0_scratch10) inb_S24576_S12288_0 f) ∗ ownq (e := .f32) (cT d i) (Memref.whole main_v7_scv) q₀ (arr D3)
          ∗ semVal (cT d i, .dma cc0_scratch13.sem) 0)
        ∗ (Transfers.tok EC δ₁ ∗ (∃ f, halfAt (cT d i) (Memref.whole cc0_scratch10) inb_S24576_S12288_12288 f) ∗ ownq (e := .f32) (cT d i) (Memref.whole main_v7_scv) q₁ (arr D3)
          ∗ semVal (cT d i, .dma cc0_scratch14.sem) 0))
      ⊢ iprop(((Held d i T Mt Wt O W ∗ own (cT d i) (e := .f32) (Memref.whole cc0_scratch11) (arr (finN T D3 Mt Wt i g0))
        ∗ own (cT d i) (e := .f32) (Memref.whole cc0_scratch12) (arr (objStep T D3 Mt Wt i 31 g0)) ∗ Transfers.tok EC γ
        ∗ (Transfers.tok EC δ₀ ∗ (∃ f, halfAt (cT d i) (Memref.whole cc0_scratch10) inb_S24576_S12288_0 f) ∗ ownq (e := .f32) (cT d i) (Memref.whole main_v7_scv) q₀ (arr D3)
          ∗ semVal (cT d i, .dma cc0_scratch13.sem) 0)
        ∗ (Transfers.tok EC δ₁ ∗ (∃ f, halfAt (cT d i) (Memref.whole cc0_scratch10) inb_S24576_S12288_12288 f) ∗ ownq (e := .f32) (cT d i) (Memref.whole main_v7_scv) q₁ (arr D3)
          ∗ semVal (cT d i, .dma cc0_scratch14.sem) 0)) -∗ wp frame (wpE (defs₀ (F := F)) 𝒱 (cT d i) bd) Set.univ (kk ⟨⟩) Φ)
        -∗ wp frame (wpE (defs₀ (F := F)) 𝒱 (cT d i) bd) Set.univ
          (k0_part36 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (bloW i) v30 c0 >>= fun ⟨v54, v55, v57, v59, v61, v63, v66, v67, v68, hw, vt⟩ => k0_part37 i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (bloW i) v54 v55 v57 v59 v61 v63 v66 v67 v68 hw vt >>= kk) Φ) := by
  rw [wp_bind]
  iintro H Hk
  ihave Hw := (wp_band 𝒱 d i T hT D3 Mt Wt hM γ δ₀ δ₁ κ q₀ q₁ g0 v30 c0 (Φ := fun _ => wp frame (wpE (defs₀ (F := F)) 𝒱 (cT d i) bd) Set.univ (kk ⟨⟩) Φ)) $$ H
  ihave Hw := Hw $$ Hk
  iapply (wp_mono frame (wpE (defs₀ (F := F)) 𝒱 (cT d i) bd) Set.univ fun s => by
    obtain ⟨v54, v55, v57, v59, v61, v63, v66, v67, v68, hw, vt⟩ := s
    exact Entails.of_eq (wp_bind ..).symm) $$ Hw

end

/-- The three stretches of the result a tile fills, one for each channel. -/
abbrev out0 (i : grid0.Coords) : Memref sig .scVector .hbm S6272 .f32 :=
  ((Memref.whole main_v16_scv).slice (Rect.unit (s := S4x3x8x6272) (k0_off73 i) S1x1x1x6272.size (k0_off73_inb i)) (fun _ => rfl)).squeeze S6272 squeezes_S1x1x1x6272_S6272
abbrev out1 (i : grid0.Coords) : Memref sig .scVector .hbm S6272 .f32 :=
  ((Memref.whole main_v16_scv).slice (Rect.unit (s := S4x3x8x6272) (k0_off74 i) S1x1x1x6272.size (k0_off74_inb i)) (fun _ => rfl)).squeeze S6272 squeezes_S1x1x1x6272_S6272
abbrev out2 (i : grid0.Coords) : Memref sig .scVector .hbm S6272 .f32 :=
  ((Memref.whole main_v16_scv).slice (Rect.unit (s := S4x3x8x6272) (k0_off75 i) S1x1x1x6272.size (k0_off75_inb i)) (fun _ => rfl)).squeeze S6272 squeezes_S1x1x1x6272_S6272

section

variable (𝒱 : Variants) {bd : Option 𝒱.V} (d : Dev nD) (i : grid0.Coords) (I : Ins F) (q : PosShare TreeShare)
  {O : CellTallies nD τ sig (HIx 1)} {W : Waits sig (HIx 1)}

/-- What a tile is given of the call's arrays: shares of what it reads, its stretches of the result. -/
def goRes : sProp 𝕄 :=
  iprop(ownq (e := .f32) (cT d i) (Memref.whole main_v7_scv) q (arr I.D3)
    ∗ ownq (e := .i32) (cT d i) (Memref.whole main_v8_scv) q (arr I.X0) ∗ ownq (e := .i32) (cT d i) (Memref.whole main_v9_scv) q (arr I.X1) ∗ ownq (e := .f32) (cT d i) (Memref.whole main_v10_scv) q (arr I.A0) ∗ ownq (e := .f32) (cT d i) (Memref.whole main_v11_scv) q (arr I.A1) ∗ ownq (e := .i32) (cT d i) (Memref.whole main_v12_scv) q (arr I.Y0) ∗ ownq (e := .i32) (cT d i) (Memref.whole main_v13_scv) q (arr I.Y1) ∗ ownq (e := .f32) (cT d i) (Memref.whole main_v14_scv) q (arr I.B0) ∗ ownq (e := .f32) (cT d i) (Memref.whole main_v15_scv) q (arr I.B1) ∗ ownq (e := .i32) (cT d i) (Memref.whole main_v2_scv) q (arr I.Mt) ∗ ownq (e := .f32) (cT d i) (Memref.whole main_v5_scv) q (arr I.Wt)
    ∗ ownq (e := .f32) (cT d i) (Memref.whole main_v6_scv) q (arr I.Z)
    ∗ (∃ a, own (e := .f32) (cT d i) (out0 i) a) ∗ (∃ a, own (e := .f32) (cT d i) (out1 i) a) ∗ (∃ a, own (e := .f32) (cT d i) (out2 i) a))

/-- What it gives back. -/
def tdRes : sProp 𝕄 :=
  iprop(ownq (e := .f32) (cT d i) (Memref.whole main_v7_scv) q (arr I.D3)
    ∗ ownq (e := .i32) (cT d i) (Memref.whole main_v8_scv) q (arr I.X0) ∗ ownq (e := .i32) (cT d i) (Memref.whole main_v9_scv) q (arr I.X1) ∗ ownq (e := .f32) (cT d i) (Memref.whole main_v10_scv) q (arr I.A0) ∗ ownq (e := .f32) (cT d i) (Memref.whole main_v11_scv) q (arr I.A1) ∗ ownq (e := .i32) (cT d i) (Memref.whole main_v12_scv) q (arr I.Y0) ∗ ownq (e := .i32) (cT d i) (Memref.whole main_v13_scv) q (arr I.Y1) ∗ ownq (e := .f32) (cT d i) (Memref.whole main_v14_scv) q (arr I.B0) ∗ ownq (e := .f32) (cT d i) (Memref.whole main_v15_scv) q (arr I.B1) ∗ ownq (e := .i32) (cT d i) (Memref.whole main_v2_scv) q (arr I.Mt) ∗ ownq (e := .f32) (cT d i) (Memref.whole main_v5_scv) q (arr I.Wt)
    ∗ ownq (e := .f32) (cT d i) (Memref.whole main_v6_scv) q (arr I.Z)
    ∗ own (e := .f32) (cT d i) (out0 i) (arr fun k => I.fin i (0 + k)) ∗ own (e := .f32) (cT d i) (out1 i) (arr fun k => I.fin i (6272 + k))
    ∗ own (e := .f32) (cT d i) (out2 i) (arr fun k => I.fin i (12544 + k)))

/-- The tile's own buffers and semaphores. -/
def tmpRes : sProp 𝕄 :=
  iprop(((∃ a, own (e := .i32) (cT d i) (Memref.whole cc0_scratch0) a) ∗ (∃ a, own (e := .i32) (cT d i) (Memref.whole cc0_scratch1) a) ∗ (∃ a, own (e := .f32) (cT d i) (Memref.whole cc0_scratch2) a) ∗ (∃ a, own (e := .f32) (cT d i) (Memref.whole cc0_scratch3) a) ∗ (∃ a, own (e := .i32) (cT d i) (Memref.whole cc0_scratch4) a) ∗ (∃ a, own (e := .i32) (cT d i) (Memref.whole cc0_scratch5) a) ∗ (∃ a, own (e := .f32) (cT d i) (Memref.whole cc0_scratch6) a) ∗ (∃ a, own (e := .f32) (cT d i) (Memref.whole cc0_scratch7) a) ∗ (∃ a, own (e := .i32) (cT d i) (Memref.whole cc0_scratch8) a) ∗ (∃ a, own (e := .f32) (cT d i) (Memref.whole cc0_scratch9) a) ∗ (∃ a, own (e := .f32) (cT d i) (Memref.whole cc0_scratch10) a) ∗ (∃ a, own (e := .f32) (cT d i) (Memref.whole cc0_scratch11) a) ∗ (∃ a, own (e := .f32) (cT d i) (Memref.whole cc0_scratch12) a)) ∗ semVal (cT d i, .dma cc0_scoped0.sem) 0 ∗ semVal (cT d i, .dma cc0_scoped1.sem) 0 ∗ semVal (cT d i, .dma cc0_scoped2.sem) 0 ∗ semVal (cT d i, .dma cc0_scoped3.sem) 0 ∗ semVal (cT d i, .dma cc0_scoped4.sem) 0 ∗ semVal (cT d i, .dma cc0_scoped5.sem) 0 ∗ semVal (cT d i, .dma cc0_scoped6.sem) 0 ∗ semVal (cT d i, .dma cc0_scoped7.sem) 0 ∗ semVal (cT d i, .dma cc0_scoped8.sem) 0 ∗ semVal (cT d i, .dma cc0_scoped9.sem) 0 ∗ semVal (cT d i, .dma cc0_scoped10.sem) 0 ∗ semVal (cT d i, .dma cc0_scoped11.sem) 0 ∗ semVal (cT d i, .dma cc0_scoped12.sem) 0 ∗ semVal (cT d i, .dma cc0_scoped13.sem) 0 ∗ semVal (cT d i, .dma cc0_scoped14.sem) 0 ∗ semVal (cT d i, .dma cc0_scratch13.sem) 0 ∗ semVal (cT d i, .dma cc0_scratch14.sem) 0)

theorem wp_tile (hT : (I.tabs i).Ok) (hM : ∀ n, n < 32 → (I.mt i (16 * n + 2)).toNat ≤ 14 ∧ (I.mt i (16 * n + 3)).toNat ≤ 14)
    {Φ : PUnit → sProp 𝕄} :
    iprop(goRes d i I q ∗ tmpRes d i ∗ OW (cT d i) O W ∗ Transfers.MayWaits (cT d i) (default : HIx 1) O)
      ⊢ iprop((tdRes d i I q ∗ tmpRes d i ∗ OW (cT d i) O W -∗ Φ ⟨⟩)
        -∗ wp frame (wpE (defs₀ (F := F)) 𝒱 (cT d i) bd) Set.univ (cc0__sc_merge_body i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) Φ) := by
  unfold goRes tdRes tmpRes
  iintro ⟨⟨Hd3, G0, G1, G2, G3, G4, G5, G6, G7, G8, G9, Hz, Ho0, Ho1, Ho2⟩, ⟨⟨T0, T1, T2, T3, T4, T5, T6, T7, T8, T9, T10, T11, T12⟩, S0, S1, S2, S3, S4, S5, S6, S7, S8, S9, S10, S11, S12, S13, S14, S15, S16⟩, HO, #Hmw⟩ Hk
  unfold cc0__sc_merge_body
  rw [wp_bind]
  unfold k0_part38
  rw [wp_bind]
  iapply (wp_tabs0 𝒱 d i I q) $$ [G0 G1 T0 T1 S0 S1 HO]
  · isplitl [G0 T0 S0]
    · unfold Cp
      isplitl [G0]; · iexact G0
      isplitl [T0] <;> iassumption
    isplitl [G1 T1 S1]
    · unfold Cp
      isplitl [G1]; · iexact G1
      isplitl [T1] <;> iassumption
    isplitl [HO]; · iexact HO
    iexact Hmw
  iintro %v %hv ⟨C0, Hfl, HO⟩
  obtain ⟨v29, v30⟩ := v
  obtain rfl : v29 = bloW i := hv
  rw [wp_bind]
  iapply (wp_tabs1 𝒱 d i I q v30) $$ [Hfl G2 T2 S2 G3 T3 S3 G4 T4 S4 G5 T5 S5 G6 T6 S6 G7 T7 S7 G8 T8 S8 G9 T9 S9 Hz T11 T12 S10 S11 HO]
  · isplitl [Hfl]; · iexact Hfl
    isplitl [G2 T2 S2]
    · unfold Cp
      isplitl [G2]; · iexact G2
      isplitl [T2] <;> iassumption
    isplitl [G3 T3 S3]
    · unfold Cp
      isplitl [G3]; · iexact G3
      isplitl [T3] <;> iassumption
    isplitl [G4 T4 S4]
    · unfold Cp
      isplitl [G4]; · iexact G4
      isplitl [T4] <;> iassumption
    isplitl [G5 T5 S5]
    · unfold Cp
      isplitl [G5]; · iexact G5
      isplitl [T5] <;> iassumption
    isplitl [G6 T6 S6]
    · unfold Cp
      isplitl [G6]; · iexact G6
      isplitl [T6] <;> iassumption
    isplitl [G7 T7 S7]
    · unfold Cp
      isplitl [G7]; · iexact G7
      isplitl [T7] <;> iassumption
    isplitl [G8 T8 S8]
    · unfold Cp
      isplitl [G8]; · iexact G8
      isplitl [T8] <;> iassumption
    isplitl [G9 T9 S9]
    · unfold Cp
      isplitl [G9]; · iexact G9
      isplitl [T9] <;> iassumption
    isplitl [Hz T11 S10]
    · isplitl [Hz]; · iexact Hz
      isplitl [T11] <;> iassumption
    isplitl [T12 S11]
    · isplitl [T12] <;> iassumption
    isplitl [HO]; · iexact HO
    iexact Hmw
  unfold CpD
  iintro %c0 ⟨⟨G1, T1, S1⟩, ⟨G2, T2, S2⟩, ⟨G3, T3, S3⟩, ⟨G4, T4, S4⟩, ⟨G5, T5, S5⟩, ⟨G6, T6, S6⟩, ⟨G7, T7, S7⟩, ⟨G8, T8, S8⟩, ⟨G9, T9, S9⟩, ⟨Hz, T11, S10⟩, ⟨T12, S11⟩, HO⟩
  icases T10 with ⟨%a10, T10⟩
  unfold own
  icases T10 with ⟨%f10, -, T10⟩
  imod (patch_open (cT d i) (Memref.whole cc0_scratch10) inb_S24576_S12288_0 inb_S24576_S12288_12288 f10 Set.univ) $$ T10 with ⟨%γ, %δ₀, %δ₁, %κ, #Hinv, Hγ, Hδ0, Hδ1, Hh0, Hh1⟩
  ihave Hd3 := (ownq_halve (cT d i) (Memref.whole main_v7_scv) q (arr I.D3)) $$ Hd3
  icases Hd3 with ⟨Hd3l, Hd3r⟩
  icases C0 with ⟨G0, T0, S0⟩
  iapply (wp_band2 𝒱 d i (I.tabs i) hT I.D3 (I.mt i) (I.wt i) hM γ δ₀ δ₁ κ q.left q.right I.Z v30 c0) $$ [T0 T1 T2 T3 T4 T5 T6 T7 T8 T9 T11 T12 HO Hγ Hδ0 Hδ1 Hh0 Hh1 Hd3l Hd3r S15 S16]
  · isplitl [T0 T1 T2 T3 T4 T5 T6 T7 T8 T9 HO]
    · unfold Held tabsOwn own
      isplitl [T0 T1 T2 T3 T4 T5 T6 T7]
      · isplitl [T0]; · iexact T0
        isplitl [T1]; · iexact T1
        isplitl [T2]; · iexact T2
        isplitl [T3]; · iexact T3
        isplitl [T4]; · iexact T4
        isplitl [T5]; · iexact T5
        isplitl [T6]; · iexact T6
        isplitl [T7]; · iexact T7
        iempintro
      isplitl [T8]; · iexact T8
      isplitl [T9]; · iexact T9
      isplitl [HO]; · iexact HO
      iexact Hmw
    unfold own
    isplitl [T11]; · iexact T11
    isplitl [T12]; · iexact T12
    isplitr; · iexact Hinv
    isplitl [Hγ]; · iexact Hγ
    isplitl [Hδ0 Hh0 Hd3l S15]
    · isplitl [Hδ0]; · iexact Hδ0
      isplitl [Hh0]; · iexists f10; iexact Hh0
      isplitl [Hd3l] <;> iassumption
    · isplitl [Hδ1]; · iexact Hδ1
      isplitl [Hh1]; · iexists f10; iexact Hh1
      isplitl [Hd3r] <;> iassumption
  unfold Held tabsOwn
  iintro ⟨⟨⟨T0, T1, T2, T3, T4, T5, T6, T7, -⟩, T8, T9, HO, -⟩, T11, T12, Hγ, ⟨Hδ0, ⟨%f0, Hh0⟩, Hd3l, S15⟩, ⟨Hδ1, ⟨%f1, Hh1⟩, Hd3r, S16⟩⟩
  ihave T11 := (Entails.of_eq (show own (e := .f32) (cT d i) (Memref.whole cc0_scratch11) (arr (finN (I.tabs i) I.D3 (I.mt i) (I.wt i) i I.Z))
    = ownq (cT d i) (Memref.whole cc0_scratch11) fullShare (arr (I.fin i)) from rfl)) $$ T11
  iapply (wp_sync 𝒱 (cT d i) bd (base := Memref.whole cc0_scratch11) (dst := out0 i) (q := fullShare) (A := I.fin i) rfl (View.dmaCredit_pos _ (by decide))) $$ [T11 Ho0 S12 HO]
  · isplitl [T11 Ho0 S12]
    · unfold Cp
      isplitl [T11]; · iexact T11
      unfold own
      isplitl [Ho0] <;> iassumption
    isplitl [HO]; · iexact HO
    iexact Hmw
  unfold CpD
  iintro ⟨⟨T11, Ho0, S12⟩, HO⟩
  iapply (wp_sync 𝒱 (cT d i) bd (base := Memref.whole cc0_scratch11) (dst := out1 i) (q := fullShare) (A := I.fin i) rfl (View.dmaCredit_pos _ (by decide))) $$ [T11 Ho1 S13 HO]
  · isplitl [T11 Ho1 S13]
    · unfold Cp
      isplitl [T11]; · iexact T11
      unfold own
      isplitl [Ho1] <;> iassumption
    isplitl [HO]; · iexact HO
    iexact Hmw
  unfold CpD
  iintro ⟨⟨T11, Ho1, S13⟩, HO⟩
  rw [← wp_bind]
  iapply (wp_sync 𝒱 (cT d i) bd (base := Memref.whole cc0_scratch11) (dst := out2 i) (q := fullShare) (A := I.fin i) rfl (View.dmaCredit_pos _ (by decide))) $$ [T11 Ho2 S14 HO]
  · isplitl [T11 Ho2 S14]
    · unfold Cp
      isplitl [T11]; · iexact T11
      unfold own
      isplitl [Ho2] <;> iassumption
    isplitl [HO]; · iexact HO
    iexact Hmw
  unfold CpD
  iintro ⟨⟨T11, Ho2, S14⟩, HO⟩
  rw [wp_pure]
  imod (patch_close (cT d i) (Memref.whole cc0_scratch10) inb_S24576_S12288_0 inb_S24576_S12288_12288 f0 f1 γ δ₀ δ₁ κ) $$ [Hγ Hδ0 Hδ1 Hh0 Hh1] with ⟨%f10', T10⟩
  · isplitr; · iexact Hinv
    isplitl [Hγ]; · iexact Hγ
    isplitl [Hδ0]; · iexact Hδ0
    isplitl [Hδ1]; · iexact Hδ1
    isplitl [Hh0] <;> iassumption
  ihave Hd3 := (ownq_join (cT d i) (Memref.whole main_v7_scv) q (arr I.D3)) $$ [Hd3l Hd3r]
  · isplitl [Hd3l]; · iexact Hd3l
    iexact Hd3r
  imodintro
  unfold own ownq
  iapply Hk
  isplitl [Hd3 G0 G1 G2 G3 G4 G5 G6 G7 G8 G9 Hz Ho0 Ho1 Ho2]
  · isplitl [Hd3]; · iexact Hd3
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [Hz]; · iexact Hz
    isplitl [Ho0]; · iexact Ho0
    isplitl [Ho1]; · iexact Ho1
    iexact Ho2
  isplitl [T0 T1 T2 T3 T4 T5 T6 T7 T8 T9 T10 T11 T12 S0 S1 S2 S3 S4 S5 S6 S7 S8 S9 S10 S11 S12 S13 S14 S15 S16]
  · isplitl [T0 T1 T2 T3 T4 T5 T6 T7 T8 T9 T10 T11 T12]
    · isplitl [T0]; · iexists _; iexact T0
      isplitl [T1]; · iexists _; iexact T1
      isplitl [T2]; · iexists _; iexact T2
      isplitl [T3]; · iexists _; iexact T3
      isplitl [T4]; · iexists _; iexact T4
      isplitl [T5]; · iexists _; iexact T5
      isplitl [T6]; · iexists _; iexact T6
      isplitl [T7]; · iexists _; iexact T7
      isplitl [T8]; · iexists _; iexact T8
      isplitl [T9]; · iexists _; iexact T9
      isplitl [T10]
      · iexists _; iexists f10'
        isplitr; · ipureintro; rfl
        iexact T10
      isplitl [T11]; · iexists _; iexact T11
      iexists _; iexact T12
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact S16
  iexact HO

end

end Cert.Proof.Tile
-- ==== Proof.Whole.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Tile

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! The call's arrays, whole on the host and dealt to the tiles. -/

/-! Halving a share again and again. -/

/-- Part `k` of a share halved `n` times over. -/
def sh : ℕ → PosShare TreeShare → ℕ → PosShare TreeShare
  | 0, q, _ => q
  | n + 1, q, k => sh n (if k / 2 ^ n = 0 then q.left else q.right) (k % 2 ^ n)

theorem two_eq (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem three_eq (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide),
    SparseCore.bigSep_insert' (by decide), bigSep_singleton]

theorem pts_sh {ℓ : Loc nD τ sig} (f : Buf (Elt F) ℓ) : ∀ (n : ℕ) (q : PosShare TreeShare),
    (ℓ ↦{q} f : sProp 𝕄) = bigSep Finset.univ fun k : Fin (2 ^ n) => ℓ ↦{sh n q k.val} f
  | 0, q => (bigSep_univ_of_subsingleton (0 : Fin 1) (Φ := fun k : Fin (2 ^ 0) => (ℓ ↦{sh 0 q k.val} f : sProp 𝕄))).symm
  | n + 1, q => by
    have hp : 0 < 2 ^ n := Nat.two_pow_pos n
    rw [bigSep_univ_equiv ((finProdFinEquiv (m := 2) (n := 2 ^ n)).trans (finCongr (by omega)))
        (fun k : Fin (2 ^ (n + 1)) => (ℓ ↦{sh (n + 1) q k.val} f : sProp 𝕄)),
      bigSep_univ_prod, two_eq, BI.Entails.antisymm (pointsTo_share (PosShare.mem_left_op_right q)).1 (pointsTo_share (PosShare.mem_left_op_right q)).2,
      pts_sh f n q.left, pts_sh f n q.right]
    congr 1 <;> refine bigSep_congr fun k _ => ?_
    · have e : (((finProdFinEquiv (m := 2) (n := 2 ^ n)).trans (finCongr (by omega : 2 * 2 ^ n = 2 ^ (n + 1)))) (0, k)).val = k.val := by simp [finProdFinEquiv]
      rw [e, sh, Nat.div_eq_of_lt k.isLt, if_pos rfl, Nat.mod_eq_of_lt k.isLt]
    · have e : (((finProdFinEquiv (m := 2) (n := 2 ^ n)).trans (finCongr (by omega : 2 * 2 ^ n = 2 ^ (n + 1)))) (1, k)).val = k.val + 2 ^ n := by simp [finProdFinEquiv]
      rw [e, sh, Nat.add_div_right _ hp, Nat.div_eq_of_lt k.isLt, if_neg (by omega), Nat.add_mod_right, Nat.mod_eq_of_lt k.isLt]

/-! The tiles: two cores of sixteen. -/

/-- A claim for every tile. -/
def both (Φ : Fin 2 → Fin 16 → sProp 𝕄) : sProp 𝕄 := bigSep Finset.univ fun c => bigSep Finset.univ fun s => Φ c s

theorem both_sep (Φ Ψ : Fin 2 → Fin 16 → sProp 𝕄) : both (fun c s => iprop(Φ c s ∗ Ψ c s)) = iprop(both Φ ∗ both Ψ) := by
  unfold both
  rw [show (fun c : Fin 2 => bigSep Finset.univ fun s => iprop(Φ c s ∗ Ψ c s)) = fun c => iprop((bigSep Finset.univ fun s => Φ c s) ∗ bigSep Finset.univ fun s => Ψ c s) from
    funext fun c => bigSep_sep' .., bigSep_sep']

theorem both_mono {Φ Ψ : Fin 2 → Fin 16 → sProp 𝕄} (h : ∀ c s, Φ c s ⊢ Ψ c s) : both Φ ⊢ both Ψ :=
  bigSep_mono fun c _ => bigSep_mono fun s _ => h c s

theorem both_prod (Φ : Fin 2 → Fin 16 → sProp 𝕄) : both Φ = bigSep Finset.univ fun p : Fin 2 × Fin 16 => Φ p.1 p.2 := by
  unfold both; rw [bigSep_univ_prod]

/-- A tile's share of what all read. -/
def qd (c : Fin 2) (s : Fin 16) : PosShare TreeShare := sh 5 fullShare (s.val + 16 * c.val)

/-- A tile's place in the grid. -/
def cd (c : Fin (grid0.bound 0)) (s : Fin (grid0.bound 1)) : grid0.Coords :=
  fun | 0 => c | 1 => s | ⟨_ + 2, h⟩ => absurd h (Nat.not_lt.2 (Nat.le_add_left _ _))

theorem pts_both {ℓ : Loc nD τ sig} {f : Buf (Elt F) ℓ} {Φ : Fin 2 → Fin 16 → sProp 𝕄} (h : ∀ c s, Φ c s = (ℓ ↦{qd c s} f)) :
    (ℓ ↦{fullShare} f : sProp 𝕄) = both Φ := by
  rw [both_prod, pts_sh f 5 fullShare]
  refine (bigSep_univ_equiv (finProdFinEquiv (m := 2) (n := 16)) (fun k : Fin (2 ^ 5) => (ℓ ↦{sh 5 fullShare k.val} f : sProp 𝕄))).trans ?_
  refine bigSep_congr fun p _ => ?_
  rw [h]; rfl

theorem ownq_whole (c : Thread nD τ) (r : Ref sig c.2.kind) (q : PosShare TreeShare) (a : Buf (Elt F) (c.loc r)) :
    (ownq c (Memref.whole r) q a : sProp 𝕄) = (c.loc r ↦{q} a) := by
  have hs : ∀ f : Buf (Elt F) (c.loc r), ((Memref.whole r).view.loc c ↦[(Memref.whole r).view.set]{q} f : sProp 𝕄) = (c.loc r ↦{q} f) := fun f => by
    rw [show (Memref.whole r).view.set = Finset.univ from View.set_whole r]
  have h1 : ownq c (Memref.whole r) q a ⊢ (c.loc r ↦{q} a : sProp 𝕄) := by
    unfold ownq
    iintro ⟨%f, %hf, H⟩
    obtain rfl : f = a := hf
    ihave H := (Entails.of_eq (hs f)) $$ H
    iexact H
  have h2 : (c.loc r ↦{q} a : sProp 𝕄) ⊢ ownq c (Memref.whole r) q a := by
    unfold ownq
    iintro H
    iexists a
    isplitr; · ipureintro; rfl
    ihave H := (Entails.of_eq (hs a).symm) $$ H
    iexact H
  exact BI.equiv_iff.mp ⟨h1, h2⟩

/-! The result, cut into the tiles' stretches. -/

/-- A tile's number. -/
def wN (i : grid0.Coords) : ℕ := 2 * (i 1).val + (i 0).val

theorem off73_eq (i : grid0.Coords) : k0_off73 i = ![wN i / 8, 0, wN i % 8, 0] := by
  have h0 : (i 0).val < 2 := (i 0).isLt
  have h1 : (i 1).val < 16 := (i 1).isLt
  unfold k0_off73 wN
  generalize (i 0).val = a at *
  generalize (i 1).val = b at *
  interval_cases a <;> interval_cases b <;> rfl
theorem off74_eq (i : grid0.Coords) : k0_off74 i = ![wN i / 8, 1, wN i % 8, 0] := by
  have h0 : (i 0).val < 2 := (i 0).isLt
  have h1 : (i 1).val < 16 := (i 1).isLt
  unfold k0_off74 wN
  generalize (i 0).val = a at *
  generalize (i 1).val = b at *
  interval_cases a <;> interval_cases b <;> rfl
theorem off75_eq (i : grid0.Coords) : k0_off75 i = ![wN i / 8, 2, wN i % 8, 0] := by
  have h0 : (i 0).val < 2 := (i 0).isLt
  have h1 : (i 1).val < 16 := (i 1).isLt
  unfold k0_off75 wN
  generalize (i 0).val = a at *
  generalize (i 1).val = b at *
  interval_cases a <;> interval_cases b <;> rfl

/-- The words of a tile's stretch of channel `k`. -/
def oSet (i : grid0.Coords) (k : ℕ) : Finset S4x3x8x6272.Idx :=
  Finset.univ.filter fun x => (x 0).val = wN i / 8 ∧ (x 1).val = k ∧ (x 2).val = wN i % 8

/-- A stretch of the result, as a tile names it. -/
abbrev outV (off : Fin 4 → ℕ) (inb : ∀ a, off a + S1x1x1x6272.size a ≤ S4x3x8x6272.size a) : Memref sig .scVector .hbm S6272 .f32 :=
  ((Memref.whole main_v16_scv).slice (Rect.unit (s := S4x3x8x6272) off S1x1x1x6272.size inb) (fun _ => rfl)).squeeze S6272 squeezes_S1x1x1x6272_S6272

theorem outV_set (off : Fin 4 → ℕ) (inb) (i : grid0.Coords) (k : ℕ) (h : off = ![wN i / 8, k, wN i % 8, 0]) :
    (outV off inb).view.set = oSet i k := by
  show (((View.whole (main_v16_scv : Ref sig .scVector)).slice (Rect.unit (s := S4x3x8x6272) off S1x1x1x6272.size inb)).reshape S6272 squeezes_S1x1x1x6272_S6272.numel_eq).set = _
  rw [View.set_reshape, View.set_slice]
  refine Finset.map_refl.trans ?_
  ext x
  unfold oSet
  rw [Rect.mem_set_unit, Finset.mem_filter]
  subst h
  have h3 : (x 3).val < 6272 := (x 3).isLt
  refine ⟨fun hh => ⟨Finset.mem_univ _, ?_⟩, fun hh a => ?_⟩
  · have h0 := hh 0; have h1 := hh 1; have h2 := hh 2
    simp [S1x1x1x6272] at h0 h1 h2
    omega
  · obtain ⟨-, e0, e1, e2⟩ := hh
    match a with
    | 0 => simp [S1x1x1x6272]; omega
    | 1 => simp [S1x1x1x6272]; omega
    | 2 => simp [S1x1x1x6272]; omega
    | 3 => simp [S1x1x1x6272]; exact h3

theorem outV_emb (off : Fin 4 → ℕ) (inb) (h : off 3 = 0) (y : S6272.Idx) :
    (((outV off inb).view.emb y : S4x3x8x6272.Idx) 3).val = (y 0).val := by
  obtain ⟨z, hz⟩ : ∃ z, Shape.reshapeEquiv squeezes_S1x1x1x6272_S6272.numel_eq y = z := ⟨_, rfl⟩
  have hr : (S6272.rowMajor y).val = (S1x1x1x6272.rowMajor z).val := by
    rw [← hz, Shape.rowMajor_reshapeEquiv]
  show (((Rect.unit (s := S4x3x8x6272) off S1x1x1x6272.size inb).emb (Shape.reshapeEquiv squeezes_S1x1x1x6272_S6272.numel_eq y)) 3).val = _
  rw [hz]
  show off 3 + 1 * (z 3).val = _
  rw [h]
  have e4 : (S1x1x1x6272.rowMajor z).val = (((z 0).val * 1 + (z 1).val) * 1 + (z 2).val) * 6272 + (z 3).val := Shape.rowMajor_val_four z
  have e1 : (S6272.rowMajor y).val = (y 0).val := Shape.rowMajor_val_one y
  have z0 : (z 0).val < 1 := (z 0).isLt
  have z1 : (z 1).val < 1 := (z 1).isLt
  have z2 : (z 2).val < 1 := (z 2).isLt
  omega

/-- The host's processor of a device. -/
abbrev tcT (d : Dev nD) : Thread nD τ := SparseCore.T d

/-- The whole result's buffer. -/
abbrev L16 (d : Dev nD) : Loc nD τ sig := (tcT d).loc main_v16

/-- A stretch filled with `g`, as words of a whole result `R` that has them. -/
theorem own_outV (d : Dev nD) (i : grid0.Coords) (off : Fin 4 → ℕ) (inb) (k : ℕ) (h : off = ![wN i / 8, k, wN i % 8, 0]) (g : ℕ → F .f32)
    (R : Buf (Elt F) (L16 d)) (hR : ∀ x : S4x3x8x6272.Idx, x ∈ oSet i k → (R : S4x3x8x6272.Idx → F .f32) x = g (x 3).val) :
    own (e := .f32) (cT d i) (outV off inb) (arr g) ⊢ (L16 d ↦[oSet i k]{fullShare} R : sProp 𝕄) := by
  unfold own
  iintro ⟨%f, %hf, H⟩
  ihave H := (Entails.of_eq (show ((outV off inb).view.loc (cT d i) ↦[(outV off inb).view.set]{fullShare} f : sProp 𝕄) = (L16 d ↦[oSet i k]{fullShare} R) from by
    rw [outV_set off inb i k h]
    refine pointsTo_congr (ℓ := L16 d) (I := oSet i k) fun x hx => ?_
    have hx' := hx
    rw [← outV_set off inb i k h] at hx'
    obtain ⟨y, -, rfl⟩ := Finset.mem_map.mp hx'
    have e := congrFun hf y
    rw [View.read_apply] at e
    refine Eq.trans e ((hR _ hx).trans ?_).symm
    rw [outV_emb off inb (by rw [h]; rfl)]
    rfl)) $$ H
  iexact H

theorem outV_own (d : Dev nD) (i : grid0.Coords) (off : Fin 4 → ℕ) (inb) (k : ℕ) (h : off = ![wN i / 8, k, wN i % 8, 0])
    (R : Buf (Elt F) (L16 d)) :
    (L16 d ↦[oSet i k]{fullShare} R : sProp 𝕄) ⊢ iprop(∃ a, own (e := .f32) (cT d i) (outV off inb) a) := by
  unfold own
  iintro H
  iexists _
  iexists R
  isplitr; · ipureintro; rfl
  ihave H := (Entails.of_eq (show (L16 d ↦[oSet i k]{fullShare} R : sProp 𝕄) = ((outV off inb).view.loc (cT d i) ↦[(outV off inb).view.set]{fullShare} R) from by
    rw [outV_set off inb i k h])) $$ H
  iexact H

theorem wN_cd (c : Fin 2) (s : Fin 16) : wN (cd c s) = 2 * s.val + c.val := rfl

/-- The whole result is its stretches. -/
theorem pts_out (d : Dev nD) (R : Buf (Elt F) (L16 d)) :
    (L16 d ↦{fullShare} R : sProp 𝕄) = both fun c s =>
      iprop((L16 d ↦[oSet (cd c s) 0]{fullShare} R) ∗ (L16 d ↦[oSet (cd c s) 1]{fullShare} R) ∗ (L16 d ↦[oSet (cd c s) 2]{fullShare} R)) := by
  have hd : ∀ t ∈ (Finset.univ : Finset ((Fin 2 × Fin 16) × Fin 3)), ∀ t' ∈ (Finset.univ : Finset ((Fin 2 × Fin 16) × Fin 3)), t ≠ t' →
      Disjoint (oSet (cd t.1.1 t.1.2) t.2.val) (oSet (cd t'.1.1 t'.1.2) t'.2.val) := by
    rintro ⟨⟨c, s⟩, k⟩ - ⟨⟨c', s'⟩, k'⟩ - hne
    rw [Finset.disjoint_left]
    intro x hx hx'
    apply hne
    unfold oSet at hx hx'
    rw [Finset.mem_filter, wN_cd] at hx hx'
    obtain ⟨-, a0, a1, a2⟩ := hx
    obtain ⟨-, b0, b1, b2⟩ := hx'
    simp only at a0 a1 a2 b0 b1 b2
    have hc := c.isLt; have hc' := c'.isLt
    have e1 : c = c' := Fin.ext (by omega)
    have e2 : s = s' := Fin.ext (by omega)
    have e3 : k = k' := Fin.ext (by omega)
    rw [e1, e2, e3]
  have hu : (Finset.univ : Finset ((Fin 2 × Fin 16) × Fin 3)).biUnion (fun t => oSet (cd t.1.1 t.1.2) t.2.val) = Finset.univ := by
    ext x
    refine ⟨fun _ => Finset.mem_univ _, fun _ => ?_⟩
    have h0 : (x 0).val < 4 := (x 0).isLt
    have h1 : (x 1).val < 3 := (x 1).isLt
    have h2 : (x 2).val < 8 := (x 2).isLt
    rw [Finset.mem_biUnion]
    refine ⟨((⟨(8 * (x 0).val + (x 2).val) % 2, by omega⟩, ⟨(8 * (x 0).val + (x 2).val) / 2, by omega⟩), ⟨(x 1).val, h1⟩), Finset.mem_univ _, ?_⟩
    unfold oSet
    rw [Finset.mem_filter, wN_cd]
    refine ⟨Finset.mem_univ _, ?_, rfl, ?_⟩ <;> simp only <;> omega
  rw [both_prod]
  have e := pointsTo_biUnion (ℓ := L16 d) (q := fullShare) (f := R) (Ix := HIx 1) (Name := ℕ) (U := UU) (Lvl := ℕ) Finset.univ (fun t : (Fin 2 × Fin 16) × Fin 3 => oSet (cd t.1.1 t.1.2) t.2.val) hd
  rw [hu] at e
  refine e.trans ?_
  rw [bigSep_univ_prod]
  exact bigSep_congr fun p _ => three_eq _

/-- What the call leaves in the result. -/
def resOf (I : Ins F) : S4x3x8x6272.Idx → F .f32 := fun x =>
  I.fin (cd ⟨(8 * (x 0).val + (x 2).val) % 2, Nat.mod_lt _ (by decide)⟩
    ⟨(8 * (x 0).val + (x 2).val) / 2, by
      have h0 : (x 0).val < 4 := (x 0).isLt
      have h2 : (x 2).val < 8 := (x 2).isLt
      show _ < 16
      omega⟩) ((x 1).val * 6272 + (x 3).val)

theorem resOf_set (I : Ins F) (c : Fin 2) (s : Fin 16) (k : ℕ) (x : S4x3x8x6272.Idx) (hx : x ∈ oSet (cd c s) k) :
    resOf I x = I.fin (cd c s) (k * 6272 + (x 3).val) := by
  unfold oSet at hx
  rw [Finset.mem_filter, wN_cd] at hx
  obtain ⟨-, a0, a1, a2⟩ := hx
  have hc := c.isLt
  have e : 8 * (x 0).val + (x 2).val = 2 * s.val + c.val := by omega
  unfold resOf
  rw [a1]
  congr 2
  · exact Fin.ext (show (8 * (x 0).val + (x 2).val) % 2 = c.val by omega)
  · exact Fin.ext (show (8 * (x 0).val + (x 2).val) / 2 = s.val by omega)

/-- What the call reads, whole. -/
def allPts (d : Dev nD) (I : Ins F) : sProp 𝕄 :=
  iprop(((tcT d).loc main_v7 ↦{fullShare} (show Buf (Elt F) ((tcT d).loc main_v7) from (arr I.D3 : S1572864.Idx → F .f32))) ∗ ((tcT d).loc main_v8 ↦{fullShare} (show Buf (Elt F) ((tcT d).loc main_v8) from (arr I.X0 : S28672.Idx → BitVec 32))) ∗ ((tcT d).loc main_v9 ↦{fullShare} (show Buf (Elt F) ((tcT d).loc main_v9) from (arr I.X1 : S28672.Idx → BitVec 32))) ∗ ((tcT d).loc main_v10 ↦{fullShare} (show Buf (Elt F) ((tcT d).loc main_v10) from (arr I.A0 : S28672.Idx → F .f32))) ∗ ((tcT d).loc main_v11 ↦{fullShare} (show Buf (Elt F) ((tcT d).loc main_v11) from (arr I.A1 : S28672.Idx → F .f32))) ∗ ((tcT d).loc main_v12 ↦{fullShare} (show Buf (Elt F) ((tcT d).loc main_v12) from (arr I.Y0 : S28672.Idx → BitVec 32))) ∗ ((tcT d).loc main_v13 ↦{fullShare} (show Buf (Elt F) ((tcT d).loc main_v13) from (arr I.Y1 : S28672.Idx → BitVec 32))) ∗ ((tcT d).loc main_v14 ↦{fullShare} (show Buf (Elt F) ((tcT d).loc main_v14) from (arr I.B0 : S28672.Idx → F .f32))) ∗ ((tcT d).loc main_v15 ↦{fullShare} (show Buf (Elt F) ((tcT d).loc main_v15) from (arr I.B1 : S28672.Idx → F .f32))) ∗ ((tcT d).loc main_v2 ↦{fullShare} (show Buf (Elt F) ((tcT d).loc main_v2) from (arr I.Mt : S2048.Idx → BitVec 32))) ∗ ((tcT d).loc main_v5 ↦{fullShare} (show Buf (Elt F) ((tcT d).loc main_v5) from (arr I.Wt : S2048.Idx → F .f32))) ∗ ((tcT d).loc main_v6 ↦{fullShare} (show Buf (Elt F) ((tcT d).loc main_v6) from (arr I.Z : S18816.Idx → F .f32))))

theorem go_of (d : Dev nD) (I : Ins F) (R : Buf (Elt F) (L16 d)) :
    iprop(allPts d I ∗ (L16 d ↦{fullShare} R)) ⊢ both fun c s => goRes d (cd c s) I (qd c s) := by
  unfold goRes allPts
  simp only [both_sep]
  iintro ⟨⟨G0, G1, G2, G3, G4, G5, G6, G7, G8, G9, G10, G11⟩, HR⟩
  isplitl [G0]; · iapply (Entails.of_eq (pts_both (ℓ := (tcT d).loc main_v7) fun c s => ownq_whole (cT d (cd c s)) main_v7_scv _ _)) $$ G0
  isplitl [G1]; · iapply (Entails.of_eq (pts_both (ℓ := (tcT d).loc main_v8) fun c s => ownq_whole (cT d (cd c s)) main_v8_scv _ _)) $$ G1
  isplitl [G2]; · iapply (Entails.of_eq (pts_both (ℓ := (tcT d).loc main_v9) fun c s => ownq_whole (cT d (cd c s)) main_v9_scv _ _)) $$ G2
  isplitl [G3]; · iapply (Entails.of_eq (pts_both (ℓ := (tcT d).loc main_v10) fun c s => ownq_whole (cT d (cd c s)) main_v10_scv _ _)) $$ G3
  isplitl [G4]; · iapply (Entails.of_eq (pts_both (ℓ := (tcT d).loc main_v11) fun c s => ownq_whole (cT d (cd c s)) main_v11_scv _ _)) $$ G4
  isplitl [G5]; · iapply (Entails.of_eq (pts_both (ℓ := (tcT d).loc main_v12) fun c s => ownq_whole (cT d (cd c s)) main_v12_scv _ _)) $$ G5
  isplitl [G6]; · iapply (Entails.of_eq (pts_both (ℓ := (tcT d).loc main_v13) fun c s => ownq_whole (cT d (cd c s)) main_v13_scv _ _)) $$ G6
  isplitl [G7]; · iapply (Entails.of_eq (pts_both (ℓ := (tcT d).loc main_v14) fun c s => ownq_whole (cT d (cd c s)) main_v14_scv _ _)) $$ G7
  isplitl [G8]; · iapply (Entails.of_eq (pts_both (ℓ := (tcT d).loc main_v15) fun c s => ownq_whole (cT d (cd c s)) main_v15_scv _ _)) $$ G8
  isplitl [G9]; · iapply (Entails.of_eq (pts_both (ℓ := (tcT d).loc main_v2) fun c s => ownq_whole (cT d (cd c s)) main_v2_scv _ _)) $$ G9
  isplitl [G10]; · iapply (Entails.of_eq (pts_both (ℓ := (tcT d).loc main_v5) fun c s => ownq_whole (cT d (cd c s)) main_v5_scv _ _)) $$ G10
  isplitl [G11]; · iapply (Entails.of_eq (pts_both (ℓ := (tcT d).loc main_v6) fun c s => ownq_whole (cT d (cd c s)) main_v6_scv _ _)) $$ G11
  ihave HR := (Entails.of_eq (pts_out d R)) $$ HR
  ihave HR := (Entails.of_eq (both_sep _ _)) $$ HR
  icases HR with ⟨H0, HR⟩
  ihave HR := (Entails.of_eq (both_sep _ _)) $$ HR
  icases HR with ⟨H1, H2⟩
  isplitl [H0]
  · iapply (both_mono fun c s => outV_own d (cd c s) _ (k0_off73_inb _) 0 (off73_eq _) R) $$ H0
  isplitl [H1]
  · iapply (both_mono fun c s => outV_own d (cd c s) _ (k0_off74_inb _) 1 (off74_eq _) R) $$ H1
  iapply (both_mono fun c s => outV_own d (cd c s) _ (k0_off75_inb _) 2 (off75_eq _) R) $$ H2

theorem of_td (d : Dev nD) (I : Ins F) :
    (both fun c s => tdRes d (cd c s) I (qd c s)) ⊢ iprop(allPts d I ∗ (L16 d ↦{fullShare} (show Buf (Elt F) (L16 d) from resOf I))) := by
  unfold tdRes allPts
  simp only [both_sep]
  iintro ⟨G0, G1, G2, G3, G4, G5, G6, G7, G8, G9, G10, G11, H0, H1, H2⟩
  isplitr [H0 H1 H2]
  · isplitl [G0]; · iapply (Entails.of_eq (pts_both (ℓ := (tcT d).loc main_v7) fun c s => ownq_whole (cT d (cd c s)) main_v7_scv _ _).symm) $$ G0
    isplitl [G1]; · iapply (Entails.of_eq (pts_both (ℓ := (tcT d).loc main_v8) fun c s => ownq_whole (cT d (cd c s)) main_v8_scv _ _).symm) $$ G1
    isplitl [G2]; · iapply (Entails.of_eq (pts_both (ℓ := (tcT d).loc main_v9) fun c s => ownq_whole (cT d (cd c s)) main_v9_scv _ _).symm) $$ G2
    isplitl [G3]; · iapply (Entails.of_eq (pts_both (ℓ := (tcT d).loc main_v10) fun c s => ownq_whole (cT d (cd c s)) main_v10_scv _ _).symm) $$ G3
    isplitl [G4]; · iapply (Entails.of_eq (pts_both (ℓ := (tcT d).loc main_v11) fun c s => ownq_whole (cT d (cd c s)) main_v11_scv _ _).symm) $$ G4
    isplitl [G5]; · iapply (Entails.of_eq (pts_both (ℓ := (tcT d).loc main_v12) fun c s => ownq_whole (cT d (cd c s)) main_v12_scv _ _).symm) $$ G5
    isplitl [G6]; · iapply (Entails.of_eq (pts_both (ℓ := (tcT d).loc main_v13) fun c s => ownq_whole (cT d (cd c s)) main_v13_scv _ _).symm) $$ G6
    isplitl [G7]; · iapply (Entails.of_eq (pts_both (ℓ := (tcT d).loc main_v14) fun c s => ownq_whole (cT d (cd c s)) main_v14_scv _ _).symm) $$ G7
    isplitl [G8]; · iapply (Entails.of_eq (pts_both (ℓ := (tcT d).loc main_v15) fun c s => ownq_whole (cT d (cd c s)) main_v15_scv _ _).symm) $$ G8
    isplitl [G9]; · iapply (Entails.of_eq (pts_both (ℓ := (tcT d).loc main_v2) fun c s => ownq_whole (cT d (cd c s)) main_v2_scv _ _).symm) $$ G9
    isplitl [G10]; · iapply (Entails.of_eq (pts_both (ℓ := (tcT d).loc main_v5) fun c s => ownq_whole (cT d (cd c s)) main_v5_scv _ _).symm) $$ G10
    iapply (Entails.of_eq (pts_both (ℓ := (tcT d).loc main_v6) fun c s => ownq_whole (cT d (cd c s)) main_v6_scv _ _).symm) $$ G11
  ihave H0 := (both_mono fun c s => own_outV d (cd c s) _ (k0_off73_inb _) 0 (off73_eq _) _ (show Buf (Elt F) (L16 d) from resOf I)
    (fun x hx => (resOf_set I c s 0 x hx).trans (by rw [Nat.zero_mul]))) $$ H0
  ihave H1 := (both_mono fun c s => own_outV d (cd c s) _ (k0_off74_inb _) 1 (off74_eq _) _ (show Buf (Elt F) (L16 d) from resOf I)
    (fun x hx => (resOf_set I c s 1 x hx).trans (by rw [Nat.one_mul]))) $$ H1
  ihave H2 := (both_mono fun c s => own_outV d (cd c s) _ (k0_off75_inb _) 2 (off75_eq _) _ (show Buf (Elt F) (L16 d) from resOf I)
    (fun x hx => resOf_set I c s 2 x hx)) $$ H2
  iapply (Entails.of_eq (pts_out d _).symm)
  iapply (Entails.of_eq (both_sep _ _).symm)
  isplitl [H0]; · iexact H0
  iapply (Entails.of_eq (both_sep _ _).symm)
  isplitl [H1]; · iexact H1
  iexact H2

end Cert.Proof.Tile

end
-- ==== Proof.Task.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Whole
public import Idealize.ShloMosaic.Lib.Pipeline.Kit
public import Idealize.ShloMosaic.Lib.Pipeline.Frame

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! A tile's obligation, from its run. -/

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## A tile's own buffers and semaphores, among all it owns -/

/-- The scratch buffers. -/
def R13 : Finset (Ref sig .scVector) := {cc0_scratch0, cc0_scratch1, cc0_scratch2, cc0_scratch3, cc0_scratch4, cc0_scratch5, cc0_scratch6, cc0_scratch7, cc0_scratch8, cc0_scratch9, cc0_scratch10, cc0_scratch11, cc0_scratch12}

/-- The copies' semaphores. -/
def S17 : Finset (DmaSem sig) := {cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem, cc0_scoped14.sem, cc0_scratch13.sem, cc0_scratch14.sem}

variable (d : Dev nD) (i : grid0.Coords)

/-- A scratch buffer as the device names it. -/
def refE : Ref sig .scVector ↪ DevRef τ sig := ⟨(cT d i).2.devRef, Proc.devRef_injective _⟩

/-- A semaphore's cell. -/
def semE : DmaSem sig ↪ GSem nD τ sig := ⟨fun k => (cT d i, .dma k), fun _ _ h => SemLoc.dma.inj (Prod.mk.inj h).2⟩

theorem bufs_eq : (bigSep (R13.map (refE d i)) fun b => iprop(∃ f, ((d, b) : Loc nD τ sig) ↦{fullShare} f) : sProp 𝕄) =
    iprop((∃ a, own (e := .i32) (cT d i) (Memref.whole cc0_scratch0) a) ∗ (∃ a, own (e := .i32) (cT d i) (Memref.whole cc0_scratch1) a) ∗ (∃ a, own (e := .f32) (cT d i) (Memref.whole cc0_scratch2) a) ∗ (∃ a, own (e := .f32) (cT d i) (Memref.whole cc0_scratch3) a) ∗ (∃ a, own (e := .i32) (cT d i) (Memref.whole cc0_scratch4) a) ∗ (∃ a, own (e := .i32) (cT d i) (Memref.whole cc0_scratch5) a) ∗ (∃ a, own (e := .f32) (cT d i) (Memref.whole cc0_scratch6) a) ∗ (∃ a, own (e := .f32) (cT d i) (Memref.whole cc0_scratch7) a) ∗ (∃ a, own (e := .i32) (cT d i) (Memref.whole cc0_scratch8) a) ∗ (∃ a, own (e := .f32) (cT d i) (Memref.whole cc0_scratch9) a) ∗ (∃ a, own (e := .f32) (cT d i) (Memref.whole cc0_scratch10) a) ∗ (∃ a, own (e := .f32) (cT d i) (Memref.whole cc0_scratch11) a) ∗ (∃ a, own (e := .f32) (cT d i) (Memref.whole cc0_scratch12) a)) := by
  rw [bigSep_map, R13, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  have e : ∀ (r : Ref sig .scVector), (iprop(∃ f, ((d, refE d i r) : Loc nD τ sig) ↦{fullShare} f) : sProp 𝕄) = iprop(∃ a, own (cT d i) (Memref.whole r) a) := fun r => by
    congr 1; funext a
    exact (ownq_whole (cT d i) r fullShare a).symm
  simp only [e]
  rfl

theorem sems_eq : (bigSep (S17.map (semE d i)) fun g => semVal g 0 : sProp 𝕄) =
    iprop(semVal (cT d i, .dma cc0_scoped0.sem) 0 ∗ semVal (cT d i, .dma cc0_scoped1.sem) 0 ∗ semVal (cT d i, .dma cc0_scoped2.sem) 0 ∗ semVal (cT d i, .dma cc0_scoped3.sem) 0 ∗ semVal (cT d i, .dma cc0_scoped4.sem) 0 ∗ semVal (cT d i, .dma cc0_scoped5.sem) 0 ∗ semVal (cT d i, .dma cc0_scoped6.sem) 0 ∗ semVal (cT d i, .dma cc0_scoped7.sem) 0 ∗ semVal (cT d i, .dma cc0_scoped8.sem) 0 ∗ semVal (cT d i, .dma cc0_scoped9.sem) 0 ∗ semVal (cT d i, .dma cc0_scoped10.sem) 0 ∗ semVal (cT d i, .dma cc0_scoped11.sem) 0 ∗ semVal (cT d i, .dma cc0_scoped12.sem) 0 ∗ semVal (cT d i, .dma cc0_scoped13.sem) 0 ∗ semVal (cT d i, .dma cc0_scoped14.sem) 0 ∗ semVal (cT d i, .dma cc0_scratch13.sem) 0 ∗ semVal (cT d i, .dma cc0_scratch14.sem) 0) := by
  rw [bigSep_map, S17, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem R13_sub : R13.map (refE d i) ⊆ ownRefs (cT d i).2 := by
  intro b hb
  obtain ⟨r, hr, rfl⟩ := Finset.mem_map.mp hb
  refine SparseCore.Cfg.mem_ownRefs_of_owner (p := (cT d i).2) ?_
  unfold R13 at hr
  simp only [Finset.mem_insert, Finset.mem_singleton] at hr
  rcases hr with rfl | rfl | rfl | rfl | rfl | rfl | rfl | rfl | rfl | rfl | rfl | rfl | rfl <;> rfl

theorem S17_sub : S17.map (semE d i) ⊆ ownCells (cT d i) := by
  intro g hg
  obtain ⟨k, -, rfl⟩ := Finset.mem_map.mp hg
  refine mem_ownCells.mpr ⟨rfl, ?_⟩
  have h : ∀ k : DmaSem sig, (SemLoc.dma k : SemLoc sig).isScoped .scVector = true := by decide
  exact h k

theorem tmp_of : iprop(ownBufs (cT d i) ∗ ownSems0 (cT d i)) ⊢ iprop(tmpRes (F := F) d i ∗ (tmpRes d i -∗ ownBufs (cT d i) ∗ ownSems0 (cT d i))) := by
  unfold SparseCore.Cfg.ownBufs SparseCore.Cfg.ownSems0
  rw [SparseCore.bigSep_sdiff_split' (R13_sub d i), SparseCore.bigSep_sdiff_split' (S17_sub d i)]
  iintro ⟨⟨Hb, Hb'⟩, ⟨Hs, Hs'⟩⟩
  isplitl [Hb Hs]
  · unfold tmpRes
    isplitl [Hb]
    · iapply (Entails.of_eq (bufs_eq d i)) $$ Hb
    iapply (Entails.of_eq (sems_eq d i)) $$ Hs
  unfold tmpRes
  iintro ⟨Hb, Hs⟩
  isplitl [Hb Hb']
  · isplitl [Hb]
    · iapply (Entails.of_eq (bufs_eq d i).symm) $$ Hb
    iexact Hb'
  isplitl [Hs]
  · iapply (Entails.of_eq (sems_eq d i).symm) $$ Hs
  iexact Hs'

/-! ## What the handshakes carry -/

/-- The two cores' sixteen tiles each get what they read and their stretches, and bring them back filled. -/
def P (I : Dev nD → Ins F) : (K (F := F)).Pay (nD := nD) (Val := Elt F) (Name := ℕ) (U := UU) where
  st := fun q d c => match q with | 0 => bigSep Finset.univ fun s : Fin 16 => goRes d (cd c s) (I d) (qd c s)
  dn := fun q d c => match q with | 0 => bigSep Finset.univ fun s : Fin 16 => tdRes d (cd c s) (I d) (qd c s)
  go := fun q d c s => match q with | 0 => goRes d (cd c s) (I d) (qd c s)
  td := fun q d c s => match q with | 0 => tdRes d (cd c s) (I d) (qd c s)
  x := fun _ _ => iprop(emp)

instance ownq_storable (c : Thread nD τ) {sp : Space} {s : Shape} {e : EltTy} (m : Memref sig c.2.kind sp s e) (q : PosShare TreeShare) (a : s.Idx → Elt F e) :
    BI.Storable (upEmb : UEmb _ 𝕄) (ownq c m q a) := by
  unfold ownq; infer_instance
instance own_storable (c : Thread nD τ) {sp : Space} {s : Shape} {e : EltTy} (m : Memref sig c.2.kind sp s e) (a : s.Idx → Elt F e) :
    BI.Storable (upEmb : UEmb _ 𝕄) (own c m a) := by
  unfold own; infer_instance
instance go_storable (c : Fin 2) (s : Fin 16) (J : Ins F) : BI.Storable (upEmb : UEmb _ 𝕄) (goRes d (cd c s) J (qd c s)) := by
  unfold goRes; infer_instance
instance td_storable (c : Fin 2) (s : Fin 16) (J : Ins F) : BI.Storable (upEmb : UEmb _ 𝕄) (tdRes d (cd c s) J (qd c s)) := by
  unfold tdRes; infer_instance

instance P_storable (I : Dev nD → Ins F) : (P I).IsStorable where
  st q d c := match q with
    | 0 => (inferInstance : BI.Storable (upEmb : UEmb _ 𝕄) (bigSep Finset.univ fun s : Fin 16 => goRes d (cd c s) (I d) (qd c s)))
  dn q d c := match q with
    | 0 => (inferInstance : BI.Storable (upEmb : UEmb _ 𝕄) (bigSep Finset.univ fun s : Fin 16 => tdRes d (cd c s) (I d) (qd c s)))
  go q d c s := match q with | 0 => go_storable d c s (I d)
  td q d c s := match q with | 0 => td_storable d c s (I d)

/-- What the call needs of what it reads. -/
def InsOK (J : Ins F) : Prop := ∀ i : grid0.Coords, (J.tabs i).Ok ∧ ∀ n, n < 32 → (J.mt i (16 * n + 2)).toNat ≤ 14 ∧ (J.mt i (16 * n + 3)).toNat ≤ 14

/-! ## The obligation -/

theorem tile_body (J : Ins F) (q : PosShare TreeShare) (hF : (K (F := F)).Facts) (hJ : InsOK J)
    (O : CellTallies nD τ sig (HIx 1)) (W : Waits sig (HIx 1)) (hO : ∀ g, O g none = 0) :
    iprop(levAts (K (F := F)).L (K (F := F)).lev ∗ emp ∗ goRes d i J q ∗ scopedBufs (cT d i) ∗ scopedSems0 (cT d i) ∗ owes (cT d i) O W)
      ⊢ wp frame (wpE (defs₀ (F := F)) 𝒱₀ (cT d i) none) Set.univ (cc0__sc_merge_body i (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14)
          fun _ => iprop(tdRes d i J q ∗ scopedBufs (cT d i) ∗ scopedSems0 (cT d i)
            ∗ ∃ W', ⌜∀ p ∈ W', p ∈ W ∨ p.2 = none⌝ ∗ owes (cT d i) O W') := by
  unfold cT
  rw [(K (F := F)).scopedBufs_V hF d _ _, SparseCore.Cfg.scopedSems0_V (Val := Elt F) d _ _]
  iintro ⟨#Hlv, -, Hgo, Hb, Hs, HO⟩
  ihave Hmw := (show levAts (K (F := F)).L (K (F := F)).lev ⊢ Transfers.MayWaits (cT d i) (default : HIx 1) O from
    (K (F := F)).mayWaits_none (thr := cT d i) hO) $$ Hlv
  ihave Ht := (tmp_of d i) $$ [Hb Hs]; · isplitl [Hb] <;> iassumption
  icases Ht with ⟨Ht, Hback⟩
  iapply (wp_tile 𝒱₀ d i J q (hJ i).1 (hJ i).2) $$ [Hgo Ht HO]
  · isplitl [Hgo]; · iexact Hgo
    isplitl [Ht]; · iexact Ht
    isplitl [HO]
    · unfold OW
      iexists W
      isplitr; · ipureintro; exact fun p hp => .inl hp
      iexact HO
    iexact Hmw
  iintro ⟨Htd, Ht, HO⟩
  ihave Hbs := Hback $$ Ht
  icases Hbs with ⟨Hb, Hs⟩
  isplitl [Htd]; · iexact Htd
  isplitl [Hb]; · iexact Hb
  isplitl [Hs]; · iexact Hs
  unfold OW
  iexact HO

theorem defs₀_vector (c : Fin τ.nSC) (s : Fin τ.nSub) :
    defs₀ (F := F) (.scVector c s) 0 ()
      = SparseCore.onTile hcore0 hsub0 (fun c s => cc0__sc_merge_body (cd c s) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v2_scv) (Memref.isWhole_whole _) (Memref.whole main_v5_scv) (Memref.isWhole_whole _) (Memref.whole main_v6_scv) (Memref.isWhole_whole _) (Memref.whole main_v16_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl (I : Dev nD → Ins F) (hF : (K (F := F)).Facts) (hI : ∀ d, InsOK (I d)) : (K (F := F)).TileObl (D (F := F)) 𝒱 (P I) v₀ 0 := by
  intro d c s O W hO _ _
  simp only [show (P I).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := (tile_body d (cd ⟨_, hci.1⟩ ⟨_, hci.2⟩) (I d) (qd c s) hF (hI d) O W hO).trans (wp_mono frame _ _ fun _ => obl_post (q := 0))
  exact hb

theorem vecSplit (I : Dev nD → Ins F) : (K (F := F)).VecSplit' (P I) 0 := by
  intro d c
  show (bigSep Finset.univ fun s : Fin 16 => goRes d (cd c s) (I d) (qd c s)) ⊢ |={Set.univ}=> iprop(
      (bigSep Finset.univ fun s : Fin 16 => goRes d (cd c s) (I d) (qd c s))
      ∗ ((bigSep Finset.univ fun s : Fin 16 => tdRes d (cd c s) (I d) (qd c s)) -∗ bigSep Finset.univ fun s : Fin 16 => tdRes d (cd c s) (I d) (qd c s)))
  iintro H; imodintro
  isplitl [H]; · iexact H
  iintro H; iexact H

end Cert.Proof.Tile

end
-- ==== Proof.Host.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Task
public import Idealize.ShloMosaic.Lib.Pipeline.Kit
public import Idealize.ShloMosaic.Lib.Pipeline.Frame

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! The host's program around the call, and the whole run. -/

open Idealize.ShloMosaic.StableHlo (held seq seqK after)
open Idealize.ShloMosaic.Pipeline (ucRefs)

/-- What the host does before the call. -/
def ops : List (HloOp τ sig (Elt F)) := [
  StableHlo.nullary main_c (constantI S_ 32 0#32),
  StableHlo.unary main_c main_v0 (broadcastInDim S128x12 ![] bcast_S_S128x12 : (⟨S_, .i32⟩ : BufTy).Contents (Elt F) → (⟨S128x12, .i32⟩ : BufTy).Contents (Elt F)),
  StableHlo.nary ![main_arg10, main_arg11, main_arg12, main_arg13, main_v0] main_v1 (fun u => (concatenate S128x16 1 [⟨S128x1, (u 0 : (⟨S128x1, .i32⟩ : BufTy).Contents (Elt F))⟩, ⟨S128x1, (u 1 : (⟨S128x1, .i32⟩ : BufTy).Contents (Elt F))⟩, ⟨S128x1, (u 2 : (⟨S128x1, .i32⟩ : BufTy).Contents (Elt F))⟩, ⟨S128x1, (u 3 : (⟨S128x1, .i32⟩ : BufTy).Contents (Elt F))⟩, ⟨S128x12, (u 4 : (⟨S128x12, .i32⟩ : BufTy).Contents (Elt F))⟩] concatenates_S128x1_S128x1_S128x1_S128x1_S128x12_S128x16_d1 : (⟨S128x16, .i32⟩ : BufTy).Contents (Elt F))),
  StableHlo.reshape main_v1 main_v2 (rfl : (.i32 : EltTy) = .i32) shapeCasts_S128x16_S2048,
  StableHlo.reshape main_arg9 main_v3 (rfl : (.f32 : EltTy) = .f32) shapeCasts_S4x32_S128x1,
  StableHlo.unary main_v3 main_v4 (broadcastInDim S128x16 ![0, 1] bcast_S128x1_S128x16_0_1 : (⟨S128x1, .f32⟩ : BufTy).Contents (Elt F) → (⟨S128x16, .f32⟩ : BufTy).Contents (Elt F)),
  StableHlo.reshape main_v4 main_v5 (rfl : (.f32 : EltTy) = .f32) shapeCasts_S128x16_S2048,
  StableHlo.nullary main_cst (constant S_ .f32 0x00000000#32),
  StableHlo.unary main_cst main_v6 (broadcastInDim S18816 ![] bcast_S_S18816 : (⟨S_, .f32⟩ : BufTy).Contents (Elt F) → (⟨S18816, .f32⟩ : BufTy).Contents (Elt F)),
  StableHlo.reshape main_arg0 main_v7 (rfl : (.f32 : EltTy) = .f32) shapeCasts_S128x12288_S1572864,
  StableHlo.reshape main_arg1 main_v8 (rfl : (.i32 : EltTy) = .i32) shapeCasts_S128x224_S28672,
  StableHlo.reshape main_arg2 main_v9 (rfl : (.i32 : EltTy) = .i32) shapeCasts_S128x224_S28672,
  StableHlo.reshape main_arg3 main_v10 (rfl : (.f32 : EltTy) = .f32) shapeCasts_S128x224_S28672,
  StableHlo.reshape main_arg4 main_v11 (rfl : (.f32 : EltTy) = .f32) shapeCasts_S128x224_S28672,
  StableHlo.reshape main_arg5 main_v12 (rfl : (.i32 : EltTy) = .i32) shapeCasts_S128x224_S28672,
  StableHlo.reshape main_arg6 main_v13 (rfl : (.i32 : EltTy) = .i32) shapeCasts_S128x224_S28672,
  StableHlo.reshape main_arg7 main_v14 (rfl : (.f32 : EltTy) = .f32) shapeCasts_S128x224_S28672,
  StableHlo.reshape main_arg8 main_v15 (rfl : (.f32 : EltTy) = .f32) shapeCasts_S128x224_S28672]

/-- What it does after: the result in its own shape. -/
def opR : HloOp τ sig (Elt F) := StableHlo.reshape main_v16 main_v17 (rfl : (.f32 : EltTy) = .f32) shapeCasts_S4x3x8x6272_S4x3x224x224

theorem main_eq (d : Dev nD) : main (F := F) d = seqK ops ((K (F := F)).run d 0 >>= fun _ => (hlo rfl opR fun _ => .ret (⟨⟩ : PUnit)) >>= fun _ => pure ⟨⟩) := rfl

theorem ops_sub : (ops (F := F)).Forall fun op => op.bufs ⊆ StableHlo.tcRefs τ sig := by
  simp only [ops, List.Forall, StableHlo.nullary_bufs_sub, StableHlo.unary_bufs_sub, StableHlo.reshape_bufs_sub, StableHlo.nary_bufs_sub, and_self]

theorem ops_fresh : (ops (F := F)).Forall fun op => op.fresh = ∅ := by
  simp only [ops, List.Forall]
  exact ⟨rfl, rfl, rfl, rfl, rfl, rfl, rfl, rfl, rfl, rfl, rfl, rfl, rfl, rfl, rfl, rfl, rfl, rfl⟩

/-- A buffer of the host as the device names it. -/
abbrev dr (r : Ref sig .tc) : DevRef τ sig := Proc.devRef .tc r

/-- A one-axis array as a function of the position. -/
def fl {α : Type} {d : Fin 1 → ℕ} (h : ∀ a, 0 < d a) (f : (⟨1, d⟩ : Shape).Idx → α) : ℕ → α := fun n => f fun a => ⟨n % d a, Nat.mod_lt _ (h a)⟩

theorem arr_fl {α : Type} {d : Fin 1 → ℕ} (h : ∀ a, 0 < d a) (f : (⟨1, d⟩ : Shape).Idx → α) : (arr (fl h f) : (⟨1, d⟩ : Shape).Idx → α) = f := by
  funext y
  unfold arr fl
  congr 1
  funext a
  obtain rfl : a = 0 := Fin.fin_one_eq_zero a
  exact Fin.ext (Nat.mod_eq_of_lt (y 0).isLt)

/-- What the call reads, from the buffers' contents. -/
def insOf (V : Valuation τ sig (Elt F)) : Ins F where
  D3 := fl (d := S1572864.size) (by decide) (show S1572864.Idx → F .f32 from V (dr main_v7))
  X0 := fl (d := S28672.size) (by decide) (show S28672.Idx → BitVec 32 from V (dr main_v8))
  X1 := fl (d := S28672.size) (by decide) (show S28672.Idx → BitVec 32 from V (dr main_v9))
  A0 := fl (d := S28672.size) (by decide) (show S28672.Idx → F .f32 from V (dr main_v10))
  A1 := fl (d := S28672.size) (by decide) (show S28672.Idx → F .f32 from V (dr main_v11))
  Y0 := fl (d := S28672.size) (by decide) (show S28672.Idx → BitVec 32 from V (dr main_v12))
  Y1 := fl (d := S28672.size) (by decide) (show S28672.Idx → BitVec 32 from V (dr main_v13))
  B0 := fl (d := S28672.size) (by decide) (show S28672.Idx → F .f32 from V (dr main_v14))
  B1 := fl (d := S28672.size) (by decide) (show S28672.Idx → F .f32 from V (dr main_v15))
  Mt := fl (d := S2048.size) (by decide) (show S2048.Idx → BitVec 32 from V (dr main_v2))
  Wt := fl (d := S2048.size) (by decide) (show S2048.Idx → F .f32 from V (dr main_v5))
  Z := fl (d := S18816.size) (by decide) (show S18816.Idx → F .f32 from V (dr main_v6))

/-- The call's arrays. -/
def T13 : Finset (DevRef τ sig) := {dr main_v7, dr main_v8, dr main_v9, dr main_v10, dr main_v11, dr main_v12, dr main_v13, dr main_v14, dr main_v15, dr main_v2, dr main_v5, dr main_v6, dr main_v16}

theorem T13_sub : T13 ⊆ ucRefs τ sig := by decide

theorem held_T13 (d : Dev nD) (V : Valuation τ sig (Elt F)) :
    (held (tcT d) T13 V : sProp 𝕄) = iprop(allPts d (insOf V) ∗ (L16 d ↦{fullShare} V (dr main_v16))) := by
  unfold held T13 allPts insOf
  simp only [arr_fl]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  have e : ∀ A B C : sProp 𝕄, iprop((A ∗ B) ∗ C) = iprop(A ∗ B ∗ C) := fun A B C => by
    have h1 : iprop((A ∗ B) ∗ C) ⊢ iprop(A ∗ B ∗ C) := by
      iintro ⟨⟨HA, HB⟩, HC⟩
      isplitl [HA]; · iexact HA
      isplitl [HB] <;> iassumption
    have h2 : iprop(A ∗ B ∗ C) ⊢ iprop((A ∗ B) ∗ C) := by
      iintro ⟨HA, HB, HC⟩
      isplitr [HC]; · isplitl [HA] <;> iassumption
      iexact HC
    exact BI.equiv_iff.mp ⟨h1, h2⟩
  simp only [e]

/-- The buffers after the call. -/
def V2 (V : Valuation τ sig (Elt F)) : Valuation τ sig (Elt F) := Function.update V (dr main_v16) (show (dr main_v16).ty.Contents (Elt F) from resOf (insOf V))

theorem insOf_V2 (V : Valuation τ sig (Elt F)) : insOf (V2 V) = insOf V := by
  unfold insOf V2
  simp only [Function.update_of_ne (show dr main_v7 ≠ dr main_v16 by decide), Function.update_of_ne (show dr main_v8 ≠ dr main_v16 by decide), Function.update_of_ne (show dr main_v9 ≠ dr main_v16 by decide), Function.update_of_ne (show dr main_v10 ≠ dr main_v16 by decide), Function.update_of_ne (show dr main_v11 ≠ dr main_v16 by decide), Function.update_of_ne (show dr main_v12 ≠ dr main_v16 by decide), Function.update_of_ne (show dr main_v13 ≠ dr main_v16 by decide), Function.update_of_ne (show dr main_v14 ≠ dr main_v16 by decide), Function.update_of_ne (show dr main_v15 ≠ dr main_v16 by decide), Function.update_of_ne (show dr main_v2 ≠ dr main_v16 by decide), Function.update_of_ne (show dr main_v5 ≠ dr main_v16 by decide), Function.update_of_ne (show dr main_v6 ≠ dr main_v16 by decide)]

variable (m : (ℓ : Loc nD τ sig) → Buf (Elt F) ℓ) (ρ : Dev nD → PrngReg)

/-- The buffers at the launch, and when the call starts, and at the end. -/
def V0 (d : Dev nD) : Valuation τ sig (Elt F) := fun b => m (d, b)
def V1 (d : Dev nD) : Valuation τ sig (Elt F) := after ops (V0 m d)
def V3 (d : Dev nD) : Valuation τ sig (Elt F) := opR.result (V2 (V1 m d))
/-- What the call reads. -/
def insM (d : Dev nD) : Ins F := insOf (V1 m d)

theorem st_eq (I : Dev nD → Ins F) (d : Dev nD) : (bigSep Finset.univ fun c : Fin ((K (F := F)).nCore 0) => (P I).st 0 d c)
    = both fun c s => goRes d (cd c s) (I d) (qd c s) := rfl
theorem dn_eq (I : Dev nD → Ins F) (d : Dev nD) : (bigSep Finset.univ fun c : Fin ((K (F := F)).nCore 0) => (P I).dn 0 d c)
    = both fun c s => tdRes d (cd c s) (I d) (qd c s) := rfl

/-- What the host leaves the claim. -/
abbrev FIN (d : Dev nD) : sProp 𝕄 := held (tcT d) (ucRefs τ sig) (V3 m d)

theorem hmain (κ : GSem nD τ sig → ℕ) (d : Dev nD) :
    iprop((K (F := F)).ctx EH (P (insM m)) κ ∗ (K (F := F)).tcSt EH d 0 ∗ (K (F := F)).tcRes m ρ d ∗ emp)
      ⊢ wp frame (wpE ((K (F := F)).defs (D (F := F))) 𝒱 (tcT d) none) Set.univ (main d)
          fun _ => iprop((K (F := F)).tcSt EH d 1 ∗ FIN m d ∗ (K (F := F)).tcEnd d) := by
  unfold SparseCore.Cfg.tcRes SparseCore.Cfg.tcEnd
  rw [main_eq, ← StableHlo.seq_bind_seqK]
  iintro ⟨#Hctx, Hst, ⟨Hb, Hbufs, Hts, -⟩, -⟩
  ihave Hh := (Entails.of_eq (show (unscopedBufs d (fun b => m ((SparseCore.T d).loc b)) : sProp 𝕄) = held (tcT d) (ucRefs τ sig) (V0 m d) from Pipeline.unscopedBufs_held d (V0 m d))) $$ Hbufs
  iapply (StableHlo.wp_seq 𝒱 none Set.univ d (ucRefs τ sig) _ (ops (F := F))
    (fun op h => Pipeline.sub_ucRefs op (List.forall_iff_forall_mem.mp ops_sub op h)) (List.forall_iff_forall_mem.mp ops_fresh) (V0 m d)) $$ [Hb Hh]
  · isplitl [Hb]; · iexact Hb
    iexact Hh
  iintro ⟨Hb, Hh⟩
  ihave Hh := (Entails.of_eq (show (held d.tc (ucRefs τ sig) (after ops (V0 m d)) : sProp 𝕄)
      = iprop((allPts d (insM m d) ∗ (L16 d ↦{fullShare} V1 m d (dr main_v16))) ∗ held (tcT d) (ucRefs τ sig \ T13) (V1 m d)) from
    (StableHlo.held_sub_split (tcT d) T13_sub (V1 m d)).trans (by rw [held_T13]; rfl))) $$ Hh
  icases Hh with ⟨⟨Hp, H16⟩, Hr⟩
  rw [wp_bind]
  iapply ((K (F := F)).wp_run (D (F := F)) 𝒱 (EH := EH) (P := P (insM m)) κ d 0) $$ [Hst Hp H16 Hb Hr Hts]
  isplitr; · iexact Hctx
  isplitl [Hst]; · iexact Hst
  isplitl [Hp H16]
  · rw [st_eq]
    iapply (go_of d (insM m d) (V1 m d (dr main_v16)))
    isplitl [Hp]; · iexact Hp
    iexact H16
  iintro ⟨Hst, Hdn⟩
  ihave Hdn := (Entails.of_eq (dn_eq (insM m) d)) $$ Hdn
  ihave Hdn := (of_td d (insM m d)) $$ Hdn
  rw [wp_bind]
  iapply (StableHlo.wp_hlo_within 𝒱 (tcT d) none Set.univ (op := opR) (S := ucRefs τ sig)
    (Pipeline.sub_ucRefs opR (by simp only [opR, StableHlo.reshape_bufs_sub])) (V := V2 (V1 m d))) $$ [Hb Hdn Hr]
  · isplitl [Hb]; · iexact Hb
    iapply (Entails.of_eq ((StableHlo.held_sub_split (tcT d) T13_sub (V2 (V1 m d))).trans (by rw [held_T13, insOf_V2])).symm)
    isplitl [Hdn]
    · ihave Hdn := (Entails.of_eq (show iprop(allPts d (insM m d) ∗ (L16 d ↦{fullShare} (show Buf (Elt F) (L16 d) from resOf (insM m d)))) = iprop(allPts d (insOf (V1 m d)) ∗ (L16 d ↦{fullShare} V2 (V1 m d) (dr main_v16))) by
        unfold V2; rw [Function.update_self]; rfl)) $$ Hdn
      iexact Hdn
    ihave Hr := (Entails.of_eq (StableHlo.held_congr (tcT d) (S := ucRefs τ sig \ T13) (V := V1 m d) (V' := V2 (V1 m d)) fun b hb =>
      (Function.update_of_ne (fun e => (Finset.mem_sdiff.mp hb).2 (by rw [e]; decide)) _ _).symm)) $$ Hr
    iexact Hr
  iintro ⟨Hb, Hh⟩
  rw [wp_ret]; imodintro
  rw [wp_pure]; imodintro
  isplitl [Hst]; · iexact Hst
  isplitl [Hh]; · iexact Hh
  isplitl [Hb] <;> iassumption

/-! ## The launch element of the certificate's ghost state -/

def u₀ : UU := (initOf (K (F := F)).hsCells (K (F := F)).hsToks, 1)

theorem emp_all {X : Type} (s : Finset X) : (bigSep s fun _ => iprop(emp)) = (iprop(emp) : sProp 𝕄) := bigSep_emp_const s

theorem hu₀ (I : Dev nD → Ins F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I).x q thr) := by
  unfold u₀
  iintro Hu
  ihave H := (ownU_pair (initOf (K (F := F)).hsCells (K (F := F)).hsToks) (1 : UP × Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P I).x q thr) = bigSep Finset.univ fun _ => (iprop(emp) : sProp 𝕄) from
    bigSep_congr fun _ _ => bigSep_univ_of_subsingleton (0 : Fin 1), emp_all]
  iempintro

/-! ## The program's run -/

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V3 m d) (ucRefs τ sig))
  isplitl [HSI] <;> iassumption

def QC : PUnit × MemSt nD τ sig (Elt F) → Prop := fun r => (∀ d : Dev nD, ∀ b ∈ ucRefs τ sig, r.2.mem (d, b) = V3 m d b) ∧ r.2.sem = fun _ => 0

theorem run_main [∀ e, Nonempty (Elt F e)] (hI : ∀ d, InsOK (insM m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (insM m)) (A := ∅) facts v₀
    (fun q hq => match q with | 0 => nomatch hq)
    (fun q _ => match q with | 0 => tileObl (insM m) facts hI)
    (fun q _ => match q with | 0 => SparseCore.Cfg.VecSplit.of_plain (vecSplit (insM m)))
    m ρ main (fun _ => iprop(emp)) (FIN m) (u₀ (F := F)) (sep_elim_left.trans (hu₀ (insM m))) (hmain m ρ) (fq m) (hfin m) (QC m) (fun _ h hz => ⟨h, hz⟩)

end Cert.Proof.Tile

end
-- ==== Proof.Args.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Host
public import Idealize.ShloMosaic.Lib.Pointwise
public import proofs.«01_k».proof.Proof.Gen.Pre_indices_in_range

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! The call's arrays by their rows, from the arguments. -/

open Idealize.ShloMosaic.StableHlo (held seq seqK after)
open Idealize.ShloMosaic.Pipeline (ucRefs)

/-- An entry of a table of 224 columns, of a table of one column, of the patches, of the weights. -/
def tb {α : Type} (f : S128x224.Idx → α) (r k : ℕ) : α := f (ix2 (⟨r % 128, Nat.mod_lt _ (by decide)⟩ : Fin 128) (⟨k % 224, Nat.mod_lt _ (by decide)⟩ : Fin 224))
def cl {α : Type} (f : S128x1.Idx → α) (r : ℕ) : α := f (ix2 (⟨r % 128, Nat.mod_lt _ (by decide)⟩ : Fin 128) (0 : Fin 1))
def pt {α : Type} (f : S128x12288.Idx → α) (r k : ℕ) : α := f (ix2 (⟨r % 128, Nat.mod_lt _ (by decide)⟩ : Fin 128) (⟨k % 12288, Nat.mod_lt _ (by decide)⟩ : Fin 12288))
def wm {α : Type} (f : S4x32.Idx → α) (r : ℕ) : α := f (ix2 (⟨r / 32 % 4, Nat.mod_lt _ (by decide)⟩ : Fin 4) (⟨r % 32, Nat.mod_lt _ (by decide)⟩ : Fin 32))

theorem cast224 {e : EltTy} (f : S128x224.Idx → Elt F e) (n : ℕ) (h : n < 28672) :
    fl (d := S28672.size) (by decide) (shapeCast S28672 f shapeCasts_S128x224_S28672) n = tb f (n / 224) (n % 224) := by
  unfold fl tb
  rw [eq_ix1 (fun a : Fin 1 => (⟨n % S28672.size a, _⟩ : Fin (S28672.size a)))]
  pointwise
  congr 2 <;> exact Fin.ext (by simp only [Shape.size, Matrix.cons_val_zero, Matrix.cons_val]; omega)

theorem castD {e : EltTy} (f : S128x12288.Idx → Elt F e) (n : ℕ) (h : n < 1572864) :
    fl (d := S1572864.size) (by decide) (shapeCast S1572864 f shapeCasts_S128x12288_S1572864) n = pt f (n / 12288) (n % 12288) := by
  unfold fl pt
  rw [eq_ix1 (fun a : Fin 1 => (⟨n % S1572864.size a, _⟩ : Fin (S1572864.size a)))]
  pointwise
  congr 2 <;> exact Fin.ext (by simp only [Shape.size, Matrix.cons_val_zero, Matrix.cons_val]; omega)

variable (m : (ℓ : Loc nD τ sig) → Buf (Elt F) ℓ) (d : Dev nD)

theorem ins_X0 (n : ℕ) (h : n < 28672) : (insM m d).X0 n = tb (show S128x224.Idx → BitVec 32 from m (d, dr main_arg1)) (n / 224) (n % 224) :=
  (show (insM m d).X0 n = _ from rfl).trans (cast224 (F := F) (e := .i32) _ n h)
theorem ins_X1 (n : ℕ) (h : n < 28672) : (insM m d).X1 n = tb (show S128x224.Idx → BitVec 32 from m (d, dr main_arg2)) (n / 224) (n % 224) :=
  (show (insM m d).X1 n = _ from rfl).trans (cast224 (F := F) (e := .i32) _ n h)
theorem ins_A0 (n : ℕ) (h : n < 28672) : (insM m d).A0 n = tb (show S128x224.Idx → F .f32 from m (d, dr main_arg3)) (n / 224) (n % 224) :=
  (show (insM m d).A0 n = _ from rfl).trans (cast224 (F := F) (e := .f32) _ n h)
theorem ins_A1 (n : ℕ) (h : n < 28672) : (insM m d).A1 n = tb (show S128x224.Idx → F .f32 from m (d, dr main_arg4)) (n / 224) (n % 224) :=
  (show (insM m d).A1 n = _ from rfl).trans (cast224 (F := F) (e := .f32) _ n h)
theorem ins_Y0 (n : ℕ) (h : n < 28672) : (insM m d).Y0 n = tb (show S128x224.Idx → BitVec 32 from m (d, dr main_arg5)) (n / 224) (n % 224) :=
  (show (insM m d).Y0 n = _ from rfl).trans (cast224 (F := F) (e := .i32) _ n h)
theorem ins_Y1 (n : ℕ) (h : n < 28672) : (insM m d).Y1 n = tb (show S128x224.Idx → BitVec 32 from m (d, dr main_arg6)) (n / 224) (n % 224) :=
  (show (insM m d).Y1 n = _ from rfl).trans (cast224 (F := F) (e := .i32) _ n h)
theorem ins_B0 (n : ℕ) (h : n < 28672) : (insM m d).B0 n = tb (show S128x224.Idx → F .f32 from m (d, dr main_arg7)) (n / 224) (n % 224) :=
  (show (insM m d).B0 n = _ from rfl).trans (cast224 (F := F) (e := .f32) _ n h)
theorem ins_B1 (n : ℕ) (h : n < 28672) : (insM m d).B1 n = tb (show S128x224.Idx → F .f32 from m (d, dr main_arg8)) (n / 224) (n % 224) :=
  (show (insM m d).B1 n = _ from rfl).trans (cast224 (F := F) (e := .f32) _ n h)
theorem ins_D3 (n : ℕ) (h : n < 1572864) : (insM m d).D3 n = pt (show S128x12288.Idx → F .f32 from m (d, dr main_arg0)) (n / 12288) (n % 12288) :=
  (show (insM m d).D3 n = _ from rfl).trans (castD (F := F) (e := .f32) _ n h)

/-- The boxes' table: four columns and twelve zeros. -/
theorem castM (a b c e : S128x1.Idx → BitVec 32) (z : S128x12.Idx → BitVec 32) (r : ℕ) (h : r < 128) (k : ℕ) (hk : k < 4) :
    fl (d := S2048.size) (by decide) (shapeCast S2048 (concatenate S128x16 1 [⟨S128x1, a⟩, ⟨S128x1, b⟩, ⟨S128x1, c⟩, ⟨S128x1, e⟩, ⟨S128x12, z⟩] concatenates_S128x1_S128x1_S128x1_S128x1_S128x12_S128x16_d1) shapeCasts_S128x16_S2048) (16 * r + k)
      = if k = 0 then cl a r else if k = 1 then cl b r else if k = 2 then cl c r else cl e r := by
  unfold fl cl
  rw [eq_ix1 (fun a : Fin 1 => (⟨(16 * r + k) % S2048.size a, _⟩ : Fin (S2048.size a)))]
  pointwise
  have e1 : (16 * r + k) % 2048 / 16 = r % 128 := by omega
  have e2 : (16 * r + k) % 2048 % 16 = k := by omega
  simp only [e1, e2]
  interval_cases k <;> simp <;> rfl

theorem castW (f : S4x32.Idx → F .f32) (r : ℕ) (h : r < 128) :
    fl (d := S2048.size) (by decide) (shapeCast S2048 (broadcastInDim S128x16 ![0, 1] bcast_S128x1_S128x16_0_1 (shapeCast S128x1 f shapeCasts_S4x32_S128x1)) shapeCasts_S128x16_S2048) (16 * r) = wm f r := by
  unfold fl wm
  rw [eq_ix1 (fun a : Fin 1 => (⟨(16 * r) % S2048.size a, _⟩ : Fin (S2048.size a)))]
  pointwise
  congr 2 <;> exact Fin.ext (by simp only; omega)

theorem ins_Mt (r : ℕ) (h : r < 128) (k : ℕ) (hk : k < 4) : (insM m d).Mt (16 * r + k)
    = if k = 0 then cl (show S128x1.Idx → BitVec 32 from m (d, dr main_arg10)) r else if k = 1 then cl (show S128x1.Idx → BitVec 32 from m (d, dr main_arg11)) r else if k = 2 then cl (show S128x1.Idx → BitVec 32 from m (d, dr main_arg12)) r else cl (show S128x1.Idx → BitVec 32 from m (d, dr main_arg13)) r :=
  (show (insM m d).Mt (16 * r + k) = _ from rfl).trans (castM _ _ _ _ _ r h k hk)

theorem ins_Wt (r : ℕ) (h : r < 128) : (insM m d).Wt (16 * r) = wm (show S4x32.Idx → F .f32 from m (d, dr main_arg9)) r :=
  (show (insM m d).Wt (16 * r) = _ from rfl).trans (castW _ r h)

theorem ins_Z (n : ℕ) : (insM m d).Z n = constant (F := F) S_ .f32 0x00000000#32 ix0 := by
  refine (show (insM m d).Z n = fl (d := S18816.size) (by decide) (broadcastInDim S18816 ![] bcast_S_S18816 (constant (F := F) S_ .f32 0x00000000#32)) n from rfl).trans ?_
  unfold fl
  rw [eq_ix1 (fun a : Fin 1 => (⟨n % S18816.size a, _⟩ : Fin (S18816.size a)))]
  pointwise

/-- The words the precondition bounds. -/
def Rng (x0 x1 y0 y1 : S128x224.Idx → BitVec 32) (lo hi : S128x1.Idx → BitVec 32) : Prop :=
  (∀ r k, (tb x0 r k).toNat ≤ 63 ∧ (tb x1 r k).toNat ≤ 63 ∧ (tb y0 r k).toNat ≤ 4032 ∧ (tb y1 r k).toNat ≤ 4032)
    ∧ ∀ r, (cl lo r).toNat ≤ 14 ∧ (cl hi r).toNat ≤ 14

theorem andi_bool (p q : Bool) : IntOp.andi (BitVec.ofBool p) (BitVec.ofBool q) = BitVec.ofBool (p && q) := by
  cases p <;> cases q <;> decide

theorem bool_one (p : Bool) : (BitVec.ofBool p = 1#1) ↔ p = true := by cases p <;> decide

/-- A word between two signed bounds, the lower one zero. -/
theorem word_le (v c : BitVec 32) (hc : c.toNat < 2 ^ 31) (h0 : BitVec.sle 0#32 v = true) (h1 : BitVec.sle v c = true) : v.toNat ≤ c.toNat := by
  simp only [BitVec.sle_eq_decide, decide_eq_true_eq, BitVec.toInt_eq_toNat_cond, BitVec.toNat_ofNat, Nat.reducePow, Nat.reduceMod] at h0 h1 hc
  split at h1 <;> split at h1 <;> split at h0 <;> omega

set_option maxRecDepth 16384 in
/-- The precondition, decoded. -/
theorem rng_of_pre (a0 : S128x12288.Idx → F .f32) (a1 a2 : S128x224.Idx → BitVec 32) (a3 a4 : S128x224.Idx → F .f32) (a5 a6 : S128x224.Idx → BitVec 32)
    (a7 a8 : S128x224.Idx → F .f32) (a9 : S4x32.Idx → F .f32) (a10 a11 a12 a13 : S128x1.Idx → BitVec 32)
    (h : Cert.Pre_indices_in_range.fn (F := F) a0 a1 a2 a3 a4 a5 a6 a7 a8 a9 a10 a11 a12 a13 = fun _ => 1#1) : Rng a1 a2 a5 a6 a12 a13 := by
  have key : ∀ (r : Fin 128) (k : Fin 224), ((a1 (ix2 r k)).toNat ≤ 63 ∧ (a2 (ix2 r k)).toNat ≤ 63 ∧ (a5 (ix2 r k)).toNat ≤ 4032 ∧ (a6 (ix2 r k)).toNat ≤ 4032)
      ∧ (a12 (ix2 r (0 : Fin 1))).toNat ≤ 14 ∧ (a13 (ix2 r (0 : Fin 1))).toNat ≤ 14 := by
    intro r k
    have e := congrFun h (ix2 r k)
    pointwise [Cert.Pre_indices_in_range.fn, Cert.Pre_indices_in_range.fn_part1, Cert.Pre_indices_in_range.fn_part2] at e
    simp only [IntOp.cmpi, andi_bool, bool_one, Bool.and_eq_true] at e
    obtain ⟨⟨⟨⟨⟨⟨⟨⟨⟨⟨⟨e1, e2⟩, e3⟩, e4⟩, e5⟩, e6⟩, e7⟩, e8⟩, e9⟩, e10⟩, e11⟩, e12⟩ := e
    exact ⟨⟨word_le _ 63#32 (by decide) e1 e2, word_le _ 63#32 (by decide) e3 e4, word_le _ 4032#32 (by decide) e5 e6, word_le _ 4032#32 (by decide) e7 e8⟩,
      word_le _ 14#32 (by decide) e9 e10, word_le _ 14#32 (by decide) e11 e12⟩
  exact ⟨fun r k => (key _ _).1, fun r => (key _ (0 : Fin 224)).2⟩

/-- What the program's run asks of the arguments. -/
def ArgsOK : Prop := Rng (show S128x224.Idx → BitVec 32 from m (d, dr main_arg1)) (show S128x224.Idx → BitVec 32 from m (d, dr main_arg2))
  (show S128x224.Idx → BitVec 32 from m (d, dr main_arg5)) (show S128x224.Idx → BitVec 32 from m (d, dr main_arg6))
  (show S128x1.Idx → BitVec 32 from m (d, dr main_arg12)) (show S128x1.Idx → BitVec 32 from m (d, dr main_arg13))

theorem insOK_of (h : ArgsOK m d) : InsOK (insM m d) := by
  intro i
  have hb := bN_lt i
  refine ⟨⟨fun k hk => ?_, fun k hk => ?_, fun k hk => ?_, fun k hk => ?_⟩, fun n hn => ?_⟩
  · exact le_of_eq_of_le (congrArg BitVec.toNat (ins_X0 m d (bN i * 7168 + k) (by omega))) (h.1 _ _).1
  · exact le_of_eq_of_le (congrArg BitVec.toNat (ins_X1 m d (bN i * 7168 + k) (by omega))) (h.1 _ _).2.1
  · exact le_of_eq_of_le (congrArg BitVec.toNat (ins_Y0 m d (bN i * 7168 + k) (by omega))) (h.1 _ _).2.2.1
  · exact le_of_eq_of_le (congrArg BitVec.toNat (ins_Y1 m d (bN i * 7168 + k) (by omega))) (h.1 _ _).2.2.2
  · have e2 : bN i * 512 + (16 * n + 2) = 16 * (bN i * 32 + n) + 2 := by omega
    have e3 : bN i * 512 + (16 * n + 3) = 16 * (bN i * 32 + n) + 3 := by omega
    unfold Ins.mt
    simp only [e2, e3]
    rw [ins_Mt m d _ (by omega) 2 (by decide), ins_Mt m d _ (by omega) 3 (by decide)]
    exact h.2 _

/-- The arguments end as they began. -/
theorem V3_of (r : Ref sig .tc) (h1 : dr r ≠ dr main_v16) (h2 : r ≠ main_v17) (h3 : V1 m d (dr r) = m (d, dr r)) : V3 m d (dr r) = m (d, dr r) := by
  show opR.result (V2 (V1 m d)) (dr r) = _
  unfold opR
  rw [StableHlo.reshape_result_ne _ _ _ _ _ _ _ h2]
  unfold V2
  rw [Function.update_of_ne h1]
  exact h3

/-- The arguments in a memory are those of `m`. -/
def Kept (M : (ℓ : Loc nD τ sig) → Buf (Elt F) ℓ) : Prop := ∀ c : Dev nD, M (c.tc.loc main_arg0) = m (c.tc.loc main_arg0) ∧ M (c.tc.loc main_arg1) = m (c.tc.loc main_arg1) ∧ M (c.tc.loc main_arg2) = m (c.tc.loc main_arg2) ∧ M (c.tc.loc main_arg3) = m (c.tc.loc main_arg3) ∧ M (c.tc.loc main_arg4) = m (c.tc.loc main_arg4) ∧ M (c.tc.loc main_arg5) = m (c.tc.loc main_arg5) ∧ M (c.tc.loc main_arg6) = m (c.tc.loc main_arg6) ∧ M (c.tc.loc main_arg7) = m (c.tc.loc main_arg7) ∧ M (c.tc.loc main_arg8) = m (c.tc.loc main_arg8) ∧ M (c.tc.loc main_arg9) = m (c.tc.loc main_arg9) ∧ M (c.tc.loc main_arg10) = m (c.tc.loc main_arg10) ∧ M (c.tc.loc main_arg11) = m (c.tc.loc main_arg11) ∧ M (c.tc.loc main_arg12) = m (c.tc.loc main_arg12) ∧ M (c.tc.loc main_arg13) = m (c.tc.loc main_arg13)

/-- The whole run: the result, the arguments kept, every semaphore at zero. -/
theorem run_kept (ρ : Dev nD → PrngReg) [∀ e, Nonempty (Elt F e)] (hI : ∀ c, ArgsOK m c) :
    θ_run (Cert.KernelIdeal.defs (F := F)) (Cert.KernelIdeal.threads (F := F)) ⟨m, fun _ => 0, ρ⟩
      (fun r => (∀ c : Dev nD, r.2.mem (c.tc.loc main_v17) = V3 m c (dr main_v17)) ∧ Kept m r.2.mem ∧ r.2.sem = fun _ => 0) :=
  (θ_run Cert.KernelIdeal.defs _ _).mono (fun r h => by
    have e : ∀ (c : Dev nD) (x : Ref sig .tc), dr x ∈ ucRefs τ sig → dr x ≠ dr main_v16 → x ≠ main_v17 → V1 m c (dr x) = m (c, dr x) → r.2.mem (c.tc.loc x) = m (c.tc.loc x) :=
      fun c x h0 h1 h2 h3 => (h.1 c (dr x) h0).trans (V3_of m c x h1 h2 h3)
    refine ⟨fun c => h.1 c (dr main_v17) (by decide), fun c => ?_, h.2⟩
    exact ⟨e c main_arg0 (by decide) (by decide) (by decide) rfl, e c main_arg1 (by decide) (by decide) (by decide) rfl, e c main_arg2 (by decide) (by decide) (by decide) rfl, e c main_arg3 (by decide) (by decide) (by decide) rfl, e c main_arg4 (by decide) (by decide) (by decide) rfl, e c main_arg5 (by decide) (by decide) (by decide) rfl, e c main_arg6 (by decide) (by decide) (by decide) rfl, e c main_arg7 (by decide) (by decide) (by decide) rfl, e c main_arg8 (by decide) (by decide) (by decide) rfl, e c main_arg9 (by decide) (by decide) (by decide) rfl, e c main_arg10 (by decide) (by decide) (by decide) rfl, e c main_arg11 (by decide) (by decide) (by decide) rfl, e c main_arg12 (by decide) (by decide) (by decide) rfl, e c main_arg13 (by decide) (by decide) (by decide) rfl⟩) (run_main m ρ fun c => insOK_of m c (hI c))

end Cert.Proof.Tile

end
-- ==== Proof.Frames.lean ====
module

public import proofs.«01_k».proof.Defs
public import Idealize.ShloMosaic.PureOps.BitExact
public import Idealize.ShloMosaic.PureOps.Ideal
public import proofs.«01_k».proof.Proof.Args
public import proofs.«01_k».proof.Proof.Gen.Kernel
public import proofs.«01_k».proof.Proof.Gen.ReferenceIdeal.Run

@[expose] public section

noncomputable section

namespace Cert.Proof.Tile

open Idealize.ShloMosaic Idealize.SL.Sem

/-! The frames of the kernel and of the reference. -/

theorem ok_kernel (m : (ℓ : Loc Cert.KernelIdeal.nD Cert.KernelIdeal.τ Cert.KernelIdeal.sig) → Buf (Elt Bits) ℓ) (h : Cert.Pre_Kernel m) (c : Dev Cert.KernelIdeal.nD) : ArgsOK (F := Bits) m c :=
  rng_of_pre (F := Bits) _ _ _ _ _ _ _ _ _ _ _ _ _ _ (h c)

theorem ok_ideal (m : (ℓ : Loc Cert.KernelIdeal.nD Cert.KernelIdeal.τ Cert.KernelIdeal.sig) → Buf (Elt Ideal) ℓ) (h : Cert.Pre_KernelIdeal m) (c : Dev Cert.KernelIdeal.nD) : ArgsOK (F := Ideal) m c :=
  rng_of_pre (F := Ideal) _ _ _ _ _ _ _ _ _ _ _ _ _ _ (h c)

set_option maxHeartbeats 4000000 in
theorem frame_kernel : Cert.quiescent_Kernel := fun m g hpre =>
  (θ_run Cert.KernelIdeal.defs _ _).mono (fun _ h => ⟨h.2.1, h.2.2⟩) (run_kept (F := Bits) m g (ok_kernel m hpre))

theorem frame_ideal : Cert.quiescent_KernelIdeal := fun m g hpre =>
  (θ_run Cert.KernelIdeal.defs _ _).mono (fun _ h => ⟨h.2.1, h.2.2⟩) (run_kept (F := Ideal) m g (ok_ideal m hpre))

theorem frame_reference : Cert.quiescent_ReferenceIdeal := fun m g _ =>
  (θ_run Cert.ReferenceIdeal.defs _ _).mono (fun _ h => ⟨fun c => (h c).2, Idealize.ShloMosaic.sem_eq_zero_of_no_sems (by decide) _⟩) (Cert.ReferenceIdeal.Value.run (F := Ideal) m g)

end Cert.Proof.Tile

end
-- ==== Proof.Ref.lean ====
module

public import proofs.«01_k».proof.Defs
public import Idealize.ShloMosaic.PureOps.Ideal
public import Idealize.ShloMosaic.Lib.Pointwise
public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Gen Idealize.ShloMosaic Idealize.ShloMosaic.TcCoe Idealize.SL.Sem

variable {F : FTy → Type} [FloatOps F]

/-! The reference's result, piece by piece, read at a pixel. -/

/-- The pixels' places in a patch's channel. -/
def rowR (y x : IVec S128x224 32) : IVec S128x3x50176 32 :=
  broadcastInDim S128x3x50176 ![0, 1, 2] bcast_S128x1x50176_S128x3x50176_0_1_2 (shapeCast _ (addi (broadcastInDim S128x224x224 ![0, 1, 2] bcast_S128x224x1_S128x224x224_0_1_2 (broadcastInDim S128x224x1 ![0, 1] bcast_S128x224_S128x224x1_0_1 y)) (broadcastInDim S128x224x224 ![0, 1, 2] bcast_S128x1x224_S128x224x224_0_1_2 (broadcastInDim S128x1x224 ![0, 2] bcast_S128x224_S128x1x224_0_2 x))) shapeCasts_S128x224x224_S128x1x50176)

/-- The patches' pixels at those places. -/
def pixR (D : FVec F S128x12288 .f32) (y x : IVec S128x224 32) : FVec F S128x3x224x224 .f32 :=
  shapeCast _ (Host.gather gather_S128x3x4096_S128x3x50176x1_S128x3x50176_n_2_01_01_2_3_111 (shapeCast _ D shapeCasts_S128x12288_S128x3x4096) (shapeCast _ (select (cmpi .slt (rowR y x) (broadcastInDim S128x3x50176 ![] bcast_S_S128x3x50176 (constantI S_ 32 0#32))) (addi (rowR y x) (broadcastInDim S128x3x50176 ![] bcast_S_S128x3x50176 (constantI S_ 32 4096#32))) (rowR y x)) shapeCasts_S128x3x50176_S128x3x50176x1)) shapeCasts_S128x3x50176_S128x3x224x224

/-- The pixels inside the objects' boxes. -/
def insideR (a10 a11 a12 a13 : IVec S128x1 32) : IVec S128x3x224x224 1 :=
  broadcastInDim S128x3x224x224 ![0, 1, 2, 3] bcast_S128x1x224x224_S128x3x224x224_0_1_2_3 (andi (broadcastInDim S128x1x224x224 ![0, 1, 2, 3] bcast_S128x1x224x1_S128x1x224x224_0_1_2_3 (broadcastInDim S128x1x224x1 ![0, 2] bcast_S128x224_S128x1x224x1_0_2 (andi (cmpi .sge (iotaInDim S128x224 32 1) (broadcastInDim S128x224 ![0, 1] bcast_S128x1_S128x224_0_1 a10)) (cmpi .slt (iotaInDim S128x224 32 1) (broadcastInDim S128x224 ![0, 1] bcast_S128x1_S128x224_0_1 a11))))) (broadcastInDim S128x1x224x224 ![0, 1, 2, 3] bcast_S128x1x1x224_S128x1x224x224_0_1_2_3 (broadcastInDim S128x1x1x224 ![0, 3] bcast_S128x224_S128x1x1x224_0_3 (andi (cmpi .sge (iotaInDim S128x224 32 1) (broadcastInDim S128x224 ![0, 1] bcast_S128x1_S128x224_0_1 (muli (broadcastInDim S128x1 ![] bcast_S_S128x1 (constantI S_ 32 16#32)) a12))) (cmpi .slt (iotaInDim S128x224 32 1) (broadcastInDim S128x224 ![0, 1] bcast_S128x1_S128x224_0_1 (muli (broadcastInDim S128x1 ![] bcast_S_S128x1 (constantI S_ 32 16#32)) a13)))))))

/-- The objects' images. -/
def imgR (a0 : FVec F S128x12288 .f32) (a1 : IVec S128x224 32) (a2 : IVec S128x224 32) (a3 : FVec F S128x224 .f32) (a4 : FVec F S128x224 .f32) (a5 : IVec S128x224 32) (a6 : IVec S128x224 32) (a7 : FVec F S128x224 .f32) (a8 : FVec F S128x224 .f32) (a9 : FVec F S4x32 .f32) (a10 : IVec S128x1 32) (a11 : IVec S128x1 32) (a12 : IVec S128x1 32) (a13 : IVec S128x1 32) : FVec F S128x3x224x224 .f32 :=
  select (insideR a10 a11 a12 a13) (addf (mulf (broadcastInDim S128x3x224x224 ![0, 1, 2, 3] bcast_S128x1x224x1_S128x3x224x224_0_1_2_3 (mulf (broadcastInDim S128x1x224x1 ![0, 2] bcast_S128x224_S128x1x224x1_0_2 a7) (broadcastInDim S128x1x224x1 ![0, 1, 2, 3] bcast_S128x1x1x1_S128x1x224x1_0_1_2_3 (shapeCast _ a9 shapeCasts_S4x32_S128x1x1x1)))) (addf (mulf (broadcastInDim S128x3x224x224 ![0, 1, 2, 3] bcast_S128x1x1x224_S128x3x224x224_0_1_2_3 (broadcastInDim S128x1x1x224 ![0, 3] bcast_S128x224_S128x1x1x224_0_3 a3)) (pixR a0 a5 a1)) (mulf (broadcastInDim S128x3x224x224 ![0, 1, 2, 3] bcast_S128x1x1x224_S128x3x224x224_0_1_2_3 (broadcastInDim S128x1x1x224 ![0, 3] bcast_S128x224_S128x1x1x224_0_3 a4)) (pixR a0 a5 a2)))) (mulf (broadcastInDim S128x3x224x224 ![0, 1, 2, 3] bcast_S128x1x224x1_S128x3x224x224_0_1_2_3 (mulf (broadcastInDim S128x1x224x1 ![0, 2] bcast_S128x224_S128x1x224x1_0_2 a8) (broadcastInDim S128x1x224x1 ![0, 1, 2, 3] bcast_S128x1x1x1_S128x1x224x1_0_1_2_3 (shapeCast _ a9 shapeCasts_S4x32_S128x1x1x1)))) (addf (mulf (broadcastInDim S128x3x224x224 ![0, 1, 2, 3] bcast_S128x1x1x224_S128x3x224x224_0_1_2_3 (broadcastInDim S128x1x1x224 ![0, 3] bcast_S128x224_S128x1x1x224_0_3 a3)) (pixR a0 a6 a1)) (mulf (broadcastInDim S128x3x224x224 ![0, 1, 2, 3] bcast_S128x1x1x224_S128x3x224x224_0_1_2_3 (broadcastInDim S128x1x1x224 ![0, 3] bcast_S128x224_S128x1x1x224_0_3 a4)) (pixR a0 a6 a2))))) (broadcastInDim S128x3x224x224 ![] bcast_S_S128x3x224x224 (id (constant S_ .f32 0x00000000#32)))

/-- The objects' sum. -/
def mergedR (img : FVec F S128x3x224x224 .f32) : FVec F S4x3x224x224 .f32 :=
  Host.reduceAdd (extractStridedSlice S4x31x3x224x224 ![0, 0, 0, 0, 0] (shapeCast _ img shapeCasts_S128x3x224x224_S4x32x3x224x224) slices_S4x32x3x224x224_S4x31x3x224x224_0_0_0_0_0) (constant S_ .f32 0x00000000#32) reducesTo_S4x31x3x224x224_S4x3x224x224_d1 h_S_

/-- The sum over the background. -/
def outR (img : FVec F S128x3x224x224 .f32) : FVec F S4x3x224x224 .f32 :=
  addf (mergedR img) (mulf (shapeCast _ (extractStridedSlice S4x1x3x224x224 ![0, 31, 0, 0, 0] (shapeCast _ img shapeCasts_S128x3x224x224_S4x32x3x224x224) slices_S4x32x3x224x224_S4x1x3x224x224_0_31_0_0_0) shapeCasts_S4x1x3x224x224_S4x3x224x224) (id (select (cmpf .olt (mergedR img) (broadcastInDim S4x3x224x224 ![] bcast_S_S4x3x224x224 (constant S_ .f32 0x3A83126F#32))) (broadcastInDim S4x3x224x224 ![] bcast_S_S4x3x224x224 (constant S_ .f32 0x3F800000#32)) (broadcastInDim S4x3x224x224 ![] bcast_S_S4x3x224x224 (constant S_ .f32 0x00000000#32)))))

set_option maxRecDepth 16384 in
theorem res_eq (m : (ℓ : Loc nD τ sig) → Buf (Elt F) ℓ) (c : Dev nD) :
    Cert.ReferenceIdeal.Value.res_out0 m c = outR (imgR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  unfold Cert.ReferenceIdeal.Value.res_out0 Cert.ReferenceIdeal.Value.res_main_v94 outR mergedR imgR insideR pixR rowR
  rfl

/-- The place of one pixel. -/
theorem rowR_apply (y x : IVec S128x224 32) (r : Fin 128) (c : Fin 3) (n : Fin 50176) :
    rowR y x (ix3 r c n) = y (ix2 r ⟨n.val / 224, by omega⟩) + x (ix2 r ⟨n.val % 224, by omega⟩) := by
  pointwise [rowR]
  rfl

/-- The gather at one place. -/
theorem gather_apply {α : Type} {w : ℕ} (v : S128x3x4096.Idx → α) (idx : IVec S128x3x50176x1 w) (r : Fin 128) (c : Fin 3) (n : Fin 50176) :
    Host.gather gather_S128x3x4096_S128x3x50176x1_S128x3x50176_n_2_01_01_2_3_111 v idx (ix3 r c n)
      = v (ix3 r c ⟨min (idx (ix4 r c n (0 : Fin 1))).toInt.toNat 4095, by omega⟩) := by
  let d := gather_S128x3x4096_S128x3x50176x1_S128x3x50176_n_2_01_01_2_3_111
  unfold Host.gather
  congr 1
  funext a
  refine Fin.ext ?_
  show d.start (ix3 r c n) idx a + d.batchCoord (ix3 r c n) a + d.offCoord (ix3 r c n) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching d _ _ _ (by decide), GatherDims.offCoord_eq_zero d _ _ (by decide)]
    simp only [Nat.zero_add, Nat.add_zero]
    unfold GatherDims.batchCoord
    rw [dif_pos (by decide)]
    rfl
  · rw [GatherDims.start_batching d _ _ _ (by decide), GatherDims.offCoord_eq_zero d _ _ (by decide)]
    simp only [Nat.zero_add, Nat.add_zero]
    unfold GatherDims.batchCoord
    rw [dif_pos (by decide)]
    rfl
  · rw [GatherDims.batchCoord_eq_zero d _ _ (by decide), GatherDims.offCoord_eq_zero d _ _ (by decide)]
    simp only [Nat.add_zero]
    unfold GatherDims.start
    rw [dif_pos (by decide)]
    have hsi : d.siIdx (ix3 r c n) ⟨List.idxOf (2 : Fin 3) d.startIndexMap, by decide⟩ = ix4 r c n (0 : Fin 1) := by
      funext b; refine Fin.ext ?_
      match b with
      | ⟨0, _⟩ => rfl
      | ⟨1, _⟩ => rfl
      | ⟨2, _⟩ => rfl
      | ⟨3, _⟩ => rfl
    exact congrArg (fun i => min (idx i).toInt.toNat 4095) hsi

theorem and_one (a b : BitVec 1) : IntOp.andi a b = 1#1 ↔ a = 1#1 ∧ b = 1#1 := by
  rcases BitVec.eq_zero_or_eq_one a with rfl | rfl <;> rcases BitVec.eq_zero_or_eq_one b with rfl | rfl <;> decide

theorem sge_one (a b : BitVec 32) : IntOp.cmpi .sge a b = 1#1 ↔ b.toInt ≤ a.toInt := by
  by_cases h : b.toInt ≤ a.toInt <;> simp [IntOp.cmpi, BitVec.sle, h]

theorem slt_one (a b : BitVec 32) : IntOp.cmpi .slt a b = 1#1 ↔ a.toInt < b.toInt := by
  by_cases h : a.toInt < b.toInt <;> simp [IntOp.cmpi, BitVec.slt, h]

/-- A patch's pixel at a place within its channel. -/
theorem pixR_apply (D : FVec F S128x12288 .f32) (y x : IVec S128x224 32) (r : Fin 128) (c : Fin 3) (yy xx : Fin 224)
    (hy : (y (ix2 r yy)).toNat ≤ 4032) (hx : (x (ix2 r xx)).toNat ≤ 63) :
    pixR D y x (ix4 r c yy xx)
      = D (ix2 r ⟨(c.val * 4096 + (y (ix2 r yy)).toNat + (x (ix2 r xx)).toNat) % 12288, Nat.mod_lt _ (by decide)⟩) := by
  pointwise [pixR]
  rw [gather_apply]
  pointwise
  refine congrArg (fun i => D (ix2 r i)) (Fin.ext ?_)
  have e := rowR_apply y x r c ⟨yy.val * 224 + xx.val, by omega⟩
  have e1 : (yy.val * 224 + xx.val) / 224 = yy.val := by omega
  have e2 : (yy.val * 224 + xx.val) % 224 = xx.val := by omega
  simp only [e1, e2] at e
  show c.val * 4096 + min (BitVec.toInt (n := 32) (Scalar.select (IntOp.cmpi CmpIPredicate.slt (rowR y x (ix3 r c ⟨yy.val * 224 + xx.val, _⟩)) 0#32) _ _)).toNat 4095 = _
  rw [e]
  generalize y (ix2 r yy) = v at *
  generalize x (ix2 r xx) = w at *
  have hs : (v + w).toNat = v.toNat + w.toNat := by rw [BitVec.toNat_add]; omega
  have ht : (v + w).toInt = ((v.toNat + w.toNat : ℕ) : ℤ) := by rw [BitVec.toInt_eq_toNat_of_lt (by omega), hs]
  have hc : IntOp.cmpi CmpIPredicate.slt (v + w) 0#32 = 0#1 :=
    (BitVec.eq_zero_or_eq_one _).resolve_right fun q => by
      have := (slt_one _ _).mp q
      rw [ht] at this
      exact absurd this (by simp only [BitVec.toInt_zero]; omega)
  rw [hc]
  show c.val * 4096 + min (v + w).toInt.toNat 4095 = (c.val * 4096 + v.toNat + w.toNat) % 12288
  rw [ht]
  omega

/-- The box of an object, at a row and a column. -/
def boxR (ylo yhi xlo xhi : BitVec 32) (yy xx : ℕ) : Prop :=
  ylo.toInt ≤ yy ∧ (yy : ℤ) < yhi.toInt ∧ xlo.toNat ≤ xx / 16 ∧ xx / 16 < xhi.toNat

theorem small_toInt (n : ℕ) (h : n < 1000) : (BitVec.ofNat 32 n).toInt = (n : ℤ) := by
  have e : (BitVec.ofNat 32 n).toNat = n := by rw [BitVec.toNat_ofNat]; omega
  rw [BitVec.toInt_eq_toNat_of_lt (by omega), e]

theorem sixteen_toInt (v : BitVec 32) (h : v.toNat ≤ 14) : (IntOp.muli 16#32 v).toInt = ((16 * v.toNat : ℕ) : ℤ) := by
  have e : (16#32 * v).toNat = 16 * v.toNat := by rw [BitVec.toNat_mul]; show 16 * v.toNat % 2 ^ 32 = _; omega
  show (16#32 * v).toInt = _
  rw [BitVec.toInt_eq_toNat_of_lt (by omega), e]

theorem insideR_apply (a10 a11 a12 a13 : IVec S128x1 32) (r : Fin 128) (c : Fin 3) (yy xx : Fin 224)
    (hlo : (a12 (ix2 r 0)).toNat ≤ 14) (hhi : (a13 (ix2 r 0)).toNat ≤ 14) :
    insideR a10 a11 a12 a13 (ix4 r c yy xx) = 1#1
      ↔ boxR (a10 (ix2 r 0)) (a11 (ix2 r 0)) (a12 (ix2 r 0)) (a13 (ix2 r 0)) yy xx := by
  pointwise [insideR]
  rw [and_one, and_one, and_one]
  unfold boxR
  generalize a10 (ix2 r 0) = ylo at *
  generalize a11 (ix2 r 0) = yhi at *
  generalize a12 (ix2 r 0) = xlo at *
  generalize a13 (ix2 r 0) = xhi at *
  have hy : (BitVec.ofNat 32 yy.val).toInt = (yy.val : ℤ) := small_toInt _ (by omega)
  have hx : (BitVec.ofNat 32 xx.val).toInt = (xx.val : ℤ) := small_toInt _ (by omega)
  rw [sge_one, slt_one, sge_one, slt_one, hy, hx, sixteen_toInt _ hlo, sixteen_toInt _ hhi]
  omega

/-- A patch's pixel, by its place in the patch. -/
def atR (D : FVec Ideal S128x12288 .f32) (r : Fin 128) (n : ℕ) : EReal := D (ix2 r ⟨n % 12288, Nat.mod_lt _ (by decide)⟩)

open Classical in
/-- An object's image at a pixel: the bilinear sample of its patch inside the box, nothing outside. -/
theorem imgR_apply (a0 : FVec Ideal S128x12288 .f32) (a1 a2 : IVec S128x224 32) (a3 a4 : FVec Ideal S128x224 .f32) (a5 a6 : IVec S128x224 32)
    (a7 a8 : FVec Ideal S128x224 .f32) (a9 : FVec Ideal S4x32 .f32) (a10 a11 a12 a13 : IVec S128x1 32) (r : Fin 128) (c : Fin 3) (yy xx : Fin 224)
    (h1 : (a1 (ix2 r xx)).toNat ≤ 63) (h2 : (a2 (ix2 r xx)).toNat ≤ 63) (h5 : (a5 (ix2 r yy)).toNat ≤ 4032) (h6 : (a6 (ix2 r yy)).toNat ≤ 4032)
    (hlo : (a12 (ix2 r 0)).toNat ≤ 14) (hhi : (a13 (ix2 r 0)).toNat ≤ 14) :
    imgR a0 a1 a2 a3 a4 a5 a6 a7 a8 a9 a10 a11 a12 a13 (ix4 r c yy xx) =
      if boxR (a10 (ix2 r 0)) (a11 (ix2 r 0)) (a12 (ix2 r 0)) (a13 (ix2 r 0)) yy xx then
        a7 (ix2 r yy) * a9 (ix2 ⟨r.val / 32, by omega⟩ ⟨r.val % 32, by omega⟩)
          * (a3 (ix2 r xx) * atR a0 r (c.val * 4096 + (a5 (ix2 r yy)).toNat + (a1 (ix2 r xx)).toNat)
            + a4 (ix2 r xx) * atR a0 r (c.val * 4096 + (a5 (ix2 r yy)).toNat + (a2 (ix2 r xx)).toNat))
        + a8 (ix2 r yy) * a9 (ix2 ⟨r.val / 32, by omega⟩ ⟨r.val % 32, by omega⟩)
          * (a3 (ix2 r xx) * atR a0 r (c.val * 4096 + (a6 (ix2 r yy)).toNat + (a1 (ix2 r xx)).toNat)
            + a4 (ix2 r xx) * atR a0 r (c.val * 4096 + (a6 (ix2 r yy)).toNat + (a2 (ix2 r xx)).toNat))
      else 0 := by
  unfold imgR
  simp only [id_eq]
  pointwise
  rw [pixR_apply _ _ _ _ _ _ _ h5 h1, pixR_apply _ _ _ _ _ _ _ h5 h2, pixR_apply _ _ _ _ _ _ _ h6 h1, pixR_apply _ _ _ _ _ _ _ h6 h2]
  have hi := insideR_apply a10 a11 a12 a13 r c yy xx hlo hhi
  by_cases h : boxR (a10 (ix2 r 0)) (a11 (ix2 r 0)) (a12 (ix2 r 0)) (a13 (ix2 r 0)) yy xx
  · rw [if_pos h, hi.mpr h]
    rfl
  · have e : insideR a10 a11 a12 a13 (ix4 r c yy xx) = 0#1 := (BitVec.eq_zero_or_eq_one _).resolve_right fun q => h (hi.mp q)
    rw [if_neg h, e]
    rfl

theorem mergedR_apply (img : FVec Ideal S128x3x224x224 .f32) (b : Fin 4) (c : Fin 3) (yy xx : Fin 224) :
    mergedR img (ix4 b c yy xx) = ∑ k : Fin 31, img (ix4 (⟨b.val * 32 + k.val, by omega⟩ : Fin 128) c yy xx) := by
  pointwise [mergedR]

theorem outR_apply (img : FVec Ideal S128x3x224x224 .f32) (b : Fin 4) (c : Fin 3) (yy xx : Fin 224) :
    outR img (ix4 b c yy xx) = mergedR img (ix4 b c yy xx) + img (ix4 (⟨b.val * 32 + 31, by omega⟩ : Fin 128) c yy xx)
      * (if mergedR img (ix4 b c yy xx) < Ideal.ofBits .f32 0x3A83126F#32 then 1 else 0) := by
  unfold outR
  simp only [id_eq]
  generalize mergedR img = M
  pointwise

end Cert.Proof.Ref

end
-- ==== Proof.Value.lean ====
module

public import proofs.«01_k».proof.Defs
public import Idealize.ShloMosaic.PureOps.Ideal
public import Idealize.ShloMosaic.Lib.Pointwise
public import proofs.«01_k».proof.Proof.Args
public import proofs.«01_k».proof.Proof.Frames
public import proofs.«01_k».proof.Proof.Ref

@[expose] public section

noncomputable section

namespace Cert.Proof.Tile

open Cert.KernelIdeal Cert.KernelIdeal.Gen Idealize.ShloMosaic Idealize.ShloMosaic.TcCoe Idealize.SL.Sem

/-! The value: what a tile adds for an object is the reference's image of it, so the tile's band is the reference's. -/

variable (m : (ℓ : Loc nD τ sig) → Buf (Elt Ideal) ℓ) (d : Dev nD)

/-! The arguments, by name. -/
def q0 : S128x12288.Idx → EReal := m (d, dr main_arg0)
def q1 : S128x224.Idx → BitVec 32 := m (d, dr main_arg1)
def q2 : S128x224.Idx → BitVec 32 := m (d, dr main_arg2)
def q3 : S128x224.Idx → EReal := m (d, dr main_arg3)
def q4 : S128x224.Idx → EReal := m (d, dr main_arg4)
def q5 : S128x224.Idx → BitVec 32 := m (d, dr main_arg5)
def q6 : S128x224.Idx → BitVec 32 := m (d, dr main_arg6)
def q7 : S128x224.Idx → EReal := m (d, dr main_arg7)
def q8 : S128x224.Idx → EReal := m (d, dr main_arg8)
def q9 : S4x32.Idx → EReal := m (d, dr main_arg9)
def q10 : S128x1.Idx → BitVec 32 := m (d, dr main_arg10)
def q11 : S128x1.Idx → BitVec 32 := m (d, dr main_arg11)
def q12 : S128x1.Idx → BitVec 32 := m (d, dr main_arg12)
def q13 : S128x1.Idx → BitVec 32 := m (d, dr main_arg13)

/-- The reference's images of the arguments. -/
def images : Cert.ReferenceIdeal.S128x3x224x224.Idx → EReal :=
  Ref.imgR (F := Ideal) (q0 m d) (q1 m d) (q2 m d) (q3 m d) (q4 m d) (q5 m d) (q6 m d) (q7 m d) (q8 m d) (q9 m d) (q10 m d) (q11 m d) (q12 m d) (q13 m d)

/-- The row of an object in the tables. -/
def row (b : Fin 4) (n : Fin 32) : Fin 128 := ⟨b.val * 32 + n.val, by omega⟩

theorem tb_at {α : Type} (f : S128x224.Idx → α) (r : Fin 128) (k : Fin 224) (N : ℕ) (h : N = 224 * r.val + k.val) : tb f (N / 224) (N % 224) = f (ix2 r k) := by
  unfold tb
  have e1 : N / 224 % 128 = r.val := by omega
  have e2 : N % 224 % 224 = k.val := by omega
  simp only [e1, e2]

theorem cl_at {α : Type} (f : S128x1.Idx → α) (r : Fin 128) : cl f r.val = f (ix2 r 0) := by
  unfold cl
  simp only [Nat.mod_eq_of_lt r.isLt]

section Tables

variable (i : grid0.Coords) (b : Fin 4) (hb : bN i = b.val) (n : Fin 32) (k : Fin 224)
include hb

/-! A tile's tables hold its batch's rows. -/

theorem tX0 : ((insM m d).tabs i).X0 (224 * n.val + k.val) = q1 m d (ix2 (row b n) k) :=
  (ins_X0 m d (bN i * 7168 + (224 * n.val + k.val)) (by omega)).trans (tb_at (q1 m d) (row b n) k _ (by rw [hb]; simp only [row]; omega))
theorem tX1 : ((insM m d).tabs i).X1 (224 * n.val + k.val) = q2 m d (ix2 (row b n) k) :=
  (ins_X1 m d (bN i * 7168 + (224 * n.val + k.val)) (by omega)).trans (tb_at (q2 m d) (row b n) k _ (by rw [hb]; simp only [row]; omega))
theorem tA0 : ((insM m d).tabs i).A0 (224 * n.val + k.val) = q3 m d (ix2 (row b n) k) :=
  (ins_A0 m d (bN i * 7168 + (224 * n.val + k.val)) (by omega)).trans (tb_at (q3 m d) (row b n) k _ (by rw [hb]; simp only [row]; omega))
theorem tA1 : ((insM m d).tabs i).A1 (224 * n.val + k.val) = q4 m d (ix2 (row b n) k) :=
  (ins_A1 m d (bN i * 7168 + (224 * n.val + k.val)) (by omega)).trans (tb_at (q4 m d) (row b n) k _ (by rw [hb]; simp only [row]; omega))
theorem tY0 : ((insM m d).tabs i).Y0 (224 * n.val + k.val) = q5 m d (ix2 (row b n) k) :=
  (ins_Y0 m d (bN i * 7168 + (224 * n.val + k.val)) (by omega)).trans (tb_at (q5 m d) (row b n) k _ (by rw [hb]; simp only [row]; omega))
theorem tY1 : ((insM m d).tabs i).Y1 (224 * n.val + k.val) = q6 m d (ix2 (row b n) k) :=
  (ins_Y1 m d (bN i * 7168 + (224 * n.val + k.val)) (by omega)).trans (tb_at (q6 m d) (row b n) k _ (by rw [hb]; simp only [row]; omega))
theorem tB0 : ((insM m d).tabs i).B0 (224 * n.val + k.val) = q7 m d (ix2 (row b n) k) :=
  (ins_B0 m d (bN i * 7168 + (224 * n.val + k.val)) (by omega)).trans (tb_at (q7 m d) (row b n) k _ (by rw [hb]; simp only [row]; omega))
theorem tB1 : ((insM m d).tabs i).B1 (224 * n.val + k.val) = q8 m d (ix2 (row b n) k) :=
  (ins_B1 m d (bN i * 7168 + (224 * n.val + k.val)) (by omega)).trans (tb_at (q8 m d) (row b n) k _ (by rw [hb]; simp only [row]; omega))

theorem tD (x : ℕ) (h : x < 12288) : patchP (insM m d).D3 i n.val (n.val % 2 * 12288 + x) = Ref.atR (q0 m d) (row b n) x := by
  unfold patchP pbN
  rw [Nat.add_sub_cancel_left, ins_D3 m d _ (by omega)]
  unfold pt Ref.atR
  have e1 : ((bN i * 32 + n.val) * 12288 + x) / 12288 % 128 = (row b n).val := by rw [hb]; simp only [row]; omega
  have e2 : ((bN i * 32 + n.val) * 12288 + x) % 12288 % 12288 = x % 12288 := by omega
  simp only [e1, e2]
  rfl

theorem tM (j : ℕ) (hj : j < 4) : (insM m d).mt i (16 * n.val + j) = if j = 0 then q10 m d (ix2 (row b n) 0) else if j = 1 then q11 m d (ix2 (row b n) 0)
    else if j = 2 then q12 m d (ix2 (row b n) 0) else q13 m d (ix2 (row b n) 0) := by
  have e : bN i * 512 + (16 * n.val + j) = 16 * (row b n).val + j := by rw [hb]; simp only [row]; omega
  unfold Ins.mt
  rw [e, ins_Mt m d _ (row b n).isLt j hj, cl_at, cl_at, cl_at, cl_at]
  rfl

theorem tW : (insM m d).wt i (16 * n.val) = q9 m d (ix2 ⟨(row b n).val / 32, by omega⟩ ⟨(row b n).val % 32, by omega⟩) := by
  have e : bN i * 512 + 16 * n.val = 16 * (row b n).val := by rw [hb]; simp only [row]; omega
  unfold Ins.wt
  rw [e, ins_Wt m d _ (row b n).isLt]
  unfold wm
  have e1 : (row b n).val / 32 % 4 = (row b n).val / 32 := by omega
  simp only [e1]
  rfl

end Tables

/-- The words the precondition bounds, at an object's row. -/
theorem rng_at (h : ArgsOK m d) (r : Fin 128) (k : Fin 224) : ((q1 m d (ix2 r k)).toNat ≤ 63 ∧ (q2 m d (ix2 r k)).toNat ≤ 63
    ∧ (q5 m d (ix2 r k)).toNat ≤ 4032 ∧ (q6 m d (ix2 r k)).toNat ≤ 4032) ∧ (q12 m d (ix2 r 0)).toNat ≤ 14 ∧ (q13 m d (ix2 r 0)).toNat ≤ 14 := by
  have e {α : Type} (f : S128x224.Idx → α) : tb f r.val k.val = f (ix2 r k) := by
    unfold tb; simp only [Nat.mod_eq_of_lt r.isLt, Nat.mod_eq_of_lt k.isLt]
  have h1 := h.1 r.val k.val
  have h2 := h.2 r.val
  rw [e, e, e, e] at h1
  rw [cl_at, cl_at] at h2
  exact ⟨h1, h2⟩

/-- A pixel's place in the patch buffer. -/
theorem word_at (y x : BitVec 32) (c o : ℕ) (hy : y.toNat ≤ 4032) (hx : x.toNat ≤ 63) (hc : c < 3) (ho : o ≤ 12288) :
    (y + x + BitVec.ofNat 32 (o + 4096 * c)).toNat = o + (c * 4096 + y.toNat + x.toNat) := by
  rw [BitVec.toNat_add, BitVec.toNat_add, BitVec.toNat_ofNat]
  omega

theorem eqz_one (w : EReal) : eqz (F := Ideal) w = 1#1 ↔ w = 0 := by
  show BitVec.ofBool (decide (w = Ideal.ofBits .f32 0x00000000#32)) = 1#1 ↔ _
  rw [bool_one, decide_eq_true_iff, Ideal.ofBits_zero_f32]

/-- What a tile adds for an object, at a pixel of its band. -/
theorem step_val (h : ArgsOK m d) (i : grid0.Coords) (b : Fin 4) (hb : bN i = b.val) (n : Fin 32) (c : Fin 3) (yy xx : Fin 224)
    (hs : bloN i = 28 * (yy.val / 28)) (g : ℕ → EReal) (p : ℕ) (hp : p = c.val * 6272 + (yy.val % 28 * 224 + xx.val)) :
    objStep (F := Ideal) ((insM m d).tabs i) (insM m d).D3 ((insM m d).mt i) ((insM m d).wt i) i n.val g p = g p + images m d (ix4 (row b n) c yy xx) := by
  have rx := rng_at m d h (row b n) xx
  have ry := rng_at m d h (row b n) yy
  have pc : p / 6272 = c.val := by omega
  have py : bloN i + p / 224 % 28 = yy.val := by omega
  have px : p % 224 = xx.val := by omega
  unfold images
  rw [Ref.imgR_apply _ _ _ _ _ _ _ _ _ _ _ _ _ _ _ _ _ _ rx.1.1 rx.1.2.1 ry.1.2.2.1 ry.1.2.2.2 rx.2.1 rx.2.2]
  have m0 := tM m d i b hb n 0 (by decide)
  have m1 := tM m d i b hb n 1 (by decide)
  have m2 := tM m d i b hb n 2 (by decide)
  have m3 := tM m d i b hb n 3 (by decide)
  simp only [Nat.add_zero, if_true, if_false, one_ne_zero, OfNat.ofNat_ne_zero, OfNat.ofNat_ne_one, OfNat.ofNat_eq_ofNat] at m0 m1 m2 m3
  have hU : boxU (eqz ((insM m d).wt i (16 * n.val))) ((insM m d).mt i (16 * n.val)) ((insM m d).mt i (16 * n.val + 1)) ((insM m d).mt i (16 * n.val + 2))
      ((insM m d).mt i (16 * n.val + 3)) (bloN i) p ↔ (insM m d).wt i (16 * n.val) ≠ 0
        ∧ Ref.boxR (q10 m d (ix2 (row b n) 0)) (q11 m d (ix2 (row b n) 0)) (q12 m d (ix2 (row b n) 0)) (q13 m d (ix2 (row b n) 0)) yy xx := by
    unfold boxU Ref.boxR
    rw [m0, m1, m2, m3, Ne, eqz_one, px, ← py]
    push_cast
    exact Iff.rfl
  rw [tW m d i b hb n] at hU
  by_cases hB : Ref.boxR (q10 m d (ix2 (row b n) 0)) (q11 m d (ix2 (row b n) 0)) (q12 m d (ix2 (row b n) 0)) (q13 m d (ix2 (row b n) 0)) yy xx
  · rw [if_pos hB]
    by_cases hw : q9 m d (ix2 ⟨(row b n).val / 32, by omega⟩ ⟨(row b n).val % 32, by omega⟩) = 0
    · rw [hw, mul_zero, mul_zero, zero_mul, zero_mul, add_zero, add_zero]
      unfold objStep upd
      rw [tW m d i b hb n, if_neg fun q => (hU.mp q).1 hw]
    · unfold objStep upd
      rw [tW m d i b hb n, if_pos (hU.mpr ⟨hw, hB⟩)]
      refine congrArg (g p + ·) ?_
      unfold objR samp
      have ey : 224 * n.val + bloN i + p / 224 % 28 = 224 * n.val + yy.val := by omega
      rw [ey, px, pc, tX0 m d i b hb, tX1 m d i b hb, tA0 m d i b hb, tA1 m d i b hb, tY0 m d i b hb, tY1 m d i b hb, tB0 m d i b hb, tB1 m d i b hb,
        word_at _ _ _ _ ry.1.2.2.1 rx.1.1 c.isLt (by omega), word_at _ _ _ _ ry.1.2.2.1 rx.1.2.1 c.isLt (by omega),
        word_at _ _ _ _ ry.1.2.2.2 rx.1.1 c.isLt (by omega), word_at _ _ _ _ ry.1.2.2.2 rx.1.2.1 c.isLt (by omega),
        tD m d i b hb n _ (by omega), tD m d i b hb n _ (by omega), tD m d i b hb n _ (by omega), tD m d i b hb n _ (by omega)]
      rfl
  · rw [if_neg hB, add_zero]
    unfold objStep upd
    rw [tW m d i b hb n, if_neg fun q => hB (hU.mp q).2]

/-- The accumulator after `n` objects. -/
theorem acc_val (h : ArgsOK m d) (i : grid0.Coords) (b : Fin 4) (hb : bN i = b.val) (c : Fin 3) (yy xx : Fin 224)
    (hs : bloN i = 28 * (yy.val / 28)) (p : ℕ) (hp : p = c.val * 6272 + (yy.val % 28 * 224 + xx.val)) : ∀ n (hn : n ≤ 31),
    accN (F := Ideal) ((insM m d).tabs i) (insM m d).D3 ((insM m d).mt i) ((insM m d).wt i) i (insM m d).Z n p
      = ∑ k : Fin n, images m d (ix4 (row b ⟨k.val, by omega⟩) c yy xx)
  | 0, _ => by
    rw [Finset.univ_eq_empty, Finset.sum_empty]
    exact (ins_Z m d p).trans Ideal.ofBits_zero_f32
  | n + 1, hn => by
    rw [Fin.sum_univ_castSucc]
    refine (step_val m d h i b hb ⟨n, by omega⟩ c yy xx hs _ p hp).trans ?_
    rw [acc_val h i b hb c yy xx hs p hp n (by omega)]
    rfl

/-- What a tile ends with, at a pixel of its band: the reference's result. -/
theorem fin_val (h : ArgsOK m d) (i : grid0.Coords) (b : Fin 4) (hb : bN i = b.val) (c : Fin 3) (yy xx : Fin 224)
    (hs : bloN i = 28 * (yy.val / 28)) (p : ℕ) (hp : p = c.val * 6272 + (yy.val % 28 * 224 + xx.val)) :
    (insM m d).fin i p = Ref.outR (F := Ideal) (images m d) (ix4 b c yy xx) := by
  rw [Ref.outR_apply, Ref.mergedR_apply]
  unfold Ins.fin finN
  rw [acc_val m d h i b hb c yy xx hs p hp 31 le_rfl, step_val m d h i b hb ⟨31, by decide⟩ c yy xx hs _ p hp]
  have ez : (insM m d).Z p = (0 : EReal) := (ins_Z m d p).trans Ideal.ofBits_zero_f32
  rw [ez, zero_add]
  unfold mergeF
  have ec (a : EReal) : (if FloatOps.cmpf (F := Ideal) (φ := .f32) .olt a (Scalar.ofBits .f32 0x3A83126F#32) = 1#1 then (Scalar.ofBits .f32 0x3F800000#32 : Ideal .f32) else Scalar.ofBits .f32 0x00000000#32)
      = if a < Ideal.ofBits .f32 0x3A83126F#32 then (1 : EReal) else 0 := by
    show (if BitVec.ofBool (decide (a < Ideal.ofBits .f32 0x3A83126F#32)) = 1#1 then Ideal.ofBits .f32 0x3F800000#32 else Ideal.ofBits .f32 0x00000000#32) = _
    simp only [bool_one, decide_eq_true_iff, Ideal.ofBits_zero_f32, Ideal.ofBits_one_f32]
  rw [ec]
  rfl

theorem coord_cd (c : Fin 2) (s : Fin 16) : bN (cd c s) = (2 * s.val + c.val) / 8 ∧ bloN (cd c s) = 28 * ((2 * s.val + c.val) % 8) := ⟨rfl, rfl⟩

/-- The program's result is the reference's. -/
theorem result_eq (h : ArgsOK m d) : (show S4x3x224x224.Idx → EReal from V3 m d (dr main_v17)) = Ref.outR (F := Ideal) (images m d) := by
  have e : (show S4x3x224x224.Idx → EReal from V3 m d (dr main_v17)) = shapeCast S4x3x224x224 (show S4x3x8x6272.Idx → EReal from resOf (insM m d)) shapeCasts_S4x3x8x6272_S4x3x224x224 := rfl
  rw [e]
  funext j
  obtain ⟨b, c, yy, xx, rfl⟩ : ∃ b c yy xx, j = ix4 b c yy xx := ⟨_, _, _, _, eq_ix4 j⟩
  pointwise
  unfold resOf
  refine fin_val m d h _ b ((coord_cd _ _).1.trans ?_) c yy xx ((coord_cd _ _).2.trans ?_) _ ?_
  · show (2 * ((8 * b.val + yy.val / 28) / 2) + (8 * b.val + yy.val / 28) % 2) / 8 = b.val
    omega
  · show 28 * ((2 * ((8 * b.val + yy.val / 28) / 2) + (8 * b.val + yy.val / 28) % 2) % 8) = 28 * (yy.val / 28)
    omega
  · rfl

theorem frame_reference_pre : Cert.quiescent_ReferenceIdeal_pre_indices_in_range := fun m g _ => frame_reference m g trivial

/-- The program and the reference end with the same result. -/
theorem algebraic : Cert.algebraic_KernelIdeal_ReferenceIdeal := fun m g m' g' hpre hm =>
  ⟨fun c => V3 m c (dr main_v17),
   (θ_run Cert.KernelIdeal.defs _ _).mono (fun _ h c => ⟨h.1 c, h.2.1 c⟩) (run_kept (F := Ideal) m g (ok_ideal m hpre)),
   (θ_run Cert.ReferenceIdeal.defs _ _).mono (fun _ h c => ⟨(h c).1.trans (by
    have e0 : m' ((c.tc : Thread Cert.ReferenceIdeal.nD Cert.ReferenceIdeal.τ).loc Cert.ReferenceIdeal.main_arg0) = q0 m c := (hm c).1
    have e1 : m' ((c.tc : Thread Cert.ReferenceIdeal.nD Cert.ReferenceIdeal.τ).loc Cert.ReferenceIdeal.main_arg1) = q1 m c := (hm c).2.1
    have e2 : m' ((c.tc : Thread Cert.ReferenceIdeal.nD Cert.ReferenceIdeal.τ).loc Cert.ReferenceIdeal.main_arg2) = q2 m c := (hm c).2.2.1
    have e3 : m' ((c.tc : Thread Cert.ReferenceIdeal.nD Cert.ReferenceIdeal.τ).loc Cert.ReferenceIdeal.main_arg3) = q3 m c := (hm c).2.2.2.1
    have e4 : m' ((c.tc : Thread Cert.ReferenceIdeal.nD Cert.ReferenceIdeal.τ).loc Cert.ReferenceIdeal.main_arg4) = q4 m c := (hm c).2.2.2.2.1
    have e5 : m' ((c.tc : Thread Cert.ReferenceIdeal.nD Cert.ReferenceIdeal.τ).loc Cert.ReferenceIdeal.main_arg5) = q5 m c := (hm c).2.2.2.2.2.1
    have e6 : m' ((c.tc : Thread Cert.ReferenceIdeal.nD Cert.ReferenceIdeal.τ).loc Cert.ReferenceIdeal.main_arg6) = q6 m c := (hm c).2.2.2.2.2.2.1
    have e7 : m' ((c.tc : Thread Cert.ReferenceIdeal.nD Cert.ReferenceIdeal.τ).loc Cert.ReferenceIdeal.main_arg7) = q7 m c := (hm c).2.2.2.2.2.2.2.1
    have e8 : m' ((c.tc : Thread Cert.ReferenceIdeal.nD Cert.ReferenceIdeal.τ).loc Cert.ReferenceIdeal.main_arg8) = q8 m c := (hm c).2.2.2.2.2.2.2.2.1
    have e9 : m' ((c.tc : Thread Cert.ReferenceIdeal.nD Cert.ReferenceIdeal.τ).loc Cert.ReferenceIdeal.main_arg9) = q9 m c := (hm c).2.2.2.2.2.2.2.2.2.1
    have e10 : m' ((c.tc : Thread Cert.ReferenceIdeal.nD Cert.ReferenceIdeal.τ).loc Cert.ReferenceIdeal.main_arg10) = q10 m c := (hm c).2.2.2.2.2.2.2.2.2.2.1
    have e11 : m' ((c.tc : Thread Cert.ReferenceIdeal.nD Cert.ReferenceIdeal.τ).loc Cert.ReferenceIdeal.main_arg11) = q11 m c := (hm c).2.2.2.2.2.2.2.2.2.2.2.1
    have e12 : m' ((c.tc : Thread Cert.ReferenceIdeal.nD Cert.ReferenceIdeal.τ).loc Cert.ReferenceIdeal.main_arg12) = q12 m c := (hm c).2.2.2.2.2.2.2.2.2.2.2.2.1
    have e13 : m' ((c.tc : Thread Cert.ReferenceIdeal.nD Cert.ReferenceIdeal.τ).loc Cert.ReferenceIdeal.main_arg13) = q13 m c := (hm c).2.2.2.2.2.2.2.2.2.2.2.2.2
    refine (Ref.res_eq (F := Ideal) m' c).trans ?_
    rw [e0, e1, e2, e3, e4, e5, e6, e7, e8, e9, e10, e11, e12, e13]
    exact (result_eq m c (ok_ideal m hpre c)).symm), (h c).2⟩) (Cert.ReferenceIdeal.Value.run (F := Ideal) m' g')⟩

end Cert.Proof.Tile

end
-- ==== Proof.TcBody.lean ====
module

public import proofs.«01_k».proof.Proof.Gen.DecodeIdeal.Launch
public import proofs.«01_k».proof.Proof.Gen.DecodeIdeal.Points
public import proofs.«01_k».proof.Proof.Gen.DecodeIdeal.Skeleton
public import Idealize.ShloMosaic.Lib.Pipeline.FrameBody
public import Idealize.ShloMosaic.Lib.VecWindow
public import Idealize.ShloMosaic.Lib.WholeRead
public import Idealize.ShloMosaic.Lib.Pointwise
public import Idealize.ShloMosaic.Lib.Ring
public import Idealize.ShloMosaic.Lib.Tactic
public import Idealize.ShloMosaic.Lib.WordCmp

/-! The decoding call's body, run at one grid point on any staging memrefs: at the first point it fills the
    carried scratch, the sampling tables, the weights and the boxes; at every point it stores the decoded block. -/

@[expose] public section

set_option maxRecDepth 16384

noncomputable section

namespace Cert.DecodeIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DecodeIdeal.Gen

variable {F : FTy → Type} [FloatOps F]

local notation "𝕄" => MT nD τ sig Unit (Elt F) ℕ (UR sig nD τ) ℕ

/-- Column `j` of the objects' boxes. -/
def col (x6 : Vec F S128x4 .f32) (j : Fin 4) : Vec F S128x1 .f32 := fun y => x6 (ix2 (y 0) j)

section Outs

variable (x5 : Vec F S1x224 .f32) (c0 c1 c2 c3 : Vec F S128x1 .f32) (x7 : Vec F S4x32 .f32)

def v46 : FVec F S128x224 .f32 := k0_pay6 x5 c0 c2
def v47 : FVec F S128x224 .f32 := k0_pay7 x5 c0 c2
def v104 : FVec F S128x224 .f32 := k0_pay17 (k0_pay4 x5) (k0_pay13 c1) (k0_pay14 c3) (Scalar.ofBits .f32 0x40000000#32)
def v109 : IVec S128x224 1 := k0_pay18 (k0_pay4 x5) (k0_pay13 c1) (k0_pay14 c3) (Scalar.ofBits .f32 0x40000000#32)
def v118 : IVec S128x224 1 := k0_pay19 (k0_pay4 x5) (k0_pay13 c1) (k0_pay14 c3) (Scalar.ofBits .f32 0x40000000#32)
def v125 : IVec S128x224 32 := k0_pay20 (k0_pay4 x5) (k0_pay13 c1) (k0_pay14 c3) (Scalar.ofBits .f32 0x40000000#32)
def v134 : IVec S128x224 32 := k0_pay21 (k0_pay4 x5) (k0_pay13 c1) (k0_pay14 c3) (Scalar.ofBits .f32 0x40000000#32)

/-! What the first point stores, output by output. -/

def out9 : Vec F S128x224 .i32 := k0_pay9 (v46 x5 c0 c2)
def out10 : Vec F S128x224 .i32 := k0_pay10 (v46 x5 c0 c2)
def out11 : Vec F S128x224 .f32 := k0_pay11 (v46 x5 c0 c2) (v47 x5 c0 c2) k0_pay8
def out12 : Vec F S128x224 .f32 := k0_pay12 (v46 x5 c0 c2) (v47 x5 c0 c2)
def out13 : Vec F S128x224 .i32 := k0_pay24 (v125 x5 c1 c3)
def out14 : Vec F S128x224 .i32 := k0_pay25 (v134 x5 c1 c3)
def out15 : Vec F S128x224 .f32 := k0_pay22 (v104 x5 c1 c3) (v109 x5 c1 c3) (Scalar.ofBits .f32 0x3F800000#32)
def out16 : Vec F S128x224 .f32 := k0_pay23 (v104 x5 c1 c3) (v118 x5 c1 c3)
def out17 : Vec F S4x32 .f32 := k0_pay28 (k0_pay26 x7) (k0_pay27 x7)
def out18 : Vec F S128x1 .i32 := k0_pay30 (out15 x5 c1 c3) (out16 x5 c1 c3)
def out19 : Vec F S128x1 .i32 := k0_pay31 (out15 x5 c1 c3) (out16 x5 c1 c3)
def out20 : Vec F S128x1 .i32 := k0_pay35 (k0_pay33 (out11 x5 c0 c2) (out12 x5 c0 c2))
def out21 : Vec F S128x1 .i32 :=
  k0_pay1 (k0_pay36 (k0_pay32 (out11 x5 c0 c2) (out12 x5 c0 c2)) k0_pay34 0#32) 16#32
    (k0_pay37 (k0_pay32 (out11 x5 c0 c2) (out12 x5 c0 c2)) k0_pay34 0#32) (k0_pay38 (k0_pay32 (out11 x5 c0 c2) (out12 x5 c0 c2)) k0_pay34 0#32)
    (Scalar.extui (Scalar.cmpi .sgt 16#32 0#32)) (Scalar.cmpi .slt 16#32 0#32)

end Outs

/-- A load of a whole memref's own sizes reads the contents held. -/
theorem readAt_all {s : Shape} {e : EltTy} {a : Memref sig .tc .vmem s e} (h : a.IsWhole) (x : Vec F s e) {off : Fin s.rank → ℕ}
    (inb : ∀ k, off k + s.size k ≤ s.size k) :
    a.view.readAt (Elt F) (Rect.unit off s.size inb).toLoadRect (h.unread x) = x :=
  (View.readAt_full a.view _ inb).trans (h.read_unread x)

/-! The loads of the boxes' columns. -/

theorem readAt_col0 {a : Memref sig .tc .vmem S128x4 .f32} (h : a.IsWhole) (x6 : Vec F S128x4 .f32) :
    a.view.readAt (Elt F) (Rect.unit (s := S128x4) ![0, 0] S128x1.size inb_S128x4_S128x1_0_0).toLoadRect (h.unread x6) = col x6 0 := by
  funext y
  rw [h.readAt_unread]
  exact congrArg x6 (by funext k; fin_cases k <;> ext <;> simp [Rect.unit, ix2] <;> omega)

theorem readAt_col1 {a : Memref sig .tc .vmem S128x4 .f32} (h : a.IsWhole) (x6 : Vec F S128x4 .f32) :
    a.view.readAt (Elt F) (Rect.unit (s := S128x4) ![0, 1] S128x1.size inb_S128x4_S128x1_0_1).toLoadRect (h.unread x6) = col x6 1 := by
  funext y
  rw [h.readAt_unread]
  exact congrArg x6 (by funext k; fin_cases k <;> ext <;> simp [Rect.unit, ix2] <;> omega)

theorem readAt_col2 {a : Memref sig .tc .vmem S128x4 .f32} (h : a.IsWhole) (x6 : Vec F S128x4 .f32) :
    a.view.readAt (Elt F) (Rect.unit (s := S128x4) ![0, 2] S128x1.size inb_S128x4_S128x1_0_2).toLoadRect (h.unread x6) = col x6 2 := by
  funext y
  rw [h.readAt_unread]
  exact congrArg x6 (by funext k; fin_cases k <;> ext <;> simp [Rect.unit, ix2] <;> omega)

theorem readAt_col3 {a : Memref sig .tc .vmem S128x4 .f32} (h : a.IsWhole) (x6 : Vec F S128x4 .f32) :
    a.view.readAt (Elt F) (Rect.unit (s := S128x4) ![0, 3] S128x1.size inb_S128x4_S128x1_0_3).toLoadRect (h.unread x6) = col x6 3 := by
  funext y
  rw [h.readAt_unread]
  exact congrArg x6 (by funext k; fin_cases k <;> ext <;> simp [Rect.unit, ix2] <;> omega)

variable
  {arg1 : Memref sig .tc .vmem S128x64 .f32} (harg1 : arg1.IsWhole)
  {arg2 : Memref sig .tc .vmem S64x1024 .f32} (harg2 : arg2.IsWhole)
  {arg3 : Memref sig .tc .vmem S1x1024 .f32} (harg3 : arg3.IsWhole)
  {arg4 : Memref sig .tc .vmem S1024x1536 .f32} (harg4 : arg4.IsWhole)
  {arg5 : Memref sig .tc .vmem S1x1536 .f32} (harg5 : arg5.IsWhole)
  {arg6 : Memref sig .tc .vmem S1x224 .f32} (harg6 : arg6.IsWhole)
  {arg7 : Memref sig .tc .vmem S128x4 .f32} (harg7 : arg7.IsWhole)
  {arg8 : Memref sig .tc .vmem S4x32 .f32} (harg8 : arg8.IsWhole)
  {arg9 : Memref sig .tc .vmem S128x1536 .f32} (harg9 : arg9.IsWhole)
  {arg10 : Memref sig .tc .vmem S128x224 .i32} (harg10 : arg10.IsWhole)
  {arg11 : Memref sig .tc .vmem S128x224 .i32} (harg11 : arg11.IsWhole)
  {arg12 : Memref sig .tc .vmem S128x224 .f32} (harg12 : arg12.IsWhole)
  {arg13 : Memref sig .tc .vmem S128x224 .f32} (harg13 : arg13.IsWhole)
  {arg14 : Memref sig .tc .vmem S128x224 .i32} (harg14 : arg14.IsWhole)
  {arg15 : Memref sig .tc .vmem S128x224 .i32} (harg15 : arg15.IsWhole)
  {arg16 : Memref sig .tc .vmem S128x224 .f32} (harg16 : arg16.IsWhole)
  {arg17 : Memref sig .tc .vmem S128x224 .f32} (harg17 : arg17.IsWhole)
  {arg18 : Memref sig .tc .vmem S4x32 .f32} (harg18 : arg18.IsWhole)
  {arg19 : Memref sig .tc .vmem S128x1 .i32} (harg19 : arg19.IsWhole)
  {arg20 : Memref sig .tc .vmem S128x1 .i32} (harg20 : arg20.IsWhole)
  {arg21 : Memref sig .tc .vmem S128x1 .i32} (harg21 : arg21.IsWhole)
  {arg22 : Memref sig .tc .vmem S128x1 .i32} (harg22 : arg22.IsWhole)
  {arg23 : Memref sig .tc .vmem S128x1024 .f32} (harg23 : arg23.IsWhole)

/-- At a later point only the decoded block is stored, from the carried scratch. -/
theorem later (c : Dev nD) (i : grid0.Coords) (hc : ¬ k0_cond1 i = 1#1)
    (x3 : Vec F S1024x1536 .f32) (x4 : Vec F S1x1536 .f32) (xs : Vec F S128x1024 .f32) (E : Set ℕ) (K : PUnit → sProp 𝕄) :
    iprop(owns (c : Thread nD τ) arg4 fullShare x3 ∗ owns (c : Thread nD τ) arg5 fullShare x4
        ∗ (∃ d, owns (c : Thread nD τ) arg9 fullShare d) ∗ owns (c : Thread nD τ) arg23 fullShare xs
        ∗ (iprop(owns (c : Thread nD τ) arg4 fullShare x3 ∗ owns (c : Thread nD τ) arg5 fullShare x4
            ∗ owns (c : Thread nD τ) arg9 fullShare (k0_pay2 xs x3 x4) ∗ owns (c : Thread nD τ) arg23 fullShare xs) -∗ K ⟨⟩))
      ⊢ wp frame (wpE (defs₀ (F := F)) Variants.none c none) E (cc0__decode_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__decode_body_eq_skeleton]; unfold cc0__decode_body_skel
  conv_lhs => unfold owns
  iintro ⟨⟨%f3, %hf3, H3⟩, ⟨%f4, %hf4, H4⟩, ⟨%d8, %f8, -, H8⟩, ⟨%fs, %hfs, HS⟩, Hk⟩
  obtain rfl := harg4.eq_unread hf3; obtain rfl := harg5.eq_unread hf4; obtain rfl := harg23.eq_unread hfs
  sl_exec (disch := first | sl_exact hc)
  sl_step
  rw [readAt_all harg4, readAt_all harg5, readAt_all harg23]
  iapply Hk
  isplitl [H3]
  · iexists _; isplitr; · ipureintro; exact harg4.read_unread _
    iexact H3
  isplitl [H4]
  · iexists _; isplitr; · ipureintro; exact harg5.read_unread _
    iexact H4
  isplitl [H8]
  · iexists arg9.view.writes (Elt F) f8 [⟨Rect.unit (s := S128x1536) ![0, 0] S128x1536.size inb_S128x1536_S128x1536_0_0, k0_pay2 xs x3 x4⟩]
    isplitr; · ipureintro; exact View.read_writes_full arg9.view f8 inb_S128x1536_S128x1536_0_0 _ _
    iexact H8
  iexists _; isplitr; · ipureintro; exact harg23.read_unread _
  iexact HS

end Cert.DecodeIdeal.Tc

end
-- ==== Proof.TcFirst.lean ====
module

public import proofs.«01_k».proof.Proof.TcBody
public import proofs.«01_k».proof.Proof.Gen.DecodeIdeal.Launch
public import proofs.«01_k».proof.Proof.Gen.DecodeIdeal.Points
public import proofs.«01_k».proof.Proof.Gen.DecodeIdeal.Skeleton
public import Idealize.ShloMosaic.Lib.Pipeline.FrameBody
public import Idealize.ShloMosaic.Lib.VecWindow
public import Idealize.ShloMosaic.Lib.WholeRead
public import Idealize.ShloMosaic.Lib.Pointwise
public import Idealize.ShloMosaic.Lib.Ring
public import Idealize.ShloMosaic.Lib.Tactic
public import Idealize.ShloMosaic.Lib.WordCmp

/-! The decoding call's body at the first grid point, on any staging memrefs. -/

@[expose] public section

set_option maxRecDepth 16384

noncomputable section

namespace Cert.DecodeIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DecodeIdeal.Gen

variable {F : FTy → Type} [FloatOps F]

local notation "𝕄" => MT nD τ sig Unit (Elt F) ℕ (UR sig nD τ) ℕ

variable
  {arg1 : Memref sig .tc .vmem S128x64 .f32} (harg1 : arg1.IsWhole)
  {arg2 : Memref sig .tc .vmem S64x1024 .f32} (harg2 : arg2.IsWhole)
  {arg3 : Memref sig .tc .vmem S1x1024 .f32} (harg3 : arg3.IsWhole)
  {arg4 : Memref sig .tc .vmem S1024x1536 .f32} (harg4 : arg4.IsWhole)
  {arg5 : Memref sig .tc .vmem S1x1536 .f32} (harg5 : arg5.IsWhole)
  {arg6 : Memref sig .tc .vmem S1x224 .f32} (harg6 : arg6.IsWhole)
  {arg7 : Memref sig .tc .vmem S128x4 .f32} (harg7 : arg7.IsWhole)
  {arg8 : Memref sig .tc .vmem S4x32 .f32} (harg8 : arg8.IsWhole)
  {arg9 : Memref sig .tc .vmem S128x1536 .f32} (harg9 : arg9.IsWhole)
  {arg10 : Memref sig .tc .vmem S128x224 .i32} (harg10 : arg10.IsWhole)
  {arg11 : Memref sig .tc .vmem S128x224 .i32} (harg11 : arg11.IsWhole)
  {arg12 : Memref sig .tc .vmem S128x224 .f32} (harg12 : arg12.IsWhole)
  {arg13 : Memref sig .tc .vmem S128x224 .f32} (harg13 : arg13.IsWhole)
  {arg14 : Memref sig .tc .vmem S128x224 .i32} (harg14 : arg14.IsWhole)
  {arg15 : Memref sig .tc .vmem S128x224 .i32} (harg15 : arg15.IsWhole)
  {arg16 : Memref sig .tc .vmem S128x224 .f32} (harg16 : arg16.IsWhole)
  {arg17 : Memref sig .tc .vmem S128x224 .f32} (harg17 : arg17.IsWhole)
  {arg18 : Memref sig .tc .vmem S4x32 .f32} (harg18 : arg18.IsWhole)
  {arg19 : Memref sig .tc .vmem S128x1 .i32} (harg19 : arg19.IsWhole)
  {arg20 : Memref sig .tc .vmem S128x1 .i32} (harg20 : arg20.IsWhole)
  {arg21 : Memref sig .tc .vmem S128x1 .i32} (harg21 : arg21.IsWhole)
  {arg22 : Memref sig .tc .vmem S128x1 .i32} (harg22 : arg22.IsWhole)
  {arg23 : Memref sig .tc .vmem S128x1024 .f32} (harg23 : arg23.IsWhole)

set_option maxHeartbeats 700000 in
/-- At the first point everything is stored: the carried scratch, the block decoded from it, the tables, the
    weights and the boxes. -/
theorem first_raw (c : Dev nD) (i : grid0.Coords) (hc : k0_cond1 i = 1#1)
    (x0 : Vec F S128x64 .f32) (x1 : Vec F S64x1024 .f32) (x2 : Vec F S1x1024 .f32) (x3 : Vec F S1024x1536 .f32) (x4 : Vec F S1x1536 .f32) (x5 : Vec F S1x224 .f32) (x6 : Vec F S128x4 .f32) (x7 : Vec F S4x32 .f32)
    (l0 : Vec F S128x64 .f32) (hl0 : l0 = arg1.view.readAt (Elt F) (Rect.unit (s := S128x64) ![0, 0] S128x64.size inb_S128x64_S128x64_0_0).toLoadRect (harg1.unread x0))
    (l1 : Vec F S64x1024 .f32) (hl1 : l1 = arg2.view.readAt (Elt F) (Rect.unit (s := S64x1024) ![0, 0] S64x1024.size inb_S64x1024_S64x1024_0_0).toLoadRect (harg2.unread x1))
    (l2 : Vec F S1x1024 .f32) (hl2 : l2 = arg3.view.readAt (Elt F) (Rect.unit (s := S1x1024) ![0, 0] S1x1024.size inb_S1x1024_S1x1024_0_0).toLoadRect (harg3.unread x2))
    (l3 : Vec F S1024x1536 .f32) (hl3 : l3 = arg4.view.readAt (Elt F) (Rect.unit (s := S1024x1536) ![0, 0] S1024x1536.size inb_S1024x1536_S1024x1536_0_0).toLoadRect (harg4.unread x3))
    (l4 : Vec F S1x1536 .f32) (hl4 : l4 = arg5.view.readAt (Elt F) (Rect.unit (s := S1x1536) ![0, 0] S1x1536.size inb_S1x1536_S1x1536_0_0).toLoadRect (harg5.unread x4))
    (l5 : Vec F S1x224 .f32) (hl5 : l5 = arg6.view.readAt (Elt F) (Rect.unit (s := S1x224) ![0, 0] S1x224.size inb_S1x224_S1x224_0_0).toLoadRect (harg6.unread x5))
    (l7 : Vec F S4x32 .f32) (hl7 : l7 = arg8.view.readAt (Elt F) (Rect.unit (s := S4x32) ![0, 0] S4x32.size inb_S4x32_S4x32_0_0).toLoadRect (harg8.unread x7))
    (d0 : Vec F S128x1 .f32) (hd0 : d0 = arg7.view.readAt (Elt F) (Rect.unit (s := S128x4) ![0, 0] S128x1.size inb_S128x4_S128x1_0_0).toLoadRect (harg7.unread x6))
    (d1 : Vec F S128x1 .f32) (hd1 : d1 = arg7.view.readAt (Elt F) (Rect.unit (s := S128x4) ![0, 1] S128x1.size inb_S128x4_S128x1_0_1).toLoadRect (harg7.unread x6))
    (d2 : Vec F S128x1 .f32) (hd2 : d2 = arg7.view.readAt (Elt F) (Rect.unit (s := S128x4) ![0, 2] S128x1.size inb_S128x4_S128x1_0_2).toLoadRect (harg7.unread x6))
    (d3 : Vec F S128x1 .f32) (hd3 : d3 = arg7.view.readAt (Elt F) (Rect.unit (s := S128x4) ![0, 3] S128x1.size inb_S128x4_S128x1_0_3).toLoadRect (harg7.unread x6))
    (xs : Vec F S128x1024 .f32) (hxs : xs = arg23.view.readCov [⟨Rect.unit (s := S128x1024) ![0, 0] S128x1024.size inb_S128x1024_S128x1024_0_0, k0_pay3 l0 l1 l2⟩] (Rect.unit (s := S128x1024) ![0, 0] S128x1024.size inb_S128x1024_S128x1024_0_0).toLoadRect)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay2 xs l3 l4) ∗ owns (c : Thread nD τ) arg10 fullShare (out9 l5 d0 d2) ∗ owns (c : Thread nD τ) arg11 fullShare (out10 l5 d0 d2) ∗ owns (c : Thread nD τ) arg12 fullShare (out11 l5 d0 d2) ∗ owns (c : Thread nD τ) arg13 fullShare (out12 l5 d0 d2) ∗ owns (c : Thread nD τ) arg14 fullShare (out13 l5 d1 d3) ∗ owns (c : Thread nD τ) arg15 fullShare (out14 l5 d1 d3) ∗ owns (c : Thread nD τ) arg16 fullShare (out15 l5 d1 d3) ∗ owns (c : Thread nD τ) arg17 fullShare (out16 l5 d1 d3) ∗ owns (c : Thread nD τ) arg18 fullShare (out17 l7) ∗ owns (c : Thread nD τ) arg19 fullShare (out18 l5 d1 d3) ∗ owns (c : Thread nD τ) arg20 fullShare (out19 l5 d1 d3) ∗ owns (c : Thread nD τ) arg21 fullShare (out20 l5 d0 d2) ∗ owns (c : Thread nD τ) arg22 fullShare (out21 l5 d0 d2) ∗ owns (c : Thread nD τ) arg23 fullShare (k0_pay3 l0 l1 l2)) -∗ K ⟨⟩))
      ⊢ wp frame (wpE (defs₀ (F := F)) Variants.none c none) E (cc0__decode_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__decode_body_eq_skeleton]; unfold cc0__decode_body_skel
  simp only [k0_part1_eq_skeleton, k0_part2_eq_skeleton, k0_part3_eq_skeleton, k0_part4_eq_skeleton, k0_part5_eq_skeleton, k0_part6_eq_skeleton]
  conv_lhs => unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc)
  sl_step
  subst hxs hl0 hl1 hl2 hl3 hl4 hl5 hl7 hd0 hd1 hd2 hd3
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists arg9.view.writes (Elt F) f8 [⟨Rect.unit (s := S128x1536) ![0, 0] S128x1536.size inb_S128x1536_S128x1536_0_0, _⟩]
    isplitr; · ipureintro; exact View.read_writes_full arg9.view f8 inb_S128x1536_S128x1536_0_0 _ _
    iexact H8
  isplitl [H9]
  · iexists arg10.view.writes (Elt F) f9 [⟨Rect.unit (s := S128x224) ![0, 0] S128x224.size inb_S128x224_S128x224_0_0, _⟩]
    isplitr; · ipureintro; exact View.read_writes_full arg10.view f9 inb_S128x224_S128x224_0_0 _ _
    iexact H9
  isplitl [H10]
  · iexists arg11.view.writes (Elt F) f10 [⟨Rect.unit (s := S128x224) ![0, 0] S128x224.size inb_S128x224_S128x224_0_0, _⟩]
    isplitr; · ipureintro; exact View.read_writes_full arg11.view f10 inb_S128x224_S128x224_0_0 _ _
    iexact H10
  isplitl [H11]
  · iexists arg12.view.writes (Elt F) f11 [⟨Rect.unit (s := S128x224) ![0, 0] S128x224.size inb_S128x224_S128x224_0_0, _⟩]
    isplitr; · ipureintro; exact View.read_writes_full arg12.view f11 inb_S128x224_S128x224_0_0 _ _
    iexact H11
  isplitl [H12]
  · iexists arg13.view.writes (Elt F) f12 [⟨Rect.unit (s := S128x224) ![0, 0] S128x224.size inb_S128x224_S128x224_0_0, _⟩]
    isplitr; · ipureintro; exact View.read_writes_full arg13.view f12 inb_S128x224_S128x224_0_0 _ _
    iexact H12
  isplitl [H13]
  · iexists arg14.view.writes (Elt F) f13 [⟨Rect.unit (s := S128x224) ![0, 0] S128x224.size inb_S128x224_S128x224_0_0, _⟩]
    isplitr; · ipureintro; exact View.read_writes_full arg14.view f13 inb_S128x224_S128x224_0_0 _ _
    iexact H13
  isplitl [H14]
  · iexists arg15.view.writes (Elt F) f14 [⟨Rect.unit (s := S128x224) ![0, 0] S128x224.size inb_S128x224_S128x224_0_0, _⟩]
    isplitr; · ipureintro; exact View.read_writes_full arg15.view f14 inb_S128x224_S128x224_0_0 _ _
    iexact H14
  isplitl [H15]
  · iexists arg16.view.writes (Elt F) f15 [⟨Rect.unit (s := S128x224) ![0, 0] S128x224.size inb_S128x224_S128x224_0_0, _⟩]
    isplitr; · ipureintro; exact View.read_writes_full arg16.view f15 inb_S128x224_S128x224_0_0 _ _
    iexact H15
  isplitl [H16]
  · iexists arg17.view.writes (Elt F) f16 [⟨Rect.unit (s := S128x224) ![0, 0] S128x224.size inb_S128x224_S128x224_0_0, _⟩]
    isplitr; · ipureintro; exact View.read_writes_full arg17.view f16 inb_S128x224_S128x224_0_0 _ _
    iexact H16
  isplitl [H17]
  · iexists arg18.view.writes (Elt F) f17 [⟨Rect.unit (s := S4x32) ![0, 0] S4x32.size inb_S4x32_S4x32_0_0, _⟩]
    isplitr; · ipureintro; exact View.read_writes_full arg18.view f17 inb_S4x32_S4x32_0_0 _ _
    iexact H17
  isplitl [H18]
  · iexists arg19.view.writes (Elt F) f18 [⟨Rect.unit (s := S128x1) ![0, 0] S128x1.size inb_S128x1_S128x1_0_0, _⟩]
    isplitr; · ipureintro; exact View.read_writes_full arg19.view f18 inb_S128x1_S128x1_0_0 _ _
    iexact H18
  isplitl [H19]
  · iexists arg20.view.writes (Elt F) f19 [⟨Rect.unit (s := S128x1) ![0, 0] S128x1.size inb_S128x1_S128x1_0_0, _⟩]
    isplitr; · ipureintro; exact View.read_writes_full arg20.view f19 inb_S128x1_S128x1_0_0 _ _
    iexact H19
  isplitl [H20]
  · iexists arg21.view.writes (Elt F) f20 [⟨Rect.unit (s := S128x1) ![0, 0] S128x1.size inb_S128x1_S128x1_0_0, _⟩]
    isplitr; · ipureintro; exact View.read_writes_full arg21.view f20 inb_S128x1_S128x1_0_0 _ _
    iexact H20
  isplitl [H21]
  · iexists arg22.view.writes (Elt F) f21 [⟨Rect.unit (s := S128x1) ![0, 0] S128x1.size inb_S128x1_S128x1_0_0, _⟩]
    isplitr; · ipureintro; exact View.read_writes_full arg22.view f21 inb_S128x1_S128x1_0_0 _ _
    iexact H21
  iexists arg23.view.writes (Elt F) f22 [⟨Rect.unit (s := S128x1024) ![0, 0] S128x1024.size inb_S128x1024_S128x1024_0_0, _⟩]
  isplitr; · ipureintro; exact View.read_writes_full arg23.view f22 inb_S128x1024_S128x1024_0_0 _ _
  iexact H22

end Cert.DecodeIdeal.Tc

end
-- ==== Proof.TcRun.lean ====
module

public import proofs.«01_k».proof.Proof.TcFirst
public import proofs.«01_k».proof.Proof.Gen.DecodeIdeal.Launch
public import proofs.«01_k».proof.Proof.Gen.DecodeIdeal.Points
public import proofs.«01_k».proof.Proof.Gen.DecodeIdeal.Skeleton
public import Idealize.ShloMosaic.Lib.Pipeline.FrameBody
public import Idealize.ShloMosaic.Lib.VecWindow
public import Idealize.ShloMosaic.Lib.WholeRead
public import Idealize.ShloMosaic.Lib.Pointwise
public import Idealize.ShloMosaic.Lib.Ring
public import Idealize.ShloMosaic.Lib.Tactic
public import Idealize.ShloMosaic.Lib.WordCmp

/-! The decoding call's region, point by point: the proof data of its pipeline and the run of the whole program. -/

@[expose] public section

set_option maxRecDepth 16384

noncomputable section

namespace Cert.DecodeIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DecodeIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffers the region finds. -/

/-- Core `c`'s buffers when the region is entered: after the host operations before it. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem fresh : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨fresh, fresh_1, fresh_2, fresh_3, fresh_4⟩) main_chain

/-! No host operation writes an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The points. -/

theorem cond_iff : ∀ t : Fin cfg0.N, k0_cond1 (grid0.coords t) = 1#1 ↔ t.val = 0 := fun t => by
  have ht : t.val < 8 := Nat.lt_of_lt_of_eq t.isLt N_0
  have e0 : (grid0.coords t 0).val = t.val / 1 % 8 := Pipeline.Grid.coords_val t 0 (by decide) rfl
  have : t.val = 0 ↔ t.val % 8 = 0 := by omega
  rw [this]
  simp only [k0_cond1, e0]
  word_cmp

theorem idle_first (t : Fin cfg0.N) (ht : t.val = 0) : (!(k0_cond1 (grid0.coords t) == 1#1)) = false := by
  rw [(cond_iff t).mpr ht]; rfl

theorem idle_later (t : Fin cfg0.N) (ht : t.val ≠ 0) : (!(k0_cond1 (grid0.coords t) == 1#1)) = true := by
  have : k0_cond1 (grid0.coords t) ≠ 1#1 := fun h => ht ((cond_iff t).mp h)
  simpa using this

/-! The windows. -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the first point leaves in an output it alone stores into is there at every later point. -/
theorem before_still {c : Dev nD} (dat : Dat τ (Elt F) Unit ℕ (UR sig nD τ) ℕ cfg0 c) (w : Fin cfg0.W)
    (hfetch : ∀ t, (cfg0.win w).fetch t = false) (hflush : ∀ t : Fin cfg0.N, (cfg0.win w).flush t = true ↔ t.val % 8 = 7)
    (hidle : ∀ t : Fin cfg0.N, cfg0.idle w (cfg0.grid.coords t) = !(k0_cond1 (grid0.coords t) == 1#1))
    (hclip : ∀ i a, (cfg0.win w).clip i a = none) (X) (hafter : ∀ t, dat.after w t = X) :
    ∀ (n : ℕ) (hn : n < cfg0.N), n ≠ 0 → ∀ d, dat.before w ⟨n, hn⟩ d = X := by
  intro n
  induction n with
  | zero => intro _ h; exact absurd rfl h
  | succ n ih =>
    intro hn _ d
    have hN : n + 1 < 8 := lt_of_lt_of_eq hn (show cfg0.N = 8 from N_0)
    rw [dat.before_of_pos w ⟨n + 1, hn⟩ (Nat.succ_ne_zero n) (hfetch _)]
    have hf : (cfg0.win w).flush ⟨n, Nat.lt_of_succ_lt hn⟩ = false :=
      Bool.eq_false_iff.mpr fun h => by have := (hflush _).mp h; simp only at this; omega
    show (if (cfg0.win w).flush ⟨n, Nat.lt_of_succ_lt hn⟩ = true then d else dat.left w ⟨n, Nat.lt_of_succ_lt hn⟩ d) = X
    rw [hf, if_neg Bool.false_ne_true]
    unfold Dat.left
    rw [hidle]
    by_cases h0 : n = 0
    · rw [idle_first ⟨n, Nat.lt_of_succ_lt hn⟩ h0]
      show dat.kept w _ d = X
      unfold Dat.kept
      rw [hafter, Pipeline.fill_of_clip_none w _ (hclip _) d X, (cfg0.win w).fill_cut]
    · rw [idle_later ⟨n, Nat.lt_of_succ_lt hn⟩ h0]
      exact ih _ h0 d

/-- At a point not idle for the window the body leaves what the proof data says. -/
theorem leaves_now {c : Dev nD} (dat : Dat τ (Elt F) Unit ℕ (UR sig nD τ) ℕ cfg0 c) (w : Fin cfg0.W) (t : Fin cfg0.N)
    (h : cfg0.idle w (cfg0.grid.coords t) = false) :
    (dat.leavesExact w t : sProp 𝕄) = owns (c : Thread nD τ) ((cfg0.win w).stage (cfg0.slots t w)) fullShare (dat.after w t) := by
  unfold Dat.leavesExact; rw [h]

/-- A buffer the body does not touch, holding what the proof data says it leaves, is left as asked. -/
theorem leaves_same {c : Dev nD} (dat : Dat τ (Elt F) Unit ℕ (UR sig nD τ) ℕ cfg0 c) (w : Fin cfg0.W) (t : Fin cfg0.N)
    (h : ∀ d, dat.before w t d = dat.after w t) :
    (iprop(∃ d, owns (c : Thread nD τ) ((cfg0.win w).stage (cfg0.slots t w)) fullShare (dat.before w t d)) : sProp 𝕄) ⊢ dat.leavesExact w t := by
  unfold Dat.leavesExact
  cases cfg0.idle w (cfg0.grid.coords t)
  · iintro ⟨%d, H⟩; rw [h]; iexact H
  · cases (cfg0.win w).flush t
    · exact .rfl
    · iintro ⟨%d, H⟩; rw [h]; iexact H

/-! What the windows hold. -/

/-- The carried scratch from the first point on. -/
def hid (c : Dev nD) : Vec F S128x1024 .f32 := k0_pay3 (iblk m c 0 t0_0) (iblk m c 1 t0_0) (iblk m c 2 t0_0)
def val8 (c : Dev nD) (t : Fin cfg0.N) : Vec F S128x1536 .f32 := k0_pay2 (hid m c) (iblk m c 3 t) (iblk m c 4 t)
def val9 (c : Dev nD) : Vec F S128x224 .i32 := out9 (iblk m c 5 t0_0) (col (iblk m c 6 t0_0) 0) (col (iblk m c 6 t0_0) 2)
def val10 (c : Dev nD) : Vec F S128x224 .i32 := out10 (iblk m c 5 t0_0) (col (iblk m c 6 t0_0) 0) (col (iblk m c 6 t0_0) 2)
def val11 (c : Dev nD) : Vec F S128x224 .f32 := out11 (iblk m c 5 t0_0) (col (iblk m c 6 t0_0) 0) (col (iblk m c 6 t0_0) 2)
def val12 (c : Dev nD) : Vec F S128x224 .f32 := out12 (iblk m c 5 t0_0) (col (iblk m c 6 t0_0) 0) (col (iblk m c 6 t0_0) 2)
def val13 (c : Dev nD) : Vec F S128x224 .i32 := out13 (iblk m c 5 t0_0) (col (iblk m c 6 t0_0) 1) (col (iblk m c 6 t0_0) 3)
def val14 (c : Dev nD) : Vec F S128x224 .i32 := out14 (iblk m c 5 t0_0) (col (iblk m c 6 t0_0) 1) (col (iblk m c 6 t0_0) 3)
def val15 (c : Dev nD) : Vec F S128x224 .f32 := out15 (iblk m c 5 t0_0) (col (iblk m c 6 t0_0) 1) (col (iblk m c 6 t0_0) 3)
def val16 (c : Dev nD) : Vec F S128x224 .f32 := out16 (iblk m c 5 t0_0) (col (iblk m c 6 t0_0) 1) (col (iblk m c 6 t0_0) 3)
def val17 (c : Dev nD) : Vec F S4x32 .f32 := out17 (iblk m c 7 t0_0)
def val18 (c : Dev nD) : Vec F S128x1 .i32 := out18 (iblk m c 5 t0_0) (col (iblk m c 6 t0_0) 1) (col (iblk m c 6 t0_0) 3)
def val19 (c : Dev nD) : Vec F S128x1 .i32 := out19 (iblk m c 5 t0_0) (col (iblk m c 6 t0_0) 1) (col (iblk m c 6 t0_0) 3)
def val20 (c : Dev nD) : Vec F S128x1 .i32 := out20 (iblk m c 5 t0_0) (col (iblk m c 6 t0_0) 0) (col (iblk m c 6 t0_0) 2)
def val21 (c : Dev nD) : Vec F S128x1 .i32 := out21 (iblk m c 5 t0_0) (col (iblk m c 6 t0_0) 0) (col (iblk m c 6 t0_0) 2)

abbrev scM : Memref sig .tc .vmem S128x1024 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before point `n`: from the first point on the carried scratch holds the hidden layer. -/
def Phi (c : Dev nD) : ℕ → sProp 𝕄
  | 0 => Pipeline.ΦA spec0 c
  | _ + 1 => iprop(iprop(owns (c : Thread nD τ) scM fullShare (hid m c)) ∗ (∃ r, prngReg c r))

theorem Phi_pos (c : Dev nD) (n : ℕ) (hn : n ≠ 0) :
    Phi m c n = iprop(iprop(owns (c : Thread nD τ) scM fullShare (hid m c)) ∗ (∃ r, prngReg c r)) := by
  cases n with
  | zero => exact absurd rfl hn
  | succ n => rfl

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => val8 m c t
    | ⟨9, _⟩ => val9 m c
    | ⟨10, _⟩ => val10 m c
    | ⟨11, _⟩ => val11 m c
    | ⟨12, _⟩ => val12 m c
    | ⟨13, _⟩ => val13 m c
    | ⟨14, _⟩ => val14 m c
    | ⟨15, _⟩ => val15 m c
    | ⟨16, _⟩ => val16 m c
    | ⟨17, _⟩ => val17 m c
    | ⟨18, _⟩ => val18 m c
    | ⟨19, _⟩ => val19 m c
    | ⟨20, _⟩ => val20 m c
    | ⟨21, _⟩ => val21 m c
    | ⟨_ + 22, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = val8 m c t := by dsimp only [dats]
theorem after_9 (c : Dev nD) (t : Fin cfg0.N) : (dats m 0 c).after 9 t = val9 m c := by dsimp only [dats]
theorem after_10 (c : Dev nD) (t : Fin cfg0.N) : (dats m 0 c).after 10 t = val10 m c := by dsimp only [dats]
theorem after_11 (c : Dev nD) (t : Fin cfg0.N) : (dats m 0 c).after 11 t = val11 m c := by dsimp only [dats]
theorem after_12 (c : Dev nD) (t : Fin cfg0.N) : (dats m 0 c).after 12 t = val12 m c := by dsimp only [dats]
theorem after_13 (c : Dev nD) (t : Fin cfg0.N) : (dats m 0 c).after 13 t = val13 m c := by dsimp only [dats]
theorem after_14 (c : Dev nD) (t : Fin cfg0.N) : (dats m 0 c).after 14 t = val14 m c := by dsimp only [dats]
theorem after_15 (c : Dev nD) (t : Fin cfg0.N) : (dats m 0 c).after 15 t = val15 m c := by dsimp only [dats]
theorem after_16 (c : Dev nD) (t : Fin cfg0.N) : (dats m 0 c).after 16 t = val16 m c := by dsimp only [dats]
theorem after_17 (c : Dev nD) (t : Fin cfg0.N) : (dats m 0 c).after 17 t = val17 m c := by dsimp only [dats]
theorem after_18 (c : Dev nD) (t : Fin cfg0.N) : (dats m 0 c).after 18 t = val18 m c := by dsimp only [dats]
theorem after_19 (c : Dev nD) (t : Fin cfg0.N) : (dats m 0 c).after 19 t = val19 m c := by dsimp only [dats]
theorem after_20 (c : Dev nD) (t : Fin cfg0.N) : (dats m 0 c).after 20 t = val20 m c := by dsimp only [dats]
theorem after_21 (c : Dev nD) (t : Fin cfg0.N) : (dats m 0 c).after 21 t = val21 m c := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

theorem before_9 (c : Dev nD) (t : Fin cfg0.N) (ht : t.val ≠ 0) (d) : (dats m 0 c).before 9 t d = val9 m c :=
  before_still (dats m 0 c) 9 (fun _ => rfl) flush0_9 (fun _ => rfl) (fun _ _ => rfl) _ (after_9 m c) t.val t.isLt ht d
theorem before_10 (c : Dev nD) (t : Fin cfg0.N) (ht : t.val ≠ 0) (d) : (dats m 0 c).before 10 t d = val10 m c :=
  before_still (dats m 0 c) 10 (fun _ => rfl) flush0_10 (fun _ => rfl) (fun _ _ => rfl) _ (after_10 m c) t.val t.isLt ht d
theorem before_11 (c : Dev nD) (t : Fin cfg0.N) (ht : t.val ≠ 0) (d) : (dats m 0 c).before 11 t d = val11 m c :=
  before_still (dats m 0 c) 11 (fun _ => rfl) flush0_11 (fun _ => rfl) (fun _ _ => rfl) _ (after_11 m c) t.val t.isLt ht d
theorem before_12 (c : Dev nD) (t : Fin cfg0.N) (ht : t.val ≠ 0) (d) : (dats m 0 c).before 12 t d = val12 m c :=
  before_still (dats m 0 c) 12 (fun _ => rfl) flush0_12 (fun _ => rfl) (fun _ _ => rfl) _ (after_12 m c) t.val t.isLt ht d
theorem before_13 (c : Dev nD) (t : Fin cfg0.N) (ht : t.val ≠ 0) (d) : (dats m 0 c).before 13 t d = val13 m c :=
  before_still (dats m 0 c) 13 (fun _ => rfl) flush0_13 (fun _ => rfl) (fun _ _ => rfl) _ (after_13 m c) t.val t.isLt ht d
theorem before_14 (c : Dev nD) (t : Fin cfg0.N) (ht : t.val ≠ 0) (d) : (dats m 0 c).before 14 t d = val14 m c :=
  before_still (dats m 0 c) 14 (fun _ => rfl) flush0_14 (fun _ => rfl) (fun _ _ => rfl) _ (after_14 m c) t.val t.isLt ht d
theorem before_15 (c : Dev nD) (t : Fin cfg0.N) (ht : t.val ≠ 0) (d) : (dats m 0 c).before 15 t d = val15 m c :=
  before_still (dats m 0 c) 15 (fun _ => rfl) flush0_15 (fun _ => rfl) (fun _ _ => rfl) _ (after_15 m c) t.val t.isLt ht d
theorem before_16 (c : Dev nD) (t : Fin cfg0.N) (ht : t.val ≠ 0) (d) : (dats m 0 c).before 16 t d = val16 m c :=
  before_still (dats m 0 c) 16 (fun _ => rfl) flush0_16 (fun _ => rfl) (fun _ _ => rfl) _ (after_16 m c) t.val t.isLt ht d
theorem before_17 (c : Dev nD) (t : Fin cfg0.N) (ht : t.val ≠ 0) (d) : (dats m 0 c).before 17 t d = val17 m c :=
  before_still (dats m 0 c) 17 (fun _ => rfl) flush0_17 (fun _ => rfl) (fun _ _ => rfl) _ (after_17 m c) t.val t.isLt ht d
theorem before_18 (c : Dev nD) (t : Fin cfg0.N) (ht : t.val ≠ 0) (d) : (dats m 0 c).before 18 t d = val18 m c :=
  before_still (dats m 0 c) 18 (fun _ => rfl) flush0_18 (fun _ => rfl) (fun _ _ => rfl) _ (after_18 m c) t.val t.isLt ht d
theorem before_19 (c : Dev nD) (t : Fin cfg0.N) (ht : t.val ≠ 0) (d) : (dats m 0 c).before 19 t d = val19 m c :=
  before_still (dats m 0 c) 19 (fun _ => rfl) flush0_19 (fun _ => rfl) (fun _ _ => rfl) _ (after_19 m c) t.val t.isLt ht d
theorem before_20 (c : Dev nD) (t : Fin cfg0.N) (ht : t.val ≠ 0) (d) : (dats m 0 c).before 20 t d = val20 m c :=
  before_still (dats m 0 c) 20 (fun _ => rfl) flush0_20 (fun _ => rfl) (fun _ _ => rfl) _ (after_20 m c) t.val t.isLt ht d
theorem before_21 (c : Dev nD) (t : Fin cfg0.N) (ht : t.val ≠ 0) (d) : (dats m 0 c).before 21 t d = val21 m c :=
  before_still (dats m 0 c) 21 (fun _ => rfl) flush0_21 (fun _ => rfl) (fun _ _ => rfl) _ (after_21 m c) t.val t.isLt ht d

/-! The body's triple at a point. -/

theorem readCov_all (a : Memref sig .tc .vmem S128x1024 .f32) (x : Vec F S128x1024 .f32) :
    a.view.readCov [⟨Rect.unit (s := S128x1024) ![0, 0] S128x1024.size inb_S128x1024_S128x1024_0_0, x⟩] (Rect.unit (s := S128x1024) ![0, 0] S128x1024.size inb_S128x1024_S128x1024_0_0).toLoadRect = x :=
  View.readCov_full a.view inb_S128x1024_S128x1024_0_0 inb_S128x1024_S128x1024_0_0 x []

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

theorem sound_first (c : Dev nD) (t : Fin cfg0.N) (ht : t.val = 0) :
    bodyPre m c t ⊢ wp frame (wpE (defs₀ (F := F)) Variants.none c none) Set.univ (bodyAt0 t) (fun _ => bodyPost m c t) := by
  have e : t = t0_0 := Fin.ext ht
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Phi m c (t.val + 1) from rfl, show (dats m 0 c).Φ t.castSucc = Phi m c t.val from rfl,
    Phi_pos m c (t.val + 1) (Nat.succ_ne_zero _), show Phi m c t.val = Pipeline.ΦA spec0 c from by rw [ht]; rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (first_raw _ _ _ _ _ _ _ _ _ _ _ _ _ _ _ _ _ _ _ _ _ _ _ c (grid0.coords t) ((cond_iff t).mpr ht) (iblk m c 0 t) (iblk m c 1 t) (iblk m c 2 t) (iblk m c 3 t) (iblk m c 4 t) (iblk m c 5 t) (iblk m c 6 t) (iblk m c 7 t) (iblk m c 0 t) (readAt_all _ _ _).symm (iblk m c 1 t) (readAt_all _ _ _).symm (iblk m c 2 t) (readAt_all _ _ _).symm (iblk m c 3 t) (readAt_all (s := S1024x1536) _ (iblk m c 3 t) inb_S1024x1536_S1024x1536_0_0).symm (iblk m c 4 t) (readAt_all (s := S1x1536) _ (iblk m c 4 t) inb_S1x1536_S1x1536_0_0).symm (iblk m c 5 t) (readAt_all _ _ _).symm (iblk m c 7 t) (readAt_all _ _ _).symm _ (readAt_col0 _ _).symm _ (readAt_col1 _ _).symm _ (readAt_col2 _ _).symm _ (readAt_col3 _ _).symm (k0_pay3 (iblk m c 0 t) (iblk m c 1 t) (iblk m c 2 t)) (readCov_all _ _).symm Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS]; · iexact HS
  iintro ⟨H0, H1, H2, H3, H4, H5, H6, H7, H8, H9, H10, H11, H12, H13, H14, H15, H16, H17, H18, H19, H20, H21, HS⟩
  subst e
  isplitl [HS Hg]
  · isplitl [HS]; · iexact HS
    iexact Hg
  isplitl [Ho]; · iexact Ho
  isplitl [H0]; · rw [leaves_now (dats m 0 c) 0 t0_0 rfl, after_0]; iexact H0
  isplitl [H1]; · rw [leaves_now (dats m 0 c) 1 t0_0 rfl, after_1]; iexact H1
  isplitl [H2]; · rw [leaves_now (dats m 0 c) 2 t0_0 rfl, after_2]; iexact H2
  isplitl [H3]; · rw [leaves_now (dats m 0 c) 3 t0_0 rfl, after_3]; iexact H3
  isplitl [H4]; · rw [leaves_now (dats m 0 c) 4 t0_0 rfl, after_4]; iexact H4
  isplitl [H5]; · rw [leaves_now (dats m 0 c) 5 t0_0 rfl, after_5]; iexact H5
  isplitl [H6]; · rw [leaves_now (dats m 0 c) 6 t0_0 rfl, after_6]; iexact H6
  isplitl [H7]; · rw [leaves_now (dats m 0 c) 7 t0_0 rfl, after_7]; iexact H7
  isplitl [H8]; · rw [leaves_now (dats m 0 c) 8 t0_0 rfl, after_8]; iexact H8
  isplitl [H9]; · rw [leaves_now (dats m 0 c) 9 t0_0 (idle_first t0_0 rfl), after_9]; iexact H9
  isplitl [H10]; · rw [leaves_now (dats m 0 c) 10 t0_0 (idle_first t0_0 rfl), after_10]; iexact H10
  isplitl [H11]; · rw [leaves_now (dats m 0 c) 11 t0_0 (idle_first t0_0 rfl), after_11]; iexact H11
  isplitl [H12]; · rw [leaves_now (dats m 0 c) 12 t0_0 (idle_first t0_0 rfl), after_12]; iexact H12
  isplitl [H13]; · rw [leaves_now (dats m 0 c) 13 t0_0 (idle_first t0_0 rfl), after_13]; iexact H13
  isplitl [H14]; · rw [leaves_now (dats m 0 c) 14 t0_0 (idle_first t0_0 rfl), after_14]; iexact H14
  isplitl [H15]; · rw [leaves_now (dats m 0 c) 15 t0_0 (idle_first t0_0 rfl), after_15]; iexact H15
  isplitl [H16]; · rw [leaves_now (dats m 0 c) 16 t0_0 (idle_first t0_0 rfl), after_16]; iexact H16
  isplitl [H17]; · rw [leaves_now (dats m 0 c) 17 t0_0 (idle_first t0_0 rfl), after_17]; iexact H17
  isplitl [H18]; · rw [leaves_now (dats m 0 c) 18 t0_0 (idle_first t0_0 rfl), after_18]; iexact H18
  isplitl [H19]; · rw [leaves_now (dats m 0 c) 19 t0_0 (idle_first t0_0 rfl), after_19]; iexact H19
  isplitl [H20]; · rw [leaves_now (dats m 0 c) 20 t0_0 (idle_first t0_0 rfl), after_20]; iexact H20
  rw [leaves_now (dats m 0 c) 21 t0_0 (idle_first t0_0 rfl), after_21]; iexact H21

theorem sound_later (c : Dev nD) (t : Fin cfg0.N) (ht : t.val ≠ 0) :
    bodyPre m c t ⊢ wp frame (wpE (defs₀ (F := F)) Variants.none c none) Set.univ (bodyAt0 t) (fun _ => bodyPost m c t) := by
  unfold bodyPre bodyPost bodyAt0
  simp only [before_3, before_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl,
    Phi_pos m c (t.val + 1) (Nat.succ_ne_zero _), Phi_pos m c t.val ht]
  iintro ⟨⟨HS, Hg⟩, Ho, H0, H1, H2, ⟨%d3, H3⟩, ⟨%d4, H4⟩, H5, H6, H7, H8, H9, H10, H11, H12, H13, H14, H15, H16, H17, H18, H19, H20, H21⟩
  iapply (later _ _ _ _ _ _ _ _ _ _ _ _ _ _ _ _ _ _ _ _ _ _ _ c (grid0.coords t) (fun h => ht ((cond_iff t).mp h)) (iblk m c 3 t) (iblk m c 4 t) (hid m c) Set.univ _)
  isplitl [H3]; · iexact H3
  isplitl [H4]; · iexact H4
  isplitl [H8]; · icases H8 with ⟨%d8, H8⟩; iexists _; iexact H8
  isplitl [HS]; · iexact HS
  iintro ⟨H3, H4, H8, HS⟩
  isplitl [HS Hg]
  · isplitl [HS]; · iexact HS
    iexact Hg
  isplitl [Ho]; · iexact Ho
  isplitl [H0]; · iapply (leaves_same (dats m 0 c) 0 t (fun d => (before_0 m c t d).trans (after_0 m c t).symm)); iexact H0
  isplitl [H1]; · iapply (leaves_same (dats m 0 c) 1 t (fun d => (before_1 m c t d).trans (after_1 m c t).symm)); iexact H1
  isplitl [H2]; · iapply (leaves_same (dats m 0 c) 2 t (fun d => (before_2 m c t d).trans (after_2 m c t).symm)); iexact H2
  isplitl [H3]; · rw [leaves_now (dats m 0 c) 3 t rfl, after_3]; iexact H3
  isplitl [H4]; · rw [leaves_now (dats m 0 c) 4 t rfl, after_4]; iexact H4
  isplitl [H5]; · iapply (leaves_same (dats m 0 c) 5 t (fun d => (before_5 m c t d).trans (after_5 m c t).symm)); iexact H5
  isplitl [H6]; · iapply (leaves_same (dats m 0 c) 6 t (fun d => (before_6 m c t d).trans (after_6 m c t).symm)); iexact H6
  isplitl [H7]; · iapply (leaves_same (dats m 0 c) 7 t (fun d => (before_7 m c t d).trans (after_7 m c t).symm)); iexact H7
  isplitl [H8]; · rw [leaves_now (dats m 0 c) 8 t rfl, after_8]; iexact H8
  isplitl [H9]; · iapply (leaves_same (dats m 0 c) 9 t (fun d => (before_9 m c t ht d).trans (after_9 m c t).symm)); iexact H9
  isplitl [H10]; · iapply (leaves_same (dats m 0 c) 10 t (fun d => (before_10 m c t ht d).trans (after_10 m c t).symm)); iexact H10
  isplitl [H11]; · iapply (leaves_same (dats m 0 c) 11 t (fun d => (before_11 m c t ht d).trans (after_11 m c t).symm)); iexact H11
  isplitl [H12]; · iapply (leaves_same (dats m 0 c) 12 t (fun d => (before_12 m c t ht d).trans (after_12 m c t).symm)); iexact H12
  isplitl [H13]; · iapply (leaves_same (dats m 0 c) 13 t (fun d => (before_13 m c t ht d).trans (after_13 m c t).symm)); iexact H13
  isplitl [H14]; · iapply (leaves_same (dats m 0 c) 14 t (fun d => (before_14 m c t ht d).trans (after_14 m c t).symm)); iexact H14
  isplitl [H15]; · iapply (leaves_same (dats m 0 c) 15 t (fun d => (before_15 m c t ht d).trans (after_15 m c t).symm)); iexact H15
  isplitl [H16]; · iapply (leaves_same (dats m 0 c) 16 t (fun d => (before_16 m c t ht d).trans (after_16 m c t).symm)); iexact H16
  isplitl [H17]; · iapply (leaves_same (dats m 0 c) 17 t (fun d => (before_17 m c t ht d).trans (after_17 m c t).symm)); iexact H17
  isplitl [H18]; · iapply (leaves_same (dats m 0 c) 18 t (fun d => (before_18 m c t ht d).trans (after_18 m c t).symm)); iexact H18
  isplitl [H19]; · iapply (leaves_same (dats m 0 c) 19 t (fun d => (before_19 m c t ht d).trans (after_19 m c t).symm)); iexact H19
  isplitl [H20]; · iapply (leaves_same (dats m 0 c) 20 t (fun d => (before_20 m c t ht d).trans (after_20 m c t).symm)); iexact H20
  iapply (leaves_same (dats m 0 c) 21 t (fun d => (before_21 m c t ht d).trans (after_21 m c t).symm)); iexact H21

theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_later m c t ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Entails.of_eq rfl

theorem hout (c : Dev nD) : (dats m 0 c).Φ (Fin.last cfg0.N) ⊢ Pipeline.ΦA spec0 c := by
  rw [show (dats m 0 c).Φ (Fin.last cfg0.N) = Phi m c cfg0.N from rfl,
    Phi_pos m c _ (by have : cfg0.N = 8 := N_0; omega), PhiA_eq]
  iintro ⟨HS, Hg⟩
  isplitl [HS]
  · iexists _; iexact HS
  iexact Hg

/-! The run. -/

set_option backward.isDefEq.respectTransparency.types false in
/-- From any memory with zero counters the program terminates with the region's arrays at what the proof data
    computes, every other buffer as the region found it, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- A final state of the run holds every argument as the run found it. -/
theorem kept {r} (h : Pipeline.FramePost cfgs (dats (F := F) m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 1).trans (((dats m 0 c).arrAt_in 1 rfl _).trans ((A_eq m c 1).trans (V_main_arg4 m c))),
    ((h c).2 main_arg5 (Pipeline.mem_restRefs_of main_arg5 (by decide) (by decide))).trans (V_main_arg5 m c),
    ((h c).1 3).trans (((dats m 0 c).arrAt_in 3 rfl _).trans ((A_eq m c 3).trans (V_main_arg6 m c))),
    ((h c).2 main_arg7 (Pipeline.mem_restRefs_of main_arg7 (by decide) (by decide))).trans (V_main_arg7 m c)⟩

/-- The program terminates, its arguments end unchanged, and every counter is at zero. -/
theorem unchanged : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) :=
  (θ_run defs _ _).mono (fun _ h => ⟨fun c => kept m h.1 c, h.2⟩) (run_main m ρ)

end Cert.DecodeIdeal.Tc

end
-- ==== Proof.TcFrame.lean ====
module

public import proofs.«01_k».proof.Proof.TcRun
public import proofs.«01_k».proof.Defs
public import proofs.«01_k».proof.Proof.Gen.Decode

/-! The decoding call's frames. The program and its reading on the ideal floats are the same text, so the run proved of
    the one for any floats is the run of the other. -/

@[expose] public section

set_option maxRecDepth 16384
set_option backward.isDefEq.respectTransparency.types false
set_option backward.isDefEq.respectTransparency false

noncomputable section

namespace Cert.Proof.DecRef

open Idealize.ShloMosaic Idealize.SL.Sem

set_option maxHeartbeats 4000000 in
/-- The two programs' bodies are the same. -/
theorem bodies_eq : Cert.Decode.defs₀ (F := Bits) = Cert.DecodeIdeal.defs₀ (F := Bits) := by
  unfold Cert.Decode.defs₀ Cert.DecodeIdeal.defs₀
  refine congrArg Defs.onTc (funext fun l => ?_)
  match l with
  | ⟨0, _⟩ => rfl

set_option maxHeartbeats 4000000 in
/-- So are their tables of bodies. -/
theorem defs_eq : Cert.Decode.defs (F := Bits) = Cert.DecodeIdeal.defs (F := Bits) :=
  congrArg (Pipeline.defs Cert.DecodeIdeal.pcfgs) bodies_eq

set_option maxHeartbeats 4000000 in
/-- So are the programs. -/
theorem main_eq : Cert.Decode.main (F := Bits) = Cert.DecodeIdeal.main (F := Bits) := rfl

set_option maxHeartbeats 4000000 in
theorem frame_decode : Cert.quiescent_Decode := fun m g _ => by
  have h := Cert.DecodeIdeal.Tc.unchanged (F := Bits) m g
  rw [← defs_eq, ← main_eq] at h
  exact h

end Cert.Proof.DecRef

end
-- ==== Proof.TcArr.lean ====
module

public import proofs.«01_k».proof.Proof.TcRun
public import Idealize.ShloMosaic.Lib.Pipeline.ValueKit

/-! The decoding call's result arrays after the run, and the blocks it reads. -/

@[expose] public section

set_option maxRecDepth 16384

noncomputable section

namespace Cert.DecodeIdeal.Tc

open Idealize.ShloMosaic Idealize.ShloMosaic.TcCoe Idealize.ShloMosaic.Tactic
open Idealize.SL Idealize.SL.Sem
open Cert.DecodeIdeal.Gen

variable {F : FTy → Type} [FloatOps F]
variable (m : (ℓ : Loc nD τ sig) → Buf (Elt F) ℓ) (c : Dev nD)

/-- Each table is written back once, whole, at the last point. -/
theorem finals :
    (dats m 0 c).arrAt 9 cfg0.N = val9 m c
    ∧ (dats m 0 c).arrAt 10 cfg0.N = val10 m c
    ∧ (dats m 0 c).arrAt 11 cfg0.N = val11 m c
    ∧ (dats m 0 c).arrAt 12 cfg0.N = val12 m c
    ∧ (dats m 0 c).arrAt 13 cfg0.N = val13 m c
    ∧ (dats m 0 c).arrAt 14 cfg0.N = val14 m c
    ∧ (dats m 0 c).arrAt 15 cfg0.N = val15 m c
    ∧ (dats m 0 c).arrAt 16 cfg0.N = val16 m c
    ∧ (dats m 0 c).arrAt 17 cfg0.N = val17 m c
    ∧ (dats m 0 c).arrAt 18 cfg0.N = val18 m c
    ∧ (dats m 0 c).arrAt 19 cfg0.N = val19 m c
    ∧ (dats m 0 c).arrAt 20 cfg0.N = val20 m c
    ∧ (dats m 0 c).arrAt 21 cfg0.N = val21 m c := by
  refine ⟨(dats m 0 c).arrAt_eq_of_after_last 9 t0_7 ?_ _ fun j => ?_,
    (dats m 0 c).arrAt_eq_of_after_last 10 t0_7 ?_ _ fun j => ?_,
    (dats m 0 c).arrAt_eq_of_after_last 11 t0_7 ?_ _ fun j => ?_,
    (dats m 0 c).arrAt_eq_of_after_last 12 t0_7 ?_ _ fun j => ?_,
    (dats m 0 c).arrAt_eq_of_after_last 13 t0_7 ?_ _ fun j => ?_,
    (dats m 0 c).arrAt_eq_of_after_last 14 t0_7 ?_ _ fun j => ?_,
    (dats m 0 c).arrAt_eq_of_after_last 15 t0_7 ?_ _ fun j => ?_,
    (dats m 0 c).arrAt_eq_of_after_last 16 t0_7 ?_ _ fun j => ?_,
    (dats m 0 c).arrAt_eq_of_after_last 17 t0_7 ?_ _ fun j => ?_,
    (dats m 0 c).arrAt_eq_of_after_last 18 t0_7 ?_ _ fun j => ?_,
    (dats m 0 c).arrAt_eq_of_after_last 19 t0_7 ?_ _ fun j => ?_,
    (dats m 0 c).arrAt_eq_of_after_last 20 t0_7 ?_ _ fun j => ?_,
    (dats m 0 c).arrAt_eq_of_after_last 21 t0_7 ?_ _ fun j => ?_⟩
  all_goals first
    | decide +kernel
    | blk_simp
  exacts [congrFun (after_9 m c t0_7) j, congrFun (after_10 m c t0_7) j, congrFun (after_11 m c t0_7) j, congrFun (after_12 m c t0_7) j, congrFun (after_13 m c t0_7) j, congrFun (after_14 m c t0_7) j, congrFun (after_15 m c t0_7) j, congrFun (after_16 m c t0_7) j, congrFun (after_17 m c t0_7) j, congrFun (after_18 m c t0_7) j, congrFun (after_19 m c t0_7) j, congrFun (after_20 m c t0_7) j, congrFun (after_21 m c t0_7) j]

set_option maxHeartbeats 1600000 in
/-- The blocks that are whole arrays. -/
theorem wholes :
    iblk m c 0 t0_0 = V m c main_v0
    ∧ iblk m c 1 t0_0 = V m c main_arg4
    ∧ iblk m c 2 t0_0 = V m c main_v15
    ∧ iblk m c 5 t0_0 = V m c main_v14
    ∧ iblk m c 6 t0_0 = V m c main_v3
    ∧ iblk m c 7 t0_0 = V m c main_v12 := by
  have h0 : win0_0.index t0_0 (0 : Fin 2) = 0 ∧ win0_0.index t0_0 (1 : Fin 2) = 0 := by decide +kernel
  have h1 : win0_1.index t0_0 (0 : Fin 2) = 0 ∧ win0_1.index t0_0 (1 : Fin 2) = 0 := by decide +kernel
  have h2 : win0_2.index t0_0 (0 : Fin 2) = 0 ∧ win0_2.index t0_0 (1 : Fin 2) = 0 := by decide +kernel
  have h5 : win0_5.index t0_0 (0 : Fin 2) = 0 ∧ win0_5.index t0_0 (1 : Fin 2) = 0 := by decide +kernel
  have h6 : win0_6.index t0_0 (0 : Fin 2) = 0 ∧ win0_6.index t0_0 (1 : Fin 2) = 0 := by decide +kernel
  have h7 : win0_7.index t0_0 (0 : Fin 2) = 0 ∧ win0_7.index t0_0 (1 : Fin 2) = 0 := by decide +kernel
  refine ⟨?_, ?_, ?_, ?_, ?_, ?_⟩
  all_goals
    funext y
    blk_ext [iblk, V]
  all_goals omega

/-! The blocks of columns. -/

theorem iblk_3 (t : Fin cfg0.N) (k : Fin 1024) (l : Fin 1536) (n : Fin 12288) (hn : n.val = 1536 * t.val + l.val) :
    (iblk m c 3 t : Vec F S1024x1536 .f32) (ix2 k l) = (V m c main_arg6 : Vec F S1024x12288 .f32) (ix2 k n) := by
  have hi := (by decide +kernel : ∀ t : Fin grid0.N, win0_3.index t (0 : Fin 2) = 0 ∧ win0_3.index t (1 : Fin 2) = t.val) t
  unfold iblk
  blk_ext

/-- The bias block. -/
theorem iblk_4 (t : Fin cfg0.N) (l : Fin 1536) (n : Fin 12288) (hn : n.val = 1536 * t.val + l.val) :
    (iblk m c 4 t : Vec F S1x1536 .f32) (ix2 0 l) = (V m c main_v16 : Vec F S1x12288 .f32) (ix2 0 n) := by
  have hi := (by decide +kernel : ∀ t : Fin grid0.N, win0_4.index t (0 : Fin 2) = 0 ∧ win0_4.index t (1 : Fin 2) = t.val) t
  unfold iblk
  blk_ext

/-- The patches, from every point's block of columns. -/
theorem final8 (G : Vec F S128x12288 .f32)
    (hG : ∀ (t : Fin cfg0.N) (r : Fin 128) (l : Fin 1536) (n : Fin 12288), n.val = 1536 * t.val + l.val → val8 m c t (ix2 r l) = G (ix2 r n)) :
    (dats m 0 c).arrAt 8 cfg0.N = G := by
  refine (dats m 0 c).arrAt_eq_of_covers 8 _ (by decide +kernel) fun t hf y => ?_
  have hi := (by decide +kernel : ∀ t : Fin grid0.N, win0_8.index t (0 : Fin 2) = 0 ∧ win0_8.index t (1 : Fin 2) = t.val) t
  have ht : t.val < 8 := lt_of_lt_of_eq t.isLt N_0
  have hy1 : (y 1).val < 1536 := (y 1).isLt
  blk_simp
  rw [after_8]
  have hy0 : (y 0).val < 128 := (y 0).isLt
  have h := hG t ⟨(y 0).val, hy0⟩ ⟨(y 1).val, hy1⟩ ⟨1536 * t.val + (y 1).val, by omega⟩ rfl
  have hb0 : (((cfg0.win 8).blk t).view.emb y 0).val = win0_8.index t (0 : Fin 2) * 128 + 1 * (y 0).val := rfl
  have hb1 : (((cfg0.win 8).blk t).view.emb y 1).val = win0_8.index t (1 : Fin 2) * 1536 + 1 * (y 1).val := rfl
  have e2 : ((cfg0.win 8).blk t).view.emb y = (ix2 (⟨(y 0).val, hy0⟩ : Fin 128) (⟨1536 * t.val + (y 1).val, by omega⟩ : Fin 12288) : S128x12288.Idx) := by
    funext a
    apply Fin.ext
    match a with
    | ⟨0, _⟩ => exact hb0.trans (by show _ = (y 0).val; rw [hi.1]; omega)
    | ⟨1, _⟩ => exact hb1.trans (by show _ = 1536 * t.val + (y 1).val; rw [hi.2]; omega)
  exact ((congrArg (val8 m c t) (funext fun a => by
    match a with
    | ⟨0, _⟩ => rfl
    | ⟨1, _⟩ => rfl)).trans h).trans (congrArg G e2.symm)

end Cert.DecodeIdeal.Tc
-- ==== Proof.TcRef.lean ====
module

public import proofs.«01_k».proof.Defs
public import Idealize.ShloMosaic.PureOps.Ideal
public import proofs.«01_k».proof.Proof.Gen.DecodeReferenceIdeal
public import proofs.«01_k».proof.Proof.Gen.DecodeReferenceIdeal.Run

/-! The decoding reference's fourteen results, named. -/

@[expose] public section

set_option maxRecDepth 16384

noncomputable section

namespace Cert.Proof.DecRef

open Cert.DecodeReferenceIdeal Cert.DecodeReferenceIdeal.Gen Cert.DecodeReferenceIdeal.Value
open Idealize.ShloMosaic Idealize.ShloMosaic.TcCoe Idealize.SL.Sem Idealize.ShloMosaic.StableHlo

variable {F : FTy → Type} [FloatOps F]

/-- The decoded patches. -/
def rImg (V0 : Valuation τ sig (Elt F)) : FVec F S128x12288 .f32 :=
  Host.divf (broadcastInDim S128x12288 ![] bcast_S_S128x12288 (constant S_ .f32 0x3F800000#32)) (addf (broadcastInDim S128x12288 ![] bcast_S_S128x12288 (constant S_ .f32 0x3F800000#32)) (Host.exp (Host.negf (addf (Host.dotGeneral dot_S128x1024_S1024x12288_S128x12288_1_0_0_1_n_n none (maximumf (addf (Host.dotGeneral dot_S128x64_S64x1024_S128x1024_1_0_0_1_n_n none (shapeCast _ (V0 (Proc.devRef .tc main_arg0)) shapeCasts_S4x32x64_S128x64) (V0 (Proc.devRef .tc main_arg4))) (broadcastInDim S128x1024 ![0, 1] bcast_S1x1024_S128x1024_0_1 (broadcastInDim S1x1024 ![1] bcast_S1024_S1x1024_1 (V0 (Proc.devRef .tc main_arg5))))) (broadcastInDim S128x1024 ![] bcast_S_S128x1024 (constant S_ .f32 0x00000000#32))) (V0 (Proc.devRef .tc main_arg6))) (broadcastInDim S128x12288 ![0, 1] bcast_S1x12288_S128x12288_0_1 (broadcastInDim S1x12288 ![1] bcast_S12288_S1x12288_1 (V0 (Proc.devRef .tc main_arg7))))))))

/-- The columns sampled on the left. -/
def rX0 (V0 : Valuation τ sig (Elt F)) : IVec S128x224 32 :=
  fptosi 32 (minimumf (broadcastInDim S128x224 ![] bcast_S_S128x224 (sitofp .f32 (constantI S_ 32 63#32))) (maximumf (broadcastInDim S128x224 ![] bcast_S_S128x224 (sitofp .f32 (constantI S_ 32 0#32))) (res_main_v42 V0)))

/-- The columns sampled on the right. -/
def rX1 (V0 : Valuation τ sig (Elt F)) : IVec S128x224 32 :=
  fptosi 32 (minimumf (broadcastInDim S128x224 ![] bcast_S_S128x224 (sitofp .f32 (constantI S_ 32 63#32))) (maximumf (broadcastInDim S128x224 ![] bcast_S_S128x224 (sitofp .f32 (constantI S_ 32 0#32))) (res_main_v44 V0)))

/-- The left columns' weights. -/
def rWx0 (V0 : Valuation τ sig (Elt F)) : FVec F S128x224 .f32 :=
  select (andi (cmpf .oge (res_main_v42 V0) (broadcastInDim S128x224 ![] bcast_S_S128x224 (constant S_ .f32 0x00000000#32))) (cmpf .ole (res_main_v42 V0) (broadcastInDim S128x224 ![] bcast_S_S128x224 (constant S_ .f32 0x427C0000#32)))) (subf (broadcastInDim S128x224 ![] bcast_S_S128x224 (constant S_ .f32 0x3F800000#32)) (res_main_v45 V0)) (broadcastInDim S128x224 ![] bcast_S_S128x224 (id (constant S_ .f32 0x00000000#32)))

/-- The right columns' weights. -/
def rWx1 (V0 : Valuation τ sig (Elt F)) : FVec F S128x224 .f32 :=
  select (andi (cmpf .oge (res_main_v44 V0) (broadcastInDim S128x224 ![] bcast_S_S128x224 (constant S_ .f32 0x00000000#32))) (cmpf .ole (res_main_v44 V0) (broadcastInDim S128x224 ![] bcast_S_S128x224 (constant S_ .f32 0x427C0000#32)))) (res_main_v45 V0) (broadcastInDim S128x224 ![] bcast_S_S128x224 (id (constant S_ .f32 0x00000000#32)))

/-- The rows sampled above, as places in a patch. -/
def rY0 (V0 : Valuation τ sig (Elt F)) : IVec S128x224 32 :=
  muli (fptosi 32 (minimumf (broadcastInDim S128x224 ![] bcast_S_S128x224 (sitofp .f32 (constantI S_ 32 63#32))) (maximumf (broadcastInDim S128x224 ![] bcast_S_S128x224 (sitofp .f32 (constantI S_ 32 0#32))) (res_main_v86 V0)))) (broadcastInDim S128x224 ![] bcast_S_S128x224 (constantI S_ 32 64#32))

/-- The rows sampled below, as places in a patch. -/
def rY1 (V0 : Valuation τ sig (Elt F)) : IVec S128x224 32 :=
  muli (fptosi 32 (minimumf (broadcastInDim S128x224 ![] bcast_S_S128x224 (sitofp .f32 (constantI S_ 32 63#32))) (maximumf (broadcastInDim S128x224 ![] bcast_S_S128x224 (sitofp .f32 (constantI S_ 32 0#32))) (res_main_v88 V0)))) (broadcastInDim S128x224 ![] bcast_S_S128x224 (constantI S_ 32 64#32))

/-- The upper rows' weights. -/
def rWy0 (V0 : Valuation τ sig (Elt F)) : FVec F S128x224 .f32 :=
  select (andi (cmpf .oge (res_main_v86 V0) (broadcastInDim S128x224 ![] bcast_S_S128x224 (constant S_ .f32 0x00000000#32))) (cmpf .ole (res_main_v86 V0) (broadcastInDim S128x224 ![] bcast_S_S128x224 (constant S_ .f32 0x427C0000#32)))) (subf (broadcastInDim S128x224 ![] bcast_S_S128x224 (constant S_ .f32 0x3F800000#32)) (res_main_v89 V0)) (broadcastInDim S128x224 ![] bcast_S_S128x224 (id (constant S_ .f32 0x00000000#32)))

/-- The lower rows' weights. -/
def rWy1 (V0 : Valuation τ sig (Elt F)) : FVec F S128x224 .f32 :=
  select (andi (cmpf .oge (res_main_v88 V0) (broadcastInDim S128x224 ![] bcast_S_S128x224 (constant S_ .f32 0x00000000#32))) (cmpf .ole (res_main_v88 V0) (broadcastInDim S128x224 ![] bcast_S_S128x224 (constant S_ .f32 0x427C0000#32)))) (res_main_v89 V0) (broadcastInDim S128x224 ![] bcast_S_S128x224 (id (constant S_ .f32 0x00000000#32)))

/-- The objects' weights. -/
def rW (V0 : Valuation τ sig (Elt F)) : FVec F S4x32 .f32 :=
  select (broadcastInDim S4x32 ![1] bcast_S32_S4x32_1 (cmpi .eq (iotaInDim S32 32 0) (broadcastInDim S32 ![] bcast_S_S32 (constantI S_ 32 31#32)))) (broadcastInDim S4x32 ![] bcast_S_S4x32 (id (constant S_ .f32 0x3F800000#32))) (Host.divf (res_main_v121 V0) (broadcastInDim S4x32 ![0, 1] bcast_S4x1_S4x32_0_1 (broadcastInDim S4x1 ![0] bcast_S4_S4x1_0 (Host.reduceAdd (res_main_v121 V0) (constant S_ .f32 0x00000000#32) reducesTo_S4x32_S4_d1 h_S_))))

/-- The first row an object reaches. -/
def rYlo (V0 : Valuation τ sig (Elt F)) : IVec S128x1 32 :=
  broadcastInDim S128x1 ![0] bcast_S128_S128x1_0 (Host.reduce IntOp.minsi (select (res_main_v135 V0) (broadcastInDim S128x224 ![1] bcast_S224_S128x224_1 (res_main_v130 V0)) (broadcastInDim S128x224 ![] bcast_S_S128x224 (id (constantI S_ 32 224#32)))) (constantI S_ 32 2147483647#32) reducesTo_S128x224_S128_d1 h_S_)

/-- The row after the last it reaches. -/
def rYhi (V0 : Valuation τ sig (Elt F)) : IVec S128x1 32 :=
  broadcastInDim S128x1 ![0] bcast_S128_S128x1_0 (Host.reduce IntOp.maxsi (select (res_main_v135 V0) (broadcastInDim S128x224 ![1] bcast_S224_S128x224_1 (addi (res_main_v130 V0) (broadcastInDim S224 ![] bcast_S_S224 (constantI S_ 32 1#32)))) (broadcastInDim S128x224 ![] bcast_S_S128x224 (id (constantI S_ 32 0#32)))) (constantI S_ 32 2147483648#32) reducesTo_S128x224_S128_d1 h_S_)

/-- The first group of columns it reaches. -/
def rXlo (V0 : Valuation τ sig (Elt F)) : IVec S128x1 32 :=
  select (andi (cmpi .ne (signi (res_main_v151 V0)) (broadcastInDim S128x1 ![] bcast_S_S128x1 (signi (res_main_call16_v0 V0)))) (cmpi .ne (Host.remsi (res_main_v151 V0) (broadcastInDim S128x1 ![] bcast_S_S128x1 (res_main_call16_v0 V0))) (broadcastInDim S128x1 ![] bcast_S_S128x1 (constantI S_ 32 0#32)))) (subi (res_main_call16_v2 V0) (broadcastInDim S128x1 ![] bcast_S_S128x1 (constantI S_ 32 1#32))) (res_main_call16_v2 V0)

/-- The group after the last it reaches. -/
def rXhi (V0 : Valuation τ sig (Elt F)) : IVec S128x1 32 :=
  select (andi (cmpi .ne (signi (res_main_v163 V0)) (broadcastInDim S128x1 ![] bcast_S_S128x1 (signi (res_main_call17_v0 V0)))) (cmpi .ne (Host.remsi (res_main_v163 V0) (broadcastInDim S128x1 ![] bcast_S_S128x1 (res_main_call17_v0 V0))) (broadcastInDim S128x1 ![] bcast_S_S128x1 (constantI S_ 32 0#32)))) (subi (res_main_call17_v2 V0) (broadcastInDim S128x1 ![] bcast_S_S128x1 (constantI S_ 32 1#32))) (res_main_call17_v2 V0)

/-- The reference ends with these results and its arguments as they were. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = rImg (launchContents m c)
      ∧ r.2.mem ((c.tc : Thread nD τ).loc main_v47) = rX0 (launchContents m c)
      ∧ r.2.mem ((c.tc : Thread nD τ).loc main_v49) = rX1 (launchContents m c)
      ∧ r.2.mem ((c.tc : Thread nD τ).loc main_v57) = rWx0 (launchContents m c)
      ∧ r.2.mem ((c.tc : Thread nD τ).loc main_v63) = rWx1 (launchContents m c)
      ∧ r.2.mem ((c.tc : Thread nD τ).loc main_v158) = rY0 (launchContents m c)
      ∧ r.2.mem ((c.tc : Thread nD τ).loc main_v160) = rY1 (launchContents m c)
      ∧ r.2.mem ((c.tc : Thread nD τ).loc main_v101) = rWy0 (launchContents m c)
      ∧ r.2.mem ((c.tc : Thread nD τ).loc main_v107) = rWy1 (launchContents m c)
      ∧ r.2.mem ((c.tc : Thread nD τ).loc main_v129) = rW (launchContents m c)
      ∧ r.2.mem ((c.tc : Thread nD τ).loc main_v138) = rYlo (launchContents m c)
      ∧ r.2.mem ((c.tc : Thread nD τ).loc main_v143) = rYhi (launchContents m c)
      ∧ r.2.mem ((c.tc : Thread nD τ).loc main_v161) = rXlo (launchContents m c)
      ∧ r.2.mem ((c.tc : Thread nD τ).loc main_v164) = rXhi (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.DecodeReferenceIdeal.Value.run m ρ

end Cert.Proof.DecRef

end
-- ==== Proof.TcEq.lean ====
module

public import proofs.«01_k».proof.Proof.TcBody
public import proofs.«01_k».proof.Proof.TcRef
public import Idealize.ShloMosaic.Lib.KernelVsHost

/-! What the decoding call's first point stores, equal to the reference's results on the ideal floats. -/

@[expose] public section

set_option maxRecDepth 16384

noncomputable section

namespace Cert.Proof.DecRef

open Cert.DecodeReferenceIdeal.Value
open Cert.DecodeIdeal Cert.DecodeIdeal.Gen Cert.DecodeIdeal.Tc
open Idealize.ShloMosaic Idealize.ShloMosaic.StableHlo

/-- What the reference computes from. -/
local notation "Val" => Valuation Cert.DecodeReferenceIdeal.τ Cert.DecodeReferenceIdeal.sig (Elt Ideal)

variable (V0 : Val)

/-- The sampled coordinates as the call takes them: one row. -/
def xs : Vec Ideal S1x224 .f32 := fun y => res_main_v19 V0 (ix1 (y 1))

/-- The columns' positions. -/
theorem posX : k0_pay5 (xs V0) (col (res_main_v18 V0) 0) (col (res_main_v18 V0) 2) = res_main_v41 V0 := by
  funext j
  obtain ⟨r, l, rfl⟩ : ∃ (r : Fin 128) (l : Fin 224), j = ix2 r l := ⟨_, _, eq_ix2 j⟩
  pointwise [k0_pay5, k0_pay4, res_main_v41, col, xs]

/-- The rows' positions. -/
theorem posY : k0_pay15 (k0_pay4 (xs V0)) (k0_pay13 (col (res_main_v18 V0) 1)) (k0_pay14 (col (res_main_v18 V0) 3)) (Scalar.ofBits .f32 0x40000000#32)
    = res_main_v85 V0 := by
  funext j
  obtain ⟨r, l, rfl⟩ : ∃ (r : Fin 128) (l : Fin 224), j = ix2 r l := ⟨_, _, eq_ix2 j⟩
  pointwise [k0_pay15, k0_pay13, k0_pay14, k0_pay4, res_main_v85, col, xs]

/-- The objects' codes, one a row. -/
def zR : FVec Ideal S128x64 .f32 :=
  shapeCast Cert.DecodeReferenceIdeal.S128x64 (V0 (Proc.devRef .tc Cert.DecodeReferenceIdeal.main_arg0) : FVec Ideal Cert.DecodeReferenceIdeal.S4x32x64 .f32)
    Cert.DecodeReferenceIdeal.Gen.shapeCasts_S4x32x64_S128x64

/-- The hidden layer. -/
def hidR : FVec Ideal S128x1024 .f32 :=
  maximumf (addf (Host.dotGeneral (φ₁ := .f32) (φ₂ := .f32) Cert.DecodeReferenceIdeal.dot_S128x64_S64x1024_S128x1024_1_0_0_1_n_n none (zR V0) (V0 (Proc.devRef .tc Cert.DecodeReferenceIdeal.main_arg4) : FVec Ideal Cert.DecodeReferenceIdeal.S64x1024 .f32))
    (broadcastInDim Cert.DecodeReferenceIdeal.S128x1024 ![0, 1] Cert.DecodeReferenceIdeal.Gen.bcast_S1x1024_S128x1024_0_1 (broadcastInDim Cert.DecodeReferenceIdeal.S1x1024 ![1] Cert.DecodeReferenceIdeal.Gen.bcast_S1024_S1x1024_1 (V0 (Proc.devRef .tc Cert.DecodeReferenceIdeal.main_arg5)))))
    (broadcastInDim Cert.DecodeReferenceIdeal.S128x1024 ![] Cert.DecodeReferenceIdeal.Gen.bcast_S_S128x1024 (constant Cert.DecodeReferenceIdeal.S_ .f32 0x00000000#32))

theorem eqHid (z : Vec Ideal S128x64 .f32) (hz : z = zR V0)
    (b1 : Vec Ideal S1x1024 .f32) (hb : ∀ k : Fin 1024, b1 (ix2 0 k) = V0 (Proc.devRef .tc Cert.DecodeReferenceIdeal.main_arg5) (ix1 k)) :
    k0_pay3 z (V0 (Proc.devRef .tc Cert.DecodeReferenceIdeal.main_arg4)) b1 = hidR V0 := by
  subst hz
  funext j
  obtain ⟨r, l, rfl⟩ : ∃ (r : Fin 128) (l : Fin 1024), j = ix2 r l := ⟨_, _, eq_ix2 j⟩
  unfold k0_pay3 hidR
  rw [matmul_zero_eq_dotGeneral]
  pointwise [hb]

/-- The decoded patches, from the hidden layer and the second layer's weights. -/
def imgOf (H : FVec Ideal S128x1024 .f32) (W : FVec Ideal S1024x12288 .f32) (b : FVec Ideal Cert.DecodeReferenceIdeal.S12288 .f32) : FVec Ideal S128x12288 .f32 :=
  Host.divf (broadcastInDim Cert.DecodeReferenceIdeal.S128x12288 ![] Cert.DecodeReferenceIdeal.Gen.bcast_S_S128x12288 (constant Cert.DecodeReferenceIdeal.S_ .f32 0x3F800000#32))
    (addf (broadcastInDim Cert.DecodeReferenceIdeal.S128x12288 ![] Cert.DecodeReferenceIdeal.Gen.bcast_S_S128x12288 (constant Cert.DecodeReferenceIdeal.S_ .f32 0x3F800000#32))
      (Host.exp (Host.negf (addf (Host.dotGeneral Cert.DecodeReferenceIdeal.dot_S128x1024_S1024x12288_S128x12288_1_0_0_1_n_n none H W)
        (broadcastInDim Cert.DecodeReferenceIdeal.S128x12288 ![0, 1] Cert.DecodeReferenceIdeal.Gen.bcast_S1x12288_S128x12288_0_1
          (broadcastInDim Cert.DecodeReferenceIdeal.S1x12288 ![1] Cert.DecodeReferenceIdeal.Gen.bcast_S12288_S1x12288_1 b))))))

theorem rImg_eq : rImg V0 = imgOf (hidR V0) (V0 (Proc.devRef .tc Cert.DecodeReferenceIdeal.main_arg6)) (V0 (Proc.devRef .tc Cert.DecodeReferenceIdeal.main_arg7)) := by
  unfold rImg imgOf hidR zR
  rfl

/-- The decoded patches, a block of columns at a time. -/
theorem eq8 (H : FVec Ideal S128x1024 .f32) (W : FVec Ideal S1024x12288 .f32) (b : FVec Ideal Cert.DecodeReferenceIdeal.S12288 .f32)
    (x3 : Vec Ideal S1024x1536 .f32) (x4 : Vec Ideal S1x1536 .f32) (r : Fin 128) (l : Fin 1536) (n : Fin 12288)
    (h3 : ∀ k : Fin 1024, x3 (ix2 k l) = W (ix2 k n)) (h4 : x4 (ix2 0 l) = b (ix1 n)) :
    k0_pay2 H x3 x4 (ix2 r l) = imgOf H W b (ix2 r n) := by
  unfold k0_pay2 imgOf
  rw [matmul_zero_eq_dotGeneral]
  pointwise [h3, h4]
  rfl

theorem eq9 : out9 (xs V0) (col (res_main_v18 V0) 0) (col (res_main_v18 V0) 2) = rX0 V0 := by
  unfold out9 v46 k0_pay6
  rw [posX]
  funext j
  obtain ⟨r, l, rfl⟩ : ∃ (r : Fin 128) (l : Fin 224), j = ix2 r l := ⟨_, _, eq_ix2 j⟩
  pointwise [k0_pay9, rX0, res_main_v42]
  rfl

theorem eq10 : out10 (xs V0) (col (res_main_v18 V0) 0) (col (res_main_v18 V0) 2) = rX1 V0 := by
  unfold out10 v46 k0_pay6
  rw [posX]
  funext j
  obtain ⟨r, l, rfl⟩ : ∃ (r : Fin 128) (l : Fin 224), j = ix2 r l := ⟨_, _, eq_ix2 j⟩
  pointwise [k0_pay10, rX1, res_main_v44, res_main_v42]
  rfl

theorem eq11 : out11 (xs V0) (col (res_main_v18 V0) 0) (col (res_main_v18 V0) 2) = rWx0 V0 := by
  unfold out11 v46 v47 k0_pay7 k0_pay6
  rw [posX]
  funext j
  obtain ⟨r, l, rfl⟩ : ∃ (r : Fin 128) (l : Fin 224), j = ix2 r l := ⟨_, _, eq_ix2 j⟩
  pointwise [k0_pay11, k0_pay8, rWx0, res_main_v45, res_main_v42, id_eq]

theorem eq12 : out12 (xs V0) (col (res_main_v18 V0) 0) (col (res_main_v18 V0) 2) = rWx1 V0 := by
  unfold out12 v46 v47 k0_pay7 k0_pay6
  rw [posX]
  funext j
  obtain ⟨r, l, rfl⟩ : ∃ (r : Fin 128) (l : Fin 224), j = ix2 r l := ⟨_, _, eq_ix2 j⟩
  pointwise [k0_pay12, rWx1, res_main_v44, res_main_v45, res_main_v42, id_eq]

theorem eq13 : out13 (xs V0) (col (res_main_v18 V0) 1) (col (res_main_v18 V0) 3) = rY0 V0 := by
  unfold out13 v125 k0_pay20 k0_pay16
  rw [posY]
  funext j
  obtain ⟨r, l, rfl⟩ : ∃ (r : Fin 128) (l : Fin 224), j = ix2 r l := ⟨_, _, eq_ix2 j⟩
  pointwise [k0_pay24, rY0, res_main_v86]
  rfl

theorem eq14 : out14 (xs V0) (col (res_main_v18 V0) 1) (col (res_main_v18 V0) 3) = rY1 V0 := by
  unfold out14 v134 k0_pay21 k0_pay16
  rw [posY]
  funext j
  obtain ⟨r, l, rfl⟩ : ∃ (r : Fin 128) (l : Fin 224), j = ix2 r l := ⟨_, _, eq_ix2 j⟩
  pointwise [k0_pay25, rY1, res_main_v88, res_main_v86]
  rfl

theorem eq15 : out15 (xs V0) (col (res_main_v18 V0) 1) (col (res_main_v18 V0) 3) = rWy0 V0 := by
  unfold out15 v104 v109 k0_pay17 k0_pay18 k0_pay16
  rw [posY]
  funext j
  obtain ⟨r, l, rfl⟩ : ∃ (r : Fin 128) (l : Fin 224), j = ix2 r l := ⟨_, _, eq_ix2 j⟩
  pointwise [k0_pay22, rWy0, res_main_v89, res_main_v86, id_eq]

theorem eq16 : out16 (xs V0) (col (res_main_v18 V0) 1) (col (res_main_v18 V0) 3) = rWy1 V0 := by
  unfold out16 v104 v118 k0_pay17 k0_pay19 k0_pay16
  rw [posY]
  funext j
  obtain ⟨r, l, rfl⟩ : ∃ (r : Fin 128) (l : Fin 224), j = ix2 r l := ⟨_, _, eq_ix2 j⟩
  pointwise [k0_pay23, rWy1, res_main_v88, res_main_v89, res_main_v86, id_eq]

/-! The host's reductions along the rows are the call's. -/

theorem hostMin (x : IVec S128x224 32) :
    Host.reduce IntOp.minsi x (constantI Cert.DecodeReferenceIdeal.S_ 32 2147483647#32) Cert.DecodeReferenceIdeal.Gen.reducesTo_S128x224_S128_d1
        Cert.DecodeReferenceIdeal.Gen.h_S_
      = multiReductionI .minsi [1] S128 x 2147483647#32 reduces_S128x224_S128 rfl :=
  funext fun j => (Host.reduce_eq_fold _ _ _ _ _ j).trans (multiReductionI_eq_fold .minsi x 2147483647#32 reduces_S128x224_S128 rfl j).symm

theorem hostMax (x : IVec S128x224 32) :
    Host.reduce IntOp.maxsi x (constantI Cert.DecodeReferenceIdeal.S_ 32 2147483648#32) Cert.DecodeReferenceIdeal.Gen.reducesTo_S128x224_S128_d1
        Cert.DecodeReferenceIdeal.Gen.h_S_
      = multiReductionI .maxsi [1] S128 x 2147483648#32 reduces_S128x224_S128 rfl :=
  funext fun j => (Host.reduce_eq_fold _ _ _ _ _ j).trans (multiReductionI_eq_fold .maxsi x 2147483648#32 reduces_S128x224_S128 rfl j).symm

/-- The shifted weights' exponentials. -/
theorem expW : k0_pay26 (res_main_v116 V0) = res_main_v121 V0 := by
  unfold res_main_v121
  rw [hostReduce_maximumf_eq_multiReduction _ 0xFF800000#32 _ _ reduces_S4x32_S4 (.inl rfl) rfl]
  funext j
  obtain ⟨r, l, rfl⟩ : ∃ (r : Fin 4) (l : Fin 32), j = ix2 r l := ⟨_, _, eq_ix2 j⟩
  pointwise [k0_pay26]

/-- The objects' weights. -/
theorem eq17 : out17 (res_main_v116 V0) = rW V0 := by
  unfold out17 k0_pay27
  rw [expW]
  funext j
  obtain ⟨r, l, rfl⟩ : ∃ (r : Fin 4) (l : Fin 32), j = ix2 r l := ⟨_, _, eq_ix2 j⟩
  pointwise [k0_pay28, rW, id_eq]

theorem hitY : k0_pay29 (rWy0 V0) (rWy1 V0) = res_main_v135 V0 := by
  funext j
  obtain ⟨r, l, rfl⟩ : ∃ (r : Fin 128) (l : Fin 224), j = ix2 r l := ⟨_, _, eq_ix2 j⟩
  unfold rWy0 rWy1 res_main_v135
  rfl

theorem hitX : k0_pay32 (rWx0 V0) (rWx1 V0) = res_main_v148 V0 := by
  funext j
  obtain ⟨r, l, rfl⟩ : ∃ (r : Fin 128) (l : Fin 224), j = ix2 r l := ⟨_, _, eq_ix2 j⟩
  unfold rWx0 rWx1 res_main_v148
  rfl

theorem eq18 : out18 (xs V0) (col (res_main_v18 V0) 1) (col (res_main_v18 V0) 3) = rYlo V0 := by
  unfold out18 k0_pay30 rYlo
  rw [eq15, eq16, hitY, hostMin]
  funext j
  obtain ⟨r, l, rfl⟩ : ∃ (r : Fin 128) (l : Fin 1), j = ix2 r l := ⟨_, _, eq_ix2 j⟩
  pointwise [res_main_v130, id_eq]

theorem eq19 : out19 (xs V0) (col (res_main_v18 V0) 1) (col (res_main_v18 V0) 3) = rYhi V0 := by
  unfold out19 k0_pay31 rYhi
  rw [eq15, eq16, hitY, hostMax]
  funext j
  obtain ⟨r, l, rfl⟩ : ∃ (r : Fin 128) (l : Fin 1), j = ix2 r l := ⟨_, _, eq_ix2 j⟩
  pointwise [res_main_v130, id_eq]

/-- The first column an object reaches. -/
theorem xlo : k0_pay33 (rWx0 V0) (rWx1 V0) = res_main_v151 V0 := by
  unfold k0_pay33 res_main_v151
  rw [hitX, hostMin]
  funext j
  obtain ⟨r, l, rfl⟩ : ∃ (r : Fin 128) (l : Fin 1), j = ix2 r l := ⟨_, _, eq_ix2 j⟩
  pointwise [res_main_v130, id_eq]

/-- The column after the last it reaches, rounded up. -/
theorem xhi : k0_pay36 (k0_pay32 (rWx0 V0) (rWx1 V0)) k0_pay34 0#32 = res_main_v163 V0 := by
  unfold k0_pay36 res_main_v163
  rw [hitX, hostMax]
  funext j
  obtain ⟨r, l, rfl⟩ : ∃ (r : Fin 128) (l : Fin 1), j = ix2 r l := ⟨_, _, eq_ix2 j⟩
  pointwise [k0_pay34, res_main_v130, id_eq]

/-- The sign of a word, from its two comparisons. -/
theorem sign_word (x : BitVec 32) :
    IntOp.subi ((IntOp.cmpi .sgt x 0#32).setWidth 32) ((IntOp.cmpi .slt x 0#32).setWidth 32)
      = if x = 0 then 0 else if x.msb = true then -1 else 1 := by
  have h0 : x = 0 ↔ x.toInt = 0 := ⟨fun h => by rw [h]; rfl, fun h => BitVec.eq_of_toInt_eq (by rw [h]; rfl)⟩
  have hm : x.msb = decide (x.toInt < 0) := BitVec.msb_eq_toInt
  have e : (0#32).toInt = 0 := rfl
  simp only [IntOp.cmpi, IntOp.subi, BitVec.slt, e, h0, hm]
  rcases lt_trichotomy x.toInt 0 with h | h | h
  · simp [h, h.ne, not_lt.mpr h.le]
  · simp [h]
  · simp [h, h.ne', not_lt.mpr h.le]

/-! A division by sixteen is the same word on every unit. -/

theorem not_corner (x : BitVec 32) : ¬ IntOp.SDivCorner x 16#32 := by
  unfold IntOp.SDivCorner
  rintro (h | h)
  · exact absurd h (by decide)
  · exact absurd h.2 (by decide)

theorem div16 (x : BitVec 32) : IntOp.divsi .vector x 16#32 = IntOp.divsi .host x 16#32 := by
  unfold IntOp.divsi
  rw [if_neg (not_corner x), if_neg (not_corner x)]

theorem rem16 (x : BitVec 32) : IntOp.remsi .vector x 16#32 = IntOp.remsi .host x 16#32 := by
  unfold IntOp.remsi
  rw [if_neg (not_corner x), if_neg (not_corner x)]

theorem sign16 : Scalar.subi (Scalar.extui (Scalar.cmpi .sgt 16#32 0#32)) (Scalar.extui (Scalar.cmpi .slt 16#32 0#32))
    = (if 16#32 = 0 then 0 else if (16#32).msb = true then -1 else 1 : BitVec 32) := by decide

theorem eq20 : out20 (xs V0) (col (res_main_v18 V0) 0) (col (res_main_v18 V0) 2) = rXlo V0 := by
  unfold out20 rXlo
  rw [eq11, eq12, xlo]
  funext j
  obtain ⟨r, l, rfl⟩ : ∃ (r : Fin 128) (l : Fin 1), j = ix2 r l := ⟨_, _, eq_ix2 j⟩
  pointwise [k0_pay35, res_main_call16_v0, res_main_call16_v2, id_eq]
  rw [sign_word, div16, rem16, sign16]
  generalize res_main_v151 V0 (ix2 r l) = x
  rfl

theorem eq21 : out21 (xs V0) (col (res_main_v18 V0) 0) (col (res_main_v18 V0) 2) = rXhi V0 := by
  unfold out21 k0_pay37 k0_pay38 rXhi
  rw [eq11, eq12, xhi]
  funext j
  obtain ⟨r, l, rfl⟩ : ∃ (r : Fin 128) (l : Fin 1), j = ix2 r l := ⟨_, _, eq_ix2 j⟩
  pointwise [k0_pay1, res_main_call17_v0, res_main_call17_v2, id_eq]
  rw [sign_word, div16, rem16, sign16]
  generalize res_main_v163 V0 (ix2 r l) = x
  rfl

end Cert.Proof.DecRef

end
-- ==== Proof.TcHost.lean ====
module

public import proofs.«01_k».proof.Proof.TcRun
public import proofs.«01_k».proof.Proof.TcEq
public import Idealize.ShloMosaic.Lib.StableHlo.RunRead

/-! What the decoding call's host code leaves in the buffers its region reads. -/

@[expose] public section

set_option maxRecDepth 16384

noncomputable section

namespace Cert.Proof.DecRef

open Cert.DecodeReferenceIdeal.Value
open Cert.DecodeIdeal Cert.DecodeIdeal.Gen Cert.DecodeIdeal.Tc
open Idealize.ShloMosaic Idealize.ShloMosaic.StableHlo

local notation "Val" => Valuation Cert.DecodeReferenceIdeal.τ Cert.DecodeReferenceIdeal.sig (Elt Ideal)

variable (V0 : Val) (m : (ℓ : Loc nD τ sig) → Buf (Elt Ideal) ℓ) (c : Dev nD)

theorem host_v0 (h : V0 (Proc.devRef .tc Cert.DecodeReferenceIdeal.main_arg0) = m (c, Proc.devRef .tc main_arg0)) : V m c main_v0 = zR V0 := by
  show after (hostOps0 ++ (hostOps0_1 ++ (hostOps0_2 ++ (hostOps0_3 ++ (hostOps0_4 ++ []))))) (fun b => m (c, b)) (Proc.devRef .tc main_v0) = _
  after_reads_simp
  unfold zR
  rw [h]
  rfl

theorem host_v3 (h : V0 (Proc.devRef .tc Cert.DecodeReferenceIdeal.main_arg1) = m (c, Proc.devRef .tc main_arg1)) : V m c main_v3 = res_main_v18 V0 := by
  show after (hostOps0 ++ (hostOps0_1 ++ (hostOps0_2 ++ (hostOps0_3 ++ (hostOps0_4 ++ []))))) (fun b => m (c, b)) (Proc.devRef .tc main_v3) = _
  after_reads_simp
  unfold res_main_v18
  rw [h]
  rfl

theorem host_v12 (h2 : V0 (Proc.devRef .tc Cert.DecodeReferenceIdeal.main_arg2) = m (c, Proc.devRef .tc main_arg2))
    (h3 : V0 (Proc.devRef .tc Cert.DecodeReferenceIdeal.main_arg3) = m (c, Proc.devRef .tc main_arg3)) : V m c main_v12 = res_main_v116 V0 := by
  show after (hostOps0 ++ (hostOps0_1 ++ (hostOps0_2 ++ (hostOps0_3 ++ (hostOps0_4 ++ []))))) (fun b => m (c, b)) (Proc.devRef .tc main_v12) = _
  after_reads_simp
  unfold res_main_v116
  rw [h2, h3]
  rfl

theorem host_v14 : V m c main_v14 = xs V0 := by
  show after (hostOps0 ++ (hostOps0_1 ++ (hostOps0_2 ++ (hostOps0_3 ++ (hostOps0_4 ++ []))))) (fun b => m (c, b)) (Proc.devRef .tc main_v14) = _
  after_reads_simp
  funext y
  obtain ⟨r, l, rfl⟩ : ∃ (r : Fin 1) (l : Fin 224), y = ix2 r l := ⟨_, _, eq_ix2 y⟩
  simp only [TRef.toBuf, TRef.ofBuf, cast_eq]
  pointwise [xs, res_main_v19]
  after_reads_simp
  simp only [TRef.toBuf, TRef.ofBuf, cast_eq]
  pointwise [res_main_call1_v0, res_main_call1_v1, res_main_call1_v6]

theorem host_v15 (h : V0 (Proc.devRef .tc Cert.DecodeReferenceIdeal.main_arg5) = m (c, Proc.devRef .tc main_arg5)) (k : Fin 1024) :
    (V m c main_v15 : Vec Ideal S1x1024 .f32) (ix2 0 k) = V0 (Proc.devRef .tc Cert.DecodeReferenceIdeal.main_arg5) (ix1 k) := by
  have e : V m c main_v15 = shapeCast S1x1024 (m (c, Proc.devRef .tc main_arg5) : FVec Ideal S1024 .f32) shapeCasts_S1024_S1x1024 := by
    show after (hostOps0 ++ (hostOps0_1 ++ (hostOps0_2 ++ (hostOps0_3 ++ (hostOps0_4 ++ []))))) (fun b => m (c, b)) (Proc.devRef .tc main_v15) = _
    after_reads_simp
    rfl
  rw [e, h]
  pointwise

theorem host_v16 (h : V0 (Proc.devRef .tc Cert.DecodeReferenceIdeal.main_arg7) = m (c, Proc.devRef .tc main_arg7)) (k : Fin 12288) :
    (V m c main_v16 : Vec Ideal S1x12288 .f32) (ix2 0 k) = V0 (Proc.devRef .tc Cert.DecodeReferenceIdeal.main_arg7) (ix1 k) := by
  have e : V m c main_v16 = shapeCast S1x12288 (m (c, Proc.devRef .tc main_arg7) : FVec Ideal S12288 .f32) shapeCasts_S12288_S1x12288 := by
    show after (hostOps0 ++ (hostOps0_1 ++ (hostOps0_2 ++ (hostOps0_3 ++ (hostOps0_4 ++ []))))) (fun b => m (c, b)) (Proc.devRef .tc main_v16) = _
    after_reads_simp
    rfl
  rw [e, h]
  refine (shapeCast_addUnit_apply ![12288] _ _ _).trans (congrArg _ (funext fun a => ?_))
  rw [Subsingleton.elim a 0]
  rfl

end Cert.Proof.DecRef
-- ==== Proof.TcValue.lean ====
module

public import proofs.«01_k».proof.Proof.TcArr
public import proofs.«01_k».proof.Proof.TcHost
public import proofs.«01_k».proof.Defs

/-! The decoding call's results equal to the reference's. -/

@[expose] public section

set_option maxRecDepth 16384

noncomputable section

namespace Cert.Proof.DecRef

open Cert.DecodeReferenceIdeal.Value
open Cert.DecodeIdeal Cert.DecodeIdeal.Gen Cert.DecodeIdeal.Tc
open Idealize.ShloMosaic Idealize.ShloMosaic.TcCoe Idealize.ShloMosaic.StableHlo Idealize.SL.Sem

local notation "Val" => Valuation Cert.DecodeReferenceIdeal.τ Cert.DecodeReferenceIdeal.sig (Elt Ideal)

/-- The reference computes from what the program was given. -/
structure Agree (V0 : Val) (m : (ℓ : Loc nD τ sig) → Buf (Elt Ideal) ℓ) (c : Dev nD) : Prop where
  a0 : V0 (Proc.devRef .tc Cert.DecodeReferenceIdeal.main_arg0) = m (c, Proc.devRef .tc main_arg0)
  a1 : V0 (Proc.devRef .tc Cert.DecodeReferenceIdeal.main_arg1) = m (c, Proc.devRef .tc main_arg1)
  a2 : V0 (Proc.devRef .tc Cert.DecodeReferenceIdeal.main_arg2) = m (c, Proc.devRef .tc main_arg2)
  a3 : V0 (Proc.devRef .tc Cert.DecodeReferenceIdeal.main_arg3) = m (c, Proc.devRef .tc main_arg3)
  a4 : V0 (Proc.devRef .tc Cert.DecodeReferenceIdeal.main_arg4) = m (c, Proc.devRef .tc main_arg4)
  a5 : V0 (Proc.devRef .tc Cert.DecodeReferenceIdeal.main_arg5) = m (c, Proc.devRef .tc main_arg5)
  a6 : V0 (Proc.devRef .tc Cert.DecodeReferenceIdeal.main_arg6) = m (c, Proc.devRef .tc main_arg6)
  a7 : V0 (Proc.devRef .tc Cert.DecodeReferenceIdeal.main_arg7) = m (c, Proc.devRef .tc main_arg7)

variable {V0 : Val} {m : (ℓ : Loc nD τ sig) → Buf (Elt Ideal) ℓ} {c : Dev nD}

/-- The sampled coordinates, as the region reads them. -/
theorem in_xs : (iblk m c 5 t0_0 : Vec Ideal S1x224 .f32) = xs V0 := ((wholes m c).2.2.2.1).trans (host_v14 V0 m c)

/-- The objects' boxes, as the region reads them. -/
theorem in_zw (h : Agree V0 m c) : (iblk m c 6 t0_0 : Vec Ideal S128x4 .f32) = res_main_v18 V0 := ((wholes m c).2.2.2.2.1).trans (host_v3 V0 m c h.a1)

/-- The masked depths, as the region reads them. -/
theorem in_ld (h : Agree V0 m c) : (iblk m c 7 t0_0 : Vec Ideal S4x32 .f32) = res_main_v116 V0 := ((wholes m c).2.2.2.2.2).trans (host_v12 V0 m c h.a2 h.a3)

/-- The hidden layer, as the first point computes it. -/
theorem in_hid (h : Agree V0 m c) : hid m c = hidR V0 := by
  have h1 : (iblk m c 1 t0_0 : Vec Ideal S64x1024 .f32) = V0 (Proc.devRef .tc Cert.DecodeReferenceIdeal.main_arg4) :=
    ((wholes m c).2.1).trans ((V_main_arg4 m c).trans h.a4.symm)
  have h0 : (iblk m c 0 t0_0 : Vec Ideal S128x64 .f32) = zR V0 := ((wholes m c).1).trans (host_v0 V0 m c h.a0)
  have h2 : (iblk m c 2 t0_0 : Vec Ideal S1x1024 .f32) = V m c main_v15 := (wholes m c).2.2.1
  unfold hid
  rw [h1]
  exact eqHid V0 _ h0 _ (fun k => (congrFun h2 _).trans (host_v15 V0 m c h.a5 k))

/-- The patches end as the reference's. -/
theorem end8 (h : Agree V0 m c) : (dats m 0 c).arrAt 8 cfg0.N = rImg V0 := by
  rw [rImg_eq]
  refine final8 m c _ fun t r l n hn => ?_
  unfold val8
  rw [in_hid h]
  exact eq8 _ _ _ _ _ r l n
    (fun k => (iblk_3 m c t k l n hn).trans (congrFun ((V_main_arg6 m c).trans h.a6.symm) _))
    ((iblk_4 m c t l n hn).trans (host_v16 V0 m c h.a7 n))

set_option maxHeartbeats 1600000 in
/-- The tables end as the reference's. -/
theorem ends (h : Agree V0 m c) :
    (dats m 0 c).arrAt 9 cfg0.N = rX0 V0
    ∧ (dats m 0 c).arrAt 10 cfg0.N = rX1 V0
    ∧ (dats m 0 c).arrAt 11 cfg0.N = rWx0 V0
    ∧ (dats m 0 c).arrAt 12 cfg0.N = rWx1 V0
    ∧ (dats m 0 c).arrAt 13 cfg0.N = rY0 V0
    ∧ (dats m 0 c).arrAt 14 cfg0.N = rY1 V0
    ∧ (dats m 0 c).arrAt 15 cfg0.N = rWy0 V0
    ∧ (dats m 0 c).arrAt 16 cfg0.N = rWy1 V0
    ∧ (dats m 0 c).arrAt 17 cfg0.N = rW V0
    ∧ (dats m 0 c).arrAt 18 cfg0.N = rYlo V0
    ∧ (dats m 0 c).arrAt 19 cfg0.N = rYhi V0
    ∧ (dats m 0 c).arrAt 20 cfg0.N = rXlo V0
    ∧ (dats m 0 c).arrAt 21 cfg0.N = rXhi V0 := by
  obtain ⟨f9, f10, f11, f12, f13, f14, f15, f16, f17, f18, f19, f20, f21⟩ := finals m c
  refine ⟨f9.trans (Eq.trans ?_ (eq9 V0)), f10.trans (Eq.trans ?_ (eq10 V0)), f11.trans (Eq.trans ?_ (eq11 V0)), f12.trans (Eq.trans ?_ (eq12 V0)), f13.trans (Eq.trans ?_ (eq13 V0)), f14.trans (Eq.trans ?_ (eq14 V0)), f15.trans (Eq.trans ?_ (eq15 V0)), f16.trans (Eq.trans ?_ (eq16 V0)), f17.trans (Eq.trans ?_ (eq17 V0)), f18.trans (Eq.trans ?_ (eq18 V0)), f19.trans (Eq.trans ?_ (eq19 V0)), f20.trans (Eq.trans ?_ (eq20 V0)), f21.trans (Eq.trans ?_ (eq21 V0))⟩
  all_goals first
    | (unfold val17; rw [in_ld h])
    | (simp only [val9, val10, val11, val12, val13, val14, val15, val16, val18, val19, val20, val21]; rw [in_xs (V0 := V0), in_zw h])

/-! The claims. -/

theorem frame_decode_ideal : Cert.quiescent_DecodeIdeal := fun m g _ => unchanged (F := Ideal) m g

theorem frame_decode_reference : Cert.quiescent_DecodeReferenceIdeal := fun m g _ =>
  (θ_run Cert.DecodeReferenceIdeal.defs _ _).mono
    (fun _ h => ⟨fun c => (h c).2.2.2.2.2.2.2.2.2.2.2.2.2.2, Idealize.ShloMosaic.sem_eq_zero_of_no_sems (by decide) _⟩) (run_named (F := Ideal) m g)

set_option maxHeartbeats 4000000 in
/-- The program and the reference end with the same fourteen results. -/
theorem algebraic_decode : Cert.algebraic_DecodeIdeal_DecodeReferenceIdeal := fun m g m' g' _ hm =>
  have ag : ∀ c : Dev nD, Agree (launchContents m' c) m c := fun c =>
    ⟨(hm c).1, (hm c).2.1, (hm c).2.2.1, (hm c).2.2.2.1, (hm c).2.2.2.2.1, (hm c).2.2.2.2.2.1, (hm c).2.2.2.2.2.2.1, (hm c).2.2.2.2.2.2.2⟩
  ⟨fun c => rImg (launchContents m' c), fun c => rX0 (launchContents m' c), fun c => rX1 (launchContents m' c), fun c => rWx0 (launchContents m' c), fun c => rWx1 (launchContents m' c), fun c => rY0 (launchContents m' c), fun c => rY1 (launchContents m' c), fun c => rWy0 (launchContents m' c), fun c => rWy1 (launchContents m' c), fun c => rW (launchContents m' c), fun c => rYlo (launchContents m' c), fun c => rYhi (launchContents m' c), fun c => rXlo (launchContents m' c), fun c => rXhi (launchContents m' c),
   (θ_run Cert.DecodeIdeal.defs _ _).mono (fun _ h c =>
     ⟨((h.1 c).1 8).trans (end8 (ag c)),
      ((h.1 c).1 9).trans ((ends (ag c)).1),
      ((h.1 c).1 10).trans ((ends (ag c)).2.1),
      ((h.1 c).1 11).trans ((ends (ag c)).2.2.1),
      ((h.1 c).1 12).trans ((ends (ag c)).2.2.2.1),
      ((h.1 c).1 13).trans ((ends (ag c)).2.2.2.2.1),
      ((h.1 c).1 14).trans ((ends (ag c)).2.2.2.2.2.1),
      ((h.1 c).1 15).trans ((ends (ag c)).2.2.2.2.2.2.1),
      ((h.1 c).1 16).trans ((ends (ag c)).2.2.2.2.2.2.2.1),
      ((h.1 c).1 17).trans ((ends (ag c)).2.2.2.2.2.2.2.2.1),
      ((h.1 c).1 18).trans ((ends (ag c)).2.2.2.2.2.2.2.2.2.1),
      ((h.1 c).1 19).trans ((ends (ag c)).2.2.2.2.2.2.2.2.2.2.1),
      ((h.1 c).1 20).trans ((ends (ag c)).2.2.2.2.2.2.2.2.2.2.2.1),
      ((h.1 c).1 21).trans ((ends (ag c)).2.2.2.2.2.2.2.2.2.2.2.2),
      kept (F := Ideal) m h.1 c⟩) (run_main (F := Ideal) m g),
   run_named (F := Ideal) m' g'⟩

end Cert.Proof.DecRef

end
-- ==== Proof.lean ====
module

public import proofs.«01_k».proof.Proof.Gen.Decode
public import proofs.«01_k».proof.Proof.Gen.DecodeIdeal
public import proofs.«01_k».proof.Proof.Gen.DecodeIdeal.Launch
public import proofs.«01_k».proof.Proof.Gen.DecodeIdeal.Points
public import proofs.«01_k».proof.Proof.Gen.DecodeIdeal.Skeleton
public import proofs.«01_k».proof.Defs
public import proofs.«01_k».proof.Proof.Frames
public import proofs.«01_k».proof.Proof.Value
public import proofs.«01_k».proof.Proof.TcFrame
public import proofs.«01_k».proof.Proof.TcValue
public import proofs.«01_k».proof.Proof.Gen.Kernel
public import proofs.«01_k».proof.Proof.Gen.KernelIdeal
public import proofs.«01_k».proof.Proof.Gen.KernelIdeal.Skeleton
public import proofs.«01_k».proof.Proof.Gen.Pre_indices_in_range
public import proofs.«01_k».proof.Proof.Gen.ReferenceIdeal
public import proofs.«01_k».proof.Proof.Gen.DecodeReferenceIdeal
public import proofs.«01_k».proof.Proof.Gen.DecodeReferenceIdeal.Run
public import proofs.«01_k».proof.Proof.Gen.ReferenceIdeal.Run

@[expose] public section

noncomputable section

namespace Cert.Proof

theorem claim : Cert.Claim :=
  ⟨Cert.Kernel.Gen.facts, Cert.KernelIdeal.Gen.facts, Cert.ReferenceIdeal.Gen.facts, Cert.Decode.Gen.facts,
    Cert.DecodeIdeal.Gen.facts, Cert.DecodeReferenceIdeal.Gen.facts, Cert.Pre_indices_in_range.Gen.facts,
    Tile.frame_kernel, Tile.frame_ideal, Tile.frame_reference, Tile.frame_reference_pre, DecRef.frame_decode,
    DecRef.frame_decode_ideal, DecRef.frame_decode_reference, trivial, Tile.algebraic, trivial, DecRef.algebraic_decode⟩

end Cert.Proof

end
